-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3584 : Shape := ⟨3, ![2, 128, 3584]⟩
abbrev S2x128 : Shape := ⟨2, ![2, 128]⟩
abbrev S2x128x7168 : Shape := ⟨3, ![2, 128, 7168]⟩
abbrev S2x3584 : Shape := ⟨2, ![2, 3584]⟩
abbrev S7168x5120 : Shape := ⟨2, ![7168, 5120]⟩
abbrev S7168 : Shape := ⟨1, ![7168]⟩
abbrev S56x128 : Shape := ⟨2, ![56, 128]⟩
abbrev S2x128x5120 : Shape := ⟨3, ![2, 128, 5120]⟩
abbrev S10x7168x512 : Shape := ⟨3, ![10, 7168, 512]⟩
abbrev S2x128x128 : Shape := ⟨3, ![2, 128, 128]⟩
abbrev S3584x128 : Shape := ⟨2, ![3584, 128]⟩
abbrev S896x128 : Shape := ⟨2, ![896, 128]⟩
abbrev S384x128 : Shape := ⟨2, ![384, 128]⟩
abbrev S28x128 : Shape := ⟨2, ![28, 128]⟩
abbrev S256x7168 : Shape := ⟨2, ![256, 7168]⟩
abbrev S10x2x128x512 : Shape := ⟨4, ![10, 2, 128, 512]⟩
abbrev S2x2 : Shape := ⟨2, ![2, 2]⟩
abbrev S10 : Shape := ⟨1, ![10]⟩
abbrev S4 : Shape := ⟨1, ![4]⟩
abbrev S3 : Shape := ⟨1, ![3]⟩
abbrev S2x10 : Shape := ⟨2, ![2, 10]⟩
abbrev S1 : Shape := ⟨1, ![1]⟩
abbrev S_ : Shape := ⟨0, ![]⟩
abbrev S1x1 : Shape := ⟨2, ![1, 1]⟩
abbrev S1x128x7168 : Shape := ⟨3, ![1, 128, 7168]⟩
abbrev S128x7168 : Shape := ⟨2, ![128, 7168]⟩
abbrev S1x128x3584 : Shape := ⟨3, ![1, 128, 3584]⟩
abbrev S128x3584 : Shape := ⟨2, ![128, 3584]⟩
abbrev S1x7168x512 : Shape := ⟨3, ![1, 7168, 512]⟩
abbrev S7168x512 : Shape := ⟨2, ![7168, 512]⟩
abbrev S1x128 : Shape := ⟨2, ![1, 128]⟩
abbrev S128x128 : Shape := ⟨2, ![128, 128]⟩
abbrev S1x128x128 : Shape := ⟨3, ![1, 128, 128]⟩
abbrev S1x32x128 : Shape := ⟨3, ![1, 32, 128]⟩
abbrev S32x128 : Shape := ⟨2, ![32, 128]⟩
abbrev S8x128 : Shape := ⟨2, ![8, 128]⟩
abbrev S4x128 : Shape := ⟨2, ![4, 128]⟩
abbrev S32 : Shape := ⟨1, ![32]⟩
abbrev S32x1 : Shape := ⟨2, ![32, 1]⟩
abbrev S32x256 : Shape := ⟨2, ![32, 256]⟩
abbrev S256x512 : Shape := ⟨2, ![256, 512]⟩
abbrev S1x1x128x128 : Shape := ⟨4, ![1, 1, 128, 128]⟩
abbrev S1x128x512 : Shape := ⟨3, ![1, 128, 512]⟩
abbrev S128x512 : Shape := ⟨2, ![128, 512]⟩
abbrev S1x1x128x512 : Shape := ⟨4, ![1, 1, 128, 512]⟩

abbrev nBuf : Space → Nat
  | .hbm => 12
  | .vmem => 24
  | .smem => 0
  | _ => 0

abbrev bufTy : (tb : Table) → Fin (tcTables nBuf tb) → BufTy
  | .hbm, ⟨0, _⟩ => ⟨S2x128x3584, .fp8e5m2⟩
  | .hbm, ⟨1, _⟩ => ⟨S2x128, .f32⟩
  | .hbm, ⟨2, _⟩ => ⟨S2x128x7168, .fp8e4m3⟩
  | .hbm, ⟨3, _⟩ => ⟨S2x128, .f32⟩
  | .hbm, ⟨4, _⟩ => ⟨S2x3584, .f32⟩
  | .hbm, ⟨5, _⟩ => ⟨S7168x5120, .fp8e4m3⟩
  | .hbm, ⟨6, _⟩ => ⟨S7168, .f32⟩
  | .hbm, ⟨7, _⟩ => ⟨S56x128, .f32⟩
  | .hbm, ⟨8, _⟩ => ⟨S2x128x5120, .bf16⟩
  | .hbm, ⟨9, _⟩ => ⟨S2x3584, .f32⟩
  | .hbm, ⟨10, _⟩ => ⟨S2x128x7168, .fp8e5m2⟩
  | .hbm, ⟨11, _⟩ => ⟨S2x128, .f32⟩
  | .local _ .vmem, ⟨0, _⟩ => ⟨S2x128x3584, .fp8e5m2⟩
  | .local _ .vmem, ⟨1, _⟩ => ⟨S2x128x7168, .fp8e4m3⟩
  | .local _ .vmem, ⟨2, _⟩ => ⟨S10x7168x512, .fp8e4m3⟩
  | .local _ .vmem, ⟨3, _⟩ => ⟨S2x128, .f32⟩
  | .local _ .vmem, ⟨4, _⟩ => ⟨S2x128, .f32⟩
  | .local _ .vmem, ⟨5, _⟩ => ⟨S2x3584, .f32⟩
  | .local _ .vmem, ⟨6, _⟩ => ⟨S56x128, .f32⟩
  | .local _ .vmem, ⟨7, _⟩ => ⟨S2x128x128, .f32⟩
  | .local _ .vmem, ⟨8, _⟩ => ⟨S2x128x128, .f32⟩
  | .local _ .vmem, ⟨9, _⟩ => ⟨S3584x128, .f32⟩
  | .local _ .vmem, ⟨10, _⟩ => ⟨S3584x128, .f32⟩
  | .local _ .vmem, ⟨11, _⟩ => ⟨S3584x128, .f32⟩
  | .local _ .vmem, ⟨12, _⟩ => ⟨S896x128, .f32⟩
  | .local _ .vmem, ⟨13, _⟩ => ⟨S896x128, .f32⟩
  | .local _ .vmem, ⟨14, _⟩ => ⟨S896x128, .f32⟩
  | .local _ .vmem, ⟨15, _⟩ => ⟨S896x128, .f32⟩
  | .local _ .vmem, ⟨16, _⟩ => ⟨S384x128, .f32⟩
  | .local _ .vmem, ⟨17, _⟩ => ⟨S28x128, .f32⟩
  | .local _ .vmem, ⟨18, _⟩ => ⟨S256x7168, .bf16⟩
  | .local _ .vmem, ⟨19, _⟩ => ⟨S2x128x7168, .fp8e5m2⟩
  | .local _ .vmem, ⟨20, _⟩ => ⟨S2x128x128, .f32⟩
  | .local _ .vmem, ⟨21, _⟩ => ⟨S2x3584, .f32⟩
  | .local _ .vmem, ⟨22, _⟩ => ⟨S2x128, .f32⟩
  | .local _ .vmem, ⟨23, _⟩ => ⟨S10x2x128x512, .bf16⟩
  | _, _ => ⟨S2x128x3584, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩

abbrev nD : Nat := 1
abbrev τ : Topo := Topo.v7x

variable {F : FTy → Type} [FloatOps F]

abbrev grid0 : Pipeline.Grid := .none

def k0_mult1 : BitVec 32 :=
  let c0_i32_32 : BitVec 32 := 0#32
  c0_i32_32
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
def k0_mult8 : BitVec 32 :=
  let c3584_i32 : BitVec 32 := 3584#32
  c3584_i32
def k0_mult9 : BitVec 32 :=
  let c4096_i32 : BitVec 32 := 4096#32
  c4096_i32
def k0_mult10 : BitVec 32 :=
  let c4608_i32 : BitVec 32 := 4608#32
  c4608_i32
@[reducible] def k0_t1_loop : Scf.Loop 32 :=
  let c0_i32_115 : BitVec 32 := 0#32
  let c4_i32_116 : BitVec 32 := 4#32
  let v141 : BitVec 32 := Scalar.addi c0_i32_115 c4_i32_116
  let c1_i32_117 : BitVec 32 := 1#32
  ⟨c0_i32_115, v141, c1_i32_117⟩
def k0_mult11 (k0_t1 : Fin k0_t1_loop.trips) : BitVec 32 :=
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  v647
def k0_mult12 (k0_t1 : Fin k0_t1_loop.trips) : BitVec 32 :=
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c896_i32 : BitVec 32 := 896#32
  let v649 : BitVec 32 := Scalar.muli v646 c896_i32
  v649
def k0_off1 (k0_t1 : Fin k0_t1_loop.trips) : Fin 3 → Nat :=
  let c0_575 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v651 : Index := Scalar.indexCast v648
  let c0_576 : Index := 0#32
  ![0, v651.toNat, 0]
def k0_off2 (k0_t1 : Fin k0_t1_loop.trips) : Fin 3 → Nat :=
  let c0_580 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v659 : Index := Scalar.indexCast v648
  let c0_581 : Index := 0#32
  ![0, v659.toNat, 0]
def k0_off3 (k0_t1 : Fin k0_t1_loop.trips) (c0_i32_585 : BitVec 32) : Fin 2 → Nat :=
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32_584 : BitVec 32 := 32#32
  let v669 : BitVec 32 := Scalar.muli v646 c32_i32_584
  let c28_i32 : BitVec 32 := 28#32
  let v670 : BitVec 32 := Scalar.muli v669 c28_i32
  let v671 : BitVec 32 := Scalar.addi v670 c0_i32_585
  let v672 : Index := Scalar.indexCast v671
  let c0_586 : Index := 0#32
  ![v672.toNat, 0]
def k0_off4 (k0_t1 : Fin k0_t1_loop.trips) : Fin 3 → Nat :=
  let c0_587 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v676 : Index := Scalar.indexCast v648
  let c0_588 : Index := 0#32
  ![0, v676.toNat, 0]
def k0_off5 (k0_t1 : Fin k0_t1_loop.trips) : Fin 3 → Nat :=
  let c0_593 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v688 : Index := Scalar.indexCast v648
  let c128_594 : Index := 128#32
  ![0, v688.toNat, 128]
def k0_off6 (k0_t1 : Fin k0_t1_loop.trips) : Fin 3 → Nat :=
  let c0_601 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v705 : Index := Scalar.indexCast v648
  let c128_602 : Index := 128#32
  ![0, v705.toNat, 128]
def k0_off7 (k0_t1 : Fin k0_t1_loop.trips) : Fin 3 → Nat :=
  let c0_607 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v717 : Index := Scalar.indexCast v648
  let c256_608 : Index := 256#32
  ![0, v717.toNat, 256]
def k0_off8 (k0_t1 : Fin k0_t1_loop.trips) : Fin 3 → Nat :=
  let c0_615 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v734 : Index := Scalar.indexCast v648
  let c256_616 : Index := 256#32
  ![0, v734.toNat, 256]
def k0_off9 (k0_t1 : Fin k0_t1_loop.trips) : Fin 3 → Nat :=
  let c0_621 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v746 : Index := Scalar.indexCast v648
  let c384_622 : Index := 384#32
  ![0, v746.toNat, 384]
def k0_off10 (k0_t1 : Fin k0_t1_loop.trips) : Fin 3 → Nat :=
  let c0_629 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v763 : Index := Scalar.indexCast v648
  let c384_630 : Index := 384#32
  ![0, v763.toNat, 384]
def k0_off11 (k0_t1 : Fin k0_t1_loop.trips) : Fin 3 → Nat :=
  let c0_635 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v775 : Index := Scalar.indexCast v648
  let c512_636 : Index := 512#32
  ![0, v775.toNat, 512]
def k0_off12 (k0_t1 : Fin k0_t1_loop.trips) : Fin 3 → Nat :=
  let c0_643 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v792 : Index := Scalar.indexCast v648
  let c512_644 : Index := 512#32
  ![0, v792.toNat, 512]
def k0_off13 (k0_t1 : Fin k0_t1_loop.trips) : Fin 3 → Nat :=
  let c0_649 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v804 : Index := Scalar.indexCast v648
  let c640_650 : Index := 640#32
  ![0, v804.toNat, 640]
def k0_off14 (k0_t1 : Fin k0_t1_loop.trips) : Fin 3 → Nat :=
  let c0_657 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v821 : Index := Scalar.indexCast v648
  let c640_658 : Index := 640#32
  ![0, v821.toNat, 640]
def k0_off15 (k0_t1 : Fin k0_t1_loop.trips) : Fin 3 → Nat :=
  let c0_663 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v833 : Index := Scalar.indexCast v648
  let c768_664 : Index := 768#32
  ![0, v833.toNat, 768]
def k0_off16 (k0_t1 : Fin k0_t1_loop.trips) : Fin 3 → Nat :=
  let c0_671 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v850 : Index := Scalar.indexCast v648
  let c768_672 : Index := 768#32
  ![0, v850.toNat, 768]
def k0_off17 (k0_t1 : Fin k0_t1_loop.trips) : Fin 3 → Nat :=
  let c0_677 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v862 : Index := Scalar.indexCast v648
  let c896_678 : Index := 896#32
  ![0, v862.toNat, 896]
def k0_off18 (k0_t1 : Fin k0_t1_loop.trips) : Fin 3 → Nat :=
  let c0_685 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v879 : Index := Scalar.indexCast v648
  let c896_686 : Index := 896#32
  ![0, v879.toNat, 896]
def k0_off19 (k0_t1 : Fin k0_t1_loop.trips) : Fin 3 → Nat :=
  let c0_691 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v891 : Index := Scalar.indexCast v648
  let c1024_692 : Index := 1024#32
  ![0, v891.toNat, 1024]
def k0_off20 (k0_t1 : Fin k0_t1_loop.trips) : Fin 3 → Nat :=
  let c0_699 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v908 : Index := Scalar.indexCast v648
  let c1024_700 : Index := 1024#32
  ![0, v908.toNat, 1024]
def k0_off21 (k0_t1 : Fin k0_t1_loop.trips) : Fin 3 → Nat :=
  let c0_705 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v920 : Index := Scalar.indexCast v648
  let c1152_706 : Index := 1152#32
  ![0, v920.toNat, 1152]
def k0_off22 (k0_t1 : Fin k0_t1_loop.trips) : Fin 3 → Nat :=
  let c0_713 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v937 : Index := Scalar.indexCast v648
  let c1152_714 : Index := 1152#32
  ![0, v937.toNat, 1152]
def k0_off23 (k0_t1 : Fin k0_t1_loop.trips) : Fin 3 → Nat :=
  let c0_719 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v949 : Index := Scalar.indexCast v648
  let c1280_720 : Index := 1280#32
  ![0, v949.toNat, 1280]
def k0_off24 (k0_t1 : Fin k0_t1_loop.trips) : Fin 3 → Nat :=
  let c0_727 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v966 : Index := Scalar.indexCast v648
  let c1280_728 : Index := 1280#32
  ![0, v966.toNat, 1280]
def k0_off25 (k0_t1 : Fin k0_t1_loop.trips) : Fin 3 → Nat :=
  let c0_733 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v978 : Index := Scalar.indexCast v648
  let c1408_734 : Index := 1408#32
  ![0, v978.toNat, 1408]
def k0_off26 (k0_t1 : Fin k0_t1_loop.trips) : Fin 3 → Nat :=
  let c0_740 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v995 : Index := Scalar.indexCast v648
  let c1408_741 : Index := 1408#32
  ![0, v995.toNat, 1408]
def k0_off27 (k0_t1 : Fin k0_t1_loop.trips) : Fin 3 → Nat :=
  let c0_746 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1007 : Index := Scalar.indexCast v648
  let c1536_747 : Index := 1536#32
  ![0, v1007.toNat, 1536]
def k0_off28 (k0_t1 : Fin k0_t1_loop.trips) : Fin 3 → Nat :=
  let c0_753 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1024 : Index := Scalar.indexCast v648
  let c1536_754 : Index := 1536#32
  ![0, v1024.toNat, 1536]
def k0_off29 (k0_t1 : Fin k0_t1_loop.trips) : Fin 3 → Nat :=
  let c0_759 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1036 : Index := Scalar.indexCast v648
  let c1664_760 : Index := 1664#32
  ![0, v1036.toNat, 1664]
def k0_off30 (k0_t1 : Fin k0_t1_loop.trips) : Fin 3 → Nat :=
  let c0_766 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1053 : Index := Scalar.indexCast v648
  let c1664_767 : Index := 1664#32
  ![0, v1053.toNat, 1664]
def k0_off31 (k0_t1 : Fin k0_t1_loop.trips) : Fin 3 → Nat :=
  let c0_772 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1065 : Index := Scalar.indexCast v648
  let c1792_773 : Index := 1792#32
  ![0, v1065.toNat, 1792]
def k0_off32 (k0_t1 : Fin k0_t1_loop.trips) : Fin 3 → Nat :=
  let c0_779 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1082 : Index := Scalar.indexCast v648
  let c1792_780 : Index := 1792#32
  ![0, v1082.toNat, 1792]
def k0_off33 (k0_t1 : Fin k0_t1_loop.trips) : Fin 3 → Nat :=
  let c0_785 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1094 : Index := Scalar.indexCast v648
  let c1920_786 : Index := 1920#32
  ![0, v1094.toNat, 1920]
def k0_off34 (k0_t1 : Fin k0_t1_loop.trips) : Fin 3 → Nat :=
  let c0_792 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1111 : Index := Scalar.indexCast v648
  let c1920_793 : Index := 1920#32
  ![0, v1111.toNat, 1920]
def k0_off35 (k0_t1 : Fin k0_t1_loop.trips) : Fin 3 → Nat :=
  let c0_798 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1123 : Index := Scalar.indexCast v648
  let c2048_799 : Index := 2048#32
  ![0, v1123.toNat, 2048]
def k0_off36 (k0_t1 : Fin k0_t1_loop.trips) : Fin 3 → Nat :=
  let c0_805 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1140 : Index := Scalar.indexCast v648
  let c2048_806 : Index := 2048#32
  ![0, v1140.toNat, 2048]
def k0_off37 (k0_t1 : Fin k0_t1_loop.trips) : Fin 3 → Nat :=
  let c0_811 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1152 : Index := Scalar.indexCast v648
  let c2176_812 : Index := 2176#32
  ![0, v1152.toNat, 2176]
def k0_off38 (k0_t1 : Fin k0_t1_loop.trips) : Fin 3 → Nat :=
  let c0_818 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1169 : Index := Scalar.indexCast v648
  let c2176_819 : Index := 2176#32
  ![0, v1169.toNat, 2176]
def k0_off39 (k0_t1 : Fin k0_t1_loop.trips) : Fin 3 → Nat :=
  let c0_824 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1181 : Index := Scalar.indexCast v648
  let c2304_825 : Index := 2304#32
  ![0, v1181.toNat, 2304]
def k0_off40 (k0_t1 : Fin k0_t1_loop.trips) : Fin 3 → Nat :=
  let c0_831 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1198 : Index := Scalar.indexCast v648
  let c2304_832 : Index := 2304#32
  ![0, v1198.toNat, 2304]
def k0_off41 (k0_t1 : Fin k0_t1_loop.trips) : Fin 3 → Nat :=
  let c0_837 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1210 : Index := Scalar.indexCast v648
  let c2432_838 : Index := 2432#32
  ![0, v1210.toNat, 2432]
def k0_off42 (k0_t1 : Fin k0_t1_loop.trips) : Fin 3 → Nat :=
  let c0_844 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1227 : Index := Scalar.indexCast v648
  let c2432_845 : Index := 2432#32
  ![0, v1227.toNat, 2432]
def k0_off43 (k0_t1 : Fin k0_t1_loop.trips) : Fin 3 → Nat :=
  let c0_850 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1239 : Index := Scalar.indexCast v648
  let c2560_851 : Index := 2560#32
  ![0, v1239.toNat, 2560]
def k0_off44 (k0_t1 : Fin k0_t1_loop.trips) : Fin 3 → Nat :=
  let c0_857 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1256 : Index := Scalar.indexCast v648
  let c2560_858 : Index := 2560#32
  ![0, v1256.toNat, 2560]
def k0_off45 (k0_t1 : Fin k0_t1_loop.trips) : Fin 3 → Nat :=
  let c0_863 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1268 : Index := Scalar.indexCast v648
  let c2688_864 : Index := 2688#32
  ![0, v1268.toNat, 2688]
def k0_off46 (k0_t1 : Fin k0_t1_loop.trips) : Fin 3 → Nat :=
  let c0_870 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1285 : Index := Scalar.indexCast v648
  let c2688_871 : Index := 2688#32
  ![0, v1285.toNat, 2688]
def k0_off47 (k0_t1 : Fin k0_t1_loop.trips) : Fin 3 → Nat :=
  let c0_876 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1297 : Index := Scalar.indexCast v648
  let c2816_877 : Index := 2816#32
  ![0, v1297.toNat, 2816]
def k0_off48 (k0_t1 : Fin k0_t1_loop.trips) : Fin 3 → Nat :=
  let c0_883 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1314 : Index := Scalar.indexCast v648
  let c2816_884 : Index := 2816#32
  ![0, v1314.toNat, 2816]
def k0_off49 (k0_t1 : Fin k0_t1_loop.trips) : Fin 3 → Nat :=
  let c0_889 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1326 : Index := Scalar.indexCast v648
  let c2944_890 : Index := 2944#32
  ![0, v1326.toNat, 2944]
def k0_off50 (k0_t1 : Fin k0_t1_loop.trips) : Fin 3 → Nat :=
  let c0_896 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1343 : Index := Scalar.indexCast v648
  let c2944_897 : Index := 2944#32
  ![0, v1343.toNat, 2944]
def k0_off51 (k0_t1 : Fin k0_t1_loop.trips) : Fin 3 → Nat :=
  let c0_902 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1355 : Index := Scalar.indexCast v648
  let c3072_903 : Index := 3072#32
  ![0, v1355.toNat, 3072]
def k0_off52 (k0_t1 : Fin k0_t1_loop.trips) : Fin 3 → Nat :=
  let c0_909 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1372 : Index := Scalar.indexCast v648
  let c3072_910 : Index := 3072#32
  ![0, v1372.toNat, 3072]
def k0_off53 (k0_t1 : Fin k0_t1_loop.trips) : Fin 3 → Nat :=
  let c0_915 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1384 : Index := Scalar.indexCast v648
  let c3200_916 : Index := 3200#32
  ![0, v1384.toNat, 3200]
def k0_off54 (k0_t1 : Fin k0_t1_loop.trips) : Fin 3 → Nat :=
  let c0_922 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1401 : Index := Scalar.indexCast v648
  let c3200_923 : Index := 3200#32
  ![0, v1401.toNat, 3200]
def k0_off55 (k0_t1 : Fin k0_t1_loop.trips) : Fin 3 → Nat :=
  let c0_928 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1413 : Index := Scalar.indexCast v648
  let c3328_929 : Index := 3328#32
  ![0, v1413.toNat, 3328]
def k0_off56 (k0_t1 : Fin k0_t1_loop.trips) : Fin 3 → Nat :=
  let c0_935 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1430 : Index := Scalar.indexCast v648
  let c3328_936 : Index := 3328#32
  ![0, v1430.toNat, 3328]
def k0_off57 (k0_t1 : Fin k0_t1_loop.trips) : Fin 3 → Nat :=
  let c0_941 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1442 : Index := Scalar.indexCast v648
  let c3456_942 : Index := 3456#32
  ![0, v1442.toNat, 3456]
def k0_off58 (k0_t1 : Fin k0_t1_loop.trips) : Fin 3 → Nat :=
  let c0_948 : Index := 0#32
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c32_i32 : BitVec 32 := 32#32
  let v647 : BitVec 32 := Scalar.muli v646 c32_i32
  let v648 : BitVec 32 := v647
  let v1459 : Index := Scalar.indexCast v648
  let c3456_949 : Index := 3456#32
  ![0, v1459.toNat, 3456]
def k0_off59 (k0_t1 : Fin k0_t1_loop.trips) (c868_i32 : BitVec 32) : Fin 2 → Nat :=
  let c3_i32_574 : BitVec 32 := 3#32
  let c0_i32_115 : BitVec 32 := 0#32
  let c1_i32_117 : BitVec 32 := 1#32
  let arg40 : BitVec 32 := Scf.iv c0_i32_115 c1_i32_117 k0_t1
  let v646 : BitVec 32 := Scalar.subi c3_i32_574 arg40
  let c896_i32 : BitVec 32 := 896#32
  let v649 : BitVec 32 := Scalar.muli v646 c896_i32
  let v650 : BitVec 32 := v649
  let v1471 : BitVec 32 := Scalar.addi v650 c868_i32
  let v1472 : Index := Scalar.indexCast v1471
  let c0_954 : Index := 0#32
  ![v1472.toNat, 0]
@[reducible] def k0_t2_loop : Scf.Loop 32 :=
  let c0_i32_294 : BitVec 32 := 0#32
  let c4_i32_295 : BitVec 32 := 4#32
  let v371 : BitVec 32 := Scalar.addi c0_i32_294 c4_i32_295
  let c1_i32_296 : BitVec 32 := 1#32
  ⟨c0_i32_294, v371, c1_i32_296⟩
def k0_mult13 (k0_t2 : Fin k0_t2_loop.trips) : BitVec 32 :=
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  v646
def k0_mult14 (k0_t2 : Fin k0_t2_loop.trips) : BitVec 32 :=
  let c0_i32_294 : BitVec 32 := 0#32
  let c1_i32_296 : BitVec 32 := 1#32
  let arg40 : BitVec 32 := Scf.iv c0_i32_294 c1_i32_296 k0_t2
  let c896_i32 : BitVec 32 := 896#32
  let v648 : BitVec 32 := Scalar.muli arg40 c896_i32
  v648
def k0_off60 (k0_t2 : Fin k0_t2_loop.trips) : Fin 3 → Nat :=
  let c0_574 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v650 : Index := Scalar.indexCast v647
  let c0_575 : Index := 0#32
  ![0, v650.toNat, 0]
def k0_off61 (k0_t2 : Fin k0_t2_loop.trips) : Fin 3 → Nat :=
  let c0_576 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v653 : Index := Scalar.indexCast v647
  let c3584 : Index := 3584#32
  ![0, v653.toNat, 3584]
def k0_off62 (k0_t2 : Fin k0_t2_loop.trips) : Fin 3 → Nat :=
  let c0_588 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v681 : Index := Scalar.indexCast v647
  let c3712 : Index := 3712#32
  ![0, v681.toNat, 3712]
def k0_off63 (k0_t2 : Fin k0_t2_loop.trips) : Fin 3 → Nat :=
  let c0_600 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v709 : Index := Scalar.indexCast v647
  let c3840 : Index := 3840#32
  ![0, v709.toNat, 3840]
def k0_off64 (k0_t2 : Fin k0_t2_loop.trips) : Fin 3 → Nat :=
  let c0_612 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v737 : Index := Scalar.indexCast v647
  let c3968 : Index := 3968#32
  ![0, v737.toNat, 3968]
def k0_off65 (k0_t2 : Fin k0_t2_loop.trips) : Fin 3 → Nat :=
  let c0_624 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v765 : Index := Scalar.indexCast v647
  let c4096 : Index := 4096#32
  ![0, v765.toNat, 4096]
def k0_off66 (k0_t2 : Fin k0_t2_loop.trips) : Fin 3 → Nat :=
  let c0_636 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v793 : Index := Scalar.indexCast v647
  let c4224 : Index := 4224#32
  ![0, v793.toNat, 4224]
def k0_off67 (k0_t2 : Fin k0_t2_loop.trips) : Fin 3 → Nat :=
  let c0_648 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v821 : Index := Scalar.indexCast v647
  let c4352 : Index := 4352#32
  ![0, v821.toNat, 4352]
def k0_off68 (k0_t2 : Fin k0_t2_loop.trips) : Fin 3 → Nat :=
  let c0_660 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v849 : Index := Scalar.indexCast v647
  let c4480 : Index := 4480#32
  ![0, v849.toNat, 4480]
def k0_off69 (k0_t2 : Fin k0_t2_loop.trips) : Fin 3 → Nat :=
  let c0_672 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v877 : Index := Scalar.indexCast v647
  let c4608 : Index := 4608#32
  ![0, v877.toNat, 4608]
def k0_off70 (k0_t2 : Fin k0_t2_loop.trips) : Fin 3 → Nat :=
  let c0_684 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v905 : Index := Scalar.indexCast v647
  let c4736 : Index := 4736#32
  ![0, v905.toNat, 4736]
def k0_off71 (k0_t2 : Fin k0_t2_loop.trips) : Fin 3 → Nat :=
  let c0_696 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v933 : Index := Scalar.indexCast v647
  let c4864 : Index := 4864#32
  ![0, v933.toNat, 4864]
def k0_off72 (k0_t2 : Fin k0_t2_loop.trips) : Fin 3 → Nat :=
  let c0_708 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v961 : Index := Scalar.indexCast v647
  let c4992 : Index := 4992#32
  ![0, v961.toNat, 4992]
def k0_off73 (k0_t2 : Fin k0_t2_loop.trips) : Fin 3 → Nat :=
  let c0_720 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v989 : Index := Scalar.indexCast v647
  let c5120 : Index := 5120#32
  ![0, v989.toNat, 5120]
def k0_off74 (k0_t2 : Fin k0_t2_loop.trips) : Fin 3 → Nat :=
  let c0_732 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1017 : Index := Scalar.indexCast v647
  let c5248 : Index := 5248#32
  ![0, v1017.toNat, 5248]
def k0_off75 (k0_t2 : Fin k0_t2_loop.trips) : Fin 3 → Nat :=
  let c0_744 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1045 : Index := Scalar.indexCast v647
  let c5376 : Index := 5376#32
  ![0, v1045.toNat, 5376]
def k0_off76 (k0_t2 : Fin k0_t2_loop.trips) : Fin 3 → Nat :=
  let c0_756 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1073 : Index := Scalar.indexCast v647
  let c5504 : Index := 5504#32
  ![0, v1073.toNat, 5504]
def k0_off77 (k0_t2 : Fin k0_t2_loop.trips) : Fin 3 → Nat :=
  let c0_768 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1101 : Index := Scalar.indexCast v647
  let c5632 : Index := 5632#32
  ![0, v1101.toNat, 5632]
def k0_off78 (k0_t2 : Fin k0_t2_loop.trips) : Fin 3 → Nat :=
  let c0_780 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1129 : Index := Scalar.indexCast v647
  let c5760 : Index := 5760#32
  ![0, v1129.toNat, 5760]
def k0_off79 (k0_t2 : Fin k0_t2_loop.trips) : Fin 3 → Nat :=
  let c0_792 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1157 : Index := Scalar.indexCast v647
  let c5888 : Index := 5888#32
  ![0, v1157.toNat, 5888]
def k0_off80 (k0_t2 : Fin k0_t2_loop.trips) : Fin 3 → Nat :=
  let c0_804 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1185 : Index := Scalar.indexCast v647
  let c6016 : Index := 6016#32
  ![0, v1185.toNat, 6016]
def k0_off81 (k0_t2 : Fin k0_t2_loop.trips) : Fin 3 → Nat :=
  let c0_816 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1213 : Index := Scalar.indexCast v647
  let c6144 : Index := 6144#32
  ![0, v1213.toNat, 6144]
def k0_off82 (k0_t2 : Fin k0_t2_loop.trips) : Fin 3 → Nat :=
  let c0_828 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1241 : Index := Scalar.indexCast v647
  let c6272 : Index := 6272#32
  ![0, v1241.toNat, 6272]
def k0_off83 (k0_t2 : Fin k0_t2_loop.trips) : Fin 3 → Nat :=
  let c0_840 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1269 : Index := Scalar.indexCast v647
  let c6400 : Index := 6400#32
  ![0, v1269.toNat, 6400]
def k0_off84 (k0_t2 : Fin k0_t2_loop.trips) : Fin 3 → Nat :=
  let c0_852 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1297 : Index := Scalar.indexCast v647
  let c6528 : Index := 6528#32
  ![0, v1297.toNat, 6528]
def k0_off85 (k0_t2 : Fin k0_t2_loop.trips) : Fin 3 → Nat :=
  let c0_864 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1325 : Index := Scalar.indexCast v647
  let c6656 : Index := 6656#32
  ![0, v1325.toNat, 6656]
def k0_off86 (k0_t2 : Fin k0_t2_loop.trips) : Fin 3 → Nat :=
  let c0_876 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1353 : Index := Scalar.indexCast v647
  let c6784 : Index := 6784#32
  ![0, v1353.toNat, 6784]
def k0_off87 (k0_t2 : Fin k0_t2_loop.trips) : Fin 3 → Nat :=
  let c0_888 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1381 : Index := Scalar.indexCast v647
  let c6912 : Index := 6912#32
  ![0, v1381.toNat, 6912]
def k0_off88 (k0_t2 : Fin k0_t2_loop.trips) : Fin 3 → Nat :=
  let c0_900 : Index := 0#32
  let c0_i32_294 : BitVec 32 := 0#32
  let c1_i32_296 : BitVec 32 := 1#32
  let arg40 : BitVec 32 := Scf.iv c0_i32_294 c1_i32_296 k0_t2
  let c32_i32 : BitVec 32 := 32#32
  let v646 : BitVec 32 := Scalar.muli arg40 c32_i32
  let v647 : BitVec 32 := v646
  let v1409 : Index := Scalar.indexCast v647
  let c7040 : Index := 7040#32
  ![0, v1409.toNat, 7040]
def k0_off89 (k0_t2 : Fin k0_t2_loop.trips) (c0_i32_912 : BitVec 32) : Fin 2 → Nat :=
  let c0_i32_294 : BitVec 32 := 0#32
  let c1_i32_296 : BitVec 32 := 1#32
  let arg40 : BitVec 32 := Scf.iv c0_i32_294 c1_i32_296 k0_t2
  let c896_i32 : BitVec 32 := 896#32
  let v648 : BitVec 32 := Scalar.muli arg40 c896_i32
  let v649 : BitVec 32 := v648
  let v1437 : BitVec 32 := Scalar.addi v649 c0_i32_912
  let v1438 : Index := Scalar.indexCast v1437
  let c0_913 : Index := 0#32
  ![v1438.toNat, 0]
def k0_mult15 (k0_t2 : Fin k0_t2_loop.trips) : BitVec 32 :=
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  v2589
def k0_mult16 (k0_t2 : Fin k0_t2_loop.trips) : BitVec 32 :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  v2664
def k0_off90 (k0_t2 : Fin k0_t2_loop.trips) : Fin 3 → Nat :=
  let c0_1353 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2673 : Index := Scalar.indexCast v2590
  let c0_1354 : Index := 0#32
  ![0, v2673.toNat, 0]
def k0_off91 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2682 : Index := Scalar.indexCast v2665
  let c0_1357 : Index := 0#32
  ![v2682.toNat, 0]
def k0_off92 (k0_t2 : Fin k0_t2_loop.trips) : Fin 3 → Nat :=
  let c0_1362 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2693 : Index := Scalar.indexCast v2590
  let c128_1363 : Index := 128#32
  ![0, v2693.toNat, 128]
def k0_off93 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2702 : Index := Scalar.indexCast v2665
  let c128_1366 : Index := 128#32
  ![v2702.toNat, 128]
def k0_off94 (k0_t2 : Fin k0_t2_loop.trips) : Fin 3 → Nat :=
  let c0_1371 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2713 : Index := Scalar.indexCast v2590
  let c256_1372 : Index := 256#32
  ![0, v2713.toNat, 256]
def k0_off95 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2722 : Index := Scalar.indexCast v2665
  let c256_1375 : Index := 256#32
  ![v2722.toNat, 256]
def k0_off96 (k0_t2 : Fin k0_t2_loop.trips) : Fin 3 → Nat :=
  let c0_1380 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2733 : Index := Scalar.indexCast v2590
  let c384_1381 : Index := 384#32
  ![0, v2733.toNat, 384]
def k0_off97 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2742 : Index := Scalar.indexCast v2665
  let c384_1384 : Index := 384#32
  ![v2742.toNat, 384]
def k0_off98 (k0_t2 : Fin k0_t2_loop.trips) : Fin 3 → Nat :=
  let c0_1389 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2753 : Index := Scalar.indexCast v2590
  let c512_1390 : Index := 512#32
  ![0, v2753.toNat, 512]
def k0_off99 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2762 : Index := Scalar.indexCast v2665
  let c512_1393 : Index := 512#32
  ![v2762.toNat, 512]
def k0_off100 (k0_t2 : Fin k0_t2_loop.trips) : Fin 3 → Nat :=
  let c0_1398 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2773 : Index := Scalar.indexCast v2590
  let c640_1399 : Index := 640#32
  ![0, v2773.toNat, 640]
def k0_off101 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2782 : Index := Scalar.indexCast v2665
  let c640_1402 : Index := 640#32
  ![v2782.toNat, 640]
def k0_off102 (k0_t2 : Fin k0_t2_loop.trips) : Fin 3 → Nat :=
  let c0_1407 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2793 : Index := Scalar.indexCast v2590
  let c768_1408 : Index := 768#32
  ![0, v2793.toNat, 768]
def k0_off103 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2802 : Index := Scalar.indexCast v2665
  let c768_1411 : Index := 768#32
  ![v2802.toNat, 768]
def k0_off104 (k0_t2 : Fin k0_t2_loop.trips) : Fin 3 → Nat :=
  let c0_1416 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2813 : Index := Scalar.indexCast v2590
  let c896_1417 : Index := 896#32
  ![0, v2813.toNat, 896]
def k0_off105 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2822 : Index := Scalar.indexCast v2665
  let c896_1420 : Index := 896#32
  ![v2822.toNat, 896]
def k0_off106 (k0_t2 : Fin k0_t2_loop.trips) : Fin 3 → Nat :=
  let c0_1425 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2833 : Index := Scalar.indexCast v2590
  let c1024_1426 : Index := 1024#32
  ![0, v2833.toNat, 1024]
def k0_off107 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2842 : Index := Scalar.indexCast v2665
  let c1024_1429 : Index := 1024#32
  ![v2842.toNat, 1024]
def k0_off108 (k0_t2 : Fin k0_t2_loop.trips) : Fin 3 → Nat :=
  let c0_1434 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2853 : Index := Scalar.indexCast v2590
  let c1152_1435 : Index := 1152#32
  ![0, v2853.toNat, 1152]
def k0_off109 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2862 : Index := Scalar.indexCast v2665
  let c1152_1438 : Index := 1152#32
  ![v2862.toNat, 1152]
def k0_off110 (k0_t2 : Fin k0_t2_loop.trips) : Fin 3 → Nat :=
  let c0_1443 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2873 : Index := Scalar.indexCast v2590
  let c1280_1444 : Index := 1280#32
  ![0, v2873.toNat, 1280]
def k0_off111 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2882 : Index := Scalar.indexCast v2665
  let c1280_1447 : Index := 1280#32
  ![v2882.toNat, 1280]
def k0_off112 (k0_t2 : Fin k0_t2_loop.trips) : Fin 3 → Nat :=
  let c0_1452 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2893 : Index := Scalar.indexCast v2590
  let c1408_1453 : Index := 1408#32
  ![0, v2893.toNat, 1408]
def k0_off113 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2902 : Index := Scalar.indexCast v2665
  let c1408_1456 : Index := 1408#32
  ![v2902.toNat, 1408]
def k0_off114 (k0_t2 : Fin k0_t2_loop.trips) : Fin 3 → Nat :=
  let c0_1461 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2913 : Index := Scalar.indexCast v2590
  let c1536_1462 : Index := 1536#32
  ![0, v2913.toNat, 1536]
def k0_off115 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2922 : Index := Scalar.indexCast v2665
  let c1536_1465 : Index := 1536#32
  ![v2922.toNat, 1536]
def k0_off116 (k0_t2 : Fin k0_t2_loop.trips) : Fin 3 → Nat :=
  let c0_1470 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2933 : Index := Scalar.indexCast v2590
  let c1664_1471 : Index := 1664#32
  ![0, v2933.toNat, 1664]
def k0_off117 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2942 : Index := Scalar.indexCast v2665
  let c1664_1474 : Index := 1664#32
  ![v2942.toNat, 1664]
def k0_off118 (k0_t2 : Fin k0_t2_loop.trips) : Fin 3 → Nat :=
  let c0_1479 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2953 : Index := Scalar.indexCast v2590
  let c1792_1480 : Index := 1792#32
  ![0, v2953.toNat, 1792]
def k0_off119 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2962 : Index := Scalar.indexCast v2665
  let c1792_1483 : Index := 1792#32
  ![v2962.toNat, 1792]
def k0_off120 (k0_t2 : Fin k0_t2_loop.trips) : Fin 3 → Nat :=
  let c0_1488 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2973 : Index := Scalar.indexCast v2590
  let c1920_1489 : Index := 1920#32
  ![0, v2973.toNat, 1920]
def k0_off121 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v2982 : Index := Scalar.indexCast v2665
  let c1920_1492 : Index := 1920#32
  ![v2982.toNat, 1920]
def k0_off122 (k0_t2 : Fin k0_t2_loop.trips) : Fin 3 → Nat :=
  let c0_1497 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2993 : Index := Scalar.indexCast v2590
  let c2048_1498 : Index := 2048#32
  ![0, v2993.toNat, 2048]
def k0_off123 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3002 : Index := Scalar.indexCast v2665
  let c2048_1501 : Index := 2048#32
  ![v3002.toNat, 2048]
def k0_off124 (k0_t2 : Fin k0_t2_loop.trips) : Fin 3 → Nat :=
  let c0_1506 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3013 : Index := Scalar.indexCast v2590
  let c2176_1507 : Index := 2176#32
  ![0, v3013.toNat, 2176]
def k0_off125 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3022 : Index := Scalar.indexCast v2665
  let c2176_1510 : Index := 2176#32
  ![v3022.toNat, 2176]
def k0_off126 (k0_t2 : Fin k0_t2_loop.trips) : Fin 3 → Nat :=
  let c0_1515 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3033 : Index := Scalar.indexCast v2590
  let c2304_1516 : Index := 2304#32
  ![0, v3033.toNat, 2304]
def k0_off127 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3042 : Index := Scalar.indexCast v2665
  let c2304_1519 : Index := 2304#32
  ![v3042.toNat, 2304]
def k0_off128 (k0_t2 : Fin k0_t2_loop.trips) : Fin 3 → Nat :=
  let c0_1524 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3053 : Index := Scalar.indexCast v2590
  let c2432_1525 : Index := 2432#32
  ![0, v3053.toNat, 2432]
def k0_off129 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3062 : Index := Scalar.indexCast v2665
  let c2432_1528 : Index := 2432#32
  ![v3062.toNat, 2432]
def k0_off130 (k0_t2 : Fin k0_t2_loop.trips) : Fin 3 → Nat :=
  let c0_1533 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3073 : Index := Scalar.indexCast v2590
  let c2560_1534 : Index := 2560#32
  ![0, v3073.toNat, 2560]
def k0_off131 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3082 : Index := Scalar.indexCast v2665
  let c2560_1537 : Index := 2560#32
  ![v3082.toNat, 2560]
def k0_off132 (k0_t2 : Fin k0_t2_loop.trips) : Fin 3 → Nat :=
  let c0_1542 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3093 : Index := Scalar.indexCast v2590
  let c2688_1543 : Index := 2688#32
  ![0, v3093.toNat, 2688]
def k0_off133 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3102 : Index := Scalar.indexCast v2665
  let c2688_1546 : Index := 2688#32
  ![v3102.toNat, 2688]
def k0_off134 (k0_t2 : Fin k0_t2_loop.trips) : Fin 3 → Nat :=
  let c0_1551 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3113 : Index := Scalar.indexCast v2590
  let c2816_1552 : Index := 2816#32
  ![0, v3113.toNat, 2816]
def k0_off135 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3122 : Index := Scalar.indexCast v2665
  let c2816_1555 : Index := 2816#32
  ![v3122.toNat, 2816]
def k0_off136 (k0_t2 : Fin k0_t2_loop.trips) : Fin 3 → Nat :=
  let c0_1560 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3133 : Index := Scalar.indexCast v2590
  let c2944_1561 : Index := 2944#32
  ![0, v3133.toNat, 2944]
def k0_off137 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3142 : Index := Scalar.indexCast v2665
  let c2944_1564 : Index := 2944#32
  ![v3142.toNat, 2944]
def k0_off138 (k0_t2 : Fin k0_t2_loop.trips) : Fin 3 → Nat :=
  let c0_1569 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3153 : Index := Scalar.indexCast v2590
  let c3072_1570 : Index := 3072#32
  ![0, v3153.toNat, 3072]
def k0_off139 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3162 : Index := Scalar.indexCast v2665
  let c3072_1573 : Index := 3072#32
  ![v3162.toNat, 3072]
def k0_off140 (k0_t2 : Fin k0_t2_loop.trips) : Fin 3 → Nat :=
  let c0_1578 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3173 : Index := Scalar.indexCast v2590
  let c3200_1579 : Index := 3200#32
  ![0, v3173.toNat, 3200]
def k0_off141 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3182 : Index := Scalar.indexCast v2665
  let c3200_1582 : Index := 3200#32
  ![v3182.toNat, 3200]
def k0_off142 (k0_t2 : Fin k0_t2_loop.trips) : Fin 3 → Nat :=
  let c0_1587 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3193 : Index := Scalar.indexCast v2590
  let c3328_1588 : Index := 3328#32
  ![0, v3193.toNat, 3328]
def k0_off143 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3202 : Index := Scalar.indexCast v2665
  let c3328_1591 : Index := 3328#32
  ![v3202.toNat, 3328]
def k0_off144 (k0_t2 : Fin k0_t2_loop.trips) : Fin 3 → Nat :=
  let c0_1596 : Index := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v3213 : Index := Scalar.indexCast v2590
  let c3456_1597 : Index := 3456#32
  ![0, v3213.toNat, 3456]
def k0_off145 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3222 : Index := Scalar.indexCast v2665
  let c3456_1600 : Index := 3456#32
  ![v3222.toNat, 3456]
def k0_off146 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3242 : Index := Scalar.indexCast v2665
  let c3584_1609 : Index := 3584#32
  ![v3242.toNat, 3584]
def k0_off147 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3262 : Index := Scalar.indexCast v2665
  let c3712_1617 : Index := 3712#32
  ![v3262.toNat, 3712]
def k0_off148 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3282 : Index := Scalar.indexCast v2665
  let c3840_1625 : Index := 3840#32
  ![v3282.toNat, 3840]
def k0_off149 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3302 : Index := Scalar.indexCast v2665
  let c3968_1633 : Index := 3968#32
  ![v3302.toNat, 3968]
def k0_off150 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3322 : Index := Scalar.indexCast v2665
  let c4096_1642 : Index := 4096#32
  ![v3322.toNat, 4096]
def k0_off151 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3342 : Index := Scalar.indexCast v2665
  let c4224_1650 : Index := 4224#32
  ![v3342.toNat, 4224]
def k0_off152 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3362 : Index := Scalar.indexCast v2665
  let c4352_1658 : Index := 4352#32
  ![v3362.toNat, 4352]
def k0_off153 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3382 : Index := Scalar.indexCast v2665
  let c4480_1666 : Index := 4480#32
  ![v3382.toNat, 4480]
def k0_off154 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3402 : Index := Scalar.indexCast v2665
  let c4608_1674 : Index := 4608#32
  ![v3402.toNat, 4608]
def k0_off155 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3422 : Index := Scalar.indexCast v2665
  let c4736_1682 : Index := 4736#32
  ![v3422.toNat, 4736]
def k0_off156 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3442 : Index := Scalar.indexCast v2665
  let c4864_1690 : Index := 4864#32
  ![v3442.toNat, 4864]
def k0_off157 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3462 : Index := Scalar.indexCast v2665
  let c4992_1698 : Index := 4992#32
  ![v3462.toNat, 4992]
def k0_off158 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3482 : Index := Scalar.indexCast v2665
  let c5120_1707 : Index := 5120#32
  ![v3482.toNat, 5120]
def k0_off159 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3502 : Index := Scalar.indexCast v2665
  let c5248_1715 : Index := 5248#32
  ![v3502.toNat, 5248]
def k0_off160 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3522 : Index := Scalar.indexCast v2665
  let c5376_1723 : Index := 5376#32
  ![v3522.toNat, 5376]
def k0_off161 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3542 : Index := Scalar.indexCast v2665
  let c5504_1731 : Index := 5504#32
  ![v3542.toNat, 5504]
def k0_off162 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3562 : Index := Scalar.indexCast v2665
  let c5632_1739 : Index := 5632#32
  ![v3562.toNat, 5632]
def k0_off163 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3582 : Index := Scalar.indexCast v2665
  let c5760_1747 : Index := 5760#32
  ![v3582.toNat, 5760]
def k0_off164 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3602 : Index := Scalar.indexCast v2665
  let c5888_1755 : Index := 5888#32
  ![v3602.toNat, 5888]
def k0_off165 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3622 : Index := Scalar.indexCast v2665
  let c6016_1763 : Index := 6016#32
  ![v3622.toNat, 6016]
def k0_off166 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3642 : Index := Scalar.indexCast v2665
  let c6144_1772 : Index := 6144#32
  ![v3642.toNat, 6144]
def k0_off167 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3662 : Index := Scalar.indexCast v2665
  let c6272_1780 : Index := 6272#32
  ![v3662.toNat, 6272]
def k0_off168 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3682 : Index := Scalar.indexCast v2665
  let c6400_1788 : Index := 6400#32
  ![v3682.toNat, 6400]
def k0_off169 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3702 : Index := Scalar.indexCast v2665
  let c6528_1796 : Index := 6528#32
  ![v3702.toNat, 6528]
def k0_off170 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3722 : Index := Scalar.indexCast v2665
  let c6656_1804 : Index := 6656#32
  ![v3722.toNat, 6656]
def k0_off171 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3742 : Index := Scalar.indexCast v2665
  let c6784_1812 : Index := 6784#32
  ![v3742.toNat, 6784]
def k0_off172 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3762 : Index := Scalar.indexCast v2665
  let c6912_1820 : Index := 6912#32
  ![v3762.toNat, 6912]
def k0_off173 (k0_t2 : Fin k0_t2_loop.trips) : Fin 2 → Nat :=
  let c0_i32_1348 : BitVec 32 := 0#32
  let c0_i32_294 : BitVec 32 := 0#32
  let c1_i32_296 : BitVec 32 := 1#32
  let arg40 : BitVec 32 := Scf.iv c0_i32_294 c1_i32_296 k0_t2
  let c32_i32_1312 : BitVec 32 := 32#32
  let v2589 : BitVec 32 := Scalar.muli arg40 c32_i32_1312
  let v2590 : BitVec 32 := v2589
  let v2664 : BitVec 32 := Scalar.addi c0_i32_1348 v2590
  let v2665 : BitVec 32 := v2664
  let v3782 : Index := Scalar.indexCast v2665
  let c7040_1828 : Index := 7040#32
  ![v3782.toNat, 7040]
@[reducible] def k0_t3_loop : Scf.Loop 32 :=
  let c0_i32_320 : BitVec 32 := 0#32
  let c4_i32_321 : BitVec 32 := 4#32
  let v393 : BitVec 32 := Scalar.addi c0_i32_320 c4_i32_321
  let c1_i32_322 : BitVec 32 := 1#32
  ⟨c0_i32_320, v393, c1_i32_322⟩
def k0_mult17 (k0_t3 : Fin k0_t3_loop.trips) : BitVec 32 :=
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  v647
def k0_mult18 (k0_t3 : Fin k0_t3_loop.trips) : BitVec 32 :=
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c896_i32 : BitVec 32 := 896#32
  let v649 : BitVec 32 := Scalar.muli v646 c896_i32
  v649
def k0_off174 (k0_t3 : Fin k0_t3_loop.trips) : Fin 3 → Nat :=
  let c1_575 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v651 : Index := Scalar.indexCast v648
  let c0_576 : Index := 0#32
  ![1, v651.toNat, 0]
def k0_off175 (k0_t3 : Fin k0_t3_loop.trips) : Fin 3 → Nat :=
  let c1_580 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v659 : Index := Scalar.indexCast v648
  let c0_581 : Index := 0#32
  ![1, v659.toNat, 0]
def k0_off176 (k0_t3 : Fin k0_t3_loop.trips) (c0_i32_585 : BitVec 32) : Fin 2 → Nat :=
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32_584 : BitVec 32 := 32#32
  let v669 : BitVec 32 := Scalar.muli v646 c32_i32_584
  let c28_i32 : BitVec 32 := 28#32
  let v670 : BitVec 32 := Scalar.muli v669 c28_i32
  let v671 : BitVec 32 := Scalar.addi v670 c0_i32_585
  let v672 : Index := Scalar.indexCast v671
  let c0_586 : Index := 0#32
  ![v672.toNat, 0]
def k0_off177 (k0_t3 : Fin k0_t3_loop.trips) : Fin 3 → Nat :=
  let c1_587 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v676 : Index := Scalar.indexCast v648
  let c0_588 : Index := 0#32
  ![1, v676.toNat, 0]
def k0_off178 (k0_t3 : Fin k0_t3_loop.trips) : Fin 3 → Nat :=
  let c1_593 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v688 : Index := Scalar.indexCast v648
  let c128_594 : Index := 128#32
  ![1, v688.toNat, 128]
def k0_off179 (k0_t3 : Fin k0_t3_loop.trips) : Fin 3 → Nat :=
  let c1_601 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v705 : Index := Scalar.indexCast v648
  let c128_602 : Index := 128#32
  ![1, v705.toNat, 128]
def k0_off180 (k0_t3 : Fin k0_t3_loop.trips) : Fin 3 → Nat :=
  let c1_607 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v717 : Index := Scalar.indexCast v648
  let c256_608 : Index := 256#32
  ![1, v717.toNat, 256]
def k0_off181 (k0_t3 : Fin k0_t3_loop.trips) : Fin 3 → Nat :=
  let c1_615 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v734 : Index := Scalar.indexCast v648
  let c256_616 : Index := 256#32
  ![1, v734.toNat, 256]
def k0_off182 (k0_t3 : Fin k0_t3_loop.trips) : Fin 3 → Nat :=
  let c1_621 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v746 : Index := Scalar.indexCast v648
  let c384_622 : Index := 384#32
  ![1, v746.toNat, 384]
def k0_off183 (k0_t3 : Fin k0_t3_loop.trips) : Fin 3 → Nat :=
  let c1_629 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v763 : Index := Scalar.indexCast v648
  let c384_630 : Index := 384#32
  ![1, v763.toNat, 384]
def k0_off184 (k0_t3 : Fin k0_t3_loop.trips) : Fin 3 → Nat :=
  let c1_635 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v775 : Index := Scalar.indexCast v648
  let c512_636 : Index := 512#32
  ![1, v775.toNat, 512]
def k0_off185 (k0_t3 : Fin k0_t3_loop.trips) : Fin 3 → Nat :=
  let c1_643 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v792 : Index := Scalar.indexCast v648
  let c512_644 : Index := 512#32
  ![1, v792.toNat, 512]
def k0_off186 (k0_t3 : Fin k0_t3_loop.trips) : Fin 3 → Nat :=
  let c1_649 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v804 : Index := Scalar.indexCast v648
  let c640_650 : Index := 640#32
  ![1, v804.toNat, 640]
def k0_off187 (k0_t3 : Fin k0_t3_loop.trips) : Fin 3 → Nat :=
  let c1_657 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v821 : Index := Scalar.indexCast v648
  let c640_658 : Index := 640#32
  ![1, v821.toNat, 640]
def k0_off188 (k0_t3 : Fin k0_t3_loop.trips) : Fin 3 → Nat :=
  let c1_663 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v833 : Index := Scalar.indexCast v648
  let c768_664 : Index := 768#32
  ![1, v833.toNat, 768]
def k0_off189 (k0_t3 : Fin k0_t3_loop.trips) : Fin 3 → Nat :=
  let c1_671 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v850 : Index := Scalar.indexCast v648
  let c768_672 : Index := 768#32
  ![1, v850.toNat, 768]
def k0_off190 (k0_t3 : Fin k0_t3_loop.trips) : Fin 3 → Nat :=
  let c1_677 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v862 : Index := Scalar.indexCast v648
  let c896_678 : Index := 896#32
  ![1, v862.toNat, 896]
def k0_off191 (k0_t3 : Fin k0_t3_loop.trips) : Fin 3 → Nat :=
  let c1_685 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v879 : Index := Scalar.indexCast v648
  let c896_686 : Index := 896#32
  ![1, v879.toNat, 896]
def k0_off192 (k0_t3 : Fin k0_t3_loop.trips) : Fin 3 → Nat :=
  let c1_691 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v891 : Index := Scalar.indexCast v648
  let c1024_692 : Index := 1024#32
  ![1, v891.toNat, 1024]
def k0_off193 (k0_t3 : Fin k0_t3_loop.trips) : Fin 3 → Nat :=
  let c1_699 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v908 : Index := Scalar.indexCast v648
  let c1024_700 : Index := 1024#32
  ![1, v908.toNat, 1024]
def k0_off194 (k0_t3 : Fin k0_t3_loop.trips) : Fin 3 → Nat :=
  let c1_705 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v920 : Index := Scalar.indexCast v648
  let c1152_706 : Index := 1152#32
  ![1, v920.toNat, 1152]
def k0_off195 (k0_t3 : Fin k0_t3_loop.trips) : Fin 3 → Nat :=
  let c1_713 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v937 : Index := Scalar.indexCast v648
  let c1152_714 : Index := 1152#32
  ![1, v937.toNat, 1152]
def k0_off196 (k0_t3 : Fin k0_t3_loop.trips) : Fin 3 → Nat :=
  let c1_719 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v949 : Index := Scalar.indexCast v648
  let c1280_720 : Index := 1280#32
  ![1, v949.toNat, 1280]
def k0_off197 (k0_t3 : Fin k0_t3_loop.trips) : Fin 3 → Nat :=
  let c1_727 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v966 : Index := Scalar.indexCast v648
  let c1280_728 : Index := 1280#32
  ![1, v966.toNat, 1280]
def k0_off198 (k0_t3 : Fin k0_t3_loop.trips) : Fin 3 → Nat :=
  let c1_733 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v978 : Index := Scalar.indexCast v648
  let c1408_734 : Index := 1408#32
  ![1, v978.toNat, 1408]
def k0_off199 (k0_t3 : Fin k0_t3_loop.trips) : Fin 3 → Nat :=
  let c1_740 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v995 : Index := Scalar.indexCast v648
  let c1408_741 : Index := 1408#32
  ![1, v995.toNat, 1408]
def k0_off200 (k0_t3 : Fin k0_t3_loop.trips) : Fin 3 → Nat :=
  let c1_746 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1007 : Index := Scalar.indexCast v648
  let c1536_747 : Index := 1536#32
  ![1, v1007.toNat, 1536]
def k0_off201 (k0_t3 : Fin k0_t3_loop.trips) : Fin 3 → Nat :=
  let c1_753 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1024 : Index := Scalar.indexCast v648
  let c1536_754 : Index := 1536#32
  ![1, v1024.toNat, 1536]
def k0_off202 (k0_t3 : Fin k0_t3_loop.trips) : Fin 3 → Nat :=
  let c1_759 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1036 : Index := Scalar.indexCast v648
  let c1664_760 : Index := 1664#32
  ![1, v1036.toNat, 1664]
def k0_off203 (k0_t3 : Fin k0_t3_loop.trips) : Fin 3 → Nat :=
  let c1_766 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1053 : Index := Scalar.indexCast v648
  let c1664_767 : Index := 1664#32
  ![1, v1053.toNat, 1664]
def k0_off204 (k0_t3 : Fin k0_t3_loop.trips) : Fin 3 → Nat :=
  let c1_772 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1065 : Index := Scalar.indexCast v648
  let c1792_773 : Index := 1792#32
  ![1, v1065.toNat, 1792]
def k0_off205 (k0_t3 : Fin k0_t3_loop.trips) : Fin 3 → Nat :=
  let c1_779 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1082 : Index := Scalar.indexCast v648
  let c1792_780 : Index := 1792#32
  ![1, v1082.toNat, 1792]
def k0_off206 (k0_t3 : Fin k0_t3_loop.trips) : Fin 3 → Nat :=
  let c1_785 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1094 : Index := Scalar.indexCast v648
  let c1920_786 : Index := 1920#32
  ![1, v1094.toNat, 1920]
def k0_off207 (k0_t3 : Fin k0_t3_loop.trips) : Fin 3 → Nat :=
  let c1_792 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1111 : Index := Scalar.indexCast v648
  let c1920_793 : Index := 1920#32
  ![1, v1111.toNat, 1920]
def k0_off208 (k0_t3 : Fin k0_t3_loop.trips) : Fin 3 → Nat :=
  let c1_798 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1123 : Index := Scalar.indexCast v648
  let c2048_799 : Index := 2048#32
  ![1, v1123.toNat, 2048]
def k0_off209 (k0_t3 : Fin k0_t3_loop.trips) : Fin 3 → Nat :=
  let c1_805 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1140 : Index := Scalar.indexCast v648
  let c2048_806 : Index := 2048#32
  ![1, v1140.toNat, 2048]
def k0_off210 (k0_t3 : Fin k0_t3_loop.trips) : Fin 3 → Nat :=
  let c1_811 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1152 : Index := Scalar.indexCast v648
  let c2176_812 : Index := 2176#32
  ![1, v1152.toNat, 2176]
def k0_off211 (k0_t3 : Fin k0_t3_loop.trips) : Fin 3 → Nat :=
  let c1_818 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1169 : Index := Scalar.indexCast v648
  let c2176_819 : Index := 2176#32
  ![1, v1169.toNat, 2176]
def k0_off212 (k0_t3 : Fin k0_t3_loop.trips) : Fin 3 → Nat :=
  let c1_824 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1181 : Index := Scalar.indexCast v648
  let c2304_825 : Index := 2304#32
  ![1, v1181.toNat, 2304]
def k0_off213 (k0_t3 : Fin k0_t3_loop.trips) : Fin 3 → Nat :=
  let c1_831 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1198 : Index := Scalar.indexCast v648
  let c2304_832 : Index := 2304#32
  ![1, v1198.toNat, 2304]
def k0_off214 (k0_t3 : Fin k0_t3_loop.trips) : Fin 3 → Nat :=
  let c1_837 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1210 : Index := Scalar.indexCast v648
  let c2432_838 : Index := 2432#32
  ![1, v1210.toNat, 2432]
def k0_off215 (k0_t3 : Fin k0_t3_loop.trips) : Fin 3 → Nat :=
  let c1_844 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1227 : Index := Scalar.indexCast v648
  let c2432_845 : Index := 2432#32
  ![1, v1227.toNat, 2432]
def k0_off216 (k0_t3 : Fin k0_t3_loop.trips) : Fin 3 → Nat :=
  let c1_850 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1239 : Index := Scalar.indexCast v648
  let c2560_851 : Index := 2560#32
  ![1, v1239.toNat, 2560]
def k0_off217 (k0_t3 : Fin k0_t3_loop.trips) : Fin 3 → Nat :=
  let c1_857 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1256 : Index := Scalar.indexCast v648
  let c2560_858 : Index := 2560#32
  ![1, v1256.toNat, 2560]
def k0_off218 (k0_t3 : Fin k0_t3_loop.trips) : Fin 3 → Nat :=
  let c1_863 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1268 : Index := Scalar.indexCast v648
  let c2688_864 : Index := 2688#32
  ![1, v1268.toNat, 2688]
def k0_off219 (k0_t3 : Fin k0_t3_loop.trips) : Fin 3 → Nat :=
  let c1_870 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1285 : Index := Scalar.indexCast v648
  let c2688_871 : Index := 2688#32
  ![1, v1285.toNat, 2688]
def k0_off220 (k0_t3 : Fin k0_t3_loop.trips) : Fin 3 → Nat :=
  let c1_876 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1297 : Index := Scalar.indexCast v648
  let c2816_877 : Index := 2816#32
  ![1, v1297.toNat, 2816]
def k0_off221 (k0_t3 : Fin k0_t3_loop.trips) : Fin 3 → Nat :=
  let c1_883 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1314 : Index := Scalar.indexCast v648
  let c2816_884 : Index := 2816#32
  ![1, v1314.toNat, 2816]
def k0_off222 (k0_t3 : Fin k0_t3_loop.trips) : Fin 3 → Nat :=
  let c1_889 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1326 : Index := Scalar.indexCast v648
  let c2944_890 : Index := 2944#32
  ![1, v1326.toNat, 2944]
def k0_off223 (k0_t3 : Fin k0_t3_loop.trips) : Fin 3 → Nat :=
  let c1_896 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1343 : Index := Scalar.indexCast v648
  let c2944_897 : Index := 2944#32
  ![1, v1343.toNat, 2944]
def k0_off224 (k0_t3 : Fin k0_t3_loop.trips) : Fin 3 → Nat :=
  let c1_902 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1355 : Index := Scalar.indexCast v648
  let c3072_903 : Index := 3072#32
  ![1, v1355.toNat, 3072]
def k0_off225 (k0_t3 : Fin k0_t3_loop.trips) : Fin 3 → Nat :=
  let c1_909 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1372 : Index := Scalar.indexCast v648
  let c3072_910 : Index := 3072#32
  ![1, v1372.toNat, 3072]
def k0_off226 (k0_t3 : Fin k0_t3_loop.trips) : Fin 3 → Nat :=
  let c1_915 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1384 : Index := Scalar.indexCast v648
  let c3200_916 : Index := 3200#32
  ![1, v1384.toNat, 3200]
def k0_off227 (k0_t3 : Fin k0_t3_loop.trips) : Fin 3 → Nat :=
  let c1_922 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1401 : Index := Scalar.indexCast v648
  let c3200_923 : Index := 3200#32
  ![1, v1401.toNat, 3200]
def k0_off228 (k0_t3 : Fin k0_t3_loop.trips) : Fin 3 → Nat :=
  let c1_928 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1413 : Index := Scalar.indexCast v648
  let c3328_929 : Index := 3328#32
  ![1, v1413.toNat, 3328]
def k0_off229 (k0_t3 : Fin k0_t3_loop.trips) : Fin 3 → Nat :=
  let c1_935 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1430 : Index := Scalar.indexCast v648
  let c3328_936 : Index := 3328#32
  ![1, v1430.toNat, 3328]
def k0_off230 (k0_t3 : Fin k0_t3_loop.trips) : Fin 3 → Nat :=
  let c1_941 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1442 : Index := Scalar.indexCast v648
  let c3456_942 : Index := 3456#32
  ![1, v1442.toNat, 3456]
def k0_off231 (k0_t3 : Fin k0_t3_loop.trips) : Fin 3 → Nat :=
  let c1_948 : Index := 1#32
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c32_i32 : BitVec 32 := 32#32
  let v647 : BitVec 32 := Scalar.muli v646 c32_i32
  let v648 : BitVec 32 := v647
  let v1459 : Index := Scalar.indexCast v648
  let c3456_949 : Index := 3456#32
  ![1, v1459.toNat, 3456]
def k0_off232 (k0_t3 : Fin k0_t3_loop.trips) (c868_i32 : BitVec 32) : Fin 2 → Nat :=
  let c3_i32_574 : BitVec 32 := 3#32
  let c0_i32_320 : BitVec 32 := 0#32
  let c1_i32_322 : BitVec 32 := 1#32
  let arg40 : BitVec 32 := Scf.iv c0_i32_320 c1_i32_322 k0_t3
  let v646 : BitVec 32 := Scalar.subi c3_i32_574 arg40
  let c896_i32 : BitVec 32 := 896#32
  let v649 : BitVec 32 := Scalar.muli v646 c896_i32
  let v650 : BitVec 32 := v649
  let v1471 : BitVec 32 := Scalar.addi v650 c868_i32
  let v1472 : Index := Scalar.indexCast v1471
  let c0_954 : Index := 0#32
  ![v1472.toNat, 0]
@[reducible] def k0_t4_loop : Scf.Loop 32 :=
  let c0_i32_552 : BitVec 32 := 0#32
  let c4_i32_553 : BitVec 32 := 4#32
  let v623 : BitVec 32 := Scalar.addi c0_i32_552 c4_i32_553
  let c1_i32_554 : BitVec 32 := 1#32
  ⟨c0_i32_552, v623, c1_i32_554⟩
def k0_mult19 (k0_t4 : Fin k0_t4_loop.trips) : BitVec 32 :=
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  v646
def k0_mult20 (k0_t4 : Fin k0_t4_loop.trips) : BitVec 32 :=
  let c0_i32_552 : BitVec 32 := 0#32
  let c1_i32_554 : BitVec 32 := 1#32
  let arg40 : BitVec 32 := Scf.iv c0_i32_552 c1_i32_554 k0_t4
  let c896_i32 : BitVec 32 := 896#32
  let v648 : BitVec 32 := Scalar.muli arg40 c896_i32
  v648
def k0_off233 (k0_t4 : Fin k0_t4_loop.trips) : Fin 3 → Nat :=
  let c1_574 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v650 : Index := Scalar.indexCast v647
  let c0_575 : Index := 0#32
  ![1, v650.toNat, 0]
def k0_off234 (k0_t4 : Fin k0_t4_loop.trips) : Fin 3 → Nat :=
  let c1_576 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v653 : Index := Scalar.indexCast v647
  let c3584 : Index := 3584#32
  ![1, v653.toNat, 3584]
def k0_off235 (k0_t4 : Fin k0_t4_loop.trips) : Fin 3 → Nat :=
  let c1_588 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v681 : Index := Scalar.indexCast v647
  let c3712 : Index := 3712#32
  ![1, v681.toNat, 3712]
def k0_off236 (k0_t4 : Fin k0_t4_loop.trips) : Fin 3 → Nat :=
  let c1_600 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v709 : Index := Scalar.indexCast v647
  let c3840 : Index := 3840#32
  ![1, v709.toNat, 3840]
def k0_off237 (k0_t4 : Fin k0_t4_loop.trips) : Fin 3 → Nat :=
  let c1_612 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v737 : Index := Scalar.indexCast v647
  let c3968 : Index := 3968#32
  ![1, v737.toNat, 3968]
def k0_off238 (k0_t4 : Fin k0_t4_loop.trips) : Fin 3 → Nat :=
  let c1_624 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v765 : Index := Scalar.indexCast v647
  let c4096 : Index := 4096#32
  ![1, v765.toNat, 4096]
def k0_off239 (k0_t4 : Fin k0_t4_loop.trips) : Fin 3 → Nat :=
  let c1_636 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v793 : Index := Scalar.indexCast v647
  let c4224 : Index := 4224#32
  ![1, v793.toNat, 4224]
def k0_off240 (k0_t4 : Fin k0_t4_loop.trips) : Fin 3 → Nat :=
  let c1_648 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v821 : Index := Scalar.indexCast v647
  let c4352 : Index := 4352#32
  ![1, v821.toNat, 4352]
def k0_off241 (k0_t4 : Fin k0_t4_loop.trips) : Fin 3 → Nat :=
  let c1_660 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v849 : Index := Scalar.indexCast v647
  let c4480 : Index := 4480#32
  ![1, v849.toNat, 4480]
def k0_off242 (k0_t4 : Fin k0_t4_loop.trips) : Fin 3 → Nat :=
  let c1_672 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v877 : Index := Scalar.indexCast v647
  let c4608 : Index := 4608#32
  ![1, v877.toNat, 4608]
def k0_off243 (k0_t4 : Fin k0_t4_loop.trips) : Fin 3 → Nat :=
  let c1_684 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v905 : Index := Scalar.indexCast v647
  let c4736 : Index := 4736#32
  ![1, v905.toNat, 4736]
def k0_off244 (k0_t4 : Fin k0_t4_loop.trips) : Fin 3 → Nat :=
  let c1_696 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v933 : Index := Scalar.indexCast v647
  let c4864 : Index := 4864#32
  ![1, v933.toNat, 4864]
def k0_off245 (k0_t4 : Fin k0_t4_loop.trips) : Fin 3 → Nat :=
  let c1_708 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v961 : Index := Scalar.indexCast v647
  let c4992 : Index := 4992#32
  ![1, v961.toNat, 4992]
def k0_off246 (k0_t4 : Fin k0_t4_loop.trips) : Fin 3 → Nat :=
  let c1_720 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v989 : Index := Scalar.indexCast v647
  let c5120 : Index := 5120#32
  ![1, v989.toNat, 5120]
def k0_off247 (k0_t4 : Fin k0_t4_loop.trips) : Fin 3 → Nat :=
  let c1_732 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1017 : Index := Scalar.indexCast v647
  let c5248 : Index := 5248#32
  ![1, v1017.toNat, 5248]
def k0_off248 (k0_t4 : Fin k0_t4_loop.trips) : Fin 3 → Nat :=
  let c1_744 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1045 : Index := Scalar.indexCast v647
  let c5376 : Index := 5376#32
  ![1, v1045.toNat, 5376]
def k0_off249 (k0_t4 : Fin k0_t4_loop.trips) : Fin 3 → Nat :=
  let c1_756 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1073 : Index := Scalar.indexCast v647
  let c5504 : Index := 5504#32
  ![1, v1073.toNat, 5504]
def k0_off250 (k0_t4 : Fin k0_t4_loop.trips) : Fin 3 → Nat :=
  let c1_768 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1101 : Index := Scalar.indexCast v647
  let c5632 : Index := 5632#32
  ![1, v1101.toNat, 5632]
def k0_off251 (k0_t4 : Fin k0_t4_loop.trips) : Fin 3 → Nat :=
  let c1_780 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1129 : Index := Scalar.indexCast v647
  let c5760 : Index := 5760#32
  ![1, v1129.toNat, 5760]
def k0_off252 (k0_t4 : Fin k0_t4_loop.trips) : Fin 3 → Nat :=
  let c1_792 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1157 : Index := Scalar.indexCast v647
  let c5888 : Index := 5888#32
  ![1, v1157.toNat, 5888]
def k0_off253 (k0_t4 : Fin k0_t4_loop.trips) : Fin 3 → Nat :=
  let c1_804 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1185 : Index := Scalar.indexCast v647
  let c6016 : Index := 6016#32
  ![1, v1185.toNat, 6016]
def k0_off254 (k0_t4 : Fin k0_t4_loop.trips) : Fin 3 → Nat :=
  let c1_816 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1213 : Index := Scalar.indexCast v647
  let c6144 : Index := 6144#32
  ![1, v1213.toNat, 6144]
def k0_off255 (k0_t4 : Fin k0_t4_loop.trips) : Fin 3 → Nat :=
  let c1_828 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1241 : Index := Scalar.indexCast v647
  let c6272 : Index := 6272#32
  ![1, v1241.toNat, 6272]
def k0_off256 (k0_t4 : Fin k0_t4_loop.trips) : Fin 3 → Nat :=
  let c1_840 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1269 : Index := Scalar.indexCast v647
  let c6400 : Index := 6400#32
  ![1, v1269.toNat, 6400]
def k0_off257 (k0_t4 : Fin k0_t4_loop.trips) : Fin 3 → Nat :=
  let c1_852 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1297 : Index := Scalar.indexCast v647
  let c6528 : Index := 6528#32
  ![1, v1297.toNat, 6528]
def k0_off258 (k0_t4 : Fin k0_t4_loop.trips) : Fin 3 → Nat :=
  let c1_864 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1325 : Index := Scalar.indexCast v647
  let c6656 : Index := 6656#32
  ![1, v1325.toNat, 6656]
def k0_off259 (k0_t4 : Fin k0_t4_loop.trips) : Fin 3 → Nat :=
  let c1_876 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1353 : Index := Scalar.indexCast v647
  let c6784 : Index := 6784#32
  ![1, v1353.toNat, 6784]
def k0_off260 (k0_t4 : Fin k0_t4_loop.trips) : Fin 3 → Nat :=
  let c1_888 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1381 : Index := Scalar.indexCast v647
  let c6912 : Index := 6912#32
  ![1, v1381.toNat, 6912]
def k0_off261 (k0_t4 : Fin k0_t4_loop.trips) : Fin 3 → Nat :=
  let c1_900 : Index := 1#32
  let c0_i32_552 : BitVec 32 := 0#32
  let c1_i32_554 : BitVec 32 := 1#32
  let arg40 : BitVec 32 := Scf.iv c0_i32_552 c1_i32_554 k0_t4
  let c32_i32 : BitVec 32 := 32#32
  let v646 : BitVec 32 := Scalar.muli arg40 c32_i32
  let v647 : BitVec 32 := v646
  let v1409 : Index := Scalar.indexCast v647
  let c7040 : Index := 7040#32
  ![1, v1409.toNat, 7040]
def k0_off262 (k0_t4 : Fin k0_t4_loop.trips) (c0_i32_912 : BitVec 32) : Fin 2 → Nat :=
  let c0_i32_552 : BitVec 32 := 0#32
  let c1_i32_554 : BitVec 32 := 1#32
  let arg40 : BitVec 32 := Scf.iv c0_i32_552 c1_i32_554 k0_t4
  let c896_i32 : BitVec 32 := 896#32
  let v648 : BitVec 32 := Scalar.muli arg40 c896_i32
  let v649 : BitVec 32 := v648
  let v1437 : BitVec 32 := Scalar.addi v649 c0_i32_912
  let v1438 : Index := Scalar.indexCast v1437
  let c0_913 : Index := 0#32
  ![v1438.toNat, 0]
def k0_mult21 (k0_t4 : Fin k0_t4_loop.trips) : BitVec 32 :=
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  v2589
def k0_mult22 (k0_t4 : Fin k0_t4_loop.trips) : BitVec 32 :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  v2664
def k0_off263 (k0_t4 : Fin k0_t4_loop.trips) : Fin 3 → Nat :=
  let c1_1352 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2673 : Index := Scalar.indexCast v2590
  let c0_1353 : Index := 0#32
  ![1, v2673.toNat, 0]
def k0_off264 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2682 : Index := Scalar.indexCast v2665
  let c0_1356 : Index := 0#32
  ![v2682.toNat, 0]
def k0_off265 (k0_t4 : Fin k0_t4_loop.trips) : Fin 3 → Nat :=
  let c1_1361 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2693 : Index := Scalar.indexCast v2590
  let c128_1362 : Index := 128#32
  ![1, v2693.toNat, 128]
def k0_off266 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2702 : Index := Scalar.indexCast v2665
  let c128_1365 : Index := 128#32
  ![v2702.toNat, 128]
def k0_off267 (k0_t4 : Fin k0_t4_loop.trips) : Fin 3 → Nat :=
  let c1_1370 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2713 : Index := Scalar.indexCast v2590
  let c256_1371 : Index := 256#32
  ![1, v2713.toNat, 256]
def k0_off268 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2722 : Index := Scalar.indexCast v2665
  let c256_1374 : Index := 256#32
  ![v2722.toNat, 256]
def k0_off269 (k0_t4 : Fin k0_t4_loop.trips) : Fin 3 → Nat :=
  let c1_1379 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2733 : Index := Scalar.indexCast v2590
  let c384_1380 : Index := 384#32
  ![1, v2733.toNat, 384]
def k0_off270 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2742 : Index := Scalar.indexCast v2665
  let c384_1383 : Index := 384#32
  ![v2742.toNat, 384]
def k0_off271 (k0_t4 : Fin k0_t4_loop.trips) : Fin 3 → Nat :=
  let c1_1388 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2753 : Index := Scalar.indexCast v2590
  let c512_1389 : Index := 512#32
  ![1, v2753.toNat, 512]
def k0_off272 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2762 : Index := Scalar.indexCast v2665
  let c512_1392 : Index := 512#32
  ![v2762.toNat, 512]
def k0_off273 (k0_t4 : Fin k0_t4_loop.trips) : Fin 3 → Nat :=
  let c1_1397 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2773 : Index := Scalar.indexCast v2590
  let c640_1398 : Index := 640#32
  ![1, v2773.toNat, 640]
def k0_off274 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2782 : Index := Scalar.indexCast v2665
  let c640_1401 : Index := 640#32
  ![v2782.toNat, 640]
def k0_off275 (k0_t4 : Fin k0_t4_loop.trips) : Fin 3 → Nat :=
  let c1_1406 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2793 : Index := Scalar.indexCast v2590
  let c768_1407 : Index := 768#32
  ![1, v2793.toNat, 768]
def k0_off276 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2802 : Index := Scalar.indexCast v2665
  let c768_1410 : Index := 768#32
  ![v2802.toNat, 768]
def k0_off277 (k0_t4 : Fin k0_t4_loop.trips) : Fin 3 → Nat :=
  let c1_1415 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2813 : Index := Scalar.indexCast v2590
  let c896_1416 : Index := 896#32
  ![1, v2813.toNat, 896]
def k0_off278 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2822 : Index := Scalar.indexCast v2665
  let c896_1419 : Index := 896#32
  ![v2822.toNat, 896]
def k0_off279 (k0_t4 : Fin k0_t4_loop.trips) : Fin 3 → Nat :=
  let c1_1424 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2833 : Index := Scalar.indexCast v2590
  let c1024_1425 : Index := 1024#32
  ![1, v2833.toNat, 1024]
def k0_off280 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2842 : Index := Scalar.indexCast v2665
  let c1024_1428 : Index := 1024#32
  ![v2842.toNat, 1024]
def k0_off281 (k0_t4 : Fin k0_t4_loop.trips) : Fin 3 → Nat :=
  let c1_1433 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2853 : Index := Scalar.indexCast v2590
  let c1152_1434 : Index := 1152#32
  ![1, v2853.toNat, 1152]
def k0_off282 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2862 : Index := Scalar.indexCast v2665
  let c1152_1437 : Index := 1152#32
  ![v2862.toNat, 1152]
def k0_off283 (k0_t4 : Fin k0_t4_loop.trips) : Fin 3 → Nat :=
  let c1_1442 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2873 : Index := Scalar.indexCast v2590
  let c1280_1443 : Index := 1280#32
  ![1, v2873.toNat, 1280]
def k0_off284 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2882 : Index := Scalar.indexCast v2665
  let c1280_1446 : Index := 1280#32
  ![v2882.toNat, 1280]
def k0_off285 (k0_t4 : Fin k0_t4_loop.trips) : Fin 3 → Nat :=
  let c1_1451 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2893 : Index := Scalar.indexCast v2590
  let c1408_1452 : Index := 1408#32
  ![1, v2893.toNat, 1408]
def k0_off286 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2902 : Index := Scalar.indexCast v2665
  let c1408_1455 : Index := 1408#32
  ![v2902.toNat, 1408]
def k0_off287 (k0_t4 : Fin k0_t4_loop.trips) : Fin 3 → Nat :=
  let c1_1460 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2913 : Index := Scalar.indexCast v2590
  let c1536_1461 : Index := 1536#32
  ![1, v2913.toNat, 1536]
def k0_off288 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2922 : Index := Scalar.indexCast v2665
  let c1536_1464 : Index := 1536#32
  ![v2922.toNat, 1536]
def k0_off289 (k0_t4 : Fin k0_t4_loop.trips) : Fin 3 → Nat :=
  let c1_1469 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2933 : Index := Scalar.indexCast v2590
  let c1664_1470 : Index := 1664#32
  ![1, v2933.toNat, 1664]
def k0_off290 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2942 : Index := Scalar.indexCast v2665
  let c1664_1473 : Index := 1664#32
  ![v2942.toNat, 1664]
def k0_off291 (k0_t4 : Fin k0_t4_loop.trips) : Fin 3 → Nat :=
  let c1_1478 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2953 : Index := Scalar.indexCast v2590
  let c1792_1479 : Index := 1792#32
  ![1, v2953.toNat, 1792]
def k0_off292 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2962 : Index := Scalar.indexCast v2665
  let c1792_1482 : Index := 1792#32
  ![v2962.toNat, 1792]
def k0_off293 (k0_t4 : Fin k0_t4_loop.trips) : Fin 3 → Nat :=
  let c1_1487 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2973 : Index := Scalar.indexCast v2590
  let c1920_1488 : Index := 1920#32
  ![1, v2973.toNat, 1920]
def k0_off294 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v2982 : Index := Scalar.indexCast v2665
  let c1920_1491 : Index := 1920#32
  ![v2982.toNat, 1920]
def k0_off295 (k0_t4 : Fin k0_t4_loop.trips) : Fin 3 → Nat :=
  let c1_1496 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2993 : Index := Scalar.indexCast v2590
  let c2048_1497 : Index := 2048#32
  ![1, v2993.toNat, 2048]
def k0_off296 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3002 : Index := Scalar.indexCast v2665
  let c2048_1500 : Index := 2048#32
  ![v3002.toNat, 2048]
def k0_off297 (k0_t4 : Fin k0_t4_loop.trips) : Fin 3 → Nat :=
  let c1_1505 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3013 : Index := Scalar.indexCast v2590
  let c2176_1506 : Index := 2176#32
  ![1, v3013.toNat, 2176]
def k0_off298 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3022 : Index := Scalar.indexCast v2665
  let c2176_1509 : Index := 2176#32
  ![v3022.toNat, 2176]
def k0_off299 (k0_t4 : Fin k0_t4_loop.trips) : Fin 3 → Nat :=
  let c1_1514 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3033 : Index := Scalar.indexCast v2590
  let c2304_1515 : Index := 2304#32
  ![1, v3033.toNat, 2304]
def k0_off300 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3042 : Index := Scalar.indexCast v2665
  let c2304_1518 : Index := 2304#32
  ![v3042.toNat, 2304]
def k0_off301 (k0_t4 : Fin k0_t4_loop.trips) : Fin 3 → Nat :=
  let c1_1523 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3053 : Index := Scalar.indexCast v2590
  let c2432_1524 : Index := 2432#32
  ![1, v3053.toNat, 2432]
def k0_off302 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3062 : Index := Scalar.indexCast v2665
  let c2432_1527 : Index := 2432#32
  ![v3062.toNat, 2432]
def k0_off303 (k0_t4 : Fin k0_t4_loop.trips) : Fin 3 → Nat :=
  let c1_1532 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3073 : Index := Scalar.indexCast v2590
  let c2560_1533 : Index := 2560#32
  ![1, v3073.toNat, 2560]
def k0_off304 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3082 : Index := Scalar.indexCast v2665
  let c2560_1536 : Index := 2560#32
  ![v3082.toNat, 2560]
def k0_off305 (k0_t4 : Fin k0_t4_loop.trips) : Fin 3 → Nat :=
  let c1_1541 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3093 : Index := Scalar.indexCast v2590
  let c2688_1542 : Index := 2688#32
  ![1, v3093.toNat, 2688]
def k0_off306 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3102 : Index := Scalar.indexCast v2665
  let c2688_1545 : Index := 2688#32
  ![v3102.toNat, 2688]
def k0_off307 (k0_t4 : Fin k0_t4_loop.trips) : Fin 3 → Nat :=
  let c1_1550 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3113 : Index := Scalar.indexCast v2590
  let c2816_1551 : Index := 2816#32
  ![1, v3113.toNat, 2816]
def k0_off308 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3122 : Index := Scalar.indexCast v2665
  let c2816_1554 : Index := 2816#32
  ![v3122.toNat, 2816]
def k0_off309 (k0_t4 : Fin k0_t4_loop.trips) : Fin 3 → Nat :=
  let c1_1559 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3133 : Index := Scalar.indexCast v2590
  let c2944_1560 : Index := 2944#32
  ![1, v3133.toNat, 2944]
def k0_off310 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3142 : Index := Scalar.indexCast v2665
  let c2944_1563 : Index := 2944#32
  ![v3142.toNat, 2944]
def k0_off311 (k0_t4 : Fin k0_t4_loop.trips) : Fin 3 → Nat :=
  let c1_1568 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3153 : Index := Scalar.indexCast v2590
  let c3072_1569 : Index := 3072#32
  ![1, v3153.toNat, 3072]
def k0_off312 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3162 : Index := Scalar.indexCast v2665
  let c3072_1572 : Index := 3072#32
  ![v3162.toNat, 3072]
def k0_off313 (k0_t4 : Fin k0_t4_loop.trips) : Fin 3 → Nat :=
  let c1_1577 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3173 : Index := Scalar.indexCast v2590
  let c3200_1578 : Index := 3200#32
  ![1, v3173.toNat, 3200]
def k0_off314 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3182 : Index := Scalar.indexCast v2665
  let c3200_1581 : Index := 3200#32
  ![v3182.toNat, 3200]
def k0_off315 (k0_t4 : Fin k0_t4_loop.trips) : Fin 3 → Nat :=
  let c1_1586 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3193 : Index := Scalar.indexCast v2590
  let c3328_1587 : Index := 3328#32
  ![1, v3193.toNat, 3328]
def k0_off316 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3202 : Index := Scalar.indexCast v2665
  let c3328_1590 : Index := 3328#32
  ![v3202.toNat, 3328]
def k0_off317 (k0_t4 : Fin k0_t4_loop.trips) : Fin 3 → Nat :=
  let c1_1595 : Index := 1#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v3213 : Index := Scalar.indexCast v2590
  let c3456_1596 : Index := 3456#32
  ![1, v3213.toNat, 3456]
def k0_off318 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3222 : Index := Scalar.indexCast v2665
  let c3456_1599 : Index := 3456#32
  ![v3222.toNat, 3456]
def k0_off319 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3242 : Index := Scalar.indexCast v2665
  let c3584_1608 : Index := 3584#32
  ![v3242.toNat, 3584]
def k0_off320 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3262 : Index := Scalar.indexCast v2665
  let c3712_1616 : Index := 3712#32
  ![v3262.toNat, 3712]
def k0_off321 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3282 : Index := Scalar.indexCast v2665
  let c3840_1624 : Index := 3840#32
  ![v3282.toNat, 3840]
def k0_off322 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3302 : Index := Scalar.indexCast v2665
  let c3968_1632 : Index := 3968#32
  ![v3302.toNat, 3968]
def k0_off323 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3322 : Index := Scalar.indexCast v2665
  let c4096_1641 : Index := 4096#32
  ![v3322.toNat, 4096]
def k0_off324 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3342 : Index := Scalar.indexCast v2665
  let c4224_1649 : Index := 4224#32
  ![v3342.toNat, 4224]
def k0_off325 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3362 : Index := Scalar.indexCast v2665
  let c4352_1657 : Index := 4352#32
  ![v3362.toNat, 4352]
def k0_off326 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3382 : Index := Scalar.indexCast v2665
  let c4480_1665 : Index := 4480#32
  ![v3382.toNat, 4480]
def k0_off327 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3402 : Index := Scalar.indexCast v2665
  let c4608_1673 : Index := 4608#32
  ![v3402.toNat, 4608]
def k0_off328 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3422 : Index := Scalar.indexCast v2665
  let c4736_1681 : Index := 4736#32
  ![v3422.toNat, 4736]
def k0_off329 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3442 : Index := Scalar.indexCast v2665
  let c4864_1689 : Index := 4864#32
  ![v3442.toNat, 4864]
def k0_off330 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3462 : Index := Scalar.indexCast v2665
  let c4992_1697 : Index := 4992#32
  ![v3462.toNat, 4992]
def k0_off331 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3482 : Index := Scalar.indexCast v2665
  let c5120_1706 : Index := 5120#32
  ![v3482.toNat, 5120]
def k0_off332 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3502 : Index := Scalar.indexCast v2665
  let c5248_1714 : Index := 5248#32
  ![v3502.toNat, 5248]
def k0_off333 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3522 : Index := Scalar.indexCast v2665
  let c5376_1722 : Index := 5376#32
  ![v3522.toNat, 5376]
def k0_off334 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3542 : Index := Scalar.indexCast v2665
  let c5504_1730 : Index := 5504#32
  ![v3542.toNat, 5504]
def k0_off335 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3562 : Index := Scalar.indexCast v2665
  let c5632_1738 : Index := 5632#32
  ![v3562.toNat, 5632]
def k0_off336 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3582 : Index := Scalar.indexCast v2665
  let c5760_1746 : Index := 5760#32
  ![v3582.toNat, 5760]
def k0_off337 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3602 : Index := Scalar.indexCast v2665
  let c5888_1754 : Index := 5888#32
  ![v3602.toNat, 5888]
def k0_off338 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3622 : Index := Scalar.indexCast v2665
  let c6016_1762 : Index := 6016#32
  ![v3622.toNat, 6016]
def k0_off339 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3642 : Index := Scalar.indexCast v2665
  let c6144_1771 : Index := 6144#32
  ![v3642.toNat, 6144]
def k0_off340 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3662 : Index := Scalar.indexCast v2665
  let c6272_1779 : Index := 6272#32
  ![v3662.toNat, 6272]
def k0_off341 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3682 : Index := Scalar.indexCast v2665
  let c6400_1787 : Index := 6400#32
  ![v3682.toNat, 6400]
def k0_off342 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3702 : Index := Scalar.indexCast v2665
  let c6528_1795 : Index := 6528#32
  ![v3702.toNat, 6528]
def k0_off343 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3722 : Index := Scalar.indexCast v2665
  let c6656_1803 : Index := 6656#32
  ![v3722.toNat, 6656]
def k0_off344 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3742 : Index := Scalar.indexCast v2665
  let c6784_1811 : Index := 6784#32
  ![v3742.toNat, 6784]
def k0_off345 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3762 : Index := Scalar.indexCast v2665
  let c6912_1819 : Index := 6912#32
  ![v3762.toNat, 6912]
def k0_off346 (k0_t4 : Fin k0_t4_loop.trips) : Fin 2 → Nat :=
  let c128_i32 : BitVec 32 := 128#32
  let c0_i32_552 : BitVec 32 := 0#32
  let c1_i32_554 : BitVec 32 := 1#32
  let arg40 : BitVec 32 := Scf.iv c0_i32_552 c1_i32_554 k0_t4
  let c32_i32_1312 : BitVec 32 := 32#32
  let v2589 : BitVec 32 := Scalar.muli arg40 c32_i32_1312
  let v2590 : BitVec 32 := v2589
  let v2664 : BitVec 32 := Scalar.addi c128_i32 v2590
  let v2665 : BitVec 32 := v2664
  let v3782 : Index := Scalar.indexCast v2665
  let c7040_1827 : Index := 7040#32
  ![v3782.toNat, 7040]
@[reducible] def k0_t5_loop : Scf.Loop 32 :=
  let c0_i32_564 : BitVec 32 := 0#32
  let c10_i32 : BitVec 32 := 10#32
  let v638 : BitVec 32 := Scalar.addi c0_i32_564 c10_i32
  let c1_i32_565 : BitVec 32 := 1#32
  ⟨c0_i32_564, v638, c1_i32_565⟩
def k0_mult23 (k0_t5 : Fin k0_t5_loop.trips) : BitVec 32 :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let c512_i32_576 : BitVec 32 := 512#32
  let v648 : BitVec 32 := Scalar.muli v647 c512_i32_576
  v648
def k0_off347 (k0_t5 : Fin k0_t5_loop.trips) : Fin 1 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  ![v647.toNat]
def k0_off348 (k0_t5 : Fin k0_t5_loop.trips) : Fin 3 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let c0_i32_577 : BitVec 32 := 0#32
  let c0_i32_578 : BitVec 32 := 0#32
  ![v647.toNat, 0, 0]
def k0_off349 (k0_t5 : Fin k0_t5_loop.trips) : Fin 2 → Nat :=
  let c0_i32_579 : BitVec 32 := 0#32
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let c512_i32_576 : BitVec 32 := 512#32
  let v648 : BitVec 32 := Scalar.muli v647 c512_i32_576
  let v649 : BitVec 32 := v648
  ![0, v649.toNat]
def k0_off350 (k0_t5 : Fin k0_t5_loop.trips) : Fin 3 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let v656 : Index := Scalar.indexCast v647
  let c0_582 : Index := 0#32
  let c0_583 : Index := 0#32
  ![v656.toNat, 0, 0]
def k0_off351 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let v665 : Index := Scalar.indexCast v647
  let c0_588 : Index := 0#32
  let c0_589 : Index := 0#32
  let c0_590 : Index := 0#32
  ![v665.toNat, 0, 0, 0]
def k0_off352 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let v672 : Index := Scalar.indexCast v647
  let c0_591 : Index := 0#32
  let c0_592 : Index := 0#32
  let c128_593 : Index := 128#32
  ![v672.toNat, 0, 0, 128]
def k0_off353 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let v679 : Index := Scalar.indexCast v647
  let c0_594 : Index := 0#32
  let c0_595 : Index := 0#32
  let c256_596 : Index := 256#32
  ![v679.toNat, 0, 0, 256]
def k0_off354 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let v686 : Index := Scalar.indexCast v647
  let c0_597 : Index := 0#32
  let c0_598 : Index := 0#32
  let c384_599 : Index := 384#32
  ![v686.toNat, 0, 0, 384]
def k0_off355 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let v695 : Index := Scalar.indexCast v647
  let c1_603 : Index := 1#32
  let c0_604 : Index := 0#32
  let c0_605 : Index := 0#32
  ![v695.toNat, 1, 0, 0]
def k0_off356 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let v702 : Index := Scalar.indexCast v647
  let c1_606 : Index := 1#32
  let c0_607 : Index := 0#32
  let c128_608 : Index := 128#32
  ![v702.toNat, 1, 0, 128]
def k0_off357 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let v709 : Index := Scalar.indexCast v647
  let c1_609 : Index := 1#32
  let c0_610 : Index := 0#32
  let c256_611 : Index := 256#32
  ![v709.toNat, 1, 0, 256]
def k0_off358 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let v716 : Index := Scalar.indexCast v647
  let c1_612 : Index := 1#32
  let c0_613 : Index := 0#32
  let c384_614 : Index := 384#32
  ![v716.toNat, 1, 0, 384]
def k0_mult24 (k0_t5 : Fin k0_t5_loop.trips) : BitVec 32 :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let c512_i32_615 : BitVec 32 := 512#32
  let v720 : BitVec 32 := Scalar.muli v647 c512_i32_615
  v720
def k0_off359 (k0_t5 : Fin k0_t5_loop.trips) : Fin 2 → Nat :=
  let c0_i32_618 : BitVec 32 := 0#32
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  ![0, v647.toNat]
def k0_off360 (k0_t5 : Fin k0_t5_loop.trips) : Fin 3 → Nat :=
  let c0_i32_617 : BitVec 32 := 0#32
  let c0_i32_619 : BitVec 32 := 0#32
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let c512_i32_615 : BitVec 32 := 512#32
  let v720 : BitVec 32 := Scalar.muli v647 c512_i32_615
  let v721 : BitVec 32 := v720
  ![0, 0, v721.toNat]
def k0_off361 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let c0_i32_616 : BitVec 32 := 0#32
  let c0_i32_620 : BitVec 32 := 0#32
  let c0_i32_621 : BitVec 32 := 0#32
  ![v647.toNat, 0, 0, 0]
def k0_mult25 (k0_t5 : Fin k0_t5_loop.trips) : BitVec 32 :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let c512_i32_622 : BitVec 32 := 512#32
  let v728 : BitVec 32 := Scalar.muli v647 c512_i32_622
  v728
def k0_off362 (k0_t5 : Fin k0_t5_loop.trips) : Fin 2 → Nat :=
  let c1_i32_625 : BitVec 32 := 1#32
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  ![1, v647.toNat]
def k0_off363 (k0_t5 : Fin k0_t5_loop.trips) : Fin 3 → Nat :=
  let c1_i32_624 : BitVec 32 := 1#32
  let c0_i32_626 : BitVec 32 := 0#32
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let c512_i32_622 : BitVec 32 := 512#32
  let v728 : BitVec 32 := Scalar.muli v647 c512_i32_622
  let v729 : BitVec 32 := v728
  ![1, 0, v729.toNat]
def k0_off364 (k0_t5 : Fin k0_t5_loop.trips) : Fin 4 → Nat :=
  let c0_i32_575 : BitVec 32 := 0#32
  let c0_i32_564 : BitVec 32 := 0#32
  let c1_i32_565 : BitVec 32 := 1#32
  let arg40 : BitVec 32 := Scf.iv c0_i32_564 c1_i32_565 k0_t5
  let c1_i32_574 : BitVec 32 := 1#32
  let v646 : BitVec 32 := Scalar.muli arg40 c1_i32_574
  let v647 : BitVec 32 := Scalar.addi c0_i32_575 v646
  let c1_i32_623 : BitVec 32 := 1#32
  let c0_i32_627 : BitVec 32 := 0#32
  let c0_i32_628 : BitVec 32 := 0#32
  ![v647.toNat, 1, 0, 0]
@[reducible] def k0_t6_loop : Scf.Loop 32 :=
  let c0_i32_567 : BitVec 32 := 0#32
  let c10_i32_568 : BitVec 32 := 10#32
  let v639 : BitVec 32 := Scalar.addi c0_i32_567 c10_i32_568
  let c1_i32_569 : BitVec 32 := 1#32
  ⟨c0_i32_567, v639, c1_i32_569⟩
def k0_mult26 (k0_t6 : Fin k0_t6_loop.trips) : BitVec 32 :=
  let c0_i32_575 : BitVec 32 := 0#32
  let c0_i32_567 : BitVec 32 := 0#32
  let c1_i32_569 : BitVec 32 := 1#32
  let arg40 : BitVec 32 := Scf.iv c0_i32_567 c1_i32_569 k0_t6
  let c1_i32_574 : BitVec 32 := 1#32
  let v646 : BitVec 32 := Scalar.muli arg40 c1_i32_574
  let v647 : BitVec 32 := Scalar.addi c0_i32_575 v646
  let c512_i32_576 : BitVec 32 := 512#32
  let v648 : BitVec 32 := Scalar.muli v647 c512_i32_576
  v648
def k0_off365 (k0_t6 : Fin k0_t6_loop.trips) : Fin 2 → Nat :=
  let c0_i32_579 : BitVec 32 := 0#32
  let c0_i32_575 : BitVec 32 := 0#32
  let c0_i32_567 : BitVec 32 := 0#32
  let c1_i32_569 : BitVec 32 := 1#32
  let arg40 : BitVec 32 := Scf.iv c0_i32_567 c1_i32_569 k0_t6
  let c1_i32_574 : BitVec 32 := 1#32
  let v646 : BitVec 32 := Scalar.muli arg40 c1_i32_574
  let v647 : BitVec 32 := Scalar.addi c0_i32_575 v646
  ![0, v647.toNat]
def k0_off366 (k0_t6 : Fin k0_t6_loop.trips) : Fin 3 → Nat :=
  let c0_i32_578 : BitVec 32 := 0#32
  let c0_i32_580 : BitVec 32 := 0#32
  let c0_i32_575 : BitVec 32 := 0#32
  let c0_i32_567 : BitVec 32 := 0#32
  let c1_i32_569 : BitVec 32 := 1#32
  let arg40 : BitVec 32 := Scf.iv c0_i32_567 c1_i32_569 k0_t6
  let c1_i32_574 : BitVec 32 := 1#32
  let v646 : BitVec 32 := Scalar.muli arg40 c1_i32_574
  let v647 : BitVec 32 := Scalar.addi c0_i32_575 v646
  let c512_i32_576 : BitVec 32 := 512#32
  let v648 : BitVec 32 := Scalar.muli v647 c512_i32_576
  let v649 : BitVec 32 := v648
  ![0, 0, v649.toNat]
def k0_off367 (k0_t6 : Fin k0_t6_loop.trips) : Fin 4 → Nat :=
  let c0_i32_575 : BitVec 32 := 0#32
  let c0_i32_567 : BitVec 32 := 0#32
  let c1_i32_569 : BitVec 32 := 1#32
  let arg40 : BitVec 32 := Scf.iv c0_i32_567 c1_i32_569 k0_t6
  let c1_i32_574 : BitVec 32 := 1#32
  let v646 : BitVec 32 := Scalar.muli arg40 c1_i32_574
  let v647 : BitVec 32 := Scalar.addi c0_i32_575 v646
  let c0_i32_577 : BitVec 32 := 0#32
  let c0_i32_581 : BitVec 32 := 0#32
  let c0_i32_582 : BitVec 32 := 0#32
  ![v647.toNat, 0, 0, 0]
def k0_mult27 (k0_t6 : Fin k0_t6_loop.trips) : BitVec 32 :=
  let c0_i32_575 : BitVec 32 := 0#32
  let c0_i32_567 : BitVec 32 := 0#32
  let c1_i32_569 : BitVec 32 := 1#32
  let arg40 : BitVec 32 := Scf.iv c0_i32_567 c1_i32_569 k0_t6
  let c1_i32_574 : BitVec 32 := 1#32
  let v646 : BitVec 32 := Scalar.muli arg40 c1_i32_574
  let v647 : BitVec 32 := Scalar.addi c0_i32_575 v646
  let c512_i32_583 : BitVec 32 := 512#32
  let v656 : BitVec 32 := Scalar.muli v647 c512_i32_583
  v656
def k0_off368 (k0_t6 : Fin k0_t6_loop.trips) : Fin 2 → Nat :=
  let c1_i32_586 : BitVec 32 := 1#32
  let c0_i32_575 : BitVec 32 := 0#32
  let c0_i32_567 : BitVec 32 := 0#32
  let c1_i32_569 : BitVec 32 := 1#32
  let arg40 : BitVec 32 := Scf.iv c0_i32_567 c1_i32_569 k0_t6
  let c1_i32_574 : BitVec 32 := 1#32
  let v646 : BitVec 32 := Scalar.muli arg40 c1_i32_574
  let v647 : BitVec 32 := Scalar.addi c0_i32_575 v646
  ![1, v647.toNat]
def k0_off369 (k0_t6 : Fin k0_t6_loop.trips) : Fin 3 → Nat :=
  let c1_i32_585 : BitVec 32 := 1#32
  let c0_i32_587 : BitVec 32 := 0#32
  let c0_i32_575 : BitVec 32 := 0#32
  let c0_i32_567 : BitVec 32 := 0#32
  let c1_i32_569 : BitVec 32 := 1#32
  let arg40 : BitVec 32 := Scf.iv c0_i32_567 c1_i32_569 k0_t6
  let c1_i32_574 : BitVec 32 := 1#32
  let v646 : BitVec 32 := Scalar.muli arg40 c1_i32_574
  let v647 : BitVec 32 := Scalar.addi c0_i32_575 v646
  let c512_i32_583 : BitVec 32 := 512#32
  let v656 : BitVec 32 := Scalar.muli v647 c512_i32_583
  let v657 : BitVec 32 := v656
  ![1, 0, v657.toNat]
def k0_off370 (k0_t6 : Fin k0_t6_loop.trips) : Fin 4 → Nat :=
  let c0_i32_575 : BitVec 32 := 0#32
  let c0_i32_567 : BitVec 32 := 0#32
  let c1_i32_569 : BitVec 32 := 1#32
  let arg40 : BitVec 32 := Scf.iv c0_i32_567 c1_i32_569 k0_t6
  let c1_i32_574 : BitVec 32 := 1#32
  let v646 : BitVec 32 := Scalar.muli arg40 c1_i32_574
  let v647 : BitVec 32 := Scalar.addi c0_i32_575 v646
  let c1_i32_584 : BitVec 32 := 1#32
  let c0_i32_588 : BitVec 32 := 0#32
  let c0_i32_589 : BitVec 32 := 0#32
  ![v647.toNat, 1, 0, 0]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S2x128x3584 : Shape := ⟨3, ![2, 128, 3584]⟩
abbrev S2x128 : Shape := ⟨2, ![2, 128]⟩
abbrev S2x128x7168 : Shape := ⟨3, ![2, 128, 7168]⟩
abbrev S2x3584 : Shape := ⟨2, ![2, 3584]⟩
abbrev S7168x5120 : Shape := ⟨2, ![7168, 5120]⟩
abbrev S7168 : Shape := ⟨1, ![7168]⟩
abbrev S2x128x5120 : Shape := ⟨3, ![2, 128, 5120]⟩
abbrev S2x128x1 : Shape := ⟨3, ![2, 128, 1]⟩
abbrev S2x1x3584 : Shape := ⟨3, ![2, 1, 3584]⟩
abbrev S7168x1 : Shape := ⟨2, ![7168, 1]⟩
abbrev S1x128x7168 : Shape := ⟨3, ![1, 128, 7168]⟩
abbrev S128x7168 : Shape := ⟨2, ![128, 7168]⟩
abbrev S128x5120 : Shape := ⟨2, ![128, 5120]⟩
abbrev S1x128 : Shape := ⟨2, ![1, 128]⟩
abbrev S128 : Shape := ⟨1, ![128]⟩
abbrev S128x1 : Shape := ⟨2, ![128, 1]⟩
abbrev S1x128x5120 : Shape := ⟨3, ![1, 128, 5120]⟩

abbrev nBuf : Space → Nat
  | .hbm => 11
  | .vmem => 16
  | .smem => 0
  | _ => 0

abbrev bufTy : (tb : Table) → Fin (tcTables nBuf tb) → BufTy
  | .hbm, ⟨0, _⟩ => ⟨S2x128x3584, .fp8e5m2⟩
  | .hbm, ⟨1, _⟩ => ⟨S2x128, .f32⟩
  | .hbm, ⟨2, _⟩ => ⟨S2x128x7168, .fp8e4m3⟩
  | .hbm, ⟨3, _⟩ => ⟨S2x128, .f32⟩
  | .hbm, ⟨4, _⟩ => ⟨S2x3584, .f32⟩
  | .hbm, ⟨5, _⟩ => ⟨S7168x5120, .fp8e4m3⟩
  | .hbm, ⟨6, _⟩ => ⟨S7168, .f32⟩
  | .hbm, ⟨7, _⟩ => ⟨S2x128x5120, .bf16⟩
  | .hbm, ⟨8, _⟩ => ⟨S2x3584, .f32⟩
  | .hbm, ⟨9, _⟩ => ⟨S2x128x7168, .fp8e5m2⟩
  | .hbm, ⟨10, _⟩ => ⟨S2x128, .f32⟩
  | .local _ .vmem, ⟨0, _⟩ => ⟨S2x128x3584, .fp8e5m2⟩
  | .local _ .vmem, ⟨1, _⟩ => ⟨S2x128, .f32⟩
  | .local _ .vmem, ⟨2, _⟩ => ⟨S2x128x7168, .fp8e4m3⟩
  | .local _ .vmem, ⟨3, _⟩ => ⟨S2x128, .f32⟩
  | .local _ .vmem, ⟨4, _⟩ => ⟨S2x3584, .f32⟩
  | .local _ .vmem, ⟨5, _⟩ => ⟨S7168x5120, .fp8e4m3⟩
  | .local _ .vmem, ⟨6, _⟩ => ⟨S7168, .f32⟩
  | .local _ .vmem, ⟨7, _⟩ => ⟨S2x128x5120, .bf16⟩
  | .local _ .vmem, ⟨8, _⟩ => ⟨S2x3584, .f32⟩
  | .local _ .vmem, ⟨9, _⟩ => ⟨S2x128x7168, .fp8e5m2⟩
  | .local _ .vmem, ⟨10, _⟩ => ⟨S2x128, .f32⟩
  | .local _ .vmem, ⟨11, _⟩ => ⟨S2x128x3584, .f32⟩
  | .local _ .vmem, ⟨12, _⟩ => ⟨S2x128x3584, .f32⟩
  | .local _ .vmem, ⟨13, _⟩ => ⟨S2x128x3584, .f32⟩
  | .local _ .vmem, ⟨14, _⟩ => ⟨S2x128x3584, .f32⟩
  | .local _ .vmem, ⟨15, _⟩ => ⟨S2x128x3584, .f32⟩
  | _, _ => ⟨S2x128x3584, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

@[reducible] def k0_t1_loop : Scf.Loop 32 :=
  let c0_i32 : BitVec 32 := 0#32
  let c128_i32 : BitVec 32 := 128#32
  let v45 : BitVec 32 := Scalar.addi c0_i32 c128_i32
  let c1_i32 : BitVec 32 := 1#32
  ⟨c0_i32, v45, c1_i32⟩
def k0_off1 (k0_t1 : Fin k0_t1_loop.trips) : Fin 3 → Nat :=
  let c0_71 : Index := 0#32
  let c0_i32 : BitVec 32 := 0#32
  let c1_i32 : BitVec 32 := 1#32
  let arg16 : BitVec 32 := Scf.iv c0_i32 c1_i32 k0_t1
  let v127 : Index := Scalar.indexCast arg16
  let c0_72 : Index := 0#32
  ![0, v127.toNat, 0]
@[reducible] def k0_t2_loop : Scf.Loop 32 :=
  let c0_i32_33 : BitVec 32 := 0#32
  let c128_i32_34 : BitVec 32 := 128#32
  let v48 : BitVec 32 := Scalar.addi c0_i32_33 c128_i32_34
  let c1_i32_35 : BitVec 32 := 1#32
  ⟨c0_i32_33, v48, c1_i32_35⟩
def k0_off2 (k0_t2 : Fin k0_t2_loop.trips) : Fin 3 → Nat :=
  let c0_71 : Index := 0#32
  let c127_i32 : BitVec 32 := 127#32
  let c0_i32_33 : BitVec 32 := 0#32
  let c1_i32_35 : BitVec 32 := 1#32
  let arg16 : BitVec 32 := Scf.iv c0_i32_33 c1_i32_35 k0_t2
  let v127 : BitVec 32 := Scalar.subi c127_i32 arg16
  let v128 : Index := Scalar.indexCast v127
  let c0_72 : Index := 0#32
  ![0, v128.toNat, 0]
abbrev stage0_0 : Fin 1 → Memref sig .tc .vmem S2x128x3584 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3584 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x7168 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.K.Ev.lean ====
module

public import proofs.«01_k».proof.Proof.Gen.Kernel
public import proofs.«01_k».proof.Proof.Gen.Kernel.Launch
public import Idealize.ShloMosaic.Lib.Pipeline.KitQuiescent
public import Idealize.ShloMosaic.Lib.Ring
public import Idealize.ShloMosaic.Lib.Tactic
public import Mathlib.Tactic.IntervalCases

@[expose] public section

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Shapes1.Facts₀ K0.Facts₀ Facts

variable {F : FTy → Type} [FloatOps F]

/-! ## Resources -/

/-- The pipeline library's resources beside the counters of the kernel's own transfers. -/
abbrev UU : Type := UR sig nD τ × Counters
/-- The resources of the program logic. -/
abbrev MM (F : FTy → Type) : Type _ := MT nD τ sig Unit (Elt F) ℕ UU ℕ
/-- No loop variants. -/
abbrev 𝒱₀ : Variants := Variants.none

/-- The kernel's effects. -/
abbrev PG (F : FTy → Type) [FloatOps F] (α : Type) : Type _ := Prog (TpuEff nD τ sig (Elt F) Λ₀ .tc) α

/-- The weakest precondition of a stretch of the kernel on device `c`. -/
abbrev WP (c : Dev nD) {α : Type} (p : PG F α) (Q : α → sProp (MM F)) : sProp (MM F) :=
  wp frame (wpE (defs₀ (F := F)) 𝒱₀ (c : Thread nD τ) none) Set.univ p Q

theorem entails_of_eq {P Q : sProp (MM F)} (e : P = Q) : P ⊢ Q := e ▸ .rfl

/-! ## The memory of the kernel's buffers -/

/-- The kernel's `n`-th buffer. -/
abbrev bref (n : Fin 24) : Ref sig .tc := ⟨.vmem, n, rfl⟩

/-- The contents of the buffers. -/
abbrev Mem (F : FTy → Type) : Type := (n : Fin 24) → (bref n).ty.Contents (Elt F)
/-- The elements held of each buffer. -/
abbrev Own : Type := (n : Fin 24) → Finset (bref n).ty.shape.Idx

/-- The buffers of `L` held at the elements `I`, their contents `σ`. -/
def Held (c : Dev nD) (L : Finset (Fin 24)) (I : Own) (σ : Mem F) : sProp (MM F) :=
  bigSep L fun n => ((c : Thread nD τ).loc (bref n)) ↦[I n]{fullShare} σ n

/-- The contents `f` with the rectangle `r` overwritten by `w`. -/
def st {s : Shape} {α : Type} (r : LoadRect s) (w : r.shape.Idx → α) (f : s.Idx → α) : s.Idx → α := fun i =>
  if h : ∀ a, r.off a ≤ i a ∧ (i a - r.off a) % r.stride a = 0 ∧ (i a - r.off a) / r.stride a < r.size a then
    w fun a => ⟨(i a - r.off a) / r.stride a, (h a).2.2⟩ else f i

/-- The memory after a store to buffer `n`. -/
def upd (σ : Mem F) (n : Fin 24) (f : (bref n).ty.Contents (Elt F)) : Mem F := Function.update σ n f

theorem upd_same (σ : Mem F) (n : Fin 24) (f : (bref n).ty.Contents (Elt F)) : upd σ n f n = f := Function.update_self _ _ _
theorem upd_ne (σ : Mem F) {n k : Fin 24} (h : k ≠ n) (f : (bref n).ty.Contents (Elt F)) : upd σ n f k = σ k :=
  Function.update_of_ne h _ _

/-- A store through a whole buffer overwrites the rectangle. -/
theorem write_eq_st (b : Ref sig .tc) (r : Rect b.ty.shape) (f : b.ty.Contents (Elt F)) (w : r.shape.Idx → Elt F b.ty.elt) :
    ((Memref.whole b : Memref sig .tc _ _ _).access r).write (Elt F) f w Finset.univ = st r.toLoadRect w f := by
  funext i
  unfold st
  split
  · next h =>
    have e : i = ((Memref.whole b : Memref sig .tc _ _ _).access r).emb (fun a => ⟨(i a - r.off a) / r.stride a, (h a).2.2⟩) := by
      funext a
      refine Fin.ext ?_
      show (i a : ℕ) = r.off a + r.stride a * ((i a - r.off a) / r.stride a)
      have h1 := h a
      rw [Nat.mul_div_cancel' (Nat.dvd_of_mod_eq_zero h1.2.1)]; omega
    conv_lhs => rw [e]
    rw [View.write_emb_of_mem (h := Finset.mem_univ _)]; rfl
  · next h =>
    refine View.write_of_not_mem _ _ _ ?_
    rw [View.setOn_univ, View.set_slice_whole, LoadRect.mem_set]
    intro hm
    refine h fun a => ?_
    obtain ⟨j, hj, e⟩ := hm a
    have hs := r.stride_pos a
    rw [e, Nat.add_sub_cancel_left, Nat.mul_mod_right, Nat.mul_div_cancel_left _ hs]
    exact ⟨Nat.le_add_right _ _, rfl, hj⟩

/-! ## Triples of stretches that only load and store -/

/-- From the memory `σ` the stretch `p` ends with a value and a memory in `Φ`. -/
def T (c : Dev nD) (L : Finset (Fin 24)) (I : Own) {α : Type} (p : PG F α) (σ : Mem F) (Φ : α → Mem F → Prop) : Prop :=
  ∀ Q : α → sProp (MM F), iprop(Held c L I σ ∗ (∀ a σ', ⌜Φ a σ'⌝ -∗ Held c L I σ' -∗ Q a)) ⊢ WP c p Q

variable {c : Dev nD} {L : Finset (Fin 24)} {I : Own} {α β : Type}

theorem T_ret {a : α} {σ : Mem F} {Φ : α → Mem F → Prop} (h : Φ a σ) : T c L I (.ret a : PG F α) σ Φ := by
  intro Q
  unfold WP
  rw [wp_ret]
  iintro ⟨H, HQ⟩
  imodintro
  iapply HQ $$ %a %σ %h H

theorem T_pure {a : α} {σ : Mem F} {Φ : α → Mem F → Prop} (h : Φ a σ) : T c L I (pure a : PG F α) σ Φ := T_ret h

theorem T_mono {p : PG F α} {σ : Mem F} {Φ Ψ : α → Mem F → Prop} (hp : T c L I p σ Φ) (h : ∀ a σ', Φ a σ' → Ψ a σ') : T c L I p σ Ψ := by
  intro Q
  iintro ⟨H, HQ⟩
  iapply (hp Q)
  isplitl [H]; · iexact H
  iintro %a %σ' %h' H
  iapply HQ $$ %a %σ' %(h a σ' h') H

theorem T_bind {p : PG F α} {k : α → PG F β} {σ : Mem F} {Φ : α → Mem F → Prop} {Ψ : β → Mem F → Prop} (hp : T c L I p σ Φ)
    (hk : ∀ a σ', Φ a σ' → T c L I (k a) σ' Ψ) : T c L I (p >>= k) σ Ψ := by
  intro Q
  unfold WP
  rw [wp_bind]
  iintro ⟨H, HQ⟩
  iapply (hp _)
  isplitl [H]; · iexact H
  iintro %a %σ' %h' H
  iapply (hk a σ' h' Q)
  isplitl [H]; · iexact H
  iexact HQ

/-- One buffer apart from the rest. -/
theorem Held_split (σ : Mem F) {n : Fin 24} (hn : n ∈ L) :
    Held c L I σ = iprop((((c : Thread nD τ).loc (bref n)) ↦[I n]{fullShare} σ n) ∗ bigSep (L.erase n) fun n => ((c : Thread nD τ).loc (bref n)) ↦[I n]{fullShare} σ n) := by
  unfold Held; exact bigSep_erase hn

theorem Held_upd (σ : Mem F) {n : Fin 24} (hn : n ∈ L) (f : (bref n).ty.Contents (Elt F)) :
    Held c L I (upd σ n f) = iprop((((c : Thread nD τ).loc (bref n)) ↦[I n]{fullShare} f) ∗ bigSep (L.erase n) fun n => ((c : Thread nD τ).loc (bref n)) ↦[I n]{fullShare} σ n) := by
  rw [Held_split _ hn, upd_same]
  congr 1
  exact bigSep_congr fun k hk => by rw [upd_ne _ (Finset.ne_of_mem_erase hk)]

theorem T_load (n : Fin 24) {r : LoadRect (bref n).ty.shape} {hl : (Memref.whole (bref n) : Memref sig .tc .vmem _ _).view.LoadsAt r}
    {k : (r.shape.Idx → Elt F (bref n).ty.elt) → PG F β} {σ : Mem F} {Ψ : β → Mem F → Prop} (hn : n ∈ L) (hr : ∀ x, r.idx x ∈ I n)
    (hk : T c L I (k fun x => σ n (r.idx x)) σ Ψ) :
    T c L I (.op (.load (Memref.whole (bref n) : Memref sig .tc .vmem _ _) r hl) k) σ Ψ := by
  intro Q
  iintro ⟨H, HQ⟩
  ihave H' := (entails_of_eq (Held_split (c := c) (I := I) σ hn)) $$ H
  icases H' with ⟨Hn, HR⟩
  iapply (wp_load 𝒱₀ (c : Thread nD τ) none Set.univ (m := (Memref.whole (bref n) : Memref sig .tc .vmem _ _)) (S := I n) ?_) $$ Hn
  · intro i hi
    obtain ⟨j, hj, rfl⟩ := Finset.mem_map.mp hi
    obtain ⟨x, rfl⟩ := r.exists_idx_of_mem hj
    exact hr x
  iintro Hn
  iapply (hk Q)
  isplitl [Hn HR]
  · iapply (entails_of_eq (Held_split (c := c) (I := I) σ hn).symm)
    isplitl [Hn]; · iexact Hn
    iexact HR
  iexact HQ

theorem T_store (n : Fin 24) {r : Rect (bref n).ty.shape} {w : r.shape.Idx → Elt F (bref n).ty.elt}
    {hx : ((Memref.whole (bref n) : Memref sig .tc .vmem _ _).access r).Stores Finset.univ} {hm : Finset.univ = Finset.univ ∨ ∀ a, r.stride a = 1}
    {k : PUnit → PG F β} {σ : Mem F} {Ψ : β → Mem F → Prop} (hn : n ∈ L) (hr : ∀ x, r.idx x ∈ I n)
    (hk : T c L I (k ⟨⟩) (upd σ n (st r.toLoadRect w (σ n))) Ψ) :
    T c L I (.op (.store (Memref.whole (bref n) : Memref sig .tc .vmem _ _) r w Finset.univ hx hm) k) σ Ψ := by
  intro Q
  iintro ⟨H, HQ⟩
  ihave H' := (entails_of_eq (Held_split (c := c) (I := I) σ hn)) $$ H
  icases H' with ⟨Hn, HR⟩
  iapply (wp_store 𝒱₀ (c : Thread nD τ) none Set.univ (m := (Memref.whole (bref n) : Memref sig .tc .vmem _ _)) (r := r) (S := I n) ?_) $$ Hn
  · intro i hi
    obtain ⟨j, hj, rfl⟩ := Finset.mem_map.mp hi
    exact hr j
  iintro Hn
  iapply (hk Q)
  isplitl [Hn HR]
  · iapply (entails_of_eq (Held_upd (c := c) (I := I) σ hn _).symm)
    isplitl [Hn]
    · iapply (entails_of_eq (congrArg (fun f => ((((c : Thread nD τ).loc (bref n)) ↦[I n]{fullShare} f) : sProp (MM F))) (write_eq_st (bref n) r (σ n) w))); iexact Hn
    iexact HR
  iexact HQ

/-- A loop by an invariant. -/
theorem T_for {w : ℕ} (lb ub sp : BitVec w) (hok : Scf.OK lb ub sp) (init : α) (body : Fin (Scf.trips lb ub sp) → α → PG F α)
    (J : ℕ → α → Mem F → Prop) {σ : Mem F} {Ψ : α → Mem F → Prop} (h0 : J 0 init σ)
    (hbody : ∀ (k : Fin (Scf.trips lb ub sp)) (a : α) (σ' : Mem F), J k a σ' → T c L I (body k a) σ' (J (k.val + 1)))
    (hend : ∀ a σ', J (Scf.trips lb ub sp) a σ' → Ψ a σ') :
    T c L I (Scf.for lb ub sp hok init body) σ Ψ := by
  intro Q
  iintro ⟨H, HQ⟩
  iapply (Scf.wp_for _ _ _ lb ub sp hok init body (fun k a => iprop(∃ σ', ⌜J k a σ'⌝ ∗ Held c L I σ')) (fun k a => by
    iintro ⟨%σ', %hJ, H⟩
    iapply (hbody k a σ' hJ _)
    isplitl [H]; · iexact H
    iintro %a' %σ'' %h' H
    iexists σ''
    isplitr; · ipureintro; exact h'
    iexact H))
  isplitl [H]
  · iexists σ
    isplitr; · ipureintro; exact h0
    iexact H
  iintro %a ⟨%σ', %hJ, H⟩
  iapply HQ $$ %a %σ' %(hend a σ' hJ) H

/-- `f 0`, …, `f (n - 1)` one after another, each handing its value to the next. -/
def runF {α : Type} : (n : ℕ) → ((i : ℕ) → i < n → α → PG F α) → α → PG F α
  | 0, _, s => .ret s
  | n + 1, f, s => f 0 (Nat.succ_pos n) s >>= runF n (fun i h => f (i + 1) (Nat.succ_lt_succ h))

theorem T_runF (n : ℕ) (f : (i : ℕ) → i < n → α → PG F α) (J : ℕ → α → Mem F → Prop)
    (hf : ∀ i (hi : i < n) a σ', J i a σ' → T c L I (f i hi a) σ' (J (i + 1))) :
    ∀ (a : α) (σ : Mem F), J 0 a σ → T c L I (runF n f a) σ (J n) := by
  induction n generalizing J with
  | zero => intro a σ h; exact T_ret h
  | succ n ih =>
    intro a σ h
    refine T_bind (hf 0 (Nat.succ_pos n) a σ h) fun a' σ' h' => ?_
    exact ih (fun i h => f (i + 1) (Nat.succ_lt_succ h)) (fun i => J (i + 1)) (fun i hi => hf (i + 1) (Nat.succ_lt_succ hi)) a' σ' h'

end Cert.Kernel
-- ==== Proof.K.Prog.lean ====
module

public import proofs.«01_k».proof.Proof.K.Ev

@[expose] public section

noncomputable section

namespace Cert.Kernel

open Idealize.ShloMosaic Idealize.ShloMosaic.TcCoe Idealize.SL.Sem
open Shapes1.Facts₀ K0.Facts₀ Facts

variable {F : FTy → Type} [FloatOps F]

/-! ## The kernel's buffers -/

abbrev mDyc : Memref sig .tc .vmem S2x128x3584 .fp8e5m2 := Memref.whole cc0_scratch0
abbrev mPrec : Memref sig .tc .vmem S2x128x7168 .fp8e4m3 := Memref.whole cc0_scratch1
abbrev mW : Memref sig .tc .vmem S10x7168x512 .fp8e4m3 := Memref.whole cc0_scratch2
abbrev mDys : Memref sig .tc .vmem S2x128 .f32 := Memref.whole cc0_scratch3
abbrev mPres : Memref sig .tc .vmem S2x128 .f32 := Memref.whole cc0_scratch4
abbrev mH0 : Memref sig .tc .vmem S2x3584 .f32 := Memref.whole cc0_scratch5
abbrev mWs : Memref sig .tc .vmem S56x128 .f32 := Memref.whole cc0_scratch6
abbrev mDysL : Memref sig .tc .vmem S2x128x128 .f32 := Memref.whole cc0_scratch7
abbrev mPresL : Memref sig .tc .vmem S2x128x128 .f32 := Memref.whole cc0_scratch8
abbrev mZ : Memref sig .tc .vmem S3584x128 .f32 := Memref.whole cc0_scratch9
abbrev mG : Memref sig .tc .vmem S3584x128 .f32 := Memref.whole cc0_scratch10
abbrev mQ : Memref sig .tc .vmem S3584x128 .f32 := Memref.whole cc0_scratch11
abbrev mHt : Memref sig .tc .vmem S896x128 .f32 := Memref.whole cc0_scratch12
abbrev mGp : Memref sig .tc .vmem S896x128 .f32 := Memref.whole cc0_scratch13
abbrev mDz : Memref sig .tc .vmem S896x128 .f32 := Memref.whole cc0_scratch14
abbrev mDh : Memref sig .tc .vmem S896x128 .f32 := Memref.whole cc0_scratch15
abbrev mAmax : Memref sig .tc .vmem S384x128 .f32 := Memref.whole cc0_scratch16
abbrev mH : Memref sig .tc .vmem S28x128 .f32 := Memref.whole cc0_scratch17
abbrev mA : Memref sig .tc .vmem S256x7168 .bf16 := Memref.whole cc0_scratch18
abbrev mCodes : Memref sig .tc .vmem S2x128x7168 .fp8e5m2 := Memref.whole cc0_scratch19
abbrev mDsc : Memref sig .tc .vmem S2x128x128 .f32 := Memref.whole cc0_scratch20
abbrev mDh0 : Memref sig .tc .vmem S2x3584 .f32 := Memref.whole cc0_scratch21
abbrev mSc : Memref sig .tc .vmem S2x128 .f32 := Memref.whole cc0_scratch22
abbrev mStage : Memref sig .tc .vmem S10x2x128x512 .bf16 := Memref.whole cc0_scratch23

abbrev aDyc : Memref sig .tc .hbm S2x128x3584 .fp8e5m2 := Memref.whole main_arg0
abbrev aDys : Memref sig .tc .hbm S2x128 .f32 := Memref.whole main_arg1
abbrev aPrec : Memref sig .tc .hbm S2x128x7168 .fp8e4m3 := Memref.whole main_arg2
abbrev aPres : Memref sig .tc .hbm S2x128 .f32 := Memref.whole main_arg3
abbrev aH0 : Memref sig .tc .hbm S2x3584 .f32 := Memref.whole main_arg4
abbrev aW : Memref sig .tc .hbm S7168x5120 .fp8e4m3 := Memref.whole main_arg5
abbrev aWs : Memref sig .tc .hbm S56x128 .f32 := Memref.whole main_v0
abbrev oDx : Memref sig .tc .hbm S2x128x5120 .bf16 := Memref.whole main_v1_0
abbrev oDh0 : Memref sig .tc .hbm S2x3584 .f32 := Memref.whole main_v1_1
abbrev oCodes : Memref sig .tc .hbm S2x128x7168 .fp8e5m2 := Memref.whole main_v1_2
abbrev oSc : Memref sig .tc .hbm S2x128 .f32 := Memref.whole main_v1_3

/-! ## Offsets -/

/-- Rows of a chunk in a `[2, 128, ·]` array. -/
abbrev tokOff (b : Fin 2) (w : BitVec 32) (col : ℕ) : Fin 3 → ℕ := ![(b : ℕ), (Scalar.muli w 32#32).toNat, col]
/-- Lane tile `g` of a chunk's first token in a `[3584, 128]` array. -/
abbrev gateOff (w : BitVec 32) (g : ℕ) : Fin 2 → ℕ :=
  ![(Scalar.addi (Scalar.muli (Scalar.muli w 32#32) 28#32) (BitVec.ofNat 32 g)).toNat, 0]
/-- Token `t` of a chunk in a `[3584, 128]` array. -/
abbrev stepOff (w : BitVec 32) (t : ℕ) : Fin 2 → ℕ :=
  ![(Scalar.addi (Scalar.muli w 896#32) (BitVec.ofNat 32 (28 * t))).toNat, 0]
/-- Rows of a chunk in the operand of the product. -/
abbrev aOff (b : Fin 2) (w : BitVec 32) (col : ℕ) : Fin 2 → ℕ :=
  ![(Scalar.addi (BitVec.ofNat 32 (128 * b)) (Scalar.muli w 32#32)).toNat, col]

theorem tok_val {w : BitVec 32} (hw : w.toNat < 4) : (Scalar.muli w 32#32).toNat = 32 * w.toNat := by
  show (w * 32#32).toNat = _
  rw [BitVec.toNat_mul]; show w.toNat * 32 % 2 ^ 32 = _; omega
theorem gate_val {w : BitVec 32} (hw : w.toNat < 4) {g : ℕ} (hg : g < 28) :
    (Scalar.addi (Scalar.muli (Scalar.muli w 32#32) 28#32) (BitVec.ofNat 32 g)).toNat = 896 * w.toNat + g := by
  show (w * 32#32 * 28#32 + BitVec.ofNat 32 g).toNat = _
  rw [BitVec.toNat_add, BitVec.toNat_mul, BitVec.toNat_mul, BitVec.toNat_ofNat]
  show (w.toNat * 32 % 2 ^ 32 * 28 % 2 ^ 32 + g % 2 ^ 32) % 2 ^ 32 = _; omega
theorem step_val {w : BitVec 32} (hw : w.toNat < 4) {t : ℕ} (ht : t < 32) :
    (Scalar.addi (Scalar.muli w 896#32) (BitVec.ofNat 32 (28 * t))).toNat = 896 * w.toNat + 28 * t := by
  show (w * 896#32 + BitVec.ofNat 32 (28 * t)).toNat = _
  rw [BitVec.toNat_add, BitVec.toNat_mul, BitVec.toNat_ofNat]
  show (w.toNat * 896 % 2 ^ 32 + 28 * t % 2 ^ 32) % 2 ^ 32 = _; omega
theorem a_val (b : Fin 2) {w : BitVec 32} (hw : w.toNat < 4) :
    (Scalar.addi (BitVec.ofNat 32 (128 * b)) (Scalar.muli w 32#32)).toNat = 128 * b + 32 * w.toNat := by
  show (BitVec.ofNat 32 (128 * b) + w * 32#32).toNat = _
  rw [BitVec.toNat_add, BitVec.toNat_mul, BitVec.toNat_ofNat]
  show (128 * (b : ℕ) % 2 ^ 32 + w.toNat * 32 % 2 ^ 32) % 2 ^ 32 = _; omega

theorem tok_inb (b : Fin 2) {w : BitVec 32} (hw : w.toNat < 4) {col C : ℕ} (hc : col + 128 ≤ C) :
    ∀ a, tokOff b w col a + S1x32x128.size a ≤ (⟨3, ![2, 128, C]⟩ : Shape).size a := by
  intro a
  fin_cases a
  · show (b : ℕ) + 1 ≤ 2; omega
  · show (Scalar.muli w 32#32).toNat + 32 ≤ 128; rw [tok_val hw]; omega
  · show col + 128 ≤ C; exact hc
theorem gate_inb {w : BitVec 32} (hw : w.toNat < 4) {g : ℕ} (hg : g < 28) :
    ∀ a, S32x128.size a = 0 ∨ gateOff w g a + (![28, 1] : Fin 2 → ℕ) a * (S32x128.size a - 1) < S3584x128.size a := by
  intro a
  right
  fin_cases a
  · show (Scalar.addi (Scalar.muli (Scalar.muli w 32#32) 28#32) (BitVec.ofNat 32 g)).toNat + 28 * 31 < 3584
    rw [gate_val hw hg]; omega
  · show 0 + 1 * 127 < 128; omega
theorem step_inb {w : BitVec 32} (hw : w.toNat < 4) {t : ℕ} (ht : t < 32) : ∀ a, stepOff w t a + S28x128.size a ≤ S3584x128.size a := by
  intro a
  fin_cases a
  · show (Scalar.addi (Scalar.muli w 896#32) (BitVec.ofNat 32 (28 * t))).toNat + 28 ≤ 3584
    rw [step_val hw ht]; omega
  · show 0 + 128 ≤ 128; omega
theorem a_inb (b : Fin 2) {w : BitVec 32} (hw : w.toNat < 4) {col : ℕ} (hc : col + 128 ≤ 7168) :
    ∀ a, aOff b w col a + S32x128.size a ≤ S256x7168.size a := by
  intro a
  fin_cases a
  · show (Scalar.addi (BitVec.ofNat 32 (128 * b)) (Scalar.muli w 32#32)).toNat + 32 ≤ 256; rw [a_val b hw]; omega
  · show col + 128 ≤ 7168; exact hc
/-- Lane tile `g` of 32 tokens in a `[896, 128]` array. -/
theorem row_inb {g : ℕ} (hg : g < 28) : ∀ a, S32x128.size a = 0 ∨ (![g, 0] : Fin 2 → ℕ) a + (![28, 1] : Fin 2 → ℕ) a * (S32x128.size a - 1) < S896x128.size a := by
  intro a
  right
  fin_cases a
  · show g + 28 * 31 < 896; omega
  · show 0 + 1 * 127 < 128; omega
theorem str_inb {i n : ℕ} (hi : i + n * 31 < 384) : ∀ a, S32x128.size a = 0 ∨ (![i, 0] : Fin 2 → ℕ) a + (![n, 1] : Fin 2 → ℕ) a * (S32x128.size a - 1) < S384x128.size a := by
  intro a
  right
  fin_cases a
  · show i + n * 31 < 384; omega
  · show 0 + 1 * 127 < 128; omega
theorem u2_inb {i j n m N M : ℕ} (hi : i + n ≤ N) (hj : j + m ≤ M) : ∀ a, (![i, j] : Fin 2 → ℕ) a + (⟨2, ![n, m]⟩ : Shape).size a ≤ (⟨2, ![N, M]⟩ : Shape).size a := by
  intro a; fin_cases a
  · exact hi
  · exact hj
theorem u3_inb {i n m N M : ℕ} (hi : i + 1 ≤ N) : ∀ a, (![i, 0, 0] : Fin 3 → ℕ) a + (⟨3, ![1, n, m]⟩ : Shape).size a ≤ (⟨3, ![N, n, m]⟩ : Shape).size a := by
  intro a; fin_cases a
  · exact hi
  · exact (Nat.zero_add n).le
  · exact (Nat.zero_add m).le

abbrev rTok (C : ℕ) (b : Fin 2) {w : BitVec 32} (hw : w.toNat < 4) {col : ℕ} (hc : col + 128 ≤ C) : Rect (⟨3, ![2, 128, C]⟩ : Shape) :=
  Rect.unit (s := ⟨3, ![2, 128, C]⟩) (tokOff b w col) S1x32x128.size (tok_inb b hw hc)
abbrev lGate {w : BitVec 32} (hw : w.toNat < 4) {g : ℕ} (hg : g < 28) : LoadRect S3584x128 := ⟨gateOff w g, S32x128.size, ![28, 1], gate_inb hw hg⟩
abbrev rStep {w : BitVec 32} (hw : w.toNat < 4) {t : ℕ} (ht : t < 32) : Rect S3584x128 := Rect.unit (s := S3584x128) (stepOff w t) S28x128.size (step_inb hw ht)
abbrev lRow {g : ℕ} (hg : g < 28) : LoadRect S896x128 := ⟨![g, 0], S32x128.size, ![28, 1], row_inb hg⟩
abbrev rRow (t : ℕ) (ht : 28 * t + 28 ≤ 896) : Rect S896x128 := Rect.unit (s := S896x128) ![28 * t, 0] S28x128.size (u2_inb ht (by omega))
abbrev lStr {i n : ℕ} (hi : i + n * 31 < 384) : LoadRect S384x128 := ⟨![i, 0], S32x128.size, ![n, 1], str_inb hi⟩
abbrev rA (b : Fin 2) {w : BitVec 32} (hw : w.toNat < 4) {col : ℕ} (hc : col + 128 ≤ 7168) : Rect S256x7168 :=
  Rect.unit (s := S256x7168) (aOff b w col) S32x128.size (a_inb b hw hc)
abbrev rB (b : Fin 2) : Rect S2x128x128 := Rect.unit (s := S2x128x128) ![(b : ℕ), 0, 0] S1x128x128.size (u3_inb (M := 128) (by omega))
abbrev rTokRow (b : Fin 2) : Rect S2x128 := Rect.unit (s := S2x128) ![(b : ℕ), 0] S1x128.size (u2_inb (by omega) (by omega))
abbrev rD (b : Fin 2) {g : ℕ} (hg : g < 28) : Rect S2x3584 := Rect.unit (s := S2x3584) ![(b : ℕ), 128 * g] S1x128.size (u2_inb (by omega) (by omega))
abbrev rH {g : ℕ} (hg : g < 28) : Rect S28x128 := Rect.unit (s := S28x128) ![g, 0] S1x128.size (u2_inb (by omega) (by omega))
abbrev rHw : Rect S28x128 := Rect.unit (s := S28x128) ![0, 0] S28x128.size inb_S28x128_S28x128_0_0

/-! ## The reverse scan -/

/-- One lane tile of the gates of a chunk: `z` and `dy` of 32 tokens, stored at the chunk's rows. -/
def revGate (zs ds : FVec F S32x128 .f32) (b : Fin 2) {w : BitVec 32} (hw : w.toNat < 4) (g : ℕ) (hg : g < 28) : PG F PUnit := do
  let p : Vec F S1x32x128 .fp8e4m3 ← Prog.lift (.load mPrec (rTok 7168 b hw (col := 128 * g) (by omega)).toLoadRect (View.loadsAt_vmem h_S1x32x128))
  let _ ← Prog.lift (.load mZ (lGate hw hg) (View.loadsAt_vmem h_S32x128))
  Prog.lift (.store mZ ⟨lGate hw hg, spos_28_1⟩
    (shapeCast S32x128 (divf (broadcast S32x128 (Scalar.ofBits .f32 0x3F800000#32)) (addf (broadcast S32x128 (Scalar.ofBits .f32 0x3F800000#32))
      (exp2 (mulf (extf .f32 (shapeCast S32x128 p shapeCasts_S1x32x128_S32x128 : FVec F S32x128 .fp8e4m3) bitsLt_fp8e4m3_f32) zs)))) shapeCasts_S32x128_S32x128)
    Finset.univ (View.stores_vmem_bits_univ h_S32x128 rfl) (.inl rfl))
  let d : Vec F S1x32x128 .fp8e5m2 ← Prog.lift (.load mDyc (rTok 3584 b hw (col := 128 * g) (by omega)).toLoadRect (View.loadsAt_vmem h_S1x32x128))
  let _ ← Prog.lift (.load mG (lGate hw hg) (View.loadsAt_vmem h_S32x128))
  Prog.lift (.store mG ⟨lGate hw hg, spos_28_1⟩
    (shapeCast S32x128 (mulf (extf .f32 (shapeCast S32x128 d shapeCasts_S1x32x128_S32x128 : FVec F S32x128 .fp8e5m2) bitsLt_fp8e5m2_f32) ds) shapeCasts_S32x128_S32x128)
    Finset.univ (View.stores_vmem_bits_univ h_S32x128 rfl) (.inl rfl))

/-- One step of the reverse recurrence. -/
def revStep {w : BitVec 32} (hw : w.toNat < 4) (t : ℕ) (ht : t < 32) (q : FVec F S28x128 .f32) : PG F (FVec F S28x128 .f32) := do
  let g : Vec F S28x128 .f32 ← Prog.lift (.load mG (rStep hw ht).toLoadRect (View.loadsAt_vmem h_S28x128))
  let _ ← Prog.lift (.load mG (rStep hw ht).toLoadRect (View.loadsAt_vmem h_S28x128))
  Prog.lift (.store mG (rStep hw ht) (shapeCast S28x128 (addf g q) shapeCasts_S28x128_S28x128) Finset.univ (View.stores_vmem_bits_univ h_S28x128 rfl) (.inl rfl))
  let z : Vec F S28x128 .f32 ← Prog.lift (.load mZ (rStep hw ht).toLoadRect (View.loadsAt_vmem h_S28x128))
  let _ ← Prog.lift (.load mQ (rStep hw ht).toLoadRect (View.loadsAt_vmem h_S28x128))
  Prog.lift (.store mQ (rStep hw ht)
    (shapeCast S28x128 (mulf (subf (broadcast S28x128 (Scalar.ofBits .f32 0x3F800000#32)) z) (addf g q)) shapeCasts_S28x128_S28x128)
    Finset.univ (View.stores_vmem_bits_univ h_S28x128 rfl) (.inl rfl))
  pure (mulf (subf (broadcast S28x128 (Scalar.ofBits .f32 0x3F800000#32)) z) (addf g q))

/-- A trip of the reverse loop. -/
def revTrip (b : Fin 2) {w : BitVec 32} (hw : w.toNat < 4) (q : FVec F S28x128 .f32) : PG F (FVec F S28x128 .f32) := do
  let ps : Vec F S1x32x128 .f32 ← Prog.lift (.load mPresL (rTok 128 b hw (col := 0) (by omega)).toLoadRect (View.loadsAt_vmem h_S1x32x128))
  let ds : Vec F S1x32x128 .f32 ← Prog.lift (.load mDysL (rTok 128 b hw (col := 0) (by omega)).toLoadRect (View.loadsAt_vmem h_S1x32x128))
  let _ ← runF 28 (fun g hg _ => revGate
      (mulf (shapeCast S32x128 ps shapeCasts_S1x32x128_S32x128) (broadcast S32x128 (Scalar.ofBits .f32 0xBFB8AA3B#32)))
      (shapeCast S32x128 ds shapeCasts_S1x32x128_S32x128) b hw g hg) ⟨⟩
  runF 32 (fun i hi => revStep hw (31 - i) (Nat.lt_of_le_of_lt (Nat.sub_le 31 i) (by decide))) q

/-- The chunk the trip of a reverse loop works on. -/
abbrev revWord (k : Fin 4) : BitVec 32 := Scalar.subi 3#32 (Scf.iv 0#32 1#32 k)
theorem revWord_val : ∀ k : Fin 4, (revWord k).toNat = 3 - k := by decide +kernel
theorem revWord_lt (k : Fin 4) : (revWord k).toNat < 4 := by rw [revWord_val]; omega
/-- The chunk the trip of a forward loop works on. -/
abbrev fwdWord (k : Fin 4) : BitVec 32 := Scf.iv 0#32 1#32 k
theorem fwdWord_val : ∀ k : Fin 4, (fwdWord k).toNat = k := by decide +kernel
theorem fwdWord_lt (k : Fin 4) : (fwdWord k).toNat < 4 := by rw [fwdWord_val]; omega

/-! ## The forward scan -/

/-- One lane tile of the candidate and its derivative. -/
def fwdGate (ps : FVec F S32x128 .f32) (b : Fin 2) {w : BitVec 32} (hw : w.toNat < 4) (g : ℕ) (hg : g < 28) : PG F PUnit := do
  let c : Vec F S1x32x128 .fp8e4m3 ← Prog.lift (.load mPrec (rTok 7168 b hw (col := 3584 + 128 * g) (by omega)).toLoadRect (View.loadsAt_vmem h_S1x32x128))
  let _ ← Prog.lift (.load mHt (lRow hg) (View.loadsAt_vmem h_S32x128))
  Prog.lift (.store mHt ⟨lRow hg, spos_28_1⟩
    (shapeCast S32x128 (select (cmpf .oge (mulf (extf .f32 (shapeCast S32x128 c shapeCasts_S1x32x128_S32x128 : FVec F S32x128 .fp8e4m3) bitsLt_fp8e4m3_f32) ps) (broadcast S32x128 (Scalar.ofBits .f32 0x00000000#32)))
      (addf (mulf (extf .f32 (shapeCast S32x128 c shapeCasts_S1x32x128_S32x128 : FVec F S32x128 .fp8e4m3) bitsLt_fp8e4m3_f32) ps) (broadcast S32x128 (Scalar.ofBits .f32 0x3F000000#32)))
      (divf (broadcast S32x128 (Scalar.ofBits .f32 0x3F800000#32)) (addf (broadcast S32x128 (Scalar.ofBits .f32 0x3F800000#32))
        (exp2 (mulf (mulf (extf .f32 (shapeCast S32x128 c shapeCasts_S1x32x128_S32x128 : FVec F S32x128 .fp8e4m3) bitsLt_fp8e4m3_f32) ps) (broadcast S32x128 (Scalar.ofBits .f32 0xBFB8AA3B#32))))))) shapeCasts_S32x128_S32x128)
    Finset.univ (View.stores_vmem_bits_univ h_S32x128 rfl) (.inl rfl))
  let _ ← Prog.lift (.load mGp (lRow hg) (View.loadsAt_vmem h_S32x128))
  Prog.lift (.store mGp ⟨lRow hg, spos_28_1⟩
    (shapeCast S32x128 (select (cmpf .oge (mulf (extf .f32 (shapeCast S32x128 c shapeCasts_S1x32x128_S32x128 : FVec F S32x128 .fp8e4m3) bitsLt_fp8e4m3_f32) ps) (broadcast S32x128 (Scalar.ofBits .f32 0x00000000#32)))
      (broadcast S32x128 (Scalar.ofBits .f32 0x3F800000#32))
      (mulf
      (divf (broadcast S32x128 (Scalar.ofBits .f32 0x3F800000#32)) (addf (broadcast S32x128 (Scalar.ofBits .f32 0x3F800000#32))
        (exp2 (mulf (mulf (extf .f32 (shapeCast S32x128 c shapeCasts_S1x32x128_S32x128 : FVec F S32x128 .fp8e4m3) bitsLt_fp8e4m3_f32) ps) (broadcast S32x128 (Scalar.ofBits .f32 0xBFB8AA3B#32))))))
      (subf (broadcast S32x128 (Scalar.ofBits .f32 0x3F800000#32))
      (divf (broadcast S32x128 (Scalar.ofBits .f32 0x3F800000#32)) (addf (broadcast S32x128 (Scalar.ofBits .f32 0x3F800000#32))
        (exp2 (mulf (mulf (extf .f32 (shapeCast S32x128 c shapeCasts_S1x32x128_S32x128 : FVec F S32x128 .fp8e4m3) bitsLt_fp8e4m3_f32) ps) (broadcast S32x128 (Scalar.ofBits .f32 0xBFB8AA3B#32))))))))) shapeCasts_S32x128_S32x128)
    Finset.univ (View.stores_vmem_bits_univ h_S32x128 rfl) (.inl rfl))

/-- The largest magnitudes of a token's gradients, as the kernel folds them first. -/
abbrev mag (dz dh : FVec F S28x128 .f32) : FVec F S28x128 .f32 := maximumf (absf dz) (absf dh)

/-- One step of the forward recurrence, with the token's gradients and their magnitudes. -/
def fwdStep {w : BitVec 32} (hw : w.toNat < 4) (t : ℕ) (ht : t < 32) (h : FVec F S28x128 .f32) : PG F (FVec F S28x128 .f32) := do
  let z : Vec F S28x128 .f32 ← Prog.lift (.load mZ (rStep hw ht).toLoadRect (View.loadsAt_vmem h_S28x128))
  let c : Vec F S28x128 .f32 ← Prog.lift (.load mHt (rRow t (by omega)).toLoadRect (View.loadsAt_vmem h_S28x128))
  let q : Vec F S28x128 .f32 ← Prog.lift (.load mQ (rStep hw ht).toLoadRect (View.loadsAt_vmem h_S28x128))
  let g : Vec F S28x128 .f32 ← Prog.lift (.load mG (rStep hw ht).toLoadRect (View.loadsAt_vmem h_S28x128))
  let gp : Vec F S28x128 .f32 ← Prog.lift (.load mGp (rRow t (by omega)).toLoadRect (View.loadsAt_vmem h_S28x128))
  let _ ← Prog.lift (.load mDz (rRow t (by omega)).toLoadRect (View.loadsAt_vmem h_S28x128))
  Prog.lift (.store mDz (rRow t (by omega)) (shapeCast S28x128 (mulf q (mulf z (subf c h))) shapeCasts_S28x128_S28x128) Finset.univ (View.stores_vmem_bits_univ h_S28x128 rfl) (.inl rfl))
  let _ ← Prog.lift (.load mDh (rRow t (by omega)).toLoadRect (View.loadsAt_vmem h_S28x128))
  Prog.lift (.store mDh (rRow t (by omega)) (shapeCast S28x128 (mulf (mulf g z) gp) shapeCasts_S28x128_S28x128) Finset.univ (View.stores_vmem_bits_univ h_S28x128 rfl) (.inl rfl))
  let _ ← Prog.lift (.load mAmax (Rect.unit (s := S384x128) ![8 * t, 0] S8x128.size (u2_inb (by omega) (by omega))).toLoadRect (View.loadsAt_vmem h_S8x128))
  Prog.lift (.store mAmax (Rect.unit (s := S384x128) ![8 * t, 0] S8x128.size (u2_inb (by omega) (by omega)))
    (shapeCast S8x128 (maximumf (maximumf (extractStridedSlice S8x128 ![0, 0] (mag (mulf q (mulf z (subf c h))) (mulf (mulf g z) gp)) slices_S28x128_o0_0_S8x128)
      (extractStridedSlice S8x128 ![8, 0] (mag (mulf q (mulf z (subf c h))) (mulf (mulf g z) gp)) slices_S28x128_o8_0_S8x128))
      (extractStridedSlice S8x128 ![16, 0] (mag (mulf q (mulf z (subf c h))) (mulf (mulf g z) gp)) slices_S28x128_o16_0_S8x128)) shapeCasts_S8x128_S8x128)
    Finset.univ (View.stores_vmem_bits_univ h_S8x128 rfl) (.inl rfl))
  let _ ← Prog.lift (.load mAmax (Rect.unit (s := S384x128) ![256 + 4 * t, 0] S4x128.size (u2_inb (by omega) (by omega))).toLoadRect (View.loadsAt_vmem h_S4x128))
  Prog.lift (.store mAmax (Rect.unit (s := S384x128) ![256 + 4 * t, 0] S4x128.size (u2_inb (by omega) (by omega)))
    (shapeCast S4x128 (extractStridedSlice S4x128 ![24, 0] (mag (mulf q (mulf z (subf c h))) (mulf (mulf g z) gp)) slices_S28x128_o24_0_S4x128) shapeCasts_S4x128_S4x128)
    Finset.univ (View.stores_vmem_bits_univ h_S4x128 rfl) (.inl rfl))
  pure (addf h (mulf z (subf c h)))

/-! ## The quantiser -/

/-- The largest magnitude of each of 32 tokens. -/
def amaxes : PG F (FVec F S32 .f32) := do
  let m0 : Vec F S32x128 .f32 ← Prog.lift (.load mAmax (lStr (i := 0) (n := 8) (by omega)) (View.loadsAt_vmem h_S32x128))
  let m ← runF 7 (fun i hi m => do
    let x : Vec F S32x128 .f32 ← Prog.lift (.load mAmax (lStr (i := i + 1) (n := 8) (by omega)) (View.loadsAt_vmem h_S32x128))
    pure (maximumf m x : FVec F S32x128 .f32)) m0
  let m ← runF 4 (fun i hi m => do
    let x : Vec F S32x128 .f32 ← Prog.lift (.load mAmax (lStr (i := 256 + i) (n := 4) (by omega)) (View.loadsAt_vmem h_S32x128))
    pure (maximumf m x : FVec F S32x128 .f32)) m
  pure (multiReduction .maximumf [1] S32 m 0xFF800000#32 reduces_S32x128_S32 (.inl rfl) rfl)

/-- The exponent field of each token's scale, counted. -/
def expField (m : FVec F S32 .f32) : IVec S32x1 32 :=
  shapeCast S32x1 (multiReductionI .add [1] S32
    (select (andi (cmpi .sgt (iota .tc S32x256 32 [1] iota_S32x256_d1_w32) (broadcast S32x256 0#32))
      (cmpf .oge (broadcastTo S32x256 (mulf (shapeCast S32x1 m shapeCasts_S32_S32x1 : FVec F S32x1 .f32) (broadcast S32x1 (Scalar.ofBits .f32 0x37924925#32))) broadcasts_S32x1_S32x256)
        (bitcastToFloat .f32 (shli (minsi (iota .tc S32x256 32 [1] iota_S32x256_d1_w32) (broadcast S32x256 253#32)) (broadcast S32x256 23#32)) : FVec F S32x256 .f32)))
      (broadcast S32x256 1#32) (broadcast S32x256 0#32)) 0#32 reduces_S32x256_S32 rfl) shapeCasts_S32_S32x1

/-- Each token's exponent. -/
def expo (m : FVec F S32 .f32) : IVec S32x1 32 :=
  select (ori (ori (cmpi .eq (expField m) (broadcast S32x1 0#32)) (cmpi .eq (expField m) (broadcast S32x1 255#32)))
    (cmpf .oeq (shapeCast S32x1 m shapeCasts_S32_S32x1 : FVec F S32x1 .f32) (broadcast S32x1 (Scalar.ofBits .f32 0x00000000#32))))
    (broadcast S32x1 0#32) (subi (expField m) (broadcast S32x1 126#32))

/-- Each token's scale. -/
def scaleOf (m : FVec F S32 .f32) : FVec F S32x128 .f32 :=
  broadcastTo S32x128 (shapeCast S32x1 (bitcastToFloat .f32 (shli (addi (expo m) (broadcast S32x1 127#32)) (broadcast S32x1 23#32)) : FVec F S32x1 .f32) shapeCasts_S32x1_S32x1) broadcasts_S32x1_S32x128
/-- and its inverse. -/
def invOf (m : FVec F S32 .f32) : FVec F S32x128 .f32 :=
  broadcastTo S32x128 (shapeCast S32x1 (bitcastToFloat .f32 (shli (subi (broadcast S32x1 127#32) (expo m)) (broadcast S32x1 23#32)) : FVec F S32x1 .f32) shapeCasts_S32x1_S32x1) broadcasts_S32x1_S32x128

/-- The codes of a lane tile. -/
def codeOf (v inv : FVec F S32x128 .f32) : FVec F S32x128 .fp8e5m2 :=
  truncf .fp8e5m2 (minimumf (broadcast S32x128 (Scalar.ofBits .f32 0x47600000#32)) (maximumf (broadcast S32x128 (Scalar.ofBits .f32 0xC7600000#32)) (mulf v inv))) bitsLt_fp8e5m2_f32

theorem packC : ∀ (b : Fin 2) (k : Fin 4) (j : Fin 56),
    (rTok 7168 b (fwdWord_lt k) (col := 128 * j) (by omega)).PackedRows (EltTy.packing .fp8e5m2) := by decide +kernel
theorem packA : ∀ (b : Fin 2) (k : Fin 4) (j : Fin 56),
    (rA b (fwdWord_lt k) (col := 128 * j) (by omega)).PackedRows (EltTy.packing .bf16) := by decide +kernel

/-- Quantise lane tile `j`, the gradients `v` read from their buffer, and store the codes and the operand of the product. -/
def tile (b : Fin 2) (k : Fin 4) (inv : FVec F S32x128 .f32) (v : Vec F S32x128 .f32) (j : Fin 56) : PG F PUnit := do
  let _ ← Prog.lift (.load mCodes (rTok 7168 b (fwdWord_lt k) (col := 128 * j) (by omega)).toLoadRect (View.loadsAt_vmem h_S1x32x128))
  Prog.lift (.store mCodes (rTok 7168 b (fwdWord_lt k) (col := 128 * j) (by omega))
    (shapeCast S1x32x128 (codeOf v inv) shapeCasts_S32x128_S1x32x128)
    Finset.univ (View.stores_vmem h_S1x32x128 ((Memref.isWhole_whole _).storeExact_slice rfl _ (packC b k j)) (fun _ => rfl)) (.inl rfl))
  let ws : Vec F S1x128 .f32 ← Prog.lift (.load mWs (Rect.unit (s := S56x128) ![(j : ℕ), 0] S1x128.size (u2_inb (by omega) (by omega))).toLoadRect (View.loadsAt_vmem h_S1x128))
  let _ ← Prog.lift (.load mA (rA b (fwdWord_lt k) (col := 128 * j) (by omega)).toLoadRect (View.loadsAt_vmem h_S32x128))
  Prog.lift (.store mA (rA b (fwdWord_lt k) (col := 128 * j) (by omega))
    (shapeCast S32x128 (mulf (extf .bf16 (codeOf v inv) bitsLt_fp8e5m2_bf16)
      (broadcastTo S32x128 (truncf .bf16 (ws : FVec F S1x128 .f32) bitsLt_bf16_f32) broadcasts_S1x128_S32x128)) shapeCasts_S32x128_S32x128)
    Finset.univ (View.stores_vmem h_S32x128 ((Memref.isWhole_whole _).storeExact_slice rfl _ (packA b k j)) (fun _ => rfl)) (.inl rfl))

/-- A trip of the forward loop. -/
def fwdTrip (b : Fin 2) (k : Fin 4) (h : FVec F S28x128 .f32) : PG F (FVec F S28x128 .f32) := do
  let ps : Vec F S1x32x128 .f32 ← Prog.lift (.load mPresL (rTok 128 b (fwdWord_lt k) (col := 0) (by omega)).toLoadRect (View.loadsAt_vmem h_S1x32x128))
  let _ ← runF 28 (fun g hg _ => fwdGate (shapeCast S32x128 ps shapeCasts_S1x32x128_S32x128) b (fwdWord_lt k) g hg) ⟨⟩
  let h ← runF 32 (fun t ht => fwdStep (fwdWord_lt k) t ht) h
  let m ← amaxes
  let _ ← Prog.lift (.load mDsc (rTok 128 b (fwdWord_lt k) (col := 0) (by omega)).toLoadRect (View.loadsAt_vmem h_S1x32x128))
  Prog.lift (.store mDsc (rTok 128 b (fwdWord_lt k) (col := 0) (by omega)) (shapeCast S1x32x128 (scaleOf m) shapeCasts_S32x128_S1x32x128)
    Finset.univ (View.stores_vmem_bits_univ h_S1x32x128 rfl) (.inl rfl))
  let _ ← runF 28 (fun g hg _ => do
    let v : Vec F S32x128 .f32 ← Prog.lift (.load mDz (lRow hg) (View.loadsAt_vmem h_S32x128))
    tile b k (invOf m) v ⟨g, by omega⟩) ⟨⟩
  let _ ← runF 28 (fun g hg _ => do
    let v : Vec F S32x128 .f32 ← Prog.lift (.load mDh (lRow hg) (View.loadsAt_vmem h_S32x128))
    tile b k (invOf m) v ⟨28 + g, by omega⟩) ⟨⟩
  pure h

/-! ## A batch -/

/-- The steps between the two scans of a batch: the gradient of the initial state out, the initial state in. -/
def between (b : Fin 2) (q : FVec F S28x128 .f32) : PG F (Vec F S28x128 .f32) := do
  let _ ← Prog.lift (.load mH rHw.toLoadRect (View.loadsAt_vmem h_S28x128))
  Prog.lift (.store mH rHw (shapeCast S28x128 q shapeCasts_S28x128_S28x128) Finset.univ (View.stores_vmem_bits_univ h_S28x128 rfl) (.inl rfl))
  let _ ← runF 28 (fun g hg _ => do
    let v : Vec F S1x128 .f32 ← Prog.lift (.load mH (rH hg).toLoadRect (View.loadsAt_vmem h_S1x128))
    let _ ← Prog.lift (.load mDh0 (rD b hg).toLoadRect (View.loadsAt_vmem h_S1x128))
    Prog.lift (.store mDh0 (rD b hg) (shapeCast S1x128 v shapeCasts_S1x128_S1x128) Finset.univ (View.stores_vmem_bits_univ h_S1x128 rfl) (.inl rfl))) ⟨⟩
  let _ ← runF 28 (fun g hg _ => do
    let v : Vec F S1x128 .f32 ← Prog.lift (.load mH0 (rD b hg).toLoadRect (View.loadsAt_vmem h_S1x128))
    let _ ← Prog.lift (.load mH (rH hg).toLoadRect (View.loadsAt_vmem h_S1x128))
    Prog.lift (.store mH (rH hg) (shapeCast S1x128 v shapeCasts_S1x128_S1x128) Finset.univ (View.stores_vmem_bits_univ h_S1x128 rfl) (.inl rfl))) ⟨⟩
  Prog.lift (.load mH rHw.toLoadRect (View.loadsAt_vmem h_S28x128))

/-- The batch's scales out. -/
def scalesOut (b : Fin 2) : PG F PUnit := do
  let s : Vec F S1x128x128 .f32 ← Prog.lift (.load mDsc (rB b).toLoadRect (View.loadsAt_vmem h_S1x128x128))
  let _ ← Prog.lift (.load mSc (rTokRow b).toLoadRect (View.loadsAt_vmem h_S1x128))
  Prog.lift (.store mSc (rTokRow b)
    (shapeCast S1x128 (extractStridedSlice S1x128 ![0, 0] (transpose S128x128 [1, 0] (shapeCast S128x128 s shapeCasts_S1x128x128_S128x128) transposes_S128x128_p1_0_S128x128 : FVec F S128x128 .f32) slices_S128x128_o0_0_S1x128) shapeCasts_S1x128_S1x128)
    Finset.univ (View.stores_vmem_bits_univ h_S1x128 rfl) (.inl rfl))

/-- The scans of a batch. -/
def batch (b : Fin 2) : PG F PUnit := do
  let q ← Scf.for 0#32 4#32 1#32 k0_t1_ok (broadcast S28x128 (Scalar.ofBits .f32 0x00000000#32)) fun k q => revTrip b (revWord_lt k) q
  let h ← between b q
  let _ ← Scf.for 0#32 4#32 1#32 k0_t1_ok h fun k h => fwdTrip b k h
  scalesOut b

/-! ## The launch of the kernel: its first copies -/

/-- Spread a row of scales along the lanes. -/
def spread (m : Memref sig .tc .vmem S2x128 .f32) (ml : Memref sig .tc .vmem S2x128x128 .f32) (b : Fin 2) : PG F PUnit := do
  let v : Vec F S1x128 .f32 ← Prog.lift (.load m (rTokRow b).toLoadRect (View.loadsAt_vmem h_S1x128))
  let _ ← Prog.lift (.load ml (rB b).toLoadRect (View.loadsAt_vmem h_S1x128x128))
  Prog.lift (.store ml (rB b)
    (shapeCast S1x128x128 (transpose S128x128 [1, 0] (broadcastTo S128x128 (shapeCast S1x128 v shapeCasts_S1x128_S1x128) broadcasts_S1x128_S128x128) transposes_S128x128_p1_0_S128x128 : FVec F S128x128 .f32) shapeCasts_S128x128_S1x128x128)
    Finset.univ (View.stores_vmem_bits_univ h_S1x128x128 rfl) (.inl rfl))

/-- All four spreads. -/
def spreads : PG F PUnit := do
  spread mDys mDysL 0
  spread mPres mPresL 0
  spread mDys mDysL 1
  spread mPres mPresL 1

/-! ## The copies -/

theorem s22 (i j : Fin 2) : ∀ a, (![(i : ℕ), (j : ℕ)] : Fin 2 → ℕ) a + S1x1.size a ≤ S2x2.size a := u2_inb (by omega) (by omega)
theorem s210 (i : Fin 2) (j : Fin 10) : ∀ a, (![(i : ℕ), (j : ℕ)] : Fin 2 → ℕ) a + S1x1.size a ≤ S2x10.size a := u2_inb (by omega) (by omega)
theorem s1 {n N : ℕ} (h : n < N) : ∀ a, (![n] : Fin 1 → ℕ) a + S1.size a ≤ (⟨1, ![N]⟩ : Shape).size a := by
  intro a; fin_cases a; exact h

/-- The semaphores. -/
abbrev semIn (b j : Fin 2) : DmaSem sig := ((cc0_scratch24.slice (Rect.unit (s := S2x2) ![(b : ℕ), (j : ℕ)] S1x1.size (s22 b j))).squeeze S_ squeezes_S1x1_S_).sem
abbrev semW (n : Fin 10) : DmaSem sig := ((cc0_scratch25.slice (Rect.unit (s := S10) ![(n : ℕ)] S1.size (s1 n.isLt))).squeeze S_ squeezes_S1_S_).sem
abbrev semSmall (i : Fin 4) : DmaSem sig := ((cc0_scratch26.slice (Rect.unit (s := S4) ![(i : ℕ)] S1.size (s1 i.isLt))).squeeze S_ squeezes_S1_S_).sem
abbrev semOut (i : Fin 3) : DmaSem sig := ((cc0_scratch27.slice (Rect.unit (s := S3) ![(i : ℕ)] S1.size (s1 i.isLt))).squeeze S_ squeezes_S1_S_).sem
abbrev semSt (b : Fin 2) (n : Fin 10) : DmaSem sig := ((cc0_scratch28.slice (Rect.unit (s := S2x10) ![(b : ℕ), (n : ℕ)] S1x1.size (s210 b n))).squeeze S_ squeezes_S1x1_S_).sem

theorem pre_inb (b : Fin 2) : ∀ a, (![(b : ℕ), 0, 0] : Fin 3 → ℕ) a + S1x128x7168.size a ≤ S2x128x7168.size a := u3_inb (M := 7168) (by omega)
theorem dy_inb (b : Fin 2) : ∀ a, (![(b : ℕ), 0, 0] : Fin 3 → ℕ) a + S1x128x3584.size a ≤ S2x128x3584.size a := u3_inb (M := 3584) (by omega)
theorem wd_inb (n : Fin 10) : ∀ a, (![(n : ℕ), 0, 0] : Fin 3 → ℕ) a + S1x7168x512.size a ≤ S10x7168x512.size a := u3_inb (M := 512) (by omega)
theorem ws_inb (n : Fin 10) : ∀ a, (![0, 512 * (n : ℕ)] : Fin 2 → ℕ) a + S7168x512.size a ≤ S7168x5120.size a := u2_inb (by omega) (by omega)
abbrev rPre (b : Fin 2) : Rect S2x128x7168 := Rect.unit (s := S2x128x7168) ![(b : ℕ), 0, 0] S1x128x7168.size (pre_inb b)
abbrev rDy (b : Fin 2) : Rect S2x128x3584 := Rect.unit (s := S2x128x3584) ![(b : ℕ), 0, 0] S1x128x3584.size (dy_inb b)
abbrev rWd (n : Fin 10) : Rect S10x7168x512 := Rect.unit (s := S10x7168x512) ![(n : ℕ), 0, 0] S1x7168x512.size (wd_inb n)
abbrev rWs (n : Fin 10) : Rect S7168x5120 := Rect.unit (s := S7168x5120) ![0, 512 * (n : ℕ)] S7168x512.size (ws_inb n)
theorem dx_inb (b : Fin 2) (n : Fin 10) : ∀ a, (![(b : ℕ), 0, 512 * (n : ℕ)] : Fin 3 → ℕ) a + S1x128x512.size a ≤ S2x128x5120.size a := by
  intro a; fin_cases a
  · show (b : ℕ) + 1 ≤ 2; omega
  · show 0 + 128 ≤ 128; omega
  · show 512 * (n : ℕ) + 512 ≤ 5120; omega
theorem st_inb (b : Fin 2) (n : Fin 10) : ∀ a, (![(n : ℕ), (b : ℕ), 0, 0] : Fin 4 → ℕ) a + S1x1x128x512.size a ≤ S10x2x128x512.size a := by
  intro a; fin_cases a
  · show (n : ℕ) + 1 ≤ 10; omega
  · show (b : ℕ) + 1 ≤ 2; omega
  · show 0 + 128 ≤ 128; omega
  · show 0 + 512 ≤ 512; omega
theorem tl_inb (b : Fin 2) (n : Fin 10) (j : Fin 4) : ∀ a, (![(n : ℕ), (b : ℕ), 0, 128 * (j : ℕ)] : Fin 4 → ℕ) a + S1x1x128x128.size a ≤ S10x2x128x512.size a := by
  intro a; fin_cases a
  · show (n : ℕ) + 1 ≤ 10; omega
  · show (b : ℕ) + 1 ≤ 2; omega
  · show 0 + 128 ≤ 128; omega
  · show 128 * (j : ℕ) + 128 ≤ 512; omega
abbrev rDx (b : Fin 2) (n : Fin 10) : Rect S2x128x5120 := Rect.unit (s := S2x128x5120) ![(b : ℕ), 0, 512 * (n : ℕ)] S1x128x512.size (dx_inb b n)
abbrev rSt (b : Fin 2) (n : Fin 10) : Rect S10x2x128x512 := Rect.unit (s := S10x2x128x512) ![(n : ℕ), (b : ℕ), 0, 0] S1x1x128x512.size (st_inb b n)
abbrev rTl (b : Fin 2) (n : Fin 10) (j : Fin 4) : Rect S10x2x128x512 := Rect.unit (s := S10x2x128x512) ![(n : ℕ), (b : ℕ), 0, 128 * (j : ℕ)] S1x1x128x128.size (tl_inb b n j)

theorem wwPre : ∀ b : Fin 2, (rPre b).WholeWords (EltTy.packing .fp8e4m3) := by decide +kernel
theorem wwDy : ∀ b : Fin 2, (rDy b).WholeWords (EltTy.packing .fp8e5m2) := by decide +kernel
theorem wwWd : ∀ n : Fin 10, (rWd n).WholeWords (EltTy.packing .fp8e4m3) := by decide +kernel
theorem wwWs : ∀ n : Fin 10, (rWs n).WholeWords (EltTy.packing .fp8e4m3) := by decide +kernel
theorem wwDx : ∀ (b : Fin 2) (n : Fin 10), (rDx b n).WholeWords (EltTy.packing .bf16) := by decide +kernel
theorem wwSt : ∀ (b : Fin 2) (n : Fin 10), (rSt b n).WholeWords (EltTy.packing .bf16) := by decide +kernel
theorem prTl : ∀ (b : Fin 2) (n : Fin 10) (j : Fin 4), (rTl b n j).PackedRows (EltTy.packing .bf16) := by decide +kernel

abbrev sPre (b : Fin 2) : Memref sig .tc .hbm S128x7168 .fp8e4m3 := (aPrec.slice (Rect.unit (s := S2x128x7168) ![(b : ℕ), 0, 0] S1x128x7168.size (pre_inb b)) (fun _ => rfl)).squeeze S128x7168 squeezes_S1x128x7168_S128x7168
abbrev dPre (b : Fin 2) : Memref sig .tc .vmem S128x7168 .fp8e4m3 := (mPrec.slice (Rect.unit (s := S2x128x7168) ![(b : ℕ), 0, 0] S1x128x7168.size (pre_inb b)) (fun _ => rfl)).squeeze S128x7168 squeezes_S1x128x7168_S128x7168
abbrev sDy (b : Fin 2) : Memref sig .tc .hbm S128x3584 .fp8e5m2 := (aDyc.slice (Rect.unit (s := S2x128x3584) ![(b : ℕ), 0, 0] S1x128x3584.size (dy_inb b)) (fun _ => rfl)).squeeze S128x3584 squeezes_S1x128x3584_S128x3584
abbrev dDy (b : Fin 2) : Memref sig .tc .vmem S128x3584 .fp8e5m2 := (mDyc.slice (Rect.unit (s := S2x128x3584) ![(b : ℕ), 0, 0] S1x128x3584.size (dy_inb b)) (fun _ => rfl)).squeeze S128x3584 squeezes_S1x128x3584_S128x3584
abbrev sW (n : Fin 10) : Memref sig .tc .hbm S7168x512 .fp8e4m3 := aW.slice (Rect.unit (s := S7168x5120) ![0, 512 * (n : ℕ)] S7168x512.size (ws_inb n)) (fun _ => rfl)
abbrev dW (n : Fin 10) : Memref sig .tc .vmem S7168x512 .fp8e4m3 := (mW.slice (Rect.unit (s := S10x7168x512) ![(n : ℕ), 0, 0] S1x7168x512.size (wd_inb n)) (fun _ => rfl)).squeeze S7168x512 squeezes_S1x7168x512_S7168x512
abbrev sSt (b : Fin 2) (n : Fin 10) : Memref sig .tc .vmem S128x512 .bf16 := (mStage.slice (Rect.unit (s := S10x2x128x512) ![(n : ℕ), (b : ℕ), 0, 0] S1x1x128x512.size (st_inb b n)) (fun _ => rfl)).squeeze S128x512 squeezes_S1x1x128x512_S128x512
abbrev dDx (b : Fin 2) (n : Fin 10) : Memref sig .tc .hbm S128x512 .bf16 := (oDx.slice (Rect.unit (s := S2x128x5120) ![(b : ℕ), 0, 512 * (n : ℕ)] S1x128x512.size (dx_inb b n)) (fun _ => rfl)).squeeze S128x512 squeezes_S1x128x512_S128x512

theorem wsPre (b : Fin 2) : (sPre b).view.WordExact := ((Memref.isWhole_whole _).wordExact_slice rfl _ (wwPre b)).reshape _ _
theorem wdPre (b : Fin 2) : (dPre b).view.WordExact := ((Memref.isWhole_whole _).wordExact_slice rfl _ (wwPre b)).reshape _ _
theorem wsDy (b : Fin 2) : (sDy b).view.WordExact := ((Memref.isWhole_whole _).wordExact_slice rfl _ (wwDy b)).reshape _ _
theorem wdDy (b : Fin 2) : (dDy b).view.WordExact := ((Memref.isWhole_whole _).wordExact_slice rfl _ (wwDy b)).reshape _ _
theorem wsW (n : Fin 10) : (sW n).view.WordExact := (Memref.isWhole_whole _).wordExact_slice rfl _ (wwWs n)
theorem wdW (n : Fin 10) : (dW n).view.WordExact := ((Memref.isWhole_whole _).wordExact_slice rfl _ (wwWd n)).reshape _ _
theorem wsSt (b : Fin 2) (n : Fin 10) : (sSt b n).view.WordExact := ((Memref.isWhole_whole _).wordExact_slice rfl _ (wwSt b n)).reshape _ _
theorem wdDx (b : Fin 2) (n : Fin 10) : (dDx b n).view.WordExact := ((Memref.isWhole_whole _).wordExact_slice rfl _ (wwDx b n)).reshape _ _
theorem wWhole (r : Ref sig .tc) : (Memref.whole r : Memref sig .tc _ _ _).view.WordExact := (Memref.isWhole_whole r).wordExact

/-- Start a copy within the core, -/
abbrev go {sp sp' : Space} {s : Shape} {e : EltTy} (src : Memref sig .tc sp s e) (dst : Memref sig .tc sp' s e) (sem : DmaSem sig)
    (hs : src.view.WordExact) (hd : dst.view.WordExact)
    (hx : (DmaTarget.here (nD := nD) (τ := τ) (p := (.tc : Proc τ)) dst).Typed sp (SemLoc.dma sem)) : PG F PUnit := Prog.lift (.enqueueDma src (.here dst) (.dma sem) hs hd hx)
/-- and wait for it. -/
abbrev fin {sp sp' : Space} {s : Shape} {e : EltTy} (src : Memref sig .tc sp s e) (dst : Memref sig .tc sp' s e) (sem : DmaSem sig)
    (hs : src.view.WordExact) (hd : dst.view.WordExact) : PG F PUnit := Prog.lift (.waitDma2 sem src dst hs hd)

/-- The copies of the small arguments started, -/
def smallsGo : PG F PUnit := do
  go aDys mDys (semSmall 0) (wWhole _) (wWhole _) ⟨Or.inl rfl, trivial⟩
  go aPres mPres (semSmall 1) (wWhole _) (wWhole _) ⟨Or.inl rfl, trivial⟩
  go aH0 mH0 (semSmall 2) (wWhole _) (wWhole _) ⟨Or.inl rfl, trivial⟩
  go aWs mWs (semSmall 3) (wWhole _) (wWhole _) ⟨Or.inl rfl, trivial⟩
/-- and awaited; -/
def smallsFin : PG F PUnit := do
  fin aDys mDys (semSmall 0) (wWhole _) (wWhole _)
  fin aPres mPres (semSmall 1) (wWhole _) (wWhole _)
  fin aH0 mH0 (semSmall 2) (wWhole _) (wWhole _)
  fin aWs mWs (semSmall 3) (wWhole _) (wWhole _)
/-- a batch's copies started -/
def insGo (b : Fin 2) : PG F PUnit := do
  go (sPre b) (dPre b) (semIn b 0) (wsPre b) (wdPre b) ⟨Or.inl rfl, trivial⟩
  go (sDy b) (dDy b) (semIn b 1) (wsDy b) (wdDy b) ⟨Or.inl rfl, trivial⟩
/-- and awaited; -/
def insFin (b : Fin 2) : PG F PUnit := do
  fin (sPre b) (dPre b) (semIn b 0) (wsPre b) (wdPre b)
  fin (sDy b) (dDy b) (semIn b 1) (wsDy b) (wdDy b)
/-- the weight blocks' copies started; -/
def wGo : PG F PUnit := runF 10 (fun n hn _ => go (sW ⟨n, hn⟩) (dW ⟨n, hn⟩) (semW ⟨n, hn⟩) (wsW _) (wdW _) ⟨Or.inl rfl, trivial⟩) ⟨⟩
/-- the three small results' copies started -/
def outsGo : PG F PUnit := do
  go mCodes oCodes (semOut 0) (wWhole _) (wWhole _) ⟨Or.inl rfl, trivial⟩
  go mSc oSc (semOut 1) (wWhole _) (wWhole _) ⟨Or.inl rfl, trivial⟩
  go mDh0 oDh0 (semOut 2) (wWhole _) (wWhole _) ⟨Or.inl rfl, trivial⟩
/-- and awaited. -/
def outsFin : PG F PUnit := do
  fin mCodes oCodes (semOut 0) (wWhole _) (wWhole _)
  fin mSc oSc (semOut 1) (wWhole _) (wWhole _)
  fin mDh0 oDh0 (semOut 2) (wWhole _) (wWhole _)

/-! ## The product -/

theorem sl_acc : ∀ (b : Fin 2) (j : Fin 4), S256x512.Slices ![128 * (b : ℕ), 128 * (j : ℕ)] S128x128 := by decide

/-- The lane tile `j` of a batch's rows of the product, scaled and stored to be copied out. -/
def dxTile (n : Fin 10) (b : Fin 2) (acc : FVec F S256x512 .f32) (s : FVec F S128x128 .f32) (j : Fin 4) : PG F PUnit := do
  let _ ← Prog.lift (.load mStage (rTl b n j).toLoadRect (View.loadsAt_vmem h_S1x1x128x128))
  Prog.lift (.store mStage (rTl b n j)
    (shapeCast S1x1x128x128 (truncf .bf16 (mulf (extractStridedSlice S128x128 ![128 * (b : ℕ), 128 * (j : ℕ)] acc (sl_acc b j)) s) bitsLt_bf16_f32 : FVec F S128x128 .bf16) shapeCasts_S128x128_S1x1x128x128)
    Finset.univ (View.stores_vmem h_S1x1x128x128 ((Memref.isWhole_whole _).storeExact_slice rfl _ (prTl b n j)) (fun _ => rfl)) (.inl rfl))

/-- A block of the product, computed. -/
def dxBlock (n : Fin 10) : PG F PUnit := do
  let a : Vec F S256x7168 .bf16 ← Prog.lift (.load mA (Rect.unit (s := S256x7168) ![0, 0] S256x7168.size inb_S256x7168_S256x7168_0_0).toLoadRect (View.loadsAt_vmem h_S256x7168))
  let w : Vec F S1x7168x512 .fp8e4m3 ← Prog.lift (.load mW (rWd n).toLoadRect (View.loadsAt_vmem h_S1x7168x512))
  let _ ← runF 2 (fun b hb _ => do
    let s : Vec F S1x128x128 .f32 ← Prog.lift (.load mDsc (rB ⟨b, hb⟩).toLoadRect (View.loadsAt_vmem h_S1x128x128))
    runF 4 (fun j hj _ => dxTile n ⟨b, hb⟩
      (matmul dot_S256x7168_S7168x512_S256x512_1_0_0_1_n_n none a (shapeCast S7168x512 w shapeCasts_S1x7168x512_S7168x512 : FVec F S7168x512 .fp8e4m3) (constant S256x512 .f32 0x00000000#32))
      (shapeCast S128x128 s shapeCasts_S1x128x128_S128x128) ⟨j, hj⟩) ⟨⟩) ⟨⟩

/-- A block of the product: its weights awaited, computed, its two copies out started. -/
def dxTrip (n : Fin 10) : PG F PUnit := do
  fin (sW n) (dW n) (semW n) (wsW _) (wdW _)
  dxBlock n
  go (sSt 0 n) (dDx 0 n) (semSt 0 n) (wsSt 0 n) (wdDx 0 n) ⟨Or.inl rfl, trivial⟩
  go (sSt 1 n) (dDx 1 n) (semSt 1 n) (wsSt 1 n) (wdDx 1 n) ⟨Or.inl rfl, trivial⟩

/-- A block's copies out awaited. -/
def dxFin (n : Fin 10) : PG F PUnit := do
  fin (sSt 0 n) (dDx 0 n) (semSt 0 n) (wsSt 0 n) (wdDx 0 n)
  fin (sSt 1 n) (dDx 1 n) (semSt 1 n) (wsSt 1 n) (wdDx 1 n)

/-- The kernel. -/
def prog : PG F PUnit := do
  smallsGo
  insGo 0
  insGo 1
  wGo
  smallsFin
  spreads
  insFin 0
  batch 0
  insFin 1
  batch 1
  outsGo
  let _ ← Scf.for 0#32 10#32 1#32 k0_t5_ok (⟨⟩ : PUnit) fun n _ => dxTrip n
  let _ ← Scf.for 0#32 10#32 1#32 k0_t5_ok (⟨⟩ : PUnit) fun n _ => dxFin n
  outsFin

end Cert.Kernel
-- ==== Proof.K.Eq.lean ====
module

public import proofs.«01_k».proof.Proof.K.Prog
public import Idealize.ShloMosaic.Lib.Tactic

@[expose] public section

noncomputable section

namespace Cert.Kernel

open Idealize.ShloMosaic Idealize.SL.Sem
open Shapes1.Facts₀ K0.Facts₀ Facts

variable {F : FTy → Type} [FloatOps F]

/-- A trip of the product's loop as printed: the offsets are words of the trip. -/
def dxTripP (k0_t5 : Fin k0_t5_loop.trips) : PG F PUnit := do
  let ⟨v647, v659, v661, v678⟩ : Σ' (v647 : BitVec 32) (v659 : FVec F S256x512 .f32) (v661 : FVec F S128x128 .f32), FVec F S128x128 .bf16 ← k0_part235 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25 cc0_scratch26 cc0_scratch27 cc0_scratch28 (0#32) (1#32) k0_t5
  let v715 : FVec F S128x128 .bf16 ← k0_part236 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25 cc0_scratch26 cc0_scratch27 cc0_scratch28 k0_t5 v647 v659 v661 v678
  let v717 : Vec F S1x1x128x128 .bf16 ← Prog.lift (.load (Memref.whole cc0_scratch23) (Rect.unit (s := S10x2x128x512) (k0_off358 k0_t5) S1x1x128x128.size (k0_off358_inb k0_t5)).toLoadRect (View.loadsAt_vmem h_S1x1x128x128))
  have v718 : FVec F S128x128 .bf16 := shapeCast S128x128 v717 shapeCasts_S1x1x128x128_S128x128
  have v719 : FVec F S1x1x128x128 .bf16 := shapeCast S1x1x128x128 v715 shapeCasts_S128x128_S1x1x128x128
  Prog.lift (.store (Memref.whole cc0_scratch23) (Rect.unit (s := S10x2x128x512) (k0_off358 k0_t5) S1x1x128x128.size (k0_off358_inb k0_t5)) v719 Finset.univ (View.stores_vmem h_S1x1x128x128 ((Memref.isWhole_whole _).storeExact_slice rfl _ (k0_off358_packedbf16 k0_t5)) (fun _ => rfl)) (.inl rfl))
  let c512_i32_615 : BitVec 32 := 512#32
  let v722 : DmaSems sig S1x1 := cc0_scratch28.slice (Rect.unit (s := S2x10) (k0_off359 k0_t5) S1x1.size (k0_off359_inb k0_t5))
  let v723 : DmaSems sig S_ := v722.squeeze S_ squeezes_S1x1_S_
  let v724 : Memref sig .tc .hbm S1x128x512 .bf16 := (Memref.whole main_v1_0).slice (Rect.unit (s := S2x128x5120) (k0_off360 k0_t5) S1x128x512.size (k0_off360_inb k0_t5)) (fun _ => rfl)
  let v725 : Memref sig .tc .hbm S128x512 .bf16 := v724.squeeze S128x512 squeezes_S1x128x512_S128x512
  let v726 : Memref sig .tc .vmem S1x1x128x512 .bf16 := (Memref.whole cc0_scratch23).slice (Rect.unit (s := S10x2x128x512) (k0_off361 k0_t5) S1x1x128x512.size (k0_off361_inb k0_t5)) (fun _ => rfl)
  let v727 : Memref sig .tc .vmem S128x512 .bf16 := v726.squeeze S128x512 squeezes_S1x1x128x512_S128x512
  Prog.lift (.enqueueDma v727 (.here v725) (.dma v723.sem) (((Memref.isWhole_whole _).wordExact_slice rfl _ (k0_off361_wordsbf16 k0_t5)).reshape _ _) (((Memref.isWhole_whole _).wordExact_slice rfl _ (k0_off360_wordsbf16 k0_t5)).reshape _ _) ⟨Or.inl rfl, trivial⟩)
  let c512_i32_622 : BitVec 32 := 512#32
  let v730 : DmaSems sig S1x1 := cc0_scratch28.slice (Rect.unit (s := S2x10) (k0_off362 k0_t5) S1x1.size (k0_off362_inb k0_t5))
  let v731 : DmaSems sig S_ := v730.squeeze S_ squeezes_S1x1_S_
  let v732 : Memref sig .tc .hbm S1x128x512 .bf16 := (Memref.whole main_v1_0).slice (Rect.unit (s := S2x128x5120) (k0_off363 k0_t5) S1x128x512.size (k0_off363_inb k0_t5)) (fun _ => rfl)
  let v733 : Memref sig .tc .hbm S128x512 .bf16 := v732.squeeze S128x512 squeezes_S1x128x512_S128x512
  let v734 : Memref sig .tc .vmem S1x1x128x512 .bf16 := (Memref.whole cc0_scratch23).slice (Rect.unit (s := S10x2x128x512) (k0_off364 k0_t5) S1x1x128x512.size (k0_off364_inb k0_t5)) (fun _ => rfl)
  let v735 : Memref sig .tc .vmem S128x512 .bf16 := v734.squeeze S128x512 squeezes_S1x1x128x512_S128x512
  Prog.lift (.enqueueDma v735 (.here v733) (.dma v731.sem) (((Memref.isWhole_whole _).wordExact_slice rfl _ (k0_off364_wordsbf16 k0_t5)).reshape _ _) (((Memref.isWhole_whole _).wordExact_slice rfl _ (k0_off363_wordsbf16 k0_t5)).reshape _ _) ⟨Or.inl rfl, trivial⟩)
  pure ⟨⟩

/-- A trip of the last waits as printed. -/
def dxFinP (k0_t6 : Fin k0_t6_loop.trips) : PG F PUnit := do
  let arg40 : BitVec 32 := Scf.iv (0#32) (1#32) k0_t6
  let c1_i32_574 : BitVec 32 := 1#32
  let v646 : BitVec 32 := Scalar.muli arg40 c1_i32_574
  let c0_i32_575 : BitVec 32 := 0#32
  let v647 : BitVec 32 := Scalar.addi c0_i32_575 v646
  let c512_i32_576 : BitVec 32 := 512#32
  let v650 : DmaSems sig S1x1 := cc0_scratch28.slice (Rect.unit (s := S2x10) (k0_off365 k0_t6) S1x1.size (k0_off365_inb k0_t6))
  let v651 : DmaSems sig S_ := v650.squeeze S_ squeezes_S1x1_S_
  let v652 : Memref sig .tc .hbm S1x128x512 .bf16 := (Memref.whole main_v1_0).slice (Rect.unit (s := S2x128x5120) (k0_off366 k0_t6) S1x128x512.size (k0_off366_inb k0_t6)) (fun _ => rfl)
  let v653 : Memref sig .tc .hbm S128x512 .bf16 := v652.squeeze S128x512 squeezes_S1x128x512_S128x512
  let v654 : Memref sig .tc .vmem S1x1x128x512 .bf16 := (Memref.whole cc0_scratch23).slice (Rect.unit (s := S10x2x128x512) (k0_off367 k0_t6) S1x1x128x512.size (k0_off367_inb k0_t6)) (fun _ => rfl)
  let v655 : Memref sig .tc .vmem S128x512 .bf16 := v654.squeeze S128x512 squeezes_S1x1x128x512_S128x512
  Prog.lift (.waitDma2 v651.sem v655 v653 (((Memref.isWhole_whole _).wordExact_slice rfl _ (k0_off367_wordsbf16 k0_t6)).reshape _ _) (((Memref.isWhole_whole _).wordExact_slice rfl _ (k0_off366_wordsbf16 k0_t6)).reshape _ _))
  let c512_i32_583 : BitVec 32 := 512#32
  let v658 : DmaSems sig S1x1 := cc0_scratch28.slice (Rect.unit (s := S2x10) (k0_off368 k0_t6) S1x1.size (k0_off368_inb k0_t6))
  let v659 : DmaSems sig S_ := v658.squeeze S_ squeezes_S1x1_S_
  let v660 : Memref sig .tc .hbm S1x128x512 .bf16 := (Memref.whole main_v1_0).slice (Rect.unit (s := S2x128x5120) (k0_off369 k0_t6) S1x128x512.size (k0_off369_inb k0_t6)) (fun _ => rfl)
  let v661 : Memref sig .tc .hbm S128x512 .bf16 := v660.squeeze S128x512 squeezes_S1x128x512_S128x512
  let v662 : Memref sig .tc .vmem S1x1x128x512 .bf16 := (Memref.whole cc0_scratch23).slice (Rect.unit (s := S10x2x128x512) (k0_off370 k0_t6) S1x1x128x512.size (k0_off370_inb k0_t6)) (fun _ => rfl)
  let v663 : Memref sig .tc .vmem S128x512 .bf16 := v662.squeeze S128x512 squeezes_S1x1x128x512_S128x512
  Prog.lift (.waitDma2 v659.sem v663 v661 (((Memref.isWhole_whole _).wordExact_slice rfl _ (k0_off370_wordsbf16 k0_t6)).reshape _ _) (((Memref.isWhole_whole _).wordExact_slice rfl _ (k0_off369_wordsbf16 k0_t6)).reshape _ _))
  pure ⟨⟩

set_option maxHeartbeats 4000000 in
set_option maxRecDepth 100000 in
/-- The two agree at every trip. -/
theorem dxTripP_eq (k : Fin 10) : (dxTripP k : PG F PUnit) = dxTrip k := by
  obtain ⟨k, hk⟩ := k
  interval_cases k <;> sl_kernel_rfl

set_option maxHeartbeats 4000000 in
set_option maxRecDepth 100000 in
/-- And of the waits. -/
theorem dxFinP_eq (k : Fin 10) : (dxFinP k : PG F PUnit) = dxFin k := by
  obtain ⟨k, hk⟩ := k
  interval_cases k <;> sl_kernel_rfl

/-! ## The printed nesting

The printed kernel is cut into parts, and a loop inside a part is nested in the part's own sequence; the cuts are
named here, the nesting is undone by associativity. -/

abbrev for1 (b : Fin 2) : PG F (FVec F S28x128 .f32) :=
  Scf.for 0#32 4#32 1#32 k0_t1_ok (broadcast S28x128 (Scalar.ofBits .f32 0x00000000#32)) fun k q => revTrip b (revWord_lt k) q
abbrev for2 (b : Fin 2) (h : FVec F S28x128 .f32) : PG F (FVec F S28x128 .f32) :=
  Scf.for 0#32 4#32 1#32 k0_t1_ok h fun k h => fwdTrip b k h

/-- One copy of a row of the state to the result. -/
def dh0Row (b : Fin 2) (g : ℕ) (hg : g < 28) : PG F PUnit := do
  let v : Vec F S1x128 .f32 ← Prog.lift (.load mH (rH hg).toLoadRect (View.loadsAt_vmem h_S1x128))
  let _ ← Prog.lift (.load mDh0 (rD b hg).toLoadRect (View.loadsAt_vmem h_S1x128))
  Prog.lift (.store mDh0 (rD b hg) (shapeCast S1x128 v shapeCasts_S1x128_S1x128) Finset.univ (View.stores_vmem_bits_univ h_S1x128 rfl) (.inl rfl))
/-- One copy of a row of the initial state. -/
def h0Row (b : Fin 2) (g : ℕ) (hg : g < 28) : PG F PUnit := do
  let v : Vec F S1x128 .f32 ← Prog.lift (.load mH0 (rD b hg).toLoadRect (View.loadsAt_vmem h_S1x128))
  let _ ← Prog.lift (.load mH (rH hg).toLoadRect (View.loadsAt_vmem h_S1x128))
  Prog.lift (.store mH (rH hg) (shapeCast S1x128 v shapeCasts_S1x128_S1x128) Finset.univ (View.stores_vmem_bits_univ h_S1x128 rfl) (.inl rfl))

/-- The state stored, the first `n` rows copied. -/
def storeRows (b : Fin 2) (n : ℕ) (hn : n ≤ 28) (q : FVec F S28x128 .f32) : PG F PUnit := do
  let _ ← Prog.lift (.load mH rHw.toLoadRect (View.loadsAt_vmem h_S28x128))
  Prog.lift (.store mH rHw (shapeCast S28x128 q shapeCasts_S28x128_S28x128) Finset.univ (View.stores_vmem_bits_univ h_S28x128 rfl) (.inl rfl))
  runF n (fun g hg _ => dh0Row b g (by omega)) ⟨⟩
/-- The rows from `n` on, and the initial state in. -/
def restRows (b : Fin 2) (n : ℕ) : PG F (Vec F S28x128 .f32) := do
  let _ ← runF (28 - n) (fun g hg _ => dh0Row b (n + g) (by omega)) ⟨⟩
  let _ ← runF 28 (fun g hg _ => h0Row b g hg) ⟨⟩
  Prog.lift (.load mH rHw.toLoadRect (View.loadsAt_vmem h_S28x128))

def k260 (_ : FVec F S28x128 .f32) : PG F PUnit := do
  scalesOut 1
  outsGo
  let _ ← Scf.for 0#32 10#32 1#32 k0_t5_ok (⟨⟩ : PUnit) fun n _ => dxTripP n
  let _ ← Scf.for 0#32 10#32 1#32 k0_t5_ok (⟨⟩ : PUnit) fun n _ => dxFinP n
  pure ⟨⟩
def k251 (q : FVec F S28x128 .f32) : PG F (Vec F S1x128 .f32) := do
  storeRows 1 1 (by omega) q
  Prog.lift (.load mH (rH (g := 1) (by omega)).toLoadRect (View.loadsAt_vmem h_S1x128))
def r251 (v : Vec F S1x128 .f32) : PG F PUnit := do
  let _ ← Prog.lift (.load mDh0 (rD 1 (g := 1) (by omega)).toLoadRect (View.loadsAt_vmem h_S1x128))
  Prog.lift (.store mDh0 (rD 1 (g := 1) (by omega)) (shapeCast S1x128 v shapeCasts_S1x128_S1x128) Finset.univ (View.stores_vmem_bits_univ h_S1x128 rfl) (.inl rfl))
  let h ← restRows 1 2
  (for2 1 h >>= k260) >>= fun _ => outsFin
def k250 (_ : FVec F S28x128 .f32) : PG F (FVec F S1x128 .f32) := do
  let s : Vec F S1x128x128 .f32 ← Prog.lift (.load mDsc (rB 0).toLoadRect (View.loadsAt_vmem h_S1x128x128))
  pure (extractStridedSlice S1x128 ![0, 0] (transpose S128x128 [1, 0] (shapeCast S128x128 s shapeCasts_S1x128x128_S128x128) transposes_S128x128_p1_0_S128x128 : FVec F S128x128 .f32) slices_S128x128_o0_0_S1x128)
def r250 (v : FVec F S1x128 .f32) : PG F PUnit := do
  let _ ← Prog.lift (.load mSc (rTokRow 0).toLoadRect (View.loadsAt_vmem h_S1x128))
  Prog.lift (.store mSc (rTokRow 0) (shapeCast S1x128 v shapeCasts_S1x128_S1x128) Finset.univ (View.stores_vmem_bits_univ h_S1x128 rfl) (.inl rfl))
  insFin 1
  (for1 1 >>= k251) >>= r251
def k242 (q : FVec F S28x128 .f32) : PG F (Σ' (v162 : Vec F S1x128 .f32), Vec F S1x128 .f32) := do
  storeRows 0 4 (by omega) q
  let v ← Prog.lift (.load mH (rH (g := 4) (by omega)).toLoadRect (View.loadsAt_vmem h_S1x128))
  let w ← Prog.lift (.load mDh0 (rD 0 (g := 4) (by omega)).toLoadRect (View.loadsAt_vmem h_S1x128))
  pure ⟨v, w⟩
def r242 (p : Σ' (v162 : Vec F S1x128 .f32), Vec F S1x128 .f32) : PG F PUnit := do
  Prog.lift (.store mDh0 (rD 0 (g := 4) (by omega)) (shapeCast S1x128 p.1 shapeCasts_S1x128_S1x128) Finset.univ (View.stores_vmem_bits_univ h_S1x128 rfl) (.inl rfl))
  let h ← restRows 0 5
  (for2 0 h >>= k250) >>= r250

/-- The program, nested as printed. -/
def progP : PG F PUnit := do
  smallsGo
  insGo 0
  insGo 1
  wGo
  smallsFin
  spreads
  insFin 0
  (for1 0 >>= k242) >>= r242

theorem loop5 : (Scf.for 0#32 10#32 1#32 k0_t5_ok (⟨⟩ : PUnit) fun n _ => dxTripP n : PG F PUnit)
    = Scf.for 0#32 10#32 1#32 k0_t5_ok (⟨⟩ : PUnit) fun n _ => dxTrip n := by
  have h : (fun (n : Fin (Scf.trips 0#32 10#32 1#32)) (_ : PUnit) => (dxTripP n : PG F PUnit)) = fun n _ => dxTrip n := by
    funext n _; exact dxTripP_eq n
  exact congrArg (Scf.for 0#32 10#32 1#32 k0_t5_ok (⟨⟩ : PUnit)) h

theorem loop6 : (Scf.for 0#32 10#32 1#32 k0_t5_ok (⟨⟩ : PUnit) fun n _ => dxFinP n : PG F PUnit)
    = Scf.for 0#32 10#32 1#32 k0_t5_ok (⟨⟩ : PUnit) fun n _ => dxFin n := by
  have h : (fun (n : Fin (Scf.trips 0#32 10#32 1#32)) (_ : PUnit) => (dxFinP n : PG F PUnit)) = fun n _ => dxFin n := by
    funext n _; exact dxFinP_eq n
  exact congrArg (Scf.for 0#32 10#32 1#32 k0_t5_ok (⟨⟩ : PUnit)) h

/-- The end of the program. -/
def ending : PG F PUnit := do
  outsGo
  let _ ← Scf.for 0#32 10#32 1#32 k0_t5_ok (⟨⟩ : PUnit) fun n _ => dxTrip n
  let _ ← Scf.for 0#32 10#32 1#32 k0_t5_ok (⟨⟩ : PUnit) fun n _ => dxFin n
  outsFin

theorem levelA (h : FVec F S28x128 .f32) : ((for2 1 h >>= k260) >>= fun _ => outsFin)
    = (for2 1 h >>= fun _ => scalesOut 1 >>= fun _ => (ending : PG F PUnit)) := by
  unfold k260 ending
  rw [loop5, loop6]
  simp only [bind_assoc, pure_bind]

set_option maxHeartbeats 4000000 in
set_option maxRecDepth 100000 in
theorem midB (q : FVec F S28x128 .f32) (R : FVec F S28x128 .f32 → PG F PUnit) :
    (k251 q >>= fun v => do
      let _ ← Prog.lift (.load mDh0 (rD 1 (g := 1) (by omega)).toLoadRect (View.loadsAt_vmem h_S1x128))
      Prog.lift (.store mDh0 (rD 1 (g := 1) (by omega)) (shapeCast S1x128 v shapeCasts_S1x128_S1x128) Finset.univ (View.stores_vmem_bits_univ h_S1x128 rfl) (.inl rfl))
      let h ← restRows 1 2
      R h) = between 1 q >>= R := by sl_kernel_rfl

theorem batch_bind (b : Fin 2) (R : PG F PUnit) : ((batch b : PG F PUnit) >>= fun _ => R)
    = for1 b >>= fun q => between b q >>= fun h => for2 b h >>= fun _ => scalesOut b >>= fun _ => R := by
  unfold batch
  simp only [bind_assoc]

theorem levelB : ((for1 1 >>= k251) >>= r251) = ((batch 1 : PG F PUnit) >>= fun _ => ending) := by
  have h : r251 (F := F) = fun v => (do
      let _ ← Prog.lift (.load mDh0 (rD 1 (g := 1) (by omega)).toLoadRect (View.loadsAt_vmem h_S1x128))
      Prog.lift (.store mDh0 (rD 1 (g := 1) (by omega)) (shapeCast S1x128 v shapeCasts_S1x128_S1x128) Finset.univ (View.stores_vmem_bits_univ h_S1x128 rfl) (.inl rfl))
      let h ← restRows 1 2
      (for2 1 h >>= fun _ => scalesOut 1 >>= fun _ => (ending : PG F PUnit))) := by
    funext v; unfold r251; simp only [levelA]
  rw [h, bind_assoc, batch_bind]
  exact congrArg (for1 1 >>= ·) (funext fun q => midB q _)

set_option maxHeartbeats 4000000 in
set_option maxRecDepth 100000 in
theorem midC (h : FVec F S28x128 .f32) (R : PG F PUnit) : (k250 h >>= fun v => do
      let _ ← Prog.lift (.load mSc (rTokRow 0).toLoadRect (View.loadsAt_vmem h_S1x128))
      Prog.lift (.store mSc (rTokRow 0) (shapeCast S1x128 v shapeCasts_S1x128_S1x128) Finset.univ (View.stores_vmem_bits_univ h_S1x128 rfl) (.inl rfl))
      insFin 1
      R) = scalesOut 0 >>= fun _ => insFin 1 >>= fun _ => R := by sl_kernel_rfl

theorem levelC (h : FVec F S28x128 .f32) : ((for2 0 h >>= k250) >>= r250)
    = (for2 0 h >>= fun _ => scalesOut 0 >>= fun _ => insFin 1 >>= fun _ => (batch 1 : PG F PUnit) >>= fun _ => ending) := by
  unfold r250
  rw [levelB, bind_assoc]
  exact congrArg (for2 0 h >>= ·) (funext fun q => midC q _)

set_option maxHeartbeats 4000000 in
set_option maxRecDepth 100000 in
theorem midD (q : FVec F S28x128 .f32) (R : FVec F S28x128 .f32 → PG F PUnit) :
    (k242 q >>= fun p => do
      Prog.lift (.store mDh0 (rD 0 (g := 4) (by omega)) (shapeCast S1x128 p.1 shapeCasts_S1x128_S1x128) Finset.univ (View.stores_vmem_bits_univ h_S1x128 rfl) (.inl rfl))
      let h ← restRows 0 5
      R h) = between 0 q >>= R := by sl_kernel_rfl

theorem progP_eq : (progP : PG F PUnit) = prog := by
  have hD : ((for1 0 >>= k242) >>= r242) = ((batch 0 : PG F PUnit) >>= fun _ => insFin 1 >>= fun _ => (batch 1 : PG F PUnit) >>= fun _ => ending) := by
    have : r242 (F := F) = fun p => (do
      Prog.lift (.store mDh0 (rD 0 (g := 4) (by omega)) (shapeCast S1x128 p.1 shapeCasts_S1x128_S1x128) Finset.univ (View.stores_vmem_bits_univ h_S1x128 rfl) (.inl rfl))
      let h ← restRows 0 5
      (for2 0 h >>= fun _ => scalesOut 0 >>= fun _ => insFin 1 >>= fun _ => (batch 1 : PG F PUnit) >>= fun _ => ending)) := by
      funext p; unfold r242; simp only [levelC]
    rw [this, bind_assoc]
    refine (congrArg (for1 0 >>= ·) (funext fun q => midD q _)).trans ?_
    exact (batch_bind 0 _).symm
  unfold progP prog
  rw [hD]
  rfl

set_option maxRecDepth 100000 in
set_option maxHeartbeats 4000000 in
/-- The printed kernel is the program of `Prog.lean`. -/
theorem printed_eqP : (cc0_mingru_bwd (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25 cc0_scratch26 cc0_scratch27 cc0_scratch28 : PG F PUnit) = progP := by sl_kernel_rfl

theorem printed_eq : (cc0_mingru_bwd (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25 cc0_scratch26 cc0_scratch27 cc0_scratch28 : PG F PUnit) = prog := printed_eqP.trans progP_eq

end Cert.Kernel
-- ==== Proof.K.Spec.lean ====
module

public import proofs.«01_k».proof.Proof.K.Eq
public import Idealize.ShloMosaic.Lib.Pointwise.Index
public import Idealize.ShloMosaic.Lib.Pipeline.Value

@[expose] public section

noncomputable section

namespace Cert.Kernel

open Idealize.ShloMosaic Idealize.ShloMosaic.TcCoe Idealize.SL.Sem
open Shapes1.Facts₀ K0.Facts₀ Facts

variable {F : FTy → Type} [FloatOps F]

/-! ## Indices by numbers -/

/-- The index at two numbers, -/
def n2 {A B : ℕ} [NeZero A] [NeZero B] (i j : ℕ) : (⟨2, ![A, B]⟩ : Shape).Idx := ix2 (Fin.ofNat A i) (Fin.ofNat B j)
/-- at three. -/
def n3 {A B C : ℕ} [NeZero A] [NeZero B] [NeZero C] (i j k : ℕ) : (⟨3, ![A, B, C]⟩ : Shape).Idx :=
  ix3 (Fin.ofNat A i) (Fin.ofNat B j) (Fin.ofNat C k)

theorem eq_n2 {A B : ℕ} [NeZero A] [NeZero B] {x : (⟨2, ![A, B]⟩ : Shape).Idx} {i j : ℕ} (h0 : (x 0).val = i) (h1 : (x 1).val = j) : x = n2 i j := by
  subst h0 h1
  funext a
  fin_cases a
  · exact Fin.ext (Nat.mod_eq_of_lt (x 0).isLt).symm
  · exact Fin.ext (Nat.mod_eq_of_lt (x 1).isLt).symm
theorem eq_n3 {A B C : ℕ} [NeZero A] [NeZero B] [NeZero C] {x : (⟨3, ![A, B, C]⟩ : Shape).Idx} {i j k : ℕ}
    (h0 : (x 0).val = i) (h1 : (x 1).val = j) (h2 : (x 2).val = k) : x = n3 i j k := by
  subst h0 h1 h2
  funext a
  fin_cases a
  · exact Fin.ext (Nat.mod_eq_of_lt (x 0).isLt).symm
  · exact Fin.ext (Nat.mod_eq_of_lt (x 1).isLt).symm
  · exact Fin.ext (Nat.mod_eq_of_lt (x 2).isLt).symm
theorem n2_0 {A B : ℕ} [NeZero A] [NeZero B] {i j : ℕ} (h : i < A) : ((n2 i j : (⟨2, ![A, B]⟩ : Shape).Idx) 0).val = i := Nat.mod_eq_of_lt h
theorem n2_1 {A B : ℕ} [NeZero A] [NeZero B] {i j : ℕ} (h : j < B) : ((n2 i j : (⟨2, ![A, B]⟩ : Shape).Idx) 1).val = j := Nat.mod_eq_of_lt h
theorem n3_0 {A B C : ℕ} [NeZero A] [NeZero B] [NeZero C] {i j k : ℕ} (h : i < A) : ((n3 i j k : (⟨3, ![A, B, C]⟩ : Shape).Idx) 0).val = i := Nat.mod_eq_of_lt h
theorem n3_1 {A B C : ℕ} [NeZero A] [NeZero B] [NeZero C] {i j k : ℕ} (h : j < B) : ((n3 i j k : (⟨3, ![A, B, C]⟩ : Shape).Idx) 1).val = j := Nat.mod_eq_of_lt h
theorem n3_2 {A B C : ℕ} [NeZero A] [NeZero B] [NeZero C] {i j k : ℕ} (h : k < C) : ((n3 i j k : (⟨3, ![A, B, C]⟩ : Shape).Idx) 2).val = k := Nat.mod_eq_of_lt h

theorem dropU {α : Type} {A B : ℕ} [NeZero A] [NeZero B] (v : (⟨3, ![1, A, B]⟩ : Shape).Idx → α) (h : (⟨3, ![1, A, B]⟩ : Shape).ShapeCasts ⟨2, ![A, B]⟩)
    (x : (⟨2, ![A, B]⟩ : Shape).Idx) : shapeCast ⟨2, ![A, B]⟩ v h x = v (n3 0 (x 0) (x 1)) := by
  refine (shapeCast_dropUnit_apply ![A, B] v h x).trans (congrArg v (eq_n3 ?_ ?_ ?_)) <;> rfl
theorem addU {α : Type} {A B : ℕ} [NeZero A] [NeZero B] (v : (⟨2, ![A, B]⟩ : Shape).Idx → α) (h : (⟨2, ![A, B]⟩ : Shape).ShapeCasts ⟨3, ![1, A, B]⟩)
    (x : (⟨3, ![1, A, B]⟩ : Shape).Idx) : shapeCast ⟨3, ![1, A, B]⟩ v h x = v (n2 (x 1) (x 2)) := by
  refine (shapeCast_addUnit_apply ![A, B] v h x).trans (congrArg v (eq_n2 ?_ ?_)) <;> rfl

/-! ## What a store leaves -/

theorem st_ind {s : Shape} {α : Type} (r : LoadRect s) (w : r.shape.Idx → α) (f : s.Idx → α) (i : s.Idx) (P : α → Prop)
    (hs : ∀ a, 0 < r.stride a)
    (hit : ∀ y : r.shape.Idx, (∀ a, (i a : ℕ) = r.off a + r.stride a * y a) → P (w y))
    (miss : ¬ (∀ a, r.off a ≤ i a ∧ (i a - r.off a) % r.stride a = 0 ∧ (i a - r.off a) / r.stride a < r.size a) → P (f i)) : P (st r w f i) := by
  unfold st
  split
  · next h =>
    refine hit _ fun a => ?_
    have h1 := h a
    show (i a : ℕ) = r.off a + r.stride a * ((i a - r.off a) / r.stride a)
    rw [Nat.mul_div_cancel' (Nat.dvd_of_mod_eq_zero h1.2.1)]; omega
  · next h => exact miss h

/-- At rank two, the rectangle by numbers. -/
theorem st2 {A B : ℕ} {α : Type} (r : LoadRect (⟨2, ![A, B]⟩ : Shape)) (w : r.shape.Idx → α) (f : (⟨2, ![A, B]⟩ : Shape).Idx → α) (i : (⟨2, ![A, B]⟩ : Shape).Idx) (P : α → Prop)
    (o0 s0 z0 o1 s1 z1 : ℕ) (h0 : r.off 0 = o0 ∧ r.stride 0 = s0 ∧ r.size 0 = z0) (h1 : r.off 1 = o1 ∧ r.stride 1 = s1 ∧ r.size 1 = z1)
    (hs : 0 < s0 ∧ 0 < s1)
    (hit : ∀ y : r.shape.Idx, (i 0 : ℕ) = o0 + s0 * y 0 → (i 1 : ℕ) = o1 + s1 * y 1 → P (w y))
    (miss : ¬ ((o0 ≤ (i 0 : ℕ) ∧ ((i 0 : ℕ) - o0) % s0 = 0 ∧ ((i 0 : ℕ) - o0) / s0 < z0) ∧ (o1 ≤ (i 1 : ℕ) ∧ ((i 1 : ℕ) - o1) % s1 = 0 ∧ ((i 1 : ℕ) - o1) / s1 < z1)) → P (f i)) :
    P (st r w f i) := by
  obtain ⟨rfl, rfl, rfl⟩ := h0
  obtain ⟨rfl, rfl, rfl⟩ := h1
  refine st_ind r w f i P (Fin.forall_fin_two.mpr hs) (fun y hy => hit y (hy 0) (hy 1)) fun h => miss fun h' => h (Fin.forall_fin_two.mpr h')

/-- At rank three, unit strides. -/
theorem st3 {A B C : ℕ} {α : Type} (r : Rect (⟨3, ![A, B, C]⟩ : Shape)) (w : r.shape.Idx → α) (f : (⟨3, ![A, B, C]⟩ : Shape).Idx → α) (i : (⟨3, ![A, B, C]⟩ : Shape).Idx) (P : α → Prop)
    (o0 z0 o1 z1 o2 z2 : ℕ) (h0 : r.off 0 = o0 ∧ r.size 0 = z0) (h1 : r.off 1 = o1 ∧ r.size 1 = z1) (h2 : r.off 2 = o2 ∧ r.size 2 = z2)
    (hs : ∀ a, r.stride a = 1)
    (hit : ∀ y : r.shape.Idx, (i 0 : ℕ) = o0 + y 0 → (i 1 : ℕ) = o1 + y 1 → (i 2 : ℕ) = o2 + y 2 → P (w y))
    (miss : ¬ ((o0 ≤ (i 0 : ℕ) ∧ (i 0 : ℕ) < o0 + z0) ∧ (o1 ≤ (i 1 : ℕ) ∧ (i 1 : ℕ) < o1 + z1) ∧ (o2 ≤ (i 2 : ℕ) ∧ (i 2 : ℕ) < o2 + z2)) → P (f i)) :
    P (st r.toLoadRect w f i) := by
  obtain ⟨rfl, rfl⟩ := h0
  obtain ⟨rfl, rfl⟩ := h1
  obtain ⟨rfl, rfl⟩ := h2
  refine st_ind r.toLoadRect w f i P (fun a => (hs a).symm ▸ Nat.one_pos) (fun y hy => hit y ?_ ?_ ?_) fun h => miss fun h' => h fun a => ?_
  · rw [hy 0, hs 0, Nat.one_mul]
  · rw [hy 1, hs 1, Nat.one_mul]
  · rw [hy 2, hs 2, Nat.one_mul]
  · rw [hs a, Nat.mod_one, Nat.div_one]
    have h' := h'
    fin_cases a
    · exact ⟨h'.1.1, rfl, by show (i 0 : ℕ) - r.off 0 < r.size 0; omega⟩
    · exact ⟨h'.2.1.1, rfl, by show (i 1 : ℕ) - r.off 1 < r.size 1; omega⟩
    · exact ⟨h'.2.2.1, rfl, by show (i 2 : ℕ) - r.off 2 < r.size 2; omega⟩

/-! ## The kernel's arithmetic, element by element -/

/-- The kernel's inputs. -/
structure Inp (F : FTy → Type) where
  dyc : S2x128x3584.Idx → F .fp8e5m2
  dys : S2x128.Idx → F .f32
  prec : S2x128x7168.Idx → F .fp8e4m3
  pres : S2x128.Idx → F .f32
  h0 : S2x3584.Idx → F .f32
  w : S7168x5120.Idx → F .fp8e4m3
  ws : S56x128.Idx → F .f32

abbrev oneF : F .f32 := Scalar.ofBits .f32 0x3F800000#32
abbrev zeroF : F .f32 := Scalar.ofBits .f32 0x00000000#32
abbrev negL : F .f32 := Scalar.ofBits .f32 0xBFB8AA3B#32

/-- The logistic function by `exp2`, of an argument already scaled. -/
abbrev logi (p : F .f32) : F .f32 := FloatOps.divf oneF (FloatOps.addf oneF (FloatOps.exp2 p))

variable (X : Inp F)

/-- A preactivation's code. -/
abbrev preF (b t e : ℕ) : F .f32 := FloatOps.extf .f32 bitsLt_fp8e4m3_f32 (X.prec (n3 b t e))
/-- The update gate. -/
def zE (b t d : ℕ) : F .f32 := logi (FloatOps.mulf (preF X b t d) (FloatOps.mulf (X.pres (n2 b t)) negL))
/-- The gradient coming in. -/
def dyE (b t d : ℕ) : F .f32 := FloatOps.mulf (FloatOps.extf .f32 bitsLt_fp8e5m2_f32 (X.dyc (n3 b t d))) (X.dys (n2 b t))
/-- The candidate's preactivation, -/
def paE (b t d : ℕ) : F .f32 := FloatOps.mulf (preF X b t (3584 + d)) (X.pres (n2 b t))
def posE (b t d : ℕ) : BitVec 1 := FloatOps.cmpf .oge (paE X b t d) zeroF
def sgE (b t d : ℕ) : F .f32 := logi (FloatOps.mulf (paE X b t d) negL)
/-- the candidate -/
def htE (b t d : ℕ) : F .f32 := Scalar.select (posE X b t d) (FloatOps.addf (paE X b t d) (Scalar.ofBits .f32 0x3F000000#32)) (sgE X b t d)
/-- and its derivative. -/
def gpE (b t d : ℕ) : F .f32 := Scalar.select (posE X b t d) oneF (FloatOps.mulf (sgE X b t d) (FloatOps.subf oneF (sgE X b t d)))
/-- The gradient carried back over the last `n` tokens. -/
def QE (b d : ℕ) : ℕ → F .f32
  | 0 => zeroF
  | n + 1 => FloatOps.mulf (FloatOps.subf oneF (zE X b (127 - n) d)) (FloatOps.addf (dyE X b (127 - n) d) (QE b d n))
/-- The state before token `t`. -/
def HE (b d : ℕ) : ℕ → F .f32
  | 0 => X.h0 (n2 b d)
  | t + 1 => FloatOps.addf (HE b d t) (FloatOps.mulf (zE X b t d) (FloatOps.subf (htE X b t d) (HE b d t)))
/-- The state's gradient at token `t`. -/
def GE (b t d : ℕ) : F .f32 := FloatOps.addf (dyE X b t d) (QE X b d (127 - t))
/-- The gradients of the two preactivations. -/
def DZ (b t d : ℕ) : F .f32 := FloatOps.mulf (QE X b d (128 - t)) (FloatOps.mulf (zE X b t d) (FloatOps.subf (htE X b t d) (HE X b d t)))
def DH (b t d : ℕ) : F .f32 := FloatOps.mulf (FloatOps.mulf (GE X b t d) (zE X b t d)) (gpE X b t d)
def DP (b t e : ℕ) : F .f32 := if e < 3584 then DZ X b t e else DH X b t (e - 3584)
/-- The larger magnitude of a feature's two. -/
def MG (b t g l : ℕ) : F .f32 := FloatOps.maximumf (FloatOps.absf (DZ X b t (128 * g + l))) (FloatOps.absf (DH X b t (128 * g + l)))
/-- Folded over the lane tiles, in the kernel's order. -/
def am8 (b c i : ℕ) : FVec F S32x128 .f32 := fun x =>
  FloatOps.maximumf (FloatOps.maximumf (MG X b (32 * c + x 0) i (x 1)) (MG X b (32 * c + x 0) (8 + i) (x 1))) (MG X b (32 * c + x 0) (16 + i) (x 1))
def am4 (b c i : ℕ) : FVec F S32x128 .f32 := fun x => MG X b (32 * c + x 0) (24 + i) (x 1)
def amA (b c : ℕ) : ℕ → FVec F S32x128 .f32
  | 0 => am8 X b c 0
  | n + 1 => maximumf (amA b c n) (am8 X b c (n + 1))
def amB (b c : ℕ) : ℕ → FVec F S32x128 .f32
  | 0 => amA X b c 7
  | n + 1 => maximumf (amB b c n) (am4 X b c n)
/-- A chunk's largest magnitudes. -/
def amV (b c : ℕ) : FVec F S32 .f32 := multiReduction .maximumf [1] S32 (amB X b c 4) 0xFF800000#32 reduces_S32x128_S32 (.inl rfl) rfl
/-- A token's scale and its inverse. -/
def SC (b t : ℕ) : F .f32 := scaleOf (amV X b (t / 32)) (n2 (t % 32) 0)
def IV (b t : ℕ) : F .f32 := invOf (amV X b (t / 32)) (n2 (t % 32) 0)
/-- The codes. -/
def CO (b t e : ℕ) : F .fp8e5m2 := FloatOps.truncf .fp8e5m2 bitsLt_fp8e5m2_f32
  (FloatOps.minimumf (Scalar.ofBits .f32 0x47600000#32) (FloatOps.maximumf (Scalar.ofBits .f32 0xC7600000#32) (FloatOps.mulf (DP X b t e) (IV X b t))))
/-- The product's operand. -/
def AE (b t e : ℕ) : F .bf16 := FloatOps.mulf (FloatOps.extf .bf16 bitsLt_fp8e5m2_bf16 (CO X b t e)) (FloatOps.truncf .bf16 bitsLt_bf16_f32 (X.ws (n2 (e / 128) (e % 128))))
def AV : FVec F S256x7168 .bf16 := fun i => AE X (i 0 / 128) (i 0 % 128) (i 1)
/-- A block of the weights. -/
def WB (n : ℕ) : FVec F S7168x512 .fp8e4m3 := fun i => X.w (n2 (i 0) (512 * n + i 1))
/-- A block of the product. -/
def MM' (n : ℕ) : FVec F S256x512 .f32 := matmul dot_S256x7168_S7168x512_S256x512_1_0_0_1_n_n none (AV X) (WB X n) (constant S256x512 .f32 0x00000000#32)
/-- The first result. -/
def DX (b t e : ℕ) : F .bf16 := FloatOps.truncf .bf16 bitsLt_bf16_f32 (FloatOps.mulf (MM' X (e / 512) (n2 (128 * b + t) (e % 512))) (SC X b t))

/-- A row of the state by features. -/
abbrev vecE (f : ℕ → F .f32) : FVec F S28x128 .f32 := fun x => f (128 * x 0 + x 1)

theorem scale_row (m : FVec F S32 .f32) (x : S32x128.Idx) : scaleOf m x = scaleOf m (n2 (x 0) 0) := by
  unfold scaleOf broadcastTo
  refine congrArg _ (funext fun a => Fin.ext ?_)
  fin_cases a
  · exact (Nat.mod_eq_of_lt (x 0).isLt).symm
  · rfl
theorem inv_row (m : FVec F S32 .f32) (x : S32x128.Idx) : invOf m x = invOf m (n2 (x 0) 0) := by
  unfold invOf broadcastTo
  refine congrArg _ (funext fun a => Fin.ext ?_)
  fin_cases a
  · exact (Nat.mod_eq_of_lt (x 0).isLt).symm
  · rfl

/-! ## Triples with the values given -/

variable {c : Dev nD} {L : Finset (Fin 24)} {I : Own} {α β : Type}

/-- The buffers outside `S` are as they were. -/
def Keep (S : List (Fin 24)) (σ σ' : Mem F) : Prop := ∀ n, n ∉ S → σ' n = σ n

theorem Keep.refl (S : List (Fin 24)) (σ : Mem F) : Keep S σ σ := fun _ _ => rfl
theorem Keep.trans {S : List (Fin 24)} {σ σ' σ'' : Mem F} (h : Keep S σ σ') (h' : Keep S σ' σ'') : Keep S σ σ'' := fun n hn => (h' n hn).trans (h n hn)
theorem Keep.mono {S S' : List (Fin 24)} {σ σ' : Mem F} (h : Keep S σ σ') (hs : ∀ n ∈ S, n ∈ S') : Keep S' σ σ' := fun n hn => h n fun h' => hn (hs n h')

theorem T_ld (n : Fin 24) {r : LoadRect (bref n).ty.shape} {hl : (Memref.whole (bref n) : Memref sig .tc .vmem _ _).view.LoadsAt r}
    {k : (r.shape.Idx → Elt F (bref n).ty.elt) → PG F β} {σ : Mem F} {Ψ : β → Mem F → Prop} (v : r.shape.Idx → Elt F (bref n).ty.elt) (hn : n ∈ L)
    (hr : ∀ x, r.idx x ∈ I n) (hv : ∀ x, σ n (r.idx x) = v x) (hk : T c L I (k v) σ Ψ) :
    T c L I (Prog.lift (.load (Memref.whole (bref n) : Memref sig .tc .vmem _ _) r hl) >>= k) σ Ψ := by
  refine T_load n hn hr ?_
  rw [show (fun x => σ n (r.idx x)) = v from funext hv]
  exact hk

theorem T_ldE (n : Fin 24) {r : LoadRect (bref n).ty.shape} {hl : (Memref.whole (bref n) : Memref sig .tc .vmem _ _).view.LoadsAt r}
    {σ : Mem F} {Ψ : (r.shape.Idx → Elt F (bref n).ty.elt) → Mem F → Prop} (hn : n ∈ L)
    (hr : ∀ x, r.idx x ∈ I n) (hk : Ψ (fun x => σ n (r.idx x)) σ) :
    T c L I (Prog.lift (.load (Memref.whole (bref n) : Memref sig .tc .vmem _ _) r hl)) σ Ψ :=
  T_load n hn hr (T_ret hk)

theorem T_sk (n : Fin 24) {r : LoadRect (bref n).ty.shape} {hl : (Memref.whole (bref n) : Memref sig .tc .vmem _ _).view.LoadsAt r}
    {k : (r.shape.Idx → Elt F (bref n).ty.elt) → PG F β} {σ : Mem F} {Ψ : β → Mem F → Prop} (hn : n ∈ L)
    (hr : ∀ x, r.idx x ∈ I n) (hk : ∀ v, T c L I (k v) σ Ψ) :
    T c L I (Prog.lift (.load (Memref.whole (bref n) : Memref sig .tc .vmem _ _) r hl) >>= k) σ Ψ :=
  T_load n hn hr (hk _)

theorem T_st (n : Fin 24) {r : Rect (bref n).ty.shape} {w : r.shape.Idx → Elt F (bref n).ty.elt}
    {hx : ((Memref.whole (bref n) : Memref sig .tc .vmem _ _).access r).Stores Finset.univ} {hm : Finset.univ = Finset.univ ∨ ∀ a, r.stride a = 1}
    {k : PUnit → PG F β} {σ : Mem F} {Ψ : β → Mem F → Prop} (hn : n ∈ L) (hr : ∀ x, r.idx x ∈ I n)
    (hk : ∀ σ', Keep [n] σ σ' → σ' n = st r.toLoadRect w (σ n) → T c L I (k ⟨⟩) σ' Ψ) :
    T c L I (Prog.lift (.store (Memref.whole (bref n) : Memref sig .tc .vmem _ _) r w Finset.univ hx hm) >>= k) σ Ψ :=
  T_store n hn hr (hk _ (fun k hk => upd_ne σ (fun e => hk (List.mem_singleton.mpr e)) _) (upd_same σ n _))

theorem T_stE (n : Fin 24) {r : Rect (bref n).ty.shape} {w : r.shape.Idx → Elt F (bref n).ty.elt}
    {hx : ((Memref.whole (bref n) : Memref sig .tc .vmem _ _).access r).Stores Finset.univ} {hm : Finset.univ = Finset.univ ∨ ∀ a, r.stride a = 1}
    {σ : Mem F} {Ψ : PUnit → Mem F → Prop} (hn : n ∈ L) (hr : ∀ x, r.idx x ∈ I n)
    (hk : ∀ σ', Keep [n] σ σ' → σ' n = st r.toLoadRect w (σ n) → Ψ ⟨⟩ σ') :
    T c L I (Prog.lift (.store (Memref.whole (bref n) : Memref sig .tc .vmem _ _) r w Finset.univ hx hm)) σ Ψ :=
  T_store n hn hr (T_ret (hk _ (fun k hk => upd_ne σ (fun e => hk (List.mem_singleton.mpr e)) _) (upd_same σ n _)))

end Cert.Kernel
-- ==== Proof.K.Copy.lean ====
module

public import proofs.«01_k».proof.Proof.K.Spec

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] (c : Dev nD)

/-! ## One copy -/

/-- Buffer `b` held at the elements `S`, its contents `f`. -/
abbrev pt (b : Ref sig .tc) (S : Finset b.ty.shape.Idx) (f : b.ty.Contents (Elt F)) : sProp (MM F) := ((c : Thread nD τ).loc b) ↦[S]{fullShare} f
/-- A cell at zero. -/
abbrev sv (s : DmaSem sig) : sProp (MM F) := semVal ((c : Thread nD τ), SemLoc.dma s) 0
/-- A copy under way, delivering `D`. -/
abbrev Fl (s : DmaSem sig) (N : ℕ) (D : sProp (MM F)) : sProp (MM F) := Transfers.Flight countersEmb (c : Thread nD τ) (SemLoc.dma s) () N D
/-- What the core has waited for. -/
abbrev ow : sProp (MM F) := iprop(∃ W, owes (c : Thread nD τ) 0 W)

/-- A copy is started: the destination will hold `v`. -/
theorem go_spec {sp sp' : Space} {s : Shape} {e : EltTy} (src : Memref sig .tc sp s e) (dst : Memref sig .tc sp' s e) (sem : DmaSem sig)
    (hs : src.view.WordExact) (hd : dst.view.WordExact)
    (hx : (DmaTarget.here (nD := nD) (τ := τ) (p := (.tc : Proc τ)) dst).Typed sp (SemLoc.dma sem)) (hn : 0 < s.numel)
    (S : Finset (Idx (src.view.loc (c : Thread nD τ)))) (hS : src.view.set = S) (S' : Finset (Idx (dst.view.loc (c : Thread nD τ)))) (hS' : dst.view.set = S')
    (fs : Buf (Elt F) (src.view.loc (c : Thread nD τ))) (fd v : Buf (Elt F) (dst.view.loc (c : Thread nD τ)))
    (hv : ∀ x, v (dst.view.emb x) = _root_.cast (congrArg (Elt F) dst.view.elt_eq.symm) (src.view.read (Elt F) fs x)) (Q : PUnit → sProp (MM F)) :
    iprop((src.view.loc (c : Thread nD τ) ↦[S]{fullShare} fs) ∗ (dst.view.loc (c : Thread nD τ) ↦[S']{fullShare} fd) ∗ sv c sem
      ∗ (Fl c sem dst.view.dmaCredit iprop((dst.view.loc (c : Thread nD τ) ↦[S']{fullShare} v) ∗ (src.view.loc (c : Thread nD τ) ↦[S]{fullShare} fs)) -∗ Q ⟨⟩))
      ⊢ WP c (go src dst sem hs hd hx) Q := by
  subst hS hS'
  have e : (dst.view.loc (c : Thread nD τ) ↦[dst.view.set]{fullShare} v : sProp (MM F))
      = dst.view.loc (c : Thread nD τ) ↦[dst.view.set]{fullShare} dst.view.write (Elt F) fd (ReadAs.same.apply (src.view.read (Elt F) fs)) Finset.univ := by
    refine pointsTo_congr fun i hi => ?_
    obtain ⟨x, -, rfl⟩ := Finset.mem_map.mp hi
    rw [hv, View.write_emb_of_mem (h := Finset.mem_univ _)]
  rw [e]
  iintro ⟨Hs, Hd, Hv, HQ⟩
  iapply (Transfers.wp_dmaLocal countersEmb 𝒱₀ (c : Thread nD τ) none () dst.view.dmaCredit rfl (dst.view.dmaCredit_pos hn) (Finset.Subset.refl _)) $$ [Hs Hd Hv]
  · isplitl [Hs]; · iexact Hs
    isplitl [Hd]; · iexact Hd
    iexact Hv
  iintro Hf
  rw [wp_ret]
  imodintro
  iapply HQ $$ Hf

/-- It is awaited. -/
theorem fin_spec {sp sp' : Space} {s : Shape} {e : EltTy} (src : Memref sig .tc sp s e) (dst : Memref sig .tc sp' s e) (sem : DmaSem sig)
    (hs : src.view.WordExact) (hd : dst.view.WordExact) (D : sProp (MM F)) (Q : PUnit → sProp (MM F)) :
    iprop(Fl c sem dst.view.dmaCredit D ∗ ow c ∗ (D -∗ sv c sem -∗ ow c -∗ Q ⟨⟩))
      ⊢ WP c (fin src dst sem hs hd) Q := by
  iintro ⟨Hf, ⟨%W, HW⟩, HQ⟩
  iapply (Transfers.wp_waitLocal countersEmb 𝒱₀ (c : Thread nD τ) none () rfl) $$ [Hf HW]
  · isplitl [Hf]; · iexact Hf
    iexact HW
  iintro ⟨HD, Hv, HW⟩
  rw [wp_ret]
  imodintro
  iapply HQ $$ HD Hv
  iexists _
  iexact HW

/-! ## The same step for every block -/

variable {c}

theorem bigSep_ins {ι : Type} [DecidableEq ι] {a : ι} {s : Finset ι} (h : a ∉ s) (Φ : ι → sProp (MM F)) : bigSep (insert a s) Φ = iprop(Φ a ∗ bigSep s Φ) := bigSep_insert h

/-- A run of steps, each consuming its own `A i` and leaving its own `B i`. -/
theorem wp_steps (C : sProp (MM F)) (n : ℕ) (f : (i : ℕ) → i < n → PUnit → PG F PUnit) (A B : Fin n → sProp (MM F))
    (hf : ∀ i (hi : i < n) Q, iprop(A ⟨i, hi⟩ ∗ C ∗ (B ⟨i, hi⟩ -∗ C -∗ Q ⟨⟩)) ⊢ WP c (f i hi ⟨⟩) Q) :
    ∀ Q : PUnit → sProp (MM F), iprop(bigSep Finset.univ A ∗ C ∗ (bigSep Finset.univ B -∗ C -∗ Q ⟨⟩)) ⊢ WP c (runF n f ⟨⟩) Q := by
  induction n with
  | zero =>
    intro Q
    unfold WP runF
    rw [wp_ret, show (Finset.univ : Finset (Fin 0)) = ∅ from rfl, bigSep_empty, bigSep_empty]
    iintro ⟨-, HC, HQ⟩
    imodintro
    iapply HQ $$ [] HC
    iempintro
  | succ n ih =>
    intro Q
    have h0 := hf 0 (Nat.succ_pos n)
    rw [show (⟨0, Nat.succ_pos n⟩ : Fin (n + 1)) = 0 from rfl] at h0
    unfold WP runF
    rw [wp_bind, bigSep_univ_succ, bigSep_univ_succ]
    iintro ⟨⟨HA0, HA⟩, HC, HQ⟩
    iapply (h0 _)
    isplitl [HA0]; · iexact HA0
    isplitl [HC]; · iexact HC
    iintro HB0 HC
    iapply (ih (fun i h => f (i + 1) (Nat.succ_lt_succ h)) (fun i => A i.succ) (fun i => B i.succ) (fun i hi => hf (i + 1) (Nat.succ_lt_succ hi)) Q)
    isplitl [HA]; · iexact HA
    isplitl [HC]; · iexact HC
    iintro HB HC
    iapply HQ $$ [HB0 HB] HC
    isplitl [HB0]; · iexact HB0
    iexact HB

/-- A loop likewise. -/
theorem wp_loop (C : sProp (MM F)) (n : ℕ) {w : ℕ} (lb ub sp : BitVec w) (hok : Scf.OK lb ub sp) (hn : Scf.trips lb ub sp = n) (f : Fin n → PG F PUnit) (A B : Fin n → sProp (MM F))
    (hf : ∀ i Q, iprop(A i ∗ C ∗ (B i -∗ C -∗ Q ⟨⟩)) ⊢ WP c (f i) Q) (Q : PUnit → sProp (MM F)) :
    iprop(bigSep Finset.univ A ∗ C ∗ (bigSep Finset.univ B -∗ C -∗ Q ⟨⟩)) ⊢ WP c (Scf.for lb ub sp hok (⟨⟩ : PUnit) fun i _ => f (i.cast hn)) Q := by
  subst hn
  iintro ⟨HA, HC, HQ⟩
  iapply (Scf.wp_for _ _ _ lb ub sp hok (⟨⟩ : PUnit) (fun i _ => f i)
    (fun k _ => iprop(bigSep (Finset.univ.filter fun i => k ≤ i.val) A ∗ bigSep (Finset.univ.filter fun i => i.val < k) B ∗ C)) (fun k a => by
      have e1 : (Finset.univ.filter fun i : Fin (Scf.trips lb ub sp) => k.val ≤ i.val) = insert k (Finset.univ.filter fun i => k.val + 1 ≤ i.val) := by
        ext i; simp only [Finset.mem_filter, Finset.mem_univ, true_and, Finset.mem_insert, Fin.ext_iff]; omega
      have e2 : (Finset.univ.filter fun i : Fin (Scf.trips lb ub sp) => i.val < k.val + 1) = insert k (Finset.univ.filter fun i => i.val < k.val) := by
        ext i; simp only [Finset.mem_filter, Finset.mem_univ, true_and, Finset.mem_insert, Fin.ext_iff]; omega
      rw [e1, e2, bigSep_ins (by simp), bigSep_ins (by simp)]
      iintro ⟨⟨HA, HA'⟩, HB, HC⟩
      iapply (hf k _)
      isplitl [HA]; · iexact HA
      isplitl [HC]; · iexact HC
      iintro HB0 HC
      isplitl [HA']; · iexact HA'
      isplitl [HB0 HB]
      · isplitl [HB0]; · iexact HB0
        iexact HB
      iexact HC))
  isplitl [HA HC]
  · rw [show (Finset.univ.filter fun i : Fin (Scf.trips lb ub sp) => 0 ≤ i.val) = Finset.univ from by simp,
      show (Finset.univ.filter fun i : Fin (Scf.trips lb ub sp) => i.val < 0) = ∅ from by simp, bigSep_empty]
    isplitl [HA]; · iexact HA
    isplitr [HC]; · iempintro
    iexact HC
  iintro %a ⟨-, HB, HC⟩
  rw [show (Finset.univ.filter fun i : Fin (Scf.trips lb ub sp) => i.val < Scf.trips lb ub sp) = Finset.univ from by simp]
  iapply HQ $$ HB HC

/-- A stretch that only loads and stores. -/
theorem wp_T {L : Finset (Fin 24)} {I : Own} {α : Type} {p : PG F α} {σ : Mem F} {Φ : α → Mem F → Prop} (h : T c L I p σ Φ) (Q : α → sProp (MM F)) :
    iprop(Held c L I σ ∗ (∀ a σ', ⌜Φ a σ'⌝ -∗ Held c L I σ' -∗ Q a)) ⊢ WP c p Q := h Q

end Cert.Kernel
-- ==== Proof.K.Face.lean ====
module

public import proofs.«01_k».proof.Proof.K.Copy

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] {c : Dev nD}

/-! ## What the stretches of the kernel compute -/

/-- The weights' blocks as the kernel holds them, -/
def vW (X : Inp F) : S10x7168x512.Idx → F .fp8e4m3 := fun i => X.w (n2 (i 1) (512 * i 0 + i 2))
/-- the blocks of the product, -/
def vSt (X : Inp F) : S10x2x128x512.Idx → F .bf16 := fun i => DX X (i 1) (i 2) (512 * i 0 + i 3)
/-- the results. -/
def vDx (X : Inp F) : S2x128x5120.Idx → F .bf16 := fun i => DX X (i 0) (i 1) (i 2)
def vDh0 (X : Inp F) : S2x3584.Idx → F .f32 := fun i => QE X (i 0) (i 1) 128
def vCo (X : Inp F) : S2x128x7168.Idx → F .fp8e5m2 := fun i => CO X (i 0) (i 1) (i 2)
def vSc (X : Inp F) : S2x128.Idx → F .f32 := fun i => SC X (i 0) (i 1)
def vDsc (X : Inp F) : S2x128x128.Idx → F .f32 := fun i => SC X (i 0) (i 1)

/-- The elements held while the scales are spread, -/
def IS : Own := fun n => if n ∈ [(3 : Fin 24), 4, 7, 8] then Finset.univ else ∅
/-- in the scans of batch 0, -/
def I0 : Own
  | ⟨0, _⟩ => (rDy 0).set
  | ⟨1, _⟩ => (rPre 0).set
  | ⟨2, _⟩ => ∅
  | ⟨23, _⟩ => ∅
  | _ => Finset.univ
/-- in those of batch 1, -/
def I1 : Own
  | ⟨2, _⟩ => ∅
  | ⟨23, _⟩ => ∅
  | _ => Finset.univ
/-- The elements of a block of the product, -/
def SB (n : Fin 10) : Finset S10x2x128x512.Idx := (rSt 0 n).set ∪ (rSt 1 n).set
/-- and those held while it is computed. -/
def ID (n : Fin 10) : Own
  | ⟨18, _⟩ => Finset.univ
  | ⟨20, _⟩ => Finset.univ
  | ⟨2, _⟩ => (rWd n).set
  | ⟨23, _⟩ => SB n
  | _ => ∅
/-- in the scans of batch `b`. -/
def IB : Fin 2 → Own
  | ⟨0, _⟩ => I0
  | ⟨_ + 1, _⟩ => I1

/-- The inputs as the scans find them. -/
structure InB (X : Inp F) (σ : Mem F) : Prop where
  dyc : σ 0 = X.dyc
  prec : σ 1 = X.prec
  h0 : σ 5 = X.h0
  ws : σ 6 = X.ws
  dysL : ∀ i : S2x128x128.Idx, σ 7 i = X.dys (n2 (i 0) (i 1))
  presL : ∀ i : S2x128x128.Idx, σ 8 i = X.pres (n2 (i 0) (i 1))

/-- A batch's results. -/
structure OutB (X : Inp F) (b : Fin 2) (σ : Mem F) : Prop where
  a : ∀ i : S256x7168.Idx, (i 0).val / 128 = b.val → σ 18 i = AV X i
  co : ∀ i : S2x128x7168.Idx, (i 0).val = b.val → σ 19 i = vCo X i
  dsc : ∀ i : S2x128x128.Idx, (i 0).val = b.val → σ 20 i = vDsc X i
  dh0 : ∀ i : S2x3584.Idx, (i 0).val = b.val → σ 21 i = vDh0 X i
  sc : ∀ i : S2x128.Idx, (i 0).val = b.val → σ 22 i = vSc X i

/-- The other batch's are left. -/
structure KeepB (b : Fin 2) (σ σ' : Mem F) : Prop where
  a : ∀ i : S256x7168.Idx, (i 0).val / 128 ≠ b.val → σ' 18 i = σ 18 i
  co : ∀ i : S2x128x7168.Idx, (i 0).val ≠ b.val → σ' 19 i = σ 19 i
  dsc : ∀ i : S2x128x128.Idx, (i 0).val ≠ b.val → σ' 20 i = σ 20 i
  dh0 : ∀ i : S2x3584.Idx, (i 0).val ≠ b.val → σ' 21 i = σ 21 i
  sc : ∀ i : S2x128.Idx, (i 0).val ≠ b.val → σ' 22 i = σ 22 i

/-! ## Membership in the blocks -/

theorem mem_pre (b : Fin 2) (y : S2x128x7168.Idx) : y ∈ (rPre b).set ↔ (y 0).val = b.val := by
  rw [Rect.mem_set_unit]
  have h1 : (y 1).val < 128 := (y 1).isLt
  have h2 : (y 2).val < 7168 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 128; omega
    · show 0 ≤ (y 2).val ∧ (y 2).val < 0 + 7168; omega
theorem mem_dy (b : Fin 2) (y : S2x128x3584.Idx) : y ∈ (rDy b).set ↔ (y 0).val = b.val := by
  rw [Rect.mem_set_unit]
  have h1 : (y 1).val < 128 := (y 1).isLt
  have h2 : (y 2).val < 3584 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 128; omega
    · show 0 ≤ (y 2).val ∧ (y 2).val < 0 + 3584; omega
theorem mem_wd (n : Fin 10) (y : S10x7168x512.Idx) : y ∈ (rWd n).set ↔ (y 0).val = n.val := by
  rw [Rect.mem_set_unit]
  have h1 : (y 1).val < 7168 := (y 1).isLt
  have h2 : (y 2).val < 512 := (y 2).isLt
  constructor
  · intro H; have a0 : n.val ≤ (y 0).val ∧ (y 0).val < n.val + 1 := H 0; omega
  · intro H i; fin_cases i
    · show n.val ≤ (y 0).val ∧ (y 0).val < n.val + 1; omega
    · show 0 ≤ (y 1).val ∧ (y 1).val < 0 + 7168; omega
    · show 0 ≤ (y 2).val ∧ (y 2).val < 0 + 512; omega
theorem mem_ws (n : Fin 10) (y : S7168x5120.Idx) : y ∈ (rWs n).set ↔ (y 1).val / 512 = n.val := by
  rw [Rect.mem_set_unit]
  have h1 : (y 0).val < 7168 := (y 0).isLt
  constructor
  · intro H; have a0 : 512 * n.val ≤ (y 1).val ∧ (y 1).val < 512 * n.val + 512 := H 1; omega
  · intro H i; fin_cases i
    · show 0 ≤ (y 0).val ∧ (y 0).val < 0 + 7168; omega
    · show 512 * n.val ≤ (y 1).val ∧ (y 1).val < 512 * n.val + 512; omega
theorem mem_st (b : Fin 2) (n : Fin 10) (y : S10x2x128x512.Idx) : y ∈ (rSt b n).set ↔ (y 0).val = n.val ∧ (y 1).val = b.val := by
  rw [Rect.mem_set_unit]
  have h1 : (y 2).val < 128 := (y 2).isLt
  have h2 : (y 3).val < 512 := (y 3).isLt
  constructor
  · intro H
    have a0 : n.val ≤ (y 0).val ∧ (y 0).val < n.val + 1 := H 0
    have a1 : b.val ≤ (y 1).val ∧ (y 1).val < b.val + 1 := H 1
    omega
  · intro H i; fin_cases i
    · show n.val ≤ (y 0).val ∧ (y 0).val < n.val + 1; omega
    · show b.val ≤ (y 1).val ∧ (y 1).val < b.val + 1; omega
    · show 0 ≤ (y 2).val ∧ (y 2).val < 0 + 128; omega
    · show 0 ≤ (y 3).val ∧ (y 3).val < 0 + 512; omega
theorem mem_dx (b : Fin 2) (n : Fin 10) (y : S2x128x5120.Idx) : y ∈ (rDx b n).set ↔ (y 0).val = b.val ∧ (y 2).val / 512 = n.val := by
  rw [Rect.mem_set_unit]
  have h1 : (y 1).val < 128 := (y 1).isLt
  constructor
  · intro H
    have a0 : b.val ≤ (y 0).val ∧ (y 0).val < b.val + 1 := H 0
    have a1 : 512 * n.val ≤ (y 2).val ∧ (y 2).val < 512 * n.val + 512 := H 2
    omega
  · intro H i; fin_cases i
    · show b.val ≤ (y 0).val ∧ (y 0).val < b.val + 1; omega
    · show 0 ≤ (y 1).val ∧ (y 1).val < 0 + 128; omega
    · show 512 * n.val ≤ (y 2).val ∧ (y 2).val < 512 * n.val + 512; omega
theorem mem_SB (n : Fin 10) (y : S10x2x128x512.Idx) : y ∈ SB n ↔ (y 0).val = n.val := by
  have h1 : (y 1).val < 2 := (y 1).isLt
  unfold SB
  rw [Finset.mem_union, mem_st, mem_st]
  simp only [Fin.val_zero, Fin.val_one]; omega

end Cert.Kernel
-- ==== Proof.K.Rev.lean ====
module

public import proofs.«01_k».proof.Proof.K.Face

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] {c : Dev nD}

/-! ## Reading and writing in the scans of a batch -/

theorem IB_pre (b : Fin 2) (y : S2x128x7168.Idx) (h : (y 0).val = b.val) : y ∈ IB b 1 := by
  match b, h with
  | 0, h => exact (mem_pre 0 y).mpr h
  | 1, h => exact Finset.mem_univ y
theorem IB_dy (b : Fin 2) (y : S2x128x3584.Idx) (h : (y 0).val = b.val) : y ∈ IB b 0 := by
  match b, h with
  | 0, h => exact (mem_dy 0 y).mpr h
  | 1, h => exact Finset.mem_univ y
theorem IB_all (b : Fin 2) (n : Fin 24) (hn : 3 ≤ n.val ∧ n.val < 23) (y : (bref n).ty.shape.Idx) : y ∈ IB b n := by
  have e : IB b n = Finset.univ := by
    match b with
    | 0 => fin_cases n <;> first | (exfalso; revert hn; decide) | rfl
    | 1 => fin_cases n <;> first | (exfalso; revert hn; decide) | rfl
  rw [e]; exact Finset.mem_univ y

theorem dropF {α : Type} {A B : ℕ} [NeZero A] [NeZero B] (f : ℕ → ℕ → α) (h : (⟨3, ![1, A, B]⟩ : Shape).ShapeCasts ⟨2, ![A, B]⟩)
    (y : (⟨2, ![A, B]⟩ : Shape).Idx) : shapeCast ⟨2, ![A, B]⟩ (fun x : (⟨3, ![1, A, B]⟩ : Shape).Idx => f (x 1).val (x 2).val) h y = f (y 0).val (y 1).val := by
  rw [dropU]
  exact congrArg₂ f (n3_1 (y 0).isLt) (n3_2 (y 1).isLt)

/-! ## The reverse scan -/

variable (X : Inp F)

/-- The gate, the incoming gradient, the state's gradient and the gradient carried on, as laid out: 28 rows a token. -/
def fZ (b : ℕ) (i : S3584x128.Idx) : F .f32 := zE X b ((i 0).val / 28) (128 * ((i 0).val % 28) + (i 1).val)
def fDy (b : ℕ) (i : S3584x128.Idx) : F .f32 := dyE X b ((i 0).val / 28) (128 * ((i 0).val % 28) + (i 1).val)
def fG (b : ℕ) (i : S3584x128.Idx) : F .f32 := GE X b ((i 0).val / 28) (128 * ((i 0).val % 28) + (i 1).val)
def fQ (b : ℕ) (i : S3584x128.Idx) : F .f32 := QE X b (128 * ((i 0).val % 28) + (i 1).val) (128 - (i 0).val / 28)

theorem revGate_T (b : Fin 2) {w : BitVec 32} (hw : w.toNat < 4) (g : ℕ) (hg : g < 28) (zs ds : FVec F S32x128 .f32)
    (hzs : ∀ y : S32x128.Idx, zs y = FloatOps.mulf (X.pres (n2 b.val (32 * w.toNat + (y 0).val))) negL) (hds : ∀ y : S32x128.Idx, ds y = X.dys (n2 b.val (32 * w.toNat + (y 0).val)))
    (σ : Mem F) (h0 : σ 0 = X.dyc) (h1 : σ 1 = X.prec) :
    T c Finset.univ (IB b) (revGate zs ds b hw g hg) σ (fun _ σ' => Keep [9, 10] σ σ'
      ∧ (∀ i : S3584x128.Idx, σ' 9 i = if (i 0).val / 896 = w.toNat ∧ (i 0).val % 28 = g then fZ X b i else σ 9 i)
      ∧ (∀ i : S3584x128.Idx, σ' 10 i = if (i 0).val / 896 = w.toNat ∧ (i 0).val % 28 = g then fDy X b i else σ 10 i)) := by
  unfold revGate
  refine T_ld 1 (fun x : S1x32x128.Idx => X.prec (n3 b.val (32 * w.toNat + (x 1).val) (128 * g + (x 2).val))) (Finset.mem_univ _) ?_ ?_ ?_
  · intro x
    have hx : (x 0).val < 1 := (x 0).isLt
    exact IB_pre b _ (by show b.val + 1 * (x 0).val = b.val; omega)
  · intro x
    have hx : (x 0).val < 1 := (x 0).isLt
    rw [h1]
    refine congrArg X.prec (eq_n3 ?_ ?_ ?_)
    · show b.val + 1 * (x 0).val = b.val; omega
    · show (Scalar.muli w 32#32).toNat + 1 * (x 1).val = _; rw [tok_val hw]; omega
    · show 128 * g + 1 * (x 2).val = _; omega
  refine T_sk 9 (Finset.mem_univ _) (fun x => IB_all b 9 (by decide) _) fun _ => ?_
  refine T_st 9 (Finset.mem_univ _) (fun x => IB_all b 9 (by decide) _) fun σ1 k1 e1 => ?_
  refine T_ld 0 (fun x : S1x32x128.Idx => X.dyc (n3 b.val (32 * w.toNat + (x 1).val) (128 * g + (x 2).val))) (Finset.mem_univ _) ?_ ?_ ?_
  · intro x
    have hx : (x 0).val < 1 := (x 0).isLt
    exact IB_dy b _ (by show b.val + 1 * (x 0).val = b.val; omega)
  · intro x
    have hx : (x 0).val < 1 := (x 0).isLt
    rw [k1 0 (by decide), h0]
    refine congrArg X.dyc (eq_n3 ?_ ?_ ?_)
    · show b.val + 1 * (x 0).val = b.val; omega
    · show (Scalar.muli w 32#32).toNat + 1 * (x 1).val = _; rw [tok_val hw]; omega
    · show 128 * g + 1 * (x 2).val = _; omega
  refine T_sk 10 (Finset.mem_univ _) (fun x => IB_all b 10 (by decide) _) fun _ => ?_
  refine T_stE 10 (Finset.mem_univ _) (fun x => IB_all b 10 (by decide) _) fun σ2 k2 e2 => ?_
  refine ⟨(k1.mono (by decide)).trans (k2.mono (by decide)), fun i => ?_, fun i => ?_⟩
  · rw [k2 9 (by decide), e1]
    refine st2 _ _ _ i (fun v => v = if (i 0).val / 896 = w.toNat ∧ (i 0).val % 28 = g then fZ X b i else σ 9 i) (896 * w.toNat + g) 28 32 0 1 128
      ⟨gate_val hw hg, rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      show FloatOps.divf oneF (FloatOps.addf oneF (FloatOps.exp2 (FloatOps.mulf (FloatOps.extf .f32 bitsLt_fp8e4m3_f32 (shapeCast S32x128 _ shapeCasts_S1x32x128_S32x128 y)) (zs y)))) = _
      rw [hzs, dropF (fun a d => X.prec (n3 b.val (32 * w.toNat + a) (128 * g + d)))]
      unfold fZ
      rw [show (i 0).val / 28 = 32 * w.toNat + (y 0).val by omega, show 128 * ((i 0).val % 28) + (i 1).val = 128 * g + (y 1).val by omega]
      rfl
    · intro hm
      have hi1 : (i 1).val < 128 := (i 1).isLt
      rw [if_neg (by omega)]
  · rw [e2]
    refine st2 _ _ _ i (fun v => v = if (i 0).val / 896 = w.toNat ∧ (i 0).val % 28 = g then fDy X b i else σ 10 i) (896 * w.toNat + g) 28 32 0 1 128
      ⟨gate_val hw hg, rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      show FloatOps.mulf (FloatOps.extf .f32 bitsLt_fp8e5m2_f32 (shapeCast S32x128 _ shapeCasts_S1x32x128_S32x128 y)) (ds y) = _
      rw [hds, dropF (fun a d => X.dyc (n3 b.val (32 * w.toNat + a) (128 * g + d)))]
      unfold fDy
      rw [show (i 0).val / 28 = 32 * w.toNat + (y 0).val by omega, show 128 * ((i 0).val % 28) + (i 1).val = 128 * g + (y 1).val by omega]
      rfl
    · intro hm
      have hi1 : (i 1).val < 128 := (i 1).isLt
      rw [if_neg (by omega), k1 10 (by decide)]

/-- One step of the reverse recurrence, at token `32 w + t`. -/
theorem revStep_T (b : Fin 2) {w : BitVec 32} (hw : w.toNat < 4) (t : ℕ) (ht : t < 32) (q : FVec F S28x128 .f32) (n : ℕ) (hn : n = 127 - (32 * w.toNat + t))
    (hq : q = vecE (fun d => QE X b d n)) (σ : Mem F)
    (hz : ∀ i : S3584x128.Idx, (i 0).val / 28 = 32 * w.toNat + t → σ 9 i = fZ X b i) (hd : ∀ i : S3584x128.Idx, (i 0).val / 28 = 32 * w.toNat + t → σ 10 i = fDy X b i) :
    T c Finset.univ (IB b) (revStep hw t ht q) σ (fun q' σ' => Keep [10, 11] σ σ' ∧ q' = vecE (fun d => QE X b d (n + 1))
      ∧ (∀ i : S3584x128.Idx, σ' 10 i = if (i 0).val / 28 = 32 * w.toNat + t then fG X b i else σ 10 i)
      ∧ (∀ i : S3584x128.Idx, σ' 11 i = if (i 0).val / 28 = 32 * w.toNat + t then fQ X b i else σ 11 i)) := by
  subst hq
  have hG : ∀ y : S28x128.Idx, FloatOps.addf (dyE X b (32 * w.toNat + t) (128 * (y 0).val + (y 1).val)) (QE X b (128 * (y 0).val + (y 1).val) n) = GE X b (32 * w.toNat + t) (128 * (y 0).val + (y 1).val) := by
    intro y; unfold GE; rw [hn]
  have hQ : ∀ y : S28x128.Idx, FloatOps.mulf (FloatOps.subf oneF (zE X b (32 * w.toNat + t) (128 * (y 0).val + (y 1).val)))
      (FloatOps.addf (dyE X b (32 * w.toNat + t) (128 * (y 0).val + (y 1).val)) (QE X b (128 * (y 0).val + (y 1).val) n)) = QE X b (128 * (y 0).val + (y 1).val) (n + 1) := by
    intro y
    rw [show 32 * w.toNat + t = 127 - n by omega]; rfl
  unfold revStep
  refine T_ld 10 (fun y : S28x128.Idx => dyE X b (32 * w.toNat + t) (128 * (y 0).val + (y 1).val)) (Finset.mem_univ _) (fun x => IB_all b 10 (by decide) _) ?_ ?_
  · intro x
    have hx0 : (x 0).val < 28 := (x 0).isLt
    have hx1 : (x 1).val < 128 := (x 1).isLt
    have a0 : (((rStep hw ht).toLoadRect.idx x) 0).val = 896 * w.toNat + 28 * t + (x 0).val := by
      show (Scalar.addi (Scalar.muli w 896#32) (BitVec.ofNat 32 (28 * t))).toNat + 1 * (x 0).val = _; rw [step_val hw ht]; omega
    have a1 : (((rStep hw ht).toLoadRect.idx x) 1).val = (x 1).val := by show 0 + 1 * (x 1).val = _; omega
    refine (hd _ (by rw [a0]; omega)).trans ?_
    unfold fDy
    rw [a0, a1, show (896 * w.toNat + 28 * t + (x 0).val) / 28 = 32 * w.toNat + t by omega, show (896 * w.toNat + 28 * t + (x 0).val) % 28 = (x 0).val by omega]
  refine T_sk 10 (Finset.mem_univ _) (fun x => IB_all b 10 (by decide) _) fun _ => ?_
  refine T_st 10 (Finset.mem_univ _) (fun x => IB_all b 10 (by decide) _) fun σ1 k1 e1 => ?_
  refine T_ld 9 (fun y : S28x128.Idx => zE X b (32 * w.toNat + t) (128 * (y 0).val + (y 1).val)) (Finset.mem_univ _) (fun x => IB_all b 9 (by decide) _) ?_ ?_
  · intro x
    have hx0 : (x 0).val < 28 := (x 0).isLt
    have hx1 : (x 1).val < 128 := (x 1).isLt
    have a0 : (((rStep hw ht).toLoadRect.idx x) 0).val = 896 * w.toNat + 28 * t + (x 0).val := by
      show (Scalar.addi (Scalar.muli w 896#32) (BitVec.ofNat 32 (28 * t))).toNat + 1 * (x 0).val = _; rw [step_val hw ht]; omega
    have a1 : (((rStep hw ht).toLoadRect.idx x) 1).val = (x 1).val := by show 0 + 1 * (x 1).val = _; omega
    rw [k1 9 (by decide)]
    refine (hz _ (by rw [a0]; omega)).trans ?_
    unfold fZ
    rw [a0, a1, show (896 * w.toNat + 28 * t + (x 0).val) / 28 = 32 * w.toNat + t by omega, show (896 * w.toNat + 28 * t + (x 0).val) % 28 = (x 0).val by omega]
  refine T_sk 11 (Finset.mem_univ _) (fun x => IB_all b 11 (by decide) _) fun _ => ?_
  refine T_st 11 (Finset.mem_univ _) (fun x => IB_all b 11 (by decide) _) fun σ2 k2 e2 => ?_
  refine T_pure ⟨(k1.mono (by decide)).trans (k2.mono (by decide)), funext fun y => hQ y, fun i => ?_, fun i => ?_⟩
  · rw [k2 10 (by decide), e1]
    refine st2 _ _ _ i (fun v => v = if (i 0).val / 28 = 32 * w.toNat + t then fG X b i else σ 10 i) (896 * w.toNat + 28 * t) 1 28 0 1 128
      ⟨step_val hw ht, rfl, rfl⟩ ⟨rfl, rfl, rfl⟩ ⟨by omega, by omega⟩ ?_ ?_
    · intro y hi0 hi1
      have hy0 : (y 0).val < 28 := (y 0).isLt
      have hy1 : (y 1).val < 128 := (y 1).isLt
      rw [if_pos (by omega), shapeCast_self]
      refine (hG y).trans ?_
      unfold fG
      rw [show (i 0).val / 28 = 32 * w.toNat + t by omega, show (i 0).val % 28 = (y 0).val by omega, show (i 1).val = (y 1).val by omega]
    · intro hm
      have hi1 : (i 1).val < 128 := (i 1).isLt
      rw [if_neg (by omega)]
  · rw [e2, k1 11 (by decide)]
    refine st2 _ _ _ i (fun v => v = if (i 0).val / 28 = 32 * w.toNat + t then fQ X b i else σ 11 i) (896 * w.toNat + 28 * t) 1 28 0 1 128
      ⟨step_val hw ht, rfl, rfl⟩ ⟨rfl, rfl, rfl⟩ ⟨by omega, by omega⟩ ?_ ?_
    · intro y hi0 hi1
      have hy0 : (y 0).val < 28 := (y 0).isLt
      have hy1 : (y 1).val < 128 := (y 1).isLt
      rw [if_pos (by omega), shapeCast_self]
      refine (hQ y).trans ?_
      unfold fQ
      rw [show (i 0).val / 28 = 32 * w.toNat + t by omega, show (i 0).val % 28 = (y 0).val by omega, show (i 1).val = (y 1).val by omega,
        show 128 - (32 * w.toNat + t) = n + 1 by omega]
    · intro hm
      have hi1 : (i 1).val < 128 := (i 1).isLt
      rw [if_neg (by omega)]

/-- After the reverse loop has done the last `n` tokens. -/
structure RevJ (b : Fin 2) (n : ℕ) (σ : Mem F) : Prop where
  z : ∀ i : S3584x128.Idx, 128 - n ≤ (i 0).val / 28 → σ 9 i = fZ X b i
  g : ∀ i : S3584x128.Idx, 128 - n ≤ (i 0).val / 28 → σ 10 i = fG X b i
  q : ∀ i : S3584x128.Idx, 128 - n ≤ (i 0).val / 28 → σ 11 i = fQ X b i

theorem revTrip_T (b : Fin 2) (k : ℕ) (hk : k < 4) {w : BitVec 32} (hw : w.toNat < 4) (hwk : w.toNat = 3 - k) (q : FVec F S28x128 .f32) (σ : Mem F) (h : InB X σ)
    (hq : q = vecE (fun d => QE X b d (32 * k))) (hJ : RevJ X b (32 * k) σ) :
    T c Finset.univ (IB b) (revTrip b hw q) σ (fun q' σ' => Keep [9, 10, 11] σ σ' ∧ q' = vecE (fun d => QE X b d (32 * k + 32)) ∧ RevJ X b (32 * k + 32) σ') := by
  unfold revTrip
  refine T_ld 8 (fun x : S1x32x128.Idx => X.pres (n2 b.val (32 * w.toNat + (x 1).val))) (Finset.mem_univ _) (fun x => IB_all b 8 (by decide) _) ?_ ?_
  · intro x
    have hx : (x 0).val < 1 := (x 0).isLt
    refine (h.presL _).trans (congrArg X.pres (congrArg₂ n2 ?_ ?_))
    · show b.val + 1 * (x 0).val = b.val; omega
    · show (Scalar.muli w 32#32).toNat + 1 * (x 1).val = _; rw [tok_val hw]; omega
  refine T_ld 7 (fun x : S1x32x128.Idx => X.dys (n2 b.val (32 * w.toNat + (x 1).val))) (Finset.mem_univ _) (fun x => IB_all b 7 (by decide) _) ?_ ?_
  · intro x
    have hx : (x 0).val < 1 := (x 0).isLt
    refine (h.dysL _).trans (congrArg X.dys (congrArg₂ n2 ?_ ?_))
    · show b.val + 1 * (x 0).val = b.val; omega
    · show (Scalar.muli w 32#32).toNat + 1 * (x 1).val = _; rw [tok_val hw]; omega
  refine T_bind (T_runF 28 _ (fun g _ σ' => Keep [9, 10] σ σ'
      ∧ (∀ i : S3584x128.Idx, σ' 9 i = if (i 0).val / 896 = w.toNat ∧ (i 0).val % 28 < g then fZ X b i else σ 9 i)
      ∧ (∀ i : S3584x128.Idx, σ' 10 i = if (i 0).val / 896 = w.toNat ∧ (i 0).val % 28 < g then fDy X b i else σ 10 i)) ?_ _ _ ?_) fun _ σ1 h1 => ?_
  · rintro g hg - σ1 ⟨k1, hz1, hd1⟩
    refine T_mono (revGate_T X b hw g hg _ _ ?_ ?_ σ1 ((k1 0 (by decide)).trans h.dyc) ((k1 1 (by decide)).trans h.prec)) ?_
    · intro y
      refine congrArg (fun v => FloatOps.mulf v negL) ?_
      exact dropF (fun a _ => X.pres (n2 b.val (32 * w.toNat + a))) _ y
    · intro y
      exact dropF (fun a _ => X.dys (n2 b.val (32 * w.toNat + a))) _ y
    · rintro - σ2 ⟨k2, hz2, hd2⟩
      refine ⟨k1.trans k2, fun i => ?_, fun i => ?_⟩
      · rw [hz2, hz1]
        by_cases c1 : (i 0).val / 896 = w.toNat ∧ (i 0).val % 28 = g
        · rw [if_pos c1, if_pos (by omega)]
        · rw [if_neg c1]
          by_cases c2 : (i 0).val / 896 = w.toNat ∧ (i 0).val % 28 < g
          · rw [if_pos c2, if_pos (by omega)]
          · rw [if_neg c2, if_neg (by omega)]
      · rw [hd2, hd1]
        by_cases c1 : (i 0).val / 896 = w.toNat ∧ (i 0).val % 28 = g
        · rw [if_pos c1, if_pos (by omega)]
        · rw [if_neg c1]
          by_cases c2 : (i 0).val / 896 = w.toNat ∧ (i 0).val % 28 < g
          · rw [if_pos c2, if_pos (by omega)]
          · rw [if_neg c2, if_neg (by omega)]
  · exact ⟨Keep.refl _ _, fun i => by rw [if_neg (by omega)], fun i => by rw [if_neg (by omega)]⟩
  obtain ⟨k1, hz1, hd1⟩ := h1
  refine T_mono (T_runF 32 _ (fun n q' σ' => Keep [10, 11] σ1 σ' ∧ q' = vecE (fun d => QE X b d (32 * k + n))
      ∧ (∀ i : S3584x128.Idx, σ' 10 i = if (i 0).val / 896 = w.toNat ∧ 128 - (32 * k + n) ≤ (i 0).val / 28 then fG X b i else σ1 10 i)
      ∧ (∀ i : S3584x128.Idx, σ' 11 i = if (i 0).val / 896 = w.toNat ∧ 128 - (32 * k + n) ≤ (i 0).val / 28 then fQ X b i else σ1 11 i)) ?_ _ _ ?_) ?_
  · rintro n hn q' σ2 ⟨k2, hq2, hg2, hr2⟩
    refine T_mono (revStep_T X b hw (31 - n) _ q' (32 * k + n) (by omega) hq2 σ2 ?_ ?_) ?_
    · intro i hi
      rw [k2 9 (by decide), hz1, if_pos (by omega)]
    · intro i hi
      rw [hg2, if_neg (by omega), hd1, if_pos (by omega)]
    · rintro q3 σ3 ⟨k3, hq3, hg3, hr3⟩
      refine ⟨k2.trans k3, hq3, fun i => ?_, fun i => ?_⟩
      · rw [hg3, hg2]
        by_cases c1 : (i 0).val / 28 = 32 * w.toNat + (31 - n)
        · rw [if_pos c1, if_pos (by omega)]
        · rw [if_neg c1]
          by_cases c2 : (i 0).val / 896 = w.toNat ∧ 128 - (32 * k + n) ≤ (i 0).val / 28
          · rw [if_pos c2, if_pos (by omega)]
          · rw [if_neg c2, if_neg (by omega)]
      · rw [hr3, hr2]
        by_cases c1 : (i 0).val / 28 = 32 * w.toNat + (31 - n)
        · rw [if_pos c1, if_pos (by omega)]
        · rw [if_neg c1]
          by_cases c2 : (i 0).val / 896 = w.toNat ∧ 128 - (32 * k + n) ≤ (i 0).val / 28
          · rw [if_pos c2, if_pos (by omega)]
          · rw [if_neg c2, if_neg (by omega)]
  · exact ⟨Keep.refl _ _, hq, fun i => by rw [if_neg (by omega)], fun i => by rw [if_neg (by omega)]⟩
  · rintro q2 σ2 ⟨k2, hq2, hg2, hr2⟩
    refine ⟨(k1.mono (by decide)).trans (k2.mono (by decide)), hq2, fun i hi => ?_, fun i hi => ?_, fun i hi => ?_⟩
    · rw [k2 9 (by decide), hz1]
      split
      · rfl
      · exact hJ.z i (by omega)
    · rw [hg2]
      split
      · rfl
      · rw [hd1, if_neg (by omega)]; exact hJ.g i (by omega)
    · rw [hr2]
      split
      · rfl
      · rw [k1 11 (by decide)]; exact hJ.q i (by omega)

theorem InB.keep {X : Inp F} {σ σ' : Mem F} {S : List (Fin 24)} (h : InB X σ) (k : Keep S σ σ') (hS : ∀ n ∈ [(0 : Fin 24), 1, 5, 6, 7, 8], n ∉ S) : InB X σ' where
  dyc := (k 0 (hS _ (by decide))).trans h.dyc
  prec := (k 1 (hS _ (by decide))).trans h.prec
  h0 := (k 5 (hS _ (by decide))).trans h.h0
  ws := (k 6 (hS _ (by decide))).trans h.ws
  dysL := fun i => (congrFun (k 7 (hS _ (by decide))) i).trans (h.dysL i)
  presL := fun i => (congrFun (k 8 (hS _ (by decide))) i).trans (h.presL i)

/-- The reverse loop. -/
theorem for1_T (b : Fin 2) (σ : Mem F) (h : InB X σ) :
    T c Finset.univ (IB b) (Scf.for 0#32 4#32 1#32 k0_t1_ok (broadcast S28x128 (Scalar.ofBits .f32 0x00000000#32)) fun k q => revTrip b (revWord_lt k) q : PG F (FVec F S28x128 .f32)) σ
      (fun q σ' => Keep [9, 10, 11] σ σ' ∧ q = vecE (fun d => QE X b d 128) ∧ RevJ X b 128 σ') := by
  refine T_for _ _ _ _ _ _ (fun k q σ' => Keep [9, 10, 11] σ σ' ∧ q = vecE (fun d => QE X b d (32 * k)) ∧ RevJ X b (32 * k) σ') ?_ ?_ ?_
  · refine ⟨Keep.refl _ _, rfl, ?_, ?_, ?_⟩ <;> (intro i hi; have hi0 : (i 0).val < 3584 := (i 0).isLt; omega)
  · rintro k q σ1 ⟨k1, hq, hJ⟩
    have hk : k.val < 4 := k.isLt
    refine T_mono (revTrip_T X b k.val hk (revWord_lt k) (revWord_val k) q σ1 (h.keep k1 (by decide)) hq hJ) ?_
    rintro q2 σ2 ⟨k2, hq2, hJ2⟩
    exact ⟨k1.trans k2, hq2, hJ2⟩
  · rintro q σ1 ⟨k1, hq, hJ⟩
    exact ⟨k1, hq, hJ⟩

end Cert.Kernel
-- ==== Proof.K.Fwd.lean ====
module

public import proofs.«01_k».proof.Proof.K.Rev

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] {c : Dev nD}

variable (X : Inp F)

/-! ## The forward scan -/

/-- Per chunk: the candidate, its derivative, the two gradients and their folded magnitudes, as laid out. -/
def fHt (b w : ℕ) (i : S896x128.Idx) : F .f32 := htE X b (32 * w + (i 0).val / 28) (128 * ((i 0).val % 28) + (i 1).val)
def fGp (b w : ℕ) (i : S896x128.Idx) : F .f32 := gpE X b (32 * w + (i 0).val / 28) (128 * ((i 0).val % 28) + (i 1).val)
def fDz (b w : ℕ) (i : S896x128.Idx) : F .f32 := DZ X b (32 * w + (i 0).val / 28) (128 * ((i 0).val % 28) + (i 1).val)
def fDh (b w : ℕ) (i : S896x128.Idx) : F .f32 := DH X b (32 * w + (i 0).val / 28) (128 * ((i 0).val % 28) + (i 1).val)
def fAm (b w : ℕ) (i : S384x128.Idx) : F .f32 :=
  if (i 0).val < 256 then FloatOps.maximumf (FloatOps.maximumf (MG X b (32 * w + (i 0).val / 8) ((i 0).val % 8) (i 1).val) (MG X b (32 * w + (i 0).val / 8) (8 + (i 0).val % 8) (i 1).val))
    (MG X b (32 * w + (i 0).val / 8) (16 + (i 0).val % 8) (i 1).val)
  else MG X b (32 * w + ((i 0).val - 256) / 4) (24 + ((i 0).val - 256) % 4) (i 1).val
/-- The token a row of the folded magnitudes is of. -/
def amTok (i : S384x128.Idx) : ℕ := if (i 0).val < 256 then (i 0).val / 8 else ((i 0).val - 256) / 4

theorem fwdGate_T (b : Fin 2) {w : BitVec 32} (hw : w.toNat < 4) (g : ℕ) (hg : g < 28) (ps : FVec F S32x128 .f32)
    (hps : ∀ y : S32x128.Idx, ps y = X.pres (n2 b.val (32 * w.toNat + (y 0).val))) (σ : Mem F) (h1 : σ 1 = X.prec) :
    T c Finset.univ (IB b) (fwdGate ps b hw g hg) σ (fun _ σ' => Keep [12, 13] σ σ'
      ∧ (∀ i : S896x128.Idx, σ' 12 i = if (i 0).val % 28 = g then fHt X b w.toNat i else σ 12 i)
      ∧ (∀ i : S896x128.Idx, σ' 13 i = if (i 0).val % 28 = g then fGp X b w.toNat i else σ 13 i)) := by
  have hv : ∀ y : S32x128.Idx, shapeCast S32x128 (fun x : S1x32x128.Idx => X.prec (n3 b.val (32 * w.toNat + (x 1).val) (3584 + 128 * g + (x 2).val))) shapeCasts_S1x32x128_S32x128 y
      = X.prec (n3 b.val (32 * w.toNat + (y 0).val) (3584 + (128 * g + (y 1).val))) := fun y =>
    (dropF (fun a d => X.prec (n3 b.val (32 * w.toNat + a) (3584 + 128 * g + d))) _ y).trans (by rw [Nat.add_assoc 3584])
  unfold fwdGate
  refine T_ld 1 (fun x : S1x32x128.Idx => X.prec (n3 b.val (32 * w.toNat + (x 1).val) (3584 + 128 * g + (x 2).val))) (Finset.mem_univ _) ?_ ?_ ?_
  · intro x
    have hx : (x 0).val < 1 := (x 0).isLt
    exact IB_pre b _ (by show b.val + 1 * (x 0).val = b.val; omega)
  · intro x
    have hx : (x 0).val < 1 := (x 0).isLt
    rw [h1]
    refine congrArg X.prec (eq_n3 ?_ ?_ ?_)
    · show b.val + 1 * (x 0).val = b.val; omega
    · show (Scalar.muli w 32#32).toNat + 1 * (x 1).val = _; rw [tok_val hw]; omega
    · show 3584 + 128 * g + 1 * (x 2).val = _; omega
  refine T_sk 12 (Finset.mem_univ _) (fun x => IB_all b 12 (by decide) _) fun _ => ?_
  refine T_st 12 (Finset.mem_univ _) (fun x => IB_all b 12 (by decide) _) fun σ1 k1 e1 => ?_
  refine T_sk 13 (Finset.mem_univ _) (fun x => IB_all b 13 (by decide) _) fun _ => ?_
  refine T_stE 13 (Finset.mem_univ _) (fun x => IB_all b 13 (by decide) _) fun σ2 k2 e2 => ?_
  refine ⟨(k1.mono (by decide)).trans (k2.mono (by decide)), fun i => ?_, fun i => ?_⟩
  · rw [k2 12 (by decide), e1]
    refine st2 _ _ _ i (fun v => v = if (i 0).val % 28 = g then fHt X b w.toNat i else σ 12 i) g 28 32 0 1 128 ⟨rfl, rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      unfold fHt
      rw [show (i 0).val / 28 = (y 0).val by omega, show 128 * ((i 0).val % 28) + (i 1).val = 128 * g + (y 1).val by omega]
      have hpa : FloatOps.mulf (FloatOps.extf .f32 bitsLt_fp8e4m3_f32 (shapeCast S32x128 (fun x : S1x32x128.Idx => X.prec (n3 b.val (32 * w.toNat + (x 1).val) (3584 + 128 * g + (x 2).val))) shapeCasts_S1x32x128_S32x128 y)) (ps y)
          = paE X b (32 * w.toNat + (y 0).val) (128 * g + (y 1).val) := by rw [hv, hps]; rfl
      unfold htE posE sgE
      rw [← hpa]
      rfl
    · intro hm
      have hi1 : (i 1).val < 128 := (i 1).isLt
      have hi0 : (i 0).val < 896 := (i 0).isLt
      rw [if_neg (by omega)]
  · rw [e2, k1 13 (by decide)]
    refine st2 _ _ _ i (fun v => v = if (i 0).val % 28 = g then fGp X b w.toNat i else σ 13 i) g 28 32 0 1 128 ⟨rfl, rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      unfold fGp
      rw [show (i 0).val / 28 = (y 0).val by omega, show 128 * ((i 0).val % 28) + (i 1).val = 128 * g + (y 1).val by omega]
      have hpa : FloatOps.mulf (FloatOps.extf .f32 bitsLt_fp8e4m3_f32 (shapeCast S32x128 (fun x : S1x32x128.Idx => X.prec (n3 b.val (32 * w.toNat + (x 1).val) (3584 + 128 * g + (x 2).val))) shapeCasts_S1x32x128_S32x128 y)) (ps y)
          = paE X b (32 * w.toNat + (y 0).val) (128 * g + (y 1).val) := by rw [hv, hps]; rfl
      unfold gpE posE sgE
      rw [← hpa]
      rfl
    · intro hm
      have hi1 : (i 1).val < 128 := (i 1).isLt
      have hi0 : (i 0).val < 896 := (i 0).isLt
      rw [if_neg (by omega)]

/-- The magnitudes of a token. -/
theorem mag_slice {n : ℕ} [NeZero n] (b tk o : ℕ) (h : S28x128.Slices ![o, 0] ⟨2, ![n, 128]⟩) (u v : FVec F S28x128 .f32)
    (hu : u = vecE (fun d => DZ X b tk d)) (hv : v = vecE (fun d => DH X b tk d)) (y : (⟨2, ![n, 128]⟩ : Shape).Idx) :
    extractStridedSlice ⟨2, ![n, 128]⟩ ![o, 0] (mag u v) h y = MG X b tk (o + (y 0).val) (y 1).val := by
  subst hu hv
  have e : (0 : ℕ) + (y 1).val = (y 1).val := Nat.zero_add _
  show FloatOps.maximumf (FloatOps.absf (DZ X b tk (128 * (o + (y 0).val) + (0 + (y 1).val)))) (FloatOps.absf (DH X b tk (128 * (o + (y 0).val) + (0 + (y 1).val)))) = _
  rw [e]; rfl

/-- The forward scan's reads of a token's row. -/
theorem rd_step {X : Inp F} {w : BitVec 32} (hw : w.toNat < 4) {t : ℕ} (ht : t < 32) {v : S3584x128.Idx → F .f32} {f : ℕ → ℕ → F .f32}
    (hv : ∀ i : S3584x128.Idx, (i 0).val / 28 = 32 * w.toNat + t → v i = f ((i 0).val / 28) (128 * ((i 0).val % 28) + (i 1).val)) (x : S28x128.Idx) :
    v ((rStep hw ht).toLoadRect.idx x) = vecE (f (32 * w.toNat + t)) x := by
  have hx0 : (x 0).val < 28 := (x 0).isLt
  have hx1 : (x 1).val < 128 := (x 1).isLt
  have a0 : (((rStep hw ht).toLoadRect.idx x) 0).val = 896 * w.toNat + 28 * t + (x 0).val := by
    show (Scalar.addi (Scalar.muli w 896#32) (BitVec.ofNat 32 (28 * t))).toNat + 1 * (x 0).val = _; rw [step_val hw ht]; omega
  have a1 : (((rStep hw ht).toLoadRect.idx x) 1).val = (x 1).val := by show 0 + 1 * (x 1).val = _; omega
  refine (hv _ (by rw [a0]; omega)).trans ?_
  rw [a0, a1, show (896 * w.toNat + 28 * t + (x 0).val) / 28 = 32 * w.toNat + t by omega, show (896 * w.toNat + 28 * t + (x 0).val) % 28 = (x 0).val by omega]
theorem rd_row {t : ℕ} (ht : 28 * t + 28 ≤ 896) {v : S896x128.Idx → F .f32} {f : ℕ → ℕ → F .f32}
    (hv : ∀ i : S896x128.Idx, v i = f ((i 0).val / 28) (128 * ((i 0).val % 28) + (i 1).val)) (x : S28x128.Idx) :
    v ((rRow t ht).toLoadRect.idx x) = vecE (f t) x := by
  have hx0 : (x 0).val < 28 := (x 0).isLt
  have a0 : (((rRow t ht).toLoadRect.idx x) 0).val = 28 * t + (x 0).val := by show 28 * t + 1 * (x 0).val = _; omega
  have a1 : (((rRow t ht).toLoadRect.idx x) 1).val = (x 1).val := by show 0 + 1 * (x 1).val = _; omega
  rw [hv, a0, a1, show (28 * t + (x 0).val) / 28 = t by omega, show (28 * t + (x 0).val) % 28 = (x 0).val by omega]

/-- One step of the forward recurrence. -/
theorem fwdStep_T (b : Fin 2) {w : BitVec 32} (hw : w.toNat < 4) (t : ℕ) (ht : t < 32) (h : FVec F S28x128 .f32)
    (hh : h = vecE (fun d => HE X b d (32 * w.toNat + t))) (σ : Mem F)
    (hz : ∀ i : S3584x128.Idx, σ 9 i = fZ X b i) (hg : ∀ i : S3584x128.Idx, σ 10 i = fG X b i) (hq : ∀ i : S3584x128.Idx, σ 11 i = fQ X b i)
    (hc : ∀ i : S896x128.Idx, σ 12 i = fHt X b w.toNat i) (hgp : ∀ i : S896x128.Idx, σ 13 i = fGp X b w.toNat i) :
    T c Finset.univ (IB b) (fwdStep hw t ht h) σ (fun h' σ' => Keep [14, 15, 16] σ σ' ∧ h' = vecE (fun d => HE X b d (32 * w.toNat + (t + 1)))
      ∧ (∀ i : S896x128.Idx, σ' 14 i = if (i 0).val / 28 = t then fDz X b w.toNat i else σ 14 i)
      ∧ (∀ i : S896x128.Idx, σ' 15 i = if (i 0).val / 28 = t then fDh X b w.toNat i else σ 15 i)
      ∧ (∀ i : S384x128.Idx, σ' 16 i = if amTok i = t then fAm X b w.toNat i else σ 16 i)) := by
  subst hh
  unfold fwdStep
  refine T_ld 9 (vecE (fun d => zE X b (32 * w.toNat + t) d)) (Finset.mem_univ _) (fun x => IB_all b 9 (by decide) _) (rd_step (X := X) hw ht (f := fun t d => zE X b t d) fun i _ => hz i) ?_
  refine T_ld 12 (vecE (fun d => htE X b (32 * w.toNat + t) d)) (Finset.mem_univ _) (fun x => IB_all b 12 (by decide) _) (rd_row _ (f := fun t d => htE X b (32 * w.toNat + t) d) hc) ?_
  refine T_ld 11 (vecE (fun d => QE X b d (128 - (32 * w.toNat + t)))) (Finset.mem_univ _) (fun x => IB_all b 11 (by decide) _) (rd_step (X := X) hw ht (f := fun t d => QE X b d (128 - t)) fun i _ => hq i) ?_
  refine T_ld 10 (vecE (fun d => GE X b (32 * w.toNat + t) d)) (Finset.mem_univ _) (fun x => IB_all b 10 (by decide) _) (rd_step (X := X) hw ht (f := fun t d => GE X b t d) fun i _ => hg i) ?_
  refine T_ld 13 (vecE (fun d => gpE X b (32 * w.toNat + t) d)) (Finset.mem_univ _) (fun x => IB_all b 13 (by decide) _) (rd_row _ (f := fun t d => gpE X b (32 * w.toNat + t) d) hgp) ?_
  refine T_sk 14 (Finset.mem_univ _) (fun x => IB_all b 14 (by decide) _) fun _ => ?_
  refine T_st 14 (Finset.mem_univ _) (fun x => IB_all b 14 (by decide) _) fun σ1 k1 e1 => ?_
  refine T_sk 15 (Finset.mem_univ _) (fun x => IB_all b 15 (by decide) _) fun _ => ?_
  refine T_st 15 (Finset.mem_univ _) (fun x => IB_all b 15 (by decide) _) fun σ2 k2 e2 => ?_
  refine T_sk 16 (Finset.mem_univ _) (fun x => IB_all b 16 (by decide) _) fun _ => ?_
  refine T_st 16 (Finset.mem_univ _) (fun x => IB_all b 16 (by decide) _) fun σ3 k3 e3 => ?_
  refine T_sk 16 (Finset.mem_univ _) (fun x => IB_all b 16 (by decide) _) fun _ => ?_
  refine T_st 16 (Finset.mem_univ _) (fun x => IB_all b 16 (by decide) _) fun σ4 k4 e4 => ?_
  have hms := fun {n : ℕ} [NeZero n] (o : ℕ) (h : S28x128.Slices ![o, 0] ⟨2, ![n, 128]⟩) (y : (⟨2, ![n, 128]⟩ : Shape).Idx) =>
    mag_slice X b (32 * w.toNat + t) o h (mulf (vecE (fun d => QE X b d (128 - (32 * w.toNat + t)))) (mulf (vecE (fun d => zE X b (32 * w.toNat + t) d)) (subf (vecE (fun d => htE X b (32 * w.toNat + t) d)) (vecE (fun d => HE X b d (32 * w.toNat + t))))))
      (mulf (mulf (vecE (fun d => GE X b (32 * w.toNat + t) d)) (vecE (fun d => zE X b (32 * w.toNat + t) d))) (vecE (fun d => gpE X b (32 * w.toNat + t) d))) rfl rfl y
  refine T_pure ⟨(((k1.mono (by decide)).trans (k2.mono (by decide))).trans (k3.mono (by decide))).trans (k4.mono (by decide)), rfl, fun i => ?_, fun i => ?_, fun i => ?_⟩
  · rw [k4 14 (by decide), k3 14 (by decide), k2 14 (by decide), e1]
    refine st2 _ _ _ i (fun v => v = if (i 0).val / 28 = t then fDz X b w.toNat i else σ 14 i) (28 * t) 1 28 0 1 128 ⟨rfl, rfl, rfl⟩ ⟨rfl, rfl, rfl⟩ ⟨by omega, by omega⟩ ?_ ?_
    · intro y hi0 hi1
      have hy0 : (y 0).val < 28 := (y 0).isLt
      rw [if_pos (by omega), shapeCast_self]
      unfold fDz
      rw [show (i 0).val / 28 = t by omega, show (i 0).val % 28 = (y 0).val by omega, show (i 1).val = (y 1).val by omega]
      rfl
    · intro hm
      have hi1 : (i 1).val < 128 := (i 1).isLt
      rw [if_neg (by omega)]
  · rw [k4 15 (by decide), k3 15 (by decide), e2, k1 15 (by decide)]
    refine st2 _ _ _ i (fun v => v = if (i 0).val / 28 = t then fDh X b w.toNat i else σ 15 i) (28 * t) 1 28 0 1 128 ⟨rfl, rfl, rfl⟩ ⟨rfl, rfl, rfl⟩ ⟨by omega, by omega⟩ ?_ ?_
    · intro y hi0 hi1
      have hy0 : (y 0).val < 28 := (y 0).isLt
      rw [if_pos (by omega), shapeCast_self]
      unfold fDh
      rw [show (i 0).val / 28 = t by omega, show (i 0).val % 28 = (y 0).val by omega, show (i 1).val = (y 1).val by omega]
      rfl
    · intro hm
      have hi1 : (i 1).val < 128 := (i 1).isLt
      rw [if_neg (by omega)]
  · have hi0' : (i 0).val < 384 := (i 0).isLt
    have hi1' : (i 1).val < 128 := (i 1).isLt
    rw [e4]
    refine st2 _ _ _ i (fun v => v = if amTok i = t then fAm X b w.toNat i else σ 16 i) (256 + 4 * t) 1 4 0 1 128 ⟨rfl, rfl, rfl⟩ ⟨rfl, rfl, rfl⟩ ⟨by omega, by omega⟩ ?_ ?_
    · intro y hi0 hi1
      have hy0 : (y 0).val < 4 := (y 0).isLt
      rw [if_pos (by unfold amTok; rw [if_neg (by omega)]; omega), shapeCast_self]
      refine (hms 24 _ y).trans ?_
      unfold fAm
      rw [if_neg (by omega), show ((i 0).val - 256) / 4 = t by omega, show ((i 0).val - 256) % 4 = (y 0).val by omega, show (i 1).val = (y 1).val by omega]
    · intro hm
      rw [e3]
      refine st2 _ _ _ i (fun v => v = if amTok i = t then fAm X b w.toNat i else σ 16 i) (8 * t) 1 8 0 1 128 ⟨rfl, rfl, rfl⟩ ⟨rfl, rfl, rfl⟩ ⟨by omega, by omega⟩ ?_ ?_
      · intro y hi0 hi1
        have hy0 : (y 0).val < 8 := (y 0).isLt
        rw [if_pos (by unfold amTok; rw [if_pos (by omega)]; omega), shapeCast_self]
        refine (congrArg₂ FloatOps.maximumf (congrArg₂ FloatOps.maximumf (hms 0 _ y) (hms 8 _ y)) (hms 16 _ y)).trans ?_
        unfold fAm
        rw [if_pos (by omega), show (i 0).val / 8 = t by omega, show (i 0).val % 8 = (y 0).val by omega, show (i 1).val = (y 1).val by omega, Nat.zero_add]
      · intro hm'
        rw [if_neg (by unfold amTok; split <;> omega), k2 16 (by decide), k1 16 (by decide)]

/-- A chunk's largest magnitudes. -/
theorem amaxes_T (b : Fin 2) (w : ℕ) (σ : Mem F) (h : ∀ i : S384x128.Idx, σ 16 i = fAm X b w i) :
    T c Finset.univ (IB b) amaxes σ (fun m σ' => σ' = σ ∧ m = amV X b w) := by
  have h8 : ∀ (i : ℕ) (hi : i < 8) (x : S32x128.Idx), σ 16 ((lStr (i := i) (n := 8) (by omega)).idx x) = am8 X b w i x := by
    intro i hi x
    have hx0 : (x 0).val < 32 := (x 0).isLt
    have a0 : (((lStr (i := i) (n := 8) (by omega)).idx x) 0).val = i + 8 * (x 0).val := rfl
    have a1 : (((lStr (i := i) (n := 8) (by omega)).idx x) 1).val = (x 1).val := by show 0 + 1 * (x 1).val = _; omega
    rw [h]; unfold fAm
    rw [a0, a1, if_pos (by omega), show (i + 8 * (x 0).val) / 8 = (x 0).val by omega, show (i + 8 * (x 0).val) % 8 = i by omega]; rfl
  have h4 : ∀ (i : ℕ) (hi : i < 4) (x : S32x128.Idx), σ 16 ((lStr (i := 256 + i) (n := 4) (by omega)).idx x) = am4 X b w i x := by
    intro i hi x
    have hx0 : (x 0).val < 32 := (x 0).isLt
    have a0 : (((lStr (i := 256 + i) (n := 4) (by omega)).idx x) 0).val = 256 + i + 4 * (x 0).val := rfl
    have a1 : (((lStr (i := 256 + i) (n := 4) (by omega)).idx x) 1).val = (x 1).val := by show 0 + 1 * (x 1).val = _; omega
    rw [h]; unfold fAm
    rw [a0, a1, if_neg (by omega), show (256 + i + 4 * (x 0).val - 256) / 4 = (x 0).val by omega, show (256 + i + 4 * (x 0).val - 256) % 4 = i by omega]; rfl
  unfold amaxes
  refine T_ld 16 (am8 X b w 0) (Finset.mem_univ _) (fun x => IB_all b 16 (by decide) _) (h8 0 (by omega)) ?_
  refine T_bind (T_runF 7 _ (fun n m σ' => σ' = σ ∧ m = amA X b w n) ?_ _ _ ⟨rfl, rfl⟩) fun m σ1 hm => ?_
  · rintro i hi m σ1 ⟨rfl, rfl⟩
    refine T_ld 16 (am8 X b w (i + 1)) (Finset.mem_univ _) (fun x => IB_all b 16 (by decide) _) (h8 (i + 1) (by omega)) ?_
    exact T_pure ⟨rfl, rfl⟩
  obtain ⟨rfl, rfl⟩ := hm
  refine T_bind (T_runF 4 _ (fun n m σ' => σ' = σ1 ∧ m = amB X b w n) ?_ _ _ ⟨rfl, rfl⟩) fun m σ2 hm => ?_
  · rintro i hi m σ2 ⟨rfl, rfl⟩
    refine T_ld 16 (am4 X b w i) (Finset.mem_univ _) (fun x => IB_all b 16 (by decide) _) (h4 i (by omega)) ?_
    exact T_pure ⟨rfl, rfl⟩
  obtain ⟨rfl, rfl⟩ := hm
  exact T_pure ⟨rfl, rfl⟩

/-- The quantised lane tile `j` of chunk `k`. -/
theorem tile_T (b : Fin 2) (k : Fin 4) (v : Vec F S32x128 .f32) (j : Fin 56)
    (hv : ∀ y : S32x128.Idx, v y = DP X b (32 * k.val + (y 0).val) (128 * j.val + (y 1).val)) (σ : Mem F) (h6 : σ 6 = X.ws) :
    T c Finset.univ (IB b) (tile b k (invOf (amV X b k.val)) v j) σ (fun _ σ' => Keep [18, 19] σ σ'
      ∧ (∀ i : S2x128x7168.Idx, σ' 19 i = if (i 0).val = b.val ∧ (i 1).val / 32 = k.val ∧ (i 2).val / 128 = j.val then vCo X i else σ 19 i)
      ∧ (∀ i : S256x7168.Idx, σ' 18 i = if (i 0).val / 128 = b.val ∧ (i 0).val % 128 / 32 = k.val ∧ (i 1).val / 128 = j.val then AV X i else σ 18 i)) := by
  have hk := k.isLt
  have hj := j.isLt
  have hb := b.isLt
  have hco : ∀ y : S32x128.Idx, codeOf v (invOf (amV X b k.val)) y = CO X b (32 * k.val + (y 0).val) (128 * j.val + (y 1).val) := by
    intro y
    have hy0 : (y 0).val < 32 := (y 0).isLt
    have hi : invOf (amV X b k.val) y = IV X b (32 * k.val + (y 0).val) := by
      rw [inv_row]; unfold IV
      rw [show (32 * k.val + (y 0).val) / 32 = k.val by omega, show (32 * k.val + (y 0).val) % 32 = (y 0).val by omega]
    show FloatOps.truncf .fp8e5m2 bitsLt_fp8e5m2_f32 (FloatOps.minimumf (Scalar.ofBits .f32 0x47600000#32) (FloatOps.maximumf (Scalar.ofBits .f32 0xC7600000#32) (FloatOps.mulf (v y) (invOf (amV X b k.val) y)))) = _
    rw [hv, hi]; rfl
  unfold tile
  refine T_sk 19 (Finset.mem_univ _) (fun x => IB_all b 19 (by decide) _) fun _ => ?_
  refine T_st 19 (Finset.mem_univ _) (fun x => IB_all b 19 (by decide) _) fun σ1 k1 e1 => ?_
  refine T_ld 6 (fun x : S1x128.Idx => X.ws (n2 j.val (x 1).val)) (Finset.mem_univ _) (fun x => IB_all b 6 (by decide) _) ?_ ?_
  · intro x
    have hx : (x 0).val < 1 := (x 0).isLt
    rw [k1 6 (by decide), h6]
    refine congrArg X.ws (eq_n2 ?_ ?_)
    · show j.val + 1 * (x 0).val = j.val; omega
    · show 0 + 1 * (x 1).val = (x 1).val; omega
  refine T_sk 18 (Finset.mem_univ _) (fun x => IB_all b 18 (by decide) _) fun _ => ?_
  refine T_stE 18 (Finset.mem_univ _) (fun x => IB_all b 18 (by decide) _) fun σ2 k2 e2 => ?_
  refine ⟨(k1.mono (by decide)).trans (k2.mono (by decide)), fun i => ?_, fun i => ?_⟩
  · have hi0' : (i 0).val < 2 := (i 0).isLt
    have hi1' : (i 1).val < 128 := (i 1).isLt
    have hi2' : (i 2).val < 7168 := (i 2).isLt
    rw [k2 19 (by decide), e1]
    refine st3 _ _ _ i (fun v => v = if (i 0).val = b.val ∧ (i 1).val / 32 = k.val ∧ (i 2).val / 128 = j.val then vCo X i else σ 19 i) b.val 1 (32 * k.val) 32 (128 * j.val) 128 ⟨rfl, rfl⟩
      ⟨(tok_val (fwdWord_lt k)).trans (by rw [fwdWord_val]), rfl⟩ ⟨rfl, rfl⟩ (fun _ => rfl) ?_ ?_
    · intro y hi0 hi1 hi2
      have hy0 : (y 0).val < 1 := (y 0).isLt
      have hy1 : (y 1).val < 32 := (y 1).isLt
      have hy2 : (y 2).val < 128 := (y 2).isLt
      rw [if_pos (by omega), addU, hco]
      refine congr (congr (congrArg (CO X) ?_) ?_) ?_
      · omega
      · refine (congrArg (32 * k.val + ·) (n2_0 hy1)).trans ?_; omega
      · refine (congrArg (128 * j.val + ·) (n2_1 hy2)).trans ?_; omega
    · intro hm
      rw [if_neg (by omega)]
  · have hi0' : (i 0).val < 256 := (i 0).isLt
    have hi1' : (i 1).val < 7168 := (i 1).isLt
    rw [e2, k1 18 (by decide)]
    refine st2 _ _ _ i (fun v => v = if (i 0).val / 128 = b.val ∧ (i 0).val % 128 / 32 = k.val ∧ (i 1).val / 128 = j.val then AV X i else σ 18 i) (128 * b.val + 32 * k.val) 1 32 (128 * j.val) 1 128
      ⟨(a_val b (fwdWord_lt k)).trans (by rw [fwdWord_val]), rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      refine (congrArg₂ FloatOps.mulf (congrArg (FloatOps.extf .bf16 bitsLt_fp8e5m2_bf16) (hco y)) (broadcastTo_apply _ _ y (n2 0 (y 1).val) ?_)).trans ?_
      · intro a
        match a with
        | ⟨0, _⟩ => rfl
        | ⟨1, _⟩ => exact n2_1 hy1
      show FloatOps.mulf _ (FloatOps.truncf .bf16 bitsLt_bf16_f32 (X.ws (n2 j.val ((n2 0 (y 1).val : S1x128.Idx) 1).val))) = AE X ((i 0).val / 128) ((i 0).val % 128) (i 1).val
      rw [show ((n2 0 (y 1).val : S1x128.Idx) 1).val = (y 1).val from n2_1 hy1, show (i 0).val / 128 = b.val by omega, show (i 0).val % 128 = 32 * k.val + (y 0).val by omega, show (i 1).val = 128 * j.val + (y 1).val by omega]
      unfold AE
      rw [show (128 * j.val + (y 1).val) / 128 = j.val by omega, show (128 * j.val + (y 1).val) % 128 = (y 1).val by omega]
    · intro hm
      rw [if_neg (by omega)]

end Cert.Kernel
-- ==== Proof.K.Batch.lean ====
module

public import proofs.«01_k».proof.Proof.K.Fwd

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] {c : Dev nD}

variable (X : Inp F)

/-! ## A trip of the forward loop -/

theorem fwdTrip_T (b : Fin 2) (k : Fin 4) (h : FVec F S28x128 .f32) (σ : Mem F) (hI : InB X σ) (hJ : RevJ X b 128 σ)
    (hh : h = vecE (fun d => HE X b d (32 * k.val))) :
    T c Finset.univ (IB b) (fwdTrip b k h) σ (fun h' σ' => Keep [12, 13, 14, 15, 16, 18, 19, 20] σ σ' ∧ h' = vecE (fun d => HE X b d (32 * k.val + 32))
      ∧ (∀ i : S256x7168.Idx, σ' 18 i = if (i 0).val / 128 = b.val ∧ (i 0).val % 128 / 32 = k.val then AV X i else σ 18 i)
      ∧ (∀ i : S2x128x7168.Idx, σ' 19 i = if (i 0).val = b.val ∧ (i 1).val / 32 = k.val then vCo X i else σ 19 i)
      ∧ (∀ i : S2x128x128.Idx, σ' 20 i = if (i 0).val = b.val ∧ (i 1).val / 32 = k.val then vDsc X i else σ 20 i)) := by
  have hk := k.isLt
  have hb := b.isLt
  have hw := fwdWord_lt k
  have hwv : (fwdWord k).toNat = k.val := fwdWord_val k
  unfold fwdTrip
  refine T_ld 8 (fun x : S1x32x128.Idx => X.pres (n2 b.val (32 * k.val + (x 1).val))) (Finset.mem_univ _) (fun x => IB_all b 8 (by decide) _) ?_ ?_
  · intro x
    have hx : (x 0).val < 1 := (x 0).isLt
    refine (hI.presL _).trans (congrArg X.pres (congrArg₂ n2 ?_ ?_))
    · show b.val + 1 * (x 0).val = b.val; omega
    · show (Scalar.muli (fwdWord k) 32#32).toNat + 1 * (x 1).val = _; rw [tok_val hw, hwv]; omega
  refine T_bind (T_runF 28 _ (fun g _ σ' => Keep [12, 13] σ σ'
      ∧ (∀ i : S896x128.Idx, (i 0).val % 28 < g → σ' 12 i = fHt X b (fwdWord k).toNat i)
      ∧ (∀ i : S896x128.Idx, (i 0).val % 28 < g → σ' 13 i = fGp X b (fwdWord k).toNat i)) ?_ _ _ ?_) fun _ σ1 h1 => ?_
  · rintro g hg - σ1 ⟨k1, ha, hp⟩
    refine T_mono (fwdGate_T X b hw g hg _ ?_ σ1 ((k1 1 (by decide)).trans hI.prec)) ?_
    · intro y
      rw [hwv]
      exact dropF (fun a _ => X.pres (n2 b.val (32 * k.val + a))) _ y
    · rintro - σ2 ⟨k2, ha2, hp2⟩
      refine ⟨k1.trans k2, fun i hi => ?_, fun i hi => ?_⟩
      · rw [ha2]; split
        · rfl
        · exact ha i (by omega)
      · rw [hp2]; split
        · rfl
        · exact hp i (by omega)
  · exact ⟨Keep.refl _ _, fun i hi => by omega, fun i hi => by omega⟩
  obtain ⟨k1, ha, hp⟩ := h1
  refine T_bind (T_runF 32 _ (fun t h' σ' => Keep [14, 15, 16] σ1 σ' ∧ h' = vecE (fun d => HE X b d (32 * (fwdWord k).toNat + t))
      ∧ (∀ i : S896x128.Idx, (i 0).val / 28 < t → σ' 14 i = fDz X b (fwdWord k).toNat i)
      ∧ (∀ i : S896x128.Idx, (i 0).val / 28 < t → σ' 15 i = fDh X b (fwdWord k).toNat i)
      ∧ (∀ i : S384x128.Idx, amTok i < t → σ' 16 i = fAm X b (fwdWord k).toNat i)) ?_ _ _ ?_) fun h2 σ2 hh2 => ?_
  · rintro t ht h' σ2 ⟨k2, he, hz, hd, hm⟩
    refine T_mono (fwdStep_T X b hw t ht h' he σ2 ?_ ?_ ?_ ?_ ?_) ?_
    · intro i; rw [k2 9 (by decide), k1 9 (by decide)]; exact hJ.z i (by omega)
    · intro i; rw [k2 10 (by decide), k1 10 (by decide)]; exact hJ.g i (by omega)
    · intro i; rw [k2 11 (by decide), k1 11 (by decide)]; exact hJ.q i (by omega)
    · intro i; rw [k2 12 (by decide)]; exact ha i (Nat.mod_lt _ (by omega))
    · intro i; rw [k2 13 (by decide)]; exact hp i (Nat.mod_lt _ (by omega))
    · rintro h3 σ3 ⟨k3, he3, hz3, hd3, hm3⟩
      refine ⟨k2.trans k3, he3, fun i hi => ?_, fun i hi => ?_, fun i hi => ?_⟩
      · rw [hz3]; split
        · rfl
        · exact hz i (by omega)
      · rw [hd3]; split
        · rfl
        · exact hd i (by omega)
      · rw [hm3]; split
        · rfl
        · exact hm i (by omega)
  · exact ⟨Keep.refl _ _, by rw [hwv]; exact hh, fun i hi => by omega, fun i hi => by omega, fun i hi => by omega⟩
  obtain ⟨k2, he, hz, hd, hm⟩ := hh2
  rw [hwv] at he hz hd hm
  have hz' : ∀ i : S896x128.Idx, σ2 14 i = fDz X b k.val i := fun i => hz i (by have : (i 0).val < 896 := (i 0).isLt; omega)
  have hd' : ∀ i : S896x128.Idx, σ2 15 i = fDh X b k.val i := fun i => hd i (by have : (i 0).val < 896 := (i 0).isLt; omega)
  have hm' : ∀ i : S384x128.Idx, σ2 16 i = fAm X b k.val i := fun i => hm i (by have : (i 0).val < 384 := (i 0).isLt; unfold amTok; split <;> omega)
  refine T_bind (amaxes_T X b k.val σ2 hm') fun m σ2' hmm => ?_
  obtain ⟨rfl, rfl⟩ := hmm
  refine T_sk 20 (Finset.mem_univ _) (fun x => IB_all b 20 (by decide) _) fun _ => ?_
  refine T_st 20 (Finset.mem_univ _) (fun x => IB_all b 20 (by decide) _) fun σ3 k3 e3 => ?_
  have hrd : ∀ (g : ℕ) (hg : g < 28) (f : ℕ → ℕ → F .f32) (v : S896x128.Idx → F .f32), (∀ i : S896x128.Idx, v i = f ((i 0).val / 28) (128 * ((i 0).val % 28) + (i 1).val)) →
      ∀ x : S32x128.Idx, v ((lRow hg).idx x) = f (x 0).val (128 * g + (x 1).val) := by
    intro g hg f v hv x
    have hx0 : (x 0).val < 32 := (x 0).isLt
    have a0 : (((lRow hg).idx x) 0).val = g + 28 * (x 0).val := rfl
    have a1 : (((lRow hg).idx x) 1).val = (x 1).val := by show 0 + 1 * (x 1).val = _; omega
    rw [hv, a0, a1, show (g + 28 * (x 0).val) / 28 = (x 0).val by omega, show (g + 28 * (x 0).val) % 28 = g by omega]
  refine T_bind (T_runF 28 _ (fun g _ σ' => Keep [18, 19] σ3 σ'
      ∧ (∀ i : S2x128x7168.Idx, σ' 19 i = if (i 0).val = b.val ∧ (i 1).val / 32 = k.val ∧ (i 2).val / 128 < g then vCo X i else σ3 19 i)
      ∧ (∀ i : S256x7168.Idx, σ' 18 i = if (i 0).val / 128 = b.val ∧ (i 0).val % 128 / 32 = k.val ∧ (i 1).val / 128 < g then AV X i else σ3 18 i)) ?_ _ _ ?_) fun _ σ4 h4 => ?_
  · rintro g hg - σ4 ⟨k4, hc4, ha4⟩
    refine T_ld 14 (fun x : S32x128.Idx => DZ X b (32 * k.val + (x 0).val) (128 * g + (x 1).val)) (Finset.mem_univ _) (fun x => IB_all b 14 (by decide) _) ?_ ?_
    · intro x
      rw [k4 14 (by decide), k3 14 (by decide)]
      exact hrd g hg (fun t d => DZ X b (32 * k.val + t) d) _ hz' x
    refine T_mono (tile_T X b k _ ⟨g, by omega⟩ ?_ σ4 ?_) ?_
    · intro y
      have hy1 : (y 1).val < 128 := (y 1).isLt
      unfold DP
      rw [if_pos (by show 128 * g + (y 1).val < 3584; omega)]
    · rw [k4 6 (by decide), k3 6 (by decide), k2 6 (by decide), k1 6 (by decide)]; exact hI.ws
    · rintro - σ5 ⟨k5, hc5, ha5⟩
      refine ⟨k4.trans k5, fun i => ?_, fun i => ?_⟩
      · rw [hc5, hc4]
        by_cases c1 : (i 0).val = b.val ∧ (i 1).val / 32 = k.val ∧ (i 2).val / 128 = g
        · rw [if_pos c1, if_pos (by omega)]
        · rw [if_neg c1]
          by_cases c2 : (i 0).val = b.val ∧ (i 1).val / 32 = k.val ∧ (i 2).val / 128 < g
          · rw [if_pos c2, if_pos (by omega)]
          · rw [if_neg c2, if_neg (by omega)]
      · rw [ha5, ha4]
        by_cases c1 : (i 0).val / 128 = b.val ∧ (i 0).val % 128 / 32 = k.val ∧ (i 1).val / 128 = g
        · rw [if_pos c1, if_pos (by omega)]
        · rw [if_neg c1]
          by_cases c2 : (i 0).val / 128 = b.val ∧ (i 0).val % 128 / 32 = k.val ∧ (i 1).val / 128 < g
          · rw [if_pos c2, if_pos (by omega)]
          · rw [if_neg c2, if_neg (by omega)]
  · exact ⟨Keep.refl _ _, fun i => by rw [if_neg (by omega)], fun i => by rw [if_neg (by omega)]⟩
  obtain ⟨k4, hc4, ha4⟩ := h4
  refine T_bind (T_runF 28 _ (fun g _ σ' => Keep [18, 19] σ3 σ'
      ∧ (∀ i : S2x128x7168.Idx, σ' 19 i = if (i 0).val = b.val ∧ (i 1).val / 32 = k.val ∧ (i 2).val / 128 < 28 + g then vCo X i else σ3 19 i)
      ∧ (∀ i : S256x7168.Idx, σ' 18 i = if (i 0).val / 128 = b.val ∧ (i 0).val % 128 / 32 = k.val ∧ (i 1).val / 128 < 28 + g then AV X i else σ3 18 i)) ?_ _ _ ?_) fun _ σ5 h5 => ?_
  · rintro g hg - σ4 ⟨k4, hc4, ha4⟩
    refine T_ld 15 (fun x : S32x128.Idx => DH X b (32 * k.val + (x 0).val) (128 * g + (x 1).val)) (Finset.mem_univ _) (fun x => IB_all b 15 (by decide) _) ?_ ?_
    · intro x
      rw [k4 15 (by decide), k3 15 (by decide)]
      exact hrd g hg (fun t d => DH X b (32 * k.val + t) d) _ hd' x
    refine T_mono (tile_T X b k _ ⟨28 + g, by omega⟩ ?_ σ4 ?_) ?_
    · intro y
      have hy1 : (y 1).val < 128 := (y 1).isLt
      unfold DP
      rw [if_neg (by show ¬ 128 * (28 + g) + (y 1).val < 3584; omega), show 128 * (28 + g) + (y 1).val - 3584 = 128 * g + (y 1).val by omega]
    · rw [k4 6 (by decide), k3 6 (by decide), k2 6 (by decide), k1 6 (by decide)]; exact hI.ws
    · rintro - σ5 ⟨k5, hc5, ha5⟩
      refine ⟨k4.trans k5, fun i => ?_, fun i => ?_⟩
      · rw [hc5, hc4]
        by_cases c1 : (i 0).val = b.val ∧ (i 1).val / 32 = k.val ∧ (i 2).val / 128 = 28 + g
        · rw [if_pos c1, if_pos (by omega)]
        · rw [if_neg c1]
          by_cases c2 : (i 0).val = b.val ∧ (i 1).val / 32 = k.val ∧ (i 2).val / 128 < 28 + g
          · rw [if_pos c2, if_pos (by omega)]
          · rw [if_neg c2, if_neg (by omega)]
      · rw [ha5, ha4]
        by_cases c1 : (i 0).val / 128 = b.val ∧ (i 0).val % 128 / 32 = k.val ∧ (i 1).val / 128 = 28 + g
        · rw [if_pos c1, if_pos (by omega)]
        · rw [if_neg c1]
          by_cases c2 : (i 0).val / 128 = b.val ∧ (i 0).val % 128 / 32 = k.val ∧ (i 1).val / 128 < 28 + g
          · rw [if_pos c2, if_pos (by omega)]
          · rw [if_neg c2, if_neg (by omega)]
  · exact ⟨k4, hc4, ha4⟩
  obtain ⟨k5, hc5, ha5⟩ := h5
  refine T_pure ⟨((((k1.mono (by decide)).trans (k2.mono (by decide))).trans (k3.mono (by decide))).trans (k5.mono (by decide))), he, fun i => ?_, fun i => ?_, fun i => ?_⟩
  · have hi1 : (i 1).val < 7168 := (i 1).isLt
    rw [ha5, k3 18 (by decide), k2 18 (by decide), k1 18 (by decide)]
    by_cases c1 : (i 0).val / 128 = b.val ∧ (i 0).val % 128 / 32 = k.val
    · rw [if_pos c1, if_pos (by omega)]
    · rw [if_neg c1, if_neg (by omega)]
  · have hi2 : (i 2).val < 7168 := (i 2).isLt
    rw [hc5, k3 19 (by decide), k2 19 (by decide), k1 19 (by decide)]
    by_cases c1 : (i 0).val = b.val ∧ (i 1).val / 32 = k.val
    · rw [if_pos c1, if_pos (by omega)]
    · rw [if_neg c1, if_neg (by omega)]
  · have hi2' : (i 2).val < 128 := (i 2).isLt
    have hi0' : (i 0).val < 2 := (i 0).isLt
    rw [k5 20 (by decide), e3, k2 20 (by decide), k1 20 (by decide)]
    refine st3 _ _ _ i (fun v => v = if (i 0).val = b.val ∧ (i 1).val / 32 = k.val then vDsc X i else σ 20 i) b.val 1 (32 * k.val) 32 0 128 ⟨rfl, rfl⟩
      ⟨(tok_val hw).trans (by rw [hwv]), rfl⟩ ⟨rfl, rfl⟩ (fun _ => rfl) ?_ ?_
    · intro y hi0 hi1 hi2
      have hy0 : (y 0).val < 1 := (y 0).isLt
      have hy1 : (y 1).val < 32 := (y 1).isLt
      rw [if_pos (by omega), addU, scale_row]
      unfold vDsc SC
      rw [show (i 0).val = b.val by omega, show (i 1).val / 32 = k.val by omega, show (i 1).val % 32 = (y 1).val by omega]
      exact congrArg (fun z => scaleOf (amV X b.val k.val) (n2 z 0)) (n2_0 hy1)
    · intro hm
      rw [if_neg (by omega)]

/-! ## Between the scans, and after -/

theorem between_T (b : Fin 2) (q : FVec F S28x128 .f32) (σ : Mem F) (hI : InB X σ) (hq : q = vecE (fun d => QE X b d 128)) :
    T c Finset.univ (IB b) (between b q) σ (fun h σ' => Keep [17, 21] σ σ' ∧ h = vecE (fun d => HE X b d 0)
      ∧ (∀ i : S2x3584.Idx, σ' 21 i = if (i 0).val = b.val then vDh0 X i else σ 21 i)) := by
  have hb := b.isLt
  subst hq
  unfold between
  refine T_sk 17 (Finset.mem_univ _) (fun x => IB_all b 17 (by decide) _) fun _ => ?_
  refine T_st 17 (Finset.mem_univ _) (fun x => IB_all b 17 (by decide) _) fun σ1 k1 e1 => ?_
  have h17 : ∀ i : S28x128.Idx, σ1 17 i = QE X b (128 * (i 0).val + (i 1).val) 128 := by
    intro i
    have hi0' : (i 0).val < 28 := (i 0).isLt
    have hi1' : (i 1).val < 128 := (i 1).isLt
    rw [e1]
    refine st2 _ _ _ i (fun v => v = QE X b (128 * (i 0).val + (i 1).val) 128) 0 1 28 0 1 128 ⟨rfl, rfl, rfl⟩ ⟨rfl, rfl, rfl⟩ ⟨by omega, by omega⟩ ?_ ?_
    · intro y hi0 hi1
      rw [shapeCast_self, show (i 0).val = (y 0).val by omega, show (i 1).val = (y 1).val by omega]
    · intro hm; omega
  refine T_bind (T_runF 28 _ (fun g _ σ' => Keep [21] σ1 σ' ∧ (∀ i : S2x3584.Idx, σ' 21 i = if (i 0).val = b.val ∧ (i 1).val / 128 < g then vDh0 X i else σ 21 i)) ?_ _ _ ?_) fun _ σ2 h2 => ?_
  · rintro g hg - σ2 ⟨k2, h2⟩
    refine T_ld 17 (fun x : S1x128.Idx => QE X b (128 * g + (x 1).val) 128) (Finset.mem_univ _) (fun x => IB_all b 17 (by decide) _) ?_ ?_
    · intro x
      have hx : (x 0).val < 1 := (x 0).isLt
      have a0 : (((rH hg).toLoadRect.idx x) 0).val = g := by show g + 1 * (x 0).val = _; omega
      have a1 : (((rH hg).toLoadRect.idx x) 1).val = (x 1).val := by show 0 + 1 * (x 1).val = _; omega
      rw [k2 17 (by decide), h17, a0, a1]
    refine T_sk 21 (Finset.mem_univ _) (fun x => IB_all b 21 (by decide) _) fun _ => ?_
    refine T_stE 21 (Finset.mem_univ _) (fun x => IB_all b 21 (by decide) _) fun σ3 k3 e3 => ?_
    refine ⟨k2.trans k3, fun i => ?_⟩
    have hi0' : (i 0).val < 2 := (i 0).isLt
    rw [e3]
    refine st2 _ _ _ i (fun v => v = if (i 0).val = b.val ∧ (i 1).val / 128 < g + 1 then vDh0 X i else σ 21 i) b.val 1 1 (128 * g) 1 128 ⟨rfl, rfl, rfl⟩ ⟨rfl, rfl, rfl⟩ ⟨by omega, by omega⟩ ?_ ?_
    · intro y hi0 hi1
      have hy0 : (y 0).val < 1 := (y 0).isLt
      have hy1 : (y 1).val < 128 := (y 1).isLt
      rw [if_pos (by omega), shapeCast_self]
      unfold vDh0
      rw [show (i 0).val = b.val by omega, show (i 1).val = 128 * g + (y 1).val by omega]
    · intro hm
      rw [h2]
      by_cases c1 : (i 0).val = b.val ∧ (i 1).val / 128 < g
      · rw [if_pos c1, if_pos (by omega)]
      · rw [if_neg c1, if_neg (by omega)]
  · exact ⟨Keep.refl _ _, fun i => by rw [if_neg (by omega), k1 21 (by decide)]⟩
  obtain ⟨k2, h2⟩ := h2
  refine T_bind (T_runF 28 _ (fun g _ σ' => Keep [17] σ2 σ' ∧ (∀ i : S28x128.Idx, (i 0).val < g → σ' 17 i = HE X b (128 * (i 0).val + (i 1).val) 0)) ?_ _ _ ?_) fun _ σ3 h3 => ?_
  · rintro g hg - σ3 ⟨k3, h3⟩
    refine T_ld 5 (fun x : S1x128.Idx => HE X b (128 * g + (x 1).val) 0) (Finset.mem_univ _) (fun x => IB_all b 5 (by decide) _) ?_ ?_
    · intro x
      have hx : (x 0).val < 1 := (x 0).isLt
      rw [k3 5 (by decide), k2 5 (by decide), k1 5 (by decide), hI.h0]
      refine congrArg X.h0 (eq_n2 ?_ ?_)
      · show b.val + 1 * (x 0).val = _; omega
      · show 128 * g + 1 * (x 1).val = _; omega
    refine T_sk 17 (Finset.mem_univ _) (fun x => IB_all b 17 (by decide) _) fun _ => ?_
    refine T_stE 17 (Finset.mem_univ _) (fun x => IB_all b 17 (by decide) _) fun σ4 k4 e4 => ?_
    refine ⟨k3.trans k4, fun i hi => ?_⟩
    have hi1' : (i 1).val < 128 := (i 1).isLt
    rw [e4]
    refine st2 _ _ _ i (fun v => v = HE X b (128 * (i 0).val + (i 1).val) 0) g 1 1 0 1 128 ⟨rfl, rfl, rfl⟩ ⟨rfl, rfl, rfl⟩ ⟨by omega, by omega⟩ ?_ ?_
    · intro y hi0 hi1
      have hy0 : (y 0).val < 1 := (y 0).isLt
      rw [shapeCast_self, show (i 0).val = g by omega, show (i 1).val = (y 1).val by omega]
    · intro hm; exact h3 i (by omega)
  · exact ⟨Keep.refl _ _, fun i hi => by omega⟩
  obtain ⟨k3, h3⟩ := h3
  refine T_ldE 17 (Finset.mem_univ _) (fun x => IB_all b 17 (by decide) _) ⟨((k1.mono (by decide)).trans (k2.mono (by decide))).trans (k3.mono (by decide)), funext fun x => ?_, fun i => ?_⟩
  · have hx0 : (x 0).val < 28 := (x 0).isLt
    have a0 : ((rHw.toLoadRect.idx x) 0).val = (x 0).val := by show 0 + 1 * (x 0).val = _; omega
    have a1 : ((rHw.toLoadRect.idx x) 1).val = (x 1).val := by show 0 + 1 * (x 1).val = _; omega
    rw [h3 _ (by rw [a0]; omega), a0, a1]
  · have hi1 : (i 1).val < 3584 := (i 1).isLt
    rw [k3 21 (by decide), h2]
    by_cases c1 : (i 0).val = b.val
    · rw [if_pos c1, if_pos (by omega)]
    · rw [if_neg c1, if_neg (by omega)]

theorem scalesOut_T (b : Fin 2) (σ : Mem F) (h : ∀ i : S2x128x128.Idx, (i 0).val = b.val → σ 20 i = vDsc X i) :
    T c Finset.univ (IB b) (scalesOut b) σ (fun _ σ' => Keep [22] σ σ' ∧ (∀ i : S2x128.Idx, σ' 22 i = if (i 0).val = b.val then vSc X i else σ 22 i)) := by
  have hb := b.isLt
  unfold scalesOut
  refine T_ld 20 (fun x : S1x128x128.Idx => SC X b.val (x 1).val) (Finset.mem_univ _) (fun x => IB_all b 20 (by decide) _) ?_ ?_
  · intro x
    have hx : (x 0).val < 1 := (x 0).isLt
    have a0 : (((rB b).toLoadRect.idx x) 0).val = b.val := by show b.val + 1 * (x 0).val = _; omega
    have a1 : (((rB b).toLoadRect.idx x) 1).val = (x 1).val := by show 0 + 1 * (x 1).val = _; omega
    rw [h _ a0]; unfold vDsc; rw [a0, a1]
  refine T_sk 22 (Finset.mem_univ _) (fun x => IB_all b 22 (by decide) _) fun _ => ?_
  refine T_stE 22 (Finset.mem_univ _) (fun x => IB_all b 22 (by decide) _) fun σ1 k1 e1 => ⟨k1, fun i => ?_⟩
  have hi1' : (i 1).val < 128 := (i 1).isLt
  have hi0' : (i 0).val < 2 := (i 0).isLt
  rw [e1]
  refine st2 _ _ _ i (fun v => v = if (i 0).val = b.val then vSc X i else σ 22 i) b.val 1 1 0 1 128 ⟨rfl, rfl, rfl⟩ ⟨rfl, rfl, rfl⟩ ⟨by omega, by omega⟩ ?_ ?_
  · intro y hi0 hi1
    have hy0 : (y 0).val < 1 := (y 0).isLt
    have hy1 : (y 1).val < 128 := (y 1).isLt
    rw [if_pos (by omega), shapeCast_self]
    refine (extractStridedSlice_apply _ _ _ y (n2 0 (y 1).val : S128x128.Idx) ?_).trans ((transpose_apply _ _ _ _ (n2 (y 1).val 0 : S128x128.Idx) ?_).trans ?_)
    · intro a
      match a with
      | ⟨0, _⟩ => show 0 = 0 + (y 0).val; omega
      | ⟨1, _⟩ => exact (n2_1 hy1).trans (Nat.zero_add _).symm
    · intro a
      match a with
      | ⟨0, _⟩ => rfl
      | ⟨1, _⟩ => exact (n2_0 hy1).trans (n2_1 hy1).symm
    · refine (dropF (fun t _ => SC X b.val t) _ _).trans ?_
      unfold vSc
      rw [show (i 0).val = b.val by omega, show (i 1).val = (y 1).val by omega]
      exact congrArg (SC X b.val) (n2_0 hy1)
  · intro hm
    rw [if_neg (by omega)]

theorem RevJ.keep {X : Inp F} {b : Fin 2} {n : ℕ} {σ σ' : Mem F} {S : List (Fin 24)} (h : RevJ X b n σ) (k : Keep S σ σ') (hS : ∀ n ∈ [(9 : Fin 24), 10, 11], n ∉ S) : RevJ X b n σ' where
  z := fun i hi => (congrFun (k 9 (hS _ (by decide))) i).trans (h.z i hi)
  g := fun i hi => (congrFun (k 10 (hS _ (by decide))) i).trans (h.g i hi)
  q := fun i hi => (congrFun (k 11 (hS _ (by decide))) i).trans (h.q i hi)

/-- The forward loop. -/
theorem for2_T (b : Fin 2) (h : FVec F S28x128 .f32) (σ : Mem F) (hI : InB X σ) (hJ : RevJ X b 128 σ) (hh : h = vecE (fun d => HE X b d 0)) :
    T c Finset.univ (IB b) (Scf.for 0#32 4#32 1#32 k0_t1_ok h fun k h => fwdTrip b k h : PG F (FVec F S28x128 .f32)) σ
      (fun _ σ' => Keep [12, 13, 14, 15, 16, 18, 19, 20] σ σ'
      ∧ (∀ i : S256x7168.Idx, σ' 18 i = if (i 0).val / 128 = b.val then AV X i else σ 18 i)
      ∧ (∀ i : S2x128x7168.Idx, σ' 19 i = if (i 0).val = b.val then vCo X i else σ 19 i)
      ∧ (∀ i : S2x128x128.Idx, σ' 20 i = if (i 0).val = b.val then vDsc X i else σ 20 i)) := by
  refine T_for _ _ _ _ _ _ (fun k h σ' => Keep [12, 13, 14, 15, 16, 18, 19, 20] σ σ' ∧ h = vecE (fun d => HE X b d (32 * k))
      ∧ (∀ i : S256x7168.Idx, σ' 18 i = if (i 0).val / 128 = b.val ∧ (i 0).val % 128 / 32 < k then AV X i else σ 18 i)
      ∧ (∀ i : S2x128x7168.Idx, σ' 19 i = if (i 0).val = b.val ∧ (i 1).val / 32 < k then vCo X i else σ 19 i)
      ∧ (∀ i : S2x128x128.Idx, σ' 20 i = if (i 0).val = b.val ∧ (i 1).val / 32 < k then vDsc X i else σ 20 i)) ?_ ?_ ?_
  · exact ⟨Keep.refl _ _, hh, fun i => by rw [if_neg (by omega)], fun i => by rw [if_neg (by omega)], fun i => by rw [if_neg (by omega)]⟩
  · rintro k h1 σ1 ⟨k1, he, ha, hc, hd⟩
    refine T_mono (fwdTrip_T X b k h1 σ1 (hI.keep k1 (by decide)) (hJ.keep k1 (by decide)) he) ?_
    rintro h2 σ2 ⟨k2, he2, ha2, hc2, hd2⟩
    refine ⟨k1.trans k2, he2, fun i => ?_, fun i => ?_, fun i => ?_⟩
    · rw [ha2, ha]
      by_cases c1 : (i 0).val / 128 = b.val ∧ (i 0).val % 128 / 32 = k.val
      · rw [if_pos c1, if_pos (by omega)]
      · rw [if_neg c1]
        by_cases c2 : (i 0).val / 128 = b.val ∧ (i 0).val % 128 / 32 < k.val
        · rw [if_pos c2, if_pos (by omega)]
        · rw [if_neg c2, if_neg (by omega)]
    · rw [hc2, hc]
      by_cases c1 : (i 0).val = b.val ∧ (i 1).val / 32 = k.val
      · rw [if_pos c1, if_pos (by omega)]
      · rw [if_neg c1]
        by_cases c2 : (i 0).val = b.val ∧ (i 1).val / 32 < k.val
        · rw [if_pos c2, if_pos (by omega)]
        · rw [if_neg c2, if_neg (by omega)]
    · rw [hd2, hd]
      by_cases c1 : (i 0).val = b.val ∧ (i 1).val / 32 = k.val
      · rw [if_pos c1, if_pos (by omega)]
      · rw [if_neg c1]
        by_cases c2 : (i 0).val = b.val ∧ (i 1).val / 32 < k.val
        · rw [if_pos c2, if_pos (by omega)]
        · rw [if_neg c2, if_neg (by omega)]
  · rintro h1 σ1 ⟨k1, he, ha, hc, hd⟩
    refine ⟨k1, fun i => ?_, fun i => ?_, fun i => ?_⟩
    · rw [ha]
      have e : (i 0).val % 128 / 32 < 4 := by omega
      exact if_congr ⟨fun h => h.1, fun h => ⟨h, e⟩⟩ rfl rfl
    · rw [hc]
      have e : (i 1).val / 32 < 4 := by have : (i 1).val < 128 := (i 1).isLt; omega
      exact if_congr ⟨fun h => h.1, fun h => ⟨h, e⟩⟩ rfl rfl
    · rw [hd]
      have e : (i 1).val / 32 < 4 := by have : (i 1).val < 128 := (i 1).isLt; omega
      exact if_congr ⟨fun h => h.1, fun h => ⟨h, e⟩⟩ rfl rfl

/-- The scans of a batch. -/
theorem batch_T (b : Fin 2) (σ : Mem F) (h : InB X σ) : T c Finset.univ (IB b) (batch b) σ
    (fun _ σ' => Keep [9, 10, 11, 12, 13, 14, 15, 16, 17, 18, 19, 20, 21, 22] σ σ' ∧ OutB X b σ' ∧ KeepB b σ σ') := by
  unfold batch
  refine T_bind (for1_T X b σ h) fun q σ1 h1 => ?_
  obtain ⟨k1, hq, hJ⟩ := h1
  refine T_bind (between_T X b q σ1 (h.keep k1 (by decide)) hq) fun h0 σ2 h2 => ?_
  obtain ⟨k2, he, hd0⟩ := h2
  refine T_bind (for2_T X b h0 σ2 ((h.keep k1 (by decide)).keep k2 (by decide)) (hJ.keep k2 (by decide)) he) fun _ σ3 h3 => ?_
  obtain ⟨k3, ha, hc, hd⟩ := h3
  refine T_mono (scalesOut_T X b σ3 fun i hi => by rw [hd, if_pos hi]) ?_
  rintro - σ4 ⟨k4, hs⟩
  refine ⟨(((k1.mono (by decide)).trans (k2.mono (by decide))).trans (k3.mono (by decide))).trans (k4.mono (by decide)), ⟨?_, ?_, ?_, ?_, ?_⟩, ⟨?_, ?_, ?_, ?_, ?_⟩⟩ <;> intro i hi
  · rw [k4 18 (by decide), ha, if_pos hi]
  · rw [k4 19 (by decide), hc, if_pos hi]
  · rw [k4 20 (by decide), hd, if_pos hi]
  · rw [k4 21 (by decide), k3 21 (by decide), hd0, if_pos hi]
  · rw [hs, if_pos hi]
  · rw [k4 18 (by decide), ha, if_neg hi, k2 18 (by decide), k1 18 (by decide)]
  · rw [k4 19 (by decide), hc, if_neg hi, k2 19 (by decide), k1 19 (by decide)]
  · rw [k4 20 (by decide), hd, if_neg hi, k2 20 (by decide), k1 20 (by decide)]
  · rw [k4 21 (by decide), k3 21 (by decide), hd0, if_neg hi, k1 21 (by decide)]
  · rw [hs, if_neg hi, k3 22 (by decide), k2 22 (by decide), k1 22 (by decide)]

end Cert.Kernel
-- ==== Proof.K.Steps.lean ====
module

public import proofs.«01_k».proof.Proof.K.Batch

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] {c : Dev nD}

/-! ## The scales spread along the lanes -/

theorem spread_val (v : FVec F S1x128 .f32) (y : S1x128x128.Idx) :
    shapeCast S1x128x128 (transpose S128x128 [1, 0] (broadcastTo S128x128 (shapeCast S1x128 v shapeCasts_S1x128_S1x128) broadcasts_S1x128_S128x128) transposes_S128x128_p1_0_S128x128 : FVec F S128x128 .f32) shapeCasts_S128x128_S1x128x128 y
      = v (n2 0 (y 1).val) := by
  have hy1 : (y 1).val < 128 := (y 1).isLt
  have hy2 : (y 2).val < 128 := (y 2).isLt
  rw [shapeCast_self, addU]
  refine (transpose_apply _ _ _ _ (n2 (y 2).val (y 1).val : S128x128.Idx) ?_).trans (broadcastTo_apply _ _ _ _ ?_)
  · intro a
    match a with
    | ⟨0, _⟩ => exact (n2_1 hy1).trans (n2_0 hy1).symm
    | ⟨1, _⟩ => exact (n2_0 hy2).trans (n2_1 hy2).symm
  · intro a
    match a with
    | ⟨0, _⟩ => rfl
    | ⟨1, _⟩ => rfl

theorem spreadDys_T (b : Fin 2) (σ : Mem F) : T c Finset.univ IS (spread mDys mDysL b) σ (fun _ σ' => Keep [7] σ σ'
    ∧ (∀ i : S2x128x128.Idx, σ' 7 i = if (i 0).val = b.val then σ 3 (n2 (A := 2) (B := 128) (i 0) (i 1)) else σ 7 i)) := by
  unfold spread
  refine T_ld 3 (fun x : S1x128.Idx => σ 3 (n2 (A := 2) (B := 128) b.val (x 1).val)) (Finset.mem_univ _) (fun x => Finset.mem_univ _) ?_ ?_
  · intro x
    have hx : (x 0).val < 1 := (x 0).isLt
    refine congrArg (σ 3) (eq_n2 ?_ ?_)
    · show b.val + 1 * (x 0).val = _; omega
    · show 0 + 1 * (x 1).val = _; omega
  refine T_sk 7 (Finset.mem_univ _) (fun x => Finset.mem_univ _) fun _ => ?_
  refine T_stE 7 (Finset.mem_univ _) (fun x => Finset.mem_univ _) fun σ1 k1 e1 => ⟨k1, fun i => ?_⟩
  have hi1' : (i 1).val < 128 := (i 1).isLt
  have hi2' : (i 2).val < 128 := (i 2).isLt
  rw [e1]
  refine st3 _ _ _ i (fun v => v = if (i 0).val = b.val then σ 3 (n2 (A := 2) (B := 128) (i 0) (i 1)) else σ 7 i) b.val 1 0 128 0 128 ⟨rfl, rfl⟩ ⟨rfl, rfl⟩ ⟨rfl, rfl⟩ (fun _ => rfl) ?_ ?_
  · intro y hi0 hi1 hi2
    have hy0 : (y 0).val < 1 := (y 0).isLt
    have hy1 : (y 1).val < 128 := (y 1).isLt
    rw [if_pos (by omega)]
    refine (spread_val _ y).trans ?_
    rw [show (i 0).val = b.val by omega, show (i 1).val = (y 1).val by omega]
    exact congrArg (fun z => σ 3 (n2 (A := 2) (B := 128) b.val z)) (n2_1 hy1)
  · intro hm
    rw [if_neg (by omega)]
theorem spreadPres_T (b : Fin 2) (σ : Mem F) : T c Finset.univ IS (spread mPres mPresL b) σ (fun _ σ' => Keep [8] σ σ'
    ∧ (∀ i : S2x128x128.Idx, σ' 8 i = if (i 0).val = b.val then σ 4 (n2 (A := 2) (B := 128) (i 0) (i 1)) else σ 8 i)) := by
  unfold spread
  refine T_ld 4 (fun x : S1x128.Idx => σ 4 (n2 (A := 2) (B := 128) b.val (x 1).val)) (Finset.mem_univ _) (fun x => Finset.mem_univ _) ?_ ?_
  · intro x
    have hx : (x 0).val < 1 := (x 0).isLt
    refine congrArg (σ 4) (eq_n2 ?_ ?_)
    · show b.val + 1 * (x 0).val = _; omega
    · show 0 + 1 * (x 1).val = _; omega
  refine T_sk 8 (Finset.mem_univ _) (fun x => Finset.mem_univ _) fun _ => ?_
  refine T_stE 8 (Finset.mem_univ _) (fun x => Finset.mem_univ _) fun σ1 k1 e1 => ⟨k1, fun i => ?_⟩
  have hi1' : (i 1).val < 128 := (i 1).isLt
  have hi2' : (i 2).val < 128 := (i 2).isLt
  rw [e1]
  refine st3 _ _ _ i (fun v => v = if (i 0).val = b.val then σ 4 (n2 (A := 2) (B := 128) (i 0) (i 1)) else σ 8 i) b.val 1 0 128 0 128 ⟨rfl, rfl⟩ ⟨rfl, rfl⟩ ⟨rfl, rfl⟩ (fun _ => rfl) ?_ ?_
  · intro y hi0 hi1 hi2
    have hy0 : (y 0).val < 1 := (y 0).isLt
    have hy1 : (y 1).val < 128 := (y 1).isLt
    rw [if_pos (by omega)]
    refine (spread_val _ y).trans ?_
    rw [show (i 0).val = b.val by omega, show (i 1).val = (y 1).val by omega]
    exact congrArg (fun z => σ 4 (n2 (A := 2) (B := 128) b.val z)) (n2_1 hy1)
  · intro hm
    rw [if_neg (by omega)]

theorem spreads_T (σ : Mem F) : T c Finset.univ IS spreads σ (fun _ σ' => Keep [7, 8] σ σ'
    ∧ (∀ i : S2x128x128.Idx, σ' 7 i = σ 3 (n2 (A := 2) (B := 128) (i 0) (i 1))) ∧ (∀ i : S2x128x128.Idx, σ' 8 i = σ 4 (n2 (A := 2) (B := 128) (i 0) (i 1)))) := by
  unfold spreads
  refine T_bind (spreadDys_T 0 σ) fun _ σ1 h1 => ?_
  obtain ⟨k1, h1⟩ := h1
  refine T_bind (spreadPres_T 0 σ1) fun _ σ2 h2 => ?_
  obtain ⟨k2, h2⟩ := h2
  refine T_bind (spreadDys_T 1 σ2) fun _ σ3 h3 => ?_
  obtain ⟨k3, h3⟩ := h3
  refine T_mono (spreadPres_T 1 σ3) ?_
  rintro - σ4 ⟨k4, h4⟩
  refine ⟨(((k1.mono (by decide)).trans (k2.mono (by decide))).trans (k3.mono (by decide))).trans (k4.mono (by decide)), fun i => ?_, fun i => ?_⟩
  · have hi0' : (i 0).val < 2 := (i 0).isLt
    rw [k4 7 (by decide), h3, k2 3 (by decide), k1 3 (by decide), k2 7 (by decide), h1]
    split
    · rfl
    · rw [if_pos (by rename_i hn; have : (i 0).val ≠ 1 := hn; show (i 0).val = 0; omega)]
  · have hi0' : (i 0).val < 2 := (i 0).isLt
    rw [h4, k3 4 (by decide), k2 4 (by decide), k1 4 (by decide), k3 8 (by decide), h2, k1 4 (by decide)]
    split
    · rfl
    · rw [if_pos (by rename_i hn; have : (i 0).val ≠ 1 := hn; show (i 0).val = 0; omega)]

/-! ## A block of the product -/

theorem stage_val {α : Type} (v : S128x128.Idx → α) (y : S1x1x128x128.Idx) : shapeCast S1x1x128x128 v shapeCasts_S128x128_S1x1x128x128 y = v (n2 (y 2).val (y 3).val) := by
  have hy0 : (y 0).val < 1 := (y 0).isLt
  have hy1 : (y 1).val < 1 := (y 1).isLt
  have hy2 : (y 2).val < 128 := (y 2).isLt
  have hy3 : (y 3).val < 128 := (y 3).isLt
  refine shapeCast_apply _ _ y _ ?_
  rw [Shape.rowMajor_val_two, Shape.rowMajor_val_four, n2_0 hy2, n2_1 hy3]
  show (y 2).val * 128 + (y 3).val = (((y 0).val * 1 + (y 1).val) * 128 + (y 2).val) * 128 + (y 3).val
  omega

theorem dx_T (X : Inp F) (n : Fin 10) (σ : Mem F) (h18 : σ 18 = AV X) (h20 : σ 20 = vDsc X) (h2 : σ 2 = vW X) : T c Finset.univ (ID n) (dxBlock n) σ
    (fun _ σ' => Keep [23] σ σ' ∧ ∀ i ∈ SB n, σ' 23 i = vSt X i) := by
  have hn := n.isLt
  unfold dxBlock
  refine T_ld 18 (AV X) (Finset.mem_univ _) (fun x => Finset.mem_univ _) ?_ ?_
  · intro x
    rw [h18]
    refine congrArg (AV X) (funext fun a => Fin.ext ?_)
    match a with
    | ⟨0, _⟩ => show 0 + 1 * (x 0).val = _; exact (Nat.zero_add _).trans (Nat.one_mul _)
    | ⟨1, _⟩ => show 0 + 1 * (x 1).val = _; exact (Nat.zero_add _).trans (Nat.one_mul _)
  refine T_ld 2 (fun x : S1x7168x512.Idx => X.w (n2 (x 1).val (512 * n.val + (x 2).val))) (Finset.mem_univ _) ?_ ?_ ?_
  · intro x
    have hx : (x 0).val < 1 := (x 0).isLt
    exact (mem_wd n _).mpr (by show n.val + 1 * (x 0).val = _; omega)
  · intro x
    have hx : (x 0).val < 1 := (x 0).isLt
    have a0 : (((rWd n).toLoadRect.idx x) 0).val = n.val := by show n.val + 1 * (x 0).val = _; omega
    have a1 : (((rWd n).toLoadRect.idx x) 1).val = (x 1).val := by show 0 + 1 * (x 1).val = _; omega
    have a2 : (((rWd n).toLoadRect.idx x) 2).val = (x 2).val := by show 0 + 1 * (x 2).val = _; omega
    rw [h2]; unfold vW; rw [a0, a1, a2]
  have hw : (shapeCast S7168x512 (fun x : S1x7168x512.Idx => X.w (n2 (x 1).val (512 * n.val + (x 2).val))) shapeCasts_S1x7168x512_S7168x512 : FVec F S7168x512 .fp8e4m3) = WB X n :=
    funext fun y => dropF (fun a d => X.w (n2 a (512 * n.val + d))) _ y
  rw [hw]
  refine T_bind (T_runF 2 _ (fun b _ σ' => Keep [23] σ σ' ∧ ∀ i : S10x2x128x512.Idx, (i 0).val = n.val → (i 1).val < b → σ' 23 i = vSt X i) ?_ _ _ ?_) fun _ σ1 h1 => ?_
  · rintro b hb - σ1 ⟨k1, h1⟩
    refine T_ld 20 (fun x : S1x128x128.Idx => SC X b (x 1).val) (Finset.mem_univ _) (fun x => Finset.mem_univ _) ?_ ?_
    · intro x
      have hx : (x 0).val < 1 := (x 0).isLt
      have a0 : (((rB ⟨b, hb⟩).toLoadRect.idx x) 0).val = b := by show b + 1 * (x 0).val = _; omega
      have a1 : (((rB ⟨b, hb⟩).toLoadRect.idx x) 1).val = (x 1).val := by show 0 + 1 * (x 1).val = _; omega
      rw [k1 20 (by decide), h20]; unfold vDsc; rw [a0, a1]
    refine T_mono (T_runF 4 _ (fun j _ σ' => Keep [23] σ σ' ∧ ∀ i : S10x2x128x512.Idx, (i 0).val = n.val → ((i 1).val < b ∨ (i 1).val = b ∧ (i 3).val / 128 < j) → σ' 23 i = vSt X i) ?_ _ _ ?_) ?_
    · rintro j hj - σ2 ⟨k2, h2⟩
      unfold dxTile
      have hm : ∀ x : S1x1x128x128.Idx, (rTl ⟨b, hb⟩ n ⟨j, hj⟩).toLoadRect.idx x ∈ ID n 23 := by
        intro x
        have hx : (x 0).val < 1 := (x 0).isLt
        exact (mem_SB n _).mpr (by show n.val + 1 * (x 0).val = _; omega)
      refine T_sk 23 (Finset.mem_univ _) hm fun _ => ?_
      refine T_stE 23 (Finset.mem_univ _) hm fun σ3 k3 e3 => ⟨k2.trans k3, fun i hin hi => ?_⟩
      have hi2' : (i 2).val < 128 := (i 2).isLt
      have hi3' : (i 3).val < 512 := (i 3).isLt
      rw [e3]
      refine st_ind _ _ _ i (fun v => v = vSt X i) (fun _ => Nat.one_pos) ?_ ?_
      · intro y hy
        have e0 : (i 0).val = n.val + 1 * (y 0).val := hy 0
        have e1 : (i 1).val = b + 1 * (y 1).val := hy 1
        have e2 : (i 2).val = 0 + 1 * (y 2).val := hy 2
        have e3 : (i 3).val = 128 * j + 1 * (y 3).val := hy 3
        have hy1 : (y 1).val < 1 := (y 1).isLt
        have hy2 : (y 2).val < 128 := (y 2).isLt
        have hy3 : (y 3).val < 128 := (y 3).isLt
        rw [stage_val]
        unfold vSt DX
        rw [e0, show (n.val + 1 * (y 0).val) = n.val by omega, show (i 1).val = b by omega, show (i 2).val = (y 2).val by omega, show (i 3).val = 128 * j + (y 3).val by omega,
          show (512 * n.val + (128 * j + (y 3).val)) / 512 = n.val by omega, show (512 * n.val + (128 * j + (y 3).val)) % 512 = 128 * j + (y 3).val by omega]
        refine congrArg (FloatOps.truncf .bf16 bitsLt_bf16_f32) (congrArg₂ FloatOps.mulf ?_ ?_)
        · refine (extractStridedSlice_apply _ _ _ _ (n2 (128 * b + (y 2).val) (128 * j + (y 3).val) : S256x512.Idx) ?_).trans rfl
          intro a
          match a with
          | ⟨0, _⟩ => refine (n2_0 (by omega)).trans ?_; exact congrArg (128 * b + ·) (n2_0 hy2).symm
          | ⟨1, _⟩ => refine (n2_1 (by omega)).trans ?_; exact congrArg (128 * j + ·) (n2_1 hy3).symm
        · refine (dropF (fun t _ => SC X b t) _ _).trans ?_
          exact congrArg (SC X b) (n2_0 hy2)
      · intro hm
        refine h2 i hin ?_
        by_contra hc
        refine hm fun a => ?_
        match a with
        | ⟨0, _⟩ => exact ⟨by show n.val ≤ (i 0).val; omega, Nat.mod_one _, by show ((i 0).val - n.val) / 1 < 1; omega⟩
        | ⟨1, _⟩ => exact ⟨by show b ≤ (i 1).val; omega, Nat.mod_one _, by show ((i 1).val - b) / 1 < 1; omega⟩
        | ⟨2, _⟩ => exact ⟨by show 0 ≤ (i 2).val; omega, Nat.mod_one _, by show ((i 2).val - 0) / 1 < 128; omega⟩
        | ⟨3, _⟩ => exact ⟨by show 128 * j ≤ (i 3).val; omega, Nat.mod_one _, by show ((i 3).val - 128 * j) / 1 < 128; omega⟩
    · exact ⟨k1, fun i hin hi => h1 i hin (by omega)⟩
    · rintro - σ2 ⟨k2, h2⟩
      exact ⟨k2, fun i hin hi => h2 i hin (by have : (i 3).val < 512 := (i 3).isLt; omega)⟩
  · exact ⟨Keep.refl _ _, fun i _ hi => by omega⟩
  exact T_pure ⟨h1.1, fun i hi => h1.2 i ((mem_SB n i).mp hi) (i 1).isLt⟩

end Cert.Kernel
-- ==== Proof.K.Sets.lean ====
module

public import proofs.«01_k».proof.Proof.K.Steps

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] {c : Dev nD}

/-! ## Blocks -/

theorem pt_union {b : Ref sig .tc} {S T U : Finset b.ty.shape.Idx} (h : Disjoint S T) (hU : U = S ∪ T) (f : b.ty.Contents (Elt F)) :
    pt c b U f = iprop(pt c b S f ∗ pt c b T f) := by
  subst hU
  have e := pointsTo_union (Ix := Unit) (Val := Elt F) (Name := ℕ) (U := UU) (Lvl := ℕ) (ℓ := (c : Thread nD τ).loc b) (q := fullShare) (f := f) h
  exact BI.equiv_iff.mp ⟨e.1, e.2⟩

/-- A block of the first result. -/
def DB (n : Fin 10) : Finset S2x128x5120.Idx := (rDx 0 n).set ∪ (rDx 1 n).set
theorem mem_DB (n : Fin 10) (y : S2x128x5120.Idx) : y ∈ DB n ↔ (y 2).val / 512 = n.val := by
  have h1 : (y 0).val < 2 := (y 0).isLt
  unfold DB
  rw [Finset.mem_union, mem_dx, mem_dx]
  simp only [Fin.val_zero, Fin.val_one]; omega

theorem cover_of {s : Shape} {n : ℕ} (S : Fin n → Finset s.Idx) (k : s.Idx → ℕ) (hk : ∀ y, k y < n) (h : ∀ b y, y ∈ S b ↔ k y = b.val) :
    (∀ b b' : Fin n, b ≠ b' → Disjoint (S b) (S b')) ∧ (Finset.univ : Finset (Fin n)).biUnion S = Finset.univ := by
  constructor
  · intro b b' hne; rw [Finset.disjoint_left]; intro y hy hy'; rw [h] at hy hy'; exact hne (Fin.ext (hy.symm.trans hy'))
  · ext y; simp only [Finset.mem_biUnion, Finset.mem_univ, true_and, iff_true]; exact ⟨⟨k y, hk y⟩, (h _ _).mpr rfl⟩

theorem pt_two {b : Ref sig .tc} (S : Fin 2 → Finset b.ty.shape.Idx) (k : b.ty.shape.Idx → ℕ) (hk : ∀ y, k y < 2) (h : ∀ b y, y ∈ S b ↔ k y = b.val)
    (f : b.ty.Contents (Elt F)) : pt c b Finset.univ f = iprop(pt c b (S 0) f ∗ pt c b (S 1) f) := by
  refine pt_union ((cover_of S k hk h).1 0 1 (by decide)) ?_ f
  ext y; have := hk y
  rw [Finset.mem_union, h, h]; simp only [Finset.mem_univ, Fin.val_zero, Fin.val_one, true_iff]; omega
theorem pt_blocks {b : Ref sig .tc} {n : ℕ} (S : Fin n → Finset b.ty.shape.Idx) (k : b.ty.shape.Idx → ℕ) (hk : ∀ y, k y < n) (h : ∀ b y, y ∈ S b ↔ k y = b.val)
    (f : b.ty.Contents (Elt F)) : pt c b Finset.univ f = bigSep Finset.univ fun i => pt c b (S i) f :=
  Ring.pointsTo_blocks (ℓ := (c : Thread nD τ).loc b) S (cover_of S k hk h).1 (cover_of S k hk h).2 f

theorem prec_two (f : S2x128x7168.Idx → F .fp8e4m3) : pt c (bref 1) Finset.univ f = iprop(pt c (bref 1) (rPre 0).set f ∗ pt c (bref 1) (rPre 1).set f) :=
  pt_two (b := bref 1) (fun b => (rPre b).set) (fun y : S2x128x7168.Idx => (y 0).val) (fun y : S2x128x7168.Idx => (y 0).isLt) mem_pre f
theorem aprec_two (f : S2x128x7168.Idx → F .fp8e4m3) : pt c main_arg2 Finset.univ f = iprop(pt c main_arg2 (rPre 0).set f ∗ pt c main_arg2 (rPre 1).set f) :=
  pt_two (b := main_arg2) (fun b => (rPre b).set) (fun y : S2x128x7168.Idx => (y 0).val) (fun y : S2x128x7168.Idx => (y 0).isLt) mem_pre f
theorem dyc_two (f : S2x128x3584.Idx → F .fp8e5m2) : pt c (bref 0) Finset.univ f = iprop(pt c (bref 0) (rDy 0).set f ∗ pt c (bref 0) (rDy 1).set f) :=
  pt_two (b := bref 0) (fun b => (rDy b).set) (fun y : S2x128x3584.Idx => (y 0).val) (fun y : S2x128x3584.Idx => (y 0).isLt) mem_dy f
theorem adyc_two (f : S2x128x3584.Idx → F .fp8e5m2) : pt c main_arg0 Finset.univ f = iprop(pt c main_arg0 (rDy 0).set f ∗ pt c main_arg0 (rDy 1).set f) :=
  pt_two (b := main_arg0) (fun b => (rDy b).set) (fun y : S2x128x3584.Idx => (y 0).val) (fun y : S2x128x3584.Idx => (y 0).isLt) mem_dy f
theorem w_ten (f : S10x7168x512.Idx → F .fp8e4m3) : pt c (bref 2) Finset.univ f = bigSep Finset.univ fun n => pt c (bref 2) (rWd n).set f :=
  pt_blocks (b := bref 2) (fun n => (rWd n).set) (fun y : S10x7168x512.Idx => (y 0).val) (fun y : S10x7168x512.Idx => (y 0).isLt) mem_wd f
theorem aw_ten (f : S7168x5120.Idx → F .fp8e4m3) : pt c main_arg5 Finset.univ f = bigSep Finset.univ fun n => pt c main_arg5 (rWs n).set f :=
  pt_blocks (b := main_arg5) (fun n => (rWs n).set) (fun y : S7168x5120.Idx => (y 1).val / 512) (fun y : S7168x5120.Idx => by have : (y 1).val < 5120 := (y 1).isLt; omega) mem_ws f
theorem st_ten (f : S10x2x128x512.Idx → F .bf16) : pt c (bref 23) Finset.univ f = bigSep Finset.univ fun n => pt c (bref 23) (SB n) f :=
  pt_blocks (b := bref 23) SB (fun y : S10x2x128x512.Idx => (y 0).val) (fun y : S10x2x128x512.Idx => (y 0).isLt) mem_SB f
theorem dx_ten (f : S2x128x5120.Idx → F .bf16) : pt c main_v1_0 Finset.univ f = bigSep Finset.univ fun n => pt c main_v1_0 (DB n) f :=
  pt_blocks (b := main_v1_0) DB (fun y : S2x128x5120.Idx => (y 2).val / 512) (fun y : S2x128x5120.Idx => by have : (y 2).val < 5120 := (y 2).isLt; omega) mem_DB f
theorem sb_two (n : Fin 10) (f : S10x2x128x512.Idx → F .bf16) : pt c (bref 23) (SB n) f = iprop(pt c (bref 23) (rSt 0 n).set f ∗ pt c (bref 23) (rSt 1 n).set f) := by
  refine pt_union (b := bref 23) ?_ rfl f
  rw [Finset.disjoint_left]; intro y hy hy'
  have h := ((mem_st 0 n y).mp hy).2; have h' := ((mem_st 1 n y).mp hy').2
  rw [h] at h'; exact absurd h' (by decide)
theorem db_two (n : Fin 10) (f : S2x128x5120.Idx → F .bf16) : pt c main_v1_0 (DB n) f = iprop(pt c main_v1_0 (rDx 0 n).set f ∗ pt c main_v1_0 (rDx 1 n).set f) := by
  refine pt_union (b := main_v1_0) ?_ rfl f
  rw [Finset.disjoint_left]; intro y hy hy'
  have h := ((mem_dx 0 n y).mp hy).1; have h' := ((mem_dx 1 n y).mp hy').1
  rw [h] at h'; exact absurd h' (by decide)

/-! ## The kernel's copies -/

variable (X : Inp F)

theorem pre_go (b : Fin 2) (f : S2x128x7168.Idx → F .fp8e4m3) (Q : PUnit → sProp (MM F)) :
    iprop(pt c main_arg2 (rPre b).set X.prec ∗ pt c (bref 1) (rPre b).set f ∗ sv c (semIn b 0)
      ∗ (Fl c (semIn b 0) (dPre b).view.dmaCredit iprop(pt c (bref 1) (rPre b).set X.prec ∗ pt c main_arg2 (rPre b).set X.prec) -∗ Q ⟨⟩))
      ⊢ WP c (go (sPre b) (dPre b) (semIn b 0) (wsPre b) (wdPre b) ⟨Or.inl rfl, trivial⟩) Q :=
  go_spec c (sPre b) (dPre b) _ _ _ _ (by decide) _ ((View.set_reshape _ _).trans (View.set_slice_whole _ _)) _ ((View.set_reshape _ _).trans (View.set_slice_whole _ _)) X.prec f X.prec (fun x => rfl) Q
theorem dy_go (b : Fin 2) (f : S2x128x3584.Idx → F .fp8e5m2) (Q : PUnit → sProp (MM F)) :
    iprop(pt c main_arg0 (rDy b).set X.dyc ∗ pt c (bref 0) (rDy b).set f ∗ sv c (semIn b 1)
      ∗ (Fl c (semIn b 1) (dDy b).view.dmaCredit iprop(pt c (bref 0) (rDy b).set X.dyc ∗ pt c main_arg0 (rDy b).set X.dyc) -∗ Q ⟨⟩))
      ⊢ WP c (go (sDy b) (dDy b) (semIn b 1) (wsDy b) (wdDy b) ⟨Or.inl rfl, trivial⟩) Q :=
  go_spec c (sDy b) (dDy b) _ _ _ _ (by decide) _ ((View.set_reshape _ _).trans (View.set_slice_whole _ _)) _ ((View.set_reshape _ _).trans (View.set_slice_whole _ _)) X.dyc f X.dyc (fun x => rfl) Q

theorem dW_emb (n : Fin 10) (x : S7168x512.Idx) : vW X ((dW n).view.emb x) = X.w ((sW n).view.emb x) := by
  have e : (dW n).view.emb x = (rWd n).emb (Shape.reshapeEquiv squeezes_S1x7168x512_S7168x512.numel_eq x) := rfl
  have e' : Shape.reshapeEquiv squeezes_S1x7168x512_S7168x512.numel_eq x = (Fin.cons (⟨0, Nat.one_pos⟩ : Fin 1) x : S1x7168x512.Idx) := shapeCast_dropUnit_apply ![7168, 512] (fun y => y) squeezes_S1x7168x512_S7168x512.numel_eq.symm x
  rw [e, e']
  unfold vW
  refine congrArg X.w (eq_n2 ?_ ?_).symm
  · show 0 + 1 * (x 0).val = 0 + 1 * (x 0).val; rfl
  · show 512 * n.val + 1 * (x 1).val = 512 * (n.val + 1 * 0) + (0 + 1 * (x 1).val); omega

theorem w_go (n : Fin 10) (f : S10x7168x512.Idx → F .fp8e4m3) (Q : PUnit → sProp (MM F)) :
    iprop(pt c main_arg5 (rWs n).set X.w ∗ pt c (bref 2) (rWd n).set f ∗ sv c (semW n)
      ∗ (Fl c (semW n) (dW n).view.dmaCredit iprop(pt c (bref 2) (rWd n).set (vW X) ∗ pt c main_arg5 (rWs n).set X.w) -∗ Q ⟨⟩))
      ⊢ WP c (go (sW n) (dW n) (semW n) (wsW n) (wdW n) ⟨Or.inl rfl, trivial⟩) Q :=
  go_spec c (sW n) (dW n) _ _ _ _ (by decide) _ (View.set_slice_whole _ _) _ ((View.set_reshape _ _).trans (View.set_slice_whole _ _)) X.w f (vW X) (fun x => dW_emb X n x) Q

theorem squeeze2 (h : S128x512.numel = S1x1x128x512.numel) (x : S128x512.Idx) :
    Shape.reshapeEquiv h x = (Fin.cons (⟨0, Nat.one_pos⟩ : Fin 1) (Fin.cons (⟨0, Nat.one_pos⟩ : Fin 1) x : S1x128x512.Idx) : S1x1x128x512.Idx) := by
  have e1 := shapeCast_dropUnit_apply ![1, 128, 512] (fun y => y) (by decide) (Fin.cons (⟨0, Nat.one_pos⟩ : Fin 1) x : S1x128x512.Idx)
  have e2 := shapeCast_dropUnit_apply ![128, 512] (shapeCast S1x128x512 (fun y : S1x1x128x512.Idx => y) (by decide)) (by decide) x
  exact (Shape.reshapeEquiv_reshapeEquiv _ _ x).symm.trans (e2.trans e1)

theorem dDx_emb (b : Fin 2) (n : Fin 10) (x : S128x512.Idx) : vDx X ((dDx b n).view.emb x) = vSt X ((sSt b n).view.emb x) := by
  have e : (dDx b n).view.emb x = (rDx b n).emb (Shape.reshapeEquiv squeezes_S1x128x512_S128x512.numel_eq x) := rfl
  have e' : Shape.reshapeEquiv squeezes_S1x128x512_S128x512.numel_eq x = (Fin.cons (⟨0, Nat.one_pos⟩ : Fin 1) x : S1x128x512.Idx) :=
    shapeCast_dropUnit_apply ![128, 512] (fun y => y) squeezes_S1x128x512_S128x512.numel_eq.symm x
  have g : (sSt b n).view.emb x = (rSt b n).emb (Shape.reshapeEquiv squeezes_S1x1x128x512_S128x512.numel_eq x) := rfl
  rw [e, e', g, squeeze2]
  unfold vDx vSt
  show DX X (b.val + 1 * 0) (0 + 1 * (x 0).val) (512 * n.val + 1 * (x 1).val) = DX X (b.val + 1 * 0) (0 + 1 * (x 0).val) (512 * (n.val + 1 * 0) + (0 + 1 * (x 1).val))
  rw [show 512 * (n.val + 1 * 0) + (0 + 1 * (x 1).val) = 512 * n.val + 1 * (x 1).val by omega]
theorem dx_go (b : Fin 2) (n : Fin 10) (f : S2x128x5120.Idx → F .bf16) (Q : PUnit → sProp (MM F)) :
    iprop(pt c (bref 23) (rSt b n).set (vSt X) ∗ pt c main_v1_0 (rDx b n).set f ∗ sv c (semSt b n)
      ∗ (Fl c (semSt b n) (dDx b n).view.dmaCredit iprop(pt c main_v1_0 (rDx b n).set (vDx X) ∗ pt c (bref 23) (rSt b n).set (vSt X)) -∗ Q ⟨⟩))
      ⊢ WP c (go (sSt b n) (dDx b n) (semSt b n) (wsSt b n) (wdDx b n) ⟨Or.inl rfl, trivial⟩) Q :=
  go_spec c (sSt b n) (dDx b n) _ _ _ _ (by decide) _ ((View.set_reshape _ _).trans (View.set_slice_whole _ _)) _ ((View.set_reshape _ _).trans (View.set_slice_whole _ _))
    (vSt X) f (vDx X) (fun x => dDx_emb X b n x) Q

/-- A whole buffer copied to another. -/
theorem all_go {sp sp' : Space} {s : Shape} {e : EltTy} (src : Memref sig .tc sp s e) (dst : Memref sig .tc sp' s e) (sem : DmaSem sig) (hs hd hx) (hn : 0 < s.numel)
    (h : src.view.set = Finset.univ) (h' : dst.view.set = Finset.univ) (fs : Buf (Elt F) (src.view.loc (c : Thread nD τ))) (fd v : Buf (Elt F) (dst.view.loc (c : Thread nD τ)))
    (hv : ∀ x, v (dst.view.emb x) = _root_.cast (congrArg (Elt F) dst.view.elt_eq.symm) (src.view.read (Elt F) fs x)) (Q : PUnit → sProp (MM F)) :
    iprop((src.view.loc (c : Thread nD τ) ↦[Finset.univ]{fullShare} fs) ∗ (dst.view.loc (c : Thread nD τ) ↦[Finset.univ]{fullShare} fd) ∗ sv c sem
      ∗ (Fl c sem dst.view.dmaCredit iprop((dst.view.loc (c : Thread nD τ) ↦[Finset.univ]{fullShare} v) ∗ (src.view.loc (c : Thread nD τ) ↦[Finset.univ]{fullShare} fs)) -∗ Q ⟨⟩))
      ⊢ WP c (go src dst sem hs hd hx) Q := go_spec c src dst sem hs hd hx hn _ h _ h' fs fd v hv Q

end Cert.Kernel
-- ==== Proof.K.Parts.lean ====
module

public import proofs.«01_k».proof.Proof.K.Sets

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] {c : Dev nD}

/-! ## The memory as a whole -/

/-- The contents of every buffer. -/
def mk (f0 : (bref 0).ty.Contents (Elt F))
    (f1 : (bref 1).ty.Contents (Elt F))
    (f2 : (bref 2).ty.Contents (Elt F))
    (f3 : (bref 3).ty.Contents (Elt F))
    (f4 : (bref 4).ty.Contents (Elt F))
    (f5 : (bref 5).ty.Contents (Elt F))
    (f6 : (bref 6).ty.Contents (Elt F))
    (f7 : (bref 7).ty.Contents (Elt F))
    (f8 : (bref 8).ty.Contents (Elt F))
    (f9 : (bref 9).ty.Contents (Elt F))
    (f10 : (bref 10).ty.Contents (Elt F))
    (f11 : (bref 11).ty.Contents (Elt F))
    (f12 : (bref 12).ty.Contents (Elt F))
    (f13 : (bref 13).ty.Contents (Elt F))
    (f14 : (bref 14).ty.Contents (Elt F))
    (f15 : (bref 15).ty.Contents (Elt F))
    (f16 : (bref 16).ty.Contents (Elt F))
    (f17 : (bref 17).ty.Contents (Elt F))
    (f18 : (bref 18).ty.Contents (Elt F))
    (f19 : (bref 19).ty.Contents (Elt F))
    (f20 : (bref 20).ty.Contents (Elt F))
    (f21 : (bref 21).ty.Contents (Elt F))
    (f22 : (bref 22).ty.Contents (Elt F))
    (f23 : (bref 23).ty.Contents (Elt F)) : Mem F
  | ⟨0, _⟩ => f0
  | ⟨1, _⟩ => f1
  | ⟨2, _⟩ => f2
  | ⟨3, _⟩ => f3
  | ⟨4, _⟩ => f4
  | ⟨5, _⟩ => f5
  | ⟨6, _⟩ => f6
  | ⟨7, _⟩ => f7
  | ⟨8, _⟩ => f8
  | ⟨9, _⟩ => f9
  | ⟨10, _⟩ => f10
  | ⟨11, _⟩ => f11
  | ⟨12, _⟩ => f12
  | ⟨13, _⟩ => f13
  | ⟨14, _⟩ => f14
  | ⟨15, _⟩ => f15
  | ⟨16, _⟩ => f16
  | ⟨17, _⟩ => f17
  | ⟨18, _⟩ => f18
  | ⟨19, _⟩ => f19
  | ⟨20, _⟩ => f20
  | ⟨21, _⟩ => f21
  | ⟨22, _⟩ => f22
  | ⟨23, _⟩ => f23
  | ⟨_ + 24, h⟩ => absurd h (by omega)

theorem Held_eq (I : Own) (σ : Mem F) : Held c Finset.univ I σ = iprop(pt c (bref 0) (I 0) (σ 0) ∗ pt c (bref 1) (I 1) (σ 1) ∗ pt c (bref 2) (I 2) (σ 2) ∗ pt c (bref 3) (I 3) (σ 3) ∗ pt c (bref 4) (I 4) (σ 4) ∗ pt c (bref 5) (I 5) (σ 5) ∗ pt c (bref 6) (I 6) (σ 6) ∗ pt c (bref 7) (I 7) (σ 7) ∗ pt c (bref 8) (I 8) (σ 8) ∗ pt c (bref 9) (I 9) (σ 9) ∗ pt c (bref 10) (I 10) (σ 10) ∗ pt c (bref 11) (I 11) (σ 11) ∗ pt c (bref 12) (I 12) (σ 12) ∗ pt c (bref 13) (I 13) (σ 13) ∗ pt c (bref 14) (I 14) (σ 14) ∗ pt c (bref 15) (I 15) (σ 15) ∗ pt c (bref 16) (I 16) (σ 16) ∗ pt c (bref 17) (I 17) (σ 17) ∗ pt c (bref 18) (I 18) (σ 18) ∗ pt c (bref 19) (I 19) (σ 19) ∗ pt c (bref 20) (I 20) (σ 20) ∗ pt c (bref 21) (I 21) (σ 21) ∗ pt c (bref 22) (I 22) (σ 22) ∗ pt c (bref 23) (I 23) (σ 23)) := by
  unfold Held
  rw [bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide)]
  rfl

theorem pt_none {b : Ref sig .tc} (f : b.ty.Contents (Elt F)) : pt c b ∅ f = iprop(emp) := pointsTo_empty

variable (c) (X : Inp F)

/-- The arguments, -/
def ARGS : sProp (MM F) := iprop(pt c main_arg0 Finset.univ X.dyc ∗ pt c main_arg1 Finset.univ X.dys ∗ pt c main_arg2 Finset.univ X.prec ∗ pt c main_arg3 Finset.univ X.pres
  ∗ pt c main_arg4 Finset.univ X.h0 ∗ pt c main_arg5 Finset.univ X.w ∗ pt c main_v0 Finset.univ X.ws)
/-- the results before -/
def OUT0 : sProp (MM F) := iprop((∃ f, pt c main_v1_0 Finset.univ f) ∗ (∃ f, pt c main_v1_1 Finset.univ f) ∗ (∃ f, pt c main_v1_2 Finset.univ f) ∗ (∃ f, pt c main_v1_3 Finset.univ f))
/-- and after, -/
def OUT : sProp (MM F) := iprop(pt c main_v1_0 Finset.univ (vDx X) ∗ pt c main_v1_1 Finset.univ (vDh0 X) ∗ pt c main_v1_2 Finset.univ (vCo X) ∗ pt c main_v1_3 Finset.univ (vSc X))
/-- the kernel's buffers -/
def SCR : sProp (MM F) := iprop((∃ f, pt c (bref 0) Finset.univ f) ∗ (∃ f, pt c (bref 1) Finset.univ f) ∗ (∃ f, pt c (bref 2) Finset.univ f) ∗ (∃ f, pt c (bref 3) Finset.univ f) ∗ (∃ f, pt c (bref 4) Finset.univ f) ∗ (∃ f, pt c (bref 5) Finset.univ f) ∗ (∃ f, pt c (bref 6) Finset.univ f) ∗ (∃ f, pt c (bref 7) Finset.univ f) ∗ (∃ f, pt c (bref 8) Finset.univ f) ∗ (∃ f, pt c (bref 9) Finset.univ f) ∗ (∃ f, pt c (bref 10) Finset.univ f) ∗ (∃ f, pt c (bref 11) Finset.univ f) ∗ (∃ f, pt c (bref 12) Finset.univ f) ∗ (∃ f, pt c (bref 13) Finset.univ f) ∗ (∃ f, pt c (bref 14) Finset.univ f) ∗ (∃ f, pt c (bref 15) Finset.univ f) ∗ (∃ f, pt c (bref 16) Finset.univ f) ∗ (∃ f, pt c (bref 17) Finset.univ f) ∗ (∃ f, pt c (bref 18) Finset.univ f) ∗ (∃ f, pt c (bref 19) Finset.univ f) ∗ (∃ f, pt c (bref 20) Finset.univ f) ∗ (∃ f, pt c (bref 21) Finset.univ f) ∗ (∃ f, pt c (bref 22) Finset.univ f) ∗ (∃ f, pt c (bref 23) Finset.univ f))
/-- and its cells. -/
def SEM : sProp (MM F) := iprop((sv c (semIn 0 0) ∗ sv c (semIn 0 1) ∗ sv c (semIn 1 0) ∗ sv c (semIn 1 1)) ∗ (bigSep Finset.univ fun n => sv c (semW n))
  ∗ (sv c (semSmall 0) ∗ sv c (semSmall 1) ∗ sv c (semSmall 2) ∗ sv c (semSmall 3)) ∗ (sv c (semOut 0) ∗ sv c (semOut 1) ∗ sv c (semOut 2))
  ∗ (bigSep Finset.univ fun n => iprop(sv c (semSt 0 n) ∗ sv c (semSt 1 n))))

/-- The small arguments' copies under way -/
def SF : sProp (MM F) := iprop(Fl c (semSmall 0) mDys.view.dmaCredit iprop(pt c (bref 3) Finset.univ X.dys ∗ pt c main_arg1 Finset.univ X.dys) ∗ Fl c (semSmall 1) mPres.view.dmaCredit iprop(pt c (bref 4) Finset.univ X.pres ∗ pt c main_arg3 Finset.univ X.pres) ∗ Fl c (semSmall 2) mH0.view.dmaCredit iprop(pt c (bref 5) Finset.univ X.h0 ∗ pt c main_arg4 Finset.univ X.h0) ∗ Fl c (semSmall 3) mWs.view.dmaCredit iprop(pt c (bref 6) Finset.univ X.ws ∗ pt c main_v0 Finset.univ X.ws))
/-- and the small results'. -/
def OF : sProp (MM F) := iprop(Fl c (semOut 0) oCodes.view.dmaCredit iprop(pt c main_v1_2 Finset.univ (vCo X) ∗ pt c (bref 19) Finset.univ (vCo X)) ∗ Fl c (semOut 1) oSc.view.dmaCredit iprop(pt c main_v1_3 Finset.univ (vSc X) ∗ pt c (bref 22) Finset.univ (vSc X)) ∗ Fl c (semOut 2) oDh0.view.dmaCredit iprop(pt c main_v1_1 Finset.univ (vDh0 X) ∗ pt c (bref 21) Finset.univ (vDh0 X)))

variable {c}

theorem wp_seq {α β : Type} (p : PG F α) (k : α → PG F β) (Q : β → sProp (MM F)) : WP c p (fun a => WP c (k a) Q) ⊢ WP c (p >>= k) Q := by
  unfold WP; rw [wp_bind]

theorem smallsGo_spec (Q : PUnit → sProp (MM F)) :
    iprop((pt c main_arg1 Finset.univ X.dys ∗ (∃ f, pt c (bref 3) Finset.univ f) ∗ sv c (semSmall 0)) ∗ (pt c main_arg3 Finset.univ X.pres ∗ (∃ f, pt c (bref 4) Finset.univ f) ∗ sv c (semSmall 1)) ∗ (pt c main_arg4 Finset.univ X.h0 ∗ (∃ f, pt c (bref 5) Finset.univ f) ∗ sv c (semSmall 2)) ∗ (pt c main_v0 Finset.univ X.ws ∗ (∃ f, pt c (bref 6) Finset.univ f) ∗ sv c (semSmall 3)) ∗ (SF c X -∗ Q ⟨⟩)) ⊢ WP c smallsGo Q := by
  unfold smallsGo SF
  iintro ⟨⟨A0, ⟨%f0, B0⟩, S0⟩, ⟨A1, ⟨%f1, B1⟩, S1⟩, ⟨A2, ⟨%f2, B2⟩, S2⟩, ⟨A3, ⟨%f3, B3⟩, S3⟩, HQ⟩
  iapply (wp_seq _ _ _)
  iapply (all_go aDys mDys (semSmall 0) _ _ _ (by decide) (View.set_whole _) (View.set_whole _) X.dys f0 X.dys (fun x => rfl) _)
  isplitl [A0]; · iexact A0
  isplitl [B0]; · iexact B0
  isplitl [S0]; · iexact S0
  iintro F0
  iapply (wp_seq _ _ _)
  iapply (all_go aPres mPres (semSmall 1) _ _ _ (by decide) (View.set_whole _) (View.set_whole _) X.pres f1 X.pres (fun x => rfl) _)
  isplitl [A1]; · iexact A1
  isplitl [B1]; · iexact B1
  isplitl [S1]; · iexact S1
  iintro F1
  iapply (wp_seq _ _ _)
  iapply (all_go aH0 mH0 (semSmall 2) _ _ _ (by decide) (View.set_whole _) (View.set_whole _) X.h0 f2 X.h0 (fun x => rfl) _)
  isplitl [A2]; · iexact A2
  isplitl [B2]; · iexact B2
  isplitl [S2]; · iexact S2
  iintro F2
  iapply (all_go aWs mWs (semSmall 3) _ _ _ (by decide) (View.set_whole _) (View.set_whole _) X.ws f3 X.ws (fun x => rfl) _)
  isplitl [A3]; · iexact A3
  isplitl [B3]; · iexact B3
  isplitl [S3]; · iexact S3
  iintro F3
  iapply HQ
  isplitl [F0]; · iexact F0
  isplitl [F1]; · iexact F1
  isplitl [F2]; · iexact F2
  iexact F3

theorem smallsFin_spec (Q : PUnit → sProp (MM F)) :
    iprop(SF c X ∗ ow c ∗ (((pt c (bref 3) Finset.univ X.dys ∗ pt c main_arg1 Finset.univ X.dys) ∗ sv c (semSmall 0)) ∗ ((pt c (bref 4) Finset.univ X.pres ∗ pt c main_arg3 Finset.univ X.pres) ∗ sv c (semSmall 1)) ∗ ((pt c (bref 5) Finset.univ X.h0 ∗ pt c main_arg4 Finset.univ X.h0) ∗ sv c (semSmall 2)) ∗ ((pt c (bref 6) Finset.univ X.ws ∗ pt c main_v0 Finset.univ X.ws) ∗ sv c (semSmall 3)) -∗ ow c -∗ Q ⟨⟩)) ⊢ WP c smallsFin Q := by
  unfold smallsFin SF
  iintro ⟨⟨F0, F1, F2, F3⟩, HW, HQ⟩
  iapply (wp_seq _ _ _)
  iapply (fin_spec c aDys mDys (semSmall 0) _ _ _ _)
  isplitl [F0]; · iexact F0
  isplitl [HW]; · iexact HW
  iintro D0 S0 HW
  iapply (wp_seq _ _ _)
  iapply (fin_spec c aPres mPres (semSmall 1) _ _ _ _)
  isplitl [F1]; · iexact F1
  isplitl [HW]; · iexact HW
  iintro D1 S1 HW
  iapply (wp_seq _ _ _)
  iapply (fin_spec c aH0 mH0 (semSmall 2) _ _ _ _)
  isplitl [F2]; · iexact F2
  isplitl [HW]; · iexact HW
  iintro D2 S2 HW
  iapply (fin_spec c aWs mWs (semSmall 3) _ _ _ _)
  isplitl [F3]; · iexact F3
  isplitl [HW]; · iexact HW
  iintro D3 S3 HW
  iapply HQ $$ [D0 S0 D1 S1 D2 S2 D3 S3] HW
  isplitl [D0 S0]
  · isplitl [D0]; · iexact D0
    iexact S0
  isplitl [D1 S1]
  · isplitl [D1]; · iexact D1
    iexact S1
  isplitl [D2 S2]
  · isplitl [D2]; · iexact D2
    iexact S2
  isplitl [D3]; · iexact D3
  iexact S3

theorem outsGo_spec (Q : PUnit → sProp (MM F)) :
    iprop((pt c (bref 19) Finset.univ (vCo X) ∗ (∃ f, pt c main_v1_2 Finset.univ f) ∗ sv c (semOut 0)) ∗ (pt c (bref 22) Finset.univ (vSc X) ∗ (∃ f, pt c main_v1_3 Finset.univ f) ∗ sv c (semOut 1)) ∗ (pt c (bref 21) Finset.univ (vDh0 X) ∗ (∃ f, pt c main_v1_1 Finset.univ f) ∗ sv c (semOut 2)) ∗ (OF c X -∗ Q ⟨⟩)) ⊢ WP c outsGo Q := by
  unfold outsGo OF
  iintro ⟨⟨A0, ⟨%f0, B0⟩, S0⟩, ⟨A1, ⟨%f1, B1⟩, S1⟩, ⟨A2, ⟨%f2, B2⟩, S2⟩, HQ⟩
  iapply (wp_seq _ _ _)
  iapply (all_go mCodes oCodes (semOut 0) _ _ _ (by decide) (View.set_whole _) (View.set_whole _) (vCo X) f0 (vCo X) (fun x => rfl) _)
  isplitl [A0]; · iexact A0
  isplitl [B0]; · iexact B0
  isplitl [S0]; · iexact S0
  iintro F0
  iapply (wp_seq _ _ _)
  iapply (all_go mSc oSc (semOut 1) _ _ _ (by decide) (View.set_whole _) (View.set_whole _) (vSc X) f1 (vSc X) (fun x => rfl) _)
  isplitl [A1]; · iexact A1
  isplitl [B1]; · iexact B1
  isplitl [S1]; · iexact S1
  iintro F1
  iapply (all_go mDh0 oDh0 (semOut 2) _ _ _ (by decide) (View.set_whole _) (View.set_whole _) (vDh0 X) f2 (vDh0 X) (fun x => rfl) _)
  isplitl [A2]; · iexact A2
  isplitl [B2]; · iexact B2
  isplitl [S2]; · iexact S2
  iintro F2
  iapply HQ
  isplitl [F0]; · iexact F0
  isplitl [F1]; · iexact F1
  iexact F2

theorem outsFin_spec (Q : PUnit → sProp (MM F)) :
    iprop(OF c X ∗ ow c ∗ (((pt c main_v1_2 Finset.univ (vCo X) ∗ pt c (bref 19) Finset.univ (vCo X)) ∗ sv c (semOut 0)) ∗ ((pt c main_v1_3 Finset.univ (vSc X) ∗ pt c (bref 22) Finset.univ (vSc X)) ∗ sv c (semOut 1)) ∗ ((pt c main_v1_1 Finset.univ (vDh0 X) ∗ pt c (bref 21) Finset.univ (vDh0 X)) ∗ sv c (semOut 2)) -∗ ow c -∗ Q ⟨⟩)) ⊢ WP c outsFin Q := by
  unfold outsFin OF
  iintro ⟨⟨F0, F1, F2⟩, HW, HQ⟩
  iapply (wp_seq _ _ _)
  iapply (fin_spec c mCodes oCodes (semOut 0) _ _ _ _)
  isplitl [F0]; · iexact F0
  isplitl [HW]; · iexact HW
  iintro D0 S0 HW
  iapply (wp_seq _ _ _)
  iapply (fin_spec c mSc oSc (semOut 1) _ _ _ _)
  isplitl [F1]; · iexact F1
  isplitl [HW]; · iexact HW
  iintro D1 S1 HW
  iapply (fin_spec c mDh0 oDh0 (semOut 2) _ _ _ _)
  isplitl [F2]; · iexact F2
  isplitl [HW]; · iexact HW
  iintro D2 S2 HW
  iapply HQ $$ [D0 S0 D1 S1 D2 S2] HW
  isplitl [D0 S0]
  · isplitl [D0]; · iexact D0
    iexact S0
  isplitl [D1 S1]
  · isplitl [D1]; · iexact D1
    iexact S1
  isplitl [D2]; · iexact D2
  iexact S2

/-- A batch's copies under way. -/
def IF (c : Dev nD) (X : Inp F) (b : Fin 2) : sProp (MM F) :=
  iprop(Fl c (semIn b 0) (dPre b).view.dmaCredit iprop(pt c (bref 1) (rPre b).set X.prec ∗ pt c main_arg2 (rPre b).set X.prec)
    ∗ Fl c (semIn b 1) (dDy b).view.dmaCredit iprop(pt c (bref 0) (rDy b).set X.dyc ∗ pt c main_arg0 (rDy b).set X.dyc))
theorem insGo_spec (b : Fin 2) (f1 : S2x128x7168.Idx → F .fp8e4m3) (f0 : S2x128x3584.Idx → F .fp8e5m2) (Q : PUnit → sProp (MM F)) :
    iprop((pt c main_arg2 (rPre b).set X.prec ∗ pt c (bref 1) (rPre b).set f1 ∗ sv c (semIn b 0)) ∗ (pt c main_arg0 (rDy b).set X.dyc ∗ pt c (bref 0) (rDy b).set f0 ∗ sv c (semIn b 1))
      ∗ (IF c X b -∗ Q ⟨⟩)) ⊢ WP c (insGo b) Q := by
  unfold insGo IF
  iintro ⟨⟨A1, B1, S1⟩, ⟨A0, B0, S0⟩, HQ⟩
  iapply (wp_seq _ _ _)
  iapply (pre_go X b f1 _)
  isplitl [A1]; · iexact A1
  isplitl [B1]; · iexact B1
  isplitl [S1]; · iexact S1
  iintro F1
  iapply (dy_go X b f0 _)
  isplitl [A0]; · iexact A0
  isplitl [B0]; · iexact B0
  isplitl [S0]; · iexact S0
  iintro F0
  iapply HQ
  isplitl [F1]; · iexact F1
  iexact F0
theorem insFin_spec (b : Fin 2) (Q : PUnit → sProp (MM F)) :
    iprop(IF c X b ∗ ow c ∗ (((pt c (bref 1) (rPre b).set X.prec ∗ pt c main_arg2 (rPre b).set X.prec) ∗ sv c (semIn b 0))
      ∗ ((pt c (bref 0) (rDy b).set X.dyc ∗ pt c main_arg0 (rDy b).set X.dyc) ∗ sv c (semIn b 1)) -∗ ow c -∗ Q ⟨⟩)) ⊢ WP c (insFin b) Q := by
  unfold insFin IF
  iintro ⟨⟨F1, F0⟩, HW, HQ⟩
  iapply (wp_seq _ _ _)
  iapply (fin_spec c (sPre b) (dPre b) (semIn b 0) _ _ _ _)
  isplitl [F1]; · iexact F1
  isplitl [HW]; · iexact HW
  iintro D1 S1 HW
  iapply (fin_spec c (sDy b) (dDy b) (semIn b 1) _ _ _ _)
  isplitl [F0]; · iexact F0
  isplitl [HW]; · iexact HW
  iintro D0 S0 HW
  iapply HQ $$ [D1 S1 D0 S0] HW
  isplitl [D1 S1]
  · isplitl [D1]; · iexact D1
    iexact S1
  isplitl [D0]; · iexact D0
  iexact S0

/-- A weight block's copy under way. -/
def WF (c : Dev nD) (X : Inp F) (n : Fin 10) : sProp (MM F) :=
  Fl c (semW n) (dW n).view.dmaCredit iprop(pt c (bref 2) (rWd n).set (vW X) ∗ pt c main_arg5 (rWs n).set X.w)
theorem wGo_spec (f : S10x7168x512.Idx → F .fp8e4m3) (Q : PUnit → sProp (MM F)) :
    iprop((bigSep Finset.univ fun n => iprop(pt c main_arg5 (rWs n).set X.w ∗ pt c (bref 2) (rWd n).set f ∗ sv c (semW n)))
      ∗ ((bigSep Finset.univ fun n => WF c X n) -∗ Q ⟨⟩)) ⊢ WP c wGo Q := by
  unfold wGo
  iintro ⟨H, HQ⟩
  iapply (wp_steps iprop(emp) 10 _ (fun n => iprop(pt c main_arg5 (rWs n).set X.w ∗ pt c (bref 2) (rWd n).set f ∗ sv c (semW n))) (fun n => WF c X n) (fun i hi Q => by
    iintro ⟨⟨A, B, S⟩, -, HQ⟩
    iapply (w_go X ⟨i, hi⟩ f _)
    isplitl [A]; · iexact A
    isplitl [B]; · iexact B
    isplitl [S]; · iexact S
    iintro HF
    iapply HQ $$ [HF] []
    · unfold WF; iexact HF
    iempintro) Q)
  isplitl [H]; · iexact H
  isplitr [HQ]; · iempintro
  iintro H -
  iapply HQ $$ H

/-- Before a block of the product, -/
def DA (c : Dev nD) (X : Inp F) (n : Fin 10) : sProp (MM F) :=
  iprop(WF c X n ∗ (∃ f, pt c (bref 23) (SB n) f) ∗ (∃ f, pt c main_v1_0 (DB n) f) ∗ sv c (semSt 0 n) ∗ sv c (semSt 1 n))
/-- after it, -/
def DM (c : Dev nD) (X : Inp F) (n : Fin 10) : sProp (MM F) :=
  iprop(((pt c (bref 2) (rWd n).set (vW X) ∗ pt c main_arg5 (rWs n).set X.w) ∗ sv c (semW n))
    ∗ Fl c (semSt 0 n) (dDx 0 n).view.dmaCredit iprop(pt c main_v1_0 (rDx 0 n).set (vDx X) ∗ pt c (bref 23) (rSt 0 n).set (vSt X))
    ∗ Fl c (semSt 1 n) (dDx 1 n).view.dmaCredit iprop(pt c main_v1_0 (rDx 1 n).set (vDx X) ∗ pt c (bref 23) (rSt 1 n).set (vSt X)))
/-- and its copies out awaited. -/
def DE (c : Dev nD) (X : Inp F) (n : Fin 10) : sProp (MM F) :=
  iprop(((pt c (bref 2) (rWd n).set (vW X) ∗ pt c main_arg5 (rWs n).set X.w) ∗ sv c (semW n)) ∗ pt c main_v1_0 (DB n) (vDx X) ∗ pt c (bref 23) (SB n) (vSt X) ∗ sv c (semSt 0 n) ∗ sv c (semSt 1 n))
/-- The product's operand and scales. -/
def DC (c : Dev nD) (X : Inp F) : sProp (MM F) := iprop(pt c (bref 18) Finset.univ (AV X) ∗ pt c (bref 20) Finset.univ (vDsc X) ∗ ow c)

theorem none_sep (P : sProp (MM F)) : iprop(emp ∗ P) = P := BI.equiv_iff.mp BI.emp_sep

theorem ID_eq (n : Fin 10) (σ : Mem F) : Held c Finset.univ (ID n) σ
    = iprop(pt c (bref 2) (rWd n).set (σ 2) ∗ pt c (bref 18) Finset.univ (σ 18) ∗ pt c (bref 20) Finset.univ (σ 20) ∗ pt c (bref 23) (SB n) (σ 23)) := by
  have h : ∀ (i : Fin 24), ID n i = ∅ → pt c (bref i) (ID n i) (σ i) = iprop(emp) := fun i hi => by rw [hi]; exact pt_none _
  rw [Held_eq]
  rw [h 0 rfl]
  rw [h 1 rfl]
  rw [h 3 rfl]
  rw [h 4 rfl]
  rw [h 5 rfl]
  rw [h 6 rfl]
  rw [h 7 rfl]
  rw [h 8 rfl]
  rw [h 9 rfl]
  rw [h 10 rfl]
  rw [h 11 rfl]
  rw [h 12 rfl]
  rw [h 13 rfl]
  rw [h 14 rfl]
  rw [h 15 rfl]
  rw [h 16 rfl]
  rw [h 17 rfl]
  rw [h 19 rfl]
  rw [h 21 rfl]
  rw [h 22 rfl]
  simp only [none_sep]
  rfl

end Cert.Kernel
-- ==== Proof.K.Run.lean ====
module

public import proofs.«01_k».proof.Proof.K.Parts

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] {c : Dev nD}

/-! ## The buffers held by each stretch -/

theorem sep_none (P : sProp (MM F)) : iprop(P ∗ emp) = P := BI.equiv_iff.mp BI.sep_emp

/-- The buffers both batches' scans use whole. -/
def RST (c : Dev nD) (σ : Mem F) : sProp (MM F) := iprop(pt c (bref 3) Finset.univ (σ 3) ∗ pt c (bref 4) Finset.univ (σ 4) ∗ pt c (bref 5) Finset.univ (σ 5) ∗ pt c (bref 6) Finset.univ (σ 6) ∗ pt c (bref 7) Finset.univ (σ 7) ∗ pt c (bref 8) Finset.univ (σ 8) ∗ pt c (bref 9) Finset.univ (σ 9) ∗ pt c (bref 10) Finset.univ (σ 10) ∗ pt c (bref 11) Finset.univ (σ 11) ∗ pt c (bref 12) Finset.univ (σ 12) ∗ pt c (bref 13) Finset.univ (σ 13) ∗ pt c (bref 14) Finset.univ (σ 14) ∗ pt c (bref 15) Finset.univ (σ 15) ∗ pt c (bref 16) Finset.univ (σ 16) ∗ pt c (bref 17) Finset.univ (σ 17) ∗ pt c (bref 18) Finset.univ (σ 18) ∗ pt c (bref 19) Finset.univ (σ 19) ∗ pt c (bref 20) Finset.univ (σ 20) ∗ pt c (bref 21) Finset.univ (σ 21) ∗ pt c (bref 22) Finset.univ (σ 22))

theorem I0_eq (σ : Mem F) : Held c Finset.univ (IB 0) σ = iprop(pt c (bref 0) (rDy 0).set (σ 0) ∗ pt c (bref 1) (rPre 0).set (σ 1) ∗ RST c σ) := by
  have h : ∀ (i : Fin 24), IB 0 i = ∅ → pt c (bref i) (IB 0 i) (σ i) = iprop(emp) := fun i hi => by rw [hi]; exact pt_none _
  rw [Held_eq]
  rw [h 2 rfl]
  rw [h 23 rfl]
  simp only [none_sep, sep_none]
  rfl
theorem I1_eq (σ : Mem F) : Held c Finset.univ (IB 1) σ = iprop(pt c (bref 0) Finset.univ (σ 0) ∗ pt c (bref 1) Finset.univ (σ 1) ∗ RST c σ) := by
  have h : ∀ (i : Fin 24), IB 1 i = ∅ → pt c (bref i) (IB 1 i) (σ i) = iprop(emp) := fun i hi => by rw [hi]; exact pt_none _
  rw [Held_eq]
  rw [h 2 rfl]
  rw [h 23 rfl]
  simp only [none_sep, sep_none]
  rfl
theorem IS_eq (σ : Mem F) : Held c Finset.univ IS σ = iprop(pt c (bref 3) Finset.univ (σ 3) ∗ pt c (bref 4) Finset.univ (σ 4) ∗ pt c (bref 7) Finset.univ (σ 7) ∗ pt c (bref 8) Finset.univ (σ 8)) := by
  have h : ∀ (i : Fin 24), IS i = ∅ → pt c (bref i) (IS i) (σ i) = iprop(emp) := fun i hi => by rw [hi]; exact pt_none _
  rw [Held_eq]
  rw [h 0 rfl]
  rw [h 1 rfl]
  rw [h 2 rfl]
  rw [h 5 rfl]
  rw [h 6 rfl]
  rw [h 9 rfl]
  rw [h 10 rfl]
  rw [h 11 rfl]
  rw [h 12 rfl]
  rw [h 13 rfl]
  rw [h 14 rfl]
  rw [h 15 rfl]
  rw [h 16 rfl]
  rw [h 17 rfl]
  rw [h 18 rfl]
  rw [h 19 rfl]
  rw [h 20 rfl]
  rw [h 21 rfl]
  rw [h 22 rfl]
  rw [h 23 rfl]
  simp only [none_sep, sep_none]
  rfl

variable (X : Inp F)

/-- The buffers as the product finds them. -/
def mX (f : S10x2x128x512.Idx → F .bf16) : Mem F :=
  mk X.dyc X.prec (vW X) X.dys X.pres X.h0 X.ws (fun _ => oneF) (fun _ => oneF) (fun _ => oneF) (fun _ => oneF) (fun _ => oneF) (fun _ => oneF) (fun _ => oneF) (fun _ => oneF) (fun _ => oneF) (fun _ => oneF) (fun _ => oneF) (AV X) (vCo X) (vDsc X) (vDh0 X) (vSc X) f

/-! ## The product -/

theorem two_sep (Φ Ψ : Fin 10 → sProp (MM F)) : (bigSep Finset.univ fun n => iprop(Φ n ∗ Ψ n)) = iprop(bigSep Finset.univ Φ ∗ bigSep Finset.univ Ψ) := bigSep_sep _ _ _

theorem dxTrip_spec (n : Fin 10) (Q : PUnit → sProp (MM F)) : iprop(DA c X n ∗ DC c X ∗ (DM c X n -∗ DC c X -∗ Q ⟨⟩)) ⊢ WP c (dxTrip n) Q := by
  unfold dxTrip DA DC DM WF
  iintro ⟨⟨HF, ⟨%f, B23⟩, ⟨%fo, BO⟩, S0, S1⟩, ⟨A18, A20, HW⟩, HQ⟩
  iapply (wp_seq _ _ _)
  iapply (fin_spec c (sW n) (dW n) (semW n) _ _ _ _)
  isplitl [HF]; · iexact HF
  isplitl [HW]; · iexact HW
  iintro ⟨B2, A5⟩ SW HW
  iapply (wp_seq _ _ _)
  iapply (wp_T (dx_T X n (mX X f) rfl rfl rfl) _)
  rw [ID_eq]
  isplitl [B2 A18 A20 B23]
  · isplitl [B2]; · iexact B2
    isplitl [A18]; · iexact A18
    isplitl [A20]; · iexact A20
    iexact B23
  iintro %_ %σ' %h H
  have e : Held c Finset.univ (ID n) σ' = iprop(pt c (bref 2) (rWd n).set (vW X) ∗ pt c (bref 18) Finset.univ (AV X) ∗ pt c (bref 20) Finset.univ (vDsc X)
      ∗ (pt c (bref 23) (rSt 0 n).set (vSt X) ∗ pt c (bref 23) (rSt 1 n).set (vSt X))) := by
    rw [ID_eq, h.1 2 (by decide), h.1 18 (by decide), h.1 20 (by decide),
      show pt c (bref 23) (SB n) (σ' 23) = pt c (bref 23) (SB n) (vSt X) from pointsTo_congr h.2, sb_two]
    rfl
  ihave H' := (Entails.of_eq e) $$ H
  ihave BO' := (Entails.of_eq (db_two (c := c) n fo)) $$ BO
  icases H' with ⟨B2, A18, A20, B30, B31⟩
  icases BO' with ⟨BO0, BO1⟩
  iapply (wp_seq _ _ _)
  iapply (dx_go X 0 n fo _)
  isplitl [B30]; · iexact B30
  isplitl [BO0]; · iexact BO0
  isplitl [S0]; · iexact S0
  iintro F0
  iapply (dx_go X 1 n fo _)
  isplitl [B31]; · iexact B31
  isplitl [BO1]; · iexact BO1
  isplitl [S1]; · iexact S1
  iintro F1
  iapply HQ $$ [B2 A5 SW F0 F1] [A18 A20 HW]
  · isplitl [B2 A5 SW]
    · isplitl [B2 A5]
      · isplitl [B2]; · iexact B2
        iexact A5
      iexact SW
    isplitl [F0]; · iexact F0
    iexact F1
  isplitl [A18]; · iexact A18
  isplitl [A20]; · iexact A20
  iexact HW

theorem dxFin_spec (n : Fin 10) (Q : PUnit → sProp (MM F)) : iprop(DM c X n ∗ ow c ∗ (DE c X n -∗ ow c -∗ Q ⟨⟩)) ⊢ WP c (dxFin n) Q := by
  unfold dxFin DM DE
  rw [sb_two, db_two]
  iintro ⟨⟨A, F0, F1⟩, HW, HQ⟩
  iapply (wp_seq _ _ _)
  iapply (fin_spec c (sSt 0 n) (dDx 0 n) (semSt 0 n) _ _ _ _)
  isplitl [F0]; · iexact F0
  isplitl [HW]; · iexact HW
  iintro ⟨O0, B0⟩ S0 HW
  iapply (fin_spec c (sSt 1 n) (dDx 1 n) (semSt 1 n) _ _ _ _)
  isplitl [F1]; · iexact F1
  isplitl [HW]; · iexact HW
  iintro ⟨O1, B1⟩ S1 HW
  iapply HQ $$ [A O0 B0 S0 O1 B1 S1] HW
  isplitl [A]; · iexact A
  isplitl [O0 O1]
  · isplitl [O0]; · iexact O0
    iexact O1
  isplitl [B0 B1]
  · isplitl [B0]; · iexact B0
    iexact B1
  isplitl [S0]; · iexact S0
  iexact S1

theorem loop5_spec (Q : PUnit → sProp (MM F)) : iprop((bigSep Finset.univ fun n => DA c X n) ∗ DC c X ∗ ((bigSep Finset.univ fun n => DM c X n) -∗ DC c X -∗ Q ⟨⟩))
    ⊢ WP c (Scf.for 0#32 10#32 1#32 k0_t5_ok (⟨⟩ : PUnit) fun n _ => dxTrip n) Q :=
  wp_loop (DC c X) 10 0#32 10#32 1#32 k0_t5_ok rfl dxTrip (fun n => DA c X n) (fun n => DM c X n) (fun n Q => dxTrip_spec X n Q) Q
theorem loop6_spec (Q : PUnit → sProp (MM F)) : iprop((bigSep Finset.univ fun n => DM c X n) ∗ ow c ∗ ((bigSep Finset.univ fun n => DE c X n) -∗ ow c -∗ Q ⟨⟩))
    ⊢ WP c (Scf.for 0#32 10#32 1#32 k0_t5_ok (⟨⟩ : PUnit) fun n _ => dxFin n) Q :=
  wp_loop (ow c) 10 0#32 10#32 1#32 k0_t5_ok rfl dxFin (fun n => DM c X n) (fun n => DE c X n) (fun n Q => dxFin_spec X n Q) Q

/-! ## What both batches leave -/

theorem both (σ σ' : Mem F) (h0 : OutB X 0 σ) (h1 : OutB X 1 σ') (k : KeepB 1 σ σ') :
    σ' 18 = AV X ∧ σ' 19 = vCo X ∧ σ' 20 = vDsc X ∧ σ' 21 = vDh0 X ∧ σ' 22 = vSc X := by
  have hd : ∀ {n : ℕ}, n < 2 → ¬ n = (1 : Fin 2).val → n = (0 : Fin 2).val := fun {n} h h' => by
    have : ¬ n = 1 := h'
    show n = 0
    omega
  refine ⟨funext fun i => ?_, funext fun i => ?_, funext fun i => ?_, funext fun i => ?_, funext fun i => ?_⟩
  · by_cases h : (i 0).val / 128 = (1 : Fin 2).val
    · exact h1.a i h
    · exact (k.a i h).trans (h0.a i (hd (by have : (i 0).val < 256 := (i 0).isLt; omega) h))
  · by_cases h : (i 0).val = (1 : Fin 2).val
    · exact h1.co i h
    · exact (k.co i h).trans (h0.co i (hd (i 0).isLt h))
  · by_cases h : (i 0).val = (1 : Fin 2).val
    · exact h1.dsc i h
    · exact (k.dsc i h).trans (h0.dsc i (hd (i 0).isLt h))
  · by_cases h : (i 0).val = (1 : Fin 2).val
    · exact h1.dh0 i h
    · exact (k.dh0 i h).trans (h0.dh0 i (hd (i 0).isLt h))
  · by_cases h : (i 0).val = (1 : Fin 2).val
    · exact h1.sc i h
    · exact (k.sc i h).trans (h0.sc i (hd (i 0).isLt h))

/-! ## The scans, with what they hold named -/

/-- The scales' spread, read at the feature a lane is. -/
def Spread (g7 g8 : S2x128x128.Idx → F .f32) : Prop :=
  (∀ i, g7 i = X.dys (n2 (i 0) (i 1))) ∧ (∀ i, g8 i = X.pres (n2 (i 0) (i 1)))

theorem spreads_spec (f7 f8 : S2x128x128.Idx → F .f32) (Q : PUnit → sProp (MM F)) :
    iprop((pt c (bref 3) Finset.univ X.dys ∗ pt c (bref 4) Finset.univ X.pres ∗ pt c (bref 7) Finset.univ f7 ∗ pt c (bref 8) Finset.univ f8)
      ∗ (∀ g7 g8, ⌜Spread X g7 g8⌝ -∗
        (pt c (bref 3) Finset.univ X.dys ∗ pt c (bref 4) Finset.univ X.pres ∗ pt c (bref 7) Finset.univ g7 ∗ pt c (bref 8) Finset.univ g8) -∗ Q ⟨⟩)) ⊢ WP c spreads Q := by
  iintro ⟨H, HQ⟩
  iapply (wp_T (spreads_T (mk X.dyc X.prec (vW X) X.dys X.pres X.h0 X.ws f7 f8 (fun _ => oneF) (fun _ => oneF) (fun _ => oneF) (fun _ => oneF) (fun _ => oneF) (fun _ => oneF) (fun _ => oneF) (fun _ => oneF) (fun _ => oneF) (AV X) (vCo X) (vDsc X) (vDh0 X) (vSc X) (vSt X))) _)
  rw [IS_eq]
  isplitl [H]; · iexact H
  iintro %_ %σ0 %h0 H
  have e : Held c Finset.univ IS σ0 = iprop(pt c (bref 3) Finset.univ X.dys ∗ pt c (bref 4) Finset.univ X.pres ∗ pt c (bref 7) Finset.univ (σ0 7) ∗ pt c (bref 8) Finset.univ (σ0 8)) := by
    rw [IS_eq, h0.1 3 (by decide), h0.1 4 (by decide)]
    rfl
  ihave H' := (Entails.of_eq e) $$ H
  iapply HQ $$ %(σ0 7) %(σ0 8) %h0.2 H'

theorem batch0_spec (σ : Mem F) (h : InB X σ) (Q : PUnit → sProp (MM F)) :
    iprop((pt c (bref 0) (rDy 0).set X.dyc ∗ pt c (bref 1) (rPre 0).set X.prec ∗ RST c σ)
      ∗ (∀ σ', ⌜InB X σ' ∧ OutB X 0 σ'⌝ -∗ (pt c (bref 0) (rDy 0).set X.dyc ∗ pt c (bref 1) (rPre 0).set X.prec ∗ RST c σ') -∗ Q ⟨⟩)) ⊢ WP c (batch 0) Q := by
  iintro ⟨H, HQ⟩
  iapply (wp_T (batch_T X 0 σ h) _)
  rw [I0_eq, h.dyc, h.prec]
  isplitl [H]; · iexact H
  iintro %_ %σ' %h' H
  have e : Held c Finset.univ (IB 0) σ' = iprop(pt c (bref 0) (rDy 0).set X.dyc ∗ pt c (bref 1) (rPre 0).set X.prec ∗ RST c σ') := by
    rw [I0_eq, h'.1 0 (by decide), h'.1 1 (by decide), h.dyc, h.prec]
  ihave H' := (Entails.of_eq e) $$ H
  iapply HQ $$ %σ' %(⟨h.keep h'.1 (by decide), h'.2.1⟩ : InB X σ' ∧ OutB X 0 σ') H'

theorem batch1_spec (σ : Mem F) (h : InB X σ) (Q : PUnit → sProp (MM F)) :
    iprop((pt c (bref 0) Finset.univ X.dyc ∗ pt c (bref 1) Finset.univ X.prec ∗ RST c σ)
      ∗ (∀ σ', ⌜OutB X 1 σ' ∧ KeepB 1 σ σ'⌝ -∗ (pt c (bref 0) Finset.univ X.dyc ∗ pt c (bref 1) Finset.univ X.prec ∗ RST c σ') -∗ Q ⟨⟩)) ⊢ WP c (batch 1) Q := by
  iintro ⟨H, HQ⟩
  iapply (wp_T (batch_T X 1 σ h) _)
  rw [I1_eq, h.dyc, h.prec]
  isplitl [H]; · iexact H
  iintro %_ %σ' %h' H
  have e : Held c Finset.univ (IB 1) σ' = iprop(pt c (bref 0) Finset.univ X.dyc ∗ pt c (bref 1) Finset.univ X.prec ∗ RST c σ') := by
    rw [I1_eq, h'.1 0 (by decide), h'.1 1 (by decide), h.dyc, h.prec]
  ihave H' := (Entails.of_eq e) $$ H
  iapply HQ $$ %σ' %h'.2 H'

theorem RST_out (σ : Mem F) (h : σ 18 = AV X ∧ σ 19 = vCo X ∧ σ 20 = vDsc X ∧ σ 21 = vDh0 X ∧ σ 22 = vSc X) :
    RST c σ = iprop(pt c (bref 3) Finset.univ (σ 3) ∗ pt c (bref 4) Finset.univ (σ 4) ∗ pt c (bref 5) Finset.univ (σ 5) ∗ pt c (bref 6) Finset.univ (σ 6) ∗ pt c (bref 7) Finset.univ (σ 7) ∗ pt c (bref 8) Finset.univ (σ 8) ∗ pt c (bref 9) Finset.univ (σ 9) ∗ pt c (bref 10) Finset.univ (σ 10) ∗ pt c (bref 11) Finset.univ (σ 11) ∗ pt c (bref 12) Finset.univ (σ 12) ∗ pt c (bref 13) Finset.univ (σ 13) ∗ pt c (bref 14) Finset.univ (σ 14) ∗ pt c (bref 15) Finset.univ (σ 15) ∗ pt c (bref 16) Finset.univ (σ 16) ∗ pt c (bref 17) Finset.univ (σ 17) ∗ pt c (bref 18) Finset.univ (AV X) ∗ pt c (bref 19) Finset.univ (vCo X) ∗ pt c (bref 20) Finset.univ (vDsc X) ∗ pt c (bref 21) Finset.univ (vDh0 X) ∗ pt c (bref 22) Finset.univ (vSc X)) := by
  obtain ⟨e18, e19, e20, e21, e22⟩ := h
  unfold RST
  rw [e18, e19, e20, e21, e22]

/-! ## The kernel -/

theorem DA_one (n : Fin 10) (f : S10x2x128x512.Idx → F .bf16) (fo : S2x128x5120.Idx → F .bf16) :
    iprop(WF c X n ∗ pt c (bref 23) (SB n) f ∗ pt c main_v1_0 (DB n) fo ∗ sv c (semSt 0 n) ∗ sv c (semSt 1 n)) ⊢ DA c X n := by
  unfold DA
  iintro ⟨HF, B, O, S0, S1⟩
  isplitl [HF]; · iexact HF
  isplitl [B]; · iexists f; iexact B
  isplitl [O]; · iexists fo; iexact O
  isplitl [S0]; · iexact S0
  iexact S1

theorem DE_one (n : Fin 10) : DE c X n
    ⊢ iprop(pt c (bref 2) (rWd n).set (vW X) ∗ pt c main_arg5 (rWs n).set X.w ∗ sv c (semW n) ∗ pt c main_v1_0 (DB n) (vDx X) ∗ pt c (bref 23) (SB n) (vSt X)
      ∗ sv c (semSt 0 n) ∗ sv c (semSt 1 n)) := by
  unfold DE
  iintro ⟨⟨⟨B2, A5⟩, SW⟩, O, B, S⟩
  isplitl [B2]; · iexact B2
  isplitl [A5]; · iexact A5
  isplitl [SW]; · iexact SW
  isplitl [O]; · iexact O
  isplitl [B]; · iexact B
  iexact S

theorem DA_all (f : S10x2x128x512.Idx → F .bf16) (fo : S2x128x5120.Idx → F .bf16) :
    iprop((bigSep Finset.univ fun n => WF c X n) ∗ pt c (bref 23) Finset.univ f ∗ pt c main_v1_0 Finset.univ fo ∗ (bigSep Finset.univ fun n => iprop(sv c (semSt 0 n) ∗ sv c (semSt 1 n))))
      ⊢ bigSep Finset.univ fun n => DA c X n := by
  rw [st_ten, dx_ten, ← two_sep, ← two_sep, ← two_sep]
  exact bigSep_mono fun n _ => DA_one X n f fo

theorem DE_all : (bigSep Finset.univ fun n => DE c X n)
    ⊢ iprop(pt c (bref 2) Finset.univ (vW X) ∗ pt c main_arg5 Finset.univ X.w ∗ (bigSep Finset.univ fun n => sv c (semW n)) ∗ pt c main_v1_0 Finset.univ (vDx X) ∗ pt c (bref 23) Finset.univ (vSt X)
      ∗ (bigSep Finset.univ fun n => iprop(sv c (semSt 0 n) ∗ sv c (semSt 1 n)))) := by
  rw [st_ten, dx_ten, w_ten, aw_ten, ← two_sep, ← two_sep, ← two_sep, ← two_sep, ← two_sep]
  exact bigSep_mono fun n _ => DE_one X n

theorem prog_spec (Q : PUnit → sProp (MM F)) :
    iprop(ARGS c X ∗ OUT0 c ∗ SCR c ∗ SEM c ∗ ow c ∗ (ARGS c X -∗ OUT c X -∗ SCR c -∗ SEM c -∗ ow c -∗ Q ⟨⟩)) ⊢ WP c prog Q := by
  unfold prog ARGS OUT0 SCR SEM
  iintro ⟨⟨A0, A1, A2, A3, A4, A5, A6⟩, ⟨⟨%o0, O0⟩, ⟨%o1, O1⟩, ⟨%o2, O2⟩, ⟨%o3, O3⟩⟩, ⟨⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩, ⟨%f10, B10⟩, ⟨%f11, B11⟩, ⟨%f12, B12⟩, ⟨%f13, B13⟩, ⟨%f14, B14⟩, ⟨%f15, B15⟩, ⟨%f16, B16⟩, ⟨%f17, B17⟩, ⟨%f18, B18⟩, ⟨%f19, B19⟩, ⟨%f20, B20⟩, ⟨%f21, B21⟩, ⟨%f22, B22⟩, ⟨%f23, B23⟩⟩, ⟨⟨T00, T01, T10, T11⟩, TW, ⟨M0, M1, M2, M3⟩, ⟨U0, U1, U2⟩, TS⟩, HW, HQ⟩
  iapply (wp_seq _ _ _)
  iapply (smallsGo_spec X _)
  isplitl [A1 B3 M0]
  · isplitl [A1]; · iexact A1
    isplitl [B3]; · iexists f3; iexact B3
    iexact M0
  isplitl [A3 B4 M1]
  · isplitl [A3]; · iexact A3
    isplitl [B4]; · iexists f4; iexact B4
    iexact M1
  isplitl [A4 B5 M2]
  · isplitl [A4]; · iexact A4
    isplitl [B5]; · iexists f5; iexact B5
    iexact M2
  isplitl [A6 B6 M3]
  · isplitl [A6]; · iexact A6
    isplitl [B6]; · iexists f6; iexact B6
    iexact M3
  iintro HS
  ihave B0' := (Entails.of_eq (dyc_two (c := c) f0)) $$ B0
  ihave B1' := (Entails.of_eq (prec_two (c := c) f1)) $$ B1
  ihave A0' := (Entails.of_eq (adyc_two (c := c) X.dyc)) $$ A0
  ihave A2' := (Entails.of_eq (aprec_two (c := c) X.prec)) $$ A2
  icases B0' with ⟨P00, P01⟩
  icases B1' with ⟨P10, P11⟩
  icases A0' with ⟨A00, A01⟩
  icases A2' with ⟨A20, A21⟩
  iapply (wp_seq _ _ _)
  iapply (insGo_spec X 0 f1 f0 _)
  isplitl [A20 P10 T00]
  · isplitl [A20]; · iexact A20
    isplitl [P10]; · iexact P10
    iexact T00
  isplitl [A00 P00 T01]
  · isplitl [A00]; · iexact A00
    isplitl [P00]; · iexact P00
    iexact T01
  iintro HI0
  iapply (wp_seq _ _ _)
  iapply (insGo_spec X 1 f1 f0 _)
  isplitl [A21 P11 T10]
  · isplitl [A21]; · iexact A21
    isplitl [P11]; · iexact P11
    iexact T10
  isplitl [A01 P01 T11]
  · isplitl [A01]; · iexact A01
    isplitl [P01]; · iexact P01
    iexact T11
  iintro HI1
  iapply (wp_seq _ _ _)
  iapply (wGo_spec X f2 _)
  isplitl [A5 B2 TW]
  · rw [two_sep, two_sep, ← aw_ten, ← w_ten]
    isplitl [A5]; · iexact A5
    isplitl [B2]; · iexact B2
    iexact TW
  iintro HWF
  iapply (wp_seq _ _ _)
  iapply (smallsFin_spec X _)
  isplitl [HS]; · iexact HS
  isplitl [HW]; · iexact HW
  iintro ⟨⟨⟨B3, A1⟩, M0⟩, ⟨⟨B4, A3⟩, M1⟩, ⟨⟨B5, A4⟩, M2⟩, ⟨⟨B6, A6⟩, M3⟩⟩ HW
  iapply (wp_seq _ _ _)
  iapply (spreads_spec X f7 f8 _)
  isplitl [B3 B4 B7 B8]
  · isplitl [B3]; · iexact B3
    isplitl [B4]; · iexact B4
    isplitl [B7]; · iexact B7
    iexact B8
  iintro %g7 %g8 %hg ⟨B3, B4, B7, B8⟩
  iapply (wp_seq _ _ _)
  iapply (insFin_spec X 0 _)
  isplitl [HI0]; · iexact HI0
  isplitl [HW]; · iexact HW
  iintro ⟨⟨⟨P10, A20⟩, T00⟩, ⟨⟨P00, A00⟩, T01⟩⟩ HW
  have hin : InB X (mk X.dyc X.prec (vW X) X.dys X.pres X.h0 X.ws g7 g8 f9 f10 f11 f12 f13 f14 f15 f16 f17 f18 f19 f20 f21 f22 f23) := ⟨rfl, rfl, rfl, rfl, hg.1, hg.2⟩
  iapply (wp_seq _ _ _)
  iapply (batch0_spec X _ hin _)
  isplitl [P00 P10 B3 B4 B5 B6 B7 B8 B9 B10 B11 B12 B13 B14 B15 B16 B17 B18 B19 B20 B21 B22]
  · isplitl [P00]; · iexact P00
    isplitl [P10]; · iexact P10
    unfold RST
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    isplitl [B19]; · iexact B19
    isplitl [B20]; · iexact B20
    isplitl [B21]; · iexact B21
    iexact B22
  iintro %σ1 %h1 ⟨P00, P10, HR⟩
  obtain ⟨in1, ob1⟩ := h1
  iapply (wp_seq _ _ _)
  iapply (insFin_spec X 1 _)
  isplitl [HI1]; · iexact HI1
  isplitl [HW]; · iexact HW
  iintro ⟨⟨⟨P11, A21⟩, T10⟩, ⟨⟨P01, A01⟩, T11⟩⟩ HW
  iapply (wp_seq _ _ _)
  iapply (batch1_spec X σ1 in1 _)
  isplitl [P00 P10 P01 P11 HR]
  · isplitl [P00 P01]
    · iapply (Entails.of_eq (dyc_two (c := c) X.dyc).symm)
      isplitl [P00]; · iexact P00
      iexact P01
    isplitl [P10 P11]
    · iapply (Entails.of_eq (prec_two (c := c) X.prec).symm)
      isplitl [P10]; · iexact P10
      iexact P11
    iexact HR
  iintro %σ2 %h2 ⟨B0, B1, HR⟩
  obtain ⟨ob2, kb2⟩ := h2
  ihave HR' := (Entails.of_eq (RST_out (c := c) X σ2 (both X σ1 σ2 ob1 ob2 kb2))) $$ HR
  icases HR' with ⟨B3, B4, B5, B6, B7, B8, B9, B10, B11, B12, B13, B14, B15, B16, B17, B18, B19, B20, B21, B22⟩
  iapply (wp_seq _ _ _)
  iapply (outsGo_spec X _)
  isplitl [B19 O2 U0]
  · isplitl [B19]; · iexact B19
    isplitl [O2]; · iexists o2; iexact O2
    iexact U0
  isplitl [B22 O3 U1]
  · isplitl [B22]; · iexact B22
    isplitl [O3]; · iexists o3; iexact O3
    iexact U1
  isplitl [B21 O1 U2]
  · isplitl [B21]; · iexact B21
    isplitl [O1]; · iexists o1; iexact O1
    iexact U2
  iintro HO
  iapply (wp_seq _ _ _)
  iapply (loop5_spec X _)
  isplitl [HWF B23 O0 TS]
  · iapply (DA_all X f23 o0)
    isplitl [HWF]; · iexact HWF
    isplitl [B23]; · iexact B23
    isplitl [O0]; · iexact O0
    iexact TS
  isplitl [B18 B20 HW]
  · unfold DC
    isplitl [B18]; · iexact B18
    isplitl [B20]; · iexact B20
    iexact HW
  iintro HM HC
  unfold DC
  icases HC with ⟨B18, B20, HW⟩
  iapply (wp_seq _ _ _)
  iapply (loop6_spec X _)
  isplitl [HM]; · iexact HM
  isplitl [HW]; · iexact HW
  iintro HE HW
  ihave HE' := (DE_all X) $$ HE
  icases HE' with ⟨B2, A5, TW, O0, B23, TS⟩
  iapply (outsFin_spec X _)
  isplitl [HO]; · iexact HO
  isplitl [HW]; · iexact HW
  iintro ⟨⟨⟨O2, B19⟩, U0⟩, ⟨⟨O3, B22⟩, U1⟩, ⟨⟨O1, B21⟩, U2⟩⟩ HW
  unfold OUT
  iapply HQ $$ [A00 A01 A1 A20 A21 A3 A4 A5 A6] [O0 O1 O2 O3] [B0 B1 B2 B3 B4 B5 B6 B7 B8 B9 B10 B11 B12 B13 B14 B15 B16 B17 B18 B19 B20 B21 B22 B23] [T00 T01 T10 T11 TW M0 M1 M2 M3 U0 U1 U2 TS] HW
  · isplitl [A00 A01]
    · iapply (Entails.of_eq (adyc_two (c := c) X.dyc).symm)
      isplitl [A00]; · iexact A00
      iexact A01
    isplitl [A1]; · iexact A1
    isplitl [A20 A21]
    · iapply (Entails.of_eq (aprec_two (c := c) X.prec).symm)
      isplitl [A20]; · iexact A20
      iexact A21
    isplitl [A3]; · iexact A3
    isplitl [A4]; · iexact A4
    isplitl [A5]; · iexact A5
    iexact A6
  · isplitl [O0]; · iexact O0
    isplitl [O1]; · iexact O1
    isplitl [O2]; · iexact O2
    iexact O3
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    isplitl [B9]; · iexists _; iexact B9
    isplitl [B10]; · iexists _; iexact B10
    isplitl [B11]; · iexists _; iexact B11
    isplitl [B12]; · iexists _; iexact B12
    isplitl [B13]; · iexists _; iexact B13
    isplitl [B14]; · iexists _; iexact B14
    isplitl [B15]; · iexists _; iexact B15
    isplitl [B16]; · iexists _; iexact B16
    isplitl [B17]; · iexists _; iexact B17
    isplitl [B18]; · iexists _; iexact B18
    isplitl [B19]; · iexists _; iexact B19
    isplitl [B20]; · iexists _; iexact B20
    isplitl [B21]; · iexists _; iexact B21
    isplitl [B22]; · iexists _; iexact B22
    iexists _; iexact B23
  · isplitl [T00 T01 T10 T11]
    · isplitl [T00]; · iexact T00
      isplitl [T01]; · iexact T01
      isplitl [T10]; · iexact T10
      iexact T11
    isplitl [TW]; · iexact TW
    isplitl [M0 M1 M2 M3]
    · isplitl [M0]; · iexact M0
      isplitl [M1]; · iexact M1
      isplitl [M2]; · iexact M2
      iexact M3
    isplitl [U0 U1 U2]
    · isplitl [U0]; · iexact U0
      isplitl [U1]; · iexact U1
      iexact U2
    iexact TS

end Cert.Kernel
-- ==== Proof.K.Launch.lean ====
module

public import proofs.«01_k».proof.Proof.K.Run
public import Idealize.ShloMosaic.Lib.StableHlo.Run

@[expose] public section

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Shapes1.Facts₀ K0.Facts₀ Facts

variable {F : FTy → Type} [FloatOps F]
variable (m : (ℓ : Loc nD τ sig) → Buf (Elt F) ℓ) (ρ : Dev nD → PrngReg)

abbrev EP : Emb (UR sig nD τ) (MM F) := embL

/-! ## The kernel's own cells -/

theorem sep_assoc' (P Q R : sProp (MM F)) : iprop((P ∗ Q) ∗ R) = iprop(P ∗ Q ∗ R) :=
  BI.equiv_iff.mp ⟨(Laws.sep_assoc (P := P) (Q := Q) (R := R)).1, (Laws.sep_assoc (P := P) (Q := Q) (R := R)).2⟩

abbrev osem : Fin 41 → SemLoc sig := fun k => .dma k
theorem ownSemFacts : Pipeline.OwnSemFacts (cfgs 0).spec osem := by decide +kernel

theorem ten_eq (Φ : Fin 10 → sProp (MM F)) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

theorem ownSems0_eq (c : Dev nD) : (Pipeline.ownSems0 (Ix := Unit) (Name := ℕ) (U := UU) (Lvl := ℕ) (Val := Elt F) (τ := τ) osem c : sProp (MM F)) = SEM c := by
  rw [Pipeline.ownSems0_eq_of_list c osem [0, 1, 2, 3, 4, 5, 6, 7, 8, 9, 10, 11, 12, 13, 14, 15, 16, 17, 18, 19, 20, 21, 31, 22, 32, 23, 33, 24, 34, 25, 35, 26, 36, 27, 37, 28, 38, 29, 39, 30, 40] (by decide +kernel) (by decide +kernel)]
  unfold SEM
  simp only [ten_eq, sep_assoc']
  rfl

/-! ## The arrays as the kernel finds them -/

/-- A buffer's contents at the kernel's entry. -/
def V (c : Dev nD) (b : Ref sig .tc) : Buf (Elt F) ((c : Thread nD τ).loc b) := StableHlo.after Gen.hostOps0 (fun b => m (c, b)) b

theorem V_ne (c : Dev nD) (b : Ref sig .tc) (h : b ≠ main_v0) : V m c b = m ((c : Thread nD τ).loc b) := by
  unfold V
  rw [StableHlo.after_of_writes_sub (W := [main_v0]) Gen.hostOps0 _ (by simp [Gen.hostOps0]) (by simpa using h)]

/-- The arguments. -/
def XI (c : Dev nD) : Inp F where
  dyc := m ((c : Thread nD τ).loc main_arg0)
  dys := m ((c : Thread nD τ).loc main_arg1)
  prec := m ((c : Thread nD τ).loc main_arg2)
  pres := m ((c : Thread nD τ).loc main_arg3)
  h0 := m ((c : Thread nD τ).loc main_arg4)
  w := m ((c : Thread nD τ).loc main_arg5)
  ws := V m c main_v0

/-! ## The body -/

/-- Before and after the body. -/
def PhiIn (c : Dev nD) : sProp (MM F) := iprop(ARGS c (XI m c) ∗ OUT0 c ∗ SCR c ∗ SEM c)
def PhiOut (c : Dev nD) : sProp (MM F) := iprop(ARGS c (XI m c) ∗ OUT c (XI m c) ∗ SCR c ∗ SEM c)

def dats (_ : Fin 1) (c : Dev nD) : Dat τ (Elt F) Unit ℕ UU ℕ cfg0 c where
  A w := w.elim0
  after w _ := w.elim0
  Φ t := if t.val = 0 then PhiIn m c else PhiOut m c
  q _ := fullShare
  owed _ := 0

theorem Phi_in (c : Dev nD) (t : Fin (cfg0.N + 1)) (h : t.val = 0) : (dats m 0 c).Φ t = PhiIn m c := if_pos h
theorem Phi_out (c : Dev nD) (t : Fin (cfg0.N + 1)) (h : ¬ t.val = 0) : (dats m 0 c).Φ t = PhiOut m c := if_neg h

theorem body_eq (t : Fin cfg0.N) : (defs₀ (F := F)) .tc cfg0.body (cfg0.bodyArgs t (cfg0.slots t)) = prog := by
  unfold defs₀; rw [Defs.onTc_tc]; exact printed_eq

theorem body_spec (c : Dev nD) (Q : PUnit → sProp (MM F)) : iprop(PhiIn m c ∗ ow c ∗ (PhiOut m c -∗ ow c -∗ Q ⟨⟩)) ⊢ WP c prog Q := by
  unfold PhiIn PhiOut
  iintro ⟨⟨HA, HO, HS, HM⟩, HW, HQ⟩
  iapply (prog_spec (XI m c) _)
  isplitl [HA]; · iexact HA
  isplitl [HO]; · iexact HO
  isplitl [HS]; · iexact HS
  isplitl [HM]; · iexact HM
  isplitl [HW]; · iexact HW
  iintro HA HO HS HM HW
  iapply HQ $$ [HA HO HS HM] HW
  isplitl [HA]; · iexact HA
  isplitl [HO]; · iexact HO
  isplitl [HS]; · iexact HS
  iexact HM

theorem bigSep_none (Φ : Fin 0 → sProp (MM F)) : bigSep Finset.univ Φ = iprop(emp) := bigSep_empty

set_option backward.isDefEq.respectTransparency.types false in
theorem body_obligation (c : Dev nD) : BodyObligation (dats (F := F) m 0 c) (defs₀ (F := F)) 𝒱₀ () Set.univ := fun t => by
  obtain rfl := Gen.fin_N0 t
  rw [Phi_in m c _ rfl, Phi_out m c _ (by show ¬ 0 + 1 = 0; decide)]
  unfold Dat.owesAt Pipeline.owesWithin
  rw [show (dats m 0 c).owed (Gen.t0_0).castSucc = 0 from rfl, show (dats m 0 c).owed (Gen.t0_0).succ = 0 from rfl]
  rw [body_eq Gen.t0_0]
  rw [bigSep_none]
  iintro ⟨HP, ⟨%W, -, HW⟩, -⟩
  iapply (body_spec m c _)
  isplitl [HP]; · iexact HP
  isplitl [HW]; · iexists W; iexact HW
  iintro HP ⟨%W', HW⟩
  rw [bigSep_none]
  isplitl [HP]; · iexact HP
  isplitl [HW]
  · iexists W'; isplitr; · ipureintro; exact fun _ _ => Or.inl trivial
    iexact HW
  iempintro

/-! ## The run -/

def u₀ : UU := (initOf (Pipeline.cells cfgs Gen.cellOf_inj) (Pipeline.launchToks cfgs Gen.cellOf_inj), 1)

/-- The last array handed over: the weights' scales before they are laid out in rows. -/
def Zl (c : Dev nD) : sProp (MM F) := ((c : Thread nD τ).loc main_arg6) ↦{fullShare} m ((c : Thread nD τ).loc main_arg6)

/-- What every final state holds. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6))
  ∧ s.mem ((c : Thread nD τ).loc main_v1_0) = vDx (XI m c)
  ∧ s.mem ((c : Thread nD τ).loc main_v1_1) = vDh0 (XI m c)
  ∧ s.mem ((c : Thread nD τ).loc main_v1_2) = vCo (XI m c)
  ∧ s.mem ((c : Thread nD τ).loc main_v1_3) = vSc (XI m c)

theorem main_prefix (c : Dev nD) : main (F := F) c = Pipeline.chain [StableHlo.seq Gen.hostOps0, Prog.lift (.customCall (Pipeline.entry 0) ())] := Gen.main_chain c

set_option backward.isDefEq.respectTransparency.types false in
/-- From any memory with every counter at zero: every weakly fair execution of @main terminates, and every final state has the arguments
    unchanged, the results at the values above and every counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) Gen.launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (V := V m)
    (hmain := Pipeline.hmain_prefix cfgs 0 defs₀ 𝒱₀ m main Gen.hostOps0 Gen.hostOps0_sub rfl main_prefix)
    (hA := fun _ w => w.elim0)
    (X := fun c => iprop(ARGS c (XI m c) ∗ OUT0 c ∗ SEM c)) (Y := fun c => iprop(ARGS c (XI m c) ∗ OUT c (XI m c))) (Z := Zl m)
    (hX := fun c => by
      rw [Gen.unscopedRest0_eq, ownSems0_eq]
      rw [V_ne m c main_arg0 (by decide), V_ne m c main_arg1 (by decide), V_ne m c main_arg2 (by decide), V_ne m c main_arg3 (by decide),
        V_ne m c main_arg4 (by decide), V_ne m c main_arg5 (by decide), V_ne m c main_arg6 (by decide)]
      unfold ARGS OUT0 Zl
      iintro ⟨⟨A0, A1, A2, A3, A4, A5, A6, W, O0, O1, O2, O3⟩, HS, -, -, -⟩; imodintro
      isplitr [A6]
      · isplitl [A0 A1 A2 A3 A4 A5 W]
        · isplitl [A0]; · iexact A0
          isplitl [A1]; · iexact A1
          isplitl [A2]; · iexact A2
          isplitl [A3]; · iexact A3
          isplitl [A4]; · iexact A4
          isplitl [A5]; · iexact A5
          iexact W
        isplitl [O0 O1 O2 O3]
        · isplitl [O0]; · iexists _; iexact O0
          isplitl [O1]; · iexists _; iexact O1
          isplitl [O2]; · iexists _; iexact O2
          iexists _; iexact O3
        iexact HS
      iexact A6)
    (hin := fun c => by
      rw [Gen.scopedRest0_eq, Phi_in m c _ rfl]
      unfold PhiIn SCR
      iintro ⟨⟨HA, HO, HS⟩, HB⟩
      isplitl [HA]; · iexact HA
      isplitl [HO]; · iexact HO
      isplitl [HB]; · iexact HB
      iexact HS)
    (hout := fun c => by
      rw [Gen.scopedRest0_eq, Phi_out m c _ (by rw [Fin.val_last]; decide), ownSems0_eq]
      unfold PhiOut SCR
      iintro ⟨HA, HO, HB, HS⟩
      isplitl [HA HO]
      · isplitl [HA]; · iexact HA
        iexact HO
      isplitl [HS]; · iexact HS
      iexact HB)
    (QY := QY m)
    (hY := fun c s' => by
      unfold ARGS OUT Zl
      iintro ⟨⟨⟨A0, A1, A2, A3, A4, A5, W⟩, ⟨O0, O1, O2, O3⟩⟩, A6, HSI⟩
      icombine HSI A0 gives %h0
      icombine HSI A1 gives %h1
      icombine HSI A2 gives %h2
      icombine HSI A3 gives %h3
      icombine HSI A4 gives %h4
      icombine HSI A5 gives %h5
      icombine HSI A6 gives %h6
      icombine HSI O0 gives %o0
      icombine HSI O1 gives %o1
      icombine HSI O2 gives %o2
      icombine HSI O3 gives %o3
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩, Buf.eq_of_forall_mem_univ o0,
          Buf.eq_of_forall_mem_univ o1, Buf.eq_of_forall_mem_univ o2, Buf.eq_of_forall_mem_univ o3⟩
      iexact HSI)
    (hQ := fun _ hh hz => ⟨fun c => (hh c).2, hz⟩)

/-- The run's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).1, h.2⟩) (run_main m ρ)

end Cert.Kernel
-- ==== Proof.KI.Ev.lean ====
module

public import proofs.«01_k».proof.Proof.Gen.KernelIdeal
public import proofs.«01_k».proof.Proof.Gen.KernelIdeal.Launch
public import Idealize.ShloMosaic.Lib.Pipeline.KitQuiescent
public import Idealize.ShloMosaic.Lib.Ring
public import Idealize.ShloMosaic.Lib.Tactic
public import Mathlib.Tactic.IntervalCases

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Shapes1.Facts₀ K0.Facts₀ Facts

variable {F : FTy → Type} [FloatOps F] [Named F]

/-! ## Resources -/

/-- The pipeline library's resources beside the counters of the kernel's own transfers. -/
abbrev UU : Type := UR sig nD τ × Counters
/-- The resources of the program logic. -/
abbrev MM (F : FTy → Type) : Type _ := MT nD τ sig Unit (Elt F) ℕ UU ℕ
/-- No loop variants. -/
abbrev 𝒱₀ : Variants := Variants.none

/-- The kernel's effects. -/
abbrev PG (F : FTy → Type) [FloatOps F] [Named F] (α : Type) : Type _ := Prog (TpuEff nD τ sig (Elt F) Λ₀ .tc) α

/-- The weakest precondition of a stretch of the kernel on device `c`. -/
abbrev WP (c : Dev nD) {α : Type} (p : PG F α) (Q : α → sProp (MM F)) : sProp (MM F) :=
  wp frame (wpE (defs₀ (F := F)) 𝒱₀ (c : Thread nD τ) none) Set.univ p Q

theorem entails_of_eq {P Q : sProp (MM F)} (e : P = Q) : P ⊢ Q := e ▸ .rfl

/-! ## The memory of the kernel's buffers -/

/-- The kernel's `n`-th buffer. -/
abbrev bref (n : Fin 24) : Ref sig .tc := ⟨.vmem, n, rfl⟩

/-- The contents of the buffers. -/
abbrev Mem (F : FTy → Type) : Type := (n : Fin 24) → (bref n).ty.Contents (Elt F)
/-- The elements held of each buffer. -/
abbrev Own : Type := (n : Fin 24) → Finset (bref n).ty.shape.Idx

/-- The buffers of `L` held at the elements `I`, their contents `σ`. -/
def Held (c : Dev nD) (L : Finset (Fin 24)) (I : Own) (σ : Mem F) : sProp (MM F) :=
  bigSep L fun n => ((c : Thread nD τ).loc (bref n)) ↦[I n]{fullShare} σ n

/-- The contents `f` with the rectangle `r` overwritten by `w`. -/
def st {s : Shape} {α : Type} (r : LoadRect s) (w : r.shape.Idx → α) (f : s.Idx → α) : s.Idx → α := fun i =>
  if h : ∀ a, r.off a ≤ i a ∧ (i a - r.off a) % r.stride a = 0 ∧ (i a - r.off a) / r.stride a < r.size a then
    w fun a => ⟨(i a - r.off a) / r.stride a, (h a).2.2⟩ else f i

/-- The memory after a store to buffer `n`. -/
def upd (σ : Mem F) (n : Fin 24) (f : (bref n).ty.Contents (Elt F)) : Mem F := Function.update σ n f

theorem upd_same (σ : Mem F) (n : Fin 24) (f : (bref n).ty.Contents (Elt F)) : upd σ n f n = f := Function.update_self _ _ _
theorem upd_ne (σ : Mem F) {n k : Fin 24} (h : k ≠ n) (f : (bref n).ty.Contents (Elt F)) : upd σ n f k = σ k :=
  Function.update_of_ne h _ _

/-- A store through a whole buffer overwrites the rectangle. -/
theorem write_eq_st (b : Ref sig .tc) (r : Rect b.ty.shape) (f : b.ty.Contents (Elt F)) (w : r.shape.Idx → Elt F b.ty.elt) :
    ((Memref.whole b : Memref sig .tc _ _ _).access r).write (Elt F) f w Finset.univ = st r.toLoadRect w f := by
  funext i
  unfold st
  split
  · next h =>
    have e : i = ((Memref.whole b : Memref sig .tc _ _ _).access r).emb (fun a => ⟨(i a - r.off a) / r.stride a, (h a).2.2⟩) := by
      funext a
      refine Fin.ext ?_
      show (i a : ℕ) = r.off a + r.stride a * ((i a - r.off a) / r.stride a)
      have h1 := h a
      rw [Nat.mul_div_cancel' (Nat.dvd_of_mod_eq_zero h1.2.1)]; omega
    conv_lhs => rw [e]
    rw [View.write_emb_of_mem (h := Finset.mem_univ _)]; rfl
  · next h =>
    refine View.write_of_not_mem _ _ _ ?_
    rw [View.setOn_univ, View.set_slice_whole, LoadRect.mem_set]
    intro hm
    refine h fun a => ?_
    obtain ⟨j, hj, e⟩ := hm a
    have hs := r.stride_pos a
    rw [e, Nat.add_sub_cancel_left, Nat.mul_mod_right, Nat.mul_div_cancel_left _ hs]
    exact ⟨Nat.le_add_right _ _, rfl, hj⟩

/-! ## Triples of stretches that only load and store -/

/-- From the memory `σ` the stretch `p` ends with a value and a memory in `Φ`. -/
def T (c : Dev nD) (L : Finset (Fin 24)) (I : Own) {α : Type} (p : PG F α) (σ : Mem F) (Φ : α → Mem F → Prop) : Prop :=
  ∀ Q : α → sProp (MM F), iprop(Held c L I σ ∗ (∀ a σ', ⌜Φ a σ'⌝ -∗ Held c L I σ' -∗ Q a)) ⊢ WP c p Q

variable {c : Dev nD} {L : Finset (Fin 24)} {I : Own} {α β : Type}

theorem T_ret {a : α} {σ : Mem F} {Φ : α → Mem F → Prop} (h : Φ a σ) : T c L I (.ret a : PG F α) σ Φ := by
  intro Q
  unfold WP
  rw [wp_ret]
  iintro ⟨H, HQ⟩
  imodintro
  iapply HQ $$ %a %σ %h H

theorem T_pure {a : α} {σ : Mem F} {Φ : α → Mem F → Prop} (h : Φ a σ) : T c L I (pure a : PG F α) σ Φ := T_ret h

theorem T_mono {p : PG F α} {σ : Mem F} {Φ Ψ : α → Mem F → Prop} (hp : T c L I p σ Φ) (h : ∀ a σ', Φ a σ' → Ψ a σ') : T c L I p σ Ψ := by
  intro Q
  iintro ⟨H, HQ⟩
  iapply (hp Q)
  isplitl [H]; · iexact H
  iintro %a %σ' %h' H
  iapply HQ $$ %a %σ' %(h a σ' h') H

theorem T_bind {p : PG F α} {k : α → PG F β} {σ : Mem F} {Φ : α → Mem F → Prop} {Ψ : β → Mem F → Prop} (hp : T c L I p σ Φ)
    (hk : ∀ a σ', Φ a σ' → T c L I (k a) σ' Ψ) : T c L I (p >>= k) σ Ψ := by
  intro Q
  unfold WP
  rw [wp_bind]
  iintro ⟨H, HQ⟩
  iapply (hp _)
  isplitl [H]; · iexact H
  iintro %a %σ' %h' H
  iapply (hk a σ' h' Q)
  isplitl [H]; · iexact H
  iexact HQ

/-- One buffer apart from the rest. -/
theorem Held_split (σ : Mem F) {n : Fin 24} (hn : n ∈ L) :
    Held c L I σ = iprop((((c : Thread nD τ).loc (bref n)) ↦[I n]{fullShare} σ n) ∗ bigSep (L.erase n) fun n => ((c : Thread nD τ).loc (bref n)) ↦[I n]{fullShare} σ n) := by
  unfold Held; exact bigSep_erase hn

theorem Held_upd (σ : Mem F) {n : Fin 24} (hn : n ∈ L) (f : (bref n).ty.Contents (Elt F)) :
    Held c L I (upd σ n f) = iprop((((c : Thread nD τ).loc (bref n)) ↦[I n]{fullShare} f) ∗ bigSep (L.erase n) fun n => ((c : Thread nD τ).loc (bref n)) ↦[I n]{fullShare} σ n) := by
  rw [Held_split _ hn, upd_same]
  congr 1
  exact bigSep_congr fun k hk => by rw [upd_ne _ (Finset.ne_of_mem_erase hk)]

theorem T_load (n : Fin 24) {r : LoadRect (bref n).ty.shape} {hl : (Memref.whole (bref n) : Memref sig .tc .vmem _ _).view.LoadsAt r}
    {k : (r.shape.Idx → Elt F (bref n).ty.elt) → PG F β} {σ : Mem F} {Ψ : β → Mem F → Prop} (hn : n ∈ L) (hr : ∀ x, r.idx x ∈ I n)
    (hk : T c L I (k fun x => σ n (r.idx x)) σ Ψ) :
    T c L I (.op (.load (Memref.whole (bref n) : Memref sig .tc .vmem _ _) r hl) k) σ Ψ := by
  intro Q
  iintro ⟨H, HQ⟩
  ihave H' := (entails_of_eq (Held_split (c := c) (I := I) σ hn)) $$ H
  icases H' with ⟨Hn, HR⟩
  iapply (wp_load 𝒱₀ (c : Thread nD τ) none Set.univ (m := (Memref.whole (bref n) : Memref sig .tc .vmem _ _)) (S := I n) ?_) $$ Hn
  · intro i hi
    obtain ⟨j, hj, rfl⟩ := Finset.mem_map.mp hi
    obtain ⟨x, rfl⟩ := r.exists_idx_of_mem hj
    exact hr x
  iintro Hn
  iapply (hk Q)
  isplitl [Hn HR]
  · iapply (entails_of_eq (Held_split (c := c) (I := I) σ hn).symm)
    isplitl [Hn]; · iexact Hn
    iexact HR
  iexact HQ

theorem T_store (n : Fin 24) {r : Rect (bref n).ty.shape} {w : r.shape.Idx → Elt F (bref n).ty.elt}
    {hx : ((Memref.whole (bref n) : Memref sig .tc .vmem _ _).access r).Stores Finset.univ} {hm : Finset.univ = Finset.univ ∨ ∀ a, r.stride a = 1}
    {k : PUnit → PG F β} {σ : Mem F} {Ψ : β → Mem F → Prop} (hn : n ∈ L) (hr : ∀ x, r.idx x ∈ I n)
    (hk : T c L I (k ⟨⟩) (upd σ n (st r.toLoadRect w (σ n))) Ψ) :
    T c L I (.op (.store (Memref.whole (bref n) : Memref sig .tc .vmem _ _) r w Finset.univ hx hm) k) σ Ψ := by
  intro Q
  iintro ⟨H, HQ⟩
  ihave H' := (entails_of_eq (Held_split (c := c) (I := I) σ hn)) $$ H
  icases H' with ⟨Hn, HR⟩
  iapply (wp_store 𝒱₀ (c : Thread nD τ) none Set.univ (m := (Memref.whole (bref n) : Memref sig .tc .vmem _ _)) (r := r) (S := I n) ?_) $$ Hn
  · intro i hi
    obtain ⟨j, hj, rfl⟩ := Finset.mem_map.mp hi
    exact hr j
  iintro Hn
  iapply (hk Q)
  isplitl [Hn HR]
  · iapply (entails_of_eq (Held_upd (c := c) (I := I) σ hn _).symm)
    isplitl [Hn]
    · iapply (entails_of_eq (congrArg (fun f => ((((c : Thread nD τ).loc (bref n)) ↦[I n]{fullShare} f) : sProp (MM F))) (write_eq_st (bref n) r (σ n) w))); iexact Hn
    iexact HR
  iexact HQ

/-- A loop by an invariant. -/
theorem T_for {w : ℕ} (lb ub sp : BitVec w) (hok : Scf.OK lb ub sp) (init : α) (body : Fin (Scf.trips lb ub sp) → α → PG F α)
    (J : ℕ → α → Mem F → Prop) {σ : Mem F} {Ψ : α → Mem F → Prop} (h0 : J 0 init σ)
    (hbody : ∀ (k : Fin (Scf.trips lb ub sp)) (a : α) (σ' : Mem F), J k a σ' → T c L I (body k a) σ' (J (k.val + 1)))
    (hend : ∀ a σ', J (Scf.trips lb ub sp) a σ' → Ψ a σ') :
    T c L I (Scf.for lb ub sp hok init body) σ Ψ := by
  intro Q
  iintro ⟨H, HQ⟩
  iapply (Scf.wp_for _ _ _ lb ub sp hok init body (fun k a => iprop(∃ σ', ⌜J k a σ'⌝ ∗ Held c L I σ')) (fun k a => by
    iintro ⟨%σ', %hJ, H⟩
    iapply (hbody k a σ' hJ _)
    isplitl [H]; · iexact H
    iintro %a' %σ'' %h' H
    iexists σ''
    isplitr; · ipureintro; exact h'
    iexact H))
  isplitl [H]
  · iexists σ
    isplitr; · ipureintro; exact h0
    iexact H
  iintro %a ⟨%σ', %hJ, H⟩
  iapply HQ $$ %a %σ' %(hend a σ' hJ) H

/-- `f 0`, …, `f (n - 1)` one after another, each handing its value to the next. -/
def runF {α : Type} : (n : ℕ) → ((i : ℕ) → i < n → α → PG F α) → α → PG F α
  | 0, _, s => .ret s
  | n + 1, f, s => f 0 (Nat.succ_pos n) s >>= runF n (fun i h => f (i + 1) (Nat.succ_lt_succ h))

theorem T_runF (n : ℕ) (f : (i : ℕ) → i < n → α → PG F α) (J : ℕ → α → Mem F → Prop)
    (hf : ∀ i (hi : i < n) a σ', J i a σ' → T c L I (f i hi a) σ' (J (i + 1))) :
    ∀ (a : α) (σ : Mem F), J 0 a σ → T c L I (runF n f a) σ (J n) := by
  induction n generalizing J with
  | zero => intro a σ h; exact T_ret h
  | succ n ih =>
    intro a σ h
    refine T_bind (hf 0 (Nat.succ_pos n) a σ h) fun a' σ' h' => ?_
    exact ih (fun i h => f (i + 1) (Nat.succ_lt_succ h)) (fun i => J (i + 1)) (fun i hi => hf (i + 1) (Nat.succ_lt_succ hi)) a' σ' h'

end Cert.KernelIdeal
-- ==== Proof.KI.Prog.lean ====
module

public import proofs.«01_k».proof.Proof.KI.Ev

@[expose] public section

noncomputable section

namespace Cert.KernelIdeal

open Idealize.ShloMosaic Idealize.ShloMosaic.TcCoe Idealize.SL.Sem
open Shapes1.Facts₀ K0.Facts₀ Facts

variable {F : FTy → Type} [FloatOps F] [Named F]

/-! ## The kernel's buffers -/

abbrev mDyc : Memref sig .tc .vmem S2x128x3584 .fp8e5m2 := Memref.whole cc0_scratch0
abbrev mPrec : Memref sig .tc .vmem S2x128x7168 .fp8e4m3 := Memref.whole cc0_scratch1
abbrev mW : Memref sig .tc .vmem S10x7168x512 .fp8e4m3 := Memref.whole cc0_scratch2
abbrev mDys : Memref sig .tc .vmem S2x128 .f32 := Memref.whole cc0_scratch3
abbrev mPres : Memref sig .tc .vmem S2x128 .f32 := Memref.whole cc0_scratch4
abbrev mH0 : Memref sig .tc .vmem S2x3584 .f32 := Memref.whole cc0_scratch5
abbrev mWs : Memref sig .tc .vmem S56x128 .f32 := Memref.whole cc0_scratch6
abbrev mDysL : Memref sig .tc .vmem S2x128x128 .f32 := Memref.whole cc0_scratch7
abbrev mPresL : Memref sig .tc .vmem S2x128x128 .f32 := Memref.whole cc0_scratch8
abbrev mZ : Memref sig .tc .vmem S3584x128 .f32 := Memref.whole cc0_scratch9
abbrev mG : Memref sig .tc .vmem S3584x128 .f32 := Memref.whole cc0_scratch10
abbrev mQ : Memref sig .tc .vmem S3584x128 .f32 := Memref.whole cc0_scratch11
abbrev mHt : Memref sig .tc .vmem S896x128 .f32 := Memref.whole cc0_scratch12
abbrev mGp : Memref sig .tc .vmem S896x128 .f32 := Memref.whole cc0_scratch13
abbrev mDz : Memref sig .tc .vmem S896x128 .f32 := Memref.whole cc0_scratch14
abbrev mDh : Memref sig .tc .vmem S896x128 .f32 := Memref.whole cc0_scratch15
abbrev mAmax : Memref sig .tc .vmem S384x128 .f32 := Memref.whole cc0_scratch16
abbrev mH : Memref sig .tc .vmem S28x128 .f32 := Memref.whole cc0_scratch17
abbrev mA : Memref sig .tc .vmem S256x7168 .bf16 := Memref.whole cc0_scratch18
abbrev mCodes : Memref sig .tc .vmem S2x128x7168 .fp8e5m2 := Memref.whole cc0_scratch19
abbrev mDsc : Memref sig .tc .vmem S2x128x128 .f32 := Memref.whole cc0_scratch20
abbrev mDh0 : Memref sig .tc .vmem S2x3584 .f32 := Memref.whole cc0_scratch21
abbrev mSc : Memref sig .tc .vmem S2x128 .f32 := Memref.whole cc0_scratch22
abbrev mStage : Memref sig .tc .vmem S10x2x128x512 .bf16 := Memref.whole cc0_scratch23

abbrev aDyc : Memref sig .tc .hbm S2x128x3584 .fp8e5m2 := Memref.whole main_arg0
abbrev aDys : Memref sig .tc .hbm S2x128 .f32 := Memref.whole main_arg1
abbrev aPrec : Memref sig .tc .hbm S2x128x7168 .fp8e4m3 := Memref.whole main_arg2
abbrev aPres : Memref sig .tc .hbm S2x128 .f32 := Memref.whole main_arg3
abbrev aH0 : Memref sig .tc .hbm S2x3584 .f32 := Memref.whole main_arg4
abbrev aW : Memref sig .tc .hbm S7168x5120 .fp8e4m3 := Memref.whole main_arg5
abbrev aWs : Memref sig .tc .hbm S56x128 .f32 := Memref.whole main_v0
abbrev oDx : Memref sig .tc .hbm S2x128x5120 .bf16 := Memref.whole main_v1_0
abbrev oDh0 : Memref sig .tc .hbm S2x3584 .f32 := Memref.whole main_v1_1
abbrev oCodes : Memref sig .tc .hbm S2x128x7168 .fp8e5m2 := Memref.whole main_v1_2
abbrev oSc : Memref sig .tc .hbm S2x128 .f32 := Memref.whole main_v1_3

/-! ## Offsets -/

/-- Rows of a chunk in a `[2, 128, ·]` array. -/
abbrev tokOff (b : Fin 2) (w : BitVec 32) (col : ℕ) : Fin 3 → ℕ := ![(b : ℕ), (Scalar.muli w 32#32).toNat, col]
/-- Lane tile `g` of a chunk's first token in a `[3584, 128]` array. -/
abbrev gateOff (w : BitVec 32) (g : ℕ) : Fin 2 → ℕ :=
  ![(Scalar.addi (Scalar.muli (Scalar.muli w 32#32) 28#32) (BitVec.ofNat 32 g)).toNat, 0]
/-- Token `t` of a chunk in a `[3584, 128]` array. -/
abbrev stepOff (w : BitVec 32) (t : ℕ) : Fin 2 → ℕ :=
  ![(Scalar.addi (Scalar.muli w 896#32) (BitVec.ofNat 32 (28 * t))).toNat, 0]
/-- Rows of a chunk in the operand of the product. -/
abbrev aOff (b : Fin 2) (w : BitVec 32) (col : ℕ) : Fin 2 → ℕ :=
  ![(Scalar.addi (BitVec.ofNat 32 (128 * b)) (Scalar.muli w 32#32)).toNat, col]

theorem tok_val {w : BitVec 32} (hw : w.toNat < 4) : (Scalar.muli w 32#32).toNat = 32 * w.toNat := by
  show (w * 32#32).toNat = _
  rw [BitVec.toNat_mul]; show w.toNat * 32 % 2 ^ 32 = _; omega
theorem gate_val {w : BitVec 32} (hw : w.toNat < 4) {g : ℕ} (hg : g < 28) :
    (Scalar.addi (Scalar.muli (Scalar.muli w 32#32) 28#32) (BitVec.ofNat 32 g)).toNat = 896 * w.toNat + g := by
  show (w * 32#32 * 28#32 + BitVec.ofNat 32 g).toNat = _
  rw [BitVec.toNat_add, BitVec.toNat_mul, BitVec.toNat_mul, BitVec.toNat_ofNat]
  show (w.toNat * 32 % 2 ^ 32 * 28 % 2 ^ 32 + g % 2 ^ 32) % 2 ^ 32 = _; omega
theorem step_val {w : BitVec 32} (hw : w.toNat < 4) {t : ℕ} (ht : t < 32) :
    (Scalar.addi (Scalar.muli w 896#32) (BitVec.ofNat 32 (28 * t))).toNat = 896 * w.toNat + 28 * t := by
  show (w * 896#32 + BitVec.ofNat 32 (28 * t)).toNat = _
  rw [BitVec.toNat_add, BitVec.toNat_mul, BitVec.toNat_ofNat]
  show (w.toNat * 896 % 2 ^ 32 + 28 * t % 2 ^ 32) % 2 ^ 32 = _; omega
theorem a_val (b : Fin 2) {w : BitVec 32} (hw : w.toNat < 4) :
    (Scalar.addi (BitVec.ofNat 32 (128 * b)) (Scalar.muli w 32#32)).toNat = 128 * b + 32 * w.toNat := by
  show (BitVec.ofNat 32 (128 * b) + w * 32#32).toNat = _
  rw [BitVec.toNat_add, BitVec.toNat_mul, BitVec.toNat_ofNat]
  show (128 * (b : ℕ) % 2 ^ 32 + w.toNat * 32 % 2 ^ 32) % 2 ^ 32 = _; omega

theorem tok_inb (b : Fin 2) {w : BitVec 32} (hw : w.toNat < 4) {col C : ℕ} (hc : col + 128 ≤ C) :
    ∀ a, tokOff b w col a + S1x32x128.size a ≤ (⟨3, ![2, 128, C]⟩ : Shape).size a := by
  intro a
  fin_cases a
  · show (b : ℕ) + 1 ≤ 2; omega
  · show (Scalar.muli w 32#32).toNat + 32 ≤ 128; rw [tok_val hw]; omega
  · show col + 128 ≤ C; exact hc
theorem gate_inb {w : BitVec 32} (hw : w.toNat < 4) {g : ℕ} (hg : g < 28) :
    ∀ a, S32x128.size a = 0 ∨ gateOff w g a + (![28, 1] : Fin 2 → ℕ) a * (S32x128.size a - 1) < S3584x128.size a := by
  intro a
  right
  fin_cases a
  · show (Scalar.addi (Scalar.muli (Scalar.muli w 32#32) 28#32) (BitVec.ofNat 32 g)).toNat + 28 * 31 < 3584
    rw [gate_val hw hg]; omega
  · show 0 + 1 * 127 < 128; omega
theorem step_inb {w : BitVec 32} (hw : w.toNat < 4) {t : ℕ} (ht : t < 32) : ∀ a, stepOff w t a + S28x128.size a ≤ S3584x128.size a := by
  intro a
  fin_cases a
  · show (Scalar.addi (Scalar.muli w 896#32) (BitVec.ofNat 32 (28 * t))).toNat + 28 ≤ 3584
    rw [step_val hw ht]; omega
  · show 0 + 128 ≤ 128; omega
theorem a_inb (b : Fin 2) {w : BitVec 32} (hw : w.toNat < 4) {col : ℕ} (hc : col + 128 ≤ 7168) :
    ∀ a, aOff b w col a + S32x128.size a ≤ S256x7168.size a := by
  intro a
  fin_cases a
  · show (Scalar.addi (BitVec.ofNat 32 (128 * b)) (Scalar.muli w 32#32)).toNat + 32 ≤ 256; rw [a_val b hw]; omega
  · show col + 128 ≤ 7168; exact hc
/-- Lane tile `g` of 32 tokens in a `[896, 128]` array. -/
theorem row_inb {g : ℕ} (hg : g < 28) : ∀ a, S32x128.size a = 0 ∨ (![g, 0] : Fin 2 → ℕ) a + (![28, 1] : Fin 2 → ℕ) a * (S32x128.size a - 1) < S896x128.size a := by
  intro a
  right
  fin_cases a
  · show g + 28 * 31 < 896; omega
  · show 0 + 1 * 127 < 128; omega
theorem str_inb {i n : ℕ} (hi : i + n * 31 < 384) : ∀ a, S32x128.size a = 0 ∨ (![i, 0] : Fin 2 → ℕ) a + (![n, 1] : Fin 2 → ℕ) a * (S32x128.size a - 1) < S384x128.size a := by
  intro a
  right
  fin_cases a
  · show i + n * 31 < 384; omega
  · show 0 + 1 * 127 < 128; omega
theorem u2_inb {i j n m N M : ℕ} (hi : i + n ≤ N) (hj : j + m ≤ M) : ∀ a, (![i, j] : Fin 2 → ℕ) a + (⟨2, ![n, m]⟩ : Shape).size a ≤ (⟨2, ![N, M]⟩ : Shape).size a := by
  intro a; fin_cases a
  · exact hi
  · exact hj
theorem u3_inb {i n m N M : ℕ} (hi : i + 1 ≤ N) : ∀ a, (![i, 0, 0] : Fin 3 → ℕ) a + (⟨3, ![1, n, m]⟩ : Shape).size a ≤ (⟨3, ![N, n, m]⟩ : Shape).size a := by
  intro a; fin_cases a
  · exact hi
  · exact (Nat.zero_add n).le
  · exact (Nat.zero_add m).le

abbrev rTok (C : ℕ) (b : Fin 2) {w : BitVec 32} (hw : w.toNat < 4) {col : ℕ} (hc : col + 128 ≤ C) : Rect (⟨3, ![2, 128, C]⟩ : Shape) :=
  Rect.unit (s := ⟨3, ![2, 128, C]⟩) (tokOff b w col) S1x32x128.size (tok_inb b hw hc)
abbrev lGate {w : BitVec 32} (hw : w.toNat < 4) {g : ℕ} (hg : g < 28) : LoadRect S3584x128 := ⟨gateOff w g, S32x128.size, ![28, 1], gate_inb hw hg⟩
abbrev rStep {w : BitVec 32} (hw : w.toNat < 4) {t : ℕ} (ht : t < 32) : Rect S3584x128 := Rect.unit (s := S3584x128) (stepOff w t) S28x128.size (step_inb hw ht)
abbrev lRow {g : ℕ} (hg : g < 28) : LoadRect S896x128 := ⟨![g, 0], S32x128.size, ![28, 1], row_inb hg⟩
abbrev rRow (t : ℕ) (ht : 28 * t + 28 ≤ 896) : Rect S896x128 := Rect.unit (s := S896x128) ![28 * t, 0] S28x128.size (u2_inb ht (by omega))
abbrev lStr {i n : ℕ} (hi : i + n * 31 < 384) : LoadRect S384x128 := ⟨![i, 0], S32x128.size, ![n, 1], str_inb hi⟩
abbrev rA (b : Fin 2) {w : BitVec 32} (hw : w.toNat < 4) {col : ℕ} (hc : col + 128 ≤ 7168) : Rect S256x7168 :=
  Rect.unit (s := S256x7168) (aOff b w col) S32x128.size (a_inb b hw hc)
abbrev rB (b : Fin 2) : Rect S2x128x128 := Rect.unit (s := S2x128x128) ![(b : ℕ), 0, 0] S1x128x128.size (u3_inb (M := 128) (by omega))
abbrev rTokRow (b : Fin 2) : Rect S2x128 := Rect.unit (s := S2x128) ![(b : ℕ), 0] S1x128.size (u2_inb (by omega) (by omega))
abbrev rD (b : Fin 2) {g : ℕ} (hg : g < 28) : Rect S2x3584 := Rect.unit (s := S2x3584) ![(b : ℕ), 128 * g] S1x128.size (u2_inb (by omega) (by omega))
abbrev rH {g : ℕ} (hg : g < 28) : Rect S28x128 := Rect.unit (s := S28x128) ![g, 0] S1x128.size (u2_inb (by omega) (by omega))
abbrev rHw : Rect S28x128 := Rect.unit (s := S28x128) ![0, 0] S28x128.size inb_S28x128_S28x128_0_0

/-! ## The reverse scan -/

/-- One lane tile of the gates of a chunk: `z` and `dy` of 32 tokens, stored at the chunk's rows. -/
def revGate (zs ds : FVec F S32x128 .f32) (b : Fin 2) {w : BitVec 32} (hw : w.toNat < 4) (g : ℕ) (hg : g < 28) : PG F PUnit := do
  let p : Vec F S1x32x128 .fp8e4m3 ← Prog.lift (.load mPrec (rTok 7168 b hw (col := 128 * g) (by omega)).toLoadRect (View.loadsAt_vmem h_S1x32x128))
  let _ ← Prog.lift (.load mZ (lGate hw hg) (View.loadsAt_vmem h_S32x128))
  Prog.lift (.store mZ ⟨lGate hw hg, spos_28_1⟩
    (shapeCast S32x128 (divf (broadcast S32x128 (Scalar.ofBits .f32 0x3F800000#32)) (addf (broadcast S32x128 (Scalar.ofBits .f32 0x3F800000#32))
      (exp2 (mulf (extf .f32 (shapeCast S32x128 p shapeCasts_S1x32x128_S32x128 : FVec F S32x128 .fp8e4m3) bitsLt_fp8e4m3_f32) zs)))) shapeCasts_S32x128_S32x128)
    Finset.univ (View.stores_vmem_bits_univ h_S32x128 rfl) (.inl rfl))
  let d : Vec F S1x32x128 .fp8e5m2 ← Prog.lift (.load mDyc (rTok 3584 b hw (col := 128 * g) (by omega)).toLoadRect (View.loadsAt_vmem h_S1x32x128))
  let _ ← Prog.lift (.load mG (lGate hw hg) (View.loadsAt_vmem h_S32x128))
  Prog.lift (.store mG ⟨lGate hw hg, spos_28_1⟩
    (shapeCast S32x128 (mulf (extf .f32 (shapeCast S32x128 d shapeCasts_S1x32x128_S32x128 : FVec F S32x128 .fp8e5m2) bitsLt_fp8e5m2_f32) ds) shapeCasts_S32x128_S32x128)
    Finset.univ (View.stores_vmem_bits_univ h_S32x128 rfl) (.inl rfl))

/-- One step of the reverse recurrence. -/
def revStep {w : BitVec 32} (hw : w.toNat < 4) (t : ℕ) (ht : t < 32) (q : FVec F S28x128 .f32) : PG F (FVec F S28x128 .f32) := do
  let g : Vec F S28x128 .f32 ← Prog.lift (.load mG (rStep hw ht).toLoadRect (View.loadsAt_vmem h_S28x128))
  let _ ← Prog.lift (.load mG (rStep hw ht).toLoadRect (View.loadsAt_vmem h_S28x128))
  Prog.lift (.store mG (rStep hw ht) (shapeCast S28x128 (addf g q) shapeCasts_S28x128_S28x128) Finset.univ (View.stores_vmem_bits_univ h_S28x128 rfl) (.inl rfl))
  let z : Vec F S28x128 .f32 ← Prog.lift (.load mZ (rStep hw ht).toLoadRect (View.loadsAt_vmem h_S28x128))
  let _ ← Prog.lift (.load mQ (rStep hw ht).toLoadRect (View.loadsAt_vmem h_S28x128))
  Prog.lift (.store mQ (rStep hw ht)
    (shapeCast S28x128 (mulf (subf (broadcast S28x128 (Scalar.ofBits .f32 0x3F800000#32)) z) (addf g q)) shapeCasts_S28x128_S28x128)
    Finset.univ (View.stores_vmem_bits_univ h_S28x128 rfl) (.inl rfl))
  pure (mulf (subf (broadcast S28x128 (Scalar.ofBits .f32 0x3F800000#32)) z) (addf g q))

/-- A trip of the reverse loop. -/
def revTrip (b : Fin 2) {w : BitVec 32} (hw : w.toNat < 4) (q : FVec F S28x128 .f32) : PG F (FVec F S28x128 .f32) := do
  let ps : Vec F S1x32x128 .f32 ← Prog.lift (.load mPresL (rTok 128 b hw (col := 0) (by omega)).toLoadRect (View.loadsAt_vmem h_S1x32x128))
  let ds : Vec F S1x32x128 .f32 ← Prog.lift (.load mDysL (rTok 128 b hw (col := 0) (by omega)).toLoadRect (View.loadsAt_vmem h_S1x32x128))
  let _ ← runF 28 (fun g hg _ => revGate
      (mulf (shapeCast S32x128 ps shapeCasts_S1x32x128_S32x128) (broadcast S32x128 (Named.named κ "neg_log2e" 0xBFB8AA3B#32)))
      (shapeCast S32x128 ds shapeCasts_S1x32x128_S32x128) b hw g hg) ⟨⟩
  runF 32 (fun i hi => revStep hw (31 - i) (Nat.lt_of_le_of_lt (Nat.sub_le 31 i) (by decide))) q

/-- The chunk the trip of a reverse loop works on. -/
abbrev revWord (k : Fin 4) : BitVec 32 := Scalar.subi 3#32 (Scf.iv 0#32 1#32 k)
theorem revWord_val : ∀ k : Fin 4, (revWord k).toNat = 3 - k := by decide +kernel
theorem revWord_lt (k : Fin 4) : (revWord k).toNat < 4 := by rw [revWord_val]; omega
/-- The chunk the trip of a forward loop works on. -/
abbrev fwdWord (k : Fin 4) : BitVec 32 := Scf.iv 0#32 1#32 k
theorem fwdWord_val : ∀ k : Fin 4, (fwdWord k).toNat = k := by decide +kernel
theorem fwdWord_lt (k : Fin 4) : (fwdWord k).toNat < 4 := by rw [fwdWord_val]; omega

/-! ## The forward scan -/

/-- One lane tile of the candidate and its derivative. -/
def fwdGate (ps : FVec F S32x128 .f32) (b : Fin 2) {w : BitVec 32} (hw : w.toNat < 4) (g : ℕ) (hg : g < 28) : PG F PUnit := do
  let c : Vec F S1x32x128 .fp8e4m3 ← Prog.lift (.load mPrec (rTok 7168 b hw (col := 3584 + 128 * g) (by omega)).toLoadRect (View.loadsAt_vmem h_S1x32x128))
  let _ ← Prog.lift (.load mHt (lRow hg) (View.loadsAt_vmem h_S32x128))
  Prog.lift (.store mHt ⟨lRow hg, spos_28_1⟩
    (shapeCast S32x128 (select (cmpf .oge (mulf (extf .f32 (shapeCast S32x128 c shapeCasts_S1x32x128_S32x128 : FVec F S32x128 .fp8e4m3) bitsLt_fp8e4m3_f32) ps) (broadcast S32x128 (Scalar.ofBits .f32 0x00000000#32)))
      (addf (mulf (extf .f32 (shapeCast S32x128 c shapeCasts_S1x32x128_S32x128 : FVec F S32x128 .fp8e4m3) bitsLt_fp8e4m3_f32) ps) (broadcast S32x128 (Scalar.ofBits .f32 0x3F000000#32)))
      (divf (broadcast S32x128 (Scalar.ofBits .f32 0x3F800000#32)) (addf (broadcast S32x128 (Scalar.ofBits .f32 0x3F800000#32))
        (exp2 (mulf (mulf (extf .f32 (shapeCast S32x128 c shapeCasts_S1x32x128_S32x128 : FVec F S32x128 .fp8e4m3) bitsLt_fp8e4m3_f32) ps) (broadcast S32x128 (Named.named κ "neg_log2e" 0xBFB8AA3B#32))))))) shapeCasts_S32x128_S32x128)
    Finset.univ (View.stores_vmem_bits_univ h_S32x128 rfl) (.inl rfl))
  let _ ← Prog.lift (.load mGp (lRow hg) (View.loadsAt_vmem h_S32x128))
  Prog.lift (.store mGp ⟨lRow hg, spos_28_1⟩
    (shapeCast S32x128 (select (cmpf .oge (mulf (extf .f32 (shapeCast S32x128 c shapeCasts_S1x32x128_S32x128 : FVec F S32x128 .fp8e4m3) bitsLt_fp8e4m3_f32) ps) (broadcast S32x128 (Scalar.ofBits .f32 0x00000000#32)))
      (broadcast S32x128 (Scalar.ofBits .f32 0x3F800000#32))
      (mulf
      (divf (broadcast S32x128 (Scalar.ofBits .f32 0x3F800000#32)) (addf (broadcast S32x128 (Scalar.ofBits .f32 0x3F800000#32))
        (exp2 (mulf (mulf (extf .f32 (shapeCast S32x128 c shapeCasts_S1x32x128_S32x128 : FVec F S32x128 .fp8e4m3) bitsLt_fp8e4m3_f32) ps) (broadcast S32x128 (Named.named κ "neg_log2e" 0xBFB8AA3B#32))))))
      (subf (broadcast S32x128 (Scalar.ofBits .f32 0x3F800000#32))
      (divf (broadcast S32x128 (Scalar.ofBits .f32 0x3F800000#32)) (addf (broadcast S32x128 (Scalar.ofBits .f32 0x3F800000#32))
        (exp2 (mulf (mulf (extf .f32 (shapeCast S32x128 c shapeCasts_S1x32x128_S32x128 : FVec F S32x128 .fp8e4m3) bitsLt_fp8e4m3_f32) ps) (broadcast S32x128 (Named.named κ "neg_log2e" 0xBFB8AA3B#32))))))))) shapeCasts_S32x128_S32x128)
    Finset.univ (View.stores_vmem_bits_univ h_S32x128 rfl) (.inl rfl))

/-- The largest magnitudes of a token's gradients, as the kernel folds them first. -/
abbrev mag (dz dh : FVec F S28x128 .f32) : FVec F S28x128 .f32 := maximumf (absf dz) (absf dh)

/-- One step of the forward recurrence, with the token's gradients and their magnitudes. -/
def fwdStep {w : BitVec 32} (hw : w.toNat < 4) (t : ℕ) (ht : t < 32) (h : FVec F S28x128 .f32) : PG F (FVec F S28x128 .f32) := do
  let z : Vec F S28x128 .f32 ← Prog.lift (.load mZ (rStep hw ht).toLoadRect (View.loadsAt_vmem h_S28x128))
  let c : Vec F S28x128 .f32 ← Prog.lift (.load mHt (rRow t (by omega)).toLoadRect (View.loadsAt_vmem h_S28x128))
  let q : Vec F S28x128 .f32 ← Prog.lift (.load mQ (rStep hw ht).toLoadRect (View.loadsAt_vmem h_S28x128))
  let g : Vec F S28x128 .f32 ← Prog.lift (.load mG (rStep hw ht).toLoadRect (View.loadsAt_vmem h_S28x128))
  let gp : Vec F S28x128 .f32 ← Prog.lift (.load mGp (rRow t (by omega)).toLoadRect (View.loadsAt_vmem h_S28x128))
  let _ ← Prog.lift (.load mDz (rRow t (by omega)).toLoadRect (View.loadsAt_vmem h_S28x128))
  Prog.lift (.store mDz (rRow t (by omega)) (shapeCast S28x128 (mulf q (mulf z (subf c h))) shapeCasts_S28x128_S28x128) Finset.univ (View.stores_vmem_bits_univ h_S28x128 rfl) (.inl rfl))
  let _ ← Prog.lift (.load mDh (rRow t (by omega)).toLoadRect (View.loadsAt_vmem h_S28x128))
  Prog.lift (.store mDh (rRow t (by omega)) (shapeCast S28x128 (mulf (mulf g z) gp) shapeCasts_S28x128_S28x128) Finset.univ (View.stores_vmem_bits_univ h_S28x128 rfl) (.inl rfl))
  let _ ← Prog.lift (.load mAmax (Rect.unit (s := S384x128) ![8 * t, 0] S8x128.size (u2_inb (by omega) (by omega))).toLoadRect (View.loadsAt_vmem h_S8x128))
  Prog.lift (.store mAmax (Rect.unit (s := S384x128) ![8 * t, 0] S8x128.size (u2_inb (by omega) (by omega)))
    (shapeCast S8x128 (maximumf (maximumf (extractStridedSlice S8x128 ![0, 0] (mag (mulf q (mulf z (subf c h))) (mulf (mulf g z) gp)) slices_S28x128_o0_0_S8x128)
      (extractStridedSlice S8x128 ![8, 0] (mag (mulf q (mulf z (subf c h))) (mulf (mulf g z) gp)) slices_S28x128_o8_0_S8x128))
      (extractStridedSlice S8x128 ![16, 0] (mag (mulf q (mulf z (subf c h))) (mulf (mulf g z) gp)) slices_S28x128_o16_0_S8x128)) shapeCasts_S8x128_S8x128)
    Finset.univ (View.stores_vmem_bits_univ h_S8x128 rfl) (.inl rfl))
  let _ ← Prog.lift (.load mAmax (Rect.unit (s := S384x128) ![256 + 4 * t, 0] S4x128.size (u2_inb (by omega) (by omega))).toLoadRect (View.loadsAt_vmem h_S4x128))
  Prog.lift (.store mAmax (Rect.unit (s := S384x128) ![256 + 4 * t, 0] S4x128.size (u2_inb (by omega) (by omega)))
    (shapeCast S4x128 (extractStridedSlice S4x128 ![24, 0] (mag (mulf q (mulf z (subf c h))) (mulf (mulf g z) gp)) slices_S28x128_o24_0_S4x128) shapeCasts_S4x128_S4x128)
    Finset.univ (View.stores_vmem_bits_univ h_S4x128 rfl) (.inl rfl))
  pure (addf h (mulf z (subf c h)))

/-! ## The quantiser -/

/-- The largest magnitude of each of 32 tokens. -/
def amaxes : PG F (FVec F S32 .f32) := do
  let m0 : Vec F S32x128 .f32 ← Prog.lift (.load mAmax (lStr (i := 0) (n := 8) (by omega)) (View.loadsAt_vmem h_S32x128))
  let m ← runF 7 (fun i hi m => do
    let x : Vec F S32x128 .f32 ← Prog.lift (.load mAmax (lStr (i := i + 1) (n := 8) (by omega)) (View.loadsAt_vmem h_S32x128))
    pure (maximumf m x : FVec F S32x128 .f32)) m0
  let m ← runF 4 (fun i hi m => do
    let x : Vec F S32x128 .f32 ← Prog.lift (.load mAmax (lStr (i := 256 + i) (n := 4) (by omega)) (View.loadsAt_vmem h_S32x128))
    pure (maximumf m x : FVec F S32x128 .f32)) m
  pure (multiReduction .maximumf [1] S32 m 0xFF800000#32 reduces_S32x128_S32 (.inl rfl) rfl)

/-- The exponent field of each token's scale, counted. -/
def expField (m : FVec F S32 .f32) : IVec S32x1 32 :=
  shapeCast S32x1 (multiReductionI .add [1] S32
    (select (andi (cmpi .sgt (iota .tc S32x256 32 [1] iota_S32x256_d1_w32) (broadcast S32x256 0#32))
      (cmpf .oge (broadcastTo S32x256 (mulf (shapeCast S32x1 m shapeCasts_S32_S32x1 : FVec F S32x1 .f32) (broadcast S32x1 (Scalar.ofBits .f32 0x37924925#32))) broadcasts_S32x1_S32x256)
        (bitcastToFloat .f32 (shli (minsi (iota .tc S32x256 32 [1] iota_S32x256_d1_w32) (broadcast S32x256 253#32)) (broadcast S32x256 23#32)) : FVec F S32x256 .f32)))
      (broadcast S32x256 1#32) (broadcast S32x256 0#32)) 0#32 reduces_S32x256_S32 rfl) shapeCasts_S32_S32x1

/-- Each token's exponent. -/
def expo (m : FVec F S32 .f32) : IVec S32x1 32 :=
  select (ori (ori (cmpi .eq (expField m) (broadcast S32x1 0#32)) (cmpi .eq (expField m) (broadcast S32x1 255#32)))
    (cmpf .oeq (shapeCast S32x1 m shapeCasts_S32_S32x1 : FVec F S32x1 .f32) (broadcast S32x1 (Scalar.ofBits .f32 0x00000000#32))))
    (broadcast S32x1 0#32) (subi (expField m) (broadcast S32x1 126#32))

/-- Each token's scale. -/
def scaleOf (m : FVec F S32 .f32) : FVec F S32x128 .f32 :=
  broadcastTo S32x128 (shapeCast S32x1 (bitcastToFloat .f32 (shli (addi (expo m) (broadcast S32x1 127#32)) (broadcast S32x1 23#32)) : FVec F S32x1 .f32) shapeCasts_S32x1_S32x1) broadcasts_S32x1_S32x128
/-- and its inverse. -/
def invOf (m : FVec F S32 .f32) : FVec F S32x128 .f32 :=
  broadcastTo S32x128 (shapeCast S32x1 (bitcastToFloat .f32 (shli (subi (broadcast S32x1 127#32) (expo m)) (broadcast S32x1 23#32)) : FVec F S32x1 .f32) shapeCasts_S32x1_S32x1) broadcasts_S32x1_S32x128

/-- The codes of a lane tile. -/
def codeOf (v inv : FVec F S32x128 .f32) : FVec F S32x128 .fp8e5m2 :=
  truncf .fp8e5m2 (minimumf (broadcast S32x128 (Scalar.ofBits .f32 0x47600000#32)) (maximumf (broadcast S32x128 (Scalar.ofBits .f32 0xC7600000#32)) (mulf v inv))) bitsLt_fp8e5m2_f32

theorem packC : ∀ (b : Fin 2) (k : Fin 4) (j : Fin 56),
    (rTok 7168 b (fwdWord_lt k) (col := 128 * j) (by omega)).PackedRows (EltTy.packing .fp8e5m2) := by decide +kernel
theorem packA : ∀ (b : Fin 2) (k : Fin 4) (j : Fin 56),
    (rA b (fwdWord_lt k) (col := 128 * j) (by omega)).PackedRows (EltTy.packing .bf16) := by decide +kernel

/-- Quantise lane tile `j`, the gradients `v` read from their buffer, and store the codes and the operand of the product. -/
def tile (b : Fin 2) (k : Fin 4) (inv : FVec F S32x128 .f32) (v : Vec F S32x128 .f32) (j : Fin 56) : PG F PUnit := do
  let _ ← Prog.lift (.load mCodes (rTok 7168 b (fwdWord_lt k) (col := 128 * j) (by omega)).toLoadRect (View.loadsAt_vmem h_S1x32x128))
  Prog.lift (.store mCodes (rTok 7168 b (fwdWord_lt k) (col := 128 * j) (by omega))
    (shapeCast S1x32x128 (codeOf v inv) shapeCasts_S32x128_S1x32x128)
    Finset.univ (View.stores_vmem h_S1x32x128 ((Memref.isWhole_whole _).storeExact_slice rfl _ (packC b k j)) (fun _ => rfl)) (.inl rfl))
  let ws : Vec F S1x128 .f32 ← Prog.lift (.load mWs (Rect.unit (s := S56x128) ![(j : ℕ), 0] S1x128.size (u2_inb (by omega) (by omega))).toLoadRect (View.loadsAt_vmem h_S1x128))
  let _ ← Prog.lift (.load mA (rA b (fwdWord_lt k) (col := 128 * j) (by omega)).toLoadRect (View.loadsAt_vmem h_S32x128))
  Prog.lift (.store mA (rA b (fwdWord_lt k) (col := 128 * j) (by omega))
    (shapeCast S32x128 (mulf (extf .bf16 (codeOf v inv) bitsLt_fp8e5m2_bf16)
      (broadcastTo S32x128 (truncf .bf16 (ws : FVec F S1x128 .f32) bitsLt_bf16_f32) broadcasts_S1x128_S32x128)) shapeCasts_S32x128_S32x128)
    Finset.univ (View.stores_vmem h_S32x128 ((Memref.isWhole_whole _).storeExact_slice rfl _ (packA b k j)) (fun _ => rfl)) (.inl rfl))

/-- A trip of the forward loop. -/
def fwdTrip (b : Fin 2) (k : Fin 4) (h : FVec F S28x128 .f32) : PG F (FVec F S28x128 .f32) := do
  let ps : Vec F S1x32x128 .f32 ← Prog.lift (.load mPresL (rTok 128 b (fwdWord_lt k) (col := 0) (by omega)).toLoadRect (View.loadsAt_vmem h_S1x32x128))
  let _ ← runF 28 (fun g hg _ => fwdGate (shapeCast S32x128 ps shapeCasts_S1x32x128_S32x128) b (fwdWord_lt k) g hg) ⟨⟩
  let h ← runF 32 (fun t ht => fwdStep (fwdWord_lt k) t ht) h
  let m ← amaxes
  let _ ← Prog.lift (.load mDsc (rTok 128 b (fwdWord_lt k) (col := 0) (by omega)).toLoadRect (View.loadsAt_vmem h_S1x32x128))
  Prog.lift (.store mDsc (rTok 128 b (fwdWord_lt k) (col := 0) (by omega)) (shapeCast S1x32x128 (scaleOf m) shapeCasts_S32x128_S1x32x128)
    Finset.univ (View.stores_vmem_bits_univ h_S1x32x128 rfl) (.inl rfl))
  let _ ← runF 28 (fun g hg _ => do
    let v : Vec F S32x128 .f32 ← Prog.lift (.load mDz (lRow hg) (View.loadsAt_vmem h_S32x128))
    tile b k (invOf m) v ⟨g, by omega⟩) ⟨⟩
  let _ ← runF 28 (fun g hg _ => do
    let v : Vec F S32x128 .f32 ← Prog.lift (.load mDh (lRow hg) (View.loadsAt_vmem h_S32x128))
    tile b k (invOf m) v ⟨28 + g, by omega⟩) ⟨⟩
  pure h

/-! ## A batch -/

/-- The steps between the two scans of a batch: the gradient of the initial state out, the initial state in. -/
def between (b : Fin 2) (q : FVec F S28x128 .f32) : PG F (Vec F S28x128 .f32) := do
  let _ ← Prog.lift (.load mH rHw.toLoadRect (View.loadsAt_vmem h_S28x128))
  Prog.lift (.store mH rHw (shapeCast S28x128 q shapeCasts_S28x128_S28x128) Finset.univ (View.stores_vmem_bits_univ h_S28x128 rfl) (.inl rfl))
  let _ ← runF 28 (fun g hg _ => do
    let v : Vec F S1x128 .f32 ← Prog.lift (.load mH (rH hg).toLoadRect (View.loadsAt_vmem h_S1x128))
    let _ ← Prog.lift (.load mDh0 (rD b hg).toLoadRect (View.loadsAt_vmem h_S1x128))
    Prog.lift (.store mDh0 (rD b hg) (shapeCast S1x128 v shapeCasts_S1x128_S1x128) Finset.univ (View.stores_vmem_bits_univ h_S1x128 rfl) (.inl rfl))) ⟨⟩
  let _ ← runF 28 (fun g hg _ => do
    let v : Vec F S1x128 .f32 ← Prog.lift (.load mH0 (rD b hg).toLoadRect (View.loadsAt_vmem h_S1x128))
    let _ ← Prog.lift (.load mH (rH hg).toLoadRect (View.loadsAt_vmem h_S1x128))
    Prog.lift (.store mH (rH hg) (shapeCast S1x128 v shapeCasts_S1x128_S1x128) Finset.univ (View.stores_vmem_bits_univ h_S1x128 rfl) (.inl rfl))) ⟨⟩
  Prog.lift (.load mH rHw.toLoadRect (View.loadsAt_vmem h_S28x128))

/-- The batch's scales out. -/
def scalesOut (b : Fin 2) : PG F PUnit := do
  let s : Vec F S1x128x128 .f32 ← Prog.lift (.load mDsc (rB b).toLoadRect (View.loadsAt_vmem h_S1x128x128))
  let _ ← Prog.lift (.load mSc (rTokRow b).toLoadRect (View.loadsAt_vmem h_S1x128))
  Prog.lift (.store mSc (rTokRow b)
    (shapeCast S1x128 (extractStridedSlice S1x128 ![0, 0] (transpose S128x128 [1, 0] (shapeCast S128x128 s shapeCasts_S1x128x128_S128x128) transposes_S128x128_p1_0_S128x128 : FVec F S128x128 .f32) slices_S128x128_o0_0_S1x128) shapeCasts_S1x128_S1x128)
    Finset.univ (View.stores_vmem_bits_univ h_S1x128 rfl) (.inl rfl))

/-- The scans of a batch. -/
def batch (b : Fin 2) : PG F PUnit := do
  let q ← Scf.for 0#32 4#32 1#32 k0_t1_ok (broadcast S28x128 (Scalar.ofBits .f32 0x00000000#32)) fun k q => revTrip b (revWord_lt k) q
  let h ← between b q
  let _ ← Scf.for 0#32 4#32 1#32 k0_t1_ok h fun k h => fwdTrip b k h
  scalesOut b

/-! ## The launch of the kernel: its first copies -/

/-- Spread a row of scales along the lanes. -/
def spread (m : Memref sig .tc .vmem S2x128 .f32) (ml : Memref sig .tc .vmem S2x128x128 .f32) (b : Fin 2) : PG F PUnit := do
  let v : Vec F S1x128 .f32 ← Prog.lift (.load m (rTokRow b).toLoadRect (View.loadsAt_vmem h_S1x128))
  let _ ← Prog.lift (.load ml (rB b).toLoadRect (View.loadsAt_vmem h_S1x128x128))
  Prog.lift (.store ml (rB b)
    (shapeCast S1x128x128 (transpose S128x128 [1, 0] (broadcastTo S128x128 (shapeCast S1x128 v shapeCasts_S1x128_S1x128) broadcasts_S1x128_S128x128) transposes_S128x128_p1_0_S128x128 : FVec F S128x128 .f32) shapeCasts_S128x128_S1x128x128)
    Finset.univ (View.stores_vmem_bits_univ h_S1x128x128 rfl) (.inl rfl))

/-- All four spreads. -/
def spreads : PG F PUnit := do
  spread mDys mDysL 0
  spread mPres mPresL 0
  spread mDys mDysL 1
  spread mPres mPresL 1

/-! ## The copies -/

theorem s22 (i j : Fin 2) : ∀ a, (![(i : ℕ), (j : ℕ)] : Fin 2 → ℕ) a + S1x1.size a ≤ S2x2.size a := u2_inb (by omega) (by omega)
theorem s210 (i : Fin 2) (j : Fin 10) : ∀ a, (![(i : ℕ), (j : ℕ)] : Fin 2 → ℕ) a + S1x1.size a ≤ S2x10.size a := u2_inb (by omega) (by omega)
theorem s1 {n N : ℕ} (h : n < N) : ∀ a, (![n] : Fin 1 → ℕ) a + S1.size a ≤ (⟨1, ![N]⟩ : Shape).size a := by
  intro a; fin_cases a; exact h

/-- The semaphores. -/
abbrev semIn (b j : Fin 2) : DmaSem sig := ((cc0_scratch24.slice (Rect.unit (s := S2x2) ![(b : ℕ), (j : ℕ)] S1x1.size (s22 b j))).squeeze S_ squeezes_S1x1_S_).sem
abbrev semW (n : Fin 10) : DmaSem sig := ((cc0_scratch25.slice (Rect.unit (s := S10) ![(n : ℕ)] S1.size (s1 n.isLt))).squeeze S_ squeezes_S1_S_).sem
abbrev semSmall (i : Fin 4) : DmaSem sig := ((cc0_scratch26.slice (Rect.unit (s := S4) ![(i : ℕ)] S1.size (s1 i.isLt))).squeeze S_ squeezes_S1_S_).sem
abbrev semOut (i : Fin 3) : DmaSem sig := ((cc0_scratch27.slice (Rect.unit (s := S3) ![(i : ℕ)] S1.size (s1 i.isLt))).squeeze S_ squeezes_S1_S_).sem
abbrev semSt (b : Fin 2) (n : Fin 10) : DmaSem sig := ((cc0_scratch28.slice (Rect.unit (s := S2x10) ![(b : ℕ), (n : ℕ)] S1x1.size (s210 b n))).squeeze S_ squeezes_S1x1_S_).sem

theorem pre_inb (b : Fin 2) : ∀ a, (![(b : ℕ), 0, 0] : Fin 3 → ℕ) a + S1x128x7168.size a ≤ S2x128x7168.size a := u3_inb (M := 7168) (by omega)
theorem dy_inb (b : Fin 2) : ∀ a, (![(b : ℕ), 0, 0] : Fin 3 → ℕ) a + S1x128x3584.size a ≤ S2x128x3584.size a := u3_inb (M := 3584) (by omega)
theorem wd_inb (n : Fin 10) : ∀ a, (![(n : ℕ), 0, 0] : Fin 3 → ℕ) a + S1x7168x512.size a ≤ S10x7168x512.size a := u3_inb (M := 512) (by omega)
theorem ws_inb (n : Fin 10) : ∀ a, (![0, 512 * (n : ℕ)] : Fin 2 → ℕ) a + S7168x512.size a ≤ S7168x5120.size a := u2_inb (by omega) (by omega)
abbrev rPre (b : Fin 2) : Rect S2x128x7168 := Rect.unit (s := S2x128x7168) ![(b : ℕ), 0, 0] S1x128x7168.size (pre_inb b)
abbrev rDy (b : Fin 2) : Rect S2x128x3584 := Rect.unit (s := S2x128x3584) ![(b : ℕ), 0, 0] S1x128x3584.size (dy_inb b)
abbrev rWd (n : Fin 10) : Rect S10x7168x512 := Rect.unit (s := S10x7168x512) ![(n : ℕ), 0, 0] S1x7168x512.size (wd_inb n)
abbrev rWs (n : Fin 10) : Rect S7168x5120 := Rect.unit (s := S7168x5120) ![0, 512 * (n : ℕ)] S7168x512.size (ws_inb n)
theorem dx_inb (b : Fin 2) (n : Fin 10) : ∀ a, (![(b : ℕ), 0, 512 * (n : ℕ)] : Fin 3 → ℕ) a + S1x128x512.size a ≤ S2x128x5120.size a := by
  intro a; fin_cases a
  · show (b : ℕ) + 1 ≤ 2; omega
  · show 0 + 128 ≤ 128; omega
  · show 512 * (n : ℕ) + 512 ≤ 5120; omega
theorem st_inb (b : Fin 2) (n : Fin 10) : ∀ a, (![(n : ℕ), (b : ℕ), 0, 0] : Fin 4 → ℕ) a + S1x1x128x512.size a ≤ S10x2x128x512.size a := by
  intro a; fin_cases a
  · show (n : ℕ) + 1 ≤ 10; omega
  · show (b : ℕ) + 1 ≤ 2; omega
  · show 0 + 128 ≤ 128; omega
  · show 0 + 512 ≤ 512; omega
theorem tl_inb (b : Fin 2) (n : Fin 10) (j : Fin 4) : ∀ a, (![(n : ℕ), (b : ℕ), 0, 128 * (j : ℕ)] : Fin 4 → ℕ) a + S1x1x128x128.size a ≤ S10x2x128x512.size a := by
  intro a; fin_cases a
  · show (n : ℕ) + 1 ≤ 10; omega
  · show (b : ℕ) + 1 ≤ 2; omega
  · show 0 + 128 ≤ 128; omega
  · show 128 * (j : ℕ) + 128 ≤ 512; omega
abbrev rDx (b : Fin 2) (n : Fin 10) : Rect S2x128x5120 := Rect.unit (s := S2x128x5120) ![(b : ℕ), 0, 512 * (n : ℕ)] S1x128x512.size (dx_inb b n)
abbrev rSt (b : Fin 2) (n : Fin 10) : Rect S10x2x128x512 := Rect.unit (s := S10x2x128x512) ![(n : ℕ), (b : ℕ), 0, 0] S1x1x128x512.size (st_inb b n)
abbrev rTl (b : Fin 2) (n : Fin 10) (j : Fin 4) : Rect S10x2x128x512 := Rect.unit (s := S10x2x128x512) ![(n : ℕ), (b : ℕ), 0, 128 * (j : ℕ)] S1x1x128x128.size (tl_inb b n j)

theorem wwPre : ∀ b : Fin 2, (rPre b).WholeWords (EltTy.packing .fp8e4m3) := by decide +kernel
theorem wwDy : ∀ b : Fin 2, (rDy b).WholeWords (EltTy.packing .fp8e5m2) := by decide +kernel
theorem wwWd : ∀ n : Fin 10, (rWd n).WholeWords (EltTy.packing .fp8e4m3) := by decide +kernel
theorem wwWs : ∀ n : Fin 10, (rWs n).WholeWords (EltTy.packing .fp8e4m3) := by decide +kernel
theorem wwDx : ∀ (b : Fin 2) (n : Fin 10), (rDx b n).WholeWords (EltTy.packing .bf16) := by decide +kernel
theorem wwSt : ∀ (b : Fin 2) (n : Fin 10), (rSt b n).WholeWords (EltTy.packing .bf16) := by decide +kernel
theorem prTl : ∀ (b : Fin 2) (n : Fin 10) (j : Fin 4), (rTl b n j).PackedRows (EltTy.packing .bf16) := by decide +kernel

abbrev sPre (b : Fin 2) : Memref sig .tc .hbm S128x7168 .fp8e4m3 := (aPrec.slice (Rect.unit (s := S2x128x7168) ![(b : ℕ), 0, 0] S1x128x7168.size (pre_inb b)) (fun _ => rfl)).squeeze S128x7168 squeezes_S1x128x7168_S128x7168
abbrev dPre (b : Fin 2) : Memref sig .tc .vmem S128x7168 .fp8e4m3 := (mPrec.slice (Rect.unit (s := S2x128x7168) ![(b : ℕ), 0, 0] S1x128x7168.size (pre_inb b)) (fun _ => rfl)).squeeze S128x7168 squeezes_S1x128x7168_S128x7168
abbrev sDy (b : Fin 2) : Memref sig .tc .hbm S128x3584 .fp8e5m2 := (aDyc.slice (Rect.unit (s := S2x128x3584) ![(b : ℕ), 0, 0] S1x128x3584.size (dy_inb b)) (fun _ => rfl)).squeeze S128x3584 squeezes_S1x128x3584_S128x3584
abbrev dDy (b : Fin 2) : Memref sig .tc .vmem S128x3584 .fp8e5m2 := (mDyc.slice (Rect.unit (s := S2x128x3584) ![(b : ℕ), 0, 0] S1x128x3584.size (dy_inb b)) (fun _ => rfl)).squeeze S128x3584 squeezes_S1x128x3584_S128x3584
abbrev sW (n : Fin 10) : Memref sig .tc .hbm S7168x512 .fp8e4m3 := aW.slice (Rect.unit (s := S7168x5120) ![0, 512 * (n : ℕ)] S7168x512.size (ws_inb n)) (fun _ => rfl)
abbrev dW (n : Fin 10) : Memref sig .tc .vmem S7168x512 .fp8e4m3 := (mW.slice (Rect.unit (s := S10x7168x512) ![(n : ℕ), 0, 0] S1x7168x512.size (wd_inb n)) (fun _ => rfl)).squeeze S7168x512 squeezes_S1x7168x512_S7168x512
abbrev sSt (b : Fin 2) (n : Fin 10) : Memref sig .tc .vmem S128x512 .bf16 := (mStage.slice (Rect.unit (s := S10x2x128x512) ![(n : ℕ), (b : ℕ), 0, 0] S1x1x128x512.size (st_inb b n)) (fun _ => rfl)).squeeze S128x512 squeezes_S1x1x128x512_S128x512
abbrev dDx (b : Fin 2) (n : Fin 10) : Memref sig .tc .hbm S128x512 .bf16 := (oDx.slice (Rect.unit (s := S2x128x5120) ![(b : ℕ), 0, 512 * (n : ℕ)] S1x128x512.size (dx_inb b n)) (fun _ => rfl)).squeeze S128x512 squeezes_S1x128x512_S128x512

theorem wsPre (b : Fin 2) : (sPre b).view.WordExact := ((Memref.isWhole_whole _).wordExact_slice rfl _ (wwPre b)).reshape _ _
theorem wdPre (b : Fin 2) : (dPre b).view.WordExact := ((Memref.isWhole_whole _).wordExact_slice rfl _ (wwPre b)).reshape _ _
theorem wsDy (b : Fin 2) : (sDy b).view.WordExact := ((Memref.isWhole_whole _).wordExact_slice rfl _ (wwDy b)).reshape _ _
theorem wdDy (b : Fin 2) : (dDy b).view.WordExact := ((Memref.isWhole_whole _).wordExact_slice rfl _ (wwDy b)).reshape _ _
theorem wsW (n : Fin 10) : (sW n).view.WordExact := (Memref.isWhole_whole _).wordExact_slice rfl _ (wwWs n)
theorem wdW (n : Fin 10) : (dW n).view.WordExact := ((Memref.isWhole_whole _).wordExact_slice rfl _ (wwWd n)).reshape _ _
theorem wsSt (b : Fin 2) (n : Fin 10) : (sSt b n).view.WordExact := ((Memref.isWhole_whole _).wordExact_slice rfl _ (wwSt b n)).reshape _ _
theorem wdDx (b : Fin 2) (n : Fin 10) : (dDx b n).view.WordExact := ((Memref.isWhole_whole _).wordExact_slice rfl _ (wwDx b n)).reshape _ _
theorem wWhole (r : Ref sig .tc) : (Memref.whole r : Memref sig .tc _ _ _).view.WordExact := (Memref.isWhole_whole r).wordExact

/-- Start a copy within the core, -/
abbrev go {sp sp' : Space} {s : Shape} {e : EltTy} (src : Memref sig .tc sp s e) (dst : Memref sig .tc sp' s e) (sem : DmaSem sig)
    (hs : src.view.WordExact) (hd : dst.view.WordExact)
    (hx : (DmaTarget.here (nD := nD) (τ := τ) (p := (.tc : Proc τ)) dst).Typed sp (SemLoc.dma sem)) : PG F PUnit := Prog.lift (.enqueueDma src (.here dst) (.dma sem) hs hd hx)
/-- and wait for it. -/
abbrev fin {sp sp' : Space} {s : Shape} {e : EltTy} (src : Memref sig .tc sp s e) (dst : Memref sig .tc sp' s e) (sem : DmaSem sig)
    (hs : src.view.WordExact) (hd : dst.view.WordExact) : PG F PUnit := Prog.lift (.waitDma2 sem src dst hs hd)

/-- The copies of the small arguments started, -/
def smallsGo : PG F PUnit := do
  go aDys mDys (semSmall 0) (wWhole _) (wWhole _) ⟨Or.inl rfl, trivial⟩
  go aPres mPres (semSmall 1) (wWhole _) (wWhole _) ⟨Or.inl rfl, trivial⟩
  go aH0 mH0 (semSmall 2) (wWhole _) (wWhole _) ⟨Or.inl rfl, trivial⟩
  go aWs mWs (semSmall 3) (wWhole _) (wWhole _) ⟨Or.inl rfl, trivial⟩
/-- and awaited; -/
def smallsFin : PG F PUnit := do
  fin aDys mDys (semSmall 0) (wWhole _) (wWhole _)
  fin aPres mPres (semSmall 1) (wWhole _) (wWhole _)
  fin aH0 mH0 (semSmall 2) (wWhole _) (wWhole _)
  fin aWs mWs (semSmall 3) (wWhole _) (wWhole _)
/-- a batch's copies started -/
def insGo (b : Fin 2) : PG F PUnit := do
  go (sPre b) (dPre b) (semIn b 0) (wsPre b) (wdPre b) ⟨Or.inl rfl, trivial⟩
  go (sDy b) (dDy b) (semIn b 1) (wsDy b) (wdDy b) ⟨Or.inl rfl, trivial⟩
/-- and awaited; -/
def insFin (b : Fin 2) : PG F PUnit := do
  fin (sPre b) (dPre b) (semIn b 0) (wsPre b) (wdPre b)
  fin (sDy b) (dDy b) (semIn b 1) (wsDy b) (wdDy b)
/-- the weight blocks' copies started; -/
def wGo : PG F PUnit := runF 10 (fun n hn _ => go (sW ⟨n, hn⟩) (dW ⟨n, hn⟩) (semW ⟨n, hn⟩) (wsW _) (wdW _) ⟨Or.inl rfl, trivial⟩) ⟨⟩
/-- the three small results' copies started -/
def outsGo : PG F PUnit := do
  go mCodes oCodes (semOut 0) (wWhole _) (wWhole _) ⟨Or.inl rfl, trivial⟩
  go mSc oSc (semOut 1) (wWhole _) (wWhole _) ⟨Or.inl rfl, trivial⟩
  go mDh0 oDh0 (semOut 2) (wWhole _) (wWhole _) ⟨Or.inl rfl, trivial⟩
/-- and awaited. -/
def outsFin : PG F PUnit := do
  fin mCodes oCodes (semOut 0) (wWhole _) (wWhole _)
  fin mSc oSc (semOut 1) (wWhole _) (wWhole _)
  fin mDh0 oDh0 (semOut 2) (wWhole _) (wWhole _)

/-! ## The product -/

theorem sl_acc : ∀ (b : Fin 2) (j : Fin 4), S256x512.Slices ![128 * (b : ℕ), 128 * (j : ℕ)] S128x128 := by decide

/-- The lane tile `j` of a batch's rows of the product, scaled and stored to be copied out. -/
def dxTile (n : Fin 10) (b : Fin 2) (acc : FVec F S256x512 .f32) (s : FVec F S128x128 .f32) (j : Fin 4) : PG F PUnit := do
  let _ ← Prog.lift (.load mStage (rTl b n j).toLoadRect (View.loadsAt_vmem h_S1x1x128x128))
  Prog.lift (.store mStage (rTl b n j)
    (shapeCast S1x1x128x128 (truncf .bf16 (mulf (extractStridedSlice S128x128 ![128 * (b : ℕ), 128 * (j : ℕ)] acc (sl_acc b j)) s) bitsLt_bf16_f32 : FVec F S128x128 .bf16) shapeCasts_S128x128_S1x1x128x128)
    Finset.univ (View.stores_vmem h_S1x1x128x128 ((Memref.isWhole_whole _).storeExact_slice rfl _ (prTl b n j)) (fun _ => rfl)) (.inl rfl))

/-- A block of the product, computed. -/
def dxBlock (n : Fin 10) : PG F PUnit := do
  let a : Vec F S256x7168 .bf16 ← Prog.lift (.load mA (Rect.unit (s := S256x7168) ![0, 0] S256x7168.size inb_S256x7168_S256x7168_0_0).toLoadRect (View.loadsAt_vmem h_S256x7168))
  let w : Vec F S1x7168x512 .fp8e4m3 ← Prog.lift (.load mW (rWd n).toLoadRect (View.loadsAt_vmem h_S1x7168x512))
  let _ ← runF 2 (fun b hb _ => do
    let s : Vec F S1x128x128 .f32 ← Prog.lift (.load mDsc (rB ⟨b, hb⟩).toLoadRect (View.loadsAt_vmem h_S1x128x128))
    runF 4 (fun j hj _ => dxTile n ⟨b, hb⟩
      (matmul dot_S256x7168_S7168x512_S256x512_1_0_0_1_n_n none a (shapeCast S7168x512 w shapeCasts_S1x7168x512_S7168x512 : FVec F S7168x512 .fp8e4m3) (constant S256x512 .f32 0x00000000#32))
      (shapeCast S128x128 s shapeCasts_S1x128x128_S128x128) ⟨j, hj⟩) ⟨⟩) ⟨⟩

/-- A block of the product: its weights awaited, computed, its two copies out started. -/
def dxTrip (n : Fin 10) : PG F PUnit := do
  fin (sW n) (dW n) (semW n) (wsW _) (wdW _)
  dxBlock n
  go (sSt 0 n) (dDx 0 n) (semSt 0 n) (wsSt 0 n) (wdDx 0 n) ⟨Or.inl rfl, trivial⟩
  go (sSt 1 n) (dDx 1 n) (semSt 1 n) (wsSt 1 n) (wdDx 1 n) ⟨Or.inl rfl, trivial⟩

/-- A block's copies out awaited. -/
def dxFin (n : Fin 10) : PG F PUnit := do
  fin (sSt 0 n) (dDx 0 n) (semSt 0 n) (wsSt 0 n) (wdDx 0 n)
  fin (sSt 1 n) (dDx 1 n) (semSt 1 n) (wsSt 1 n) (wdDx 1 n)

/-- The kernel. -/
def prog : PG F PUnit := do
  smallsGo
  insGo 0
  insGo 1
  wGo
  smallsFin
  spreads
  insFin 0
  batch 0
  insFin 1
  batch 1
  outsGo
  let _ ← Scf.for 0#32 10#32 1#32 k0_t5_ok (⟨⟩ : PUnit) fun n _ => dxTrip n
  let _ ← Scf.for 0#32 10#32 1#32 k0_t5_ok (⟨⟩ : PUnit) fun n _ => dxFin n
  outsFin

end Cert.KernelIdeal
-- ==== Proof.KI.Eq.lean ====
module

public import proofs.«01_k».proof.Proof.KI.Prog
public import Idealize.ShloMosaic.Lib.Tactic

@[expose] public section

noncomputable section

namespace Cert.KernelIdeal

open Idealize.ShloMosaic Idealize.SL.Sem
open Shapes1.Facts₀ K0.Facts₀ Facts

variable {F : FTy → Type} [FloatOps F] [Named F]

/-- A trip of the product's loop as printed: the offsets are words of the trip. -/
def dxTripP (k0_t5 : Fin k0_t5_loop.trips) : PG F PUnit := do
  let ⟨v647, v659, v661, v678⟩ : Σ' (v647 : BitVec 32) (v659 : FVec F S256x512 .f32) (v661 : FVec F S128x128 .f32), FVec F S128x128 .bf16 ← k0_part235 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25 cc0_scratch26 cc0_scratch27 cc0_scratch28 (0#32) (1#32) k0_t5
  let v715 : FVec F S128x128 .bf16 ← k0_part236 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25 cc0_scratch26 cc0_scratch27 cc0_scratch28 k0_t5 v647 v659 v661 v678
  let v717 : Vec F S1x1x128x128 .bf16 ← Prog.lift (.load (Memref.whole cc0_scratch23) (Rect.unit (s := S10x2x128x512) (k0_off358 k0_t5) S1x1x128x128.size (k0_off358_inb k0_t5)).toLoadRect (View.loadsAt_vmem h_S1x1x128x128))
  have v718 : FVec F S128x128 .bf16 := shapeCast S128x128 v717 shapeCasts_S1x1x128x128_S128x128
  have v719 : FVec F S1x1x128x128 .bf16 := shapeCast S1x1x128x128 v715 shapeCasts_S128x128_S1x1x128x128
  Prog.lift (.store (Memref.whole cc0_scratch23) (Rect.unit (s := S10x2x128x512) (k0_off358 k0_t5) S1x1x128x128.size (k0_off358_inb k0_t5)) v719 Finset.univ (View.stores_vmem h_S1x1x128x128 ((Memref.isWhole_whole _).storeExact_slice rfl _ (k0_off358_packedbf16 k0_t5)) (fun _ => rfl)) (.inl rfl))
  let c512_i32_615 : BitVec 32 := 512#32
  let v722 : DmaSems sig S1x1 := cc0_scratch28.slice (Rect.unit (s := S2x10) (k0_off359 k0_t5) S1x1.size (k0_off359_inb k0_t5))
  let v723 : DmaSems sig S_ := v722.squeeze S_ squeezes_S1x1_S_
  let v724 : Memref sig .tc .hbm S1x128x512 .bf16 := (Memref.whole main_v1_0).slice (Rect.unit (s := S2x128x5120) (k0_off360 k0_t5) S1x128x512.size (k0_off360_inb k0_t5)) (fun _ => rfl)
  let v725 : Memref sig .tc .hbm S128x512 .bf16 := v724.squeeze S128x512 squeezes_S1x128x512_S128x512
  let v726 : Memref sig .tc .vmem S1x1x128x512 .bf16 := (Memref.whole cc0_scratch23).slice (Rect.unit (s := S10x2x128x512) (k0_off361 k0_t5) S1x1x128x512.size (k0_off361_inb k0_t5)) (fun _ => rfl)
  let v727 : Memref sig .tc .vmem S128x512 .bf16 := v726.squeeze S128x512 squeezes_S1x1x128x512_S128x512
  Prog.lift (.enqueueDma v727 (.here v725) (.dma v723.sem) (((Memref.isWhole_whole _).wordExact_slice rfl _ (k0_off361_wordsbf16 k0_t5)).reshape _ _) (((Memref.isWhole_whole _).wordExact_slice rfl _ (k0_off360_wordsbf16 k0_t5)).reshape _ _) ⟨Or.inl rfl, trivial⟩)
  let c512_i32_622 : BitVec 32 := 512#32
  let v730 : DmaSems sig S1x1 := cc0_scratch28.slice (Rect.unit (s := S2x10) (k0_off362 k0_t5) S1x1.size (k0_off362_inb k0_t5))
  let v731 : DmaSems sig S_ := v730.squeeze S_ squeezes_S1x1_S_
  let v732 : Memref sig .tc .hbm S1x128x512 .bf16 := (Memref.whole main_v1_0).slice (Rect.unit (s := S2x128x5120) (k0_off363 k0_t5) S1x128x512.size (k0_off363_inb k0_t5)) (fun _ => rfl)
  let v733 : Memref sig .tc .hbm S128x512 .bf16 := v732.squeeze S128x512 squeezes_S1x128x512_S128x512
  let v734 : Memref sig .tc .vmem S1x1x128x512 .bf16 := (Memref.whole cc0_scratch23).slice (Rect.unit (s := S10x2x128x512) (k0_off364 k0_t5) S1x1x128x512.size (k0_off364_inb k0_t5)) (fun _ => rfl)
  let v735 : Memref sig .tc .vmem S128x512 .bf16 := v734.squeeze S128x512 squeezes_S1x1x128x512_S128x512
  Prog.lift (.enqueueDma v735 (.here v733) (.dma v731.sem) (((Memref.isWhole_whole _).wordExact_slice rfl _ (k0_off364_wordsbf16 k0_t5)).reshape _ _) (((Memref.isWhole_whole _).wordExact_slice rfl _ (k0_off363_wordsbf16 k0_t5)).reshape _ _) ⟨Or.inl rfl, trivial⟩)
  pure ⟨⟩

/-- A trip of the last waits as printed. -/
def dxFinP (k0_t6 : Fin k0_t6_loop.trips) : PG F PUnit := do
  let arg40 : BitVec 32 := Scf.iv (0#32) (1#32) k0_t6
  let c1_i32_574 : BitVec 32 := 1#32
  let v646 : BitVec 32 := Scalar.muli arg40 c1_i32_574
  let c0_i32_575 : BitVec 32 := 0#32
  let v647 : BitVec 32 := Scalar.addi c0_i32_575 v646
  let c512_i32_576 : BitVec 32 := 512#32
  let v650 : DmaSems sig S1x1 := cc0_scratch28.slice (Rect.unit (s := S2x10) (k0_off365 k0_t6) S1x1.size (k0_off365_inb k0_t6))
  let v651 : DmaSems sig S_ := v650.squeeze S_ squeezes_S1x1_S_
  let v652 : Memref sig .tc .hbm S1x128x512 .bf16 := (Memref.whole main_v1_0).slice (Rect.unit (s := S2x128x5120) (k0_off366 k0_t6) S1x128x512.size (k0_off366_inb k0_t6)) (fun _ => rfl)
  let v653 : Memref sig .tc .hbm S128x512 .bf16 := v652.squeeze S128x512 squeezes_S1x128x512_S128x512
  let v654 : Memref sig .tc .vmem S1x1x128x512 .bf16 := (Memref.whole cc0_scratch23).slice (Rect.unit (s := S10x2x128x512) (k0_off367 k0_t6) S1x1x128x512.size (k0_off367_inb k0_t6)) (fun _ => rfl)
  let v655 : Memref sig .tc .vmem S128x512 .bf16 := v654.squeeze S128x512 squeezes_S1x1x128x512_S128x512
  Prog.lift (.waitDma2 v651.sem v655 v653 (((Memref.isWhole_whole _).wordExact_slice rfl _ (k0_off367_wordsbf16 k0_t6)).reshape _ _) (((Memref.isWhole_whole _).wordExact_slice rfl _ (k0_off366_wordsbf16 k0_t6)).reshape _ _))
  let c512_i32_583 : BitVec 32 := 512#32
  let v658 : DmaSems sig S1x1 := cc0_scratch28.slice (Rect.unit (s := S2x10) (k0_off368 k0_t6) S1x1.size (k0_off368_inb k0_t6))
  let v659 : DmaSems sig S_ := v658.squeeze S_ squeezes_S1x1_S_
  let v660 : Memref sig .tc .hbm S1x128x512 .bf16 := (Memref.whole main_v1_0).slice (Rect.unit (s := S2x128x5120) (k0_off369 k0_t6) S1x128x512.size (k0_off369_inb k0_t6)) (fun _ => rfl)
  let v661 : Memref sig .tc .hbm S128x512 .bf16 := v660.squeeze S128x512 squeezes_S1x128x512_S128x512
  let v662 : Memref sig .tc .vmem S1x1x128x512 .bf16 := (Memref.whole cc0_scratch23).slice (Rect.unit (s := S10x2x128x512) (k0_off370 k0_t6) S1x1x128x512.size (k0_off370_inb k0_t6)) (fun _ => rfl)
  let v663 : Memref sig .tc .vmem S128x512 .bf16 := v662.squeeze S128x512 squeezes_S1x1x128x512_S128x512
  Prog.lift (.waitDma2 v659.sem v663 v661 (((Memref.isWhole_whole _).wordExact_slice rfl _ (k0_off370_wordsbf16 k0_t6)).reshape _ _) (((Memref.isWhole_whole _).wordExact_slice rfl _ (k0_off369_wordsbf16 k0_t6)).reshape _ _))
  pure ⟨⟩

set_option maxHeartbeats 4000000 in
set_option maxRecDepth 100000 in
/-- The two agree at every trip. -/
theorem dxTripP_eq (k : Fin 10) : (dxTripP k : PG F PUnit) = dxTrip k := by
  obtain ⟨k, hk⟩ := k
  interval_cases k <;> sl_kernel_rfl

set_option maxHeartbeats 4000000 in
set_option maxRecDepth 100000 in
/-- And of the waits. -/
theorem dxFinP_eq (k : Fin 10) : (dxFinP k : PG F PUnit) = dxFin k := by
  obtain ⟨k, hk⟩ := k
  interval_cases k <;> sl_kernel_rfl

/-! ## The printed nesting

The printed kernel is cut into parts, and a loop inside a part is nested in the part's own sequence; the cuts are
named here, the nesting is undone by associativity. -/

abbrev for1 (b : Fin 2) : PG F (FVec F S28x128 .f32) :=
  Scf.for 0#32 4#32 1#32 k0_t1_ok (broadcast S28x128 (Scalar.ofBits .f32 0x00000000#32)) fun k q => revTrip b (revWord_lt k) q
abbrev for2 (b : Fin 2) (h : FVec F S28x128 .f32) : PG F (FVec F S28x128 .f32) :=
  Scf.for 0#32 4#32 1#32 k0_t1_ok h fun k h => fwdTrip b k h

/-- One copy of a row of the state to the result. -/
def dh0Row (b : Fin 2) (g : ℕ) (hg : g < 28) : PG F PUnit := do
  let v : Vec F S1x128 .f32 ← Prog.lift (.load mH (rH hg).toLoadRect (View.loadsAt_vmem h_S1x128))
  let _ ← Prog.lift (.load mDh0 (rD b hg).toLoadRect (View.loadsAt_vmem h_S1x128))
  Prog.lift (.store mDh0 (rD b hg) (shapeCast S1x128 v shapeCasts_S1x128_S1x128) Finset.univ (View.stores_vmem_bits_univ h_S1x128 rfl) (.inl rfl))
/-- One copy of a row of the initial state. -/
def h0Row (b : Fin 2) (g : ℕ) (hg : g < 28) : PG F PUnit := do
  let v : Vec F S1x128 .f32 ← Prog.lift (.load mH0 (rD b hg).toLoadRect (View.loadsAt_vmem h_S1x128))
  let _ ← Prog.lift (.load mH (rH hg).toLoadRect (View.loadsAt_vmem h_S1x128))
  Prog.lift (.store mH (rH hg) (shapeCast S1x128 v shapeCasts_S1x128_S1x128) Finset.univ (View.stores_vmem_bits_univ h_S1x128 rfl) (.inl rfl))

/-- The state stored, the first `n` rows copied. -/
def storeRows (b : Fin 2) (n : ℕ) (hn : n ≤ 28) (q : FVec F S28x128 .f32) : PG F PUnit := do
  let _ ← Prog.lift (.load mH rHw.toLoadRect (View.loadsAt_vmem h_S28x128))
  Prog.lift (.store mH rHw (shapeCast S28x128 q shapeCasts_S28x128_S28x128) Finset.univ (View.stores_vmem_bits_univ h_S28x128 rfl) (.inl rfl))
  runF n (fun g hg _ => dh0Row b g (by omega)) ⟨⟩
/-- The rows from `n` on, and the initial state in. -/
def restRows (b : Fin 2) (n : ℕ) : PG F (Vec F S28x128 .f32) := do
  let _ ← runF (28 - n) (fun g hg _ => dh0Row b (n + g) (by omega)) ⟨⟩
  let _ ← runF 28 (fun g hg _ => h0Row b g hg) ⟨⟩
  Prog.lift (.load mH rHw.toLoadRect (View.loadsAt_vmem h_S28x128))

def k260 (_ : FVec F S28x128 .f32) : PG F PUnit := do
  scalesOut 1
  outsGo
  let _ ← Scf.for 0#32 10#32 1#32 k0_t5_ok (⟨⟩ : PUnit) fun n _ => dxTripP n
  let _ ← Scf.for 0#32 10#32 1#32 k0_t5_ok (⟨⟩ : PUnit) fun n _ => dxFinP n
  pure ⟨⟩
def k251 (q : FVec F S28x128 .f32) : PG F (Vec F S1x128 .f32) := do
  storeRows 1 1 (by omega) q
  Prog.lift (.load mH (rH (g := 1) (by omega)).toLoadRect (View.loadsAt_vmem h_S1x128))
def r251 (v : Vec F S1x128 .f32) : PG F PUnit := do
  let _ ← Prog.lift (.load mDh0 (rD 1 (g := 1) (by omega)).toLoadRect (View.loadsAt_vmem h_S1x128))
  Prog.lift (.store mDh0 (rD 1 (g := 1) (by omega)) (shapeCast S1x128 v shapeCasts_S1x128_S1x128) Finset.univ (View.stores_vmem_bits_univ h_S1x128 rfl) (.inl rfl))
  let h ← restRows 1 2
  (for2 1 h >>= k260) >>= fun _ => outsFin
def k250 (_ : FVec F S28x128 .f32) : PG F (FVec F S1x128 .f32) := do
  let s : Vec F S1x128x128 .f32 ← Prog.lift (.load mDsc (rB 0).toLoadRect (View.loadsAt_vmem h_S1x128x128))
  pure (extractStridedSlice S1x128 ![0, 0] (transpose S128x128 [1, 0] (shapeCast S128x128 s shapeCasts_S1x128x128_S128x128) transposes_S128x128_p1_0_S128x128 : FVec F S128x128 .f32) slices_S128x128_o0_0_S1x128)
def r250 (v : FVec F S1x128 .f32) : PG F PUnit := do
  let _ ← Prog.lift (.load mSc (rTokRow 0).toLoadRect (View.loadsAt_vmem h_S1x128))
  Prog.lift (.store mSc (rTokRow 0) (shapeCast S1x128 v shapeCasts_S1x128_S1x128) Finset.univ (View.stores_vmem_bits_univ h_S1x128 rfl) (.inl rfl))
  insFin 1
  (for1 1 >>= k251) >>= r251
def k242 (q : FVec F S28x128 .f32) : PG F (Σ' (v162 : Vec F S1x128 .f32), Vec F S1x128 .f32) := do
  storeRows 0 4 (by omega) q
  let v ← Prog.lift (.load mH (rH (g := 4) (by omega)).toLoadRect (View.loadsAt_vmem h_S1x128))
  let w ← Prog.lift (.load mDh0 (rD 0 (g := 4) (by omega)).toLoadRect (View.loadsAt_vmem h_S1x128))
  pure ⟨v, w⟩
def r242 (p : Σ' (v162 : Vec F S1x128 .f32), Vec F S1x128 .f32) : PG F PUnit := do
  Prog.lift (.store mDh0 (rD 0 (g := 4) (by omega)) (shapeCast S1x128 p.1 shapeCasts_S1x128_S1x128) Finset.univ (View.stores_vmem_bits_univ h_S1x128 rfl) (.inl rfl))
  let h ← restRows 0 5
  (for2 0 h >>= k250) >>= r250

/-- The program, nested as printed. -/
def progP : PG F PUnit := do
  smallsGo
  insGo 0
  insGo 1
  wGo
  smallsFin
  spreads
  insFin 0
  (for1 0 >>= k242) >>= r242

theorem loop5 : (Scf.for 0#32 10#32 1#32 k0_t5_ok (⟨⟩ : PUnit) fun n _ => dxTripP n : PG F PUnit)
    = Scf.for 0#32 10#32 1#32 k0_t5_ok (⟨⟩ : PUnit) fun n _ => dxTrip n := by
  have h : (fun (n : Fin (Scf.trips 0#32 10#32 1#32)) (_ : PUnit) => (dxTripP n : PG F PUnit)) = fun n _ => dxTrip n := by
    funext n _; exact dxTripP_eq n
  exact congrArg (Scf.for 0#32 10#32 1#32 k0_t5_ok (⟨⟩ : PUnit)) h

theorem loop6 : (Scf.for 0#32 10#32 1#32 k0_t5_ok (⟨⟩ : PUnit) fun n _ => dxFinP n : PG F PUnit)
    = Scf.for 0#32 10#32 1#32 k0_t5_ok (⟨⟩ : PUnit) fun n _ => dxFin n := by
  have h : (fun (n : Fin (Scf.trips 0#32 10#32 1#32)) (_ : PUnit) => (dxFinP n : PG F PUnit)) = fun n _ => dxFin n := by
    funext n _; exact dxFinP_eq n
  exact congrArg (Scf.for 0#32 10#32 1#32 k0_t5_ok (⟨⟩ : PUnit)) h

/-- The end of the program. -/
def ending : PG F PUnit := do
  outsGo
  let _ ← Scf.for 0#32 10#32 1#32 k0_t5_ok (⟨⟩ : PUnit) fun n _ => dxTrip n
  let _ ← Scf.for 0#32 10#32 1#32 k0_t5_ok (⟨⟩ : PUnit) fun n _ => dxFin n
  outsFin

theorem levelA (h : FVec F S28x128 .f32) : ((for2 1 h >>= k260) >>= fun _ => outsFin)
    = (for2 1 h >>= fun _ => scalesOut 1 >>= fun _ => (ending : PG F PUnit)) := by
  unfold k260 ending
  rw [loop5, loop6]
  simp only [bind_assoc, pure_bind]

set_option maxHeartbeats 4000000 in
set_option maxRecDepth 100000 in
theorem midB (q : FVec F S28x128 .f32) (R : FVec F S28x128 .f32 → PG F PUnit) :
    (k251 q >>= fun v => do
      let _ ← Prog.lift (.load mDh0 (rD 1 (g := 1) (by omega)).toLoadRect (View.loadsAt_vmem h_S1x128))
      Prog.lift (.store mDh0 (rD 1 (g := 1) (by omega)) (shapeCast S1x128 v shapeCasts_S1x128_S1x128) Finset.univ (View.stores_vmem_bits_univ h_S1x128 rfl) (.inl rfl))
      let h ← restRows 1 2
      R h) = between 1 q >>= R := by sl_kernel_rfl

theorem batch_bind (b : Fin 2) (R : PG F PUnit) : ((batch b : PG F PUnit) >>= fun _ => R)
    = for1 b >>= fun q => between b q >>= fun h => for2 b h >>= fun _ => scalesOut b >>= fun _ => R := by
  unfold batch
  simp only [bind_assoc]

theorem levelB : ((for1 1 >>= k251) >>= r251) = ((batch 1 : PG F PUnit) >>= fun _ => ending) := by
  have h : r251 (F := F) = fun v => (do
      let _ ← Prog.lift (.load mDh0 (rD 1 (g := 1) (by omega)).toLoadRect (View.loadsAt_vmem h_S1x128))
      Prog.lift (.store mDh0 (rD 1 (g := 1) (by omega)) (shapeCast S1x128 v shapeCasts_S1x128_S1x128) Finset.univ (View.stores_vmem_bits_univ h_S1x128 rfl) (.inl rfl))
      let h ← restRows 1 2
      (for2 1 h >>= fun _ => scalesOut 1 >>= fun _ => (ending : PG F PUnit))) := by
    funext v; unfold r251; simp only [levelA]
  rw [h, bind_assoc, batch_bind]
  exact congrArg (for1 1 >>= ·) (funext fun q => midB q _)

set_option maxHeartbeats 4000000 in
set_option maxRecDepth 100000 in
theorem midC (h : FVec F S28x128 .f32) (R : PG F PUnit) : (k250 h >>= fun v => do
      let _ ← Prog.lift (.load mSc (rTokRow 0).toLoadRect (View.loadsAt_vmem h_S1x128))
      Prog.lift (.store mSc (rTokRow 0) (shapeCast S1x128 v shapeCasts_S1x128_S1x128) Finset.univ (View.stores_vmem_bits_univ h_S1x128 rfl) (.inl rfl))
      insFin 1
      R) = scalesOut 0 >>= fun _ => insFin 1 >>= fun _ => R := by sl_kernel_rfl

theorem levelC (h : FVec F S28x128 .f32) : ((for2 0 h >>= k250) >>= r250)
    = (for2 0 h >>= fun _ => scalesOut 0 >>= fun _ => insFin 1 >>= fun _ => (batch 1 : PG F PUnit) >>= fun _ => ending) := by
  unfold r250
  rw [levelB, bind_assoc]
  exact congrArg (for2 0 h >>= ·) (funext fun q => midC q _)

set_option maxHeartbeats 4000000 in
set_option maxRecDepth 100000 in
theorem midD (q : FVec F S28x128 .f32) (R : FVec F S28x128 .f32 → PG F PUnit) :
    (k242 q >>= fun p => do
      Prog.lift (.store mDh0 (rD 0 (g := 4) (by omega)) (shapeCast S1x128 p.1 shapeCasts_S1x128_S1x128) Finset.univ (View.stores_vmem_bits_univ h_S1x128 rfl) (.inl rfl))
      let h ← restRows 0 5
      R h) = between 0 q >>= R := by sl_kernel_rfl

theorem progP_eq : (progP : PG F PUnit) = prog := by
  have hD : ((for1 0 >>= k242) >>= r242) = ((batch 0 : PG F PUnit) >>= fun _ => insFin 1 >>= fun _ => (batch 1 : PG F PUnit) >>= fun _ => ending) := by
    have : r242 (F := F) = fun p => (do
      Prog.lift (.store mDh0 (rD 0 (g := 4) (by omega)) (shapeCast S1x128 p.1 shapeCasts_S1x128_S1x128) Finset.univ (View.stores_vmem_bits_univ h_S1x128 rfl) (.inl rfl))
      let h ← restRows 0 5
      (for2 0 h >>= fun _ => scalesOut 0 >>= fun _ => insFin 1 >>= fun _ => (batch 1 : PG F PUnit) >>= fun _ => ending)) := by
      funext p; unfold r242; simp only [levelC]
    rw [this, bind_assoc]
    refine (congrArg (for1 0 >>= ·) (funext fun q => midD q _)).trans ?_
    exact (batch_bind 0 _).symm
  unfold progP prog
  rw [hD]
  rfl

set_option maxRecDepth 100000 in
set_option maxHeartbeats 4000000 in
/-- The printed kernel is the program of `Prog.lean`. -/
theorem printed_eqP : (cc0_mingru_bwd (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25 cc0_scratch26 cc0_scratch27 cc0_scratch28 : PG F PUnit) = progP := by sl_kernel_rfl

theorem printed_eq : (cc0_mingru_bwd (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25 cc0_scratch26 cc0_scratch27 cc0_scratch28 : PG F PUnit) = prog := printed_eqP.trans progP_eq

end Cert.KernelIdeal
-- ==== Proof.KI.Spec.lean ====
module

public import proofs.«01_k».proof.Proof.KI.Eq
public import Idealize.ShloMosaic.Lib.Pointwise.Index
public import Idealize.ShloMosaic.Lib.Pipeline.Value

@[expose] public section

noncomputable section

namespace Cert.KernelIdeal

open Idealize.ShloMosaic Idealize.ShloMosaic.TcCoe Idealize.SL.Sem
open Shapes1.Facts₀ K0.Facts₀ Facts

variable {F : FTy → Type} [FloatOps F] [Named F]

/-! ## Indices by numbers -/

/-- The index at two numbers, -/
def n2 {A B : ℕ} [NeZero A] [NeZero B] (i j : ℕ) : (⟨2, ![A, B]⟩ : Shape).Idx := ix2 (Fin.ofNat A i) (Fin.ofNat B j)
/-- at three. -/
def n3 {A B C : ℕ} [NeZero A] [NeZero B] [NeZero C] (i j k : ℕ) : (⟨3, ![A, B, C]⟩ : Shape).Idx :=
  ix3 (Fin.ofNat A i) (Fin.ofNat B j) (Fin.ofNat C k)

theorem eq_n2 {A B : ℕ} [NeZero A] [NeZero B] {x : (⟨2, ![A, B]⟩ : Shape).Idx} {i j : ℕ} (h0 : (x 0).val = i) (h1 : (x 1).val = j) : x = n2 i j := by
  subst h0 h1
  funext a
  fin_cases a
  · exact Fin.ext (Nat.mod_eq_of_lt (x 0).isLt).symm
  · exact Fin.ext (Nat.mod_eq_of_lt (x 1).isLt).symm
theorem eq_n3 {A B C : ℕ} [NeZero A] [NeZero B] [NeZero C] {x : (⟨3, ![A, B, C]⟩ : Shape).Idx} {i j k : ℕ}
    (h0 : (x 0).val = i) (h1 : (x 1).val = j) (h2 : (x 2).val = k) : x = n3 i j k := by
  subst h0 h1 h2
  funext a
  fin_cases a
  · exact Fin.ext (Nat.mod_eq_of_lt (x 0).isLt).symm
  · exact Fin.ext (Nat.mod_eq_of_lt (x 1).isLt).symm
  · exact Fin.ext (Nat.mod_eq_of_lt (x 2).isLt).symm
theorem n2_0 {A B : ℕ} [NeZero A] [NeZero B] {i j : ℕ} (h : i < A) : ((n2 i j : (⟨2, ![A, B]⟩ : Shape).Idx) 0).val = i := Nat.mod_eq_of_lt h
theorem n2_1 {A B : ℕ} [NeZero A] [NeZero B] {i j : ℕ} (h : j < B) : ((n2 i j : (⟨2, ![A, B]⟩ : Shape).Idx) 1).val = j := Nat.mod_eq_of_lt h
theorem n3_0 {A B C : ℕ} [NeZero A] [NeZero B] [NeZero C] {i j k : ℕ} (h : i < A) : ((n3 i j k : (⟨3, ![A, B, C]⟩ : Shape).Idx) 0).val = i := Nat.mod_eq_of_lt h
theorem n3_1 {A B C : ℕ} [NeZero A] [NeZero B] [NeZero C] {i j k : ℕ} (h : j < B) : ((n3 i j k : (⟨3, ![A, B, C]⟩ : Shape).Idx) 1).val = j := Nat.mod_eq_of_lt h
theorem n3_2 {A B C : ℕ} [NeZero A] [NeZero B] [NeZero C] {i j k : ℕ} (h : k < C) : ((n3 i j k : (⟨3, ![A, B, C]⟩ : Shape).Idx) 2).val = k := Nat.mod_eq_of_lt h

theorem dropU {α : Type} {A B : ℕ} [NeZero A] [NeZero B] (v : (⟨3, ![1, A, B]⟩ : Shape).Idx → α) (h : (⟨3, ![1, A, B]⟩ : Shape).ShapeCasts ⟨2, ![A, B]⟩)
    (x : (⟨2, ![A, B]⟩ : Shape).Idx) : shapeCast ⟨2, ![A, B]⟩ v h x = v (n3 0 (x 0) (x 1)) := by
  refine (shapeCast_dropUnit_apply ![A, B] v h x).trans (congrArg v (eq_n3 ?_ ?_ ?_)) <;> rfl
theorem addU {α : Type} {A B : ℕ} [NeZero A] [NeZero B] (v : (⟨2, ![A, B]⟩ : Shape).Idx → α) (h : (⟨2, ![A, B]⟩ : Shape).ShapeCasts ⟨3, ![1, A, B]⟩)
    (x : (⟨3, ![1, A, B]⟩ : Shape).Idx) : shapeCast ⟨3, ![1, A, B]⟩ v h x = v (n2 (x 1) (x 2)) := by
  refine (shapeCast_addUnit_apply ![A, B] v h x).trans (congrArg v (eq_n2 ?_ ?_)) <;> rfl

/-! ## What a store leaves -/

theorem st_ind {s : Shape} {α : Type} (r : LoadRect s) (w : r.shape.Idx → α) (f : s.Idx → α) (i : s.Idx) (P : α → Prop)
    (hs : ∀ a, 0 < r.stride a)
    (hit : ∀ y : r.shape.Idx, (∀ a, (i a : ℕ) = r.off a + r.stride a * y a) → P (w y))
    (miss : ¬ (∀ a, r.off a ≤ i a ∧ (i a - r.off a) % r.stride a = 0 ∧ (i a - r.off a) / r.stride a < r.size a) → P (f i)) : P (st r w f i) := by
  unfold st
  split
  · next h =>
    refine hit _ fun a => ?_
    have h1 := h a
    show (i a : ℕ) = r.off a + r.stride a * ((i a - r.off a) / r.stride a)
    rw [Nat.mul_div_cancel' (Nat.dvd_of_mod_eq_zero h1.2.1)]; omega
  · next h => exact miss h

/-- At rank two, the rectangle by numbers. -/
theorem st2 {A B : ℕ} {α : Type} (r : LoadRect (⟨2, ![A, B]⟩ : Shape)) (w : r.shape.Idx → α) (f : (⟨2, ![A, B]⟩ : Shape).Idx → α) (i : (⟨2, ![A, B]⟩ : Shape).Idx) (P : α → Prop)
    (o0 s0 z0 o1 s1 z1 : ℕ) (h0 : r.off 0 = o0 ∧ r.stride 0 = s0 ∧ r.size 0 = z0) (h1 : r.off 1 = o1 ∧ r.stride 1 = s1 ∧ r.size 1 = z1)
    (hs : 0 < s0 ∧ 0 < s1)
    (hit : ∀ y : r.shape.Idx, (i 0 : ℕ) = o0 + s0 * y 0 → (i 1 : ℕ) = o1 + s1 * y 1 → P (w y))
    (miss : ¬ ((o0 ≤ (i 0 : ℕ) ∧ ((i 0 : ℕ) - o0) % s0 = 0 ∧ ((i 0 : ℕ) - o0) / s0 < z0) ∧ (o1 ≤ (i 1 : ℕ) ∧ ((i 1 : ℕ) - o1) % s1 = 0 ∧ ((i 1 : ℕ) - o1) / s1 < z1)) → P (f i)) :
    P (st r w f i) := by
  obtain ⟨rfl, rfl, rfl⟩ := h0
  obtain ⟨rfl, rfl, rfl⟩ := h1
  refine st_ind r w f i P (Fin.forall_fin_two.mpr hs) (fun y hy => hit y (hy 0) (hy 1)) fun h => miss fun h' => h (Fin.forall_fin_two.mpr h')

/-- At rank three, unit strides. -/
theorem st3 {A B C : ℕ} {α : Type} (r : Rect (⟨3, ![A, B, C]⟩ : Shape)) (w : r.shape.Idx → α) (f : (⟨3, ![A, B, C]⟩ : Shape).Idx → α) (i : (⟨3, ![A, B, C]⟩ : Shape).Idx) (P : α → Prop)
    (o0 z0 o1 z1 o2 z2 : ℕ) (h0 : r.off 0 = o0 ∧ r.size 0 = z0) (h1 : r.off 1 = o1 ∧ r.size 1 = z1) (h2 : r.off 2 = o2 ∧ r.size 2 = z2)
    (hs : ∀ a, r.stride a = 1)
    (hit : ∀ y : r.shape.Idx, (i 0 : ℕ) = o0 + y 0 → (i 1 : ℕ) = o1 + y 1 → (i 2 : ℕ) = o2 + y 2 → P (w y))
    (miss : ¬ ((o0 ≤ (i 0 : ℕ) ∧ (i 0 : ℕ) < o0 + z0) ∧ (o1 ≤ (i 1 : ℕ) ∧ (i 1 : ℕ) < o1 + z1) ∧ (o2 ≤ (i 2 : ℕ) ∧ (i 2 : ℕ) < o2 + z2)) → P (f i)) :
    P (st r.toLoadRect w f i) := by
  obtain ⟨rfl, rfl⟩ := h0
  obtain ⟨rfl, rfl⟩ := h1
  obtain ⟨rfl, rfl⟩ := h2
  refine st_ind r.toLoadRect w f i P (fun a => (hs a).symm ▸ Nat.one_pos) (fun y hy => hit y ?_ ?_ ?_) fun h => miss fun h' => h fun a => ?_
  · rw [hy 0, hs 0, Nat.one_mul]
  · rw [hy 1, hs 1, Nat.one_mul]
  · rw [hy 2, hs 2, Nat.one_mul]
  · rw [hs a, Nat.mod_one, Nat.div_one]
    have h' := h'
    fin_cases a
    · exact ⟨h'.1.1, rfl, by show (i 0 : ℕ) - r.off 0 < r.size 0; omega⟩
    · exact ⟨h'.2.1.1, rfl, by show (i 1 : ℕ) - r.off 1 < r.size 1; omega⟩
    · exact ⟨h'.2.2.1, rfl, by show (i 2 : ℕ) - r.off 2 < r.size 2; omega⟩

/-! ## The kernel's arithmetic, element by element -/

/-- The kernel's inputs. -/
structure Inp (F : FTy → Type) where
  dyc : S2x128x3584.Idx → F .fp8e5m2
  dys : S2x128.Idx → F .f32
  prec : S2x128x7168.Idx → F .fp8e4m3
  pres : S2x128.Idx → F .f32
  h0 : S2x3584.Idx → F .f32
  w : S7168x5120.Idx → F .fp8e4m3
  ws : S56x128.Idx → F .f32

abbrev oneF : F .f32 := Scalar.ofBits .f32 0x3F800000#32
abbrev zeroF : F .f32 := Scalar.ofBits .f32 0x00000000#32
abbrev negL : F .f32 := Named.named κ "neg_log2e" 0xBFB8AA3B#32

/-- The logistic function by `exp2`, of an argument already scaled. -/
abbrev logi (p : F .f32) : F .f32 := FloatOps.divf oneF (FloatOps.addf oneF (FloatOps.exp2 p))

variable (X : Inp F)

/-- A preactivation's code. -/
abbrev preF (b t e : ℕ) : F .f32 := FloatOps.extf .f32 bitsLt_fp8e4m3_f32 (X.prec (n3 b t e))
/-- The update gate. -/
def zE (b t d : ℕ) : F .f32 := logi (FloatOps.mulf (preF X b t d) (FloatOps.mulf (X.pres (n2 b t)) negL))
/-- The gradient coming in. -/
def dyE (b t d : ℕ) : F .f32 := FloatOps.mulf (FloatOps.extf .f32 bitsLt_fp8e5m2_f32 (X.dyc (n3 b t d))) (X.dys (n2 b t))
/-- The candidate's preactivation, -/
def paE (b t d : ℕ) : F .f32 := FloatOps.mulf (preF X b t (3584 + d)) (X.pres (n2 b t))
def posE (b t d : ℕ) : BitVec 1 := FloatOps.cmpf .oge (paE X b t d) zeroF
def sgE (b t d : ℕ) : F .f32 := logi (FloatOps.mulf (paE X b t d) negL)
/-- the candidate -/
def htE (b t d : ℕ) : F .f32 := Scalar.select (posE X b t d) (FloatOps.addf (paE X b t d) (Scalar.ofBits .f32 0x3F000000#32)) (sgE X b t d)
/-- and its derivative. -/
def gpE (b t d : ℕ) : F .f32 := Scalar.select (posE X b t d) oneF (FloatOps.mulf (sgE X b t d) (FloatOps.subf oneF (sgE X b t d)))
/-- The gradient carried back over the last `n` tokens. -/
def QE (b d : ℕ) : ℕ → F .f32
  | 0 => zeroF
  | n + 1 => FloatOps.mulf (FloatOps.subf oneF (zE X b (127 - n) d)) (FloatOps.addf (dyE X b (127 - n) d) (QE b d n))
/-- The state before token `t`. -/
def HE (b d : ℕ) : ℕ → F .f32
  | 0 => X.h0 (n2 b d)
  | t + 1 => FloatOps.addf (HE b d t) (FloatOps.mulf (zE X b t d) (FloatOps.subf (htE X b t d) (HE b d t)))
/-- The state's gradient at token `t`. -/
def GE (b t d : ℕ) : F .f32 := FloatOps.addf (dyE X b t d) (QE X b d (127 - t))
/-- The gradients of the two preactivations. -/
def DZ (b t d : ℕ) : F .f32 := FloatOps.mulf (QE X b d (128 - t)) (FloatOps.mulf (zE X b t d) (FloatOps.subf (htE X b t d) (HE X b d t)))
def DH (b t d : ℕ) : F .f32 := FloatOps.mulf (FloatOps.mulf (GE X b t d) (zE X b t d)) (gpE X b t d)
def DP (b t e : ℕ) : F .f32 := if e < 3584 then DZ X b t e else DH X b t (e - 3584)
/-- The larger magnitude of a feature's two. -/
def MG (b t g l : ℕ) : F .f32 := FloatOps.maximumf (FloatOps.absf (DZ X b t (128 * g + l))) (FloatOps.absf (DH X b t (128 * g + l)))
/-- Folded over the lane tiles, in the kernel's order. -/
def am8 (b c i : ℕ) : FVec F S32x128 .f32 := fun x =>
  FloatOps.maximumf (FloatOps.maximumf (MG X b (32 * c + x 0) i (x 1)) (MG X b (32 * c + x 0) (8 + i) (x 1))) (MG X b (32 * c + x 0) (16 + i) (x 1))
def am4 (b c i : ℕ) : FVec F S32x128 .f32 := fun x => MG X b (32 * c + x 0) (24 + i) (x 1)
def amA (b c : ℕ) : ℕ → FVec F S32x128 .f32
  | 0 => am8 X b c 0
  | n + 1 => maximumf (amA b c n) (am8 X b c (n + 1))
def amB (b c : ℕ) : ℕ → FVec F S32x128 .f32
  | 0 => amA X b c 7
  | n + 1 => maximumf (amB b c n) (am4 X b c n)
/-- A chunk's largest magnitudes. -/
def amV (b c : ℕ) : FVec F S32 .f32 := multiReduction .maximumf [1] S32 (amB X b c 4) 0xFF800000#32 reduces_S32x128_S32 (.inl rfl) rfl
/-- A token's scale and its inverse. -/
def SC (b t : ℕ) : F .f32 := scaleOf (amV X b (t / 32)) (n2 (t % 32) 0)
def IV (b t : ℕ) : F .f32 := invOf (amV X b (t / 32)) (n2 (t % 32) 0)
/-- The codes. -/
def CO (b t e : ℕ) : F .fp8e5m2 := FloatOps.truncf .fp8e5m2 bitsLt_fp8e5m2_f32
  (FloatOps.minimumf (Scalar.ofBits .f32 0x47600000#32) (FloatOps.maximumf (Scalar.ofBits .f32 0xC7600000#32) (FloatOps.mulf (DP X b t e) (IV X b t))))
/-- The product's operand. -/
def AE (b t e : ℕ) : F .bf16 := FloatOps.mulf (FloatOps.extf .bf16 bitsLt_fp8e5m2_bf16 (CO X b t e)) (FloatOps.truncf .bf16 bitsLt_bf16_f32 (X.ws (n2 (e / 128) (e % 128))))
def AV : FVec F S256x7168 .bf16 := fun i => AE X (i 0 / 128) (i 0 % 128) (i 1)
/-- A block of the weights. -/
def WB (n : ℕ) : FVec F S7168x512 .fp8e4m3 := fun i => X.w (n2 (i 0) (512 * n + i 1))
/-- A block of the product. -/
def MM' (n : ℕ) : FVec F S256x512 .f32 := matmul dot_S256x7168_S7168x512_S256x512_1_0_0_1_n_n none (AV X) (WB X n) (constant S256x512 .f32 0x00000000#32)
/-- The first result. -/
def DX (b t e : ℕ) : F .bf16 := FloatOps.truncf .bf16 bitsLt_bf16_f32 (FloatOps.mulf (MM' X (e / 512) (n2 (128 * b + t) (e % 512))) (SC X b t))

/-- A row of the state by features. -/
abbrev vecE (f : ℕ → F .f32) : FVec F S28x128 .f32 := fun x => f (128 * x 0 + x 1)

theorem scale_row (m : FVec F S32 .f32) (x : S32x128.Idx) : scaleOf m x = scaleOf m (n2 (x 0) 0) := by
  unfold scaleOf broadcastTo
  refine congrArg _ (funext fun a => Fin.ext ?_)
  fin_cases a
  · exact (Nat.mod_eq_of_lt (x 0).isLt).symm
  · rfl
theorem inv_row (m : FVec F S32 .f32) (x : S32x128.Idx) : invOf m x = invOf m (n2 (x 0) 0) := by
  unfold invOf broadcastTo
  refine congrArg _ (funext fun a => Fin.ext ?_)
  fin_cases a
  · exact (Nat.mod_eq_of_lt (x 0).isLt).symm
  · rfl

/-! ## Triples with the values given -/

variable {c : Dev nD} {L : Finset (Fin 24)} {I : Own} {α β : Type}

/-- The buffers outside `S` are as they were. -/
def Keep (S : List (Fin 24)) (σ σ' : Mem F) : Prop := ∀ n, n ∉ S → σ' n = σ n

theorem Keep.refl (S : List (Fin 24)) (σ : Mem F) : Keep S σ σ := fun _ _ => rfl
theorem Keep.trans {S : List (Fin 24)} {σ σ' σ'' : Mem F} (h : Keep S σ σ') (h' : Keep S σ' σ'') : Keep S σ σ'' := fun n hn => (h' n hn).trans (h n hn)
theorem Keep.mono {S S' : List (Fin 24)} {σ σ' : Mem F} (h : Keep S σ σ') (hs : ∀ n ∈ S, n ∈ S') : Keep S' σ σ' := fun n hn => h n fun h' => hn (hs n h')

theorem T_ld (n : Fin 24) {r : LoadRect (bref n).ty.shape} {hl : (Memref.whole (bref n) : Memref sig .tc .vmem _ _).view.LoadsAt r}
    {k : (r.shape.Idx → Elt F (bref n).ty.elt) → PG F β} {σ : Mem F} {Ψ : β → Mem F → Prop} (v : r.shape.Idx → Elt F (bref n).ty.elt) (hn : n ∈ L)
    (hr : ∀ x, r.idx x ∈ I n) (hv : ∀ x, σ n (r.idx x) = v x) (hk : T c L I (k v) σ Ψ) :
    T c L I (Prog.lift (.load (Memref.whole (bref n) : Memref sig .tc .vmem _ _) r hl) >>= k) σ Ψ := by
  refine T_load n hn hr ?_
  rw [show (fun x => σ n (r.idx x)) = v from funext hv]
  exact hk

theorem T_ldE (n : Fin 24) {r : LoadRect (bref n).ty.shape} {hl : (Memref.whole (bref n) : Memref sig .tc .vmem _ _).view.LoadsAt r}
    {σ : Mem F} {Ψ : (r.shape.Idx → Elt F (bref n).ty.elt) → Mem F → Prop} (hn : n ∈ L)
    (hr : ∀ x, r.idx x ∈ I n) (hk : Ψ (fun x => σ n (r.idx x)) σ) :
    T c L I (Prog.lift (.load (Memref.whole (bref n) : Memref sig .tc .vmem _ _) r hl)) σ Ψ :=
  T_load n hn hr (T_ret hk)

theorem T_sk (n : Fin 24) {r : LoadRect (bref n).ty.shape} {hl : (Memref.whole (bref n) : Memref sig .tc .vmem _ _).view.LoadsAt r}
    {k : (r.shape.Idx → Elt F (bref n).ty.elt) → PG F β} {σ : Mem F} {Ψ : β → Mem F → Prop} (hn : n ∈ L)
    (hr : ∀ x, r.idx x ∈ I n) (hk : ∀ v, T c L I (k v) σ Ψ) :
    T c L I (Prog.lift (.load (Memref.whole (bref n) : Memref sig .tc .vmem _ _) r hl) >>= k) σ Ψ :=
  T_load n hn hr (hk _)

theorem T_st (n : Fin 24) {r : Rect (bref n).ty.shape} {w : r.shape.Idx → Elt F (bref n).ty.elt}
    {hx : ((Memref.whole (bref n) : Memref sig .tc .vmem _ _).access r).Stores Finset.univ} {hm : Finset.univ = Finset.univ ∨ ∀ a, r.stride a = 1}
    {k : PUnit → PG F β} {σ : Mem F} {Ψ : β → Mem F → Prop} (hn : n ∈ L) (hr : ∀ x, r.idx x ∈ I n)
    (hk : ∀ σ', Keep [n] σ σ' → σ' n = st r.toLoadRect w (σ n) → T c L I (k ⟨⟩) σ' Ψ) :
    T c L I (Prog.lift (.store (Memref.whole (bref n) : Memref sig .tc .vmem _ _) r w Finset.univ hx hm) >>= k) σ Ψ :=
  T_store n hn hr (hk _ (fun k hk => upd_ne σ (fun e => hk (List.mem_singleton.mpr e)) _) (upd_same σ n _))

theorem T_stE (n : Fin 24) {r : Rect (bref n).ty.shape} {w : r.shape.Idx → Elt F (bref n).ty.elt}
    {hx : ((Memref.whole (bref n) : Memref sig .tc .vmem _ _).access r).Stores Finset.univ} {hm : Finset.univ = Finset.univ ∨ ∀ a, r.stride a = 1}
    {σ : Mem F} {Ψ : PUnit → Mem F → Prop} (hn : n ∈ L) (hr : ∀ x, r.idx x ∈ I n)
    (hk : ∀ σ', Keep [n] σ σ' → σ' n = st r.toLoadRect w (σ n) → Ψ ⟨⟩ σ') :
    T c L I (Prog.lift (.store (Memref.whole (bref n) : Memref sig .tc .vmem _ _) r w Finset.univ hx hm)) σ Ψ :=
  T_store n hn hr (T_ret (hk _ (fun k hk => upd_ne σ (fun e => hk (List.mem_singleton.mpr e)) _) (upd_same σ n _)))

end Cert.KernelIdeal
-- ==== Proof.KI.Copy.lean ====
module

public import proofs.«01_k».proof.Proof.KI.Spec

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] [Named F] (c : Dev nD)

/-! ## One copy -/

/-- Buffer `b` held at the elements `S`, its contents `f`. -/
abbrev pt (b : Ref sig .tc) (S : Finset b.ty.shape.Idx) (f : b.ty.Contents (Elt F)) : sProp (MM F) := ((c : Thread nD τ).loc b) ↦[S]{fullShare} f
/-- A cell at zero. -/
abbrev sv (s : DmaSem sig) : sProp (MM F) := semVal ((c : Thread nD τ), SemLoc.dma s) 0
/-- A copy under way, delivering `D`. -/
abbrev Fl (s : DmaSem sig) (N : ℕ) (D : sProp (MM F)) : sProp (MM F) := Transfers.Flight countersEmb (c : Thread nD τ) (SemLoc.dma s) () N D
/-- What the core has waited for. -/
abbrev ow : sProp (MM F) := iprop(∃ W, owes (c : Thread nD τ) 0 W)

/-- A copy is started: the destination will hold `v`. -/
theorem go_spec {sp sp' : Space} {s : Shape} {e : EltTy} (src : Memref sig .tc sp s e) (dst : Memref sig .tc sp' s e) (sem : DmaSem sig)
    (hs : src.view.WordExact) (hd : dst.view.WordExact)
    (hx : (DmaTarget.here (nD := nD) (τ := τ) (p := (.tc : Proc τ)) dst).Typed sp (SemLoc.dma sem)) (hn : 0 < s.numel)
    (S : Finset (Idx (src.view.loc (c : Thread nD τ)))) (hS : src.view.set = S) (S' : Finset (Idx (dst.view.loc (c : Thread nD τ)))) (hS' : dst.view.set = S')
    (fs : Buf (Elt F) (src.view.loc (c : Thread nD τ))) (fd v : Buf (Elt F) (dst.view.loc (c : Thread nD τ)))
    (hv : ∀ x, v (dst.view.emb x) = _root_.cast (congrArg (Elt F) dst.view.elt_eq.symm) (src.view.read (Elt F) fs x)) (Q : PUnit → sProp (MM F)) :
    iprop((src.view.loc (c : Thread nD τ) ↦[S]{fullShare} fs) ∗ (dst.view.loc (c : Thread nD τ) ↦[S']{fullShare} fd) ∗ sv c sem
      ∗ (Fl c sem dst.view.dmaCredit iprop((dst.view.loc (c : Thread nD τ) ↦[S']{fullShare} v) ∗ (src.view.loc (c : Thread nD τ) ↦[S]{fullShare} fs)) -∗ Q ⟨⟩))
      ⊢ WP c (go src dst sem hs hd hx) Q := by
  subst hS hS'
  have e : (dst.view.loc (c : Thread nD τ) ↦[dst.view.set]{fullShare} v : sProp (MM F))
      = dst.view.loc (c : Thread nD τ) ↦[dst.view.set]{fullShare} dst.view.write (Elt F) fd (ReadAs.same.apply (src.view.read (Elt F) fs)) Finset.univ := by
    refine pointsTo_congr fun i hi => ?_
    obtain ⟨x, -, rfl⟩ := Finset.mem_map.mp hi
    rw [hv, View.write_emb_of_mem (h := Finset.mem_univ _)]
  rw [e]
  iintro ⟨Hs, Hd, Hv, HQ⟩
  iapply (Transfers.wp_dmaLocal countersEmb 𝒱₀ (c : Thread nD τ) none () dst.view.dmaCredit rfl (dst.view.dmaCredit_pos hn) (Finset.Subset.refl _)) $$ [Hs Hd Hv]
  · isplitl [Hs]; · iexact Hs
    isplitl [Hd]; · iexact Hd
    iexact Hv
  iintro Hf
  rw [wp_ret]
  imodintro
  iapply HQ $$ Hf

/-- It is awaited. -/
theorem fin_spec {sp sp' : Space} {s : Shape} {e : EltTy} (src : Memref sig .tc sp s e) (dst : Memref sig .tc sp' s e) (sem : DmaSem sig)
    (hs : src.view.WordExact) (hd : dst.view.WordExact) (D : sProp (MM F)) (Q : PUnit → sProp (MM F)) :
    iprop(Fl c sem dst.view.dmaCredit D ∗ ow c ∗ (D -∗ sv c sem -∗ ow c -∗ Q ⟨⟩))
      ⊢ WP c (fin src dst sem hs hd) Q := by
  iintro ⟨Hf, ⟨%W, HW⟩, HQ⟩
  iapply (Transfers.wp_waitLocal countersEmb 𝒱₀ (c : Thread nD τ) none () rfl) $$ [Hf HW]
  · isplitl [Hf]; · iexact Hf
    iexact HW
  iintro ⟨HD, Hv, HW⟩
  rw [wp_ret]
  imodintro
  iapply HQ $$ HD Hv
  iexists _
  iexact HW

/-! ## The same step for every block -/

variable {c}

theorem bigSep_ins {ι : Type} [DecidableEq ι] {a : ι} {s : Finset ι} (h : a ∉ s) (Φ : ι → sProp (MM F)) : bigSep (insert a s) Φ = iprop(Φ a ∗ bigSep s Φ) := bigSep_insert h

/-- A run of steps, each consuming its own `A i` and leaving its own `B i`. -/
theorem wp_steps (C : sProp (MM F)) (n : ℕ) (f : (i : ℕ) → i < n → PUnit → PG F PUnit) (A B : Fin n → sProp (MM F))
    (hf : ∀ i (hi : i < n) Q, iprop(A ⟨i, hi⟩ ∗ C ∗ (B ⟨i, hi⟩ -∗ C -∗ Q ⟨⟩)) ⊢ WP c (f i hi ⟨⟩) Q) :
    ∀ Q : PUnit → sProp (MM F), iprop(bigSep Finset.univ A ∗ C ∗ (bigSep Finset.univ B -∗ C -∗ Q ⟨⟩)) ⊢ WP c (runF n f ⟨⟩) Q := by
  induction n with
  | zero =>
    intro Q
    unfold WP runF
    rw [wp_ret, show (Finset.univ : Finset (Fin 0)) = ∅ from rfl, bigSep_empty, bigSep_empty]
    iintro ⟨-, HC, HQ⟩
    imodintro
    iapply HQ $$ [] HC
    iempintro
  | succ n ih =>
    intro Q
    have h0 := hf 0 (Nat.succ_pos n)
    rw [show (⟨0, Nat.succ_pos n⟩ : Fin (n + 1)) = 0 from rfl] at h0
    unfold WP runF
    rw [wp_bind, bigSep_univ_succ, bigSep_univ_succ]
    iintro ⟨⟨HA0, HA⟩, HC, HQ⟩
    iapply (h0 _)
    isplitl [HA0]; · iexact HA0
    isplitl [HC]; · iexact HC
    iintro HB0 HC
    iapply (ih (fun i h => f (i + 1) (Nat.succ_lt_succ h)) (fun i => A i.succ) (fun i => B i.succ) (fun i hi => hf (i + 1) (Nat.succ_lt_succ hi)) Q)
    isplitl [HA]; · iexact HA
    isplitl [HC]; · iexact HC
    iintro HB HC
    iapply HQ $$ [HB0 HB] HC
    isplitl [HB0]; · iexact HB0
    iexact HB

/-- A loop likewise. -/
theorem wp_loop (C : sProp (MM F)) (n : ℕ) {w : ℕ} (lb ub sp : BitVec w) (hok : Scf.OK lb ub sp) (hn : Scf.trips lb ub sp = n) (f : Fin n → PG F PUnit) (A B : Fin n → sProp (MM F))
    (hf : ∀ i Q, iprop(A i ∗ C ∗ (B i -∗ C -∗ Q ⟨⟩)) ⊢ WP c (f i) Q) (Q : PUnit → sProp (MM F)) :
    iprop(bigSep Finset.univ A ∗ C ∗ (bigSep Finset.univ B -∗ C -∗ Q ⟨⟩)) ⊢ WP c (Scf.for lb ub sp hok (⟨⟩ : PUnit) fun i _ => f (i.cast hn)) Q := by
  subst hn
  iintro ⟨HA, HC, HQ⟩
  iapply (Scf.wp_for _ _ _ lb ub sp hok (⟨⟩ : PUnit) (fun i _ => f i)
    (fun k _ => iprop(bigSep (Finset.univ.filter fun i => k ≤ i.val) A ∗ bigSep (Finset.univ.filter fun i => i.val < k) B ∗ C)) (fun k a => by
      have e1 : (Finset.univ.filter fun i : Fin (Scf.trips lb ub sp) => k.val ≤ i.val) = insert k (Finset.univ.filter fun i => k.val + 1 ≤ i.val) := by
        ext i; simp only [Finset.mem_filter, Finset.mem_univ, true_and, Finset.mem_insert, Fin.ext_iff]; omega
      have e2 : (Finset.univ.filter fun i : Fin (Scf.trips lb ub sp) => i.val < k.val + 1) = insert k (Finset.univ.filter fun i => i.val < k.val) := by
        ext i; simp only [Finset.mem_filter, Finset.mem_univ, true_and, Finset.mem_insert, Fin.ext_iff]; omega
      rw [e1, e2, bigSep_ins (by simp), bigSep_ins (by simp)]
      iintro ⟨⟨HA, HA'⟩, HB, HC⟩
      iapply (hf k _)
      isplitl [HA]; · iexact HA
      isplitl [HC]; · iexact HC
      iintro HB0 HC
      isplitl [HA']; · iexact HA'
      isplitl [HB0 HB]
      · isplitl [HB0]; · iexact HB0
        iexact HB
      iexact HC))
  isplitl [HA HC]
  · rw [show (Finset.univ.filter fun i : Fin (Scf.trips lb ub sp) => 0 ≤ i.val) = Finset.univ from by simp,
      show (Finset.univ.filter fun i : Fin (Scf.trips lb ub sp) => i.val < 0) = ∅ from by simp, bigSep_empty]
    isplitl [HA]; · iexact HA
    isplitr [HC]; · iempintro
    iexact HC
  iintro %a ⟨-, HB, HC⟩
  rw [show (Finset.univ.filter fun i : Fin (Scf.trips lb ub sp) => i.val < Scf.trips lb ub sp) = Finset.univ from by simp]
  iapply HQ $$ HB HC

/-- A stretch that only loads and stores. -/
theorem wp_T {L : Finset (Fin 24)} {I : Own} {α : Type} {p : PG F α} {σ : Mem F} {Φ : α → Mem F → Prop} (h : T c L I p σ Φ) (Q : α → sProp (MM F)) :
    iprop(Held c L I σ ∗ (∀ a σ', ⌜Φ a σ'⌝ -∗ Held c L I σ' -∗ Q a)) ⊢ WP c p Q := h Q

end Cert.KernelIdeal
-- ==== Proof.KI.Face.lean ====
module

public import proofs.«01_k».proof.Proof.KI.Copy

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] [Named F] {c : Dev nD}

/-! ## What the stretches of the kernel compute -/

/-- The weights' blocks as the kernel holds them, -/
def vW (X : Inp F) : S10x7168x512.Idx → F .fp8e4m3 := fun i => X.w (n2 (i 1) (512 * i 0 + i 2))
/-- the blocks of the product, -/
def vSt (X : Inp F) : S10x2x128x512.Idx → F .bf16 := fun i => DX X (i 1) (i 2) (512 * i 0 + i 3)
/-- the results. -/
def vDx (X : Inp F) : S2x128x5120.Idx → F .bf16 := fun i => DX X (i 0) (i 1) (i 2)
def vDh0 (X : Inp F) : S2x3584.Idx → F .f32 := fun i => QE X (i 0) (i 1) 128
def vCo (X : Inp F) : S2x128x7168.Idx → F .fp8e5m2 := fun i => CO X (i 0) (i 1) (i 2)
def vSc (X : Inp F) : S2x128.Idx → F .f32 := fun i => SC X (i 0) (i 1)
def vDsc (X : Inp F) : S2x128x128.Idx → F .f32 := fun i => SC X (i 0) (i 1)

/-- The elements held while the scales are spread, -/
def IS : Own := fun n => if n ∈ [(3 : Fin 24), 4, 7, 8] then Finset.univ else ∅
/-- in the scans of batch 0, -/
def I0 : Own
  | ⟨0, _⟩ => (rDy 0).set
  | ⟨1, _⟩ => (rPre 0).set
  | ⟨2, _⟩ => ∅
  | ⟨23, _⟩ => ∅
  | _ => Finset.univ
/-- in those of batch 1, -/
def I1 : Own
  | ⟨2, _⟩ => ∅
  | ⟨23, _⟩ => ∅
  | _ => Finset.univ
/-- The elements of a block of the product, -/
def SB (n : Fin 10) : Finset S10x2x128x512.Idx := (rSt 0 n).set ∪ (rSt 1 n).set
/-- and those held while it is computed. -/
def ID (n : Fin 10) : Own
  | ⟨18, _⟩ => Finset.univ
  | ⟨20, _⟩ => Finset.univ
  | ⟨2, _⟩ => (rWd n).set
  | ⟨23, _⟩ => SB n
  | _ => ∅
/-- in the scans of batch `b`. -/
def IB : Fin 2 → Own
  | ⟨0, _⟩ => I0
  | ⟨_ + 1, _⟩ => I1

/-- The inputs as the scans find them. -/
structure InB (X : Inp F) (σ : Mem F) : Prop where
  dyc : σ 0 = X.dyc
  prec : σ 1 = X.prec
  h0 : σ 5 = X.h0
  ws : σ 6 = X.ws
  dysL : ∀ i : S2x128x128.Idx, σ 7 i = X.dys (n2 (i 0) (i 1))
  presL : ∀ i : S2x128x128.Idx, σ 8 i = X.pres (n2 (i 0) (i 1))

/-- A batch's results. -/
structure OutB (X : Inp F) (b : Fin 2) (σ : Mem F) : Prop where
  a : ∀ i : S256x7168.Idx, (i 0).val / 128 = b.val → σ 18 i = AV X i
  co : ∀ i : S2x128x7168.Idx, (i 0).val = b.val → σ 19 i = vCo X i
  dsc : ∀ i : S2x128x128.Idx, (i 0).val = b.val → σ 20 i = vDsc X i
  dh0 : ∀ i : S2x3584.Idx, (i 0).val = b.val → σ 21 i = vDh0 X i
  sc : ∀ i : S2x128.Idx, (i 0).val = b.val → σ 22 i = vSc X i

/-- The other batch's are left. -/
structure KeepB (b : Fin 2) (σ σ' : Mem F) : Prop where
  a : ∀ i : S256x7168.Idx, (i 0).val / 128 ≠ b.val → σ' 18 i = σ 18 i
  co : ∀ i : S2x128x7168.Idx, (i 0).val ≠ b.val → σ' 19 i = σ 19 i
  dsc : ∀ i : S2x128x128.Idx, (i 0).val ≠ b.val → σ' 20 i = σ 20 i
  dh0 : ∀ i : S2x3584.Idx, (i 0).val ≠ b.val → σ' 21 i = σ 21 i
  sc : ∀ i : S2x128.Idx, (i 0).val ≠ b.val → σ' 22 i = σ 22 i

/-! ## Membership in the blocks -/

theorem mem_pre (b : Fin 2) (y : S2x128x7168.Idx) : y ∈ (rPre b).set ↔ (y 0).val = b.val := by
  rw [Rect.mem_set_unit]
  have h1 : (y 1).val < 128 := (y 1).isLt
  have h2 : (y 2).val < 7168 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 128; omega
    · show 0 ≤ (y 2).val ∧ (y 2).val < 0 + 7168; omega
theorem mem_dy (b : Fin 2) (y : S2x128x3584.Idx) : y ∈ (rDy b).set ↔ (y 0).val = b.val := by
  rw [Rect.mem_set_unit]
  have h1 : (y 1).val < 128 := (y 1).isLt
  have h2 : (y 2).val < 3584 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 128; omega
    · show 0 ≤ (y 2).val ∧ (y 2).val < 0 + 3584; omega
theorem mem_wd (n : Fin 10) (y : S10x7168x512.Idx) : y ∈ (rWd n).set ↔ (y 0).val = n.val := by
  rw [Rect.mem_set_unit]
  have h1 : (y 1).val < 7168 := (y 1).isLt
  have h2 : (y 2).val < 512 := (y 2).isLt
  constructor
  · intro H; have a0 : n.val ≤ (y 0).val ∧ (y 0).val < n.val + 1 := H 0; omega
  · intro H i; fin_cases i
    · show n.val ≤ (y 0).val ∧ (y 0).val < n.val + 1; omega
    · show 0 ≤ (y 1).val ∧ (y 1).val < 0 + 7168; omega
    · show 0 ≤ (y 2).val ∧ (y 2).val < 0 + 512; omega
theorem mem_ws (n : Fin 10) (y : S7168x5120.Idx) : y ∈ (rWs n).set ↔ (y 1).val / 512 = n.val := by
  rw [Rect.mem_set_unit]
  have h1 : (y 0).val < 7168 := (y 0).isLt
  constructor
  · intro H; have a0 : 512 * n.val ≤ (y 1).val ∧ (y 1).val < 512 * n.val + 512 := H 1; omega
  · intro H i; fin_cases i
    · show 0 ≤ (y 0).val ∧ (y 0).val < 0 + 7168; omega
    · show 512 * n.val ≤ (y 1).val ∧ (y 1).val < 512 * n.val + 512; omega
theorem mem_st (b : Fin 2) (n : Fin 10) (y : S10x2x128x512.Idx) : y ∈ (rSt b n).set ↔ (y 0).val = n.val ∧ (y 1).val = b.val := by
  rw [Rect.mem_set_unit]
  have h1 : (y 2).val < 128 := (y 2).isLt
  have h2 : (y 3).val < 512 := (y 3).isLt
  constructor
  · intro H
    have a0 : n.val ≤ (y 0).val ∧ (y 0).val < n.val + 1 := H 0
    have a1 : b.val ≤ (y 1).val ∧ (y 1).val < b.val + 1 := H 1
    omega
  · intro H i; fin_cases i
    · show n.val ≤ (y 0).val ∧ (y 0).val < n.val + 1; omega
    · show b.val ≤ (y 1).val ∧ (y 1).val < b.val + 1; omega
    · show 0 ≤ (y 2).val ∧ (y 2).val < 0 + 128; omega
    · show 0 ≤ (y 3).val ∧ (y 3).val < 0 + 512; omega
theorem mem_dx (b : Fin 2) (n : Fin 10) (y : S2x128x5120.Idx) : y ∈ (rDx b n).set ↔ (y 0).val = b.val ∧ (y 2).val / 512 = n.val := by
  rw [Rect.mem_set_unit]
  have h1 : (y 1).val < 128 := (y 1).isLt
  constructor
  · intro H
    have a0 : b.val ≤ (y 0).val ∧ (y 0).val < b.val + 1 := H 0
    have a1 : 512 * n.val ≤ (y 2).val ∧ (y 2).val < 512 * n.val + 512 := H 2
    omega
  · intro H i; fin_cases i
    · show b.val ≤ (y 0).val ∧ (y 0).val < b.val + 1; omega
    · show 0 ≤ (y 1).val ∧ (y 1).val < 0 + 128; omega
    · show 512 * n.val ≤ (y 2).val ∧ (y 2).val < 512 * n.val + 512; omega
theorem mem_SB (n : Fin 10) (y : S10x2x128x512.Idx) : y ∈ SB n ↔ (y 0).val = n.val := by
  have h1 : (y 1).val < 2 := (y 1).isLt
  unfold SB
  rw [Finset.mem_union, mem_st, mem_st]
  simp only [Fin.val_zero, Fin.val_one]; omega

end Cert.KernelIdeal
-- ==== Proof.KI.Rev.lean ====
module

public import proofs.«01_k».proof.Proof.KI.Face

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] [Named F] {c : Dev nD}

/-! ## Reading and writing in the scans of a batch -/

theorem IB_pre (b : Fin 2) (y : S2x128x7168.Idx) (h : (y 0).val = b.val) : y ∈ IB b 1 := by
  match b, h with
  | 0, h => exact (mem_pre 0 y).mpr h
  | 1, h => exact Finset.mem_univ y
theorem IB_dy (b : Fin 2) (y : S2x128x3584.Idx) (h : (y 0).val = b.val) : y ∈ IB b 0 := by
  match b, h with
  | 0, h => exact (mem_dy 0 y).mpr h
  | 1, h => exact Finset.mem_univ y
theorem IB_all (b : Fin 2) (n : Fin 24) (hn : 3 ≤ n.val ∧ n.val < 23) (y : (bref n).ty.shape.Idx) : y ∈ IB b n := by
  have e : IB b n = Finset.univ := by
    match b with
    | 0 => fin_cases n <;> first | (exfalso; revert hn; decide) | rfl
    | 1 => fin_cases n <;> first | (exfalso; revert hn; decide) | rfl
  rw [e]; exact Finset.mem_univ y

theorem dropF {α : Type} {A B : ℕ} [NeZero A] [NeZero B] (f : ℕ → ℕ → α) (h : (⟨3, ![1, A, B]⟩ : Shape).ShapeCasts ⟨2, ![A, B]⟩)
    (y : (⟨2, ![A, B]⟩ : Shape).Idx) : shapeCast ⟨2, ![A, B]⟩ (fun x : (⟨3, ![1, A, B]⟩ : Shape).Idx => f (x 1).val (x 2).val) h y = f (y 0).val (y 1).val := by
  rw [dropU]
  exact congrArg₂ f (n3_1 (y 0).isLt) (n3_2 (y 1).isLt)

/-! ## The reverse scan -/

variable (X : Inp F)

/-- The gate, the incoming gradient, the state's gradient and the gradient carried on, as laid out: 28 rows a token. -/
def fZ (b : ℕ) (i : S3584x128.Idx) : F .f32 := zE X b ((i 0).val / 28) (128 * ((i 0).val % 28) + (i 1).val)
def fDy (b : ℕ) (i : S3584x128.Idx) : F .f32 := dyE X b ((i 0).val / 28) (128 * ((i 0).val % 28) + (i 1).val)
def fG (b : ℕ) (i : S3584x128.Idx) : F .f32 := GE X b ((i 0).val / 28) (128 * ((i 0).val % 28) + (i 1).val)
def fQ (b : ℕ) (i : S3584x128.Idx) : F .f32 := QE X b (128 * ((i 0).val % 28) + (i 1).val) (128 - (i 0).val / 28)

theorem revGate_T (b : Fin 2) {w : BitVec 32} (hw : w.toNat < 4) (g : ℕ) (hg : g < 28) (zs ds : FVec F S32x128 .f32)
    (hzs : ∀ y : S32x128.Idx, zs y = FloatOps.mulf (X.pres (n2 b.val (32 * w.toNat + (y 0).val))) negL) (hds : ∀ y : S32x128.Idx, ds y = X.dys (n2 b.val (32 * w.toNat + (y 0).val)))
    (σ : Mem F) (h0 : σ 0 = X.dyc) (h1 : σ 1 = X.prec) :
    T c Finset.univ (IB b) (revGate zs ds b hw g hg) σ (fun _ σ' => Keep [9, 10] σ σ'
      ∧ (∀ i : S3584x128.Idx, σ' 9 i = if (i 0).val / 896 = w.toNat ∧ (i 0).val % 28 = g then fZ X b i else σ 9 i)
      ∧ (∀ i : S3584x128.Idx, σ' 10 i = if (i 0).val / 896 = w.toNat ∧ (i 0).val % 28 = g then fDy X b i else σ 10 i)) := by
  unfold revGate
  refine T_ld 1 (fun x : S1x32x128.Idx => X.prec (n3 b.val (32 * w.toNat + (x 1).val) (128 * g + (x 2).val))) (Finset.mem_univ _) ?_ ?_ ?_
  · intro x
    have hx : (x 0).val < 1 := (x 0).isLt
    exact IB_pre b _ (by show b.val + 1 * (x 0).val = b.val; omega)
  · intro x
    have hx : (x 0).val < 1 := (x 0).isLt
    rw [h1]
    refine congrArg X.prec (eq_n3 ?_ ?_ ?_)
    · show b.val + 1 * (x 0).val = b.val; omega
    · show (Scalar.muli w 32#32).toNat + 1 * (x 1).val = _; rw [tok_val hw]; omega
    · show 128 * g + 1 * (x 2).val = _; omega
  refine T_sk 9 (Finset.mem_univ _) (fun x => IB_all b 9 (by decide) _) fun _ => ?_
  refine T_st 9 (Finset.mem_univ _) (fun x => IB_all b 9 (by decide) _) fun σ1 k1 e1 => ?_
  refine T_ld 0 (fun x : S1x32x128.Idx => X.dyc (n3 b.val (32 * w.toNat + (x 1).val) (128 * g + (x 2).val))) (Finset.mem_univ _) ?_ ?_ ?_
  · intro x
    have hx : (x 0).val < 1 := (x 0).isLt
    exact IB_dy b _ (by show b.val + 1 * (x 0).val = b.val; omega)
  · intro x
    have hx : (x 0).val < 1 := (x 0).isLt
    rw [k1 0 (by decide), h0]
    refine congrArg X.dyc (eq_n3 ?_ ?_ ?_)
    · show b.val + 1 * (x 0).val = b.val; omega
    · show (Scalar.muli w 32#32).toNat + 1 * (x 1).val = _; rw [tok_val hw]; omega
    · show 128 * g + 1 * (x 2).val = _; omega
  refine T_sk 10 (Finset.mem_univ _) (fun x => IB_all b 10 (by decide) _) fun _ => ?_
  refine T_stE 10 (Finset.mem_univ _) (fun x => IB_all b 10 (by decide) _) fun σ2 k2 e2 => ?_
  refine ⟨(k1.mono (by decide)).trans (k2.mono (by decide)), fun i => ?_, fun i => ?_⟩
  · rw [k2 9 (by decide), e1]
    refine st2 _ _ _ i (fun v => v = if (i 0).val / 896 = w.toNat ∧ (i 0).val % 28 = g then fZ X b i else σ 9 i) (896 * w.toNat + g) 28 32 0 1 128
      ⟨gate_val hw hg, rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      show FloatOps.divf oneF (FloatOps.addf oneF (FloatOps.exp2 (FloatOps.mulf (FloatOps.extf .f32 bitsLt_fp8e4m3_f32 (shapeCast S32x128 _ shapeCasts_S1x32x128_S32x128 y)) (zs y)))) = _
      rw [hzs, dropF (fun a d => X.prec (n3 b.val (32 * w.toNat + a) (128 * g + d)))]
      unfold fZ
      rw [show (i 0).val / 28 = 32 * w.toNat + (y 0).val by omega, show 128 * ((i 0).val % 28) + (i 1).val = 128 * g + (y 1).val by omega]
      rfl
    · intro hm
      have hi1 : (i 1).val < 128 := (i 1).isLt
      rw [if_neg (by omega)]
  · rw [e2]
    refine st2 _ _ _ i (fun v => v = if (i 0).val / 896 = w.toNat ∧ (i 0).val % 28 = g then fDy X b i else σ 10 i) (896 * w.toNat + g) 28 32 0 1 128
      ⟨gate_val hw hg, rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      show FloatOps.mulf (FloatOps.extf .f32 bitsLt_fp8e5m2_f32 (shapeCast S32x128 _ shapeCasts_S1x32x128_S32x128 y)) (ds y) = _
      rw [hds, dropF (fun a d => X.dyc (n3 b.val (32 * w.toNat + a) (128 * g + d)))]
      unfold fDy
      rw [show (i 0).val / 28 = 32 * w.toNat + (y 0).val by omega, show 128 * ((i 0).val % 28) + (i 1).val = 128 * g + (y 1).val by omega]
      rfl
    · intro hm
      have hi1 : (i 1).val < 128 := (i 1).isLt
      rw [if_neg (by omega), k1 10 (by decide)]

/-- One step of the reverse recurrence, at token `32 w + t`. -/
theorem revStep_T (b : Fin 2) {w : BitVec 32} (hw : w.toNat < 4) (t : ℕ) (ht : t < 32) (q : FVec F S28x128 .f32) (n : ℕ) (hn : n = 127 - (32 * w.toNat + t))
    (hq : q = vecE (fun d => QE X b d n)) (σ : Mem F)
    (hz : ∀ i : S3584x128.Idx, (i 0).val / 28 = 32 * w.toNat + t → σ 9 i = fZ X b i) (hd : ∀ i : S3584x128.Idx, (i 0).val / 28 = 32 * w.toNat + t → σ 10 i = fDy X b i) :
    T c Finset.univ (IB b) (revStep hw t ht q) σ (fun q' σ' => Keep [10, 11] σ σ' ∧ q' = vecE (fun d => QE X b d (n + 1))
      ∧ (∀ i : S3584x128.Idx, σ' 10 i = if (i 0).val / 28 = 32 * w.toNat + t then fG X b i else σ 10 i)
      ∧ (∀ i : S3584x128.Idx, σ' 11 i = if (i 0).val / 28 = 32 * w.toNat + t then fQ X b i else σ 11 i)) := by
  subst hq
  have hG : ∀ y : S28x128.Idx, FloatOps.addf (dyE X b (32 * w.toNat + t) (128 * (y 0).val + (y 1).val)) (QE X b (128 * (y 0).val + (y 1).val) n) = GE X b (32 * w.toNat + t) (128 * (y 0).val + (y 1).val) := by
    intro y; unfold GE; rw [hn]
  have hQ : ∀ y : S28x128.Idx, FloatOps.mulf (FloatOps.subf oneF (zE X b (32 * w.toNat + t) (128 * (y 0).val + (y 1).val)))
      (FloatOps.addf (dyE X b (32 * w.toNat + t) (128 * (y 0).val + (y 1).val)) (QE X b (128 * (y 0).val + (y 1).val) n)) = QE X b (128 * (y 0).val + (y 1).val) (n + 1) := by
    intro y
    rw [show 32 * w.toNat + t = 127 - n by omega]; rfl
  unfold revStep
  refine T_ld 10 (fun y : S28x128.Idx => dyE X b (32 * w.toNat + t) (128 * (y 0).val + (y 1).val)) (Finset.mem_univ _) (fun x => IB_all b 10 (by decide) _) ?_ ?_
  · intro x
    have hx0 : (x 0).val < 28 := (x 0).isLt
    have hx1 : (x 1).val < 128 := (x 1).isLt
    have a0 : (((rStep hw ht).toLoadRect.idx x) 0).val = 896 * w.toNat + 28 * t + (x 0).val := by
      show (Scalar.addi (Scalar.muli w 896#32) (BitVec.ofNat 32 (28 * t))).toNat + 1 * (x 0).val = _; rw [step_val hw ht]; omega
    have a1 : (((rStep hw ht).toLoadRect.idx x) 1).val = (x 1).val := by show 0 + 1 * (x 1).val = _; omega
    refine (hd _ (by rw [a0]; omega)).trans ?_
    unfold fDy
    rw [a0, a1, show (896 * w.toNat + 28 * t + (x 0).val) / 28 = 32 * w.toNat + t by omega, show (896 * w.toNat + 28 * t + (x 0).val) % 28 = (x 0).val by omega]
  refine T_sk 10 (Finset.mem_univ _) (fun x => IB_all b 10 (by decide) _) fun _ => ?_
  refine T_st 10 (Finset.mem_univ _) (fun x => IB_all b 10 (by decide) _) fun σ1 k1 e1 => ?_
  refine T_ld 9 (fun y : S28x128.Idx => zE X b (32 * w.toNat + t) (128 * (y 0).val + (y 1).val)) (Finset.mem_univ _) (fun x => IB_all b 9 (by decide) _) ?_ ?_
  · intro x
    have hx0 : (x 0).val < 28 := (x 0).isLt
    have hx1 : (x 1).val < 128 := (x 1).isLt
    have a0 : (((rStep hw ht).toLoadRect.idx x) 0).val = 896 * w.toNat + 28 * t + (x 0).val := by
      show (Scalar.addi (Scalar.muli w 896#32) (BitVec.ofNat 32 (28 * t))).toNat + 1 * (x 0).val = _; rw [step_val hw ht]; omega
    have a1 : (((rStep hw ht).toLoadRect.idx x) 1).val = (x 1).val := by show 0 + 1 * (x 1).val = _; omega
    rw [k1 9 (by decide)]
    refine (hz _ (by rw [a0]; omega)).trans ?_
    unfold fZ
    rw [a0, a1, show (896 * w.toNat + 28 * t + (x 0).val) / 28 = 32 * w.toNat + t by omega, show (896 * w.toNat + 28 * t + (x 0).val) % 28 = (x 0).val by omega]
  refine T_sk 11 (Finset.mem_univ _) (fun x => IB_all b 11 (by decide) _) fun _ => ?_
  refine T_st 11 (Finset.mem_univ _) (fun x => IB_all b 11 (by decide) _) fun σ2 k2 e2 => ?_
  refine T_pure ⟨(k1.mono (by decide)).trans (k2.mono (by decide)), funext fun y => hQ y, fun i => ?_, fun i => ?_⟩
  · rw [k2 10 (by decide), e1]
    refine st2 _ _ _ i (fun v => v = if (i 0).val / 28 = 32 * w.toNat + t then fG X b i else σ 10 i) (896 * w.toNat + 28 * t) 1 28 0 1 128
      ⟨step_val hw ht, rfl, rfl⟩ ⟨rfl, rfl, rfl⟩ ⟨by omega, by omega⟩ ?_ ?_
    · intro y hi0 hi1
      have hy0 : (y 0).val < 28 := (y 0).isLt
      have hy1 : (y 1).val < 128 := (y 1).isLt
      rw [if_pos (by omega), shapeCast_self]
      refine (hG y).trans ?_
      unfold fG
      rw [show (i 0).val / 28 = 32 * w.toNat + t by omega, show (i 0).val % 28 = (y 0).val by omega, show (i 1).val = (y 1).val by omega]
    · intro hm
      have hi1 : (i 1).val < 128 := (i 1).isLt
      rw [if_neg (by omega)]
  · rw [e2, k1 11 (by decide)]
    refine st2 _ _ _ i (fun v => v = if (i 0).val / 28 = 32 * w.toNat + t then fQ X b i else σ 11 i) (896 * w.toNat + 28 * t) 1 28 0 1 128
      ⟨step_val hw ht, rfl, rfl⟩ ⟨rfl, rfl, rfl⟩ ⟨by omega, by omega⟩ ?_ ?_
    · intro y hi0 hi1
      have hy0 : (y 0).val < 28 := (y 0).isLt
      have hy1 : (y 1).val < 128 := (y 1).isLt
      rw [if_pos (by omega), shapeCast_self]
      refine (hQ y).trans ?_
      unfold fQ
      rw [show (i 0).val / 28 = 32 * w.toNat + t by omega, show (i 0).val % 28 = (y 0).val by omega, show (i 1).val = (y 1).val by omega,
        show 128 - (32 * w.toNat + t) = n + 1 by omega]
    · intro hm
      have hi1 : (i 1).val < 128 := (i 1).isLt
      rw [if_neg (by omega)]

/-- After the reverse loop has done the last `n` tokens. -/
structure RevJ (b : Fin 2) (n : ℕ) (σ : Mem F) : Prop where
  z : ∀ i : S3584x128.Idx, 128 - n ≤ (i 0).val / 28 → σ 9 i = fZ X b i
  g : ∀ i : S3584x128.Idx, 128 - n ≤ (i 0).val / 28 → σ 10 i = fG X b i
  q : ∀ i : S3584x128.Idx, 128 - n ≤ (i 0).val / 28 → σ 11 i = fQ X b i

theorem revTrip_T (b : Fin 2) (k : ℕ) (hk : k < 4) {w : BitVec 32} (hw : w.toNat < 4) (hwk : w.toNat = 3 - k) (q : FVec F S28x128 .f32) (σ : Mem F) (h : InB X σ)
    (hq : q = vecE (fun d => QE X b d (32 * k))) (hJ : RevJ X b (32 * k) σ) :
    T c Finset.univ (IB b) (revTrip b hw q) σ (fun q' σ' => Keep [9, 10, 11] σ σ' ∧ q' = vecE (fun d => QE X b d (32 * k + 32)) ∧ RevJ X b (32 * k + 32) σ') := by
  unfold revTrip
  refine T_ld 8 (fun x : S1x32x128.Idx => X.pres (n2 b.val (32 * w.toNat + (x 1).val))) (Finset.mem_univ _) (fun x => IB_all b 8 (by decide) _) ?_ ?_
  · intro x
    have hx : (x 0).val < 1 := (x 0).isLt
    refine (h.presL _).trans (congrArg X.pres (congrArg₂ n2 ?_ ?_))
    · show b.val + 1 * (x 0).val = b.val; omega
    · show (Scalar.muli w 32#32).toNat + 1 * (x 1).val = _; rw [tok_val hw]; omega
  refine T_ld 7 (fun x : S1x32x128.Idx => X.dys (n2 b.val (32 * w.toNat + (x 1).val))) (Finset.mem_univ _) (fun x => IB_all b 7 (by decide) _) ?_ ?_
  · intro x
    have hx : (x 0).val < 1 := (x 0).isLt
    refine (h.dysL _).trans (congrArg X.dys (congrArg₂ n2 ?_ ?_))
    · show b.val + 1 * (x 0).val = b.val; omega
    · show (Scalar.muli w 32#32).toNat + 1 * (x 1).val = _; rw [tok_val hw]; omega
  refine T_bind (T_runF 28 _ (fun g _ σ' => Keep [9, 10] σ σ'
      ∧ (∀ i : S3584x128.Idx, σ' 9 i = if (i 0).val / 896 = w.toNat ∧ (i 0).val % 28 < g then fZ X b i else σ 9 i)
      ∧ (∀ i : S3584x128.Idx, σ' 10 i = if (i 0).val / 896 = w.toNat ∧ (i 0).val % 28 < g then fDy X b i else σ 10 i)) ?_ _ _ ?_) fun _ σ1 h1 => ?_
  · rintro g hg - σ1 ⟨k1, hz1, hd1⟩
    refine T_mono (revGate_T X b hw g hg _ _ ?_ ?_ σ1 ((k1 0 (by decide)).trans h.dyc) ((k1 1 (by decide)).trans h.prec)) ?_
    · intro y
      refine congrArg (fun v => FloatOps.mulf v negL) ?_
      exact dropF (fun a _ => X.pres (n2 b.val (32 * w.toNat + a))) _ y
    · intro y
      exact dropF (fun a _ => X.dys (n2 b.val (32 * w.toNat + a))) _ y
    · rintro - σ2 ⟨k2, hz2, hd2⟩
      refine ⟨k1.trans k2, fun i => ?_, fun i => ?_⟩
      · rw [hz2, hz1]
        by_cases c1 : (i 0).val / 896 = w.toNat ∧ (i 0).val % 28 = g
        · rw [if_pos c1, if_pos (by omega)]
        · rw [if_neg c1]
          by_cases c2 : (i 0).val / 896 = w.toNat ∧ (i 0).val % 28 < g
          · rw [if_pos c2, if_pos (by omega)]
          · rw [if_neg c2, if_neg (by omega)]
      · rw [hd2, hd1]
        by_cases c1 : (i 0).val / 896 = w.toNat ∧ (i 0).val % 28 = g
        · rw [if_pos c1, if_pos (by omega)]
        · rw [if_neg c1]
          by_cases c2 : (i 0).val / 896 = w.toNat ∧ (i 0).val % 28 < g
          · rw [if_pos c2, if_pos (by omega)]
          · rw [if_neg c2, if_neg (by omega)]
  · exact ⟨Keep.refl _ _, fun i => by rw [if_neg (by omega)], fun i => by rw [if_neg (by omega)]⟩
  obtain ⟨k1, hz1, hd1⟩ := h1
  refine T_mono (T_runF 32 _ (fun n q' σ' => Keep [10, 11] σ1 σ' ∧ q' = vecE (fun d => QE X b d (32 * k + n))
      ∧ (∀ i : S3584x128.Idx, σ' 10 i = if (i 0).val / 896 = w.toNat ∧ 128 - (32 * k + n) ≤ (i 0).val / 28 then fG X b i else σ1 10 i)
      ∧ (∀ i : S3584x128.Idx, σ' 11 i = if (i 0).val / 896 = w.toNat ∧ 128 - (32 * k + n) ≤ (i 0).val / 28 then fQ X b i else σ1 11 i)) ?_ _ _ ?_) ?_
  · rintro n hn q' σ2 ⟨k2, hq2, hg2, hr2⟩
    refine T_mono (revStep_T X b hw (31 - n) _ q' (32 * k + n) (by omega) hq2 σ2 ?_ ?_) ?_
    · intro i hi
      rw [k2 9 (by decide), hz1, if_pos (by omega)]
    · intro i hi
      rw [hg2, if_neg (by omega), hd1, if_pos (by omega)]
    · rintro q3 σ3 ⟨k3, hq3, hg3, hr3⟩
      refine ⟨k2.trans k3, hq3, fun i => ?_, fun i => ?_⟩
      · rw [hg3, hg2]
        by_cases c1 : (i 0).val / 28 = 32 * w.toNat + (31 - n)
        · rw [if_pos c1, if_pos (by omega)]
        · rw [if_neg c1]
          by_cases c2 : (i 0).val / 896 = w.toNat ∧ 128 - (32 * k + n) ≤ (i 0).val / 28
          · rw [if_pos c2, if_pos (by omega)]
          · rw [if_neg c2, if_neg (by omega)]
      · rw [hr3, hr2]
        by_cases c1 : (i 0).val / 28 = 32 * w.toNat + (31 - n)
        · rw [if_pos c1, if_pos (by omega)]
        · rw [if_neg c1]
          by_cases c2 : (i 0).val / 896 = w.toNat ∧ 128 - (32 * k + n) ≤ (i 0).val / 28
          · rw [if_pos c2, if_pos (by omega)]
          · rw [if_neg c2, if_neg (by omega)]
  · exact ⟨Keep.refl _ _, hq, fun i => by rw [if_neg (by omega)], fun i => by rw [if_neg (by omega)]⟩
  · rintro q2 σ2 ⟨k2, hq2, hg2, hr2⟩
    refine ⟨(k1.mono (by decide)).trans (k2.mono (by decide)), hq2, fun i hi => ?_, fun i hi => ?_, fun i hi => ?_⟩
    · rw [k2 9 (by decide), hz1]
      split
      · rfl
      · exact hJ.z i (by omega)
    · rw [hg2]
      split
      · rfl
      · rw [hd1, if_neg (by omega)]; exact hJ.g i (by omega)
    · rw [hr2]
      split
      · rfl
      · rw [k1 11 (by decide)]; exact hJ.q i (by omega)

theorem InB.keep {X : Inp F} {σ σ' : Mem F} {S : List (Fin 24)} (h : InB X σ) (k : Keep S σ σ') (hS : ∀ n ∈ [(0 : Fin 24), 1, 5, 6, 7, 8], n ∉ S) : InB X σ' where
  dyc := (k 0 (hS _ (by decide))).trans h.dyc
  prec := (k 1 (hS _ (by decide))).trans h.prec
  h0 := (k 5 (hS _ (by decide))).trans h.h0
  ws := (k 6 (hS _ (by decide))).trans h.ws
  dysL := fun i => (congrFun (k 7 (hS _ (by decide))) i).trans (h.dysL i)
  presL := fun i => (congrFun (k 8 (hS _ (by decide))) i).trans (h.presL i)

/-- The reverse loop. -/
theorem for1_T (b : Fin 2) (σ : Mem F) (h : InB X σ) :
    T c Finset.univ (IB b) (Scf.for 0#32 4#32 1#32 k0_t1_ok (broadcast S28x128 (Scalar.ofBits .f32 0x00000000#32)) fun k q => revTrip b (revWord_lt k) q : PG F (FVec F S28x128 .f32)) σ
      (fun q σ' => Keep [9, 10, 11] σ σ' ∧ q = vecE (fun d => QE X b d 128) ∧ RevJ X b 128 σ') := by
  refine T_for _ _ _ _ _ _ (fun k q σ' => Keep [9, 10, 11] σ σ' ∧ q = vecE (fun d => QE X b d (32 * k)) ∧ RevJ X b (32 * k) σ') ?_ ?_ ?_
  · refine ⟨Keep.refl _ _, rfl, ?_, ?_, ?_⟩ <;> (intro i hi; have hi0 : (i 0).val < 3584 := (i 0).isLt; omega)
  · rintro k q σ1 ⟨k1, hq, hJ⟩
    have hk : k.val < 4 := k.isLt
    refine T_mono (revTrip_T X b k.val hk (revWord_lt k) (revWord_val k) q σ1 (h.keep k1 (by decide)) hq hJ) ?_
    rintro q2 σ2 ⟨k2, hq2, hJ2⟩
    exact ⟨k1.trans k2, hq2, hJ2⟩
  · rintro q σ1 ⟨k1, hq, hJ⟩
    exact ⟨k1, hq, hJ⟩

end Cert.KernelIdeal
-- ==== Proof.KI.Fwd.lean ====
module

public import proofs.«01_k».proof.Proof.KI.Rev

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] [Named F] {c : Dev nD}

variable (X : Inp F)

/-! ## The forward scan -/

/-- Per chunk: the candidate, its derivative, the two gradients and their folded magnitudes, as laid out. -/
def fHt (b w : ℕ) (i : S896x128.Idx) : F .f32 := htE X b (32 * w + (i 0).val / 28) (128 * ((i 0).val % 28) + (i 1).val)
def fGp (b w : ℕ) (i : S896x128.Idx) : F .f32 := gpE X b (32 * w + (i 0).val / 28) (128 * ((i 0).val % 28) + (i 1).val)
def fDz (b w : ℕ) (i : S896x128.Idx) : F .f32 := DZ X b (32 * w + (i 0).val / 28) (128 * ((i 0).val % 28) + (i 1).val)
def fDh (b w : ℕ) (i : S896x128.Idx) : F .f32 := DH X b (32 * w + (i 0).val / 28) (128 * ((i 0).val % 28) + (i 1).val)
def fAm (b w : ℕ) (i : S384x128.Idx) : F .f32 :=
  if (i 0).val < 256 then FloatOps.maximumf (FloatOps.maximumf (MG X b (32 * w + (i 0).val / 8) ((i 0).val % 8) (i 1).val) (MG X b (32 * w + (i 0).val / 8) (8 + (i 0).val % 8) (i 1).val))
    (MG X b (32 * w + (i 0).val / 8) (16 + (i 0).val % 8) (i 1).val)
  else MG X b (32 * w + ((i 0).val - 256) / 4) (24 + ((i 0).val - 256) % 4) (i 1).val
/-- The token a row of the folded magnitudes is of. -/
def amTok (i : S384x128.Idx) : ℕ := if (i 0).val < 256 then (i 0).val / 8 else ((i 0).val - 256) / 4

theorem fwdGate_T (b : Fin 2) {w : BitVec 32} (hw : w.toNat < 4) (g : ℕ) (hg : g < 28) (ps : FVec F S32x128 .f32)
    (hps : ∀ y : S32x128.Idx, ps y = X.pres (n2 b.val (32 * w.toNat + (y 0).val))) (σ : Mem F) (h1 : σ 1 = X.prec) :
    T c Finset.univ (IB b) (fwdGate ps b hw g hg) σ (fun _ σ' => Keep [12, 13] σ σ'
      ∧ (∀ i : S896x128.Idx, σ' 12 i = if (i 0).val % 28 = g then fHt X b w.toNat i else σ 12 i)
      ∧ (∀ i : S896x128.Idx, σ' 13 i = if (i 0).val % 28 = g then fGp X b w.toNat i else σ 13 i)) := by
  have hv : ∀ y : S32x128.Idx, shapeCast S32x128 (fun x : S1x32x128.Idx => X.prec (n3 b.val (32 * w.toNat + (x 1).val) (3584 + 128 * g + (x 2).val))) shapeCasts_S1x32x128_S32x128 y
      = X.prec (n3 b.val (32 * w.toNat + (y 0).val) (3584 + (128 * g + (y 1).val))) := fun y =>
    (dropF (fun a d => X.prec (n3 b.val (32 * w.toNat + a) (3584 + 128 * g + d))) _ y).trans (by rw [Nat.add_assoc 3584])
  unfold fwdGate
  refine T_ld 1 (fun x : S1x32x128.Idx => X.prec (n3 b.val (32 * w.toNat + (x 1).val) (3584 + 128 * g + (x 2).val))) (Finset.mem_univ _) ?_ ?_ ?_
  · intro x
    have hx : (x 0).val < 1 := (x 0).isLt
    exact IB_pre b _ (by show b.val + 1 * (x 0).val = b.val; omega)
  · intro x
    have hx : (x 0).val < 1 := (x 0).isLt
    rw [h1]
    refine congrArg X.prec (eq_n3 ?_ ?_ ?_)
    · show b.val + 1 * (x 0).val = b.val; omega
    · show (Scalar.muli w 32#32).toNat + 1 * (x 1).val = _; rw [tok_val hw]; omega
    · show 3584 + 128 * g + 1 * (x 2).val = _; omega
  refine T_sk 12 (Finset.mem_univ _) (fun x => IB_all b 12 (by decide) _) fun _ => ?_
  refine T_st 12 (Finset.mem_univ _) (fun x => IB_all b 12 (by decide) _) fun σ1 k1 e1 => ?_
  refine T_sk 13 (Finset.mem_univ _) (fun x => IB_all b 13 (by decide) _) fun _ => ?_
  refine T_stE 13 (Finset.mem_univ _) (fun x => IB_all b 13 (by decide) _) fun σ2 k2 e2 => ?_
  refine ⟨(k1.mono (by decide)).trans (k2.mono (by decide)), fun i => ?_, fun i => ?_⟩
  · rw [k2 12 (by decide), e1]
    refine st2 _ _ _ i (fun v => v = if (i 0).val % 28 = g then fHt X b w.toNat i else σ 12 i) g 28 32 0 1 128 ⟨rfl, rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      unfold fHt
      rw [show (i 0).val / 28 = (y 0).val by omega, show 128 * ((i 0).val % 28) + (i 1).val = 128 * g + (y 1).val by omega]
      have hpa : FloatOps.mulf (FloatOps.extf .f32 bitsLt_fp8e4m3_f32 (shapeCast S32x128 (fun x : S1x32x128.Idx => X.prec (n3 b.val (32 * w.toNat + (x 1).val) (3584 + 128 * g + (x 2).val))) shapeCasts_S1x32x128_S32x128 y)) (ps y)
          = paE X b (32 * w.toNat + (y 0).val) (128 * g + (y 1).val) := by rw [hv, hps]; rfl
      unfold htE posE sgE
      rw [← hpa]
      rfl
    · intro hm
      have hi1 : (i 1).val < 128 := (i 1).isLt
      have hi0 : (i 0).val < 896 := (i 0).isLt
      rw [if_neg (by omega)]
  · rw [e2, k1 13 (by decide)]
    refine st2 _ _ _ i (fun v => v = if (i 0).val % 28 = g then fGp X b w.toNat i else σ 13 i) g 28 32 0 1 128 ⟨rfl, rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      unfold fGp
      rw [show (i 0).val / 28 = (y 0).val by omega, show 128 * ((i 0).val % 28) + (i 1).val = 128 * g + (y 1).val by omega]
      have hpa : FloatOps.mulf (FloatOps.extf .f32 bitsLt_fp8e4m3_f32 (shapeCast S32x128 (fun x : S1x32x128.Idx => X.prec (n3 b.val (32 * w.toNat + (x 1).val) (3584 + 128 * g + (x 2).val))) shapeCasts_S1x32x128_S32x128 y)) (ps y)
          = paE X b (32 * w.toNat + (y 0).val) (128 * g + (y 1).val) := by rw [hv, hps]; rfl
      unfold gpE posE sgE
      rw [← hpa]
      rfl
    · intro hm
      have hi1 : (i 1).val < 128 := (i 1).isLt
      have hi0 : (i 0).val < 896 := (i 0).isLt
      rw [if_neg (by omega)]

/-- The magnitudes of a token. -/
theorem mag_slice {n : ℕ} [NeZero n] (b tk o : ℕ) (h : S28x128.Slices ![o, 0] ⟨2, ![n, 128]⟩) (u v : FVec F S28x128 .f32)
    (hu : u = vecE (fun d => DZ X b tk d)) (hv : v = vecE (fun d => DH X b tk d)) (y : (⟨2, ![n, 128]⟩ : Shape).Idx) :
    extractStridedSlice ⟨2, ![n, 128]⟩ ![o, 0] (mag u v) h y = MG X b tk (o + (y 0).val) (y 1).val := by
  subst hu hv
  have e : (0 : ℕ) + (y 1).val = (y 1).val := Nat.zero_add _
  show FloatOps.maximumf (FloatOps.absf (DZ X b tk (128 * (o + (y 0).val) + (0 + (y 1).val)))) (FloatOps.absf (DH X b tk (128 * (o + (y 0).val) + (0 + (y 1).val)))) = _
  rw [e]; rfl

/-- The forward scan's reads of a token's row. -/
theorem rd_step {X : Inp F} {w : BitVec 32} (hw : w.toNat < 4) {t : ℕ} (ht : t < 32) {v : S3584x128.Idx → F .f32} {f : ℕ → ℕ → F .f32}
    (hv : ∀ i : S3584x128.Idx, (i 0).val / 28 = 32 * w.toNat + t → v i = f ((i 0).val / 28) (128 * ((i 0).val % 28) + (i 1).val)) (x : S28x128.Idx) :
    v ((rStep hw ht).toLoadRect.idx x) = vecE (f (32 * w.toNat + t)) x := by
  have hx0 : (x 0).val < 28 := (x 0).isLt
  have hx1 : (x 1).val < 128 := (x 1).isLt
  have a0 : (((rStep hw ht).toLoadRect.idx x) 0).val = 896 * w.toNat + 28 * t + (x 0).val := by
    show (Scalar.addi (Scalar.muli w 896#32) (BitVec.ofNat 32 (28 * t))).toNat + 1 * (x 0).val = _; rw [step_val hw ht]; omega
  have a1 : (((rStep hw ht).toLoadRect.idx x) 1).val = (x 1).val := by show 0 + 1 * (x 1).val = _; omega
  refine (hv _ (by rw [a0]; omega)).trans ?_
  rw [a0, a1, show (896 * w.toNat + 28 * t + (x 0).val) / 28 = 32 * w.toNat + t by omega, show (896 * w.toNat + 28 * t + (x 0).val) % 28 = (x 0).val by omega]
theorem rd_row {t : ℕ} (ht : 28 * t + 28 ≤ 896) {v : S896x128.Idx → F .f32} {f : ℕ → ℕ → F .f32}
    (hv : ∀ i : S896x128.Idx, v i = f ((i 0).val / 28) (128 * ((i 0).val % 28) + (i 1).val)) (x : S28x128.Idx) :
    v ((rRow t ht).toLoadRect.idx x) = vecE (f t) x := by
  have hx0 : (x 0).val < 28 := (x 0).isLt
  have a0 : (((rRow t ht).toLoadRect.idx x) 0).val = 28 * t + (x 0).val := by show 28 * t + 1 * (x 0).val = _; omega
  have a1 : (((rRow t ht).toLoadRect.idx x) 1).val = (x 1).val := by show 0 + 1 * (x 1).val = _; omega
  rw [hv, a0, a1, show (28 * t + (x 0).val) / 28 = t by omega, show (28 * t + (x 0).val) % 28 = (x 0).val by omega]

/-- One step of the forward recurrence. -/
theorem fwdStep_T (b : Fin 2) {w : BitVec 32} (hw : w.toNat < 4) (t : ℕ) (ht : t < 32) (h : FVec F S28x128 .f32)
    (hh : h = vecE (fun d => HE X b d (32 * w.toNat + t))) (σ : Mem F)
    (hz : ∀ i : S3584x128.Idx, σ 9 i = fZ X b i) (hg : ∀ i : S3584x128.Idx, σ 10 i = fG X b i) (hq : ∀ i : S3584x128.Idx, σ 11 i = fQ X b i)
    (hc : ∀ i : S896x128.Idx, σ 12 i = fHt X b w.toNat i) (hgp : ∀ i : S896x128.Idx, σ 13 i = fGp X b w.toNat i) :
    T c Finset.univ (IB b) (fwdStep hw t ht h) σ (fun h' σ' => Keep [14, 15, 16] σ σ' ∧ h' = vecE (fun d => HE X b d (32 * w.toNat + (t + 1)))
      ∧ (∀ i : S896x128.Idx, σ' 14 i = if (i 0).val / 28 = t then fDz X b w.toNat i else σ 14 i)
      ∧ (∀ i : S896x128.Idx, σ' 15 i = if (i 0).val / 28 = t then fDh X b w.toNat i else σ 15 i)
      ∧ (∀ i : S384x128.Idx, σ' 16 i = if amTok i = t then fAm X b w.toNat i else σ 16 i)) := by
  subst hh
  unfold fwdStep
  refine T_ld 9 (vecE (fun d => zE X b (32 * w.toNat + t) d)) (Finset.mem_univ _) (fun x => IB_all b 9 (by decide) _) (rd_step (X := X) hw ht (f := fun t d => zE X b t d) fun i _ => hz i) ?_
  refine T_ld 12 (vecE (fun d => htE X b (32 * w.toNat + t) d)) (Finset.mem_univ _) (fun x => IB_all b 12 (by decide) _) (rd_row _ (f := fun t d => htE X b (32 * w.toNat + t) d) hc) ?_
  refine T_ld 11 (vecE (fun d => QE X b d (128 - (32 * w.toNat + t)))) (Finset.mem_univ _) (fun x => IB_all b 11 (by decide) _) (rd_step (X := X) hw ht (f := fun t d => QE X b d (128 - t)) fun i _ => hq i) ?_
  refine T_ld 10 (vecE (fun d => GE X b (32 * w.toNat + t) d)) (Finset.mem_univ _) (fun x => IB_all b 10 (by decide) _) (rd_step (X := X) hw ht (f := fun t d => GE X b t d) fun i _ => hg i) ?_
  refine T_ld 13 (vecE (fun d => gpE X b (32 * w.toNat + t) d)) (Finset.mem_univ _) (fun x => IB_all b 13 (by decide) _) (rd_row _ (f := fun t d => gpE X b (32 * w.toNat + t) d) hgp) ?_
  refine T_sk 14 (Finset.mem_univ _) (fun x => IB_all b 14 (by decide) _) fun _ => ?_
  refine T_st 14 (Finset.mem_univ _) (fun x => IB_all b 14 (by decide) _) fun σ1 k1 e1 => ?_
  refine T_sk 15 (Finset.mem_univ _) (fun x => IB_all b 15 (by decide) _) fun _ => ?_
  refine T_st 15 (Finset.mem_univ _) (fun x => IB_all b 15 (by decide) _) fun σ2 k2 e2 => ?_
  refine T_sk 16 (Finset.mem_univ _) (fun x => IB_all b 16 (by decide) _) fun _ => ?_
  refine T_st 16 (Finset.mem_univ _) (fun x => IB_all b 16 (by decide) _) fun σ3 k3 e3 => ?_
  refine T_sk 16 (Finset.mem_univ _) (fun x => IB_all b 16 (by decide) _) fun _ => ?_
  refine T_st 16 (Finset.mem_univ _) (fun x => IB_all b 16 (by decide) _) fun σ4 k4 e4 => ?_
  have hms := fun {n : ℕ} [NeZero n] (o : ℕ) (h : S28x128.Slices ![o, 0] ⟨2, ![n, 128]⟩) (y : (⟨2, ![n, 128]⟩ : Shape).Idx) =>
    mag_slice X b (32 * w.toNat + t) o h (mulf (vecE (fun d => QE X b d (128 - (32 * w.toNat + t)))) (mulf (vecE (fun d => zE X b (32 * w.toNat + t) d)) (subf (vecE (fun d => htE X b (32 * w.toNat + t) d)) (vecE (fun d => HE X b d (32 * w.toNat + t))))))
      (mulf (mulf (vecE (fun d => GE X b (32 * w.toNat + t) d)) (vecE (fun d => zE X b (32 * w.toNat + t) d))) (vecE (fun d => gpE X b (32 * w.toNat + t) d))) rfl rfl y
  refine T_pure ⟨(((k1.mono (by decide)).trans (k2.mono (by decide))).trans (k3.mono (by decide))).trans (k4.mono (by decide)), rfl, fun i => ?_, fun i => ?_, fun i => ?_⟩
  · rw [k4 14 (by decide), k3 14 (by decide), k2 14 (by decide), e1]
    refine st2 _ _ _ i (fun v => v = if (i 0).val / 28 = t then fDz X b w.toNat i else σ 14 i) (28 * t) 1 28 0 1 128 ⟨rfl, rfl, rfl⟩ ⟨rfl, rfl, rfl⟩ ⟨by omega, by omega⟩ ?_ ?_
    · intro y hi0 hi1
      have hy0 : (y 0).val < 28 := (y 0).isLt
      rw [if_pos (by omega), shapeCast_self]
      unfold fDz
      rw [show (i 0).val / 28 = t by omega, show (i 0).val % 28 = (y 0).val by omega, show (i 1).val = (y 1).val by omega]
      rfl
    · intro hm
      have hi1 : (i 1).val < 128 := (i 1).isLt
      rw [if_neg (by omega)]
  · rw [k4 15 (by decide), k3 15 (by decide), e2, k1 15 (by decide)]
    refine st2 _ _ _ i (fun v => v = if (i 0).val / 28 = t then fDh X b w.toNat i else σ 15 i) (28 * t) 1 28 0 1 128 ⟨rfl, rfl, rfl⟩ ⟨rfl, rfl, rfl⟩ ⟨by omega, by omega⟩ ?_ ?_
    · intro y hi0 hi1
      have hy0 : (y 0).val < 28 := (y 0).isLt
      rw [if_pos (by omega), shapeCast_self]
      unfold fDh
      rw [show (i 0).val / 28 = t by omega, show (i 0).val % 28 = (y 0).val by omega, show (i 1).val = (y 1).val by omega]
      rfl
    · intro hm
      have hi1 : (i 1).val < 128 := (i 1).isLt
      rw [if_neg (by omega)]
  · have hi0' : (i 0).val < 384 := (i 0).isLt
    have hi1' : (i 1).val < 128 := (i 1).isLt
    rw [e4]
    refine st2 _ _ _ i (fun v => v = if amTok i = t then fAm X b w.toNat i else σ 16 i) (256 + 4 * t) 1 4 0 1 128 ⟨rfl, rfl, rfl⟩ ⟨rfl, rfl, rfl⟩ ⟨by omega, by omega⟩ ?_ ?_
    · intro y hi0 hi1
      have hy0 : (y 0).val < 4 := (y 0).isLt
      rw [if_pos (by unfold amTok; rw [if_neg (by omega)]; omega), shapeCast_self]
      refine (hms 24 _ y).trans ?_
      unfold fAm
      rw [if_neg (by omega), show ((i 0).val - 256) / 4 = t by omega, show ((i 0).val - 256) % 4 = (y 0).val by omega, show (i 1).val = (y 1).val by omega]
    · intro hm
      rw [e3]
      refine st2 _ _ _ i (fun v => v = if amTok i = t then fAm X b w.toNat i else σ 16 i) (8 * t) 1 8 0 1 128 ⟨rfl, rfl, rfl⟩ ⟨rfl, rfl, rfl⟩ ⟨by omega, by omega⟩ ?_ ?_
      · intro y hi0 hi1
        have hy0 : (y 0).val < 8 := (y 0).isLt
        rw [if_pos (by unfold amTok; rw [if_pos (by omega)]; omega), shapeCast_self]
        refine (congrArg₂ FloatOps.maximumf (congrArg₂ FloatOps.maximumf (hms 0 _ y) (hms 8 _ y)) (hms 16 _ y)).trans ?_
        unfold fAm
        rw [if_pos (by omega), show (i 0).val / 8 = t by omega, show (i 0).val % 8 = (y 0).val by omega, show (i 1).val = (y 1).val by omega, Nat.zero_add]
      · intro hm'
        rw [if_neg (by unfold amTok; split <;> omega), k2 16 (by decide), k1 16 (by decide)]

/-- A chunk's largest magnitudes. -/
theorem amaxes_T (b : Fin 2) (w : ℕ) (σ : Mem F) (h : ∀ i : S384x128.Idx, σ 16 i = fAm X b w i) :
    T c Finset.univ (IB b) amaxes σ (fun m σ' => σ' = σ ∧ m = amV X b w) := by
  have h8 : ∀ (i : ℕ) (hi : i < 8) (x : S32x128.Idx), σ 16 ((lStr (i := i) (n := 8) (by omega)).idx x) = am8 X b w i x := by
    intro i hi x
    have hx0 : (x 0).val < 32 := (x 0).isLt
    have a0 : (((lStr (i := i) (n := 8) (by omega)).idx x) 0).val = i + 8 * (x 0).val := rfl
    have a1 : (((lStr (i := i) (n := 8) (by omega)).idx x) 1).val = (x 1).val := by show 0 + 1 * (x 1).val = _; omega
    rw [h]; unfold fAm
    rw [a0, a1, if_pos (by omega), show (i + 8 * (x 0).val) / 8 = (x 0).val by omega, show (i + 8 * (x 0).val) % 8 = i by omega]; rfl
  have h4 : ∀ (i : ℕ) (hi : i < 4) (x : S32x128.Idx), σ 16 ((lStr (i := 256 + i) (n := 4) (by omega)).idx x) = am4 X b w i x := by
    intro i hi x
    have hx0 : (x 0).val < 32 := (x 0).isLt
    have a0 : (((lStr (i := 256 + i) (n := 4) (by omega)).idx x) 0).val = 256 + i + 4 * (x 0).val := rfl
    have a1 : (((lStr (i := 256 + i) (n := 4) (by omega)).idx x) 1).val = (x 1).val := by show 0 + 1 * (x 1).val = _; omega
    rw [h]; unfold fAm
    rw [a0, a1, if_neg (by omega), show (256 + i + 4 * (x 0).val - 256) / 4 = (x 0).val by omega, show (256 + i + 4 * (x 0).val - 256) % 4 = i by omega]; rfl
  unfold amaxes
  refine T_ld 16 (am8 X b w 0) (Finset.mem_univ _) (fun x => IB_all b 16 (by decide) _) (h8 0 (by omega)) ?_
  refine T_bind (T_runF 7 _ (fun n m σ' => σ' = σ ∧ m = amA X b w n) ?_ _ _ ⟨rfl, rfl⟩) fun m σ1 hm => ?_
  · rintro i hi m σ1 ⟨rfl, rfl⟩
    refine T_ld 16 (am8 X b w (i + 1)) (Finset.mem_univ _) (fun x => IB_all b 16 (by decide) _) (h8 (i + 1) (by omega)) ?_
    exact T_pure ⟨rfl, rfl⟩
  obtain ⟨rfl, rfl⟩ := hm
  refine T_bind (T_runF 4 _ (fun n m σ' => σ' = σ1 ∧ m = amB X b w n) ?_ _ _ ⟨rfl, rfl⟩) fun m σ2 hm => ?_
  · rintro i hi m σ2 ⟨rfl, rfl⟩
    refine T_ld 16 (am4 X b w i) (Finset.mem_univ _) (fun x => IB_all b 16 (by decide) _) (h4 i (by omega)) ?_
    exact T_pure ⟨rfl, rfl⟩
  obtain ⟨rfl, rfl⟩ := hm
  exact T_pure ⟨rfl, rfl⟩

/-- The quantised lane tile `j` of chunk `k`. -/
theorem tile_T (b : Fin 2) (k : Fin 4) (v : Vec F S32x128 .f32) (j : Fin 56)
    (hv : ∀ y : S32x128.Idx, v y = DP X b (32 * k.val + (y 0).val) (128 * j.val + (y 1).val)) (σ : Mem F) (h6 : σ 6 = X.ws) :
    T c Finset.univ (IB b) (tile b k (invOf (amV X b k.val)) v j) σ (fun _ σ' => Keep [18, 19] σ σ'
      ∧ (∀ i : S2x128x7168.Idx, σ' 19 i = if (i 0).val = b.val ∧ (i 1).val / 32 = k.val ∧ (i 2).val / 128 = j.val then vCo X i else σ 19 i)
      ∧ (∀ i : S256x7168.Idx, σ' 18 i = if (i 0).val / 128 = b.val ∧ (i 0).val % 128 / 32 = k.val ∧ (i 1).val / 128 = j.val then AV X i else σ 18 i)) := by
  have hk := k.isLt
  have hj := j.isLt
  have hb := b.isLt
  have hco : ∀ y : S32x128.Idx, codeOf v (invOf (amV X b k.val)) y = CO X b (32 * k.val + (y 0).val) (128 * j.val + (y 1).val) := by
    intro y
    have hy0 : (y 0).val < 32 := (y 0).isLt
    have hi : invOf (amV X b k.val) y = IV X b (32 * k.val + (y 0).val) := by
      rw [inv_row]; unfold IV
      rw [show (32 * k.val + (y 0).val) / 32 = k.val by omega, show (32 * k.val + (y 0).val) % 32 = (y 0).val by omega]
    show FloatOps.truncf .fp8e5m2 bitsLt_fp8e5m2_f32 (FloatOps.minimumf (Scalar.ofBits .f32 0x47600000#32) (FloatOps.maximumf (Scalar.ofBits .f32 0xC7600000#32) (FloatOps.mulf (v y) (invOf (amV X b k.val) y)))) = _
    rw [hv, hi]; rfl
  unfold tile
  refine T_sk 19 (Finset.mem_univ _) (fun x => IB_all b 19 (by decide) _) fun _ => ?_
  refine T_st 19 (Finset.mem_univ _) (fun x => IB_all b 19 (by decide) _) fun σ1 k1 e1 => ?_
  refine T_ld 6 (fun x : S1x128.Idx => X.ws (n2 j.val (x 1).val)) (Finset.mem_univ _) (fun x => IB_all b 6 (by decide) _) ?_ ?_
  · intro x
    have hx : (x 0).val < 1 := (x 0).isLt
    rw [k1 6 (by decide), h6]
    refine congrArg X.ws (eq_n2 ?_ ?_)
    · show j.val + 1 * (x 0).val = j.val; omega
    · show 0 + 1 * (x 1).val = (x 1).val; omega
  refine T_sk 18 (Finset.mem_univ _) (fun x => IB_all b 18 (by decide) _) fun _ => ?_
  refine T_stE 18 (Finset.mem_univ _) (fun x => IB_all b 18 (by decide) _) fun σ2 k2 e2 => ?_
  refine ⟨(k1.mono (by decide)).trans (k2.mono (by decide)), fun i => ?_, fun i => ?_⟩
  · have hi0' : (i 0).val < 2 := (i 0).isLt
    have hi1' : (i 1).val < 128 := (i 1).isLt
    have hi2' : (i 2).val < 7168 := (i 2).isLt
    rw [k2 19 (by decide), e1]
    refine st3 _ _ _ i (fun v => v = if (i 0).val = b.val ∧ (i 1).val / 32 = k.val ∧ (i 2).val / 128 = j.val then vCo X i else σ 19 i) b.val 1 (32 * k.val) 32 (128 * j.val) 128 ⟨rfl, rfl⟩
      ⟨(tok_val (fwdWord_lt k)).trans (by rw [fwdWord_val]), rfl⟩ ⟨rfl, rfl⟩ (fun _ => rfl) ?_ ?_
    · intro y hi0 hi1 hi2
      have hy0 : (y 0).val < 1 := (y 0).isLt
      have hy1 : (y 1).val < 32 := (y 1).isLt
      have hy2 : (y 2).val < 128 := (y 2).isLt
      rw [if_pos (by omega), addU, hco]
      refine congr (congr (congrArg (CO X) ?_) ?_) ?_
      · omega
      · refine (congrArg (32 * k.val + ·) (n2_0 hy1)).trans ?_; omega
      · refine (congrArg (128 * j.val + ·) (n2_1 hy2)).trans ?_; omega
    · intro hm
      rw [if_neg (by omega)]
  · have hi0' : (i 0).val < 256 := (i 0).isLt
    have hi1' : (i 1).val < 7168 := (i 1).isLt
    rw [e2, k1 18 (by decide)]
    refine st2 _ _ _ i (fun v => v = if (i 0).val / 128 = b.val ∧ (i 0).val % 128 / 32 = k.val ∧ (i 1).val / 128 = j.val then AV X i else σ 18 i) (128 * b.val + 32 * k.val) 1 32 (128 * j.val) 1 128
      ⟨(a_val b (fwdWord_lt k)).trans (by rw [fwdWord_val]), rfl, rfl⟩ ⟨rfl, rfl, rfl⟩ ⟨by omega, by omega⟩ ?_ ?_
    · intro y hi0 hi1
      have hy0 : (y 0).val < 32 := (y 0).isLt
      have hy1 : (y 1).val < 128 := (y 1).isLt
      rw [if_pos (by omega), shapeCast_self]
      refine (congrArg₂ FloatOps.mulf (congrArg (FloatOps.extf .bf16 bitsLt_fp8e5m2_bf16) (hco y)) (broadcastTo_apply _ _ y (n2 0 (y 1).val) ?_)).trans ?_
      · intro a
        match a with
        | ⟨0, _⟩ => rfl
        | ⟨1, _⟩ => exact n2_1 hy1
      show FloatOps.mulf _ (FloatOps.truncf .bf16 bitsLt_bf16_f32 (X.ws (n2 j.val ((n2 0 (y 1).val : S1x128.Idx) 1).val))) = AE X ((i 0).val / 128) ((i 0).val % 128) (i 1).val
      rw [show ((n2 0 (y 1).val : S1x128.Idx) 1).val = (y 1).val from n2_1 hy1, show (i 0).val / 128 = b.val by omega, show (i 0).val % 128 = 32 * k.val + (y 0).val by omega, show (i 1).val = 128 * j.val + (y 1).val by omega]
      unfold AE
      rw [show (128 * j.val + (y 1).val) / 128 = j.val by omega, show (128 * j.val + (y 1).val) % 128 = (y 1).val by omega]
    · intro hm
      rw [if_neg (by omega)]

end Cert.KernelIdeal
-- ==== Proof.KI.Batch.lean ====
module

public import proofs.«01_k».proof.Proof.KI.Fwd

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] [Named F] {c : Dev nD}

variable (X : Inp F)

/-! ## A trip of the forward loop -/

theorem fwdTrip_T (b : Fin 2) (k : Fin 4) (h : FVec F S28x128 .f32) (σ : Mem F) (hI : InB X σ) (hJ : RevJ X b 128 σ)
    (hh : h = vecE (fun d => HE X b d (32 * k.val))) :
    T c Finset.univ (IB b) (fwdTrip b k h) σ (fun h' σ' => Keep [12, 13, 14, 15, 16, 18, 19, 20] σ σ' ∧ h' = vecE (fun d => HE X b d (32 * k.val + 32))
      ∧ (∀ i : S256x7168.Idx, σ' 18 i = if (i 0).val / 128 = b.val ∧ (i 0).val % 128 / 32 = k.val then AV X i else σ 18 i)
      ∧ (∀ i : S2x128x7168.Idx, σ' 19 i = if (i 0).val = b.val ∧ (i 1).val / 32 = k.val then vCo X i else σ 19 i)
      ∧ (∀ i : S2x128x128.Idx, σ' 20 i = if (i 0).val = b.val ∧ (i 1).val / 32 = k.val then vDsc X i else σ 20 i)) := by
  have hk := k.isLt
  have hb := b.isLt
  have hw := fwdWord_lt k
  have hwv : (fwdWord k).toNat = k.val := fwdWord_val k
  unfold fwdTrip
  refine T_ld 8 (fun x : S1x32x128.Idx => X.pres (n2 b.val (32 * k.val + (x 1).val))) (Finset.mem_univ _) (fun x => IB_all b 8 (by decide) _) ?_ ?_
  · intro x
    have hx : (x 0).val < 1 := (x 0).isLt
    refine (hI.presL _).trans (congrArg X.pres (congrArg₂ n2 ?_ ?_))
    · show b.val + 1 * (x 0).val = b.val; omega
    · show (Scalar.muli (fwdWord k) 32#32).toNat + 1 * (x 1).val = _; rw [tok_val hw, hwv]; omega
  refine T_bind (T_runF 28 _ (fun g _ σ' => Keep [12, 13] σ σ'
      ∧ (∀ i : S896x128.Idx, (i 0).val % 28 < g → σ' 12 i = fHt X b (fwdWord k).toNat i)
      ∧ (∀ i : S896x128.Idx, (i 0).val % 28 < g → σ' 13 i = fGp X b (fwdWord k).toNat i)) ?_ _ _ ?_) fun _ σ1 h1 => ?_
  · rintro g hg - σ1 ⟨k1, ha, hp⟩
    refine T_mono (fwdGate_T X b hw g hg _ ?_ σ1 ((k1 1 (by decide)).trans hI.prec)) ?_
    · intro y
      rw [hwv]
      exact dropF (fun a _ => X.pres (n2 b.val (32 * k.val + a))) _ y
    · rintro - σ2 ⟨k2, ha2, hp2⟩
      refine ⟨k1.trans k2, fun i hi => ?_, fun i hi => ?_⟩
      · rw [ha2]; split
        · rfl
        · exact ha i (by omega)
      · rw [hp2]; split
        · rfl
        · exact hp i (by omega)
  · exact ⟨Keep.refl _ _, fun i hi => by omega, fun i hi => by omega⟩
  obtain ⟨k1, ha, hp⟩ := h1
  refine T_bind (T_runF 32 _ (fun t h' σ' => Keep [14, 15, 16] σ1 σ' ∧ h' = vecE (fun d => HE X b d (32 * (fwdWord k).toNat + t))
      ∧ (∀ i : S896x128.Idx, (i 0).val / 28 < t → σ' 14 i = fDz X b (fwdWord k).toNat i)
      ∧ (∀ i : S896x128.Idx, (i 0).val / 28 < t → σ' 15 i = fDh X b (fwdWord k).toNat i)
      ∧ (∀ i : S384x128.Idx, amTok i < t → σ' 16 i = fAm X b (fwdWord k).toNat i)) ?_ _ _ ?_) fun h2 σ2 hh2 => ?_
  · rintro t ht h' σ2 ⟨k2, he, hz, hd, hm⟩
    refine T_mono (fwdStep_T X b hw t ht h' he σ2 ?_ ?_ ?_ ?_ ?_) ?_
    · intro i; rw [k2 9 (by decide), k1 9 (by decide)]; exact hJ.z i (by omega)
    · intro i; rw [k2 10 (by decide), k1 10 (by decide)]; exact hJ.g i (by omega)
    · intro i; rw [k2 11 (by decide), k1 11 (by decide)]; exact hJ.q i (by omega)
    · intro i; rw [k2 12 (by decide)]; exact ha i (Nat.mod_lt _ (by omega))
    · intro i; rw [k2 13 (by decide)]; exact hp i (Nat.mod_lt _ (by omega))
    · rintro h3 σ3 ⟨k3, he3, hz3, hd3, hm3⟩
      refine ⟨k2.trans k3, he3, fun i hi => ?_, fun i hi => ?_, fun i hi => ?_⟩
      · rw [hz3]; split
        · rfl
        · exact hz i (by omega)
      · rw [hd3]; split
        · rfl
        · exact hd i (by omega)
      · rw [hm3]; split
        · rfl
        · exact hm i (by omega)
  · exact ⟨Keep.refl _ _, by rw [hwv]; exact hh, fun i hi => by omega, fun i hi => by omega, fun i hi => by omega⟩
  obtain ⟨k2, he, hz, hd, hm⟩ := hh2
  rw [hwv] at he hz hd hm
  have hz' : ∀ i : S896x128.Idx, σ2 14 i = fDz X b k.val i := fun i => hz i (by have : (i 0).val < 896 := (i 0).isLt; omega)
  have hd' : ∀ i : S896x128.Idx, σ2 15 i = fDh X b k.val i := fun i => hd i (by have : (i 0).val < 896 := (i 0).isLt; omega)
  have hm' : ∀ i : S384x128.Idx, σ2 16 i = fAm X b k.val i := fun i => hm i (by have : (i 0).val < 384 := (i 0).isLt; unfold amTok; split <;> omega)
  refine T_bind (amaxes_T X b k.val σ2 hm') fun m σ2' hmm => ?_
  obtain ⟨rfl, rfl⟩ := hmm
  refine T_sk 20 (Finset.mem_univ _) (fun x => IB_all b 20 (by decide) _) fun _ => ?_
  refine T_st 20 (Finset.mem_univ _) (fun x => IB_all b 20 (by decide) _) fun σ3 k3 e3 => ?_
  have hrd : ∀ (g : ℕ) (hg : g < 28) (f : ℕ → ℕ → F .f32) (v : S896x128.Idx → F .f32), (∀ i : S896x128.Idx, v i = f ((i 0).val / 28) (128 * ((i 0).val % 28) + (i 1).val)) →
      ∀ x : S32x128.Idx, v ((lRow hg).idx x) = f (x 0).val (128 * g + (x 1).val) := by
    intro g hg f v hv x
    have hx0 : (x 0).val < 32 := (x 0).isLt
    have a0 : (((lRow hg).idx x) 0).val = g + 28 * (x 0).val := rfl
    have a1 : (((lRow hg).idx x) 1).val = (x 1).val := by show 0 + 1 * (x 1).val = _; omega
    rw [hv, a0, a1, show (g + 28 * (x 0).val) / 28 = (x 0).val by omega, show (g + 28 * (x 0).val) % 28 = g by omega]
  refine T_bind (T_runF 28 _ (fun g _ σ' => Keep [18, 19] σ3 σ'
      ∧ (∀ i : S2x128x7168.Idx, σ' 19 i = if (i 0).val = b.val ∧ (i 1).val / 32 = k.val ∧ (i 2).val / 128 < g then vCo X i else σ3 19 i)
      ∧ (∀ i : S256x7168.Idx, σ' 18 i = if (i 0).val / 128 = b.val ∧ (i 0).val % 128 / 32 = k.val ∧ (i 1).val / 128 < g then AV X i else σ3 18 i)) ?_ _ _ ?_) fun _ σ4 h4 => ?_
  · rintro g hg - σ4 ⟨k4, hc4, ha4⟩
    refine T_ld 14 (fun x : S32x128.Idx => DZ X b (32 * k.val + (x 0).val) (128 * g + (x 1).val)) (Finset.mem_univ _) (fun x => IB_all b 14 (by decide) _) ?_ ?_
    · intro x
      rw [k4 14 (by decide), k3 14 (by decide)]
      exact hrd g hg (fun t d => DZ X b (32 * k.val + t) d) _ hz' x
    refine T_mono (tile_T X b k _ ⟨g, by omega⟩ ?_ σ4 ?_) ?_
    · intro y
      have hy1 : (y 1).val < 128 := (y 1).isLt
      unfold DP
      rw [if_pos (by show 128 * g + (y 1).val < 3584; omega)]
    · rw [k4 6 (by decide), k3 6 (by decide), k2 6 (by decide), k1 6 (by decide)]; exact hI.ws
    · rintro - σ5 ⟨k5, hc5, ha5⟩
      refine ⟨k4.trans k5, fun i => ?_, fun i => ?_⟩
      · rw [hc5, hc4]
        by_cases c1 : (i 0).val = b.val ∧ (i 1).val / 32 = k.val ∧ (i 2).val / 128 = g
        · rw [if_pos c1, if_pos (by omega)]
        · rw [if_neg c1]
          by_cases c2 : (i 0).val = b.val ∧ (i 1).val / 32 = k.val ∧ (i 2).val / 128 < g
          · rw [if_pos c2, if_pos (by omega)]
          · rw [if_neg c2, if_neg (by omega)]
      · rw [ha5, ha4]
        by_cases c1 : (i 0).val / 128 = b.val ∧ (i 0).val % 128 / 32 = k.val ∧ (i 1).val / 128 = g
        · rw [if_pos c1, if_pos (by omega)]
        · rw [if_neg c1]
          by_cases c2 : (i 0).val / 128 = b.val ∧ (i 0).val % 128 / 32 = k.val ∧ (i 1).val / 128 < g
          · rw [if_pos c2, if_pos (by omega)]
          · rw [if_neg c2, if_neg (by omega)]
  · exact ⟨Keep.refl _ _, fun i => by rw [if_neg (by omega)], fun i => by rw [if_neg (by omega)]⟩
  obtain ⟨k4, hc4, ha4⟩ := h4
  refine T_bind (T_runF 28 _ (fun g _ σ' => Keep [18, 19] σ3 σ'
      ∧ (∀ i : S2x128x7168.Idx, σ' 19 i = if (i 0).val = b.val ∧ (i 1).val / 32 = k.val ∧ (i 2).val / 128 < 28 + g then vCo X i else σ3 19 i)
      ∧ (∀ i : S256x7168.Idx, σ' 18 i = if (i 0).val / 128 = b.val ∧ (i 0).val % 128 / 32 = k.val ∧ (i 1).val / 128 < 28 + g then AV X i else σ3 18 i)) ?_ _ _ ?_) fun _ σ5 h5 => ?_
  · rintro g hg - σ4 ⟨k4, hc4, ha4⟩
    refine T_ld 15 (fun x : S32x128.Idx => DH X b (32 * k.val + (x 0).val) (128 * g + (x 1).val)) (Finset.mem_univ _) (fun x => IB_all b 15 (by decide) _) ?_ ?_
    · intro x
      rw [k4 15 (by decide), k3 15 (by decide)]
      exact hrd g hg (fun t d => DH X b (32 * k.val + t) d) _ hd' x
    refine T_mono (tile_T X b k _ ⟨28 + g, by omega⟩ ?_ σ4 ?_) ?_
    · intro y
      have hy1 : (y 1).val < 128 := (y 1).isLt
      unfold DP
      rw [if_neg (by show ¬ 128 * (28 + g) + (y 1).val < 3584; omega), show 128 * (28 + g) + (y 1).val - 3584 = 128 * g + (y 1).val by omega]
    · rw [k4 6 (by decide), k3 6 (by decide), k2 6 (by decide), k1 6 (by decide)]; exact hI.ws
    · rintro - σ5 ⟨k5, hc5, ha5⟩
      refine ⟨k4.trans k5, fun i => ?_, fun i => ?_⟩
      · rw [hc5, hc4]
        by_cases c1 : (i 0).val = b.val ∧ (i 1).val / 32 = k.val ∧ (i 2).val / 128 = 28 + g
        · rw [if_pos c1, if_pos (by omega)]
        · rw [if_neg c1]
          by_cases c2 : (i 0).val = b.val ∧ (i 1).val / 32 = k.val ∧ (i 2).val / 128 < 28 + g
          · rw [if_pos c2, if_pos (by omega)]
          · rw [if_neg c2, if_neg (by omega)]
      · rw [ha5, ha4]
        by_cases c1 : (i 0).val / 128 = b.val ∧ (i 0).val % 128 / 32 = k.val ∧ (i 1).val / 128 = 28 + g
        · rw [if_pos c1, if_pos (by omega)]
        · rw [if_neg c1]
          by_cases c2 : (i 0).val / 128 = b.val ∧ (i 0).val % 128 / 32 = k.val ∧ (i 1).val / 128 < 28 + g
          · rw [if_pos c2, if_pos (by omega)]
          · rw [if_neg c2, if_neg (by omega)]
  · exact ⟨k4, hc4, ha4⟩
  obtain ⟨k5, hc5, ha5⟩ := h5
  refine T_pure ⟨((((k1.mono (by decide)).trans (k2.mono (by decide))).trans (k3.mono (by decide))).trans (k5.mono (by decide))), he, fun i => ?_, fun i => ?_, fun i => ?_⟩
  · have hi1 : (i 1).val < 7168 := (i 1).isLt
    rw [ha5, k3 18 (by decide), k2 18 (by decide), k1 18 (by decide)]
    by_cases c1 : (i 0).val / 128 = b.val ∧ (i 0).val % 128 / 32 = k.val
    · rw [if_pos c1, if_pos (by omega)]
    · rw [if_neg c1, if_neg (by omega)]
  · have hi2 : (i 2).val < 7168 := (i 2).isLt
    rw [hc5, k3 19 (by decide), k2 19 (by decide), k1 19 (by decide)]
    by_cases c1 : (i 0).val = b.val ∧ (i 1).val / 32 = k.val
    · rw [if_pos c1, if_pos (by omega)]
    · rw [if_neg c1, if_neg (by omega)]
  · have hi2' : (i 2).val < 128 := (i 2).isLt
    have hi0' : (i 0).val < 2 := (i 0).isLt
    rw [k5 20 (by decide), e3, k2 20 (by decide), k1 20 (by decide)]
    refine st3 _ _ _ i (fun v => v = if (i 0).val = b.val ∧ (i 1).val / 32 = k.val then vDsc X i else σ 20 i) b.val 1 (32 * k.val) 32 0 128 ⟨rfl, rfl⟩
      ⟨(tok_val hw).trans (by rw [hwv]), rfl⟩ ⟨rfl, rfl⟩ (fun _ => rfl) ?_ ?_
    · intro y hi0 hi1 hi2
      have hy0 : (y 0).val < 1 := (y 0).isLt
      have hy1 : (y 1).val < 32 := (y 1).isLt
      rw [if_pos (by omega), addU, scale_row]
      unfold vDsc SC
      rw [show (i 0).val = b.val by omega, show (i 1).val / 32 = k.val by omega, show (i 1).val % 32 = (y 1).val by omega]
      exact congrArg (fun z => scaleOf (amV X b.val k.val) (n2 z 0)) (n2_0 hy1)
    · intro hm
      rw [if_neg (by omega)]

/-! ## Between the scans, and after -/

theorem between_T (b : Fin 2) (q : FVec F S28x128 .f32) (σ : Mem F) (hI : InB X σ) (hq : q = vecE (fun d => QE X b d 128)) :
    T c Finset.univ (IB b) (between b q) σ (fun h σ' => Keep [17, 21] σ σ' ∧ h = vecE (fun d => HE X b d 0)
      ∧ (∀ i : S2x3584.Idx, σ' 21 i = if (i 0).val = b.val then vDh0 X i else σ 21 i)) := by
  have hb := b.isLt
  subst hq
  unfold between
  refine T_sk 17 (Finset.mem_univ _) (fun x => IB_all b 17 (by decide) _) fun _ => ?_
  refine T_st 17 (Finset.mem_univ _) (fun x => IB_all b 17 (by decide) _) fun σ1 k1 e1 => ?_
  have h17 : ∀ i : S28x128.Idx, σ1 17 i = QE X b (128 * (i 0).val + (i 1).val) 128 := by
    intro i
    have hi0' : (i 0).val < 28 := (i 0).isLt
    have hi1' : (i 1).val < 128 := (i 1).isLt
    rw [e1]
    refine st2 _ _ _ i (fun v => v = QE X b (128 * (i 0).val + (i 1).val) 128) 0 1 28 0 1 128 ⟨rfl, rfl, rfl⟩ ⟨rfl, rfl, rfl⟩ ⟨by omega, by omega⟩ ?_ ?_
    · intro y hi0 hi1
      rw [shapeCast_self, show (i 0).val = (y 0).val by omega, show (i 1).val = (y 1).val by omega]
    · intro hm; omega
  refine T_bind (T_runF 28 _ (fun g _ σ' => Keep [21] σ1 σ' ∧ (∀ i : S2x3584.Idx, σ' 21 i = if (i 0).val = b.val ∧ (i 1).val / 128 < g then vDh0 X i else σ 21 i)) ?_ _ _ ?_) fun _ σ2 h2 => ?_
  · rintro g hg - σ2 ⟨k2, h2⟩
    refine T_ld 17 (fun x : S1x128.Idx => QE X b (128 * g + (x 1).val) 128) (Finset.mem_univ _) (fun x => IB_all b 17 (by decide) _) ?_ ?_
    · intro x
      have hx : (x 0).val < 1 := (x 0).isLt
      have a0 : (((rH hg).toLoadRect.idx x) 0).val = g := by show g + 1 * (x 0).val = _; omega
      have a1 : (((rH hg).toLoadRect.idx x) 1).val = (x 1).val := by show 0 + 1 * (x 1).val = _; omega
      rw [k2 17 (by decide), h17, a0, a1]
    refine T_sk 21 (Finset.mem_univ _) (fun x => IB_all b 21 (by decide) _) fun _ => ?_
    refine T_stE 21 (Finset.mem_univ _) (fun x => IB_all b 21 (by decide) _) fun σ3 k3 e3 => ?_
    refine ⟨k2.trans k3, fun i => ?_⟩
    have hi0' : (i 0).val < 2 := (i 0).isLt
    rw [e3]
    refine st2 _ _ _ i (fun v => v = if (i 0).val = b.val ∧ (i 1).val / 128 < g + 1 then vDh0 X i else σ 21 i) b.val 1 1 (128 * g) 1 128 ⟨rfl, rfl, rfl⟩ ⟨rfl, rfl, rfl⟩ ⟨by omega, by omega⟩ ?_ ?_
    · intro y hi0 hi1
      have hy0 : (y 0).val < 1 := (y 0).isLt
      have hy1 : (y 1).val < 128 := (y 1).isLt
      rw [if_pos (by omega), shapeCast_self]
      unfold vDh0
      rw [show (i 0).val = b.val by omega, show (i 1).val = 128 * g + (y 1).val by omega]
    · intro hm
      rw [h2]
      by_cases c1 : (i 0).val = b.val ∧ (i 1).val / 128 < g
      · rw [if_pos c1, if_pos (by omega)]
      · rw [if_neg c1, if_neg (by omega)]
  · exact ⟨Keep.refl _ _, fun i => by rw [if_neg (by omega), k1 21 (by decide)]⟩
  obtain ⟨k2, h2⟩ := h2
  refine T_bind (T_runF 28 _ (fun g _ σ' => Keep [17] σ2 σ' ∧ (∀ i : S28x128.Idx, (i 0).val < g → σ' 17 i = HE X b (128 * (i 0).val + (i 1).val) 0)) ?_ _ _ ?_) fun _ σ3 h3 => ?_
  · rintro g hg - σ3 ⟨k3, h3⟩
    refine T_ld 5 (fun x : S1x128.Idx => HE X b (128 * g + (x 1).val) 0) (Finset.mem_univ _) (fun x => IB_all b 5 (by decide) _) ?_ ?_
    · intro x
      have hx : (x 0).val < 1 := (x 0).isLt
      rw [k3 5 (by decide), k2 5 (by decide), k1 5 (by decide), hI.h0]
      refine congrArg X.h0 (eq_n2 ?_ ?_)
      · show b.val + 1 * (x 0).val = _; omega
      · show 128 * g + 1 * (x 1).val = _; omega
    refine T_sk 17 (Finset.mem_univ _) (fun x => IB_all b 17 (by decide) _) fun _ => ?_
    refine T_stE 17 (Finset.mem_univ _) (fun x => IB_all b 17 (by decide) _) fun σ4 k4 e4 => ?_
    refine ⟨k3.trans k4, fun i hi => ?_⟩
    have hi1' : (i 1).val < 128 := (i 1).isLt
    rw [e4]
    refine st2 _ _ _ i (fun v => v = HE X b (128 * (i 0).val + (i 1).val) 0) g 1 1 0 1 128 ⟨rfl, rfl, rfl⟩ ⟨rfl, rfl, rfl⟩ ⟨by omega, by omega⟩ ?_ ?_
    · intro y hi0 hi1
      have hy0 : (y 0).val < 1 := (y 0).isLt
      rw [shapeCast_self, show (i 0).val = g by omega, show (i 1).val = (y 1).val by omega]
    · intro hm; exact h3 i (by omega)
  · exact ⟨Keep.refl _ _, fun i hi => by omega⟩
  obtain ⟨k3, h3⟩ := h3
  refine T_ldE 17 (Finset.mem_univ _) (fun x => IB_all b 17 (by decide) _) ⟨((k1.mono (by decide)).trans (k2.mono (by decide))).trans (k3.mono (by decide)), funext fun x => ?_, fun i => ?_⟩
  · have hx0 : (x 0).val < 28 := (x 0).isLt
    have a0 : ((rHw.toLoadRect.idx x) 0).val = (x 0).val := by show 0 + 1 * (x 0).val = _; omega
    have a1 : ((rHw.toLoadRect.idx x) 1).val = (x 1).val := by show 0 + 1 * (x 1).val = _; omega
    rw [h3 _ (by rw [a0]; omega), a0, a1]
  · have hi1 : (i 1).val < 3584 := (i 1).isLt
    rw [k3 21 (by decide), h2]
    by_cases c1 : (i 0).val = b.val
    · rw [if_pos c1, if_pos (by omega)]
    · rw [if_neg c1, if_neg (by omega)]

theorem scalesOut_T (b : Fin 2) (σ : Mem F) (h : ∀ i : S2x128x128.Idx, (i 0).val = b.val → σ 20 i = vDsc X i) :
    T c Finset.univ (IB b) (scalesOut b) σ (fun _ σ' => Keep [22] σ σ' ∧ (∀ i : S2x128.Idx, σ' 22 i = if (i 0).val = b.val then vSc X i else σ 22 i)) := by
  have hb := b.isLt
  unfold scalesOut
  refine T_ld 20 (fun x : S1x128x128.Idx => SC X b.val (x 1).val) (Finset.mem_univ _) (fun x => IB_all b 20 (by decide) _) ?_ ?_
  · intro x
    have hx : (x 0).val < 1 := (x 0).isLt
    have a0 : (((rB b).toLoadRect.idx x) 0).val = b.val := by show b.val + 1 * (x 0).val = _; omega
    have a1 : (((rB b).toLoadRect.idx x) 1).val = (x 1).val := by show 0 + 1 * (x 1).val = _; omega
    rw [h _ a0]; unfold vDsc; rw [a0, a1]
  refine T_sk 22 (Finset.mem_univ _) (fun x => IB_all b 22 (by decide) _) fun _ => ?_
  refine T_stE 22 (Finset.mem_univ _) (fun x => IB_all b 22 (by decide) _) fun σ1 k1 e1 => ⟨k1, fun i => ?_⟩
  have hi1' : (i 1).val < 128 := (i 1).isLt
  have hi0' : (i 0).val < 2 := (i 0).isLt
  rw [e1]
  refine st2 _ _ _ i (fun v => v = if (i 0).val = b.val then vSc X i else σ 22 i) b.val 1 1 0 1 128 ⟨rfl, rfl, rfl⟩ ⟨rfl, rfl, rfl⟩ ⟨by omega, by omega⟩ ?_ ?_
  · intro y hi0 hi1
    have hy0 : (y 0).val < 1 := (y 0).isLt
    have hy1 : (y 1).val < 128 := (y 1).isLt
    rw [if_pos (by omega), shapeCast_self]
    refine (extractStridedSlice_apply _ _ _ y (n2 0 (y 1).val : S128x128.Idx) ?_).trans ((transpose_apply _ _ _ _ (n2 (y 1).val 0 : S128x128.Idx) ?_).trans ?_)
    · intro a
      match a with
      | ⟨0, _⟩ => show 0 = 0 + (y 0).val; omega
      | ⟨1, _⟩ => exact (n2_1 hy1).trans (Nat.zero_add _).symm
    · intro a
      match a with
      | ⟨0, _⟩ => rfl
      | ⟨1, _⟩ => exact (n2_0 hy1).trans (n2_1 hy1).symm
    · refine (dropF (fun t _ => SC X b.val t) _ _).trans ?_
      unfold vSc
      rw [show (i 0).val = b.val by omega, show (i 1).val = (y 1).val by omega]
      exact congrArg (SC X b.val) (n2_0 hy1)
  · intro hm
    rw [if_neg (by omega)]

theorem RevJ.keep {X : Inp F} {b : Fin 2} {n : ℕ} {σ σ' : Mem F} {S : List (Fin 24)} (h : RevJ X b n σ) (k : Keep S σ σ') (hS : ∀ n ∈ [(9 : Fin 24), 10, 11], n ∉ S) : RevJ X b n σ' where
  z := fun i hi => (congrFun (k 9 (hS _ (by decide))) i).trans (h.z i hi)
  g := fun i hi => (congrFun (k 10 (hS _ (by decide))) i).trans (h.g i hi)
  q := fun i hi => (congrFun (k 11 (hS _ (by decide))) i).trans (h.q i hi)

/-- The forward loop. -/
theorem for2_T (b : Fin 2) (h : FVec F S28x128 .f32) (σ : Mem F) (hI : InB X σ) (hJ : RevJ X b 128 σ) (hh : h = vecE (fun d => HE X b d 0)) :
    T c Finset.univ (IB b) (Scf.for 0#32 4#32 1#32 k0_t1_ok h fun k h => fwdTrip b k h : PG F (FVec F S28x128 .f32)) σ
      (fun _ σ' => Keep [12, 13, 14, 15, 16, 18, 19, 20] σ σ'
      ∧ (∀ i : S256x7168.Idx, σ' 18 i = if (i 0).val / 128 = b.val then AV X i else σ 18 i)
      ∧ (∀ i : S2x128x7168.Idx, σ' 19 i = if (i 0).val = b.val then vCo X i else σ 19 i)
      ∧ (∀ i : S2x128x128.Idx, σ' 20 i = if (i 0).val = b.val then vDsc X i else σ 20 i)) := by
  refine T_for _ _ _ _ _ _ (fun k h σ' => Keep [12, 13, 14, 15, 16, 18, 19, 20] σ σ' ∧ h = vecE (fun d => HE X b d (32 * k))
      ∧ (∀ i : S256x7168.Idx, σ' 18 i = if (i 0).val / 128 = b.val ∧ (i 0).val % 128 / 32 < k then AV X i else σ 18 i)
      ∧ (∀ i : S2x128x7168.Idx, σ' 19 i = if (i 0).val = b.val ∧ (i 1).val / 32 < k then vCo X i else σ 19 i)
      ∧ (∀ i : S2x128x128.Idx, σ' 20 i = if (i 0).val = b.val ∧ (i 1).val / 32 < k then vDsc X i else σ 20 i)) ?_ ?_ ?_
  · exact ⟨Keep.refl _ _, hh, fun i => by rw [if_neg (by omega)], fun i => by rw [if_neg (by omega)], fun i => by rw [if_neg (by omega)]⟩
  · rintro k h1 σ1 ⟨k1, he, ha, hc, hd⟩
    refine T_mono (fwdTrip_T X b k h1 σ1 (hI.keep k1 (by decide)) (hJ.keep k1 (by decide)) he) ?_
    rintro h2 σ2 ⟨k2, he2, ha2, hc2, hd2⟩
    refine ⟨k1.trans k2, he2, fun i => ?_, fun i => ?_, fun i => ?_⟩
    · rw [ha2, ha]
      by_cases c1 : (i 0).val / 128 = b.val ∧ (i 0).val % 128 / 32 = k.val
      · rw [if_pos c1, if_pos (by omega)]
      · rw [if_neg c1]
        by_cases c2 : (i 0).val / 128 = b.val ∧ (i 0).val % 128 / 32 < k.val
        · rw [if_pos c2, if_pos (by omega)]
        · rw [if_neg c2, if_neg (by omega)]
    · rw [hc2, hc]
      by_cases c1 : (i 0).val = b.val ∧ (i 1).val / 32 = k.val
      · rw [if_pos c1, if_pos (by omega)]
      · rw [if_neg c1]
        by_cases c2 : (i 0).val = b.val ∧ (i 1).val / 32 < k.val
        · rw [if_pos c2, if_pos (by omega)]
        · rw [if_neg c2, if_neg (by omega)]
    · rw [hd2, hd]
      by_cases c1 : (i 0).val = b.val ∧ (i 1).val / 32 = k.val
      · rw [if_pos c1, if_pos (by omega)]
      · rw [if_neg c1]
        by_cases c2 : (i 0).val = b.val ∧ (i 1).val / 32 < k.val
        · rw [if_pos c2, if_pos (by omega)]
        · rw [if_neg c2, if_neg (by omega)]
  · rintro h1 σ1 ⟨k1, he, ha, hc, hd⟩
    refine ⟨k1, fun i => ?_, fun i => ?_, fun i => ?_⟩
    · rw [ha]
      have e : (i 0).val % 128 / 32 < 4 := by omega
      exact if_congr ⟨fun h => h.1, fun h => ⟨h, e⟩⟩ rfl rfl
    · rw [hc]
      have e : (i 1).val / 32 < 4 := by have : (i 1).val < 128 := (i 1).isLt; omega
      exact if_congr ⟨fun h => h.1, fun h => ⟨h, e⟩⟩ rfl rfl
    · rw [hd]
      have e : (i 1).val / 32 < 4 := by have : (i 1).val < 128 := (i 1).isLt; omega
      exact if_congr ⟨fun h => h.1, fun h => ⟨h, e⟩⟩ rfl rfl

/-- The scans of a batch. -/
theorem batch_T (b : Fin 2) (σ : Mem F) (h : InB X σ) : T c Finset.univ (IB b) (batch b) σ
    (fun _ σ' => Keep [9, 10, 11, 12, 13, 14, 15, 16, 17, 18, 19, 20, 21, 22] σ σ' ∧ OutB X b σ' ∧ KeepB b σ σ') := by
  unfold batch
  refine T_bind (for1_T X b σ h) fun q σ1 h1 => ?_
  obtain ⟨k1, hq, hJ⟩ := h1
  refine T_bind (between_T X b q σ1 (h.keep k1 (by decide)) hq) fun h0 σ2 h2 => ?_
  obtain ⟨k2, he, hd0⟩ := h2
  refine T_bind (for2_T X b h0 σ2 ((h.keep k1 (by decide)).keep k2 (by decide)) (hJ.keep k2 (by decide)) he) fun _ σ3 h3 => ?_
  obtain ⟨k3, ha, hc, hd⟩ := h3
  refine T_mono (scalesOut_T X b σ3 fun i hi => by rw [hd, if_pos hi]) ?_
  rintro - σ4 ⟨k4, hs⟩
  refine ⟨(((k1.mono (by decide)).trans (k2.mono (by decide))).trans (k3.mono (by decide))).trans (k4.mono (by decide)), ⟨?_, ?_, ?_, ?_, ?_⟩, ⟨?_, ?_, ?_, ?_, ?_⟩⟩ <;> intro i hi
  · rw [k4 18 (by decide), ha, if_pos hi]
  · rw [k4 19 (by decide), hc, if_pos hi]
  · rw [k4 20 (by decide), hd, if_pos hi]
  · rw [k4 21 (by decide), k3 21 (by decide), hd0, if_pos hi]
  · rw [hs, if_pos hi]
  · rw [k4 18 (by decide), ha, if_neg hi, k2 18 (by decide), k1 18 (by decide)]
  · rw [k4 19 (by decide), hc, if_neg hi, k2 19 (by decide), k1 19 (by decide)]
  · rw [k4 20 (by decide), hd, if_neg hi, k2 20 (by decide), k1 20 (by decide)]
  · rw [k4 21 (by decide), k3 21 (by decide), hd0, if_neg hi, k1 21 (by decide)]
  · rw [hs, if_neg hi, k3 22 (by decide), k2 22 (by decide), k1 22 (by decide)]

end Cert.KernelIdeal
-- ==== Proof.KI.Steps.lean ====
module

public import proofs.«01_k».proof.Proof.KI.Batch

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] [Named F] {c : Dev nD}

/-! ## The scales spread along the lanes -/

theorem spread_val (v : FVec F S1x128 .f32) (y : S1x128x128.Idx) :
    shapeCast S1x128x128 (transpose S128x128 [1, 0] (broadcastTo S128x128 (shapeCast S1x128 v shapeCasts_S1x128_S1x128) broadcasts_S1x128_S128x128) transposes_S128x128_p1_0_S128x128 : FVec F S128x128 .f32) shapeCasts_S128x128_S1x128x128 y
      = v (n2 0 (y 1).val) := by
  have hy1 : (y 1).val < 128 := (y 1).isLt
  have hy2 : (y 2).val < 128 := (y 2).isLt
  rw [shapeCast_self, addU]
  refine (transpose_apply _ _ _ _ (n2 (y 2).val (y 1).val : S128x128.Idx) ?_).trans (broadcastTo_apply _ _ _ _ ?_)
  · intro a
    match a with
    | ⟨0, _⟩ => exact (n2_1 hy1).trans (n2_0 hy1).symm
    | ⟨1, _⟩ => exact (n2_0 hy2).trans (n2_1 hy2).symm
  · intro a
    match a with
    | ⟨0, _⟩ => rfl
    | ⟨1, _⟩ => rfl

theorem spreadDys_T (b : Fin 2) (σ : Mem F) : T c Finset.univ IS (spread mDys mDysL b) σ (fun _ σ' => Keep [7] σ σ'
    ∧ (∀ i : S2x128x128.Idx, σ' 7 i = if (i 0).val = b.val then σ 3 (n2 (A := 2) (B := 128) (i 0) (i 1)) else σ 7 i)) := by
  unfold spread
  refine T_ld 3 (fun x : S1x128.Idx => σ 3 (n2 (A := 2) (B := 128) b.val (x 1).val)) (Finset.mem_univ _) (fun x => Finset.mem_univ _) ?_ ?_
  · intro x
    have hx : (x 0).val < 1 := (x 0).isLt
    refine congrArg (σ 3) (eq_n2 ?_ ?_)
    · show b.val + 1 * (x 0).val = _; omega
    · show 0 + 1 * (x 1).val = _; omega
  refine T_sk 7 (Finset.mem_univ _) (fun x => Finset.mem_univ _) fun _ => ?_
  refine T_stE 7 (Finset.mem_univ _) (fun x => Finset.mem_univ _) fun σ1 k1 e1 => ⟨k1, fun i => ?_⟩
  have hi1' : (i 1).val < 128 := (i 1).isLt
  have hi2' : (i 2).val < 128 := (i 2).isLt
  rw [e1]
  refine st3 _ _ _ i (fun v => v = if (i 0).val = b.val then σ 3 (n2 (A := 2) (B := 128) (i 0) (i 1)) else σ 7 i) b.val 1 0 128 0 128 ⟨rfl, rfl⟩ ⟨rfl, rfl⟩ ⟨rfl, rfl⟩ (fun _ => rfl) ?_ ?_
  · intro y hi0 hi1 hi2
    have hy0 : (y 0).val < 1 := (y 0).isLt
    have hy1 : (y 1).val < 128 := (y 1).isLt
    rw [if_pos (by omega)]
    refine (spread_val _ y).trans ?_
    rw [show (i 0).val = b.val by omega, show (i 1).val = (y 1).val by omega]
    exact congrArg (fun z => σ 3 (n2 (A := 2) (B := 128) b.val z)) (n2_1 hy1)
  · intro hm
    rw [if_neg (by omega)]
theorem spreadPres_T (b : Fin 2) (σ : Mem F) : T c Finset.univ IS (spread mPres mPresL b) σ (fun _ σ' => Keep [8] σ σ'
    ∧ (∀ i : S2x128x128.Idx, σ' 8 i = if (i 0).val = b.val then σ 4 (n2 (A := 2) (B := 128) (i 0) (i 1)) else σ 8 i)) := by
  unfold spread
  refine T_ld 4 (fun x : S1x128.Idx => σ 4 (n2 (A := 2) (B := 128) b.val (x 1).val)) (Finset.mem_univ _) (fun x => Finset.mem_univ _) ?_ ?_
  · intro x
    have hx : (x 0).val < 1 := (x 0).isLt
    refine congrArg (σ 4) (eq_n2 ?_ ?_)
    · show b.val + 1 * (x 0).val = _; omega
    · show 0 + 1 * (x 1).val = _; omega
  refine T_sk 8 (Finset.mem_univ _) (fun x => Finset.mem_univ _) fun _ => ?_
  refine T_stE 8 (Finset.mem_univ _) (fun x => Finset.mem_univ _) fun σ1 k1 e1 => ⟨k1, fun i => ?_⟩
  have hi1' : (i 1).val < 128 := (i 1).isLt
  have hi2' : (i 2).val < 128 := (i 2).isLt
  rw [e1]
  refine st3 _ _ _ i (fun v => v = if (i 0).val = b.val then σ 4 (n2 (A := 2) (B := 128) (i 0) (i 1)) else σ 8 i) b.val 1 0 128 0 128 ⟨rfl, rfl⟩ ⟨rfl, rfl⟩ ⟨rfl, rfl⟩ (fun _ => rfl) ?_ ?_
  · intro y hi0 hi1 hi2
    have hy0 : (y 0).val < 1 := (y 0).isLt
    have hy1 : (y 1).val < 128 := (y 1).isLt
    rw [if_pos (by omega)]
    refine (spread_val _ y).trans ?_
    rw [show (i 0).val = b.val by omega, show (i 1).val = (y 1).val by omega]
    exact congrArg (fun z => σ 4 (n2 (A := 2) (B := 128) b.val z)) (n2_1 hy1)
  · intro hm
    rw [if_neg (by omega)]

theorem spreads_T (σ : Mem F) : T c Finset.univ IS spreads σ (fun _ σ' => Keep [7, 8] σ σ'
    ∧ (∀ i : S2x128x128.Idx, σ' 7 i = σ 3 (n2 (A := 2) (B := 128) (i 0) (i 1))) ∧ (∀ i : S2x128x128.Idx, σ' 8 i = σ 4 (n2 (A := 2) (B := 128) (i 0) (i 1)))) := by
  unfold spreads
  refine T_bind (spreadDys_T 0 σ) fun _ σ1 h1 => ?_
  obtain ⟨k1, h1⟩ := h1
  refine T_bind (spreadPres_T 0 σ1) fun _ σ2 h2 => ?_
  obtain ⟨k2, h2⟩ := h2
  refine T_bind (spreadDys_T 1 σ2) fun _ σ3 h3 => ?_
  obtain ⟨k3, h3⟩ := h3
  refine T_mono (spreadPres_T 1 σ3) ?_
  rintro - σ4 ⟨k4, h4⟩
  refine ⟨(((k1.mono (by decide)).trans (k2.mono (by decide))).trans (k3.mono (by decide))).trans (k4.mono (by decide)), fun i => ?_, fun i => ?_⟩
  · have hi0' : (i 0).val < 2 := (i 0).isLt
    rw [k4 7 (by decide), h3, k2 3 (by decide), k1 3 (by decide), k2 7 (by decide), h1]
    split
    · rfl
    · rw [if_pos (by rename_i hn; have : (i 0).val ≠ 1 := hn; show (i 0).val = 0; omega)]
  · have hi0' : (i 0).val < 2 := (i 0).isLt
    rw [h4, k3 4 (by decide), k2 4 (by decide), k1 4 (by decide), k3 8 (by decide), h2, k1 4 (by decide)]
    split
    · rfl
    · rw [if_pos (by rename_i hn; have : (i 0).val ≠ 1 := hn; show (i 0).val = 0; omega)]

/-! ## A block of the product -/

theorem stage_val {α : Type} (v : S128x128.Idx → α) (y : S1x1x128x128.Idx) : shapeCast S1x1x128x128 v shapeCasts_S128x128_S1x1x128x128 y = v (n2 (y 2).val (y 3).val) := by
  have hy0 : (y 0).val < 1 := (y 0).isLt
  have hy1 : (y 1).val < 1 := (y 1).isLt
  have hy2 : (y 2).val < 128 := (y 2).isLt
  have hy3 : (y 3).val < 128 := (y 3).isLt
  refine shapeCast_apply _ _ y _ ?_
  rw [Shape.rowMajor_val_two, Shape.rowMajor_val_four, n2_0 hy2, n2_1 hy3]
  show (y 2).val * 128 + (y 3).val = (((y 0).val * 1 + (y 1).val) * 128 + (y 2).val) * 128 + (y 3).val
  omega

theorem dx_T (X : Inp F) (n : Fin 10) (σ : Mem F) (h18 : σ 18 = AV X) (h20 : σ 20 = vDsc X) (h2 : σ 2 = vW X) : T c Finset.univ (ID n) (dxBlock n) σ
    (fun _ σ' => Keep [23] σ σ' ∧ ∀ i ∈ SB n, σ' 23 i = vSt X i) := by
  have hn := n.isLt
  unfold dxBlock
  refine T_ld 18 (AV X) (Finset.mem_univ _) (fun x => Finset.mem_univ _) ?_ ?_
  · intro x
    rw [h18]
    refine congrArg (AV X) (funext fun a => Fin.ext ?_)
    match a with
    | ⟨0, _⟩ => show 0 + 1 * (x 0).val = _; exact (Nat.zero_add _).trans (Nat.one_mul _)
    | ⟨1, _⟩ => show 0 + 1 * (x 1).val = _; exact (Nat.zero_add _).trans (Nat.one_mul _)
  refine T_ld 2 (fun x : S1x7168x512.Idx => X.w (n2 (x 1).val (512 * n.val + (x 2).val))) (Finset.mem_univ _) ?_ ?_ ?_
  · intro x
    have hx : (x 0).val < 1 := (x 0).isLt
    exact (mem_wd n _).mpr (by show n.val + 1 * (x 0).val = _; omega)
  · intro x
    have hx : (x 0).val < 1 := (x 0).isLt
    have a0 : (((rWd n).toLoadRect.idx x) 0).val = n.val := by show n.val + 1 * (x 0).val = _; omega
    have a1 : (((rWd n).toLoadRect.idx x) 1).val = (x 1).val := by show 0 + 1 * (x 1).val = _; omega
    have a2 : (((rWd n).toLoadRect.idx x) 2).val = (x 2).val := by show 0 + 1 * (x 2).val = _; omega
    rw [h2]; unfold vW; rw [a0, a1, a2]
  have hw : (shapeCast S7168x512 (fun x : S1x7168x512.Idx => X.w (n2 (x 1).val (512 * n.val + (x 2).val))) shapeCasts_S1x7168x512_S7168x512 : FVec F S7168x512 .fp8e4m3) = WB X n :=
    funext fun y => dropF (fun a d => X.w (n2 a (512 * n.val + d))) _ y
  rw [hw]
  refine T_bind (T_runF 2 _ (fun b _ σ' => Keep [23] σ σ' ∧ ∀ i : S10x2x128x512.Idx, (i 0).val = n.val → (i 1).val < b → σ' 23 i = vSt X i) ?_ _ _ ?_) fun _ σ1 h1 => ?_
  · rintro b hb - σ1 ⟨k1, h1⟩
    refine T_ld 20 (fun x : S1x128x128.Idx => SC X b (x 1).val) (Finset.mem_univ _) (fun x => Finset.mem_univ _) ?_ ?_
    · intro x
      have hx : (x 0).val < 1 := (x 0).isLt
      have a0 : (((rB ⟨b, hb⟩).toLoadRect.idx x) 0).val = b := by show b + 1 * (x 0).val = _; omega
      have a1 : (((rB ⟨b, hb⟩).toLoadRect.idx x) 1).val = (x 1).val := by show 0 + 1 * (x 1).val = _; omega
      rw [k1 20 (by decide), h20]; unfold vDsc; rw [a0, a1]
    refine T_mono (T_runF 4 _ (fun j _ σ' => Keep [23] σ σ' ∧ ∀ i : S10x2x128x512.Idx, (i 0).val = n.val → ((i 1).val < b ∨ (i 1).val = b ∧ (i 3).val / 128 < j) → σ' 23 i = vSt X i) ?_ _ _ ?_) ?_
    · rintro j hj - σ2 ⟨k2, h2⟩
      unfold dxTile
      have hm : ∀ x : S1x1x128x128.Idx, (rTl ⟨b, hb⟩ n ⟨j, hj⟩).toLoadRect.idx x ∈ ID n 23 := by
        intro x
        have hx : (x 0).val < 1 := (x 0).isLt
        exact (mem_SB n _).mpr (by show n.val + 1 * (x 0).val = _; omega)
      refine T_sk 23 (Finset.mem_univ _) hm fun _ => ?_
      refine T_stE 23 (Finset.mem_univ _) hm fun σ3 k3 e3 => ⟨k2.trans k3, fun i hin hi => ?_⟩
      have hi2' : (i 2).val < 128 := (i 2).isLt
      have hi3' : (i 3).val < 512 := (i 3).isLt
      rw [e3]
      refine st_ind _ _ _ i (fun v => v = vSt X i) (fun _ => Nat.one_pos) ?_ ?_
      · intro y hy
        have e0 : (i 0).val = n.val + 1 * (y 0).val := hy 0
        have e1 : (i 1).val = b + 1 * (y 1).val := hy 1
        have e2 : (i 2).val = 0 + 1 * (y 2).val := hy 2
        have e3 : (i 3).val = 128 * j + 1 * (y 3).val := hy 3
        have hy1 : (y 1).val < 1 := (y 1).isLt
        have hy2 : (y 2).val < 128 := (y 2).isLt
        have hy3 : (y 3).val < 128 := (y 3).isLt
        rw [stage_val]
        unfold vSt DX
        rw [e0, show (n.val + 1 * (y 0).val) = n.val by omega, show (i 1).val = b by omega, show (i 2).val = (y 2).val by omega, show (i 3).val = 128 * j + (y 3).val by omega,
          show (512 * n.val + (128 * j + (y 3).val)) / 512 = n.val by omega, show (512 * n.val + (128 * j + (y 3).val)) % 512 = 128 * j + (y 3).val by omega]
        refine congrArg (FloatOps.truncf .bf16 bitsLt_bf16_f32) (congrArg₂ FloatOps.mulf ?_ ?_)
        · refine (extractStridedSlice_apply _ _ _ _ (n2 (128 * b + (y 2).val) (128 * j + (y 3).val) : S256x512.Idx) ?_).trans rfl
          intro a
          match a with
          | ⟨0, _⟩ => refine (n2_0 (by omega)).trans ?_; exact congrArg (128 * b + ·) (n2_0 hy2).symm
          | ⟨1, _⟩ => refine (n2_1 (by omega)).trans ?_; exact congrArg (128 * j + ·) (n2_1 hy3).symm
        · refine (dropF (fun t _ => SC X b t) _ _).trans ?_
          exact congrArg (SC X b) (n2_0 hy2)
      · intro hm
        refine h2 i hin ?_
        by_contra hc
        refine hm fun a => ?_
        match a with
        | ⟨0, _⟩ => exact ⟨by show n.val ≤ (i 0).val; omega, Nat.mod_one _, by show ((i 0).val - n.val) / 1 < 1; omega⟩
        | ⟨1, _⟩ => exact ⟨by show b ≤ (i 1).val; omega, Nat.mod_one _, by show ((i 1).val - b) / 1 < 1; omega⟩
        | ⟨2, _⟩ => exact ⟨by show 0 ≤ (i 2).val; omega, Nat.mod_one _, by show ((i 2).val - 0) / 1 < 128; omega⟩
        | ⟨3, _⟩ => exact ⟨by show 128 * j ≤ (i 3).val; omega, Nat.mod_one _, by show ((i 3).val - 128 * j) / 1 < 128; omega⟩
    · exact ⟨k1, fun i hin hi => h1 i hin (by omega)⟩
    · rintro - σ2 ⟨k2, h2⟩
      exact ⟨k2, fun i hin hi => h2 i hin (by have : (i 3).val < 512 := (i 3).isLt; omega)⟩
  · exact ⟨Keep.refl _ _, fun i _ hi => by omega⟩
  exact T_pure ⟨h1.1, fun i hi => h1.2 i ((mem_SB n i).mp hi) (i 1).isLt⟩

end Cert.KernelIdeal
-- ==== Proof.KI.Sets.lean ====
module

public import proofs.«01_k».proof.Proof.KI.Steps

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] [Named F] {c : Dev nD}

/-! ## Blocks -/

theorem pt_union {b : Ref sig .tc} {S T U : Finset b.ty.shape.Idx} (h : Disjoint S T) (hU : U = S ∪ T) (f : b.ty.Contents (Elt F)) :
    pt c b U f = iprop(pt c b S f ∗ pt c b T f) := by
  subst hU
  have e := pointsTo_union (Ix := Unit) (Val := Elt F) (Name := ℕ) (U := UU) (Lvl := ℕ) (ℓ := (c : Thread nD τ).loc b) (q := fullShare) (f := f) h
  exact BI.equiv_iff.mp ⟨e.1, e.2⟩

/-- A block of the first result. -/
def DB (n : Fin 10) : Finset S2x128x5120.Idx := (rDx 0 n).set ∪ (rDx 1 n).set
theorem mem_DB (n : Fin 10) (y : S2x128x5120.Idx) : y ∈ DB n ↔ (y 2).val / 512 = n.val := by
  have h1 : (y 0).val < 2 := (y 0).isLt
  unfold DB
  rw [Finset.mem_union, mem_dx, mem_dx]
  simp only [Fin.val_zero, Fin.val_one]; omega

theorem cover_of {s : Shape} {n : ℕ} (S : Fin n → Finset s.Idx) (k : s.Idx → ℕ) (hk : ∀ y, k y < n) (h : ∀ b y, y ∈ S b ↔ k y = b.val) :
    (∀ b b' : Fin n, b ≠ b' → Disjoint (S b) (S b')) ∧ (Finset.univ : Finset (Fin n)).biUnion S = Finset.univ := by
  constructor
  · intro b b' hne; rw [Finset.disjoint_left]; intro y hy hy'; rw [h] at hy hy'; exact hne (Fin.ext (hy.symm.trans hy'))
  · ext y; simp only [Finset.mem_biUnion, Finset.mem_univ, true_and, iff_true]; exact ⟨⟨k y, hk y⟩, (h _ _).mpr rfl⟩

theorem pt_two {b : Ref sig .tc} (S : Fin 2 → Finset b.ty.shape.Idx) (k : b.ty.shape.Idx → ℕ) (hk : ∀ y, k y < 2) (h : ∀ b y, y ∈ S b ↔ k y = b.val)
    (f : b.ty.Contents (Elt F)) : pt c b Finset.univ f = iprop(pt c b (S 0) f ∗ pt c b (S 1) f) := by
  refine pt_union ((cover_of S k hk h).1 0 1 (by decide)) ?_ f
  ext y; have := hk y
  rw [Finset.mem_union, h, h]; simp only [Finset.mem_univ, Fin.val_zero, Fin.val_one, true_iff]; omega
theorem pt_blocks {b : Ref sig .tc} {n : ℕ} (S : Fin n → Finset b.ty.shape.Idx) (k : b.ty.shape.Idx → ℕ) (hk : ∀ y, k y < n) (h : ∀ b y, y ∈ S b ↔ k y = b.val)
    (f : b.ty.Contents (Elt F)) : pt c b Finset.univ f = bigSep Finset.univ fun i => pt c b (S i) f :=
  Ring.pointsTo_blocks (ℓ := (c : Thread nD τ).loc b) S (cover_of S k hk h).1 (cover_of S k hk h).2 f

theorem prec_two (f : S2x128x7168.Idx → F .fp8e4m3) : pt c (bref 1) Finset.univ f = iprop(pt c (bref 1) (rPre 0).set f ∗ pt c (bref 1) (rPre 1).set f) :=
  pt_two (b := bref 1) (fun b => (rPre b).set) (fun y : S2x128x7168.Idx => (y 0).val) (fun y : S2x128x7168.Idx => (y 0).isLt) mem_pre f
theorem aprec_two (f : S2x128x7168.Idx → F .fp8e4m3) : pt c main_arg2 Finset.univ f = iprop(pt c main_arg2 (rPre 0).set f ∗ pt c main_arg2 (rPre 1).set f) :=
  pt_two (b := main_arg2) (fun b => (rPre b).set) (fun y : S2x128x7168.Idx => (y 0).val) (fun y : S2x128x7168.Idx => (y 0).isLt) mem_pre f
theorem dyc_two (f : S2x128x3584.Idx → F .fp8e5m2) : pt c (bref 0) Finset.univ f = iprop(pt c (bref 0) (rDy 0).set f ∗ pt c (bref 0) (rDy 1).set f) :=
  pt_two (b := bref 0) (fun b => (rDy b).set) (fun y : S2x128x3584.Idx => (y 0).val) (fun y : S2x128x3584.Idx => (y 0).isLt) mem_dy f
theorem adyc_two (f : S2x128x3584.Idx → F .fp8e5m2) : pt c main_arg0 Finset.univ f = iprop(pt c main_arg0 (rDy 0).set f ∗ pt c main_arg0 (rDy 1).set f) :=
  pt_two (b := main_arg0) (fun b => (rDy b).set) (fun y : S2x128x3584.Idx => (y 0).val) (fun y : S2x128x3584.Idx => (y 0).isLt) mem_dy f
theorem w_ten (f : S10x7168x512.Idx → F .fp8e4m3) : pt c (bref 2) Finset.univ f = bigSep Finset.univ fun n => pt c (bref 2) (rWd n).set f :=
  pt_blocks (b := bref 2) (fun n => (rWd n).set) (fun y : S10x7168x512.Idx => (y 0).val) (fun y : S10x7168x512.Idx => (y 0).isLt) mem_wd f
theorem aw_ten (f : S7168x5120.Idx → F .fp8e4m3) : pt c main_arg5 Finset.univ f = bigSep Finset.univ fun n => pt c main_arg5 (rWs n).set f :=
  pt_blocks (b := main_arg5) (fun n => (rWs n).set) (fun y : S7168x5120.Idx => (y 1).val / 512) (fun y : S7168x5120.Idx => by have : (y 1).val < 5120 := (y 1).isLt; omega) mem_ws f
theorem st_ten (f : S10x2x128x512.Idx → F .bf16) : pt c (bref 23) Finset.univ f = bigSep Finset.univ fun n => pt c (bref 23) (SB n) f :=
  pt_blocks (b := bref 23) SB (fun y : S10x2x128x512.Idx => (y 0).val) (fun y : S10x2x128x512.Idx => (y 0).isLt) mem_SB f
theorem dx_ten (f : S2x128x5120.Idx → F .bf16) : pt c main_v1_0 Finset.univ f = bigSep Finset.univ fun n => pt c main_v1_0 (DB n) f :=
  pt_blocks (b := main_v1_0) DB (fun y : S2x128x5120.Idx => (y 2).val / 512) (fun y : S2x128x5120.Idx => by have : (y 2).val < 5120 := (y 2).isLt; omega) mem_DB f
theorem sb_two (n : Fin 10) (f : S10x2x128x512.Idx → F .bf16) : pt c (bref 23) (SB n) f = iprop(pt c (bref 23) (rSt 0 n).set f ∗ pt c (bref 23) (rSt 1 n).set f) := by
  refine pt_union (b := bref 23) ?_ rfl f
  rw [Finset.disjoint_left]; intro y hy hy'
  have h := ((mem_st 0 n y).mp hy).2; have h' := ((mem_st 1 n y).mp hy').2
  rw [h] at h'; exact absurd h' (by decide)
theorem db_two (n : Fin 10) (f : S2x128x5120.Idx → F .bf16) : pt c main_v1_0 (DB n) f = iprop(pt c main_v1_0 (rDx 0 n).set f ∗ pt c main_v1_0 (rDx 1 n).set f) := by
  refine pt_union (b := main_v1_0) ?_ rfl f
  rw [Finset.disjoint_left]; intro y hy hy'
  have h := ((mem_dx 0 n y).mp hy).1; have h' := ((mem_dx 1 n y).mp hy').1
  rw [h] at h'; exact absurd h' (by decide)

/-! ## The kernel's copies -/

variable (X : Inp F)

theorem pre_go (b : Fin 2) (f : S2x128x7168.Idx → F .fp8e4m3) (Q : PUnit → sProp (MM F)) :
    iprop(pt c main_arg2 (rPre b).set X.prec ∗ pt c (bref 1) (rPre b).set f ∗ sv c (semIn b 0)
      ∗ (Fl c (semIn b 0) (dPre b).view.dmaCredit iprop(pt c (bref 1) (rPre b).set X.prec ∗ pt c main_arg2 (rPre b).set X.prec) -∗ Q ⟨⟩))
      ⊢ WP c (go (sPre b) (dPre b) (semIn b 0) (wsPre b) (wdPre b) ⟨Or.inl rfl, trivial⟩) Q :=
  go_spec c (sPre b) (dPre b) _ _ _ _ (by decide) _ ((View.set_reshape _ _).trans (View.set_slice_whole _ _)) _ ((View.set_reshape _ _).trans (View.set_slice_whole _ _)) X.prec f X.prec (fun x => rfl) Q
theorem dy_go (b : Fin 2) (f : S2x128x3584.Idx → F .fp8e5m2) (Q : PUnit → sProp (MM F)) :
    iprop(pt c main_arg0 (rDy b).set X.dyc ∗ pt c (bref 0) (rDy b).set f ∗ sv c (semIn b 1)
      ∗ (Fl c (semIn b 1) (dDy b).view.dmaCredit iprop(pt c (bref 0) (rDy b).set X.dyc ∗ pt c main_arg0 (rDy b).set X.dyc) -∗ Q ⟨⟩))
      ⊢ WP c (go (sDy b) (dDy b) (semIn b 1) (wsDy b) (wdDy b) ⟨Or.inl rfl, trivial⟩) Q :=
  go_spec c (sDy b) (dDy b) _ _ _ _ (by decide) _ ((View.set_reshape _ _).trans (View.set_slice_whole _ _)) _ ((View.set_reshape _ _).trans (View.set_slice_whole _ _)) X.dyc f X.dyc (fun x => rfl) Q

theorem dW_emb (n : Fin 10) (x : S7168x512.Idx) : vW X ((dW n).view.emb x) = X.w ((sW n).view.emb x) := by
  have e : (dW n).view.emb x = (rWd n).emb (Shape.reshapeEquiv squeezes_S1x7168x512_S7168x512.numel_eq x) := rfl
  have e' : Shape.reshapeEquiv squeezes_S1x7168x512_S7168x512.numel_eq x = (Fin.cons (⟨0, Nat.one_pos⟩ : Fin 1) x : S1x7168x512.Idx) := shapeCast_dropUnit_apply ![7168, 512] (fun y => y) squeezes_S1x7168x512_S7168x512.numel_eq.symm x
  rw [e, e']
  unfold vW
  refine congrArg X.w (eq_n2 ?_ ?_).symm
  · show 0 + 1 * (x 0).val = 0 + 1 * (x 0).val; rfl
  · show 512 * n.val + 1 * (x 1).val = 512 * (n.val + 1 * 0) + (0 + 1 * (x 1).val); omega

theorem w_go (n : Fin 10) (f : S10x7168x512.Idx → F .fp8e4m3) (Q : PUnit → sProp (MM F)) :
    iprop(pt c main_arg5 (rWs n).set X.w ∗ pt c (bref 2) (rWd n).set f ∗ sv c (semW n)
      ∗ (Fl c (semW n) (dW n).view.dmaCredit iprop(pt c (bref 2) (rWd n).set (vW X) ∗ pt c main_arg5 (rWs n).set X.w) -∗ Q ⟨⟩))
      ⊢ WP c (go (sW n) (dW n) (semW n) (wsW n) (wdW n) ⟨Or.inl rfl, trivial⟩) Q :=
  go_spec c (sW n) (dW n) _ _ _ _ (by decide) _ (View.set_slice_whole _ _) _ ((View.set_reshape _ _).trans (View.set_slice_whole _ _)) X.w f (vW X) (fun x => dW_emb X n x) Q

theorem squeeze2 (h : S128x512.numel = S1x1x128x512.numel) (x : S128x512.Idx) :
    Shape.reshapeEquiv h x = (Fin.cons (⟨0, Nat.one_pos⟩ : Fin 1) (Fin.cons (⟨0, Nat.one_pos⟩ : Fin 1) x : S1x128x512.Idx) : S1x1x128x512.Idx) := by
  have e1 := shapeCast_dropUnit_apply ![1, 128, 512] (fun y => y) (by decide) (Fin.cons (⟨0, Nat.one_pos⟩ : Fin 1) x : S1x128x512.Idx)
  have e2 := shapeCast_dropUnit_apply ![128, 512] (shapeCast S1x128x512 (fun y : S1x1x128x512.Idx => y) (by decide)) (by decide) x
  exact (Shape.reshapeEquiv_reshapeEquiv _ _ x).symm.trans (e2.trans e1)

theorem dDx_emb (b : Fin 2) (n : Fin 10) (x : S128x512.Idx) : vDx X ((dDx b n).view.emb x) = vSt X ((sSt b n).view.emb x) := by
  have e : (dDx b n).view.emb x = (rDx b n).emb (Shape.reshapeEquiv squeezes_S1x128x512_S128x512.numel_eq x) := rfl
  have e' : Shape.reshapeEquiv squeezes_S1x128x512_S128x512.numel_eq x = (Fin.cons (⟨0, Nat.one_pos⟩ : Fin 1) x : S1x128x512.Idx) :=
    shapeCast_dropUnit_apply ![128, 512] (fun y => y) squeezes_S1x128x512_S128x512.numel_eq.symm x
  have g : (sSt b n).view.emb x = (rSt b n).emb (Shape.reshapeEquiv squeezes_S1x1x128x512_S128x512.numel_eq x) := rfl
  rw [e, e', g, squeeze2]
  unfold vDx vSt
  show DX X (b.val + 1 * 0) (0 + 1 * (x 0).val) (512 * n.val + 1 * (x 1).val) = DX X (b.val + 1 * 0) (0 + 1 * (x 0).val) (512 * (n.val + 1 * 0) + (0 + 1 * (x 1).val))
  rw [show 512 * (n.val + 1 * 0) + (0 + 1 * (x 1).val) = 512 * n.val + 1 * (x 1).val by omega]
theorem dx_go (b : Fin 2) (n : Fin 10) (f : S2x128x5120.Idx → F .bf16) (Q : PUnit → sProp (MM F)) :
    iprop(pt c (bref 23) (rSt b n).set (vSt X) ∗ pt c main_v1_0 (rDx b n).set f ∗ sv c (semSt b n)
      ∗ (Fl c (semSt b n) (dDx b n).view.dmaCredit iprop(pt c main_v1_0 (rDx b n).set (vDx X) ∗ pt c (bref 23) (rSt b n).set (vSt X)) -∗ Q ⟨⟩))
      ⊢ WP c (go (sSt b n) (dDx b n) (semSt b n) (wsSt b n) (wdDx b n) ⟨Or.inl rfl, trivial⟩) Q :=
  go_spec c (sSt b n) (dDx b n) _ _ _ _ (by decide) _ ((View.set_reshape _ _).trans (View.set_slice_whole _ _)) _ ((View.set_reshape _ _).trans (View.set_slice_whole _ _))
    (vSt X) f (vDx X) (fun x => dDx_emb X b n x) Q

/-- A whole buffer copied to another. -/
theorem all_go {sp sp' : Space} {s : Shape} {e : EltTy} (src : Memref sig .tc sp s e) (dst : Memref sig .tc sp' s e) (sem : DmaSem sig) (hs hd hx) (hn : 0 < s.numel)
    (h : src.view.set = Finset.univ) (h' : dst.view.set = Finset.univ) (fs : Buf (Elt F) (src.view.loc (c : Thread nD τ))) (fd v : Buf (Elt F) (dst.view.loc (c : Thread nD τ)))
    (hv : ∀ x, v (dst.view.emb x) = _root_.cast (congrArg (Elt F) dst.view.elt_eq.symm) (src.view.read (Elt F) fs x)) (Q : PUnit → sProp (MM F)) :
    iprop((src.view.loc (c : Thread nD τ) ↦[Finset.univ]{fullShare} fs) ∗ (dst.view.loc (c : Thread nD τ) ↦[Finset.univ]{fullShare} fd) ∗ sv c sem
      ∗ (Fl c sem dst.view.dmaCredit iprop((dst.view.loc (c : Thread nD τ) ↦[Finset.univ]{fullShare} v) ∗ (src.view.loc (c : Thread nD τ) ↦[Finset.univ]{fullShare} fs)) -∗ Q ⟨⟩))
      ⊢ WP c (go src dst sem hs hd hx) Q := go_spec c src dst sem hs hd hx hn _ h _ h' fs fd v hv Q

end Cert.KernelIdeal
-- ==== Proof.KI.Parts.lean ====
module

public import proofs.«01_k».proof.Proof.KI.Sets

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] [Named F] {c : Dev nD}

/-! ## The memory as a whole -/

/-- The contents of every buffer. -/
def mk (f0 : (bref 0).ty.Contents (Elt F))
    (f1 : (bref 1).ty.Contents (Elt F))
    (f2 : (bref 2).ty.Contents (Elt F))
    (f3 : (bref 3).ty.Contents (Elt F))
    (f4 : (bref 4).ty.Contents (Elt F))
    (f5 : (bref 5).ty.Contents (Elt F))
    (f6 : (bref 6).ty.Contents (Elt F))
    (f7 : (bref 7).ty.Contents (Elt F))
    (f8 : (bref 8).ty.Contents (Elt F))
    (f9 : (bref 9).ty.Contents (Elt F))
    (f10 : (bref 10).ty.Contents (Elt F))
    (f11 : (bref 11).ty.Contents (Elt F))
    (f12 : (bref 12).ty.Contents (Elt F))
    (f13 : (bref 13).ty.Contents (Elt F))
    (f14 : (bref 14).ty.Contents (Elt F))
    (f15 : (bref 15).ty.Contents (Elt F))
    (f16 : (bref 16).ty.Contents (Elt F))
    (f17 : (bref 17).ty.Contents (Elt F))
    (f18 : (bref 18).ty.Contents (Elt F))
    (f19 : (bref 19).ty.Contents (Elt F))
    (f20 : (bref 20).ty.Contents (Elt F))
    (f21 : (bref 21).ty.Contents (Elt F))
    (f22 : (bref 22).ty.Contents (Elt F))
    (f23 : (bref 23).ty.Contents (Elt F)) : Mem F
  | ⟨0, _⟩ => f0
  | ⟨1, _⟩ => f1
  | ⟨2, _⟩ => f2
  | ⟨3, _⟩ => f3
  | ⟨4, _⟩ => f4
  | ⟨5, _⟩ => f5
  | ⟨6, _⟩ => f6
  | ⟨7, _⟩ => f7
  | ⟨8, _⟩ => f8
  | ⟨9, _⟩ => f9
  | ⟨10, _⟩ => f10
  | ⟨11, _⟩ => f11
  | ⟨12, _⟩ => f12
  | ⟨13, _⟩ => f13
  | ⟨14, _⟩ => f14
  | ⟨15, _⟩ => f15
  | ⟨16, _⟩ => f16
  | ⟨17, _⟩ => f17
  | ⟨18, _⟩ => f18
  | ⟨19, _⟩ => f19
  | ⟨20, _⟩ => f20
  | ⟨21, _⟩ => f21
  | ⟨22, _⟩ => f22
  | ⟨23, _⟩ => f23
  | ⟨_ + 24, h⟩ => absurd h (by omega)

theorem Held_eq (I : Own) (σ : Mem F) : Held c Finset.univ I σ = iprop(pt c (bref 0) (I 0) (σ 0) ∗ pt c (bref 1) (I 1) (σ 1) ∗ pt c (bref 2) (I 2) (σ 2) ∗ pt c (bref 3) (I 3) (σ 3) ∗ pt c (bref 4) (I 4) (σ 4) ∗ pt c (bref 5) (I 5) (σ 5) ∗ pt c (bref 6) (I 6) (σ 6) ∗ pt c (bref 7) (I 7) (σ 7) ∗ pt c (bref 8) (I 8) (σ 8) ∗ pt c (bref 9) (I 9) (σ 9) ∗ pt c (bref 10) (I 10) (σ 10) ∗ pt c (bref 11) (I 11) (σ 11) ∗ pt c (bref 12) (I 12) (σ 12) ∗ pt c (bref 13) (I 13) (σ 13) ∗ pt c (bref 14) (I 14) (σ 14) ∗ pt c (bref 15) (I 15) (σ 15) ∗ pt c (bref 16) (I 16) (σ 16) ∗ pt c (bref 17) (I 17) (σ 17) ∗ pt c (bref 18) (I 18) (σ 18) ∗ pt c (bref 19) (I 19) (σ 19) ∗ pt c (bref 20) (I 20) (σ 20) ∗ pt c (bref 21) (I 21) (σ 21) ∗ pt c (bref 22) (I 22) (σ 22) ∗ pt c (bref 23) (I 23) (σ 23)) := by
  unfold Held
  rw [bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide)]
  rfl

theorem pt_none {b : Ref sig .tc} (f : b.ty.Contents (Elt F)) : pt c b ∅ f = iprop(emp) := pointsTo_empty

variable (c) (X : Inp F)

/-- The arguments, -/
def ARGS : sProp (MM F) := iprop(pt c main_arg0 Finset.univ X.dyc ∗ pt c main_arg1 Finset.univ X.dys ∗ pt c main_arg2 Finset.univ X.prec ∗ pt c main_arg3 Finset.univ X.pres
  ∗ pt c main_arg4 Finset.univ X.h0 ∗ pt c main_arg5 Finset.univ X.w ∗ pt c main_v0 Finset.univ X.ws)
/-- the results before -/
def OUT0 : sProp (MM F) := iprop((∃ f, pt c main_v1_0 Finset.univ f) ∗ (∃ f, pt c main_v1_1 Finset.univ f) ∗ (∃ f, pt c main_v1_2 Finset.univ f) ∗ (∃ f, pt c main_v1_3 Finset.univ f))
/-- and after, -/
def OUT : sProp (MM F) := iprop(pt c main_v1_0 Finset.univ (vDx X) ∗ pt c main_v1_1 Finset.univ (vDh0 X) ∗ pt c main_v1_2 Finset.univ (vCo X) ∗ pt c main_v1_3 Finset.univ (vSc X))
/-- the kernel's buffers -/
def SCR : sProp (MM F) := iprop((∃ f, pt c (bref 0) Finset.univ f) ∗ (∃ f, pt c (bref 1) Finset.univ f) ∗ (∃ f, pt c (bref 2) Finset.univ f) ∗ (∃ f, pt c (bref 3) Finset.univ f) ∗ (∃ f, pt c (bref 4) Finset.univ f) ∗ (∃ f, pt c (bref 5) Finset.univ f) ∗ (∃ f, pt c (bref 6) Finset.univ f) ∗ (∃ f, pt c (bref 7) Finset.univ f) ∗ (∃ f, pt c (bref 8) Finset.univ f) ∗ (∃ f, pt c (bref 9) Finset.univ f) ∗ (∃ f, pt c (bref 10) Finset.univ f) ∗ (∃ f, pt c (bref 11) Finset.univ f) ∗ (∃ f, pt c (bref 12) Finset.univ f) ∗ (∃ f, pt c (bref 13) Finset.univ f) ∗ (∃ f, pt c (bref 14) Finset.univ f) ∗ (∃ f, pt c (bref 15) Finset.univ f) ∗ (∃ f, pt c (bref 16) Finset.univ f) ∗ (∃ f, pt c (bref 17) Finset.univ f) ∗ (∃ f, pt c (bref 18) Finset.univ f) ∗ (∃ f, pt c (bref 19) Finset.univ f) ∗ (∃ f, pt c (bref 20) Finset.univ f) ∗ (∃ f, pt c (bref 21) Finset.univ f) ∗ (∃ f, pt c (bref 22) Finset.univ f) ∗ (∃ f, pt c (bref 23) Finset.univ f))
/-- and its cells. -/
def SEM : sProp (MM F) := iprop((sv c (semIn 0 0) ∗ sv c (semIn 0 1) ∗ sv c (semIn 1 0) ∗ sv c (semIn 1 1)) ∗ (bigSep Finset.univ fun n => sv c (semW n))
  ∗ (sv c (semSmall 0) ∗ sv c (semSmall 1) ∗ sv c (semSmall 2) ∗ sv c (semSmall 3)) ∗ (sv c (semOut 0) ∗ sv c (semOut 1) ∗ sv c (semOut 2))
  ∗ (bigSep Finset.univ fun n => iprop(sv c (semSt 0 n) ∗ sv c (semSt 1 n))))

/-- The small arguments' copies under way -/
def SF : sProp (MM F) := iprop(Fl c (semSmall 0) mDys.view.dmaCredit iprop(pt c (bref 3) Finset.univ X.dys ∗ pt c main_arg1 Finset.univ X.dys) ∗ Fl c (semSmall 1) mPres.view.dmaCredit iprop(pt c (bref 4) Finset.univ X.pres ∗ pt c main_arg3 Finset.univ X.pres) ∗ Fl c (semSmall 2) mH0.view.dmaCredit iprop(pt c (bref 5) Finset.univ X.h0 ∗ pt c main_arg4 Finset.univ X.h0) ∗ Fl c (semSmall 3) mWs.view.dmaCredit iprop(pt c (bref 6) Finset.univ X.ws ∗ pt c main_v0 Finset.univ X.ws))
/-- and the small results'. -/
def OF : sProp (MM F) := iprop(Fl c (semOut 0) oCodes.view.dmaCredit iprop(pt c main_v1_2 Finset.univ (vCo X) ∗ pt c (bref 19) Finset.univ (vCo X)) ∗ Fl c (semOut 1) oSc.view.dmaCredit iprop(pt c main_v1_3 Finset.univ (vSc X) ∗ pt c (bref 22) Finset.univ (vSc X)) ∗ Fl c (semOut 2) oDh0.view.dmaCredit iprop(pt c main_v1_1 Finset.univ (vDh0 X) ∗ pt c (bref 21) Finset.univ (vDh0 X)))

variable {c}

theorem wp_seq {α β : Type} (p : PG F α) (k : α → PG F β) (Q : β → sProp (MM F)) : WP c p (fun a => WP c (k a) Q) ⊢ WP c (p >>= k) Q := by
  unfold WP; rw [wp_bind]

theorem smallsGo_spec (Q : PUnit → sProp (MM F)) :
    iprop((pt c main_arg1 Finset.univ X.dys ∗ (∃ f, pt c (bref 3) Finset.univ f) ∗ sv c (semSmall 0)) ∗ (pt c main_arg3 Finset.univ X.pres ∗ (∃ f, pt c (bref 4) Finset.univ f) ∗ sv c (semSmall 1)) ∗ (pt c main_arg4 Finset.univ X.h0 ∗ (∃ f, pt c (bref 5) Finset.univ f) ∗ sv c (semSmall 2)) ∗ (pt c main_v0 Finset.univ X.ws ∗ (∃ f, pt c (bref 6) Finset.univ f) ∗ sv c (semSmall 3)) ∗ (SF c X -∗ Q ⟨⟩)) ⊢ WP c smallsGo Q := by
  unfold smallsGo SF
  iintro ⟨⟨A0, ⟨%f0, B0⟩, S0⟩, ⟨A1, ⟨%f1, B1⟩, S1⟩, ⟨A2, ⟨%f2, B2⟩, S2⟩, ⟨A3, ⟨%f3, B3⟩, S3⟩, HQ⟩
  iapply (wp_seq _ _ _)
  iapply (all_go aDys mDys (semSmall 0) _ _ _ (by decide) (View.set_whole _) (View.set_whole _) X.dys f0 X.dys (fun x => rfl) _)
  isplitl [A0]; · iexact A0
  isplitl [B0]; · iexact B0
  isplitl [S0]; · iexact S0
  iintro F0
  iapply (wp_seq _ _ _)
  iapply (all_go aPres mPres (semSmall 1) _ _ _ (by decide) (View.set_whole _) (View.set_whole _) X.pres f1 X.pres (fun x => rfl) _)
  isplitl [A1]; · iexact A1
  isplitl [B1]; · iexact B1
  isplitl [S1]; · iexact S1
  iintro F1
  iapply (wp_seq _ _ _)
  iapply (all_go aH0 mH0 (semSmall 2) _ _ _ (by decide) (View.set_whole _) (View.set_whole _) X.h0 f2 X.h0 (fun x => rfl) _)
  isplitl [A2]; · iexact A2
  isplitl [B2]; · iexact B2
  isplitl [S2]; · iexact S2
  iintro F2
  iapply (all_go aWs mWs (semSmall 3) _ _ _ (by decide) (View.set_whole _) (View.set_whole _) X.ws f3 X.ws (fun x => rfl) _)
  isplitl [A3]; · iexact A3
  isplitl [B3]; · iexact B3
  isplitl [S3]; · iexact S3
  iintro F3
  iapply HQ
  isplitl [F0]; · iexact F0
  isplitl [F1]; · iexact F1
  isplitl [F2]; · iexact F2
  iexact F3

theorem smallsFin_spec (Q : PUnit → sProp (MM F)) :
    iprop(SF c X ∗ ow c ∗ (((pt c (bref 3) Finset.univ X.dys ∗ pt c main_arg1 Finset.univ X.dys) ∗ sv c (semSmall 0)) ∗ ((pt c (bref 4) Finset.univ X.pres ∗ pt c main_arg3 Finset.univ X.pres) ∗ sv c (semSmall 1)) ∗ ((pt c (bref 5) Finset.univ X.h0 ∗ pt c main_arg4 Finset.univ X.h0) ∗ sv c (semSmall 2)) ∗ ((pt c (bref 6) Finset.univ X.ws ∗ pt c main_v0 Finset.univ X.ws) ∗ sv c (semSmall 3)) -∗ ow c -∗ Q ⟨⟩)) ⊢ WP c smallsFin Q := by
  unfold smallsFin SF
  iintro ⟨⟨F0, F1, F2, F3⟩, HW, HQ⟩
  iapply (wp_seq _ _ _)
  iapply (fin_spec c aDys mDys (semSmall 0) _ _ _ _)
  isplitl [F0]; · iexact F0
  isplitl [HW]; · iexact HW
  iintro D0 S0 HW
  iapply (wp_seq _ _ _)
  iapply (fin_spec c aPres mPres (semSmall 1) _ _ _ _)
  isplitl [F1]; · iexact F1
  isplitl [HW]; · iexact HW
  iintro D1 S1 HW
  iapply (wp_seq _ _ _)
  iapply (fin_spec c aH0 mH0 (semSmall 2) _ _ _ _)
  isplitl [F2]; · iexact F2
  isplitl [HW]; · iexact HW
  iintro D2 S2 HW
  iapply (fin_spec c aWs mWs (semSmall 3) _ _ _ _)
  isplitl [F3]; · iexact F3
  isplitl [HW]; · iexact HW
  iintro D3 S3 HW
  iapply HQ $$ [D0 S0 D1 S1 D2 S2 D3 S3] HW
  isplitl [D0 S0]
  · isplitl [D0]; · iexact D0
    iexact S0
  isplitl [D1 S1]
  · isplitl [D1]; · iexact D1
    iexact S1
  isplitl [D2 S2]
  · isplitl [D2]; · iexact D2
    iexact S2
  isplitl [D3]; · iexact D3
  iexact S3

theorem outsGo_spec (Q : PUnit → sProp (MM F)) :
    iprop((pt c (bref 19) Finset.univ (vCo X) ∗ (∃ f, pt c main_v1_2 Finset.univ f) ∗ sv c (semOut 0)) ∗ (pt c (bref 22) Finset.univ (vSc X) ∗ (∃ f, pt c main_v1_3 Finset.univ f) ∗ sv c (semOut 1)) ∗ (pt c (bref 21) Finset.univ (vDh0 X) ∗ (∃ f, pt c main_v1_1 Finset.univ f) ∗ sv c (semOut 2)) ∗ (OF c X -∗ Q ⟨⟩)) ⊢ WP c outsGo Q := by
  unfold outsGo OF
  iintro ⟨⟨A0, ⟨%f0, B0⟩, S0⟩, ⟨A1, ⟨%f1, B1⟩, S1⟩, ⟨A2, ⟨%f2, B2⟩, S2⟩, HQ⟩
  iapply (wp_seq _ _ _)
  iapply (all_go mCodes oCodes (semOut 0) _ _ _ (by decide) (View.set_whole _) (View.set_whole _) (vCo X) f0 (vCo X) (fun x => rfl) _)
  isplitl [A0]; · iexact A0
  isplitl [B0]; · iexact B0
  isplitl [S0]; · iexact S0
  iintro F0
  iapply (wp_seq _ _ _)
  iapply (all_go mSc oSc (semOut 1) _ _ _ (by decide) (View.set_whole _) (View.set_whole _) (vSc X) f1 (vSc X) (fun x => rfl) _)
  isplitl [A1]; · iexact A1
  isplitl [B1]; · iexact B1
  isplitl [S1]; · iexact S1
  iintro F1
  iapply (all_go mDh0 oDh0 (semOut 2) _ _ _ (by decide) (View.set_whole _) (View.set_whole _) (vDh0 X) f2 (vDh0 X) (fun x => rfl) _)
  isplitl [A2]; · iexact A2
  isplitl [B2]; · iexact B2
  isplitl [S2]; · iexact S2
  iintro F2
  iapply HQ
  isplitl [F0]; · iexact F0
  isplitl [F1]; · iexact F1
  iexact F2

theorem outsFin_spec (Q : PUnit → sProp (MM F)) :
    iprop(OF c X ∗ ow c ∗ (((pt c main_v1_2 Finset.univ (vCo X) ∗ pt c (bref 19) Finset.univ (vCo X)) ∗ sv c (semOut 0)) ∗ ((pt c main_v1_3 Finset.univ (vSc X) ∗ pt c (bref 22) Finset.univ (vSc X)) ∗ sv c (semOut 1)) ∗ ((pt c main_v1_1 Finset.univ (vDh0 X) ∗ pt c (bref 21) Finset.univ (vDh0 X)) ∗ sv c (semOut 2)) -∗ ow c -∗ Q ⟨⟩)) ⊢ WP c outsFin Q := by
  unfold outsFin OF
  iintro ⟨⟨F0, F1, F2⟩, HW, HQ⟩
  iapply (wp_seq _ _ _)
  iapply (fin_spec c mCodes oCodes (semOut 0) _ _ _ _)
  isplitl [F0]; · iexact F0
  isplitl [HW]; · iexact HW
  iintro D0 S0 HW
  iapply (wp_seq _ _ _)
  iapply (fin_spec c mSc oSc (semOut 1) _ _ _ _)
  isplitl [F1]; · iexact F1
  isplitl [HW]; · iexact HW
  iintro D1 S1 HW
  iapply (fin_spec c mDh0 oDh0 (semOut 2) _ _ _ _)
  isplitl [F2]; · iexact F2
  isplitl [HW]; · iexact HW
  iintro D2 S2 HW
  iapply HQ $$ [D0 S0 D1 S1 D2 S2] HW
  isplitl [D0 S0]
  · isplitl [D0]; · iexact D0
    iexact S0
  isplitl [D1 S1]
  · isplitl [D1]; · iexact D1
    iexact S1
  isplitl [D2]; · iexact D2
  iexact S2

/-- A batch's copies under way. -/
def IF (c : Dev nD) (X : Inp F) (b : Fin 2) : sProp (MM F) :=
  iprop(Fl c (semIn b 0) (dPre b).view.dmaCredit iprop(pt c (bref 1) (rPre b).set X.prec ∗ pt c main_arg2 (rPre b).set X.prec)
    ∗ Fl c (semIn b 1) (dDy b).view.dmaCredit iprop(pt c (bref 0) (rDy b).set X.dyc ∗ pt c main_arg0 (rDy b).set X.dyc))
theorem insGo_spec (b : Fin 2) (f1 : S2x128x7168.Idx → F .fp8e4m3) (f0 : S2x128x3584.Idx → F .fp8e5m2) (Q : PUnit → sProp (MM F)) :
    iprop((pt c main_arg2 (rPre b).set X.prec ∗ pt c (bref 1) (rPre b).set f1 ∗ sv c (semIn b 0)) ∗ (pt c main_arg0 (rDy b).set X.dyc ∗ pt c (bref 0) (rDy b).set f0 ∗ sv c (semIn b 1))
      ∗ (IF c X b -∗ Q ⟨⟩)) ⊢ WP c (insGo b) Q := by
  unfold insGo IF
  iintro ⟨⟨A1, B1, S1⟩, ⟨A0, B0, S0⟩, HQ⟩
  iapply (wp_seq _ _ _)
  iapply (pre_go X b f1 _)
  isplitl [A1]; · iexact A1
  isplitl [B1]; · iexact B1
  isplitl [S1]; · iexact S1
  iintro F1
  iapply (dy_go X b f0 _)
  isplitl [A0]; · iexact A0
  isplitl [B0]; · iexact B0
  isplitl [S0]; · iexact S0
  iintro F0
  iapply HQ
  isplitl [F1]; · iexact F1
  iexact F0
theorem insFin_spec (b : Fin 2) (Q : PUnit → sProp (MM F)) :
    iprop(IF c X b ∗ ow c ∗ (((pt c (bref 1) (rPre b).set X.prec ∗ pt c main_arg2 (rPre b).set X.prec) ∗ sv c (semIn b 0))
      ∗ ((pt c (bref 0) (rDy b).set X.dyc ∗ pt c main_arg0 (rDy b).set X.dyc) ∗ sv c (semIn b 1)) -∗ ow c -∗ Q ⟨⟩)) ⊢ WP c (insFin b) Q := by
  unfold insFin IF
  iintro ⟨⟨F1, F0⟩, HW, HQ⟩
  iapply (wp_seq _ _ _)
  iapply (fin_spec c (sPre b) (dPre b) (semIn b 0) _ _ _ _)
  isplitl [F1]; · iexact F1
  isplitl [HW]; · iexact HW
  iintro D1 S1 HW
  iapply (fin_spec c (sDy b) (dDy b) (semIn b 1) _ _ _ _)
  isplitl [F0]; · iexact F0
  isplitl [HW]; · iexact HW
  iintro D0 S0 HW
  iapply HQ $$ [D1 S1 D0 S0] HW
  isplitl [D1 S1]
  · isplitl [D1]; · iexact D1
    iexact S1
  isplitl [D0]; · iexact D0
  iexact S0

/-- A weight block's copy under way. -/
def WF (c : Dev nD) (X : Inp F) (n : Fin 10) : sProp (MM F) :=
  Fl c (semW n) (dW n).view.dmaCredit iprop(pt c (bref 2) (rWd n).set (vW X) ∗ pt c main_arg5 (rWs n).set X.w)
theorem wGo_spec (f : S10x7168x512.Idx → F .fp8e4m3) (Q : PUnit → sProp (MM F)) :
    iprop((bigSep Finset.univ fun n => iprop(pt c main_arg5 (rWs n).set X.w ∗ pt c (bref 2) (rWd n).set f ∗ sv c (semW n)))
      ∗ ((bigSep Finset.univ fun n => WF c X n) -∗ Q ⟨⟩)) ⊢ WP c wGo Q := by
  unfold wGo
  iintro ⟨H, HQ⟩
  iapply (wp_steps iprop(emp) 10 _ (fun n => iprop(pt c main_arg5 (rWs n).set X.w ∗ pt c (bref 2) (rWd n).set f ∗ sv c (semW n))) (fun n => WF c X n) (fun i hi Q => by
    iintro ⟨⟨A, B, S⟩, -, HQ⟩
    iapply (w_go X ⟨i, hi⟩ f _)
    isplitl [A]; · iexact A
    isplitl [B]; · iexact B
    isplitl [S]; · iexact S
    iintro HF
    iapply HQ $$ [HF] []
    · unfold WF; iexact HF
    iempintro) Q)
  isplitl [H]; · iexact H
  isplitr [HQ]; · iempintro
  iintro H -
  iapply HQ $$ H

/-- Before a block of the product, -/
def DA (c : Dev nD) (X : Inp F) (n : Fin 10) : sProp (MM F) :=
  iprop(WF c X n ∗ (∃ f, pt c (bref 23) (SB n) f) ∗ (∃ f, pt c main_v1_0 (DB n) f) ∗ sv c (semSt 0 n) ∗ sv c (semSt 1 n))
/-- after it, -/
def DM (c : Dev nD) (X : Inp F) (n : Fin 10) : sProp (MM F) :=
  iprop(((pt c (bref 2) (rWd n).set (vW X) ∗ pt c main_arg5 (rWs n).set X.w) ∗ sv c (semW n))
    ∗ Fl c (semSt 0 n) (dDx 0 n).view.dmaCredit iprop(pt c main_v1_0 (rDx 0 n).set (vDx X) ∗ pt c (bref 23) (rSt 0 n).set (vSt X))
    ∗ Fl c (semSt 1 n) (dDx 1 n).view.dmaCredit iprop(pt c main_v1_0 (rDx 1 n).set (vDx X) ∗ pt c (bref 23) (rSt 1 n).set (vSt X)))
/-- and its copies out awaited. -/
def DE (c : Dev nD) (X : Inp F) (n : Fin 10) : sProp (MM F) :=
  iprop(((pt c (bref 2) (rWd n).set (vW X) ∗ pt c main_arg5 (rWs n).set X.w) ∗ sv c (semW n)) ∗ pt c main_v1_0 (DB n) (vDx X) ∗ pt c (bref 23) (SB n) (vSt X) ∗ sv c (semSt 0 n) ∗ sv c (semSt 1 n))
/-- The product's operand and scales. -/
def DC (c : Dev nD) (X : Inp F) : sProp (MM F) := iprop(pt c (bref 18) Finset.univ (AV X) ∗ pt c (bref 20) Finset.univ (vDsc X) ∗ ow c)

theorem none_sep (P : sProp (MM F)) : iprop(emp ∗ P) = P := BI.equiv_iff.mp BI.emp_sep

theorem ID_eq (n : Fin 10) (σ : Mem F) : Held c Finset.univ (ID n) σ
    = iprop(pt c (bref 2) (rWd n).set (σ 2) ∗ pt c (bref 18) Finset.univ (σ 18) ∗ pt c (bref 20) Finset.univ (σ 20) ∗ pt c (bref 23) (SB n) (σ 23)) := by
  have h : ∀ (i : Fin 24), ID n i = ∅ → pt c (bref i) (ID n i) (σ i) = iprop(emp) := fun i hi => by rw [hi]; exact pt_none _
  rw [Held_eq]
  rw [h 0 rfl]
  rw [h 1 rfl]
  rw [h 3 rfl]
  rw [h 4 rfl]
  rw [h 5 rfl]
  rw [h 6 rfl]
  rw [h 7 rfl]
  rw [h 8 rfl]
  rw [h 9 rfl]
  rw [h 10 rfl]
  rw [h 11 rfl]
  rw [h 12 rfl]
  rw [h 13 rfl]
  rw [h 14 rfl]
  rw [h 15 rfl]
  rw [h 16 rfl]
  rw [h 17 rfl]
  rw [h 19 rfl]
  rw [h 21 rfl]
  rw [h 22 rfl]
  simp only [none_sep]
  rfl

end Cert.KernelIdeal
-- ==== Proof.KI.Run.lean ====
module

public import proofs.«01_k».proof.Proof.KI.Parts

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Shapes1.Facts₀ K0.Facts₀ Facts

variable {F : FTy → Type} [FloatOps F] [Named F] {c : Dev nD}

/-! ## The buffers held by each stretch -/

theorem sep_none (P : sProp (MM F)) : iprop(P ∗ emp) = P := BI.equiv_iff.mp BI.sep_emp

/-- The buffers both batches' scans use whole. -/
def RST (c : Dev nD) (σ : Mem F) : sProp (MM F) := iprop(pt c (bref 3) Finset.univ (σ 3) ∗ pt c (bref 4) Finset.univ (σ 4) ∗ pt c (bref 5) Finset.univ (σ 5) ∗ pt c (bref 6) Finset.univ (σ 6) ∗ pt c (bref 7) Finset.univ (σ 7) ∗ pt c (bref 8) Finset.univ (σ 8) ∗ pt c (bref 9) Finset.univ (σ 9) ∗ pt c (bref 10) Finset.univ (σ 10) ∗ pt c (bref 11) Finset.univ (σ 11) ∗ pt c (bref 12) Finset.univ (σ 12) ∗ pt c (bref 13) Finset.univ (σ 13) ∗ pt c (bref 14) Finset.univ (σ 14) ∗ pt c (bref 15) Finset.univ (σ 15) ∗ pt c (bref 16) Finset.univ (σ 16) ∗ pt c (bref 17) Finset.univ (σ 17) ∗ pt c (bref 18) Finset.univ (σ 18) ∗ pt c (bref 19) Finset.univ (σ 19) ∗ pt c (bref 20) Finset.univ (σ 20) ∗ pt c (bref 21) Finset.univ (σ 21) ∗ pt c (bref 22) Finset.univ (σ 22))

theorem I0_eq (σ : Mem F) : Held c Finset.univ (IB 0) σ = iprop(pt c (bref 0) (rDy 0).set (σ 0) ∗ pt c (bref 1) (rPre 0).set (σ 1) ∗ RST c σ) := by
  have h : ∀ (i : Fin 24), IB 0 i = ∅ → pt c (bref i) (IB 0 i) (σ i) = iprop(emp) := fun i hi => by rw [hi]; exact pt_none _
  rw [Held_eq]
  rw [h 2 rfl]
  rw [h 23 rfl]
  simp only [none_sep, sep_none]
  rfl
theorem I1_eq (σ : Mem F) : Held c Finset.univ (IB 1) σ = iprop(pt c (bref 0) Finset.univ (σ 0) ∗ pt c (bref 1) Finset.univ (σ 1) ∗ RST c σ) := by
  have h : ∀ (i : Fin 24), IB 1 i = ∅ → pt c (bref i) (IB 1 i) (σ i) = iprop(emp) := fun i hi => by rw [hi]; exact pt_none _
  rw [Held_eq]
  rw [h 2 rfl]
  rw [h 23 rfl]
  simp only [none_sep, sep_none]
  rfl
theorem IS_eq (σ : Mem F) : Held c Finset.univ IS σ = iprop(pt c (bref 3) Finset.univ (σ 3) ∗ pt c (bref 4) Finset.univ (σ 4) ∗ pt c (bref 7) Finset.univ (σ 7) ∗ pt c (bref 8) Finset.univ (σ 8)) := by
  have h : ∀ (i : Fin 24), IS i = ∅ → pt c (bref i) (IS i) (σ i) = iprop(emp) := fun i hi => by rw [hi]; exact pt_none _
  rw [Held_eq]
  rw [h 0 rfl]
  rw [h 1 rfl]
  rw [h 2 rfl]
  rw [h 5 rfl]
  rw [h 6 rfl]
  rw [h 9 rfl]
  rw [h 10 rfl]
  rw [h 11 rfl]
  rw [h 12 rfl]
  rw [h 13 rfl]
  rw [h 14 rfl]
  rw [h 15 rfl]
  rw [h 16 rfl]
  rw [h 17 rfl]
  rw [h 18 rfl]
  rw [h 19 rfl]
  rw [h 20 rfl]
  rw [h 21 rfl]
  rw [h 22 rfl]
  rw [h 23 rfl]
  simp only [none_sep, sep_none]
  rfl

variable (X : Inp F)

/-- The buffers as the product finds them. -/
def mX (f : S10x2x128x512.Idx → F .bf16) : Mem F :=
  mk X.dyc X.prec (vW X) X.dys X.pres X.h0 X.ws (fun _ => oneF) (fun _ => oneF) (fun _ => oneF) (fun _ => oneF) (fun _ => oneF) (fun _ => oneF) (fun _ => oneF) (fun _ => oneF) (fun _ => oneF) (fun _ => oneF) (fun _ => oneF) (AV X) (vCo X) (vDsc X) (vDh0 X) (vSc X) f

/-! ## The product -/

theorem two_sep (Φ Ψ : Fin 10 → sProp (MM F)) : (bigSep Finset.univ fun n => iprop(Φ n ∗ Ψ n)) = iprop(bigSep Finset.univ Φ ∗ bigSep Finset.univ Ψ) := bigSep_sep _ _ _

theorem dxTrip_spec (n : Fin 10) (Q : PUnit → sProp (MM F)) : iprop(DA c X n ∗ DC c X ∗ (DM c X n -∗ DC c X -∗ Q ⟨⟩)) ⊢ WP c (dxTrip n) Q := by
  unfold dxTrip DA DC DM WF
  iintro ⟨⟨HF, ⟨%f, B23⟩, ⟨%fo, BO⟩, S0, S1⟩, ⟨A18, A20, HW⟩, HQ⟩
  iapply (wp_seq _ _ _)
  iapply (fin_spec c (sW n) (dW n) (semW n) _ _ _ _)
  isplitl [HF]; · iexact HF
  isplitl [HW]; · iexact HW
  iintro ⟨B2, A5⟩ SW HW
  iapply (wp_seq _ _ _)
  iapply (wp_T (dx_T X n (mX X f) rfl rfl rfl) _)
  rw [ID_eq]
  isplitl [B2 A18 A20 B23]
  · isplitl [B2]; · iexact B2
    isplitl [A18]; · iexact A18
    isplitl [A20]; · iexact A20
    iexact B23
  iintro %_ %σ' %h H
  have e : Held c Finset.univ (ID n) σ' = iprop(pt c (bref 2) (rWd n).set (vW X) ∗ pt c (bref 18) Finset.univ (AV X) ∗ pt c (bref 20) Finset.univ (vDsc X)
      ∗ (pt c (bref 23) (rSt 0 n).set (vSt X) ∗ pt c (bref 23) (rSt 1 n).set (vSt X))) := by
    rw [ID_eq, h.1 2 (by decide), h.1 18 (by decide), h.1 20 (by decide),
      show pt c (bref 23) (SB n) (σ' 23) = pt c (bref 23) (SB n) (vSt X) from pointsTo_congr h.2, sb_two]
    rfl
  ihave H' := (Entails.of_eq e) $$ H
  ihave BO' := (Entails.of_eq (db_two (c := c) n fo)) $$ BO
  icases H' with ⟨B2, A18, A20, B30, B31⟩
  icases BO' with ⟨BO0, BO1⟩
  iapply (wp_seq _ _ _)
  iapply (dx_go X 0 n fo _)
  isplitl [B30]; · iexact B30
  isplitl [BO0]; · iexact BO0
  isplitl [S0]; · iexact S0
  iintro F0
  iapply (dx_go X 1 n fo _)
  isplitl [B31]; · iexact B31
  isplitl [BO1]; · iexact BO1
  isplitl [S1]; · iexact S1
  iintro F1
  iapply HQ $$ [B2 A5 SW F0 F1] [A18 A20 HW]
  · isplitl [B2 A5 SW]
    · isplitl [B2 A5]
      · isplitl [B2]; · iexact B2
        iexact A5
      iexact SW
    isplitl [F0]; · iexact F0
    iexact F1
  isplitl [A18]; · iexact A18
  isplitl [A20]; · iexact A20
  iexact HW

theorem dxFin_spec (n : Fin 10) (Q : PUnit → sProp (MM F)) : iprop(DM c X n ∗ ow c ∗ (DE c X n -∗ ow c -∗ Q ⟨⟩)) ⊢ WP c (dxFin n) Q := by
  unfold dxFin DM DE
  rw [sb_two, db_two]
  iintro ⟨⟨A, F0, F1⟩, HW, HQ⟩
  iapply (wp_seq _ _ _)
  iapply (fin_spec c (sSt 0 n) (dDx 0 n) (semSt 0 n) _ _ _ _)
  isplitl [F0]; · iexact F0
  isplitl [HW]; · iexact HW
  iintro ⟨O0, B0⟩ S0 HW
  iapply (fin_spec c (sSt 1 n) (dDx 1 n) (semSt 1 n) _ _ _ _)
  isplitl [F1]; · iexact F1
  isplitl [HW]; · iexact HW
  iintro ⟨O1, B1⟩ S1 HW
  iapply HQ $$ [A O0 B0 S0 O1 B1 S1] HW
  isplitl [A]; · iexact A
  isplitl [O0 O1]
  · isplitl [O0]; · iexact O0
    iexact O1
  isplitl [B0 B1]
  · isplitl [B0]; · iexact B0
    iexact B1
  isplitl [S0]; · iexact S0
  iexact S1

theorem loop5_spec (Q : PUnit → sProp (MM F)) : iprop((bigSep Finset.univ fun n => DA c X n) ∗ DC c X ∗ ((bigSep Finset.univ fun n => DM c X n) -∗ DC c X -∗ Q ⟨⟩))
    ⊢ WP c (Scf.for 0#32 10#32 1#32 k0_t5_ok (⟨⟩ : PUnit) fun n _ => dxTrip n) Q :=
  wp_loop (DC c X) 10 0#32 10#32 1#32 k0_t5_ok rfl dxTrip (fun n => DA c X n) (fun n => DM c X n) (fun n Q => dxTrip_spec X n Q) Q
theorem loop6_spec (Q : PUnit → sProp (MM F)) : iprop((bigSep Finset.univ fun n => DM c X n) ∗ ow c ∗ ((bigSep Finset.univ fun n => DE c X n) -∗ ow c -∗ Q ⟨⟩))
    ⊢ WP c (Scf.for 0#32 10#32 1#32 k0_t5_ok (⟨⟩ : PUnit) fun n _ => dxFin n) Q :=
  wp_loop (ow c) 10 0#32 10#32 1#32 k0_t5_ok rfl dxFin (fun n => DM c X n) (fun n => DE c X n) (fun n Q => dxFin_spec X n Q) Q

/-! ## What both batches leave -/

theorem both (σ σ' : Mem F) (h0 : OutB X 0 σ) (h1 : OutB X 1 σ') (k : KeepB 1 σ σ') :
    σ' 18 = AV X ∧ σ' 19 = vCo X ∧ σ' 20 = vDsc X ∧ σ' 21 = vDh0 X ∧ σ' 22 = vSc X := by
  have hd : ∀ {n : ℕ}, n < 2 → ¬ n = (1 : Fin 2).val → n = (0 : Fin 2).val := fun {n} h h' => by
    have : ¬ n = 1 := h'
    show n = 0
    omega
  refine ⟨funext fun i => ?_, funext fun i => ?_, funext fun i => ?_, funext fun i => ?_, funext fun i => ?_⟩
  · by_cases h : (i 0).val / 128 = (1 : Fin 2).val
    · exact h1.a i h
    · exact (k.a i h).trans (h0.a i (hd (by have : (i 0).val < 256 := (i 0).isLt; omega) h))
  · by_cases h : (i 0).val = (1 : Fin 2).val
    · exact h1.co i h
    · exact (k.co i h).trans (h0.co i (hd (i 0).isLt h))
  · by_cases h : (i 0).val = (1 : Fin 2).val
    · exact h1.dsc i h
    · exact (k.dsc i h).trans (h0.dsc i (hd (i 0).isLt h))
  · by_cases h : (i 0).val = (1 : Fin 2).val
    · exact h1.dh0 i h
    · exact (k.dh0 i h).trans (h0.dh0 i (hd (i 0).isLt h))
  · by_cases h : (i 0).val = (1 : Fin 2).val
    · exact h1.sc i h
    · exact (k.sc i h).trans (h0.sc i (hd (i 0).isLt h))

/-! ## The scans, with what they hold named -/

/-- The scales' spread, read at the feature a lane is. -/
def Spread (g7 g8 : S2x128x128.Idx → F .f32) : Prop :=
  (∀ i, g7 i = X.dys (n2 (i 0) (i 1))) ∧ (∀ i, g8 i = X.pres (n2 (i 0) (i 1)))

theorem spreads_spec (f7 f8 : S2x128x128.Idx → F .f32) (Q : PUnit → sProp (MM F)) :
    iprop((pt c (bref 3) Finset.univ X.dys ∗ pt c (bref 4) Finset.univ X.pres ∗ pt c (bref 7) Finset.univ f7 ∗ pt c (bref 8) Finset.univ f8)
      ∗ (∀ g7 g8, ⌜Spread X g7 g8⌝ -∗
        (pt c (bref 3) Finset.univ X.dys ∗ pt c (bref 4) Finset.univ X.pres ∗ pt c (bref 7) Finset.univ g7 ∗ pt c (bref 8) Finset.univ g8) -∗ Q ⟨⟩)) ⊢ WP c spreads Q := by
  iintro ⟨H, HQ⟩
  iapply (wp_T (spreads_T (mk X.dyc X.prec (vW X) X.dys X.pres X.h0 X.ws f7 f8 (fun _ => oneF) (fun _ => oneF) (fun _ => oneF) (fun _ => oneF) (fun _ => oneF) (fun _ => oneF) (fun _ => oneF) (fun _ => oneF) (fun _ => oneF) (AV X) (vCo X) (vDsc X) (vDh0 X) (vSc X) (vSt X))) _)
  rw [IS_eq]
  isplitl [H]; · iexact H
  iintro %_ %σ0 %h0 H
  have e : Held c Finset.univ IS σ0 = iprop(pt c (bref 3) Finset.univ X.dys ∗ pt c (bref 4) Finset.univ X.pres ∗ pt c (bref 7) Finset.univ (σ0 7) ∗ pt c (bref 8) Finset.univ (σ0 8)) := by
    rw [IS_eq, h0.1 3 (by decide), h0.1 4 (by decide)]
    rfl
  ihave H' := (Entails.of_eq e) $$ H
  iapply HQ $$ %(σ0 7) %(σ0 8) %h0.2 H'

theorem batch0_spec (σ : Mem F) (h : InB X σ) (Q : PUnit → sProp (MM F)) :
    iprop((pt c (bref 0) (rDy 0).set X.dyc ∗ pt c (bref 1) (rPre 0).set X.prec ∗ RST c σ)
      ∗ (∀ σ', ⌜InB X σ' ∧ OutB X 0 σ'⌝ -∗ (pt c (bref 0) (rDy 0).set X.dyc ∗ pt c (bref 1) (rPre 0).set X.prec ∗ RST c σ') -∗ Q ⟨⟩)) ⊢ WP c (batch 0) Q := by
  iintro ⟨H, HQ⟩
  iapply (wp_T (batch_T X 0 σ h) _)
  rw [I0_eq, h.dyc, h.prec]
  isplitl [H]; · iexact H
  iintro %_ %σ' %h' H
  have e : Held c Finset.univ (IB 0) σ' = iprop(pt c (bref 0) (rDy 0).set X.dyc ∗ pt c (bref 1) (rPre 0).set X.prec ∗ RST c σ') := by
    rw [I0_eq, h'.1 0 (by decide), h'.1 1 (by decide), h.dyc, h.prec]
  ihave H' := (Entails.of_eq e) $$ H
  iapply HQ $$ %σ' %(⟨h.keep h'.1 (by decide), h'.2.1⟩ : InB X σ' ∧ OutB X 0 σ') H'

theorem batch1_spec (σ : Mem F) (h : InB X σ) (Q : PUnit → sProp (MM F)) :
    iprop((pt c (bref 0) Finset.univ X.dyc ∗ pt c (bref 1) Finset.univ X.prec ∗ RST c σ)
      ∗ (∀ σ', ⌜OutB X 1 σ' ∧ KeepB 1 σ σ'⌝ -∗ (pt c (bref 0) Finset.univ X.dyc ∗ pt c (bref 1) Finset.univ X.prec ∗ RST c σ') -∗ Q ⟨⟩)) ⊢ WP c (batch 1) Q := by
  iintro ⟨H, HQ⟩
  iapply (wp_T (batch_T X 1 σ h) _)
  rw [I1_eq, h.dyc, h.prec]
  isplitl [H]; · iexact H
  iintro %_ %σ' %h' H
  have e : Held c Finset.univ (IB 1) σ' = iprop(pt c (bref 0) Finset.univ X.dyc ∗ pt c (bref 1) Finset.univ X.prec ∗ RST c σ') := by
    rw [I1_eq, h'.1 0 (by decide), h'.1 1 (by decide), h.dyc, h.prec]
  ihave H' := (Entails.of_eq e) $$ H
  iapply HQ $$ %σ' %h'.2 H'

theorem RST_out (σ : Mem F) (h : σ 18 = AV X ∧ σ 19 = vCo X ∧ σ 20 = vDsc X ∧ σ 21 = vDh0 X ∧ σ 22 = vSc X) :
    RST c σ = iprop(pt c (bref 3) Finset.univ (σ 3) ∗ pt c (bref 4) Finset.univ (σ 4) ∗ pt c (bref 5) Finset.univ (σ 5) ∗ pt c (bref 6) Finset.univ (σ 6) ∗ pt c (bref 7) Finset.univ (σ 7) ∗ pt c (bref 8) Finset.univ (σ 8) ∗ pt c (bref 9) Finset.univ (σ 9) ∗ pt c (bref 10) Finset.univ (σ 10) ∗ pt c (bref 11) Finset.univ (σ 11) ∗ pt c (bref 12) Finset.univ (σ 12) ∗ pt c (bref 13) Finset.univ (σ 13) ∗ pt c (bref 14) Finset.univ (σ 14) ∗ pt c (bref 15) Finset.univ (σ 15) ∗ pt c (bref 16) Finset.univ (σ 16) ∗ pt c (bref 17) Finset.univ (σ 17) ∗ pt c (bref 18) Finset.univ (AV X) ∗ pt c (bref 19) Finset.univ (vCo X) ∗ pt c (bref 20) Finset.univ (vDsc X) ∗ pt c (bref 21) Finset.univ (vDh0 X) ∗ pt c (bref 22) Finset.univ (vSc X)) := by
  obtain ⟨e18, e19, e20, e21, e22⟩ := h
  unfold RST
  rw [e18, e19, e20, e21, e22]

/-! ## The kernel -/

theorem DA_one (n : Fin 10) (f : S10x2x128x512.Idx → F .bf16) (fo : S2x128x5120.Idx → F .bf16) :
    iprop(WF c X n ∗ pt c (bref 23) (SB n) f ∗ pt c main_v1_0 (DB n) fo ∗ sv c (semSt 0 n) ∗ sv c (semSt 1 n)) ⊢ DA c X n := by
  unfold DA
  iintro ⟨HF, B, O, S0, S1⟩
  isplitl [HF]; · iexact HF
  isplitl [B]; · iexists f; iexact B
  isplitl [O]; · iexists fo; iexact O
  isplitl [S0]; · iexact S0
  iexact S1

theorem DE_one (n : Fin 10) : DE c X n
    ⊢ iprop(pt c (bref 2) (rWd n).set (vW X) ∗ pt c main_arg5 (rWs n).set X.w ∗ sv c (semW n) ∗ pt c main_v1_0 (DB n) (vDx X) ∗ pt c (bref 23) (SB n) (vSt X)
      ∗ sv c (semSt 0 n) ∗ sv c (semSt 1 n)) := by
  unfold DE
  iintro ⟨⟨⟨B2, A5⟩, SW⟩, O, B, S⟩
  isplitl [B2]; · iexact B2
  isplitl [A5]; · iexact A5
  isplitl [SW]; · iexact SW
  isplitl [O]; · iexact O
  isplitl [B]; · iexact B
  iexact S

theorem DA_all (f : S10x2x128x512.Idx → F .bf16) (fo : S2x128x5120.Idx → F .bf16) :
    iprop((bigSep Finset.univ fun n => WF c X n) ∗ pt c (bref 23) Finset.univ f ∗ pt c main_v1_0 Finset.univ fo ∗ (bigSep Finset.univ fun n => iprop(sv c (semSt 0 n) ∗ sv c (semSt 1 n))))
      ⊢ bigSep Finset.univ fun n => DA c X n := by
  rw [st_ten, dx_ten, ← two_sep, ← two_sep, ← two_sep]
  exact bigSep_mono fun n _ => DA_one X n f fo

theorem DE_all : (bigSep Finset.univ fun n => DE c X n)
    ⊢ iprop(pt c (bref 2) Finset.univ (vW X) ∗ pt c main_arg5 Finset.univ X.w ∗ (bigSep Finset.univ fun n => sv c (semW n)) ∗ pt c main_v1_0 Finset.univ (vDx X) ∗ pt c (bref 23) Finset.univ (vSt X)
      ∗ (bigSep Finset.univ fun n => iprop(sv c (semSt 0 n) ∗ sv c (semSt 1 n)))) := by
  rw [st_ten, dx_ten, w_ten, aw_ten, ← two_sep, ← two_sep, ← two_sep, ← two_sep, ← two_sep]
  exact bigSep_mono fun n _ => DE_one X n

theorem prog_spec (Q : PUnit → sProp (MM F)) :
    iprop(ARGS c X ∗ OUT0 c ∗ SCR c ∗ SEM c ∗ ow c ∗ (ARGS c X -∗ OUT c X -∗ SCR c -∗ SEM c -∗ ow c -∗ Q ⟨⟩)) ⊢ WP c prog Q := by
  unfold prog ARGS OUT0 SCR SEM
  iintro ⟨⟨A0, A1, A2, A3, A4, A5, A6⟩, ⟨⟨%o0, O0⟩, ⟨%o1, O1⟩, ⟨%o2, O2⟩, ⟨%o3, O3⟩⟩, ⟨⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩, ⟨%f10, B10⟩, ⟨%f11, B11⟩, ⟨%f12, B12⟩, ⟨%f13, B13⟩, ⟨%f14, B14⟩, ⟨%f15, B15⟩, ⟨%f16, B16⟩, ⟨%f17, B17⟩, ⟨%f18, B18⟩, ⟨%f19, B19⟩, ⟨%f20, B20⟩, ⟨%f21, B21⟩, ⟨%f22, B22⟩, ⟨%f23, B23⟩⟩, ⟨⟨T00, T01, T10, T11⟩, TW, ⟨M0, M1, M2, M3⟩, ⟨U0, U1, U2⟩, TS⟩, HW, HQ⟩
  iapply (wp_seq _ _ _)
  iapply (smallsGo_spec X _)
  isplitl [A1 B3 M0]
  · isplitl [A1]; · iexact A1
    isplitl [B3]; · iexists f3; iexact B3
    iexact M0
  isplitl [A3 B4 M1]
  · isplitl [A3]; · iexact A3
    isplitl [B4]; · iexists f4; iexact B4
    iexact M1
  isplitl [A4 B5 M2]
  · isplitl [A4]; · iexact A4
    isplitl [B5]; · iexists f5; iexact B5
    iexact M2
  isplitl [A6 B6 M3]
  · isplitl [A6]; · iexact A6
    isplitl [B6]; · iexists f6; iexact B6
    iexact M3
  iintro HS
  ihave B0' := (Entails.of_eq (dyc_two (c := c) f0)) $$ B0
  ihave B1' := (Entails.of_eq (prec_two (c := c) f1)) $$ B1
  ihave A0' := (Entails.of_eq (adyc_two (c := c) X.dyc)) $$ A0
  ihave A2' := (Entails.of_eq (aprec_two (c := c) X.prec)) $$ A2
  icases B0' with ⟨P00, P01⟩
  icases B1' with ⟨P10, P11⟩
  icases A0' with ⟨A00, A01⟩
  icases A2' with ⟨A20, A21⟩
  iapply (wp_seq _ _ _)
  iapply (insGo_spec X 0 f1 f0 _)
  isplitl [A20 P10 T00]
  · isplitl [A20]; · iexact A20
    isplitl [P10]; · iexact P10
    iexact T00
  isplitl [A00 P00 T01]
  · isplitl [A00]; · iexact A00
    isplitl [P00]; · iexact P00
    iexact T01
  iintro HI0
  iapply (wp_seq _ _ _)
  iapply (insGo_spec X 1 f1 f0 _)
  isplitl [A21 P11 T10]
  · isplitl [A21]; · iexact A21
    isplitl [P11]; · iexact P11
    iexact T10
  isplitl [A01 P01 T11]
  · isplitl [A01]; · iexact A01
    isplitl [P01]; · iexact P01
    iexact T11
  iintro HI1
  iapply (wp_seq _ _ _)
  iapply (wGo_spec X f2 _)
  isplitl [A5 B2 TW]
  · rw [two_sep, two_sep, ← aw_ten, ← w_ten]
    isplitl [A5]; · iexact A5
    isplitl [B2]; · iexact B2
    iexact TW
  iintro HWF
  iapply (wp_seq _ _ _)
  iapply (smallsFin_spec X _)
  isplitl [HS]; · iexact HS
  isplitl [HW]; · iexact HW
  iintro ⟨⟨⟨B3, A1⟩, M0⟩, ⟨⟨B4, A3⟩, M1⟩, ⟨⟨B5, A4⟩, M2⟩, ⟨⟨B6, A6⟩, M3⟩⟩ HW
  iapply (wp_seq _ _ _)
  iapply (spreads_spec X f7 f8 _)
  isplitl [B3 B4 B7 B8]
  · isplitl [B3]; · iexact B3
    isplitl [B4]; · iexact B4
    isplitl [B7]; · iexact B7
    iexact B8
  iintro %g7 %g8 %hg ⟨B3, B4, B7, B8⟩
  iapply (wp_seq _ _ _)
  iapply (insFin_spec X 0 _)
  isplitl [HI0]; · iexact HI0
  isplitl [HW]; · iexact HW
  iintro ⟨⟨⟨P10, A20⟩, T00⟩, ⟨⟨P00, A00⟩, T01⟩⟩ HW
  have hin : InB X (mk X.dyc X.prec (vW X) X.dys X.pres X.h0 X.ws g7 g8 f9 f10 f11 f12 f13 f14 f15 f16 f17 f18 f19 f20 f21 f22 f23) := ⟨rfl, rfl, rfl, rfl, hg.1, hg.2⟩
  iapply (wp_seq _ _ _)
  iapply (batch0_spec X _ hin _)
  isplitl [P00 P10 B3 B4 B5 B6 B7 B8 B9 B10 B11 B12 B13 B14 B15 B16 B17 B18 B19 B20 B21 B22]
  · isplitl [P00]; · iexact P00
    isplitl [P10]; · iexact P10
    unfold RST
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    isplitl [B19]; · iexact B19
    isplitl [B20]; · iexact B20
    isplitl [B21]; · iexact B21
    iexact B22
  iintro %σ1 %h1 ⟨P00, P10, HR⟩
  obtain ⟨in1, ob1⟩ := h1
  iapply (wp_seq _ _ _)
  iapply (insFin_spec X 1 _)
  isplitl [HI1]; · iexact HI1
  isplitl [HW]; · iexact HW
  iintro ⟨⟨⟨P11, A21⟩, T10⟩, ⟨⟨P01, A01⟩, T11⟩⟩ HW
  iapply (wp_seq _ _ _)
  iapply (batch1_spec X σ1 in1 _)
  isplitl [P00 P10 P01 P11 HR]
  · isplitl [P00 P01]
    · iapply (Entails.of_eq (dyc_two (c := c) X.dyc).symm)
      isplitl [P00]; · iexact P00
      iexact P01
    isplitl [P10 P11]
    · iapply (Entails.of_eq (prec_two (c := c) X.prec).symm)
      isplitl [P10]; · iexact P10
      iexact P11
    iexact HR
  iintro %σ2 %h2 ⟨B0, B1, HR⟩
  obtain ⟨ob2, kb2⟩ := h2
  ihave HR' := (Entails.of_eq (RST_out (c := c) X σ2 (both X σ1 σ2 ob1 ob2 kb2))) $$ HR
  icases HR' with ⟨B3, B4, B5, B6, B7, B8, B9, B10, B11, B12, B13, B14, B15, B16, B17, B18, B19, B20, B21, B22⟩
  iapply (wp_seq _ _ _)
  iapply (outsGo_spec X _)
  isplitl [B19 O2 U0]
  · isplitl [B19]; · iexact B19
    isplitl [O2]; · iexists o2; iexact O2
    iexact U0
  isplitl [B22 O3 U1]
  · isplitl [B22]; · iexact B22
    isplitl [O3]; · iexists o3; iexact O3
    iexact U1
  isplitl [B21 O1 U2]
  · isplitl [B21]; · iexact B21
    isplitl [O1]; · iexists o1; iexact O1
    iexact U2
  iintro HO
  iapply (wp_seq _ _ _)
  iapply (loop5_spec X _)
  isplitl [HWF B23 O0 TS]
  · iapply (DA_all X f23 o0)
    isplitl [HWF]; · iexact HWF
    isplitl [B23]; · iexact B23
    isplitl [O0]; · iexact O0
    iexact TS
  isplitl [B18 B20 HW]
  · unfold DC
    isplitl [B18]; · iexact B18
    isplitl [B20]; · iexact B20
    iexact HW
  iintro HM HC
  unfold DC
  icases HC with ⟨B18, B20, HW⟩
  iapply (wp_seq _ _ _)
  iapply (loop6_spec X _)
  isplitl [HM]; · iexact HM
  isplitl [HW]; · iexact HW
  iintro HE HW
  ihave HE' := (DE_all X) $$ HE
  icases HE' with ⟨B2, A5, TW, O0, B23, TS⟩
  iapply (outsFin_spec X _)
  isplitl [HO]; · iexact HO
  isplitl [HW]; · iexact HW
  iintro ⟨⟨⟨O2, B19⟩, U0⟩, ⟨⟨O3, B22⟩, U1⟩, ⟨⟨O1, B21⟩, U2⟩⟩ HW
  unfold OUT
  iapply HQ $$ [A00 A01 A1 A20 A21 A3 A4 A5 A6] [O0 O1 O2 O3] [B0 B1 B2 B3 B4 B5 B6 B7 B8 B9 B10 B11 B12 B13 B14 B15 B16 B17 B18 B19 B20 B21 B22 B23] [T00 T01 T10 T11 TW M0 M1 M2 M3 U0 U1 U2 TS] HW
  · isplitl [A00 A01]
    · iapply (Entails.of_eq (adyc_two (c := c) X.dyc).symm)
      isplitl [A00]; · iexact A00
      iexact A01
    isplitl [A1]; · iexact A1
    isplitl [A20 A21]
    · iapply (Entails.of_eq (aprec_two (c := c) X.prec).symm)
      isplitl [A20]; · iexact A20
      iexact A21
    isplitl [A3]; · iexact A3
    isplitl [A4]; · iexact A4
    isplitl [A5]; · iexact A5
    iexact A6
  · isplitl [O0]; · iexact O0
    isplitl [O1]; · iexact O1
    isplitl [O2]; · iexact O2
    iexact O3
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    isplitl [B9]; · iexists _; iexact B9
    isplitl [B10]; · iexists _; iexact B10
    isplitl [B11]; · iexists _; iexact B11
    isplitl [B12]; · iexists _; iexact B12
    isplitl [B13]; · iexists _; iexact B13
    isplitl [B14]; · iexists _; iexact B14
    isplitl [B15]; · iexists _; iexact B15
    isplitl [B16]; · iexists _; iexact B16
    isplitl [B17]; · iexists _; iexact B17
    isplitl [B18]; · iexists _; iexact B18
    isplitl [B19]; · iexists _; iexact B19
    isplitl [B20]; · iexists _; iexact B20
    isplitl [B21]; · iexists _; iexact B21
    isplitl [B22]; · iexists _; iexact B22
    iexists _; iexact B23
  · isplitl [T00 T01 T10 T11]
    · isplitl [T00]; · iexact T00
      isplitl [T01]; · iexact T01
      isplitl [T10]; · iexact T10
      iexact T11
    isplitl [TW]; · iexact TW
    isplitl [M0 M1 M2 M3]
    · isplitl [M0]; · iexact M0
      isplitl [M1]; · iexact M1
      isplitl [M2]; · iexact M2
      iexact M3
    isplitl [U0 U1 U2]
    · isplitl [U0]; · iexact U0
      isplitl [U1]; · iexact U1
      iexact U2
    iexact TS

end Cert.KernelIdeal
-- ==== Proof.KI.Launch.lean ====
module

public import proofs.«01_k».proof.Proof.KI.Run
public import Idealize.ShloMosaic.Lib.StableHlo.Run

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Shapes1.Facts₀ K0.Facts₀ Facts

variable {F : FTy → Type} [FloatOps F] [Named F]
variable (m : (ℓ : Loc nD τ sig) → Buf (Elt F) ℓ) (ρ : Dev nD → PrngReg)

abbrev EP : Emb (UR sig nD τ) (MM F) := embL

/-! ## The kernel's own cells -/

theorem sep_assoc' (P Q R : sProp (MM F)) : iprop((P ∗ Q) ∗ R) = iprop(P ∗ Q ∗ R) :=
  BI.equiv_iff.mp ⟨(Laws.sep_assoc (P := P) (Q := Q) (R := R)).1, (Laws.sep_assoc (P := P) (Q := Q) (R := R)).2⟩

abbrev osem : Fin 41 → SemLoc sig := fun k => .dma k
theorem ownSemFacts : Pipeline.OwnSemFacts (cfgs 0).spec osem := by decide +kernel

theorem ten_eq (Φ : Fin 10 → sProp (MM F)) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

theorem ownSems0_eq (c : Dev nD) : (Pipeline.ownSems0 (Ix := Unit) (Name := ℕ) (U := UU) (Lvl := ℕ) (Val := Elt F) (τ := τ) osem c : sProp (MM F)) = SEM c := by
  rw [Pipeline.ownSems0_eq_of_list c osem [0, 1, 2, 3, 4, 5, 6, 7, 8, 9, 10, 11, 12, 13, 14, 15, 16, 17, 18, 19, 20, 21, 31, 22, 32, 23, 33, 24, 34, 25, 35, 26, 36, 27, 37, 28, 38, 29, 39, 30, 40] (by decide +kernel) (by decide +kernel)]
  unfold SEM
  simp only [ten_eq, sep_assoc']
  rfl

/-! ## The arrays as the kernel finds them -/

/-- A buffer's contents at the kernel's entry. -/
def V (c : Dev nD) (b : Ref sig .tc) : Buf (Elt F) ((c : Thread nD τ).loc b) := StableHlo.after Gen.hostOps0 (fun b => m (c, b)) b

theorem V_ne (c : Dev nD) (b : Ref sig .tc) (h : b ≠ main_v0) : V m c b = m ((c : Thread nD τ).loc b) := by
  unfold V
  rw [StableHlo.after_of_writes_sub (W := [main_v0]) Gen.hostOps0 _ (by simp [Gen.hostOps0]) (by simpa using h)]

/-- The arguments. -/
def XI (c : Dev nD) : Inp F where
  dyc := m ((c : Thread nD τ).loc main_arg0)
  dys := m ((c : Thread nD τ).loc main_arg1)
  prec := m ((c : Thread nD τ).loc main_arg2)
  pres := m ((c : Thread nD τ).loc main_arg3)
  h0 := m ((c : Thread nD τ).loc main_arg4)
  w := m ((c : Thread nD τ).loc main_arg5)
  ws := V m c main_v0

/-! ## The body -/

/-- Before and after the body. -/
def PhiIn (c : Dev nD) : sProp (MM F) := iprop(ARGS c (XI m c) ∗ OUT0 c ∗ SCR c ∗ SEM c)
def PhiOut (c : Dev nD) : sProp (MM F) := iprop(ARGS c (XI m c) ∗ OUT c (XI m c) ∗ SCR c ∗ SEM c)

def dats (_ : Fin 1) (c : Dev nD) : Dat τ (Elt F) Unit ℕ UU ℕ cfg0 c where
  A w := w.elim0
  after w _ := w.elim0
  Φ t := if t.val = 0 then PhiIn m c else PhiOut m c
  q _ := fullShare
  owed _ := 0

theorem Phi_in (c : Dev nD) (t : Fin (cfg0.N + 1)) (h : t.val = 0) : (dats m 0 c).Φ t = PhiIn m c := if_pos h
theorem Phi_out (c : Dev nD) (t : Fin (cfg0.N + 1)) (h : ¬ t.val = 0) : (dats m 0 c).Φ t = PhiOut m c := if_neg h

theorem body_eq (t : Fin cfg0.N) : (defs₀ (F := F)) .tc cfg0.body (cfg0.bodyArgs t (cfg0.slots t)) = prog := by
  unfold defs₀; rw [Defs.onTc_tc]; exact printed_eq

theorem body_spec (c : Dev nD) (Q : PUnit → sProp (MM F)) : iprop(PhiIn m c ∗ ow c ∗ (PhiOut m c -∗ ow c -∗ Q ⟨⟩)) ⊢ WP c prog Q := by
  unfold PhiIn PhiOut
  iintro ⟨⟨HA, HO, HS, HM⟩, HW, HQ⟩
  iapply (prog_spec (XI m c) _)
  isplitl [HA]; · iexact HA
  isplitl [HO]; · iexact HO
  isplitl [HS]; · iexact HS
  isplitl [HM]; · iexact HM
  isplitl [HW]; · iexact HW
  iintro HA HO HS HM HW
  iapply HQ $$ [HA HO HS HM] HW
  isplitl [HA]; · iexact HA
  isplitl [HO]; · iexact HO
  isplitl [HS]; · iexact HS
  iexact HM

theorem bigSep_none (Φ : Fin 0 → sProp (MM F)) : bigSep Finset.univ Φ = iprop(emp) := bigSep_empty

set_option backward.isDefEq.respectTransparency.types false in
theorem body_obligation (c : Dev nD) : BodyObligation (dats (F := F) m 0 c) (defs₀ (F := F)) 𝒱₀ () Set.univ := fun t => by
  obtain rfl := Gen.fin_N0 t
  rw [Phi_in m c _ rfl, Phi_out m c _ (by show ¬ 0 + 1 = 0; decide)]
  unfold Dat.owesAt Pipeline.owesWithin
  rw [show (dats m 0 c).owed (Gen.t0_0).castSucc = 0 from rfl, show (dats m 0 c).owed (Gen.t0_0).succ = 0 from rfl]
  rw [body_eq Gen.t0_0]
  rw [bigSep_none]
  iintro ⟨HP, ⟨%W, -, HW⟩, -⟩
  iapply (body_spec m c _)
  isplitl [HP]; · iexact HP
  isplitl [HW]; · iexists W; iexact HW
  iintro HP ⟨%W', HW⟩
  rw [bigSep_none]
  isplitl [HP]; · iexact HP
  isplitl [HW]
  · iexists W'; isplitr; · ipureintro; exact fun _ _ => Or.inl trivial
    iexact HW
  iempintro

/-! ## The run -/

def u₀ : UU := (initOf (Pipeline.cells cfgs Gen.cellOf_inj) (Pipeline.launchToks cfgs Gen.cellOf_inj), 1)

/-- The last array handed over: the weights' scales before they are laid out in rows. -/
def Zl (c : Dev nD) : sProp (MM F) := ((c : Thread nD τ).loc main_arg6) ↦{fullShare} m ((c : Thread nD τ).loc main_arg6)

/-- What every final state holds. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6))
  ∧ s.mem ((c : Thread nD τ).loc main_v1_0) = vDx (XI m c)
  ∧ s.mem ((c : Thread nD τ).loc main_v1_1) = vDh0 (XI m c)
  ∧ s.mem ((c : Thread nD τ).loc main_v1_2) = vCo (XI m c)
  ∧ s.mem ((c : Thread nD τ).loc main_v1_3) = vSc (XI m c)

theorem main_prefix (c : Dev nD) : main (F := F) c = Pipeline.chain [StableHlo.seq Gen.hostOps0, Prog.lift (.customCall (Pipeline.entry 0) ())] := Gen.main_chain c

set_option backward.isDefEq.respectTransparency.types false in
/-- From any memory with every counter at zero: every weakly fair execution of @main terminates, and every final state has the arguments
    unchanged, the results at the values above and every counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) Gen.launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (V := V m)
    (hmain := Pipeline.hmain_prefix cfgs 0 defs₀ 𝒱₀ m main Gen.hostOps0 Gen.hostOps0_sub rfl main_prefix)
    (hA := fun _ w => w.elim0)
    (X := fun c => iprop(ARGS c (XI m c) ∗ OUT0 c ∗ SEM c)) (Y := fun c => iprop(ARGS c (XI m c) ∗ OUT c (XI m c))) (Z := Zl m)
    (hX := fun c => by
      rw [Gen.unscopedRest0_eq, ownSems0_eq]
      rw [V_ne m c main_arg0 (by decide), V_ne m c main_arg1 (by decide), V_ne m c main_arg2 (by decide), V_ne m c main_arg3 (by decide),
        V_ne m c main_arg4 (by decide), V_ne m c main_arg5 (by decide), V_ne m c main_arg6 (by decide)]
      unfold ARGS OUT0 Zl
      iintro ⟨⟨A0, A1, A2, A3, A4, A5, A6, W, O0, O1, O2, O3⟩, HS, -, -, -⟩; imodintro
      isplitr [A6]
      · isplitl [A0 A1 A2 A3 A4 A5 W]
        · isplitl [A0]; · iexact A0
          isplitl [A1]; · iexact A1
          isplitl [A2]; · iexact A2
          isplitl [A3]; · iexact A3
          isplitl [A4]; · iexact A4
          isplitl [A5]; · iexact A5
          iexact W
        isplitl [O0 O1 O2 O3]
        · isplitl [O0]; · iexists _; iexact O0
          isplitl [O1]; · iexists _; iexact O1
          isplitl [O2]; · iexists _; iexact O2
          iexists _; iexact O3
        iexact HS
      iexact A6)
    (hin := fun c => by
      rw [Gen.scopedRest0_eq, Phi_in m c _ rfl]
      unfold PhiIn SCR
      iintro ⟨⟨HA, HO, HS⟩, HB⟩
      isplitl [HA]; · iexact HA
      isplitl [HO]; · iexact HO
      isplitl [HB]; · iexact HB
      iexact HS)
    (hout := fun c => by
      rw [Gen.scopedRest0_eq, Phi_out m c _ (by rw [Fin.val_last]; decide), ownSems0_eq]
      unfold PhiOut SCR
      iintro ⟨HA, HO, HB, HS⟩
      isplitl [HA HO]
      · isplitl [HA]; · iexact HA
        iexact HO
      isplitl [HS]; · iexact HS
      iexact HB)
    (QY := QY m)
    (hY := fun c s' => by
      unfold ARGS OUT Zl
      iintro ⟨⟨⟨A0, A1, A2, A3, A4, A5, W⟩, ⟨O0, O1, O2, O3⟩⟩, A6, HSI⟩
      icombine HSI A0 gives %h0
      icombine HSI A1 gives %h1
      icombine HSI A2 gives %h2
      icombine HSI A3 gives %h3
      icombine HSI A4 gives %h4
      icombine HSI A5 gives %h5
      icombine HSI A6 gives %h6
      icombine HSI O0 gives %o0
      icombine HSI O1 gives %o1
      icombine HSI O2 gives %o2
      icombine HSI O3 gives %o3
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩, Buf.eq_of_forall_mem_univ o0,
          Buf.eq_of_forall_mem_univ o1, Buf.eq_of_forall_mem_univ o2, Buf.eq_of_forall_mem_univ o3⟩
      iexact HSI)
    (hQ := fun _ hh hz => ⟨fun c => (hh c).2, hz⟩)

/-- The run's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).1, h.2⟩) (run_main m ρ)

end Cert.KernelIdeal
-- ==== Proof.RI.Loop.lean ====
module

public import proofs.«01_k».proof.Proof.Gen.ReferenceIdeal.Value
public import proofs.«01_k».proof.Proof.KI.Spec
public import Idealize.ShloMosaic.Lib.VecWindow

@[expose] public section

noncomputable section

namespace Cert.ReferenceIdeal.Out

open Cert.ReferenceIdeal Cert.ReferenceIdeal.Gen Idealize.ShloMosaic Idealize.ShloMosaic.TcCoe Idealize.SL.Sem
open Cert.KernelIdeal (n2 n3 eq_n2 eq_n3 n2_0 n2_1 n3_0 n3_1 n3_2)
open Facts

variable {F : FTy → Type} [FloatOps F] [Named F]

/-! ## The two loops -/

/-- A token's row. -/
def row (x : S2x128x3584.Idx → F .f32) (t : ℕ) : FVec F S2x1x3584 .f32 := fun y => x (n3 (y 0) t (y 2))

/-- The state before token `n`, -/
def hT (z ht : S2x128x3584.Idx → F .f32) (init : FVec F S2x1x3584 .f32) : ℕ → FVec F S2x1x3584 .f32
  | 0 => init
  | n + 1 => k0_pay17 (hT z ht init n) (row z n) (row ht n)
/-- the gradient carried back over the last `n` tokens. -/
def qT (z dy : S2x128x3584.Idx → F .f32) (init : FVec F S2x1x3584 .f32) : ℕ → FVec F S2x1x3584 .f32
  | 0 => init
  | n + 1 => k0_pay21 (qT z dy init n) (row dy (127 - n)) (row z (127 - n))

theorem off1 : ∀ t : Fin k0_t1_loop.trips, k0_off1 t = ![0, t.val, 0] := by decide +kernel
theorem off2 : ∀ t : Fin k0_t2_loop.trips, k0_off2 t = ![0, 127 - t.val, 0] := by decide +kernel
theorem trips1 : k0_t1_loop.trips = 128 := by decide +kernel
theorem trips2 : k0_t2_loop.trips = 128 := by decide +kernel

theorem readAt_row {sig : RefSig} {κ : Kind} {sp : Space} (v : View sig κ sp S2x128x3584 .f32) (f : v.ty.Contents (Elt F)) (x : S2x128x3584.Idx → F .f32)
    (hx : v.read (Elt F) f = x) {off : Fin 3 → ℕ} (t : ℕ) (h : off = ![0, t, 0]) (inb : ∀ a, off a + (![2, 1, 3584] : Fin 3 → ℕ) a ≤ S2x128x3584.size a) :
    v.readAt (Elt F) (Rect.unit (s := S2x128x3584) off ![2, 1, 3584] inb).toLoadRect f = row x t := by
  subst h hx
  funext y
  have h1 : (y 1).val < 1 := (y 1).isLt
  refine congrArg (v.read (Elt F) f) (eq_n3 ?_ ?_ ?_)
  · show 0 + 1 * (y 0).val = (y 0).val; omega
  · show t + 1 * (y 1).val = t; omega
  · show 0 + 1 * (y 2).val = (y 2).val; omega

theorem read_row_hit {sig : RefSig} {κ : Kind} {sp : Space} (v : View sig κ sp S2x128x3584 .f32) (f : v.ty.Contents (Elt F)) (w : FVec F S2x1x3584 .f32)
    (L : List (View.Piece (Elt F) S2x128x3584 .f32)) {off : Fin 3 → ℕ} (y : S2x128x3584.Idx) (h : off = ![0, (y 1).val, 0]) (inb : ∀ a, off a + (![2, 1, 3584] : Fin 3 → ℕ) a ≤ S2x128x3584.size a) :
    v.read (Elt F) (v.writes (Elt F) f ((⟨Rect.unit (s := S2x128x3584) off ![2, 1, 3584] inb, w⟩ : View.Piece (Elt F) S2x128x3584 .f32) :: L)) y = w (n3 (y 0) 0 (y 2)) := by
  refine View.read_writes_cons_unit_of_mem v f inb w L y (n3 (y 0) 0 (y 2)) h fun a => ?_
  fin_cases a
  · exact (Nat.mod_eq_of_lt (y 0).isLt).symm.trans (Nat.zero_add _).symm
  · rfl
  · exact (Nat.mod_eq_of_lt (y 2).isLt).symm.trans (Nat.zero_add _).symm

theorem read_row_miss {sig : RefSig} {κ : Kind} {sp : Space} (v : View sig κ sp S2x128x3584 .f32) (f : v.ty.Contents (Elt F)) (w : FVec F S2x1x3584 .f32)
    (L : List (View.Piece (Elt F) S2x128x3584 .f32)) {off : Fin 3 → ℕ} (t : ℕ) (h : off = ![0, t, 0]) (y : S2x128x3584.Idx) (ht : (y 1).val ≠ t) (inb : ∀ a, off a + (![2, 1, 3584] : Fin 3 → ℕ) a ≤ S2x128x3584.size a) :
    v.read (Elt F) (v.writes (Elt F) f ((⟨Rect.unit (s := S2x128x3584) off ![2, 1, 3584] inb, w⟩ : View.Piece (Elt F) S2x128x3584 .f32) :: L)) y = v.read (Elt F) (v.writes (Elt F) f L) y := by
  refine View.read_writes_cons_unit_of_not_mem v f inb w L y h 1 ?_
  show (y 1).val < t ∨ t + 1 ≤ (y 1).val
  omega

section
variable {c : Dev nD} {arg0 : Memref sig .tc .vmem S2x128x3584 .fp8e5m2} {harg0 : arg0.IsWhole} {arg1 : Memref sig .tc .vmem S2x128 .f32} {harg1 : arg1.IsWhole} {arg2 : Memref sig .tc .vmem S2x128x7168 .fp8e4m3} {harg2 : arg2.IsWhole} {arg3 : Memref sig .tc .vmem S2x128 .f32} {harg3 : arg3.IsWhole} {arg4 : Memref sig .tc .vmem S2x3584 .f32} {harg4 : arg4.IsWhole} {arg5 : Memref sig .tc .vmem S7168x5120 .fp8e4m3} {harg5 : arg5.IsWhole} {arg6 : Memref sig .tc .vmem S7168 .f32} {harg6 : arg6.IsWhole} {arg7 : Memref sig .tc .vmem S2x128x5120 .bf16} {harg7 : arg7.IsWhole} {arg8 : Memref sig .tc .vmem S2x3584 .f32} {harg8 : arg8.IsWhole} {arg9 : Memref sig .tc .vmem S2x128x7168 .fp8e5m2} {harg9 : arg9.IsWhole} {arg10 : Memref sig .tc .vmem S2x128 .f32} {harg10 : arg10.IsWhole} {arg11 : Memref sig .tc .vmem S2x128x3584 .f32} {harg11 : arg11.IsWhole} {arg12 : Memref sig .tc .vmem S2x128x3584 .f32} {harg12 : arg12.IsWhole} {arg13 : Memref sig .tc .vmem S2x128x3584 .f32} {harg13 : arg13.IsWhole} {arg14 : Memref sig .tc .vmem S2x128x3584 .f32} {harg14 : arg14.IsWhole} {arg15 : Memref sig .tc .vmem S2x128x3584 .f32} {harg15 : arg15.IsWhole}
variable {v8 : FVec F S2x128x3584 .f32} {v14 : FVec F S2x128x3584 .f32} {v19 : FVec F S2x128x3584 .f32} {v34 : FVec F S2x128x3584 .f32} {X11 : BufTy.Contents (Elt F) arg11.view.ty} {X12 : BufTy.Contents (Elt F) arg12.view.ty} {X14 : BufTy.Contents (Elt F) arg14.view.ty} {init : FVec F S2x1x3584 .f32}
variable {z ht dy : S2x128x3584.Idx → F .f32}

theorem st1_eq (h11 : arg11.view.read (Elt F) X11 = z) (h12 : arg12.view.read (Elt F) X12 = ht) : ∀ n, n ≤ 128 →
    (st_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v8 v14 v19 v34 X11 X12 init n).1 = hT z ht init n
    ∧ ∀ L y, (y 1).val < n → arg13.view.read (Elt F) (arg13.view.writes (Elt F) arg13.view.junk ((st_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v8 v14 v19 v34 X11 X12 init n).2 ++ L)) y = hT z ht init (y 1).val (n3 (y 0) 0 (y 2))
  | 0, _ => ⟨rfl, fun L y h => absurd h (Nat.not_lt_zero _)⟩
  | n + 1, hn => by
    have hn' : n < k0_t1_loop.trips := trips1 ▸ hn
    have ih := st1_eq h11 h12 n (Nat.le_of_succ_le hn)
    have hR := st_k0_t1_succ (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v8 v14 v19 v34 X11 X12 init ⟨n, hn'⟩
    have e0 := off1 ⟨n, hn'⟩
    refine ⟨?_, fun L y h => ?_⟩
    · refine (congrArg Prod.fst hR).trans ?_
      dsimp only
      rw [ih.1]
      unfold tripR_k0_t1 trip_k0_t1
      dsimp only
      exact congrArg₂ (k0_pay17 (hT z ht init n)) (readAt_row _ _ z h11 n e0 _) (readAt_row _ _ ht h12 n e0 _)
    · rw [congrArg Prod.snd hR]
      dsimp only
      rw [ih.1]
      unfold tripL_k0_t1 trip_k0_t1
      dsimp only
      rw [List.append_assoc, List.singleton_append]
      by_cases hy : (y 1).val = n
      · subst hy
        refine (read_row_hit _ _ _ _ y e0 _).trans ?_
        unfold k0_pay16
        rw [shapeCast_self]
      · exact (read_row_miss _ _ _ _ n e0 y hy _).trans (ih.2 L y (by omega))

theorem st2_eq (h11 : arg11.view.read (Elt F) X11 = z) (h14 : arg14.view.read (Elt F) X14 = dy) : ∀ n, n ≤ 128 →
    (st_k0_t2 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v8 v14 v19 v34 X11 X14 init n).1 = qT z dy init n
    ∧ ∀ L y, 128 ≤ (y 1).val + n → arg15.view.read (Elt F) (arg15.view.writes (Elt F) arg15.view.junk ((st_k0_t2 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v8 v14 v19 v34 X11 X14 init n).2 ++ L)) y
        = k0_pay19 (qT z dy init (127 - (y 1).val)) (row dy (y 1).val) (n3 (y 0) 0 (y 2))
  | 0, _ => ⟨rfl, fun L y h => absurd h (by have h1 : (y 1).val < 128 := (y 1).isLt; omega)⟩
  | n + 1, hn => by
    have hn' : n < k0_t2_loop.trips := trips2 ▸ hn
    have ih := st2_eq h11 h14 n (Nat.le_of_succ_le hn)
    have hR := st_k0_t2_succ (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 v8 v14 v19 v34 X11 X14 init ⟨n, hn'⟩
    have e0 := off2 ⟨n, hn'⟩
    refine ⟨?_, fun L y h => ?_⟩
    · refine (congrArg Prod.fst hR).trans ?_
      dsimp only
      rw [ih.1]
      unfold tripR_k0_t2 trip_k0_t2
      dsimp only
      exact congrArg₂ (k0_pay21 (qT z dy init n)) (readAt_row _ _ dy h14 (127 - n) e0 _) (readAt_row _ _ z h11 (127 - n) e0 _)
    · rw [congrArg Prod.snd hR]
      dsimp only
      rw [ih.1]
      unfold tripL_k0_t2 trip_k0_t2
      dsimp only
      rw [List.append_assoc, List.singleton_append]
      by_cases hy : (y 1).val = 127 - n
      · have hq : n = 127 - (y 1).val := by omega
        refine (read_row_hit _ _ _ _ y (e0.trans (by rw [hy])) _).trans ?_
        unfold k0_pay20
        rw [shapeCast_self]
        refine congrFun (congrArg₂ k0_pay19 (congrArg _ hq) ?_) _
        rw [hy]
        exact readAt_row _ _ dy h14 (127 - n) e0 _
      · exact (read_row_miss _ _ _ _ _ e0 y hy _).trans (ih.2 L y (by omega))

end

end Cert.ReferenceIdeal.Out
end
-- ==== Proof.RI.Elt.lean ====
module

public import proofs.«01_k».proof.Proof.RI.Loop

@[expose] public section

noncomputable section

namespace Cert.ReferenceIdeal.Out

open Cert.ReferenceIdeal Cert.ReferenceIdeal.Gen Idealize.ShloMosaic Idealize.ShloMosaic.TcCoe Idealize.SL.Sem
open Cert.KernelIdeal (n2 n3 eq_n2 eq_n3 n2_0 n2_1 n3_0 n3_1 n3_2)
open Facts

variable {F : FTy → Type} [FloatOps F] [Named F]

/-! ## Reshapes by numbers -/

theorem l10 {A : ℕ} (i : (⟨1, ![A]⟩ : Shape).Idx) : (i 0).val < A := (i 0).isLt
theorem l20 {A B : ℕ} (i : (⟨2, ![A, B]⟩ : Shape).Idx) : (i 0).val < A := (i 0).isLt
theorem l21 {A B : ℕ} (i : (⟨2, ![A, B]⟩ : Shape).Idx) : (i 1).val < B := (i 1).isLt
theorem l30 {A B C : ℕ} (i : (⟨3, ![A, B, C]⟩ : Shape).Idx) : (i 0).val < A := (i 0).isLt
theorem l31 {A B C : ℕ} (i : (⟨3, ![A, B, C]⟩ : Shape).Idx) : (i 1).val < B := (i 1).isLt
theorem l32 {A B C : ℕ} (i : (⟨3, ![A, B, C]⟩ : Shape).Idx) : (i 2).val < C := (i 2).isLt

section
variable {α : Type} {A B C : ℕ} [NeZero A] [NeZero B] [NeZero C]

/-- A column put at the end. -/
theorem addLast (v : (⟨2, ![A, B]⟩ : Shape).Idx → α) (h : (⟨2, ![A, B]⟩ : Shape).ShapeCasts ⟨3, ![A, B, 1]⟩) (y : (⟨3, ![A, B, 1]⟩ : Shape).Idx) :
    shapeCast ⟨3, ![A, B, 1]⟩ v h y = v (n2 (y 0) (y 1)) := by
  refine shapeCast_apply v h y _ ?_
  rw [Shape.rowMajor_val_two, Shape.rowMajor_val_three, n2_0 (l30 y), n2_1 (l31 y)]
  have h2 : (y 2).val < 1 := (y 2).isLt
  show (y 0).val * B + (y 1).val = ((y 0).val * B + (y 1).val) * 1 + (y 2).val
  omega
/-- A row read across a tensor. -/
theorem bcastLast (v : (⟨2, ![A, B]⟩ : Shape).Idx → α) (h : (⟨2, ![A, B]⟩ : Shape).ShapeCasts ⟨3, ![A, B, 1]⟩)
    (hb : (⟨3, ![A, B, 1]⟩ : Shape).Broadcasts ⟨3, ![A, B, C]⟩) (hA : A ≠ 1) (hB : B ≠ 1) (y : (⟨3, ![A, B, C]⟩ : Shape).Idx) :
    broadcastTo ⟨3, ![A, B, C]⟩ (shapeCast ⟨3, ![A, B, 1]⟩ v h) hb y = v (n2 (y 0) (y 1)) := by
  refine (broadcastTo_apply _ hb y (n3 (y 0) (y 1) 0) fun a => ?_).trans ((addLast v h _).trans ?_)
  · fin_cases a
    · exact (n3_0 (l30 y)).trans (if_neg hA).symm
    · exact (n3_1 (l31 y)).trans (if_neg hB).symm
    · exact Nat.zero_mod _
  · rw [n3_0 (l30 y), n3_1 (l31 y)]
/-- A vector read across a matrix's rows. -/
theorem bcastCol (v : (⟨1, ![A]⟩ : Shape).Idx → α) (h : (⟨1, ![A]⟩ : Shape).ShapeCasts ⟨2, ![A, 1]⟩)
    (hb : (⟨2, ![A, 1]⟩ : Shape).Broadcasts ⟨2, ![A, C]⟩) (hA : A ≠ 1) (y : (⟨2, ![A, C]⟩ : Shape).Idx) :
    broadcastTo ⟨2, ![A, C]⟩ (shapeCast ⟨2, ![A, 1]⟩ v h) hb y = v (ix1 (y 0)) := by
  refine (broadcastTo_apply _ hb y (n2 (y 0) 0) fun a => ?_).trans (shapeCast_apply v h _ _ ?_)
  · fin_cases a
    · exact (n2_0 (l20 y)).trans (if_neg hA).symm
    · exact Nat.zero_mod _
  · rw [Shape.rowMajor_val_two, Shape.rowMajor_val_one, n2_0 (l20 y), n2_1 Nat.one_pos]
    show (y 0).val = (y 0).val * 1 + 0
    omega
/-- A unit axis put in the middle, -/
theorem addMid (v : (⟨2, ![A, C]⟩ : Shape).Idx → α) (h : (⟨2, ![A, C]⟩ : Shape).ShapeCasts ⟨3, ![A, 1, C]⟩) (y : (⟨3, ![A, 1, C]⟩ : Shape).Idx) :
    shapeCast ⟨3, ![A, 1, C]⟩ v h y = v (n2 (y 0) (y 2)) := by
  refine shapeCast_apply v h y _ ?_
  rw [Shape.rowMajor_val_two, Shape.rowMajor_val_three, n2_0 (l30 y), n2_1 (l32 y)]
  have h2 : (y 1).val < 1 := (y 1).isLt
  show (y 0).val * C + (y 2).val = ((y 0).val * 1 + (y 1).val) * C + (y 2).val
  rw [show (y 1).val = 0 by omega, Nat.mul_one, Nat.add_zero]
/-- and taken out. -/
theorem dropMid (v : (⟨3, ![A, 1, C]⟩ : Shape).Idx → α) (h : (⟨3, ![A, 1, C]⟩ : Shape).ShapeCasts ⟨2, ![A, C]⟩) (y : (⟨2, ![A, C]⟩ : Shape).Idx) :
    shapeCast ⟨2, ![A, C]⟩ v h y = v (n3 (y 0) 0 (y 1)) := by
  refine shapeCast_apply v h y _ ?_
  rw [Shape.rowMajor_val_two, Shape.rowMajor_val_three, n3_0 (l20 y), n3_1 Nat.one_pos, n3_2 (l21 y)]
  show ((y 0).val * 1 + 0) * C + (y 1).val = (y 0).val * C + (y 1).val
  rw [Nat.mul_one, Nat.add_zero]
/-- A row of a matrix as a vector. -/
theorem rowVec (b : ℕ) (v : (⟨2, ![A, B]⟩ : Shape).Idx → α) (hs : (⟨2, ![A, B]⟩ : Shape).Slices ![b, 0] ⟨2, ![1, B]⟩) (h : (⟨2, ![1, B]⟩ : Shape).ShapeCasts ⟨1, ![B]⟩)
    (hb : b < A) (y : (⟨1, ![B]⟩ : Shape).Idx) :
    shapeCast ⟨1, ![B]⟩ (extractStridedSlice ⟨2, ![1, B]⟩ ![b, 0] v hs) h y = v (n2 b (y 0)) := by
  refine (shapeCast_apply _ h y (n2 0 (y 0)) ?_).trans (extractStridedSlice_apply _ v hs _ _ fun a => ?_)
  · rw [Shape.rowMajor_val_two, Shape.rowMajor_val_one, n2_0 Nat.one_pos, n2_1 (l10 y)]
    show 0 * B + (y 0).val = (y 0).val
    omega
  · fin_cases a
    · exact (n2_0 hb).trans (congrArg (b + ·) (n2_0 Nat.one_pos)).symm
    · exact (n2_1 (l10 y)).trans ((congrArg (0 + ·) (n2_1 (l10 y))).trans (Nat.zero_add _)).symm
/-- A matrix of a tensor. -/
theorem plane (b : ℕ) (v : (⟨3, ![A, B, C]⟩ : Shape).Idx → α) (hs : (⟨3, ![A, B, C]⟩ : Shape).Slices ![b, 0, 0] ⟨3, ![1, B, C]⟩) (h : (⟨3, ![1, B, C]⟩ : Shape).ShapeCasts ⟨2, ![B, C]⟩)
    (hb : b < A) (y : (⟨2, ![B, C]⟩ : Shape).Idx) :
    shapeCast ⟨2, ![B, C]⟩ (extractStridedSlice ⟨3, ![1, B, C]⟩ ![b, 0, 0] v hs) h y = v (n3 b (y 0) (y 1)) := by
  refine (Cert.KernelIdeal.dropU _ h y).trans (extractStridedSlice_apply _ v hs _ _ fun a => ?_)
  fin_cases a
  · exact (n3_0 hb).trans (congrArg (b + ·) (n3_0 Nat.one_pos)).symm
  · exact (n3_1 (l20 y)).trans ((congrArg (0 + ·) (n3_1 (l20 y))).trans (Nat.zero_add _)).symm
  · exact (n3_2 (l21 y)).trans ((congrArg (0 + ·) (n3_2 (l21 y))).trans (Nat.zero_add _)).symm
end

/-! ## The reference's arithmetic, element by element -/

/-- The reference's inputs. -/
structure RIn (F : FTy → Type) where
  dyc : S2x128x3584.Idx → F .fp8e5m2
  dys : S2x128.Idx → F .f32
  prec : S2x128x7168.Idx → F .fp8e4m3
  pres : S2x128.Idx → F .f32
  h0 : S2x3584.Idx → F .f32
  w : S7168x5120.Idx → F .fp8e4m3
  ws : S7168.Idx → F .f32

abbrev one : F .f32 := Scalar.ofBits .f32 0x3F800000#32
abbrev zero : F .f32 := Scalar.ofBits .f32 0x00000000#32
/-- The logistic function. -/
abbrev lg (x : F .f32) : F .f32 := FloatOps.logistic x

variable (R : RIn F)

/-- A preactivation, -/
def pre (b t e : ℕ) : F .f32 := FloatOps.mulf (FloatOps.extf .f32 bitsLt_fp8e4m3_f32 (R.prec (n3 b t e))) (R.pres (n2 b t))
/-- the gate, -/
def z (b t d : ℕ) : F .f32 := lg (pre R b t d)
/-- the gradient coming in, -/
def dy (b t d : ℕ) : F .f32 := FloatOps.mulf (FloatOps.extf .f32 bitsLt_fp8e5m2_f32 (R.dyc (n3 b t d))) (R.dys (n2 b t))
def pos (b t d : ℕ) : BitVec 1 := FloatOps.cmpf .oge (pre R b t (3584 + d)) zero
def sg (b t d : ℕ) : F .f32 := lg (pre R b t (3584 + d))
/-- the candidate -/
def ht (b t d : ℕ) : F .f32 := Scalar.select (pos R b t d) (FloatOps.addf (pre R b t (3584 + d)) (Scalar.ofBits .f32 0x3F000000#32)) (sg R b t d)
/-- and its derivative. -/
def gp (b t d : ℕ) : F .f32 := Scalar.select (pos R b t d) one (FloatOps.mulf (sg R b t d) (FloatOps.subf one (sg R b t d)))
/-- The state before token `t`; -/
def H (b d : ℕ) : ℕ → F .f32
  | 0 => R.h0 (n2 b d)
  | t + 1 => FloatOps.addf (H b d t) (FloatOps.mulf (z R b t d) (FloatOps.subf (ht R b t d) (H b d t)))
/-- the gradient carried back over the last `n`. -/
def Q (b d : ℕ) : ℕ → F .f32
  | 0 => zero
  | n + 1 => FloatOps.mulf (FloatOps.subf one (z R b (127 - n) d)) (FloatOps.addf (Q b d n) (dy R b (127 - n) d))
def G (b t d : ℕ) : F .f32 := FloatOps.addf (Q R b d (127 - t)) (dy R b t d)
/-- The gradient of the preactivations. -/
def D (b t e : ℕ) : F .f32 :=
  if e < 3584 then FloatOps.mulf (FloatOps.mulf (FloatOps.mulf (G R b t e) (FloatOps.subf (ht R b t e) (H R b e t))) (z R b t e)) (FloatOps.subf one (z R b t e))
  else FloatOps.mulf (FloatOps.mulf (G R b t (e - 3584)) (z R b t (e - 3584))) (gp R b t (e - 3584))
/-- As a tensor. -/
def DV : FVec F S2x128x7168 .f32 := fun i => D R (i 0) (i 1) (i 2)

theorem pay3_apply (i : S2x128x7168.Idx) : k0_pay3 R.prec R.pres i = pre R (i 0) (i 1) (i 2) := by
  unfold k0_pay3 pre
  refine congrArg₂ FloatOps.mulf (congrArg (fun j => FloatOps.extf .f32 bitsLt_fp8e4m3_f32 (R.prec j)) (eq_n3 rfl rfl rfl)) ?_
  exact bcastLast _ _ _ (by decide) (by decide) i
theorem pay4_apply (i : S2x128x3584.Idx) : k0_pay4 R.prec R.pres i = pre R (i 0) (i 1) (3584 + (i 2).val) := by
  unfold k0_pay4
  have h2 : (i 2).val < 3584 := (i 2).isLt
  refine (extractStridedSlice_apply _ _ _ i (n3 (i 0) (i 1) (3584 + (i 2).val)) fun a => ?_).trans ?_
  · fin_cases a
    · exact (n3_0 (l30 i)).trans (Nat.zero_add _).symm
    · exact (n3_1 (l31 i)).trans (Nat.zero_add _).symm
    · exact n3_2 (show 3584 + (i 2).val < 7168 by omega)
  · rw [pay3_apply, n3_0 (l30 i), n3_1 (l31 i), n3_2 (show 3584 + (i 2).val < 7168 by omega)]
theorem pay5_apply (i : S2x128x3584.Idx) : k0_pay5 R.prec R.pres i = z R (i 0) (i 1) (i 2) := by
  unfold k0_pay5 z
  have h2 : (i 2).val < 3584 := (i 2).isLt
  refine congrArg lg ((extractStridedSlice_apply _ _ _ i (n3 (i 0) (i 1) (i 2)) fun a => ?_).trans ?_)
  · fin_cases a
    · exact (n3_0 (l30 i)).trans (Nat.zero_add _).symm
    · exact (n3_1 (l31 i)).trans (Nat.zero_add _).symm
    · exact (n3_2 (show (i 2).val < 7168 by omega)).trans (Nat.zero_add _).symm
  · rw [pay3_apply, n3_0 (l30 i), n3_1 (l31 i), n3_2 (show (i 2).val < 7168 by omega)]
theorem pay6_apply (i : S2x128x3584.Idx) : k0_pay6 R.prec R.pres i = sg R (i 0) (i 1) (i 2) := congrArg lg (pay4_apply R i)
theorem pay7_apply (i : S2x128x3584.Idx) : k0_pay7 R.prec R.pres i = pos R (i 0) (i 1) (i 2) := congrArg (fun x => FloatOps.cmpf .oge x zero) (pay4_apply R i)
theorem pay8_apply (i : S2x128x3584.Idx) : k0_pay8 R.prec R.pres i = ht R (i 0) (i 1) (i 2) := by
  unfold k0_pay8 ht
  show Scalar.select (k0_pay7 R.prec R.pres i) (FloatOps.addf (k0_pay4 R.prec R.pres i) _) (k0_pay6 R.prec R.pres i) = _
  rw [pay7_apply, pay4_apply, pay6_apply]
  rfl
theorem pay9_apply (i : S2x128x3584.Idx) : k0_pay9 R.prec R.pres i = gp R (i 0) (i 1) (i 2) := by
  unfold k0_pay9 gp
  show Scalar.select (k0_pay7 R.prec R.pres i) one (FloatOps.mulf (k0_pay6 R.prec R.pres i) (FloatOps.subf one (k0_pay6 R.prec R.pres i))) = _
  rw [pay7_apply, pay6_apply]
theorem pay12_apply (i : S2x128x3584.Idx) : k0_pay12 R.dyc R.dys i = dy R (i 0) (i 1) (i 2) := by
  unfold k0_pay12 dy
  dsimp only
  rw [shapeCast_self]
  refine congrArg₂ FloatOps.mulf (congrArg (fun j => FloatOps.extf .f32 bitsLt_fp8e5m2_f32 (R.dyc j)) (eq_n3 rfl rfl rfl)) ?_
  exact bcastLast _ _ _ (by decide) (by decide) i

/-- The forward loop's states, -/
theorem hT_apply (n : ℕ) (hn : n ≤ 128) (y : S2x1x3584.Idx) :
    hT (k0_pay5 R.prec R.pres) (k0_pay8 R.prec R.pres) (k0_pay15 R.h0) n y = H R (y 0) (y 2) n := by
  induction n with
  | zero => unfold hT k0_pay15 H; exact addMid _ _ y
  | succ n ih =>
    unfold hT k0_pay17 H
    show FloatOps.addf _ (FloatOps.mulf (k0_pay5 R.prec R.pres (n3 (y 0) n (y 2))) (FloatOps.subf (k0_pay8 R.prec R.pres (n3 (y 0) n (y 2))) _)) = _
    rw [ih (by omega), pay5_apply, pay8_apply, n3_0 (l30 y), n3_1 hn, n3_2 (l32 y)]
/-- and the backward loop's. -/
theorem qT_apply (n : ℕ) (hn : n ≤ 128) (y : S2x1x3584.Idx) :
    qT (k0_pay5 R.prec R.pres) (k0_pay12 R.dyc R.dys) k0_pay18 n y = Q R (y 0) (y 2) n := by
  induction n with
  | zero => rfl
  | succ n ih =>
    unfold qT k0_pay21 k0_pay19 Q
    show FloatOps.mulf (FloatOps.subf one (k0_pay5 R.prec R.pres (n3 (y 0) (127 - n) (y 2)))) (FloatOps.addf _ (k0_pay12 R.dyc R.dys (n3 (y 0) (127 - n) (y 2)))) = _
    rw [ih (by omega), pay5_apply, pay12_apply, n3_0 (l30 y), n3_1 (show 127 - n < 128 by omega), n3_2 (l32 y)]

/-- The preactivations' gradient from the two scratch buffers. -/
theorem pay23_eq (v52 v53 : FVec F S2x128x3584 .f32) (h52 : ∀ i, v52 i = G R (i 0) (i 1) (i 2)) (h53 : ∀ i, v53 i = H R (i 0) (i 2) (i 1)) :
    k0_pay23 (k0_pay5 R.prec R.pres) (k0_pay8 R.prec R.pres) (k0_pay9 R.prec R.pres) v52 v53 = DV R := by
  funext i
  have h2 : (i 2).val < 7168 := (i 2).isLt
  unfold k0_pay23 DV D
  dsimp only
  by_cases h : (i 2).val < 3584
  · rw [if_pos h]
    refine (concatenate_pair_apply_left (s₁ := S2x128x3584) _ _ _ _ i rfl (n3 (i 0) (i 1) (i 2)) fun a => ?_).trans ?_
    · fin_cases a
      · exact n3_0 (l30 i)
      · exact n3_1 (l31 i)
      · exact n3_2 h
    · show FloatOps.mulf (FloatOps.mulf (FloatOps.mulf (v52 _) (FloatOps.subf (k0_pay8 R.prec R.pres _) (v53 _))) (k0_pay5 R.prec R.pres _)) (FloatOps.subf one (k0_pay5 R.prec R.pres _)) = _
      rw [h52, h53, pay8_apply, pay5_apply, n3_0 (l30 i), n3_1 (l31 i), n3_2 h]
  · rw [if_neg h]
    have h3 : (i 2).val - 3584 < 3584 := by omega
    refine (concatenate_pair_apply_right (s₁ := S2x128x3584) (s₂ := S2x128x3584) _ _ _ _ i rfl rfl (n3 (i 0) (i 1) ((i 2).val - 3584)) (fun a ha => ?_) ?_).trans ?_
    · fin_cases a
      · exact n3_0 (l30 i)
      · exact n3_1 (l31 i)
      · exact absurd rfl ha
    · exact (congrArg (· + 3584) (n3_2 h3)).trans (by omega)
    · show FloatOps.mulf (FloatOps.mulf (v52 _) (k0_pay5 R.prec R.pres _)) (k0_pay9 R.prec R.pres _) = _
      rw [h52, pay5_apply, pay9_apply, n3_0 (l30 i), n3_1 (l31 i), n3_2 h3]

/-- A token's exponent, by the tensor of gradients; -/
abbrev ex : FVec F S2x128 .f32 := k0_pay24 (DV R)
/-- the codes; -/
def C (b t e : ℕ) : F .fp8e5m2 := FloatOps.truncf .fp8e5m2 bitsLt_fp8e5m2_f32
  (FloatOps.minimumf (Scalar.ofBits .f32 0x47600000#32) (FloatOps.maximumf (Scalar.ofBits .f32 0xC7600000#32)
    (FloatOps.mulf (D R b t e) (FloatOps.exp2 (FloatOps.subf zero (ex R (n2 b t)))))))
/-- the scales; -/
def S (b t : ℕ) : F .f32 := FloatOps.exp2 (ex R (n2 b t))
/-- the weights; -/
def W : FVec F S7168x5120 .bf16 := fun i => FloatOps.mulf (FloatOps.extf .bf16 bitsLt_fp8e4m3_bf16 (R.w i)) (FloatOps.truncf .bf16 bitsLt_bf16_f32 (R.ws (ix1 (i 0))))
/-- a batch's codes; -/
def CB (b : ℕ) : FVec F S128x7168 .bf16 := fun i => FloatOps.extf .bf16 bitsLt_fp8e5m2_bf16 (C R b (i 0) (i 1))
/-- its product, -/
def P (b : ℕ) : FVec F S128x5120 .f32 := matmul dot_S128x7168_S7168x5120_S128x5120_1_0_0_1_n_n none (CB R b) (W R) (constant S128x5120 .f32 0x00000000#32)
/-- the input's gradient. -/
def DX (b t e : ℕ) : F .bf16 := FloatOps.truncf .bf16 bitsLt_bf16_f32 (FloatOps.mulf (P R b (n2 t e)) (S R b t))

theorem pay25_apply (i : S2x128x7168.Idx) : k0_pay25 (DV R) i = C R (i 0) (i 1) (i 2) := by
  unfold k0_pay25 C
  refine congrArg (fun x : F .f32 => FloatOps.truncf .fp8e5m2 bitsLt_fp8e5m2_f32 (FloatOps.minimumf (Scalar.ofBits .f32 0x47600000#32) (FloatOps.maximumf (Scalar.ofBits .f32 0xC7600000#32) (FloatOps.mulf (D R (i 0) (i 1) (i 2)) x)))) ?_
  exact bcastLast _ _ _ (by decide) (by decide) i
theorem pay26_apply (i : S2x128.Idx) : k0_pay26 (DV R) i = S R (i 0) (i 1) := by
  unfold k0_pay26 S
  exact congrArg (fun j => FloatOps.exp2 (ex R j)) (eq_n2 rfl rfl)
theorem pay27_eq : k0_pay27 R.w R.ws = W R := by
  funext i
  unfold k0_pay27 W
  exact congrArg (FloatOps.mulf _) (bcastCol _ _ _ (by decide) i)

theorem dx_eq (b : ℕ) (hb : b < 2) (A : FVec F S128x7168 .bf16) (hA : A = CB R b) (v : FVec F S128 .f32) (hv : ∀ y, v y = S R b (y 0)) (y : S1x128x5120.Idx)
    (h1 : S128.ShapeCasts S128x1) (h2 : S128x1.Broadcasts S128x5120) (h3 : S128x5120.ShapeCasts S1x128x5120) :
    shapeCast S1x128x5120 (truncf .bf16 (mulf (matmul dot_S128x7168_S7168x5120_S128x5120_1_0_0_1_n_n none A (k0_pay27 R.w R.ws) (constant S128x5120 .f32 0x00000000#32))
      (broadcastTo S128x5120 (shapeCast S128x1 v h1) h2)) bitsLt_bf16_f32) h3 y = DX R b (y 1) (y 2) := by
  subst hA
  rw [pay27_eq]
  refine (Cert.KernelIdeal.addU _ h3 y).trans ?_
  unfold DX
  refine congrArg (fun x => FloatOps.truncf .bf16 bitsLt_bf16_f32 (FloatOps.mulf _ x)) ?_
  refine (bcastCol v h1 h2 (by decide) _).trans ?_
  rw [hv]
  exact congrArg (S R b) (n2_0 (l31 y))

theorem pay1_apply (y : S1x128x5120.Idx) : k0_pay1 (k0_pay26 (DV R)) (k0_pay27 R.w R.ws) (k0_pay28 (DV R)) y = DX R 0 (y 1) (y 2) := by
  unfold k0_pay1 k0_pay28
  refine dx_eq R 0 (by decide) _ (funext fun i => ?_) _ (fun y => ?_) y _ _ _
  · refine congrArg (FloatOps.extf .bf16 bitsLt_fp8e5m2_bf16) ((plane 0 _ _ _ (by decide) i).trans ?_)
    rw [pay25_apply, n3_0 (by decide), n3_1 (l20 i), n3_2 (l21 i)]
  · refine (rowVec 0 _ _ _ (by decide) y).trans ?_
    rw [pay26_apply, n2_0 (by decide), n2_1 (l10 y)]
theorem pay2_apply (y : S1x128x5120.Idx) : k0_pay2 (k0_pay25 (DV R)) (k0_pay26 (DV R)) (k0_pay27 R.w R.ws) y = DX R 1 (y 1) (y 2) := by
  unfold k0_pay2
  refine dx_eq R 1 (by decide) _ (funext fun i => ?_) _ (fun y => ?_) y _ _ _
  · refine congrArg (FloatOps.extf .bf16 bitsLt_fp8e5m2_bf16) ((plane 1 _ _ _ (by decide) i).trans ?_)
    rw [pay25_apply, n3_0 (by decide), n3_1 (l20 i), n3_2 (l21 i)]
  · refine (rowVec 1 _ _ _ (by decide) y).trans ?_
    rw [pay26_apply, n2_0 (by decide), n2_1 (l10 y)]

end Cert.ReferenceIdeal.Out
end
-- ==== Proof.Alg.Scalar.lean ====
module

public import proofs.«01_k».proof.Proof.KI.Spec
public import proofs.«01_k».proof.Proof.RI.Elt
public import Idealize.ShloMosaic.PureOps.Ideal
public import Idealize.ShloMosaic.PureOps.IdealRules
public import Idealize.ShloMosaic.PureOps.Ideal.Laws
public import Idealize.ShloMosaic.Lib.IdealHost
public import Mathlib.Analysis.SpecialFunctions.Pow.Real

@[expose] public section

noncomputable section

namespace Cert.Alg

open Idealize.ShloMosaic

/-! ## The two named constants -/

theorem negL_eq : Named.named (F := Ideal) Cert.KernelIdeal.κ "neg_log2e" (φ := .f32) 0xBFB8AA3B#32 = ((-((Real.log 2)⁻¹) : ℝ) : EReal) :=
  IdealRules.named_const.ideal_named_scalar _ _ _ _ rfl
theorem ln2_eq : Named.named (F := Ideal) Cert.ReferenceIdeal.κ "ln2" (φ := .f32) 0x3F317218#32 = ((Real.log 2 : ℝ) : EReal) :=
  IdealRules.named_const.ideal_named_scalar _ _ _ _ rfl

theorem log2_pos : (0 : ℝ) < Real.log 2 := Real.log_pos (by norm_num)

/-! ## The logistic function by `exp2` -/

theorem exp2_negL (y : EReal) : Ideal.exp2 (y * ((-((Real.log 2)⁻¹) : ℝ) : EReal)) = Ideal.exp (-y) := by
  have hn : -((Real.log 2)⁻¹) < 0 := neg_lt_zero.mpr (inv_pos.mpr log2_pos)
  induction y with
  | bot => rw [EReal.bot_mul_coe_of_neg hn]; rfl
  | top => rw [EReal.top_mul_coe_of_neg hn]; rfl
  | coe r =>
    rw [← EReal.coe_mul, ← EReal.coe_neg, Ideal.exp2_coe, Ideal.exp_coe]
    congr 1
    show (2 : ℝ) ^ (r * -((Real.log 2)⁻¹)) = _
    rw [Real.rpow_def_of_pos two_pos]
    congr 1
    have := log2_pos.ne'
    field_simp

theorem logi_eq (y : EReal) : Cert.KernelIdeal.logi (F := Ideal) (y * Named.named (F := Ideal) Cert.KernelIdeal.κ "neg_log2e" (φ := .f32) 0xBFB8AA3B#32) = Ideal.logistic y := by
  rw [negL_eq]
  show Ideal.div (Ideal.ofBits .f32 0x3F800000#32) (Ideal.ofBits .f32 0x3F800000#32 + Ideal.exp2 _) = _
  rw [exp2_negL, Ideal.ofBits_one_f32]
  rfl

/-! ## Powers of two -/

theorem bits_fields : ∀ j : Fin 255, 1 ≤ j.val → (BitVec.ofNat 32 (j.val * 2 ^ 23)).extractLsb' 31 1 = 0#1
    ∧ ((BitVec.ofNat 32 (j.val * 2 ^ 23)).extractLsb' 23 8).toNat = j.val ∧ ((BitVec.ofNat 32 (j.val * 2 ^ 23)).extractLsb' 0 23).toNat = 0 := by
  decide +kernel

/-- The pattern of exponent field `j` alone. -/
theorem ofBits_exp (j : ℕ) (h1 : 1 ≤ j) (h2 : j < 255) : Ideal.ofBits .f32 (BitVec.ofNat 32 (j * 2 ^ 23)) = (((2 : ℝ) ^ ((j : ℤ) - 127) : ℝ) : EReal) := by
  obtain ⟨a, b, d⟩ := bits_fields ⟨j, h2⟩ h1
  unfold Ideal.ofBits Ideal.ieee
  dsimp only at a b d ⊢
  rw [show 8 + 23 = 31 from rfl, a, b, d, if_neg (by omega), if_neg (by omega)]
  congr 1
  rw [if_neg (show ¬((0#1 == 1#1) = true) by decide), one_mul]
  rw [show ((2 ^ 23 + 0 : ℕ) : ℝ) = (2 : ℝ) ^ (23 : ℤ) by norm_num, ← zpow_add₀ two_ne_zero]
  congr 1
  norm_num

/-- The threshold of lane `k`. -/
def thr (k : ℕ) : EReal := (((2 : ℝ) ^ (((min k 253 : ℕ) : ℤ) - 127) : ℝ) : EReal)

theorem thr_mono {j k : ℕ} (h : j ≤ k) : thr j ≤ thr k :=
  EReal.coe_le_coe_iff.mpr (zpow_le_zpow_right₀ one_le_two (by omega))

/-! ## The exponent -/

/-- The reference's exponent of a scaled magnitude. -/
def refE (x : EReal) : EReal :=
  Scalar.select (IntOp.andi (Ideal.cmp .oge x (Ideal.ofBits .f32 0x00800000#32)) (Ideal.cmp .olt x (Ideal.ofBits .f32 0x7E800000#32)))
    (Ideal.liftRound Int.floor (Ideal.div (Ideal.log x) ((Real.log 2 : ℝ) : EReal)) + Ideal.ofBits .f32 0x3F800000#32) (Ideal.ofBits .f32 0x00000000#32)

theorem lo_eq : Ideal.ofBits .f32 0x00800000#32 = thr 1 := ofBits_exp 1 le_rfl (by decide)
theorem hi_eq : Ideal.ofBits .f32 0x7E800000#32 = thr 253 := ofBits_exp 253 (by decide) (by decide)

theorem select_zero {α : Type} (a b : α) : Scalar.select (0#1) a b = b := rfl
theorem select_one {α : Type} (a b : α) : Scalar.select (1#1) a b = a := rfl

theorem cmp_oge (x y : EReal) : Ideal.cmp .oge x y = BitVec.ofBool (decide (y ≤ x)) := rfl
theorem cmp_olt (x y : EReal) : Ideal.cmp .olt x y = BitVec.ofBool (decide (x < y)) := rfl

theorem zpow_le_iff {r : ℝ} (hr : 0 < r) (j : ℤ) : (2 : ℝ) ^ j ≤ r ↔ j ≤ ⌊Real.log r * (1 / Real.log 2)⌋ := by
  rw [Int.le_floor, mul_one_div, le_div_iff₀ log2_pos, ← Real.log_zpow, Real.log_le_log_iff (zpow_pos two_pos _) hr]

/-- The two exponents: the count of the thresholds reached against the floor of the logarithm. -/
theorem exponent (x : EReal) : ∃ n : ℕ, (n ≤ 252 ∨ n = 255) ∧ (∀ k : ℕ, 0 < k → k < 256 → (thr k ≤ x ↔ k ≤ n))
    ∧ refE x = (((if n = 0 ∨ n = 255 then 0 else (n : ℤ) - 126 : ℤ) : ℝ) : EReal) := by
  unfold refE
  rw [lo_eq, hi_eq, Ideal.ofBits_zero_f32, Ideal.ofBits_one_f32, cmp_oge, cmp_olt]
  by_cases hl : thr 1 ≤ x
  swap
  · refine ⟨0, Or.inl (by decide), fun k hk _ => ⟨fun h => absurd ((thr_mono hk).trans h) hl, fun h => by omega⟩, ?_⟩
    rw [decide_eq_false hl]
    show Scalar.select (IntOp.andi 0#1 _) _ _ = _
    rw [show ∀ b, IntOp.andi 0#1 b = 0#1 from fun b => BitVec.zero_and, select_zero]
    simp
  by_cases hh : x < thr 253
  swap
  · refine ⟨255, Or.inr rfl, fun k _ hk => ⟨fun h => by omega, fun _ => ?_⟩, ?_⟩
    · refine le_trans ?_ (not_lt.mp hh)
      exact EReal.coe_le_coe_iff.mpr (zpow_le_zpow_right₀ one_le_two (by omega))
    · rw [decide_eq_false hh]
      rw [show ∀ b, IntOp.andi b (BitVec.ofBool false) = 0#1 from fun b => BitVec.and_zero, select_zero]
      simp
  induction x with
  | bot => exact absurd hl (by unfold thr; simp)
  | top => exact absurd hh (by simp)
  | coe r =>
    have hl' := EReal.coe_le_coe_iff.mp hl
    have hh' := EReal.coe_lt_coe_iff.mp hh
    have hr : 0 < r := lt_of_lt_of_le (zpow_pos two_pos _) hl'
    have a := (zpow_le_iff hr _).mp hl'
    have b := not_le.mp (fun h => not_le.mpr hh' ((zpow_le_iff hr _).mpr h))
    generalize hL : ⌊Real.log r * (1 / Real.log 2)⌋ = L at a b
    have a' : -126 ≤ L := a
    have b' : L < 126 := b
    refine ⟨(L + 127).toNat, Or.inl (by omega), fun k hk _ => ?_, ?_⟩
    · refine EReal.coe_le_coe_iff.trans ((zpow_le_iff hr _).trans ?_)
      rw [hL]
      omega
    · rw [decide_eq_true hl, decide_eq_true hh]
      show Ideal.liftRound Int.floor (Ideal.div (Ideal.log (r : EReal)) _) + 1 = _
      rw [Ideal.log_coe, if_neg (not_le.mpr hr), Ideal.div_coe log2_pos.ne', ← EReal.coe_mul, Ideal.liftRound_coe]
      rw [hL, if_neg (by omega)]
      rw [← EReal.coe_one, ← EReal.coe_add]
      congr 1
      have : ((L + 127).toNat : ℤ) - 126 = L + 1 := by omega
      rw [this]
      push_cast
      rfl

theorem exp2_int (n : ℤ) : Ideal.exp2 ((n : ℝ) : EReal) = (((2 : ℝ) ^ n : ℝ) : EReal) := by
  rw [Ideal.exp2_coe]
  congr 1
  exact Real.rpow_intCast 2 n

end Cert.Alg
end
-- ==== Proof.Alg.Scale.lean ====
module

public import proofs.«01_k».proof.Proof.Alg.Scalar
import Idealize.ShloMosaic.Lib.Pointwise

@[expose] public section

noncomputable section

namespace Cert.Alg

open Idealize.ShloMosaic
open Cert.KernelIdeal (n2 n3 eq_n2 eq_n3 n2_0 n2_1 n3_0 n3_1 n3_2 expField expo scaleOf invOf)

/-- The kernel's count for a scaled magnitude, -/
def ef (x : EReal) : BitVec 32 := Finset.fold IntOp.addi (0#32) (fun k : Fin 256 =>
  Scalar.select (IntOp.andi (IntOp.cmpi .sgt (BitVec.ofNat 32 k.val) 0#32)
    (BitVec.ofBool (decide (Ideal.ofBits .f32 (IntOp.shli .vector (IntOp.minsi (BitVec.ofNat 32 k.val) 253#32) 23#32) ≤ x)))) 1#32 0#32) Finset.univ
/-- the exponent of a count, -/
def eb (e : BitVec 32) (z : BitVec 1) : BitVec 32 :=
  Scalar.select (IntOp.ori (IntOp.ori (IntOp.cmpi .eq e 0#32) (IntOp.cmpi .eq e 255#32)) z) 0#32 (IntOp.subi e 126#32)

theorem field_pt (m : FVec Ideal Cert.KernelIdeal.S32 .f32) (r : Fin 32) (l : Fin 1) : expField m (ix2 r l) = ef (m (ix1 r) * Ideal.ofBits .f32 0x37924925#32) := by
  unfold expField ef
  simp only [pointwise]
  refine congrArg (fun f => Finset.fold IntOp.addi (0#32) f Finset.univ) (funext fun k => ?_)
  refine congrArg₂ (fun (a : ℕ) (j : Fin 32) => Scalar.select (IntOp.andi (IntOp.cmpi .sgt (BitVec.ofNat 32 a) 0#32)
    (BitVec.ofBool (decide (Ideal.ofBits .f32 (IntOp.shli .vector (IntOp.minsi (BitVec.ofNat 32 a) 253#32) 23#32) ≤ m (ix1 j) * Ideal.ofBits .f32 0x37924925#32)))) 1#32 0#32)
    (show 0 * 256 + k.val = k.val by omega) ?_
  rfl
theorem expo_pt (m : FVec Ideal Cert.KernelIdeal.S32 .f32) (r : Fin 32) (l : Fin 1) : expo m (ix2 r l)
    = eb (ef (m (ix1 r) * Ideal.ofBits .f32 0x37924925#32)) (BitVec.ofBool (decide (m (ix1 r) = Ideal.ofBits .f32 0x00000000#32))) := by
  rw [← field_pt m r l]
  unfold expo eb
  simp only [pointwise]
theorem scale_pt (m : FVec Ideal Cert.KernelIdeal.S32 .f32) (r : Fin 32) (l : Fin 128) : scaleOf m (ix2 r l)
    = Ideal.ofBits .f32 (IntOp.shli .vector (IntOp.addi (eb (ef (m (ix1 r) * Ideal.ofBits .f32 0x37924925#32)) (BitVec.ofBool (decide (m (ix1 r) = Ideal.ofBits .f32 0x00000000#32)))) 127#32) 23#32) := by
  rw [← expo_pt m r 0]
  unfold scaleOf
  simp only [pointwise]
  refine congrArg (fun j : Fin 32 => Ideal.ofBits .f32 (IntOp.shli .vector (IntOp.addi (expo m (ix2 j 0)) 127#32) 23#32)) ?_
  rfl
theorem inv_pt (m : FVec Ideal Cert.KernelIdeal.S32 .f32) (r : Fin 32) (l : Fin 128) : invOf m (ix2 r l)
    = Ideal.ofBits .f32 (IntOp.shli .vector (IntOp.subi 127#32 (eb (ef (m (ix1 r) * Ideal.ofBits .f32 0x37924925#32)) (BitVec.ofBool (decide (m (ix1 r) = Ideal.ofBits .f32 0x00000000#32))))) 23#32) := by
  rw [← expo_pt m r 0]
  unfold invOf
  simp only [pointwise]
  refine congrArg (fun j : Fin 32 => Ideal.ofBits .f32 (IntOp.shli .vector (IntOp.subi 127#32 (expo m (ix2 j 0))) 23#32)) ?_
  rfl

/-- The lanes counted are those up to `n`. -/
theorem count (n : Fin 256) : Finset.fold IntOp.addi (0#32) (fun k : Fin 256 => if 0 < k.val ∧ k.val ≤ n.val then 1#32 else 0#32) Finset.univ = BitVec.ofNat 32 n.val := by
  revert n
  decide +kernel

theorem thr_bits : ∀ k : Fin 256, 0 < k.val → IntOp.shli .vector (IntOp.minsi (BitVec.ofNat 32 k.val) 253#32) 23#32 = BitVec.ofNat 32 (min k.val 253 * 2 ^ 23) := by
  decide +kernel
theorem pos_bits : ∀ k : Fin 256, IntOp.cmpi .sgt (BitVec.ofNat 32 k.val) 0#32 = BitVec.ofBool (decide (0 < k.val)) := by
  decide +kernel

theorem ef_eq (x : EReal) (n : ℕ) (hn : n < 256) (h : ∀ k : ℕ, 0 < k → k < 256 → (thr k ≤ x ↔ k ≤ n)) : ef x = BitVec.ofNat 32 n := by
  refine Eq.trans ?_ (count ⟨n, hn⟩)
  unfold ef
  refine congrArg (fun f => Finset.fold IntOp.addi (0#32) f Finset.univ) (funext fun k => ?_)
  rw [pos_bits k]
  by_cases hk : 0 < k.val
  · have e : Ideal.ofBits .f32 (IntOp.shli .vector (IntOp.minsi (BitVec.ofNat 32 k.val) 253#32) 23#32) = thr k.val := by
      rw [thr_bits k hk]
      exact ofBits_exp _ (by omega) (by omega)
    rw [e, decide_eq_true hk]
    by_cases hx : thr k.val ≤ x
    · rw [decide_eq_true hx, if_pos ⟨hk, (h _ hk k.isLt).mp hx⟩]
      rfl
    · rw [decide_eq_false hx, if_neg (fun q => hx ((h _ hk k.isLt).mpr q.2))]
      rfl
  · rw [decide_eq_false hk, if_neg (fun q => hk q.1)]
    rw [show ∀ b, IntOp.andi (BitVec.ofBool false) b = 0#1 from fun b => BitVec.zero_and, select_zero]

theorem scale_bits : ∀ (n : Fin 256) (z : Bool), (n.val ≤ 252 ∨ n.val = 255) → (z = true → n.val = 0) →
    IntOp.shli .vector (IntOp.addi (eb (BitVec.ofNat 32 n.val) (BitVec.ofBool z)) 127#32) 23#32 = BitVec.ofNat 32 ((if n.val = 0 ∨ n.val = 255 then 127 else n.val + 1) * 2 ^ 23)
    ∧ IntOp.shli .vector (IntOp.subi 127#32 (eb (BitVec.ofNat 32 n.val) (BitVec.ofBool z))) 23#32 = BitVec.ofNat 32 ((if n.val = 0 ∨ n.val = 255 then 127 else 253 - n.val) * 2 ^ 23) := by
  decide +kernel

/-- A token's scale and its inverse are the reference's. -/
theorem scale_inv (m : FVec Ideal Cert.KernelIdeal.S32 .f32) (r : Fin 32) (l : Fin 128) :
    scaleOf m (ix2 r l) = Ideal.exp2 (refE (m (ix1 r) * Ideal.ofBits .f32 0x37924925#32))
    ∧ invOf m (ix2 r l) = Ideal.exp2 (Ideal.ofBits .f32 0x00000000#32 - refE (m (ix1 r) * Ideal.ofBits .f32 0x37924925#32)) := by
  rw [scale_pt, inv_pt]
  obtain ⟨n, hn, hk, he⟩ := exponent (m (ix1 r) * Ideal.ofBits .f32 0x37924925#32)
  have hz : decide (m (ix1 r) = Ideal.ofBits .f32 0x00000000#32) = true → n = 0 := by
    intro h
    rw [Ideal.ofBits_zero_f32] at h
    have h := of_decide_eq_true h
    by_contra hn0
    have h1 := (hk 1 Nat.one_pos (by decide)).mpr (Nat.pos_of_ne_zero hn0)
    rw [h, zero_mul] at h1
    exact absurd (EReal.coe_le_coe_iff.mp h1) (not_le.mpr (zpow_pos two_pos _))
  have hlt : n < 256 := by omega
  obtain ⟨h1, h2⟩ := scale_bits ⟨n, hlt⟩ _ hn hz
  rw [ef_eq _ n hlt hk, h1, h2, he, Ideal.ofBits_zero_f32, zero_sub, ← EReal.coe_neg, ← Int.cast_neg, exp2_int, exp2_int]
  dsimp only
  constructor
  · rw [ofBits_exp _ (by split_ifs <;> omega) (by split_ifs <;> omega)]
    congr 2
    split_ifs <;> omega
  · rw [ofBits_exp _ (by split_ifs <;> omega) (by split_ifs <;> omega)]
    congr 2
    split_ifs <;> omega

end Cert.Alg
end
-- ==== Proof.Alg.Value.lean ====
module

public import proofs.«01_k».proof.Proof.Alg.Scale
public import Idealize.ShloMosaic.Lib.MatmulPlain
import Idealize.ShloMosaic.Lib.Pointwise

@[expose] public section

noncomputable section

namespace Cert.Alg

open Idealize.ShloMosaic
open Cert.KernelIdeal hiding DX
open Cert.ReferenceIdeal.Out (RIn pre z dy pos sg ht gp H Q G D DV ex C S W CB P)

variable (X : Inp Ideal) (ws : Cert.ReferenceIdeal.S7168.Idx → EReal)

/-- The reference's inputs from the kernel's, the weights' scales by `ws`. -/
abbrev toR : RIn Ideal := ⟨X.dyc, X.dys, X.prec, X.pres, X.h0, X.w, ws⟩

/-! ## The elementwise part -/

theorem z_eq (b t d : ℕ) : zE X b t d = z (toR X ws) b t d := by
  have h : preF X b t d * (X.pres (n2 b t) * negL) = pre (toR X ws) b t d * negL := (mul_assoc (preF X b t d : EReal) (X.pres (n2 b t)) negL).symm
  exact (congrArg (logi (F := Ideal)) h).trans (logi_eq _)
theorem sg_eq (b t d : ℕ) : sgE X b t d = sg (toR X ws) b t d := logi_eq _
theorem dy_eq (b t d : ℕ) : dyE X b t d = dy (toR X ws) b t d := rfl
theorem ht_eq (b t d : ℕ) : htE X b t d = ht (toR X ws) b t d := by
  unfold htE ht
  rw [sg_eq X ws]
  rfl
theorem gp_eq (b t d : ℕ) : gpE X b t d = gp (toR X ws) b t d := by
  unfold gpE gp
  rw [sg_eq X ws]
  rfl
theorem Q_eq (b d n : ℕ) : QE X b d n = Q (toR X ws) b d n := by
  induction n with
  | zero => rfl
  | succ n ih =>
    unfold QE Q
    rw [ih, z_eq X ws, dy_eq X ws]
    exact congrArg (FloatOps.mulf (F := Ideal) (φ := .f32) _) (add_comm (dy (toR X ws) b (127 - n) d : EReal) (Q (toR X ws) b d n))
theorem H_eq (b d n : ℕ) : HE X b d n = H (toR X ws) b d n := by
  induction n with
  | zero => rfl
  | succ n ih =>
    unfold HE H
    rw [ih, z_eq X ws, ht_eq X ws]
theorem G_eq (b t d : ℕ) : GE X b t d = G (toR X ws) b t d := by
  unfold GE G
  rw [Q_eq X ws, dy_eq X ws]
  exact add_comm (dy (toR X ws) b t d : EReal) (Q (toR X ws) b d (127 - t))

theorem mul_swap (a g z h : EReal) : a * g * (z * h) = g * h * z * a := by
  rw [mul_comm a g, mul_assoc, mul_assoc, mul_assoc, mul_comm a, mul_comm z h, mul_assoc]

theorem D_eq (b t e : ℕ) (h : t < 128) : DP X b t e = D (toR X ws) b t e := by
  unfold DP D
  split_ifs with he
  · unfold DZ
    rw [show 128 - t = (127 - t) + 1 by omega]
    unfold QE
    rw [show 127 - (127 - t) = t by omega]
    show FloatOps.mulf (FloatOps.mulf _ (GE X b t e)) _ = _
    rw [G_eq X ws, z_eq X ws, ht_eq X ws, H_eq X ws]
    exact mul_swap _ _ _ _
  · unfold DH
    rw [G_eq X ws, z_eq X ws, gp_eq X ws]

/-! ## The largest magnitude -/

theorem MG_le (b t g l : ℕ) (c : EReal) : (MG X b t g l : EReal) ≤ c
    ↔ (FloatOps.absf (DZ X b t (128 * g + l)) : EReal) ≤ c ∧ (FloatOps.absf (DH X b t (128 * g + l)) : EReal) ≤ c := max_le_iff

theorem amA_le (b k : ℕ) (x : S32x128.Idx) (c : EReal) (n : ℕ) : (amA X b k n x : EReal) ≤ c ↔ ∀ i ≤ n, (am8 X b k i x : EReal) ≤ c := by
  induction n with
  | zero => exact ⟨fun h i hi => Nat.le_zero.mp hi ▸ h, fun h => h 0 le_rfl⟩
  | succ n ih =>
    refine (max_le_iff (a := (amA X b k n x : EReal))).trans ?_
    rw [ih]
    exact ⟨fun h i hi => (Nat.le_succ_iff.mp hi).elim (h.1 i) (fun e => e ▸ h.2), fun h => ⟨fun i hi => h i (Nat.le_succ_of_le hi), h _ le_rfl⟩⟩
theorem amB_le (b k : ℕ) (x : S32x128.Idx) (c : EReal) (n : ℕ) : (amB X b k n x : EReal) ≤ c ↔ (∀ i ≤ 7, (am8 X b k i x : EReal) ≤ c) ∧ ∀ i < n, (am4 X b k i x : EReal) ≤ c := by
  induction n with
  | zero => exact (amA_le X b k x c 7).trans ⟨fun h => ⟨h, fun i hi => absurd hi (Nat.not_lt_zero i)⟩, fun h => h.1⟩
  | succ n ih =>
    refine (max_le_iff (a := (amB X b k n x : EReal))).trans ?_
    rw [ih, and_assoc]
    exact and_congr_right fun _ => ⟨fun h i hi => (Nat.lt_succ_iff_lt_or_eq.mp hi).elim (h.1 i) (fun e => e ▸ h.2),
      fun h => ⟨fun i hi => h i (Nat.lt_succ_of_lt hi), h _ (Nat.lt_succ_self n)⟩⟩
theorem am8_le (b k i : ℕ) (x : S32x128.Idx) (c : EReal) : (am8 X b k i x : EReal) ≤ c
    ↔ ((MG X b (32 * k + x 0) i (x 1) : EReal) ≤ c ∧ (MG X b (32 * k + x 0) (8 + i) (x 1) : EReal) ≤ c) ∧ (MG X b (32 * k + x 0) (16 + i) (x 1) : EReal) ≤ c :=
  max_le_iff.trans (and_congr_left fun _ => max_le_iff)
/-- Every lane tile is folded in. -/
theorem tiles_le (b k : ℕ) (x : S32x128.Idx) (c : EReal) : (amB X b k 4 x : EReal) ≤ c ↔ ∀ g < 28, (MG X b (32 * k + x 0) g (x 1) : EReal) ≤ c := by
  rw [amB_le]
  constructor
  · rintro ⟨h8, h4⟩ g hg
    by_cases a : g < 8
    · exact ((am8_le X b k g x c).mp (h8 g (by omega))).1.1
    by_cases a' : g < 16
    · have := ((am8_le X b k (g - 8) x c).mp (h8 _ (by omega))).1.2
      rwa [show 8 + (g - 8) = g by omega] at this
    by_cases a'' : g < 24
    · have := ((am8_le X b k (g - 16) x c).mp (h8 _ (by omega))).2
      rwa [show 16 + (g - 16) = g by omega] at this
    · have : (MG X b (32 * k + x 0) (24 + (g - 24)) (x 1) : EReal) ≤ c := h4 (g - 24) (by omega)
      rwa [show 24 + (g - 24) = g by omega] at this
  · intro h
    exact ⟨fun i hi => (am8_le X b k i x c).mpr ⟨⟨h _ (by omega), h _ (by omega)⟩, h _ (by omega)⟩, fun i hi => h (24 + i) (by omega)⟩

/-- A token's largest magnitude, as the reference's. -/
def top (b t : ℕ) : EReal := Finset.fold max (Ideal.ofBits .f32 0xFF800000#32) (fun e : Fin 7168 => max (D (toR X ws) b t e.val : EReal) (-D (toR X ws) b t e.val)) Finset.univ

theorem amV_eq (b t : ℕ) (h : t < 128) (r : Fin 32) (hr : r.val = t % 32) : amV X b (t / 32) (ix1 r) = top X ws b t := by
  have e : amV X b (t / 32) (ix1 r) = Finset.fold max (Ideal.ofBits .f32 0xFF800000#32) (fun l : Fin 128 => (amB X b (t / 32) 4 (ix2 r l) : EReal)) Finset.univ := by
    unfold amV
    simp only [pointwise]
  rw [e]
  unfold top
  refine eq_of_forall_ge_iff fun c => ?_
  rw [Finset.fold_max_le, Finset.fold_max_le]
  refine and_congr_right fun _ => ?_
  have ht : 32 * (t / 32) + r.val = t := by omega
  constructor
  · intro q e _
    have he := e.isLt
    have q' := fun l g hg => (MG_le X b _ g _ c).mp ((tiles_le X b (t / 32) (ix2 r l) c).mp (q l (Finset.mem_univ _)) g hg)
    rw [← D_eq X ws b t e.val h]
    unfold DP
    split_ifs with h'
    · have := (q' ⟨e.val % 128, by omega⟩ (e.val / 128) (by omega)).1
      change (FloatOps.absf (DZ X b (32 * (t / 32) + r.val) (128 * (e.val / 128) + e.val % 128)) : EReal) ≤ c at this
      rwa [ht, Nat.div_add_mod] at this
    · have := (q' ⟨(e.val - 3584) % 128, by omega⟩ ((e.val - 3584) / 128) (by omega)).2
      change (FloatOps.absf (DH X b (32 * (t / 32) + r.val) (128 * ((e.val - 3584) / 128) + (e.val - 3584) % 128)) : EReal) ≤ c at this
      rwa [ht, Nat.div_add_mod] at this
  · intro q l _
    refine (tiles_le X b (t / 32) (ix2 r l) c).mpr fun g hg => (MG_le X b _ g _ c).mpr ?_
    have hl := l.isLt
    show (FloatOps.absf (DZ X b (32 * (t / 32) + r.val) (128 * g + l.val)) : EReal) ≤ c ∧ (FloatOps.absf (DH X b (32 * (t / 32) + r.val) (128 * g + l.val)) : EReal) ≤ c
    rw [ht]
    have q1 := q ⟨128 * g + l.val, by omega⟩ (Finset.mem_univ _)
    have q2 := q ⟨3584 + (128 * g + l.val), by omega⟩ (Finset.mem_univ _)
    rw [← D_eq X ws b t _ h] at q1 q2
    unfold DP at q1 q2
    dsimp only at q1 q2
    rw [if_pos (by omega)] at q1
    rw [if_neg (by omega), Nat.add_sub_cancel_left] at q2
    exact ⟨q1, q2⟩

/-! ## The scales and the codes -/

theorem refE_def (y : EReal) : refE y = Scalar.select (IntOp.andi (BitVec.ofBool (decide (Ideal.ofBits .f32 0x00800000#32 ≤ y))) (BitVec.ofBool (decide (y < Ideal.ofBits .f32 0x7E800000#32))))
    (Ideal.liftRound Int.floor (Ideal.div (Ideal.log y) ((Real.log 2 : ℝ) : EReal)) + 1) 0 := by
  unfold refE
  rw [Ideal.ofBits_one_f32, Ideal.ofBits_zero_f32]
  rfl
theorem exp2_fo (y : EReal) : Ideal.exp2 y = FloatOps.exp2 (F := Ideal) (φ := .f32) y := rfl
theorem inv_fo (y : EReal) : Ideal.exp2 (Ideal.ofBits .f32 0x00000000#32 - y)
    = FloatOps.exp2 (F := Ideal) (φ := .f32) (FloatOps.subf (Scalar.ofBits .f32 0x00000000#32) y) := rfl

/-- The reference's exponent from its largest magnitudes. -/
theorem exp_pt (A : FVec Ideal Cert.ReferenceIdeal.S2x128 .f32) (i : Cert.ReferenceIdeal.S2x128.Idx) :
    select (andi (cmpf .oge (mulf A (broadcast Cert.ReferenceIdeal.S2x128 (Scalar.ofBits .f32 0x37924925#32))) (broadcast Cert.ReferenceIdeal.S2x128 (Scalar.ofBits .f32 0x00800000#32)))
        (cmpf .olt (mulf A (broadcast Cert.ReferenceIdeal.S2x128 (Scalar.ofBits .f32 0x37924925#32))) (broadcast Cert.ReferenceIdeal.S2x128 (Scalar.ofBits .f32 0x7E800000#32))))
      (addf (floor (divf (log (mulf A (broadcast Cert.ReferenceIdeal.S2x128 (Scalar.ofBits .f32 0x37924925#32)))) (broadcast Cert.ReferenceIdeal.S2x128 (Named.named Cert.ReferenceIdeal.κ "ln2" 0x3F317218#32))))
        (broadcast Cert.ReferenceIdeal.S2x128 (Scalar.ofBits .f32 0x3F800000#32)))
      (broadcast Cert.ReferenceIdeal.S2x128 (Scalar.ofBits .f32 0x00000000#32)) i = refE (A i * Ideal.ofBits .f32 0x37924925#32) := by
  simp only [pointwise]
  rw [ln2_eq]
  exact (refE_def _).symm
theorem top_eq (hr : Cert.ReferenceIdeal.S2x128x7168.Reduces [2] Cert.ReferenceIdeal.S2x128) (b t : ℕ) (hb : b < 2) (h : t < 128) : multiReduction .maximumf [2] Cert.ReferenceIdeal.S2x128 (absf (DV (toR X ws))) 0xFF800000#32 hr (.inl rfl) rfl (n2 b t) = top X ws b t := by
  have e : multiReduction .maximumf [2] Cert.ReferenceIdeal.S2x128 (absf (DV (toR X ws))) 0xFF800000#32 hr (.inl rfl) rfl (ix2 (Fin.ofNat 2 b) (Fin.ofNat 128 t))
      = Finset.fold max (Ideal.ofBits .f32 0xFF800000#32) (fun k : Fin 7168 => (FloatOps.absf (DV (toR X ws) (ix3 (Fin.ofNat 2 b) (Fin.ofNat 128 t) k)) : EReal)) Finset.univ := by
    simp only [pointwise]
  refine Eq.trans e ?_
  refine congrArg (fun f => Finset.fold max (Ideal.ofBits .f32 0xFF800000#32) f Finset.univ) (funext fun k => ?_)
  show max (D (toR X ws) (b % 2) (t % 128) k.val : EReal) (-D (toR X ws) (b % 2) (t % 128) k.val) = _
  rw [Nat.mod_eq_of_lt hb, Nat.mod_eq_of_lt h]
theorem ex_eq (b t : ℕ) (hb : b < 2) (h : t < 128) : ex (toR X ws) (n2 b t) = refE (top X ws b t * Ideal.ofBits .f32 0x37924925#32) := by
  rw [← top_eq X ws (by decide) b t hb h]
  exact exp_pt _ _

theorem S_def {F : FTy → Type} [FloatOps F] [Named F] (R : RIn F) (b t : ℕ) : S R b t = FloatOps.exp2 (ex R (n2 b t)) := rfl
theorem scale_fo (m : FVec Ideal S32 .f32) (r : Fin 32) (l : Fin 128) (y : EReal) (h : m (ix1 r) = y) :
    scaleOf m (ix2 r l) = FloatOps.exp2 (F := Ideal) (φ := .f32) (refE (y * Ideal.ofBits .f32 0x37924925#32)) := by
  subst h
  exact (scale_inv m r l).1.trans (exp2_fo _)
theorem S_eq (b t : ℕ) (hb : b < 2) (h : t < 128) : SC X b t = S (toR X ws) b t := by
  rw [S_def, ex_eq X ws b t hb h]
  unfold SC
  exact scale_fo (amV X b (t / 32)) (Fin.ofNat 32 (t % 32)) (Fin.ofNat 128 0) _ (amV_eq X ws b t h _ (Nat.mod_mod t 32))
theorem C_eq (b t e : ℕ) (hb : b < 2) (h : t < 128) : CO X b t e = C (toR X ws) b t e := by
  unfold CO C
  rw [ex_eq X ws b t hb h, D_eq X ws b t e h]
  have q : IV X b t = FloatOps.exp2 (F := Ideal) (φ := .f32) (FloatOps.subf (Scalar.ofBits .f32 0x00000000#32) (refE (top X ws b t * Ideal.ofBits .f32 0x37924925#32))) := by
    unfold IV
    refine (scale_inv _ (Fin.ofNat 32 (t % 32)) (Fin.ofNat 128 0)).2.trans ?_
    rw [amV_eq X ws b t h _ (Nat.mod_mod t 32)]
    exact inv_fo _
  rw [q]

/-! ## The product -/

theorem DX_eq (hw : ∀ e : Fin 7168, X.ws (n2 (e.val / 128) (e.val % 128)) = ws (ix1 e)) (b t e : ℕ) (hb : b < 2) (h : t < 128) (he : e < 5120) :
    KernelIdeal.DX X b t e = Cert.ReferenceIdeal.Out.DX (toR X ws) b t e := by
  have q : (MM' X (e / 512) (n2 (128 * b + t) (e % 512)) : EReal) = P (toR X ws) b (n2 t e) := by
    unfold MM' P
    refine (Ideal.matmul_plain_apply (M := 256) (K := 7168) (N := 512) none (AV X) (WB X (e / 512)) _ (Fin.ofNat 256 (128 * b + t)) (Fin.ofNat 512 (e % 512))).trans ?_
    refine Eq.trans ?_ (Ideal.matmul_plain_apply (M := 128) (K := 7168) (N := 5120) none (CB (toR X ws) b) (W (toR X ws)) _ (Fin.ofNat 128 t) (Fin.ofNat 5120 e)).symm
    refine congrArg₂ (fun x y : EReal => x + y) rfl (Finset.sum_congr rfl fun k _ => ?_)
    show (AE X ((128 * b + t) % 256 / 128) ((128 * b + t) % 256 % 128) k.val : EReal) * X.w (n2 k.val (512 * (e / 512) + e % 512 % 512))
      = (C (toR X ws) b (t % 128) k.val : EReal) * (X.w (ix2 k (Fin.ofNat 5120 e)) * ws (ix1 k))
    rw [show (128 * b + t) % 256 / 128 = b by omega, show (128 * b + t) % 256 % 128 = t by omega, show 512 * (e / 512) + e % 512 % 512 = e by omega,
      Nat.mod_eq_of_lt h, ← C_eq X ws b t k.val hb h, ← hw k]
    have e1 : (n2 k.val e : S7168x5120.Idx) = ix2 k (Fin.ofNat 5120 e) := (eq_n2 (x := ix2 k (Fin.ofNat 5120 e)) rfl (Nat.mod_eq_of_lt he)).symm
    rw [e1]
    show (CO X b t k.val : EReal) * X.ws (n2 (k.val / 128) (k.val % 128)) * X.w _ = _
    rw [mul_assoc]
    exact congrArg (fun x : EReal => (CO X b t k.val : EReal) * x) (mul_comm (X.ws _ : EReal) (X.w _))
  unfold KernelIdeal.DX Cert.ReferenceIdeal.Out.DX
  rw [S_eq X ws b t hb h]
  exact congrArg (fun x : EReal => x * (S (toR X ws) b t : EReal)) q

end Cert.Alg
end
-- ==== Proof.RI.Out.lean ====
module

public import proofs.«01_k».proof.Proof.RI.Elt

@[expose] public section

noncomputable section

namespace Cert.ReferenceIdeal.Out

open Cert.ReferenceIdeal Cert.ReferenceIdeal.Gen Idealize.ShloMosaic Idealize.ShloMosaic.TcCoe Idealize.SL.Sem
open Cert.KernelIdeal (n2 n3 eq_n2 eq_n3 n2_0 n2_1 n3_0 n3_1 n3_2)
open Facts

variable {F : FTy → Type} [FloatOps F] [Named F]

/-! ## What the run leaves -/

section
variable {c : Dev nD} {arg0 : Memref sig .tc .vmem S2x128x3584 .fp8e5m2} {harg0 : arg0.IsWhole} {arg1 : Memref sig .tc .vmem S2x128 .f32} {harg1 : arg1.IsWhole} {arg2 : Memref sig .tc .vmem S2x128x7168 .fp8e4m3} {harg2 : arg2.IsWhole} {arg3 : Memref sig .tc .vmem S2x128 .f32} {harg3 : arg3.IsWhole} {arg4 : Memref sig .tc .vmem S2x3584 .f32} {harg4 : arg4.IsWhole} {arg5 : Memref sig .tc .vmem S7168x5120 .fp8e4m3} {harg5 : arg5.IsWhole} {arg6 : Memref sig .tc .vmem S7168 .f32} {harg6 : arg6.IsWhole} {arg7 : Memref sig .tc .vmem S2x128x5120 .bf16} {harg7 : arg7.IsWhole} {arg8 : Memref sig .tc .vmem S2x3584 .f32} {harg8 : arg8.IsWhole} {arg9 : Memref sig .tc .vmem S2x128x7168 .fp8e5m2} {harg9 : arg9.IsWhole} {arg10 : Memref sig .tc .vmem S2x128 .f32} {harg10 : arg10.IsWhole} {arg11 : Memref sig .tc .vmem S2x128x3584 .f32} {harg11 : arg11.IsWhole} {arg12 : Memref sig .tc .vmem S2x128x3584 .f32} {harg12 : arg12.IsWhole} {arg13 : Memref sig .tc .vmem S2x128x3584 .f32} {harg13 : arg13.IsWhole} {arg14 : Memref sig .tc .vmem S2x128x3584 .f32} {harg14 : arg14.IsWhole} {arg15 : Memref sig .tc .vmem S2x128x3584 .f32} {harg15 : arg15.IsWhole}
    {x0 : Vec F S2x128x3584 .fp8e5m2} {x1 : Vec F S2x128 .f32} {x2 : Vec F S2x128x7168 .fp8e4m3} {x3 : Vec F S2x128 .f32} {x4 : Vec F S2x3584 .f32} {x5 : Vec F S7168x5120 .fp8e4m3} {x6 : Vec F S7168 .f32}

theorem rd0 : View.readAt (Elt F) arg0.view (Rect.unit (s := S2x128x3584) ![0, 0, 0] S2x128x3584.size inb_S2x128x3584_S2x128x3584_0_0_0).toLoadRect (harg0.unread x0) = x0 :=
  (View.readAt_full _ _ _).trans (harg0.read_unread x0)
theorem rd1 : View.readAt (Elt F) arg1.view (Rect.unit (s := S2x128) ![0, 0] S2x128.size inb_S2x128_S2x128_0_0).toLoadRect (harg1.unread x1) = x1 :=
  (View.readAt_full _ _ _).trans (harg1.read_unread x1)
theorem rd2 : View.readAt (Elt F) arg2.view (Rect.unit (s := S2x128x7168) ![0, 0, 0] S2x128x7168.size inb_S2x128x7168_S2x128x7168_0_0_0).toLoadRect (harg2.unread x2) = x2 :=
  (View.readAt_full _ _ _).trans (harg2.read_unread x2)
theorem rd3 : View.readAt (Elt F) arg3.view (Rect.unit (s := S2x128) ![0, 0] S2x128.size inb_S2x128_S2x128_0_0).toLoadRect (harg3.unread x3) = x3 :=
  (View.readAt_full _ _ _).trans (harg3.read_unread x3)
theorem rd4 : View.readAt (Elt F) arg4.view (Rect.unit (s := S2x3584) ![0, 0] S2x3584.size inb_S2x3584_S2x3584_0_0).toLoadRect (harg4.unread x4) = x4 :=
  (View.readAt_full _ _ _).trans (harg4.read_unread x4)
theorem rd5 : View.readAt (Elt F) arg5.view (Rect.unit (s := S7168x5120) ![0, 0] S7168x5120.size inb_S7168x5120_S7168x5120_0_0).toLoadRect (harg5.unread x5) = x5 :=
  (View.readAt_full _ _ _).trans (harg5.read_unread x5)
theorem rd6 : View.readAt (Elt F) arg6.view (Rect.unit (s := S7168) ![0] S7168.size inb_S7168_S7168_0).toLoadRect (harg6.unread x6) = x6 :=
  (View.readAt_full _ _ _).trans (harg6.read_unread x6)

/-- The states the forward loop left, loaded, -/
theorem v53_apply (i : S2x128x3584.Idx) : kernelRun0_A.sl.v53 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 i = H ⟨x0, x1, x2, x3, x4, x5, x6⟩ (i 0) (i 2) (i 1) := by
  unfold kernelRun0_A.sl.v53 kernelRun0_A.sl.HS0_1 kernelRun0_A.sl.HS1_1 kernelRun0_A.sl.r kernelRun0_A.sl.r_2 kernelRun0_A.sl.r_1
  rw [View.readCov, View.readAt_full, rd2, rd3, rd4]
  refine ((st1_eq (View.read_writes_full ..) (View.read_writes_full ..) 128 le_rfl).2 _ i (l31 i)).trans ?_
  unfold k0_pay10 k0_pay11
  rw [shapeCast_self, shapeCast_self]
  refine (hT_apply ⟨x0, x1, x2, x3, x4, x5, x6⟩ _ (l31 i).le _).trans ?_
  rw [n3_0 (l30 i), n3_2 (l32 i)]

/-- and the gradients of the backward one. -/
theorem v52_apply (i : S2x128x3584.Idx) : kernelRun0_A.sl.v52 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 i = G ⟨x0, x1, x2, x3, x4, x5, x6⟩ (i 0) (i 1) (i 2) := by
  unfold kernelRun0_A.sl.v52 kernelRun0_A.sl.HS0_1 kernelRun0_A.sl.HS3_1 kernelRun0_A.sl.r kernelRun0_A.sl.r_3
  have h1 := l31 i
  rw [View.readCov, View.readAt_full, rd2, rd3, rd0, rd1]
  refine ((st2_eq (View.read_writes_full ..) (View.read_writes_full ..) 128 le_rfl).2 _ i (Nat.le_add_left ..)).trans ?_
  unfold k0_pay10
  rw [shapeCast_self]
  refine congrArg₂ (FloatOps.addf (F := F) (φ := .f32)) ((qT_apply ⟨x0, x1, x2, x3, x4, x5, x6⟩ (127 - (i 1).val) (by omega) _).trans ?_) ((pay12_apply ⟨x0, x1, x2, x3, x4, x5, x6⟩ _).trans ?_)
  · rw [n3_0 (l30 i), n3_2 (l32 i)]
  · have a : (n3 (A := 2) (B := 1) (C := 3584) (i 0) 0 (i 2) 0).val = (i 0).val := n3_0 (l30 i)
    have b : (n3 (A := 2) (B := 1) (C := 3584) (i 0) 0 (i 2) 2).val = (i 2).val := n3_2 (l32 i)
    rw [a, b, n3_0 (l30 i), n3_1 (l31 i), n3_2 (l32 i)]

theorem r4_eq : kernelRun0_A.sl.r_4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 = DV ⟨x0, x1, x2, x3, x4, x5, x6⟩ := by
  unfold kernelRun0_A.sl.r_4 kernelRun0_A.sl.r kernelRun0_A.sl.r_2 kernelRun0_A.sl.r_1
  rw [rd2, rd3]
  exact pay23_eq ⟨x0, x1, x2, x3, x4, x5, x6⟩ _ _ (fun i => v52_apply i) (fun i => v53_apply i)

end

section
variable (c : Dev nD) (arg0 : Memref sig .tc .vmem S2x128x3584 .fp8e5m2) (harg0 : arg0.IsWhole) (arg1 : Memref sig .tc .vmem S2x128 .f32) (harg1 : arg1.IsWhole) (arg2 : Memref sig .tc .vmem S2x128x7168 .fp8e4m3) (harg2 : arg2.IsWhole) (arg3 : Memref sig .tc .vmem S2x128 .f32) (harg3 : arg3.IsWhole) (arg4 : Memref sig .tc .vmem S2x3584 .f32) (harg4 : arg4.IsWhole) (arg5 : Memref sig .tc .vmem S7168x5120 .fp8e4m3) (harg5 : arg5.IsWhole) (arg6 : Memref sig .tc .vmem S7168 .f32) (harg6 : arg6.IsWhole) (arg7 : Memref sig .tc .vmem S2x128x5120 .bf16) (harg7 : arg7.IsWhole) (arg8 : Memref sig .tc .vmem S2x3584 .f32) (harg8 : arg8.IsWhole) (arg9 : Memref sig .tc .vmem S2x128x7168 .fp8e5m2) (harg9 : arg9.IsWhole) (arg10 : Memref sig .tc .vmem S2x128 .f32) (harg10 : arg10.IsWhole) (arg11 : Memref sig .tc .vmem S2x128x3584 .f32) (harg11 : arg11.IsWhole) (arg12 : Memref sig .tc .vmem S2x128x3584 .f32) (harg12 : arg12.IsWhole) (arg13 : Memref sig .tc .vmem S2x128x3584 .f32) (harg13 : arg13.IsWhole) (arg14 : Memref sig .tc .vmem S2x128x3584 .f32) (harg14 : arg14.IsWhole) (arg15 : Memref sig .tc .vmem S2x128x3584 .f32) (harg15 : arg15.IsWhole)
    (x0 : Vec F S2x128x3584 .fp8e5m2) (x1 : Vec F S2x128 .f32) (x2 : Vec F S2x128x7168 .fp8e4m3) (x3 : Vec F S2x128 .f32) (x4 : Vec F S2x3584 .f32) (x5 : Vec F S7168x5120 .fp8e4m3) (x6 : Vec F S7168 .f32)

theorem out9 : out0_A_9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = fun i => C ⟨x0, x1, x2, x3, x4, x5, x6⟩ (i 0) (i 1) (i 2) := by
  unfold out0_A_9 kernelRun0_A
  dsimp only
  refine (View.read_writes_full _ _ _ _ _).trans (funext fun i => ?_)
  exact (congrFun (congrArg k0_pay25 (r4_eq ..)) i).trans (pay25_apply ⟨x0, x1, x2, x3, x4, x5, x6⟩ i)
theorem out10 : out0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = fun i => S ⟨x0, x1, x2, x3, x4, x5, x6⟩ (i 0) (i 1) := by
  unfold out0_A_10 kernelRun0_A
  dsimp only
  refine (View.read_writes_full _ _ _ _ _).trans (funext fun i => ?_)
  exact (congrFun (congrArg k0_pay26 (r4_eq ..)) i).trans (pay26_apply ⟨x0, x1, x2, x3, x4, x5, x6⟩ i)
theorem out8 : out0_A_8 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = fun i => Q ⟨x0, x1, x2, x3, x4, x5, x6⟩ (i 0) (i 1) 128 := by
  unfold out0_A_8 kernelRun0_A kernelRun0_A.sl.HS0_1 kernelRun0_A.sl.HS3_1 kernelRun0_A.sl.r kernelRun0_A.sl.r_3
  dsimp only
  refine (View.read_writes_full _ _ _ _ _).trans (funext fun i => ?_)
  rw [rd2, rd3, rd0, rd1]
  rw [show Scf.trips (0#32) (Scalar.addi 0#32 128#32) 1#32 = 128 by decide]
  rw [(st2_eq (View.read_writes_full ..) (View.read_writes_full ..) 128 le_rfl).1]
  unfold k0_pay10
  rw [shapeCast_self]
  refine (dropMid _ _ i).trans ((qT_apply ⟨x0, x1, x2, x3, x4, x5, x6⟩ 128 le_rfl _).trans ?_)
  rw [n3_0 (l20 i), n3_2 (l21 i)]
theorem out7 : out0_A_7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = fun i => DX ⟨x0, x1, x2, x3, x4, x5, x6⟩ (i 0) (i 1) (i 2) := by
  unfold out0_A_7 kernelRun0_A kernelRun0_A.sl.r_5 kernelRun0_A.sl.r_6 kernelRun0_A.sl.r_7 kernelRun0_A.sl.r_8
  dsimp only
  funext i
  have h0 := l30 i
  rw [r4_eq, rd5, rd6]
  by_cases hb : (i 0).val = 1
  · refine (View.read_writes_cons_unit_of_mem _ _ _ _ _ i (n3 0 (i 1) (i 2)) rfl fun a => ?_).trans ((pay2_apply ⟨x0, x1, x2, x3, x4, x5, x6⟩ _).trans ?_)
    · fin_cases a
      · exact hb
      · exact (Nat.mod_eq_of_lt (l31 i)).symm.trans (Nat.zero_add _).symm
      · exact (Nat.mod_eq_of_lt (l32 i)).symm.trans (Nat.zero_add _).symm
    · rw [n3_1 (l31 i), n3_2 (l32 i), hb]
  · have hb : (i 0).val = 0 := by omega
    refine (View.read_writes_cons_unit_of_not_mem _ _ _ _ _ i rfl 0 (Or.inl ?_)).trans ?_
    · show (i 0).val < 1
      omega
    refine (View.read_writes_cons_unit_of_mem _ _ _ _ _ i (n3 0 (i 1) (i 2)) rfl fun a => ?_).trans ((pay1_apply ⟨x0, x1, x2, x3, x4, x5, x6⟩ _).trans ?_)
    · fin_cases a
      · exact hb
      · exact (Nat.mod_eq_of_lt (l31 i)).symm.trans (Nat.zero_add _).symm
      · exact (Nat.mod_eq_of_lt (l32 i)).symm.trans (Nat.zero_add _).symm
    · rw [n3_1 (l31 i), n3_2 (l32 i), hb]

end

end Cert.ReferenceIdeal.Out
end
-- ==== Proof.RI.Read.lean ====
module

public import proofs.«01_k».proof.Proof.RI.Out

@[expose] public section

noncomputable section

namespace Cert.ReferenceIdeal.Out

open Cert.ReferenceIdeal Cert.ReferenceIdeal.Gen Idealize.ShloMosaic Idealize.ShloMosaic.TcCoe Idealize.SL.Sem
open Cert.KernelIdeal (n2 n3 eq_n2 eq_n3 n2_0 n2_1 n3_0 n3_1 n3_2)
open Facts

variable {F : FTy → Type} [FloatOps F] [Named F]

open scoped Idealize.SL
variable (m : (ℓ : Loc nD τ sig) → Buf (Elt F) ℓ) (ρ : Dev nD → PrngReg)

/-- The arguments of a memory, -/
def XR (c : Dev nD) : RIn F := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6)⟩
/-- and the one point of the grid. -/
def pt0 : Fin cfg0.N := ⟨0, by decide⟩

/-! ## The blocks are the arrays -/

theorem in0 (c : Dev nD) : iblk m c 0 pt0 = (XR m c).dyc := by
  have hz : (fun a => win0_0.index pt0 a * main_arg0.ty.shape.size a) = fun _ => 0 := funext fun a => by fin_cases a <;> decide
  exact (Memref.read_access_unit_zero (Elt F) main_arg0 hz (fun a => by rw [congrFun hz a]; simp) _).trans (V_main_arg0 m c)
theorem in1 (c : Dev nD) : iblk m c 1 pt0 = (XR m c).dys := by
  have hz : (fun a => win0_1.index pt0 a * main_arg1.ty.shape.size a) = fun _ => 0 := funext fun a => by fin_cases a <;> decide
  exact (Memref.read_access_unit_zero (Elt F) main_arg1 hz (fun a => by rw [congrFun hz a]; simp) _).trans (V_main_arg1 m c)
theorem in2 (c : Dev nD) : iblk m c 2 pt0 = (XR m c).prec := by
  have hz : (fun a => win0_2.index pt0 a * main_arg2.ty.shape.size a) = fun _ => 0 := funext fun a => by fin_cases a <;> decide
  exact (Memref.read_access_unit_zero (Elt F) main_arg2 hz (fun a => by rw [congrFun hz a]; simp) _).trans (V_main_arg2 m c)
theorem in3 (c : Dev nD) : iblk m c 3 pt0 = (XR m c).pres := by
  have hz : (fun a => win0_3.index pt0 a * main_arg3.ty.shape.size a) = fun _ => 0 := funext fun a => by fin_cases a <;> decide
  exact (Memref.read_access_unit_zero (Elt F) main_arg3 hz (fun a => by rw [congrFun hz a]; simp) _).trans (V_main_arg3 m c)
theorem in4 (c : Dev nD) : iblk m c 4 pt0 = (XR m c).h0 := by
  have hz : (fun a => win0_4.index pt0 a * main_arg4.ty.shape.size a) = fun _ => 0 := funext fun a => by fin_cases a <;> decide
  exact (Memref.read_access_unit_zero (Elt F) main_arg4 hz (fun a => by rw [congrFun hz a]; simp) _).trans (V_main_arg4 m c)
theorem in5 (c : Dev nD) : iblk m c 5 pt0 = (XR m c).w := by
  have hz : (fun a => win0_5.index pt0 a * main_arg5.ty.shape.size a) = fun _ => 0 := funext fun a => by fin_cases a <;> decide
  exact (Memref.read_access_unit_zero (Elt F) main_arg5 hz (fun a => by rw [congrFun hz a]; simp) _).trans (V_main_arg5 m c)
theorem in6 (c : Dev nD) : iblk m c 6 pt0 = (XR m c).ws := by
  have hz : (fun a => win0_6.index pt0 a * main_arg6.ty.shape.size a) = fun _ => 0 := funext fun a => by fin_cases a <;> decide
  exact (Memref.read_access_unit_zero (Elt F) main_arg6 hz (fun a => by rw [congrFun hz a]; simp) _).trans (V_main_arg6 m c)
theorem arr7 (c : Dev nD) : (dats m 0 c).arrAt 7 cfg0.N = fun i => DX (XR m c) (i 0) (i 1) (i 2) := by
  have hz : (fun a => win0_7.index pt0 a * main_v0_0.ty.shape.size a) = fun _ => 0 := funext fun a => by fin_cases a <;> decide
  refine (Memref.read_access_unit_zero (Elt F) main_v0_0 hz (fun a => by rw [congrFun hz a]; simp) _).symm.trans
    ((Value.blocks7 m c pt0 (flush0_7 pt0)).trans ((Value.flushed7_A m c pt0).trans ((out7 ..).trans ?_)))
  rw [in0 m c, in1 m c, in2 m c, in3 m c, in4 m c, in5 m c, in6 m c]
  rfl
theorem arr8 (c : Dev nD) : (dats m 0 c).arrAt 8 cfg0.N = fun i => Q (XR m c) (i 0) (i 1) 128 := by
  have hz : (fun a => win0_8.index pt0 a * main_v0_1.ty.shape.size a) = fun _ => 0 := funext fun a => by fin_cases a <;> decide
  refine (Memref.read_access_unit_zero (Elt F) main_v0_1 hz (fun a => by rw [congrFun hz a]; simp) _).symm.trans
    ((Value.blocks8 m c pt0 (flush0_8 pt0)).trans ((Value.flushed8_A m c pt0).trans ((out8 ..).trans ?_)))
  rw [in0 m c, in1 m c, in2 m c, in3 m c, in4 m c, in5 m c, in6 m c]
  rfl
theorem arr9 (c : Dev nD) : (dats m 0 c).arrAt 9 cfg0.N = fun i => C (XR m c) (i 0) (i 1) (i 2) := by
  have hz : (fun a => win0_9.index pt0 a * main_v0_2.ty.shape.size a) = fun _ => 0 := funext fun a => by fin_cases a <;> decide
  refine (Memref.read_access_unit_zero (Elt F) main_v0_2 hz (fun a => by rw [congrFun hz a]; simp) _).symm.trans
    ((Value.blocks9 m c pt0 (flush0_9 pt0)).trans ((Value.flushed9_A m c pt0).trans ((out9 ..).trans ?_)))
  rw [in0 m c, in1 m c, in2 m c, in3 m c, in4 m c, in5 m c, in6 m c]
  rfl
theorem arr10 (c : Dev nD) : (dats m 0 c).arrAt 10 cfg0.N = fun i => S (XR m c) (i 0) (i 1) := by
  have hz : (fun a => win0_10.index pt0 a * main_v0_3.ty.shape.size a) = fun _ => 0 := funext fun a => by fin_cases a <;> decide
  refine (Memref.read_access_unit_zero (Elt F) main_v0_3 hz (fun a => by rw [congrFun hz a]; simp) _).symm.trans
    ((Value.blocks10 m c pt0 (flush0_10 pt0)).trans ((Value.flushed10_A m c pt0).trans ((out10 ..).trans ?_)))
  rw [in0 m c, in1 m c, in2 m c, in3 m c, in4 m c, in5 m c, in6 m c]
  rfl

/-- The reference's run: the results by their numbers, the arguments unchanged. -/
theorem run : θ_run defs (onTc (τ := τ) (main (F := F))) ⟨m, fun _ => 0, ρ⟩ fun r => ∀ c : Dev nD,
    r.2.mem ((c : Thread nD τ).loc main_v0_0) = (fun i => DX (XR m c) (i 0) (i 1) (i 2)) ∧ r.2.mem ((c : Thread nD τ).loc main_v0_1) = (fun i => Q (XR m c) (i 0) (i 1) 128) ∧ r.2.mem ((c : Thread nD τ).loc main_v0_2) = (fun i => C (XR m c) (i 0) (i 1) (i 2)) ∧ r.2.mem ((c : Thread nD τ).loc main_v0_3) = (fun i => S (XR m c) (i 0) (i 1))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) :=
  (θ_run defs _ _).mono (fun r h c => by
    have q := h c
    rw [arr7, arr8, arr9, arr10] at q
    exact q) (Value.run_blocks m ρ)

end Cert.ReferenceIdeal.Out
end
-- ==== Proof.Alg.Run.lean ====
module

public import proofs.«01_k».proof.Defs
public import proofs.«01_k».proof.Proof.Alg.Value
public import proofs.«01_k».proof.Proof.KI.Launch
public import proofs.«01_k».proof.Proof.RI.Read

@[expose] public section

noncomputable section

namespace Cert.Alg

open Idealize.ShloMosaic Idealize.ShloMosaic.TcCoe Idealize.SL.Sem
open Cert.KernelIdeal (n2 n3 XI QY)

variable (m : (ℓ : Loc Cert.KernelIdeal.nD Cert.KernelIdeal.τ Cert.KernelIdeal.sig) → Buf (Elt Ideal) ℓ)

/-- The kernel's table of weight scales is the argument, rolled into rows. -/
theorem rows (c : Dev Cert.KernelIdeal.nD) (e : Fin 7168) : (XI m c).ws (n2 (e.val / 128) (e.val % 128))
    = m ((c : Thread Cert.KernelIdeal.nD Cert.KernelIdeal.τ).loc Cert.KernelIdeal.main_arg6) (ix1 e) := by
  have he := e.isLt
  have h : Cert.KernelIdeal.V m c Cert.KernelIdeal.main_v0
      = shapeCast Cert.KernelIdeal.S56x128 (m ((c : Thread Cert.KernelIdeal.nD Cert.KernelIdeal.τ).loc Cert.KernelIdeal.main_arg6)) Cert.KernelIdeal.Gen.shapeCasts_S7168_S56x128 := by
    unfold Cert.KernelIdeal.V
    refine (show _ = (StableHlo.reshape Cert.KernelIdeal.main_arg6 Cert.KernelIdeal.main_v0 (rfl : (.f32 : EltTy) = .f32) Cert.KernelIdeal.Gen.shapeCasts_S7168_S56x128).result (fun b => m (c, b)) Cert.KernelIdeal.main_v0 from rfl).trans ?_
    rw [StableHlo.reshape_result]
    rfl
  unfold XI
  dsimp only
  rw [h]
  refine shapeCast_apply _ _ _ (ix1 e) ?_
  rw [Shape.rowMajor_val_two, Shape.rowMajor_val_one, Cert.KernelIdeal.n2_0 (by omega), Cert.KernelIdeal.n2_1 (by omega)]
  show e.val = e.val / 128 * 128 + e.val % 128
  omega

variable (m' : (ℓ : Loc Cert.ReferenceIdeal.nD Cert.ReferenceIdeal.τ Cert.ReferenceIdeal.sig) → Buf (Elt Ideal) ℓ)

/-- The arguments agree on a core. -/
abbrev Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

theorem toR_eq (c : Dev Cert.KernelIdeal.nD) (h : Same m m' c) : Cert.ReferenceIdeal.Out.XR m' c
    = toR (XI m c) (m ((c : Thread Cert.KernelIdeal.nD Cert.KernelIdeal.τ).loc Cert.KernelIdeal.main_arg6)) := by
  obtain ⟨h0, h1, h2, h3, h4, h5, h6⟩ := h
  unfold Cert.ReferenceIdeal.Out.XR toR XI
  rw [h0, h1, h2, h3, h4, h5, h6]

/-! ## The results -/

variable (c : Dev Cert.KernelIdeal.nD) (h : Same m m' c)
include h

theorem res0 : (fun i : Cert.ReferenceIdeal.S2x128x5120.Idx => Cert.ReferenceIdeal.Out.DX (Cert.ReferenceIdeal.Out.XR m' c) (i 0) (i 1) (i 2)) = Cert.KernelIdeal.vDx (XI m c) := by
  funext i
  rw [toR_eq m m' c h]
  exact (DX_eq (XI m c) _ (rows m c) _ _ _ (i 0).isLt (i 1).isLt (i 2).isLt).symm
theorem res1 : (fun i : Cert.ReferenceIdeal.S2x3584.Idx => Cert.ReferenceIdeal.Out.Q (Cert.ReferenceIdeal.Out.XR m' c) (i 0) (i 1) 128) = Cert.KernelIdeal.vDh0 (XI m c) := by
  funext i
  rw [toR_eq m m' c h]
  exact (Q_eq (XI m c) _ _ _ _).symm
theorem res2 : (fun i : Cert.ReferenceIdeal.S2x128x7168.Idx => Cert.ReferenceIdeal.Out.C (Cert.ReferenceIdeal.Out.XR m' c) (i 0) (i 1) (i 2)) = Cert.KernelIdeal.vCo (XI m c) := by
  funext i
  rw [toR_eq m m' c h]
  exact (C_eq (XI m c) _ _ _ _ (i 0).isLt (i 1).isLt).symm
theorem res3 : (fun i : Cert.ReferenceIdeal.S2x128.Idx => Cert.ReferenceIdeal.Out.S (Cert.ReferenceIdeal.Out.XR m' c) (i 0) (i 1)) = Cert.KernelIdeal.vSc (XI m c) := by
  funext i
  rw [toR_eq m m' c h]
  exact (S_eq (XI m c) _ _ _ (i 0).isLt (i 1).isLt).symm

omit h in
/-- The two runs end with equal results. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.vDx (XI m c), fun c => Cert.KernelIdeal.vDh0 (XI m c), fun c => Cert.KernelIdeal.vCo (XI m c), fun c => Cert.KernelIdeal.vSc (XI m c), ?_, ?_⟩
  · refine (θ_run Cert.KernelIdeal.defs _ _).mono (fun r q c => ?_) (Cert.KernelIdeal.run_main m g)
    obtain ⟨⟨a0, a1, a2, a3, a4, a5, a6⟩, o0, o1, o2, o3⟩ := q.1 c
    exact ⟨o0, o1, o2, o3, a0, a1, a2, a3, a4, a5, a6⟩
  · refine (θ_run Cert.ReferenceIdeal.defs _ _).mono (fun r q c => ?_) (Cert.ReferenceIdeal.Out.run m' g')
    obtain ⟨o0, o1, o2, o3, a⟩ := q c
    exact ⟨o0.trans (res0 m m' c (h c)), o1.trans (res1 m m' c (h c)), o2.trans (res2 m m' c (h c)), o3.trans (res3 m m' c (h c)), a⟩

end Cert.Alg
end
-- ==== Proof.lean ====
module

public import proofs.«01_k».proof.Proof.Gen.ReferenceIdeal.Value
public import proofs.«01_k».proof.Defs
public import proofs.«01_k».proof.Proof.K.Launch
public import proofs.«01_k».proof.Proof.KI.Launch
public import proofs.«01_k».proof.Proof.Gen.ReferenceIdeal.Frame
public import proofs.«01_k».proof.Proof.Alg.Run

@[expose] public section

noncomputable section

namespace Cert.Proof

open Idealize.ShloMosaic Idealize.SL.Sem

/-- The kernel's run: it ends, its arguments unchanged and every counter at zero. -/
theorem frame_kernel : Cert.quiescent_Kernel (hKernel := Cert.Kernel.Gen.facts) := fun m ρ _ => Cert.Kernel.frame m ρ
/-- And of its idealization. -/
theorem frame_ideal : Cert.quiescent_KernelIdeal (hKernelIdeal := Cert.KernelIdeal.Gen.facts) := fun m ρ _ => Cert.KernelIdeal.frame m ρ
/-- And of the reference's. -/
theorem frame_reference : Cert.quiescent_ReferenceIdeal (hReferenceIdeal := Cert.ReferenceIdeal.Gen.facts) := fun m ρ _ => Cert.ReferenceIdeal.Gen.frame m ρ

/-- The one constant the idealization names. -/
theorem preserves : Cert.preserves_Kernel_KernelIdeal :=
  IdealRules.named_const.statement Cert.KernelIdeal.κ "neg_log2e" .f32 0xBFB8AA3B#32 ((-((Real.log 2)⁻¹) : ℝ) : EReal) rfl

/-- The ideal kernel's results are the ideal reference's. -/
theorem algebraic : Cert.algebraic_KernelIdeal_ReferenceIdeal (hKernelIdeal := Cert.KernelIdeal.Gen.facts) (hReferenceIdeal := Cert.ReferenceIdeal.Gen.facts) := Cert.Alg.algebraic

theorem claim : Cert.Claim :=
  ⟨Cert.Kernel.Gen.facts, Cert.KernelIdeal.Gen.facts, Cert.ReferenceIdeal.Gen.facts, frame_kernel, frame_ideal, frame_reference, preserves, algebraic⟩

end Cert.Proof
